-- ==== Defs.lean ====
def Pre_KernelAct (m : (ℓ : Loc Cert.KernelAct.nD Cert.KernelAct.τ Cert.KernelAct.sig) → Buf (Elt Bits) ℓ) : Prop :=
  True

def Pre_KernelActIdeal (m : (ℓ : Loc Cert.KernelActIdeal.nD Cert.KernelActIdeal.τ Cert.KernelActIdeal.sig) → Buf (Elt Ideal) ℓ) : Prop :=
  True

def Pre_KernelActIdeal_finite_act [hPre_finite_act : Cert.Pre_finite_act.Facts] (m : (ℓ : Loc Cert.KernelActIdeal.nD Cert.KernelActIdeal.τ Cert.KernelActIdeal.sig) → Buf (Elt Ideal) ℓ) : Prop :=
  ∀ c : Dev Cert.KernelActIdeal.nD,
    (Cert.Pre_finite_act.fn (F := Ideal) (m ((c.tc : Thread Cert.KernelActIdeal.nD Cert.KernelActIdeal.τ).loc Cert.KernelActIdeal.main_arg0)) (m ((c.tc : Thread Cert.KernelActIdeal.nD Cert.KernelActIdeal.τ).loc Cert.KernelActIdeal.main_arg1)) (m ((c.tc : Thread Cert.KernelActIdeal.nD Cert.KernelActIdeal.τ).loc Cert.KernelActIdeal.main_arg2))).1 = (fun _ => 1#1)
    ∧ (Cert.Pre_finite_act.fn (F := Ideal) (m ((c.tc : Thread Cert.KernelActIdeal.nD Cert.KernelActIdeal.τ).loc Cert.KernelActIdeal.main_arg0)) (m ((c.tc : Thread Cert.KernelActIdeal.nD Cert.KernelActIdeal.τ).loc Cert.KernelActIdeal.main_arg1)) (m ((c.tc : Thread Cert.KernelActIdeal.nD Cert.KernelActIdeal.τ).loc Cert.KernelActIdeal.main_arg2))).2.1 = (fun _ => 1#1)
    ∧ (Cert.Pre_finite_act.fn (F := Ideal) (m ((c.tc : Thread Cert.KernelActIdeal.nD Cert.KernelActIdeal.τ).loc Cert.KernelActIdeal.main_arg0)) (m ((c.tc : Thread Cert.KernelActIdeal.nD Cert.KernelActIdeal.τ).loc Cert.KernelActIdeal.main_arg1)) (m ((c.tc : Thread Cert.KernelActIdeal.nD Cert.KernelActIdeal.τ).loc Cert.KernelActIdeal.main_arg2))).2.2 = (fun _ => 1#1)

def Pre_ReferenceActIdeal (m : (ℓ : Loc Cert.ReferenceActIdeal.nD Cert.ReferenceActIdeal.τ Cert.ReferenceActIdeal.sig) → Buf (Elt Ideal) ℓ) : Prop :=
  True

def Pre_ReferenceActIdeal_finite_act [hPre_finite_act : Cert.Pre_finite_act.Facts] (m : (ℓ : Loc Cert.ReferenceActIdeal.nD Cert.ReferenceActIdeal.τ Cert.ReferenceActIdeal.sig) → Buf (Elt Ideal) ℓ) : Prop :=
  ∀ c : Dev Cert.ReferenceActIdeal.nD,
    (Cert.Pre_finite_act.fn (F := Ideal) (m ((c.tc : Thread Cert.ReferenceActIdeal.nD Cert.ReferenceActIdeal.τ).loc Cert.ReferenceActIdeal.main_arg0)) (m ((c.tc : Thread Cert.ReferenceActIdeal.nD Cert.ReferenceActIdeal.τ).loc Cert.ReferenceActIdeal.main_arg1)) (m ((c.tc : Thread Cert.ReferenceActIdeal.nD Cert.ReferenceActIdeal.τ).loc Cert.ReferenceActIdeal.main_arg2))).1 = (fun _ => 1#1)
    ∧ (Cert.Pre_finite_act.fn (F := Ideal) (m ((c.tc : Thread Cert.ReferenceActIdeal.nD Cert.ReferenceActIdeal.τ).loc Cert.ReferenceActIdeal.main_arg0)) (m ((c.tc : Thread Cert.ReferenceActIdeal.nD Cert.ReferenceActIdeal.τ).loc Cert.ReferenceActIdeal.main_arg1)) (m ((c.tc : Thread Cert.ReferenceActIdeal.nD Cert.ReferenceActIdeal.τ).loc Cert.ReferenceActIdeal.main_arg2))).2.1 = (fun _ => 1#1)
    ∧ (Cert.Pre_finite_act.fn (F := Ideal) (m ((c.tc : Thread Cert.ReferenceActIdeal.nD Cert.ReferenceActIdeal.τ).loc Cert.ReferenceActIdeal.main_arg0)) (m ((c.tc : Thread Cert.ReferenceActIdeal.nD Cert.ReferenceActIdeal.τ).loc Cert.ReferenceActIdeal.main_arg1)) (m ((c.tc : Thread Cert.ReferenceActIdeal.nD Cert.ReferenceActIdeal.τ).loc Cert.ReferenceActIdeal.main_arg2))).2.2 = (fun _ => 1#1)

def Pre_KernelSb (m : (ℓ : Loc Cert.KernelSb.nD Cert.KernelSb.τ Cert.KernelSb.sig) → Buf (Elt Bits) ℓ) : Prop :=
  True

def Pre_KernelSbIdeal (m : (ℓ : Loc Cert.KernelSbIdeal.nD Cert.KernelSbIdeal.τ Cert.KernelSbIdeal.sig) → Buf (Elt Ideal) ℓ) : Prop :=
  True

def Pre_KernelSbIdeal_finite_sb [hPre_finite_sb : Cert.Pre_finite_sb.Facts] (m : (ℓ : Loc Cert.KernelSbIdeal.nD Cert.KernelSbIdeal.τ Cert.KernelSbIdeal.sig) → Buf (Elt Ideal) ℓ) : Prop :=
  ∀ c : Dev Cert.KernelSbIdeal.nD,
    (Cert.Pre_finite_sb.fn (F := Ideal) (m ((c.tc : Thread Cert.KernelSbIdeal.nD Cert.KernelSbIdeal.τ).loc Cert.KernelSbIdeal.main_arg0)) (m ((c.tc : Thread Cert.KernelSbIdeal.nD Cert.KernelSbIdeal.τ).loc Cert.KernelSbIdeal.main_arg1)) (m ((c.tc : Thread Cert.KernelSbIdeal.nD Cert.KernelSbIdeal.τ).loc Cert.KernelSbIdeal.main_arg2)) (m ((c.tc : Thread Cert.KernelSbIdeal.nD Cert.KernelSbIdeal.τ).loc Cert.KernelSbIdeal.main_arg3))).1 = (fun _ => 1#1)
    ∧ (Cert.Pre_finite_sb.fn (F := Ideal) (m ((c.tc : Thread Cert.KernelSbIdeal.nD Cert.KernelSbIdeal.τ).loc Cert.KernelSbIdeal.main_arg0)) (m ((c.tc : Thread Cert.KernelSbIdeal.nD Cert.KernelSbIdeal.τ).loc Cert.KernelSbIdeal.main_arg1)) (m ((c.tc : Thread Cert.KernelSbIdeal.nD Cert.KernelSbIdeal.τ).loc Cert.KernelSbIdeal.main_arg2)) (m ((c.tc : Thread Cert.KernelSbIdeal.nD Cert.KernelSbIdeal.τ).loc Cert.KernelSbIdeal.main_arg3))).2.1 = (fun _ => 1#1)
    ∧ (Cert.Pre_finite_sb.fn (F := Ideal) (m ((c.tc : Thread Cert.KernelSbIdeal.nD Cert.KernelSbIdeal.τ).loc Cert.KernelSbIdeal.main_arg0)) (m ((c.tc : Thread Cert.KernelSbIdeal.nD Cert.KernelSbIdeal.τ).loc Cert.KernelSbIdeal.main_arg1)) (m ((c.tc : Thread Cert.KernelSbIdeal.nD Cert.KernelSbIdeal.τ).loc Cert.KernelSbIdeal.main_arg2)) (m ((c.tc : Thread Cert.KernelSbIdeal.nD Cert.KernelSbIdeal.τ).loc Cert.KernelSbIdeal.main_arg3))).2.2.1 = (fun _ => 1#1)
    ∧ (Cert.Pre_finite_sb.fn (F := Ideal) (m ((c.tc : Thread Cert.KernelSbIdeal.nD Cert.KernelSbIdeal.τ).loc Cert.KernelSbIdeal.main_arg0)) (m ((c.tc : Thread Cert.KernelSbIdeal.nD Cert.KernelSbIdeal.τ).loc Cert.KernelSbIdeal.main_arg1)) (m ((c.tc : Thread Cert.KernelSbIdeal.nD Cert.KernelSbIdeal.τ).loc Cert.KernelSbIdeal.main_arg2)) (m ((c.tc : Thread Cert.KernelSbIdeal.nD Cert.KernelSbIdeal.τ).loc Cert.KernelSbIdeal.main_arg3))).2.2.2 = (fun _ => 1#1)

def Pre_ReferenceSbIdeal (m : (ℓ : Loc Cert.ReferenceSbIdeal.nD Cert.ReferenceSbIdeal.τ Cert.ReferenceSbIdeal.sig) → Buf (Elt Ideal) ℓ) : Prop :=
  True

def Pre_ReferenceSbIdeal_finite_sb [hPre_finite_sb : Cert.Pre_finite_sb.Facts] (m : (ℓ : Loc Cert.ReferenceSbIdeal.nD Cert.ReferenceSbIdeal.τ Cert.ReferenceSbIdeal.sig) → Buf (Elt Ideal) ℓ) : Prop :=
  ∀ c : Dev Cert.ReferenceSbIdeal.nD,
    (Cert.Pre_finite_sb.fn (F := Ideal) (m ((c.tc : Thread Cert.ReferenceSbIdeal.nD Cert.ReferenceSbIdeal.τ).loc Cert.ReferenceSbIdeal.main_arg0)) (m ((c.tc : Thread Cert.ReferenceSbIdeal.nD Cert.ReferenceSbIdeal.τ).loc Cert.ReferenceSbIdeal.main_arg1)) (m ((c.tc : Thread Cert.ReferenceSbIdeal.nD Cert.ReferenceSbIdeal.τ).loc Cert.ReferenceSbIdeal.main_arg2)) (m ((c.tc : Thread Cert.ReferenceSbIdeal.nD Cert.ReferenceSbIdeal.τ).loc Cert.ReferenceSbIdeal.main_arg3))).1 = (fun _ => 1#1)
    ∧ (Cert.Pre_finite_sb.fn (F := Ideal) (m ((c.tc : Thread Cert.ReferenceSbIdeal.nD Cert.ReferenceSbIdeal.τ).loc Cert.ReferenceSbIdeal.main_arg0)) (m ((c.tc : Thread Cert.ReferenceSbIdeal.nD Cert.ReferenceSbIdeal.τ).loc Cert.ReferenceSbIdeal.main_arg1)) (m ((c.tc : Thread Cert.ReferenceSbIdeal.nD Cert.ReferenceSbIdeal.τ).loc Cert.ReferenceSbIdeal.main_arg2)) (m ((c.tc : Thread Cert.ReferenceSbIdeal.nD Cert.ReferenceSbIdeal.τ).loc Cert.ReferenceSbIdeal.main_arg3))).2.1 = (fun _ => 1#1)
    ∧ (Cert.Pre_finite_sb.fn (F := Ideal) (m ((c.tc : Thread Cert.ReferenceSbIdeal.nD Cert.ReferenceSbIdeal.τ).loc Cert.ReferenceSbIdeal.main_arg0)) (m ((c.tc : Thread Cert.ReferenceSbIdeal.nD Cert.ReferenceSbIdeal.τ).loc Cert.ReferenceSbIdeal.main_arg1)) (m ((c.tc : Thread Cert.ReferenceSbIdeal.nD Cert.ReferenceSbIdeal.τ).loc Cert.ReferenceSbIdeal.main_arg2)) (m ((c.tc : Thread Cert.ReferenceSbIdeal.nD Cert.ReferenceSbIdeal.τ).loc Cert.ReferenceSbIdeal.main_arg3))).2.2.1 = (fun _ => 1#1)
    ∧ (Cert.Pre_finite_sb.fn (F := Ideal) (m ((c.tc : Thread Cert.ReferenceSbIdeal.nD Cert.ReferenceSbIdeal.τ).loc Cert.ReferenceSbIdeal.main_arg0)) (m ((c.tc : Thread Cert.ReferenceSbIdeal.nD Cert.ReferenceSbIdeal.τ).loc Cert.ReferenceSbIdeal.main_arg1)) (m ((c.tc : Thread Cert.ReferenceSbIdeal.nD Cert.ReferenceSbIdeal.τ).loc Cert.ReferenceSbIdeal.main_arg2)) (m ((c.tc : Thread Cert.ReferenceSbIdeal.nD Cert.ReferenceSbIdeal.τ).loc Cert.ReferenceSbIdeal.main_arg3))).2.2.2 = (fun _ => 1#1)

def Pre_KernelFin (m : (ℓ : Loc Cert.KernelFin.nD Cert.KernelFin.τ Cert.KernelFin.sig) → Buf (Elt Bits) ℓ) : Prop :=
  True

def Pre_KernelFinIdeal (m : (ℓ : Loc Cert.KernelFinIdeal.nD Cert.KernelFinIdeal.τ Cert.KernelFinIdeal.sig) → Buf (Elt Ideal) ℓ) : Prop :=
  True

def Pre_KernelFinIdeal_finite_in [hPre_finite_in : Cert.Pre_finite_in.Facts] (m : (ℓ : Loc Cert.KernelFinIdeal.nD Cert.KernelFinIdeal.τ Cert.KernelFinIdeal.sig) → Buf (Elt Ideal) ℓ) : Prop :=
  ∀ c : Dev Cert.KernelFinIdeal.nD,
    (Cert.Pre_finite_in.fn (F := Ideal) (m ((c.tc : Thread Cert.KernelFinIdeal.nD Cert.KernelFinIdeal.τ).loc Cert.KernelFinIdeal.main_arg0)) (m ((c.tc : Thread Cert.KernelFinIdeal.nD Cert.KernelFinIdeal.τ).loc Cert.KernelFinIdeal.main_arg1)) (m ((c.tc : Thread Cert.KernelFinIdeal.nD Cert.KernelFinIdeal.τ).loc Cert.KernelFinIdeal.main_arg2)) (m ((c.tc : Thread Cert.KernelFinIdeal.nD Cert.KernelFinIdeal.τ).loc Cert.KernelFinIdeal.main_arg3)) (m ((c.tc : Thread Cert.KernelFinIdeal.nD Cert.KernelFinIdeal.τ).loc Cert.KernelFinIdeal.main_arg4))).1 = (fun _ => 1#1)
    ∧ (Cert.Pre_finite_in.fn (F := Ideal) (m ((c.tc : Thread Cert.KernelFinIdeal.nD Cert.KernelFinIdeal.τ).loc Cert.KernelFinIdeal.main_arg0)) (m ((c.tc : Thread Cert.KernelFinIdeal.nD Cert.KernelFinIdeal.τ).loc Cert.KernelFinIdeal.main_arg1)) (m ((c.tc : Thread Cert.KernelFinIdeal.nD Cert.KernelFinIdeal.τ).loc Cert.KernelFinIdeal.main_arg2)) (m ((c.tc : Thread Cert.KernelFinIdeal.nD Cert.KernelFinIdeal.τ).loc Cert.KernelFinIdeal.main_arg3)) (m ((c.tc : Thread Cert.KernelFinIdeal.nD Cert.KernelFinIdeal.τ).loc Cert.KernelFinIdeal.main_arg4))).2.1 = (fun _ => 1#1)
    ∧ (Cert.Pre_finite_in.fn (F := Ideal) (m ((c.tc : Thread Cert.KernelFinIdeal.nD Cert.KernelFinIdeal.τ).loc Cert.KernelFinIdeal.main_arg0)) (m ((c.tc : Thread Cert.KernelFinIdeal.nD Cert.KernelFinIdeal.τ).loc Cert.KernelFinIdeal.main_arg1)) (m ((c.tc : Thread Cert.KernelFinIdeal.nD Cert.KernelFinIdeal.τ).loc Cert.KernelFinIdeal.main_arg2)) (m ((c.tc : Thread Cert.KernelFinIdeal.nD Cert.KernelFinIdeal.τ).loc Cert.KernelFinIdeal.main_arg3)) (m ((c.tc : Thread Cert.KernelFinIdeal.nD Cert.KernelFinIdeal.τ).loc Cert.KernelFinIdeal.main_arg4))).2.2.1 = (fun _ => 1#1)
    ∧ (Cert.Pre_finite_in.fn (F := Ideal) (m ((c.tc : Thread Cert.KernelFinIdeal.nD Cert.KernelFinIdeal.τ).loc Cert.KernelFinIdeal.main_arg0)) (m ((c.tc : Thread Cert.KernelFinIdeal.nD Cert.KernelFinIdeal.τ).loc Cert.KernelFinIdeal.main_arg1)) (m ((c.tc : Thread Cert.KernelFinIdeal.nD Cert.KernelFinIdeal.τ).loc Cert.KernelFinIdeal.main_arg2)) (m ((c.tc : Thread Cert.KernelFinIdeal.nD Cert.KernelFinIdeal.τ).loc Cert.KernelFinIdeal.main_arg3)) (m ((c.tc : Thread Cert.KernelFinIdeal.nD Cert.KernelFinIdeal.τ).loc Cert.KernelFinIdeal.main_arg4))).2.2.2 = (fun _ => 1#1)

def Pre_ReferenceFinIdeal (m : (ℓ : Loc Cert.ReferenceFinIdeal.nD Cert.ReferenceFinIdeal.τ Cert.ReferenceFinIdeal.sig) → Buf (Elt Ideal) ℓ) : Prop :=
  True

def Pre_ReferenceFinIdeal_finite_in [hPre_finite_in : Cert.Pre_finite_in.Facts] (m : (ℓ : Loc Cert.ReferenceFinIdeal.nD Cert.ReferenceFinIdeal.τ Cert.ReferenceFinIdeal.sig) → Buf (Elt Ideal) ℓ) : Prop :=
  ∀ c : Dev Cert.ReferenceFinIdeal.nD,
    (Cert.Pre_finite_in.fn (F := Ideal) (m ((c.tc : Thread Cert.ReferenceFinIdeal.nD Cert.ReferenceFinIdeal.τ).loc Cert.ReferenceFinIdeal.main_arg0)) (m ((c.tc : Thread Cert.ReferenceFinIdeal.nD Cert.ReferenceFinIdeal.τ).loc Cert.ReferenceFinIdeal.main_arg1)) (m ((c.tc : Thread Cert.ReferenceFinIdeal.nD Cert.ReferenceFinIdeal.τ).loc Cert.ReferenceFinIdeal.main_arg2)) (m ((c.tc : Thread Cert.ReferenceFinIdeal.nD Cert.ReferenceFinIdeal.τ).loc Cert.ReferenceFinIdeal.main_arg3)) (m ((c.tc : Thread Cert.ReferenceFinIdeal.nD Cert.ReferenceFinIdeal.τ).loc Cert.ReferenceFinIdeal.main_arg4))).1 = (fun _ => 1#1)
    ∧ (Cert.Pre_finite_in.fn (F := Ideal) (m ((c.tc : Thread Cert.ReferenceFinIdeal.nD Cert.ReferenceFinIdeal.τ).loc Cert.ReferenceFinIdeal.main_arg0)) (m ((c.tc : Thread Cert.ReferenceFinIdeal.nD Cert.ReferenceFinIdeal.τ).loc Cert.ReferenceFinIdeal.main_arg1)) (m ((c.tc : Thread Cert.ReferenceFinIdeal.nD Cert.ReferenceFinIdeal.τ).loc Cert.ReferenceFinIdeal.main_arg2)) (m ((c.tc : Thread Cert.ReferenceFinIdeal.nD Cert.ReferenceFinIdeal.τ).loc Cert.ReferenceFinIdeal.main_arg3)) (m ((c.tc : Thread Cert.ReferenceFinIdeal.nD Cert.ReferenceFinIdeal.τ).loc Cert.ReferenceFinIdeal.main_arg4))).2.1 = (fun _ => 1#1)
    ∧ (Cert.Pre_finite_in.fn (F := Ideal) (m ((c.tc : Thread Cert.ReferenceFinIdeal.nD Cert.ReferenceFinIdeal.τ).loc Cert.ReferenceFinIdeal.main_arg0)) (m ((c.tc : Thread Cert.ReferenceFinIdeal.nD Cert.ReferenceFinIdeal.τ).loc Cert.ReferenceFinIdeal.main_arg1)) (m ((c.tc : Thread Cert.ReferenceFinIdeal.nD Cert.ReferenceFinIdeal.τ).loc Cert.ReferenceFinIdeal.main_arg2)) (m ((c.tc : Thread Cert.ReferenceFinIdeal.nD Cert.ReferenceFinIdeal.τ).loc Cert.ReferenceFinIdeal.main_arg3)) (m ((c.tc : Thread Cert.ReferenceFinIdeal.nD Cert.ReferenceFinIdeal.τ).loc Cert.ReferenceFinIdeal.main_arg4))).2.2.1 = (fun _ => 1#1)
    ∧ (Cert.Pre_finite_in.fn (F := Ideal) (m ((c.tc : Thread Cert.ReferenceFinIdeal.nD Cert.ReferenceFinIdeal.τ).loc Cert.ReferenceFinIdeal.main_arg0)) (m ((c.tc : Thread Cert.ReferenceFinIdeal.nD Cert.ReferenceFinIdeal.τ).loc Cert.ReferenceFinIdeal.main_arg1)) (m ((c.tc : Thread Cert.ReferenceFinIdeal.nD Cert.ReferenceFinIdeal.τ).loc Cert.ReferenceFinIdeal.main_arg2)) (m ((c.tc : Thread Cert.ReferenceFinIdeal.nD Cert.ReferenceFinIdeal.τ).loc Cert.ReferenceFinIdeal.main_arg3)) (m ((c.tc : Thread Cert.ReferenceFinIdeal.nD Cert.ReferenceFinIdeal.τ).loc Cert.ReferenceFinIdeal.main_arg4))).2.2.2 = (fun _ => 1#1)

def Pre_KernelLast (m : (ℓ : Loc Cert.KernelLast.nD Cert.KernelLast.τ Cert.KernelLast.sig) → Buf (Elt Bits) ℓ) : Prop :=
  True

def Pre_KernelLastIdeal (m : (ℓ : Loc Cert.KernelLastIdeal.nD Cert.KernelLastIdeal.τ Cert.KernelLastIdeal.sig) → Buf (Elt Ideal) ℓ) : Prop :=
  True

def Pre_KernelLastIdeal_finite_last [hPre_finite_last : Cert.Pre_finite_last.Facts] (m : (ℓ : Loc Cert.KernelLastIdeal.nD Cert.KernelLastIdeal.τ Cert.KernelLastIdeal.sig) → Buf (Elt Ideal) ℓ) : Prop :=
  ∀ c : Dev Cert.KernelLastIdeal.nD,
    (Cert.Pre_finite_last.fn (F := Ideal) (m ((c.tc : Thread Cert.KernelLastIdeal.nD Cert.KernelLastIdeal.τ).loc Cert.KernelLastIdeal.main_arg0)) (m ((c.tc : Thread Cert.KernelLastIdeal.nD Cert.KernelLastIdeal.τ).loc Cert.KernelLastIdeal.main_arg1)) (m ((c.tc : Thread Cert.KernelLastIdeal.nD Cert.KernelLastIdeal.τ).loc Cert.KernelLastIdeal.main_arg2)) (m ((c.tc : Thread Cert.KernelLastIdeal.nD Cert.KernelLastIdeal.τ).loc Cert.KernelLastIdeal.main_arg3)) (m ((c.tc : Thread Cert.KernelLastIdeal.nD Cert.KernelLastIdeal.τ).loc Cert.KernelLastIdeal.main_arg4)) (m ((c.tc : Thread Cert.KernelLastIdeal.nD Cert.KernelLastIdeal.τ).loc Cert.KernelLastIdeal.main_arg5))).1 = (fun _ => 1#1)
    ∧ (Cert.Pre_finite_last.fn (F := Ideal) (m ((c.tc : Thread Cert.KernelLastIdeal.nD Cert.KernelLastIdeal.τ).loc Cert.KernelLastIdeal.main_arg0)) (m ((c.tc : Thread Cert.KernelLastIdeal.nD Cert.KernelLastIdeal.τ).loc Cert.KernelLastIdeal.main_arg1)) (m ((c.tc : Thread Cert.KernelLastIdeal.nD Cert.KernelLastIdeal.τ).loc Cert.KernelLastIdeal.main_arg2)) (m ((c.tc : Thread Cert.KernelLastIdeal.nD Cert.KernelLastIdeal.τ).loc Cert.KernelLastIdeal.main_arg3)) (m ((c.tc : Thread Cert.KernelLastIdeal.nD Cert.KernelLastIdeal.τ).loc Cert.KernelLastIdeal.main_arg4)) (m ((c.tc : Thread Cert.KernelLastIdeal.nD Cert.KernelLastIdeal.τ).loc Cert.KernelLastIdeal.main_arg5))).2.1 = (fun _ => 1#1)
    ∧ (Cert.Pre_finite_last.fn (F := Ideal) (m ((c.tc : Thread Cert.KernelLastIdeal.nD Cert.KernelLastIdeal.τ).loc Cert.KernelLastIdeal.main_arg0)) (m ((c.tc : Thread Cert.KernelLastIdeal.nD Cert.KernelLastIdeal.τ).loc Cert.KernelLastIdeal.main_arg1)) (m ((c.tc : Thread Cert.KernelLastIdeal.nD Cert.KernelLastIdeal.τ).loc Cert.KernelLastIdeal.main_arg2)) (m ((c.tc : Thread Cert.KernelLastIdeal.nD Cert.KernelLastIdeal.τ).loc Cert.KernelLastIdeal.main_arg3)) (m ((c.tc : Thread Cert.KernelLastIdeal.nD Cert.KernelLastIdeal.τ).loc Cert.KernelLastIdeal.main_arg4)) (m ((c.tc : Thread Cert.KernelLastIdeal.nD Cert.KernelLastIdeal.τ).loc Cert.KernelLastIdeal.main_arg5))).2.2.1 = (fun _ => 1#1)
    ∧ (Cert.Pre_finite_last.fn (F := Ideal) (m ((c.tc : Thread Cert.KernelLastIdeal.nD Cert.KernelLastIdeal.τ).loc Cert.KernelLastIdeal.main_arg0)) (m ((c.tc : Thread Cert.KernelLastIdeal.nD Cert.KernelLastIdeal.τ).loc Cert.KernelLastIdeal.main_arg1)) (m ((c.tc : Thread Cert.KernelLastIdeal.nD Cert.KernelLastIdeal.τ).loc Cert.KernelLastIdeal.main_arg2)) (m ((c.tc : Thread Cert.KernelLastIdeal.nD Cert.KernelLastIdeal.τ).loc Cert.KernelLastIdeal.main_arg3)) (m ((c.tc : Thread Cert.KernelLastIdeal.nD Cert.KernelLastIdeal.τ).loc Cert.KernelLastIdeal.main_arg4)) (m ((c.tc : Thread Cert.KernelLastIdeal.nD Cert.KernelLastIdeal.τ).loc Cert.KernelLastIdeal.main_arg5))).2.2.2.1 = (fun _ => 1#1)
    ∧ (Cert.Pre_finite_last.fn (F := Ideal) (m ((c.tc : Thread Cert.KernelLastIdeal.nD Cert.KernelLastIdeal.τ).loc Cert.KernelLastIdeal.main_arg0)) (m ((c.tc : Thread Cert.KernelLastIdeal.nD Cert.KernelLastIdeal.τ).loc Cert.KernelLastIdeal.main_arg1)) (m ((c.tc : Thread Cert.KernelLastIdeal.nD Cert.KernelLastIdeal.τ).loc Cert.KernelLastIdeal.main_arg2)) (m ((c.tc : Thread Cert.KernelLastIdeal.nD Cert.KernelLastIdeal.τ).loc Cert.KernelLastIdeal.main_arg3)) (m ((c.tc : Thread Cert.KernelLastIdeal.nD Cert.KernelLastIdeal.τ).loc Cert.KernelLastIdeal.main_arg4)) (m ((c.tc : Thread Cert.KernelLastIdeal.nD Cert.KernelLastIdeal.τ).loc Cert.KernelLastIdeal.main_arg5))).2.2.2.2.1 = (fun _ => 1#1)
    ∧ (Cert.Pre_finite_last.fn (F := Ideal) (m ((c.tc : Thread Cert.KernelLastIdeal.nD Cert.KernelLastIdeal.τ).loc Cert.KernelLastIdeal.main_arg0)) (m ((c.tc : Thread Cert.KernelLastIdeal.nD Cert.KernelLastIdeal.τ).loc Cert.KernelLastIdeal.main_arg1)) (m ((c.tc : Thread Cert.KernelLastIdeal.nD Cert.KernelLastIdeal.τ).loc Cert.KernelLastIdeal.main_arg2)) (m ((c.tc : Thread Cert.KernelLastIdeal.nD Cert.KernelLastIdeal.τ).loc Cert.KernelLastIdeal.main_arg3)) (m ((c.tc : Thread Cert.KernelLastIdeal.nD Cert.KernelLastIdeal.τ).loc Cert.KernelLastIdeal.main_arg4)) (m ((c.tc : Thread Cert.KernelLastIdeal.nD Cert.KernelLastIdeal.τ).loc Cert.KernelLastIdeal.main_arg5))).2.2.2.2.2 = (fun _ => 1#1)

def Pre_ReferenceLastIdeal (m : (ℓ : Loc Cert.ReferenceLastIdeal.nD Cert.ReferenceLastIdeal.τ Cert.ReferenceLastIdeal.sig) → Buf (Elt Ideal) ℓ) : Prop :=
  True

def Pre_ReferenceLastIdeal_finite_last [hPre_finite_last : Cert.Pre_finite_last.Facts] (m : (ℓ : Loc Cert.ReferenceLastIdeal.nD Cert.ReferenceLastIdeal.τ Cert.ReferenceLastIdeal.sig) → Buf (Elt Ideal) ℓ) : Prop :=
  ∀ c : Dev Cert.ReferenceLastIdeal.nD,
    (Cert.Pre_finite_last.fn (F := Ideal) (m ((c.tc : Thread Cert.ReferenceLastIdeal.nD Cert.ReferenceLastIdeal.τ).loc Cert.ReferenceLastIdeal.main_arg0)) (m ((c.tc : Thread Cert.ReferenceLastIdeal.nD Cert.ReferenceLastIdeal.τ).loc Cert.ReferenceLastIdeal.main_arg1)) (m ((c.tc : Thread Cert.ReferenceLastIdeal.nD Cert.ReferenceLastIdeal.τ).loc Cert.ReferenceLastIdeal.main_arg2)) (m ((c.tc : Thread Cert.ReferenceLastIdeal.nD Cert.ReferenceLastIdeal.τ).loc Cert.ReferenceLastIdeal.main_arg3)) (m ((c.tc : Thread Cert.ReferenceLastIdeal.nD Cert.ReferenceLastIdeal.τ).loc Cert.ReferenceLastIdeal.main_arg4)) (m ((c.tc : Thread Cert.ReferenceLastIdeal.nD Cert.ReferenceLastIdeal.τ).loc Cert.ReferenceLastIdeal.main_arg5))).1 = (fun _ => 1#1)
    ∧ (Cert.Pre_finite_last.fn (F := Ideal) (m ((c.tc : Thread Cert.ReferenceLastIdeal.nD Cert.ReferenceLastIdeal.τ).loc Cert.ReferenceLastIdeal.main_arg0)) (m ((c.tc : Thread Cert.ReferenceLastIdeal.nD Cert.ReferenceLastIdeal.τ).loc Cert.ReferenceLastIdeal.main_arg1)) (m ((c.tc : Thread Cert.ReferenceLastIdeal.nD Cert.ReferenceLastIdeal.τ).loc Cert.ReferenceLastIdeal.main_arg2)) (m ((c.tc : Thread Cert.ReferenceLastIdeal.nD Cert.ReferenceLastIdeal.τ).loc Cert.ReferenceLastIdeal.main_arg3)) (m ((c.tc : Thread Cert.ReferenceLastIdeal.nD Cert.ReferenceLastIdeal.τ).loc Cert.ReferenceLastIdeal.main_arg4)) (m ((c.tc : Thread Cert.ReferenceLastIdeal.nD Cert.ReferenceLastIdeal.τ).loc Cert.ReferenceLastIdeal.main_arg5))).2.1 = (fun _ => 1#1)
    ∧ (Cert.Pre_finite_last.fn (F := Ideal) (m ((c.tc : Thread Cert.ReferenceLastIdeal.nD Cert.ReferenceLastIdeal.τ).loc Cert.ReferenceLastIdeal.main_arg0)) (m ((c.tc : Thread Cert.ReferenceLastIdeal.nD Cert.ReferenceLastIdeal.τ).loc Cert.ReferenceLastIdeal.main_arg1)) (m ((c.tc : Thread Cert.ReferenceLastIdeal.nD Cert.ReferenceLastIdeal.τ).loc Cert.ReferenceLastIdeal.main_arg2)) (m ((c.tc : Thread Cert.ReferenceLastIdeal.nD Cert.ReferenceLastIdeal.τ).loc Cert.ReferenceLastIdeal.main_arg3)) (m ((c.tc : Thread Cert.ReferenceLastIdeal.nD Cert.ReferenceLastIdeal.τ).loc Cert.ReferenceLastIdeal.main_arg4)) (m ((c.tc : Thread Cert.ReferenceLastIdeal.nD Cert.ReferenceLastIdeal.τ).loc Cert.ReferenceLastIdeal.main_arg5))).2.2.1 = (fun _ => 1#1)
    ∧ (Cert.Pre_finite_last.fn (F := Ideal) (m ((c.tc : Thread Cert.ReferenceLastIdeal.nD Cert.ReferenceLastIdeal.τ).loc Cert.ReferenceLastIdeal.main_arg0)) (m ((c.tc : Thread Cert.ReferenceLastIdeal.nD Cert.ReferenceLastIdeal.τ).loc Cert.ReferenceLastIdeal.main_arg1)) (m ((c.tc : Thread Cert.ReferenceLastIdeal.nD Cert.ReferenceLastIdeal.τ).loc Cert.ReferenceLastIdeal.main_arg2)) (m ((c.tc : Thread Cert.ReferenceLastIdeal.nD Cert.ReferenceLastIdeal.τ).loc Cert.ReferenceLastIdeal.main_arg3)) (m ((c.tc : Thread Cert.ReferenceLastIdeal.nD Cert.ReferenceLastIdeal.τ).loc Cert.ReferenceLastIdeal.main_arg4)) (m ((c.tc : Thread Cert.ReferenceLastIdeal.nD Cert.ReferenceLastIdeal.τ).loc Cert.ReferenceLastIdeal.main_arg5))).2.2.2.1 = (fun _ => 1#1)
    ∧ (Cert.Pre_finite_last.fn (F := Ideal) (m ((c.tc : Thread Cert.ReferenceLastIdeal.nD Cert.ReferenceLastIdeal.τ).loc Cert.ReferenceLastIdeal.main_arg0)) (m ((c.tc : Thread Cert.ReferenceLastIdeal.nD Cert.ReferenceLastIdeal.τ).loc Cert.ReferenceLastIdeal.main_arg1)) (m ((c.tc : Thread Cert.ReferenceLastIdeal.nD Cert.ReferenceLastIdeal.τ).loc Cert.ReferenceLastIdeal.main_arg2)) (m ((c.tc : Thread Cert.ReferenceLastIdeal.nD Cert.ReferenceLastIdeal.τ).loc Cert.ReferenceLastIdeal.main_arg3)) (m ((c.tc : Thread Cert.ReferenceLastIdeal.nD Cert.ReferenceLastIdeal.τ).loc Cert.ReferenceLastIdeal.main_arg4)) (m ((c.tc : Thread Cert.ReferenceLastIdeal.nD Cert.ReferenceLastIdeal.τ).loc Cert.ReferenceLastIdeal.main_arg5))).2.2.2.2.1 = (fun _ => 1#1)
    ∧ (Cert.Pre_finite_last.fn (F := Ideal) (m ((c.tc : Thread Cert.ReferenceLastIdeal.nD Cert.ReferenceLastIdeal.τ).loc Cert.ReferenceLastIdeal.main_arg0)) (m ((c.tc : Thread Cert.ReferenceLastIdeal.nD Cert.ReferenceLastIdeal.τ).loc Cert.ReferenceLastIdeal.main_arg1)) (m ((c.tc : Thread Cert.ReferenceLastIdeal.nD Cert.ReferenceLastIdeal.τ).loc Cert.ReferenceLastIdeal.main_arg2)) (m ((c.tc : Thread Cert.ReferenceLastIdeal.nD Cert.ReferenceLastIdeal.τ).loc Cert.ReferenceLastIdeal.main_arg3)) (m ((c.tc : Thread Cert.ReferenceLastIdeal.nD Cert.ReferenceLastIdeal.τ).loc Cert.ReferenceLastIdeal.main_arg4)) (m ((c.tc : Thread Cert.ReferenceLastIdeal.nD Cert.ReferenceLastIdeal.τ).loc Cert.ReferenceLastIdeal.main_arg5))).2.2.2.2.2 = (fun _ => 1#1)

def Pre_KernelMin (m : (ℓ : Loc Cert.KernelMin.nD Cert.KernelMin.τ Cert.KernelMin.sig) → Buf (Elt Bits) ℓ) : Prop :=
  True

def Pre_KernelMinIdeal (m : (ℓ : Loc Cert.KernelMinIdeal.nD Cert.KernelMinIdeal.τ Cert.KernelMinIdeal.sig) → Buf (Elt Ideal) ℓ) : Prop :=
  True

def Pre_KernelMinIdeal_finite_min [hPre_finite_min : Cert.Pre_finite_min.Facts] (m : (ℓ : Loc Cert.KernelMinIdeal.nD Cert.KernelMinIdeal.τ Cert.KernelMinIdeal.sig) → Buf (Elt Ideal) ℓ) : Prop :=
  ∀ c : Dev Cert.KernelMinIdeal.nD,
    (Cert.Pre_finite_min.fn (F := Ideal) (m ((c.tc : Thread Cert.KernelMinIdeal.nD Cert.KernelMinIdeal.τ).loc Cert.KernelMinIdeal.main_arg0)) (m ((c.tc : Thread Cert.KernelMinIdeal.nD Cert.KernelMinIdeal.τ).loc Cert.KernelMinIdeal.main_arg1)) (m ((c.tc : Thread Cert.KernelMinIdeal.nD Cert.KernelMinIdeal.τ).loc Cert.KernelMinIdeal.main_arg2)) (m ((c.tc : Thread Cert.KernelMinIdeal.nD Cert.KernelMinIdeal.τ).loc Cert.KernelMinIdeal.main_arg3)) (m ((c.tc : Thread Cert.KernelMinIdeal.nD Cert.KernelMinIdeal.τ).loc Cert.KernelMinIdeal.main_arg4))).1 = (fun _ => 1#1)
    ∧ (Cert.Pre_finite_min.fn (F := Ideal) (m ((c.tc : Thread Cert.KernelMinIdeal.nD Cert.KernelMinIdeal.τ).loc Cert.KernelMinIdeal.main_arg0)) (m ((c.tc : Thread Cert.KernelMinIdeal.nD Cert.KernelMinIdeal.τ).loc Cert.KernelMinIdeal.main_arg1)) (m ((c.tc : Thread Cert.KernelMinIdeal.nD Cert.KernelMinIdeal.τ).loc Cert.KernelMinIdeal.main_arg2)) (m ((c.tc : Thread Cert.KernelMinIdeal.nD Cert.KernelMinIdeal.τ).loc Cert.KernelMinIdeal.main_arg3)) (m ((c.tc : Thread Cert.KernelMinIdeal.nD Cert.KernelMinIdeal.τ).loc Cert.KernelMinIdeal.main_arg4))).2.1 = (fun _ => 1#1)
    ∧ (Cert.Pre_finite_min.fn (F := Ideal) (m ((c.tc : Thread Cert.KernelMinIdeal.nD Cert.KernelMinIdeal.τ).loc Cert.KernelMinIdeal.main_arg0)) (m ((c.tc : Thread Cert.KernelMinIdeal.nD Cert.KernelMinIdeal.τ).loc Cert.KernelMinIdeal.main_arg1)) (m ((c.tc : Thread Cert.KernelMinIdeal.nD Cert.KernelMinIdeal.τ).loc Cert.KernelMinIdeal.main_arg2)) (m ((c.tc : Thread Cert.KernelMinIdeal.nD Cert.KernelMinIdeal.τ).loc Cert.KernelMinIdeal.main_arg3)) (m ((c.tc : Thread Cert.KernelMinIdeal.nD Cert.KernelMinIdeal.τ).loc Cert.KernelMinIdeal.main_arg4))).2.2.1 = (fun _ => 1#1)
    ∧ (Cert.Pre_finite_min.fn (F := Ideal) (m ((c.tc : Thread Cert.KernelMinIdeal.nD Cert.KernelMinIdeal.τ).loc Cert.KernelMinIdeal.main_arg0)) (m ((c.tc : Thread Cert.KernelMinIdeal.nD Cert.KernelMinIdeal.τ).loc Cert.KernelMinIdeal.main_arg1)) (m ((c.tc : Thread Cert.KernelMinIdeal.nD Cert.KernelMinIdeal.τ).loc Cert.KernelMinIdeal.main_arg2)) (m ((c.tc : Thread Cert.KernelMinIdeal.nD Cert.KernelMinIdeal.τ).loc Cert.KernelMinIdeal.main_arg3)) (m ((c.tc : Thread Cert.KernelMinIdeal.nD Cert.KernelMinIdeal.τ).loc Cert.KernelMinIdeal.main_arg4))).2.2.2 = (fun _ => 1#1)

def Pre_ReferenceMinIdeal (m : (ℓ : Loc Cert.ReferenceMinIdeal.nD Cert.ReferenceMinIdeal.τ Cert.ReferenceMinIdeal.sig) → Buf (Elt Ideal) ℓ) : Prop :=
  True

def Pre_ReferenceMinIdeal_finite_min [hPre_finite_min : Cert.Pre_finite_min.Facts] (m : (ℓ : Loc Cert.ReferenceMinIdeal.nD Cert.ReferenceMinIdeal.τ Cert.ReferenceMinIdeal.sig) → Buf (Elt Ideal) ℓ) : Prop :=
  ∀ c : Dev Cert.ReferenceMinIdeal.nD,
    (Cert.Pre_finite_min.fn (F := Ideal) (m ((c.tc : Thread Cert.ReferenceMinIdeal.nD Cert.ReferenceMinIdeal.τ).loc Cert.ReferenceMinIdeal.main_arg0)) (m ((c.tc : Thread Cert.ReferenceMinIdeal.nD Cert.ReferenceMinIdeal.τ).loc Cert.ReferenceMinIdeal.main_arg1)) (m ((c.tc : Thread Cert.ReferenceMinIdeal.nD Cert.ReferenceMinIdeal.τ).loc Cert.ReferenceMinIdeal.main_arg2)) (m ((c.tc : Thread Cert.ReferenceMinIdeal.nD Cert.ReferenceMinIdeal.τ).loc Cert.ReferenceMinIdeal.main_arg3)) (m ((c.tc : Thread Cert.ReferenceMinIdeal.nD Cert.ReferenceMinIdeal.τ).loc Cert.ReferenceMinIdeal.main_arg4))).1 = (fun _ => 1#1)
    ∧ (Cert.Pre_finite_min.fn (F := Ideal) (m ((c.tc : Thread Cert.ReferenceMinIdeal.nD Cert.ReferenceMinIdeal.τ).loc Cert.ReferenceMinIdeal.main_arg0)) (m ((c.tc : Thread Cert.ReferenceMinIdeal.nD Cert.ReferenceMinIdeal.τ).loc Cert.ReferenceMinIdeal.main_arg1)) (m ((c.tc : Thread Cert.ReferenceMinIdeal.nD Cert.ReferenceMinIdeal.τ).loc Cert.ReferenceMinIdeal.main_arg2)) (m ((c.tc : Thread Cert.ReferenceMinIdeal.nD Cert.ReferenceMinIdeal.τ).loc Cert.ReferenceMinIdeal.main_arg3)) (m ((c.tc : Thread Cert.ReferenceMinIdeal.nD Cert.ReferenceMinIdeal.τ).loc Cert.ReferenceMinIdeal.main_arg4))).2.1 = (fun _ => 1#1)
    ∧ (Cert.Pre_finite_min.fn (F := Ideal) (m ((c.tc : Thread Cert.ReferenceMinIdeal.nD Cert.ReferenceMinIdeal.τ).loc Cert.ReferenceMinIdeal.main_arg0)) (m ((c.tc : Thread Cert.ReferenceMinIdeal.nD Cert.ReferenceMinIdeal.τ).loc Cert.ReferenceMinIdeal.main_arg1)) (m ((c.tc : Thread Cert.ReferenceMinIdeal.nD Cert.ReferenceMinIdeal.τ).loc Cert.ReferenceMinIdeal.main_arg2)) (m ((c.tc : Thread Cert.ReferenceMinIdeal.nD Cert.ReferenceMinIdeal.τ).loc Cert.ReferenceMinIdeal.main_arg3)) (m ((c.tc : Thread Cert.ReferenceMinIdeal.nD Cert.ReferenceMinIdeal.τ).loc Cert.ReferenceMinIdeal.main_arg4))).2.2.1 = (fun _ => 1#1)
    ∧ (Cert.Pre_finite_min.fn (F := Ideal) (m ((c.tc : Thread Cert.ReferenceMinIdeal.nD Cert.ReferenceMinIdeal.τ).loc Cert.ReferenceMinIdeal.main_arg0)) (m ((c.tc : Thread Cert.ReferenceMinIdeal.nD Cert.ReferenceMinIdeal.τ).loc Cert.ReferenceMinIdeal.main_arg1)) (m ((c.tc : Thread Cert.ReferenceMinIdeal.nD Cert.ReferenceMinIdeal.τ).loc Cert.ReferenceMinIdeal.main_arg2)) (m ((c.tc : Thread Cert.ReferenceMinIdeal.nD Cert.ReferenceMinIdeal.τ).loc Cert.ReferenceMinIdeal.main_arg3)) (m ((c.tc : Thread Cert.ReferenceMinIdeal.nD Cert.ReferenceMinIdeal.τ).loc Cert.ReferenceMinIdeal.main_arg4))).2.2.2 = (fun _ => 1#1)

def Pre_KernelAf (m : (ℓ : Loc Cert.KernelAf.nD Cert.KernelAf.τ Cert.KernelAf.sig) → Buf (Elt Bits) ℓ) : Prop :=
  True

def Pre_KernelAfIdeal (m : (ℓ : Loc Cert.KernelAfIdeal.nD Cert.KernelAfIdeal.τ Cert.KernelAfIdeal.sig) → Buf (Elt Ideal) ℓ) : Prop :=
  True

def Pre_KernelAfIdeal_finite_af [hPre_finite_af : Cert.Pre_finite_af.Facts] (m : (ℓ : Loc Cert.KernelAfIdeal.nD Cert.KernelAfIdeal.τ Cert.KernelAfIdeal.sig) → Buf (Elt Ideal) ℓ) : Prop :=
  ∀ c : Dev Cert.KernelAfIdeal.nD,
    (Cert.Pre_finite_af.fn (F := Ideal) (m ((c.tc : Thread Cert.KernelAfIdeal.nD Cert.KernelAfIdeal.τ).loc Cert.KernelAfIdeal.main_arg0)) (m ((c.tc : Thread Cert.KernelAfIdeal.nD Cert.KernelAfIdeal.τ).loc Cert.KernelAfIdeal.main_arg1)) (m ((c.tc : Thread Cert.KernelAfIdeal.nD Cert.KernelAfIdeal.τ).loc Cert.KernelAfIdeal.main_arg2))).1 = (fun _ => 1#1)
    ∧ (Cert.Pre_finite_af.fn (F := Ideal) (m ((c.tc : Thread Cert.KernelAfIdeal.nD Cert.KernelAfIdeal.τ).loc Cert.KernelAfIdeal.main_arg0)) (m ((c.tc : Thread Cert.KernelAfIdeal.nD Cert.KernelAfIdeal.τ).loc Cert.KernelAfIdeal.main_arg1)) (m ((c.tc : Thread Cert.KernelAfIdeal.nD Cert.KernelAfIdeal.τ).loc Cert.KernelAfIdeal.main_arg2))).2.1 = (fun _ => 1#1)
    ∧ (Cert.Pre_finite_af.fn (F := Ideal) (m ((c.tc : Thread Cert.KernelAfIdeal.nD Cert.KernelAfIdeal.τ).loc Cert.KernelAfIdeal.main_arg0)) (m ((c.tc : Thread Cert.KernelAfIdeal.nD Cert.KernelAfIdeal.τ).loc Cert.KernelAfIdeal.main_arg1)) (m ((c.tc : Thread Cert.KernelAfIdeal.nD Cert.KernelAfIdeal.τ).loc Cert.KernelAfIdeal.main_arg2))).2.2 = (fun _ => 1#1)

def Pre_ReferenceAfIdeal (m : (ℓ : Loc Cert.ReferenceAfIdeal.nD Cert.ReferenceAfIdeal.τ Cert.ReferenceAfIdeal.sig) → Buf (Elt Ideal) ℓ) : Prop :=
  True

def Pre_ReferenceAfIdeal_finite_af [hPre_finite_af : Cert.Pre_finite_af.Facts] (m : (ℓ : Loc Cert.ReferenceAfIdeal.nD Cert.ReferenceAfIdeal.τ Cert.ReferenceAfIdeal.sig) → Buf (Elt Ideal) ℓ) : Prop :=
  ∀ c : Dev Cert.ReferenceAfIdeal.nD,
    (Cert.Pre_finite_af.fn (F := Ideal) (m ((c.tc : Thread Cert.ReferenceAfIdeal.nD Cert.ReferenceAfIdeal.τ).loc Cert.ReferenceAfIdeal.main_arg0)) (m ((c.tc : Thread Cert.ReferenceAfIdeal.nD Cert.ReferenceAfIdeal.τ).loc Cert.ReferenceAfIdeal.main_arg1)) (m ((c.tc : Thread Cert.ReferenceAfIdeal.nD Cert.ReferenceAfIdeal.τ).loc Cert.ReferenceAfIdeal.main_arg2))).1 = (fun _ => 1#1)
    ∧ (Cert.Pre_finite_af.fn (F := Ideal) (m ((c.tc : Thread Cert.ReferenceAfIdeal.nD Cert.ReferenceAfIdeal.τ).loc Cert.ReferenceAfIdeal.main_arg0)) (m ((c.tc : Thread Cert.ReferenceAfIdeal.nD Cert.ReferenceAfIdeal.τ).loc Cert.ReferenceAfIdeal.main_arg1)) (m ((c.tc : Thread Cert.ReferenceAfIdeal.nD Cert.ReferenceAfIdeal.τ).loc Cert.ReferenceAfIdeal.main_arg2))).2.1 = (fun _ => 1#1)
    ∧ (Cert.Pre_finite_af.fn (F := Ideal) (m ((c.tc : Thread Cert.ReferenceAfIdeal.nD Cert.ReferenceAfIdeal.τ).loc Cert.ReferenceAfIdeal.main_arg0)) (m ((c.tc : Thread Cert.ReferenceAfIdeal.nD Cert.ReferenceAfIdeal.τ).loc Cert.ReferenceAfIdeal.main_arg1)) (m ((c.tc : Thread Cert.ReferenceAfIdeal.nD Cert.ReferenceAfIdeal.τ).loc Cert.ReferenceAfIdeal.main_arg2))).2.2 = (fun _ => 1#1)

def Pre_KernelFf (m : (ℓ : Loc Cert.KernelFf.nD Cert.KernelFf.τ Cert.KernelFf.sig) → Buf (Elt Bits) ℓ) : Prop :=
  True

def Pre_KernelFfIdeal (m : (ℓ : Loc Cert.KernelFfIdeal.nD Cert.KernelFfIdeal.τ Cert.KernelFfIdeal.sig) → Buf (Elt Ideal) ℓ) : Prop :=
  True

def Pre_KernelFfIdeal_finite_ff [hPre_finite_ff : Cert.Pre_finite_ff.Facts] (m : (ℓ : Loc Cert.KernelFfIdeal.nD Cert.KernelFfIdeal.τ Cert.KernelFfIdeal.sig) → Buf (Elt Ideal) ℓ) : Prop :=
  ∀ c : Dev Cert.KernelFfIdeal.nD,
    (Cert.Pre_finite_ff.fn (F := Ideal) (m ((c.tc : Thread Cert.KernelFfIdeal.nD Cert.KernelFfIdeal.τ).loc Cert.KernelFfIdeal.main_arg0)) (m ((c.tc : Thread Cert.KernelFfIdeal.nD Cert.KernelFfIdeal.τ).loc Cert.KernelFfIdeal.main_arg1)) (m ((c.tc : Thread Cert.KernelFfIdeal.nD Cert.KernelFfIdeal.τ).loc Cert.KernelFfIdeal.main_arg2)) (m ((c.tc : Thread Cert.KernelFfIdeal.nD Cert.KernelFfIdeal.τ).loc Cert.KernelFfIdeal.main_arg3))).1 = (fun _ => 1#1)
    ∧ (Cert.Pre_finite_ff.fn (F := Ideal) (m ((c.tc : Thread Cert.KernelFfIdeal.nD Cert.KernelFfIdeal.τ).loc Cert.KernelFfIdeal.main_arg0)) (m ((c.tc : Thread Cert.KernelFfIdeal.nD Cert.KernelFfIdeal.τ).loc Cert.KernelFfIdeal.main_arg1)) (m ((c.tc : Thread Cert.KernelFfIdeal.nD Cert.KernelFfIdeal.τ).loc Cert.KernelFfIdeal.main_arg2)) (m ((c.tc : Thread Cert.KernelFfIdeal.nD Cert.KernelFfIdeal.τ).loc Cert.KernelFfIdeal.main_arg3))).2.1 = (fun _ => 1#1)
    ∧ (Cert.Pre_finite_ff.fn (F := Ideal) (m ((c.tc : Thread Cert.KernelFfIdeal.nD Cert.KernelFfIdeal.τ).loc Cert.KernelFfIdeal.main_arg0)) (m ((c.tc : Thread Cert.KernelFfIdeal.nD Cert.KernelFfIdeal.τ).loc Cert.KernelFfIdeal.main_arg1)) (m ((c.tc : Thread Cert.KernelFfIdeal.nD Cert.KernelFfIdeal.τ).loc Cert.KernelFfIdeal.main_arg2)) (m ((c.tc : Thread Cert.KernelFfIdeal.nD Cert.KernelFfIdeal.τ).loc Cert.KernelFfIdeal.main_arg3))).2.2.1 = (fun _ => 1#1)
    ∧ (Cert.Pre_finite_ff.fn (F := Ideal) (m ((c.tc : Thread Cert.KernelFfIdeal.nD Cert.KernelFfIdeal.τ).loc Cert.KernelFfIdeal.main_arg0)) (m ((c.tc : Thread Cert.KernelFfIdeal.nD Cert.KernelFfIdeal.τ).loc Cert.KernelFfIdeal.main_arg1)) (m ((c.tc : Thread Cert.KernelFfIdeal.nD Cert.KernelFfIdeal.τ).loc Cert.KernelFfIdeal.main_arg2)) (m ((c.tc : Thread Cert.KernelFfIdeal.nD Cert.KernelFfIdeal.τ).loc Cert.KernelFfIdeal.main_arg3))).2.2.2 = (fun _ => 1#1)

def Pre_ReferenceFfIdeal (m : (ℓ : Loc Cert.ReferenceFfIdeal.nD Cert.ReferenceFfIdeal.τ Cert.ReferenceFfIdeal.sig) → Buf (Elt Ideal) ℓ) : Prop :=
  True

def Pre_ReferenceFfIdeal_finite_ff [hPre_finite_ff : Cert.Pre_finite_ff.Facts] (m : (ℓ : Loc Cert.ReferenceFfIdeal.nD Cert.ReferenceFfIdeal.τ Cert.ReferenceFfIdeal.sig) → Buf (Elt Ideal) ℓ) : Prop :=
  ∀ c : Dev Cert.ReferenceFfIdeal.nD,
    (Cert.Pre_finite_ff.fn (F := Ideal) (m ((c.tc : Thread Cert.ReferenceFfIdeal.nD Cert.ReferenceFfIdeal.τ).loc Cert.ReferenceFfIdeal.main_arg0)) (m ((c.tc : Thread Cert.ReferenceFfIdeal.nD Cert.ReferenceFfIdeal.τ).loc Cert.ReferenceFfIdeal.main_arg1)) (m ((c.tc : Thread Cert.ReferenceFfIdeal.nD Cert.ReferenceFfIdeal.τ).loc Cert.ReferenceFfIdeal.main_arg2)) (m ((c.tc : Thread Cert.ReferenceFfIdeal.nD Cert.ReferenceFfIdeal.τ).loc Cert.ReferenceFfIdeal.main_arg3))).1 = (fun _ => 1#1)
    ∧ (Cert.Pre_finite_ff.fn (F := Ideal) (m ((c.tc : Thread Cert.ReferenceFfIdeal.nD Cert.ReferenceFfIdeal.τ).loc Cert.ReferenceFfIdeal.main_arg0)) (m ((c.tc : Thread Cert.ReferenceFfIdeal.nD Cert.ReferenceFfIdeal.τ).loc Cert.ReferenceFfIdeal.main_arg1)) (m ((c.tc : Thread Cert.ReferenceFfIdeal.nD Cert.ReferenceFfIdeal.τ).loc Cert.ReferenceFfIdeal.main_arg2)) (m ((c.tc : Thread Cert.ReferenceFfIdeal.nD Cert.ReferenceFfIdeal.τ).loc Cert.ReferenceFfIdeal.main_arg3))).2.1 = (fun _ => 1#1)
    ∧ (Cert.Pre_finite_ff.fn (F := Ideal) (m ((c.tc : Thread Cert.ReferenceFfIdeal.nD Cert.ReferenceFfIdeal.τ).loc Cert.ReferenceFfIdeal.main_arg0)) (m ((c.tc : Thread Cert.ReferenceFfIdeal.nD Cert.ReferenceFfIdeal.τ).loc Cert.ReferenceFfIdeal.main_arg1)) (m ((c.tc : Thread Cert.ReferenceFfIdeal.nD Cert.ReferenceFfIdeal.τ).loc Cert.ReferenceFfIdeal.main_arg2)) (m ((c.tc : Thread Cert.ReferenceFfIdeal.nD Cert.ReferenceFfIdeal.τ).loc Cert.ReferenceFfIdeal.main_arg3))).2.2.1 = (fun _ => 1#1)
    ∧ (Cert.Pre_finite_ff.fn (F := Ideal) (m ((c.tc : Thread Cert.ReferenceFfIdeal.nD Cert.ReferenceFfIdeal.τ).loc Cert.ReferenceFfIdeal.main_arg0)) (m ((c.tc : Thread Cert.ReferenceFfIdeal.nD Cert.ReferenceFfIdeal.τ).loc Cert.ReferenceFfIdeal.main_arg1)) (m ((c.tc : Thread Cert.ReferenceFfIdeal.nD Cert.ReferenceFfIdeal.τ).loc Cert.ReferenceFfIdeal.main_arg2)) (m ((c.tc : Thread Cert.ReferenceFfIdeal.nD Cert.ReferenceFfIdeal.τ).loc Cert.ReferenceFfIdeal.main_arg3))).2.2.2 = (fun _ => 1#1)

def quiescent_KernelAct [hKernelAct : Cert.KernelAct.Facts] : Prop :=
  ∀ (m : (ℓ : Loc Cert.KernelAct.nD Cert.KernelAct.τ Cert.KernelAct.sig) → Buf (Elt Bits) ℓ) (g : Dev Cert.KernelAct.nD → PrngReg), Pre_KernelAct m →
    θ_run (Cert.KernelAct.defs (F := Bits)) (onTc (τ := Cert.KernelAct.τ) (Cert.KernelAct.main (F := Bits))) ⟨m, fun _ => 0, g⟩ (fun r => (∀ c : Dev Cert.KernelAct.nD,
      r.2.mem ((c.tc : Thread Cert.KernelAct.nD Cert.KernelAct.τ).loc Cert.KernelAct.main_arg0) = m ((c.tc : Thread Cert.KernelAct.nD Cert.KernelAct.τ).loc Cert.KernelAct.main_arg0)
      ∧ r.2.mem ((c.tc : Thread Cert.KernelAct.nD Cert.KernelAct.τ).loc Cert.KernelAct.main_arg1) = m ((c.tc : Thread Cert.KernelAct.nD Cert.KernelAct.τ).loc Cert.KernelAct.main_arg1)
      ∧ r.2.mem ((c.tc : Thread Cert.KernelAct.nD Cert.KernelAct.τ).loc Cert.KernelAct.main_arg2) = m ((c.tc : Thread Cert.KernelAct.nD Cert.KernelAct.τ).loc Cert.KernelAct.main_arg2))
      ∧ r.2.sem = fun _ => 0)

def quiescent_KernelActIdeal [hKernelActIdeal : Cert.KernelActIdeal.Facts] : Prop :=
  ∀ (m : (ℓ : Loc Cert.KernelActIdeal.nD Cert.KernelActIdeal.τ Cert.KernelActIdeal.sig) → Buf (Elt Ideal) ℓ) (g : Dev Cert.KernelActIdeal.nD → PrngReg), Pre_KernelActIdeal m →
    θ_run (Cert.KernelActIdeal.defs (F := Ideal)) (onTc (τ := Cert.KernelActIdeal.τ) (Cert.KernelActIdeal.main (F := Ideal))) ⟨m, fun _ => 0, g⟩ (fun r => (∀ c : Dev Cert.KernelActIdeal.nD,
      r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
      ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1)
      ∧ r.2.mem ((c.tc : Thread Cert.KernelActIdeal.nD Cert.KernelActIdeal.τ).loc Cert.KernelActIdeal.main_arg2) = m ((c.tc : Thread Cert.KernelActIdeal.nD Cert.KernelActIdeal.τ).loc Cert.KernelActIdeal.main_arg2))
      ∧ r.2.sem = fun _ => 0)

def quiescent_KernelActIdeal_pre_finite_act [hKernelActIdeal : Cert.KernelActIdeal.Facts] [hPre_finite_act : Cert.Pre_finite_act.Facts] : Prop :=
  ∀ (m : (ℓ : Loc Cert.KernelActIdeal.nD Cert.KernelActIdeal.τ Cert.KernelActIdeal.sig) → Buf (Elt Ideal) ℓ) (g : Dev Cert.KernelActIdeal.nD → PrngReg), Pre_KernelActIdeal_finite_act m →
    θ_run (Cert.KernelActIdeal.defs (F := Ideal)) (onTc (τ := Cert.KernelActIdeal.τ) (Cert.KernelActIdeal.main (F := Ideal))) ⟨m, fun _ => 0, g⟩ (fun r => (∀ c : Dev Cert.KernelActIdeal.nD,
      r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
      ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1)
      ∧ r.2.mem ((c.tc : Thread Cert.KernelActIdeal.nD Cert.KernelActIdeal.τ).loc Cert.KernelActIdeal.main_arg2) = m ((c.tc : Thread Cert.KernelActIdeal.nD Cert.KernelActIdeal.τ).loc Cert.KernelActIdeal.main_arg2))
      ∧ r.2.sem = fun _ => 0)

def quiescent_ReferenceActIdeal [hReferenceActIdeal : Cert.ReferenceActIdeal.Facts] : Prop :=
  ∀ (m : (ℓ : Loc Cert.ReferenceActIdeal.nD Cert.ReferenceActIdeal.τ Cert.ReferenceActIdeal.sig) → Buf (Elt Ideal) ℓ) (g : Dev Cert.ReferenceActIdeal.nD → PrngReg), Pre_ReferenceActIdeal m →
    θ_run (Cert.ReferenceActIdeal.defs (F := Ideal)) (onTc (τ := Cert.ReferenceActIdeal.τ) (Cert.ReferenceActIdeal.main (F := Ideal))) ⟨m, fun _ => 0, g⟩ (fun r => (∀ c : Dev Cert.ReferenceActIdeal.nD,
      r.2.mem ((c.tc : Thread Cert.ReferenceActIdeal.nD Cert.ReferenceActIdeal.τ).loc Cert.ReferenceActIdeal.main_arg0) = m ((c.tc : Thread Cert.ReferenceActIdeal.nD Cert.ReferenceActIdeal.τ).loc Cert.ReferenceActIdeal.main_arg0)
      ∧ r.2.mem ((c.tc : Thread Cert.ReferenceActIdeal.nD Cert.ReferenceActIdeal.τ).loc Cert.ReferenceActIdeal.main_arg1) = m ((c.tc : Thread Cert.ReferenceActIdeal.nD Cert.ReferenceActIdeal.τ).loc Cert.ReferenceActIdeal.main_arg1)
      ∧ r.2.mem ((c.tc : Thread Cert.ReferenceActIdeal.nD Cert.ReferenceActIdeal.τ).loc Cert.ReferenceActIdeal.main_arg2) = m ((c.tc : Thread Cert.ReferenceActIdeal.nD Cert.ReferenceActIdeal.τ).loc Cert.ReferenceActIdeal.main_arg2))
      ∧ r.2.sem = fun _ => 0)

def quiescent_ReferenceActIdeal_pre_finite_act [hReferenceActIdeal : Cert.ReferenceActIdeal.Facts] [hPre_finite_act : Cert.Pre_finite_act.Facts] : Prop :=
  ∀ (m : (ℓ : Loc Cert.ReferenceActIdeal.nD Cert.ReferenceActIdeal.τ Cert.ReferenceActIdeal.sig) → Buf (Elt Ideal) ℓ) (g : Dev Cert.ReferenceActIdeal.nD → PrngReg), Pre_ReferenceActIdeal_finite_act m →
    θ_run (Cert.ReferenceActIdeal.defs (F := Ideal)) (onTc (τ := Cert.ReferenceActIdeal.τ) (Cert.ReferenceActIdeal.main (F := Ideal))) ⟨m, fun _ => 0, g⟩ (fun r => (∀ c : Dev Cert.ReferenceActIdeal.nD,
      r.2.mem ((c.tc : Thread Cert.ReferenceActIdeal.nD Cert.ReferenceActIdeal.τ).loc Cert.ReferenceActIdeal.main_arg0) = m ((c.tc : Thread Cert.ReferenceActIdeal.nD Cert.ReferenceActIdeal.τ).loc Cert.ReferenceActIdeal.main_arg0)
      ∧ r.2.mem ((c.tc : Thread Cert.ReferenceActIdeal.nD Cert.ReferenceActIdeal.τ).loc Cert.ReferenceActIdeal.main_arg1) = m ((c.tc : Thread Cert.ReferenceActIdeal.nD Cert.ReferenceActIdeal.τ).loc Cert.ReferenceActIdeal.main_arg1)
      ∧ r.2.mem ((c.tc : Thread Cert.ReferenceActIdeal.nD Cert.ReferenceActIdeal.τ).loc Cert.ReferenceActIdeal.main_arg2) = m ((c.tc : Thread Cert.ReferenceActIdeal.nD Cert.ReferenceActIdeal.τ).loc Cert.ReferenceActIdeal.main_arg2))
      ∧ r.2.sem = fun _ => 0)

def quiescent_KernelSb [hKernelSb : Cert.KernelSb.Facts] : Prop :=
  ∀ (m : (ℓ : Loc Cert.KernelSb.nD Cert.KernelSb.τ Cert.KernelSb.sig) → Buf (Elt Bits) ℓ) (g : Dev Cert.KernelSb.nD → PrngReg), Pre_KernelSb m →
    θ_run (Cert.KernelSb.defs (F := Bits)) (onTc (τ := Cert.KernelSb.τ) (Cert.KernelSb.main (F := Bits))) ⟨m, fun _ => 0, g⟩ (fun r => (∀ c : Dev Cert.KernelSb.nD,
      r.2.mem ((c.tc : Thread Cert.KernelSb.nD Cert.KernelSb.τ).loc Cert.KernelSb.main_arg0) = m ((c.tc : Thread Cert.KernelSb.nD Cert.KernelSb.τ).loc Cert.KernelSb.main_arg0)
      ∧ r.2.mem ((c.tc : Thread Cert.KernelSb.nD Cert.KernelSb.τ).loc Cert.KernelSb.main_arg1) = m ((c.tc : Thread Cert.KernelSb.nD Cert.KernelSb.τ).loc Cert.KernelSb.main_arg1)
      ∧ r.2.mem ((c.tc : Thread Cert.KernelSb.nD Cert.KernelSb.τ).loc Cert.KernelSb.main_arg2) = m ((c.tc : Thread Cert.KernelSb.nD Cert.KernelSb.τ).loc Cert.KernelSb.main_arg2)
      ∧ r.2.mem ((c.tc : Thread Cert.KernelSb.nD Cert.KernelSb.τ).loc Cert.KernelSb.main_arg3) = m ((c.tc : Thread Cert.KernelSb.nD Cert.KernelSb.τ).loc Cert.KernelSb.main_arg3))
      ∧ r.2.sem = fun _ => 0)

def quiescent_KernelSbIdeal [hKernelSbIdeal : Cert.KernelSbIdeal.Facts] : Prop :=
  ∀ (m : (ℓ : Loc Cert.KernelSbIdeal.nD Cert.KernelSbIdeal.τ Cert.KernelSbIdeal.sig) → Buf (Elt Ideal) ℓ) (g : Dev Cert.KernelSbIdeal.nD → PrngReg), Pre_KernelSbIdeal m →
    θ_run (Cert.KernelSbIdeal.defs (F := Ideal)) (onTc (τ := Cert.KernelSbIdeal.τ) (Cert.KernelSbIdeal.main (F := Ideal))) ⟨m, fun _ => 0, g⟩ (fun r => (∀ c : Dev Cert.KernelSbIdeal.nD,
      r.2.mem ((c.tc : Thread Cert.KernelSbIdeal.nD Cert.KernelSbIdeal.τ).loc Cert.KernelSbIdeal.main_arg0) = m ((c.tc : Thread Cert.KernelSbIdeal.nD Cert.KernelSbIdeal.τ).loc Cert.KernelSbIdeal.main_arg0)
      ∧ r.2.mem ((c.tc : Thread Cert.KernelSbIdeal.nD Cert.KernelSbIdeal.τ).loc Cert.KernelSbIdeal.main_arg1) = m ((c.tc : Thread Cert.KernelSbIdeal.nD Cert.KernelSbIdeal.τ).loc Cert.KernelSbIdeal.main_arg1)
      ∧ r.2.mem ((c.tc : Thread Cert.KernelSbIdeal.nD Cert.KernelSbIdeal.τ).loc Cert.KernelSbIdeal.main_arg2) = m ((c.tc : Thread Cert.KernelSbIdeal.nD Cert.KernelSbIdeal.τ).loc Cert.KernelSbIdeal.main_arg2)
      ∧ r.2.mem ((c.tc : Thread Cert.KernelSbIdeal.nD Cert.KernelSbIdeal.τ).loc Cert.KernelSbIdeal.main_arg3) = m ((c.tc : Thread Cert.KernelSbIdeal.nD Cert.KernelSbIdeal.τ).loc Cert.KernelSbIdeal.main_arg3))
      ∧ r.2.sem = fun _ => 0)

def quiescent_KernelSbIdeal_pre_finite_sb [hKernelSbIdeal : Cert.KernelSbIdeal.Facts] [hPre_finite_sb : Cert.Pre_finite_sb.Facts] : Prop :=
  ∀ (m : (ℓ : Loc Cert.KernelSbIdeal.nD Cert.KernelSbIdeal.τ Cert.KernelSbIdeal.sig) → Buf (Elt Ideal) ℓ) (g : Dev Cert.KernelSbIdeal.nD → PrngReg), Pre_KernelSbIdeal_finite_sb m →
    θ_run (Cert.KernelSbIdeal.defs (F := Ideal)) (onTc (τ := Cert.KernelSbIdeal.τ) (Cert.KernelSbIdeal.main (F := Ideal))) ⟨m, fun _ => 0, g⟩ (fun r => (∀ c : Dev Cert.KernelSbIdeal.nD,
      r.2.mem ((c.tc : Thread Cert.KernelSbIdeal.nD Cert.KernelSbIdeal.τ).loc Cert.KernelSbIdeal.main_arg0) = m ((c.tc : Thread Cert.KernelSbIdeal.nD Cert.KernelSbIdeal.τ).loc Cert.KernelSbIdeal.main_arg0)
      ∧ r.2.mem ((c.tc : Thread Cert.KernelSbIdeal.nD Cert.KernelSbIdeal.τ).loc Cert.KernelSbIdeal.main_arg1) = m ((c.tc : Thread Cert.KernelSbIdeal.nD Cert.KernelSbIdeal.τ).loc Cert.KernelSbIdeal.main_arg1)
      ∧ r.2.mem ((c.tc : Thread Cert.KernelSbIdeal.nD Cert.KernelSbIdeal.τ).loc Cert.KernelSbIdeal.main_arg2) = m ((c.tc : Thread Cert.KernelSbIdeal.nD Cert.KernelSbIdeal.τ).loc Cert.KernelSbIdeal.main_arg2)
      ∧ r.2.mem ((c.tc : Thread Cert.KernelSbIdeal.nD Cert.KernelSbIdeal.τ).loc Cert.KernelSbIdeal.main_arg3) = m ((c.tc : Thread Cert.KernelSbIdeal.nD Cert.KernelSbIdeal.τ).loc Cert.KernelSbIdeal.main_arg3))
      ∧ r.2.sem = fun _ => 0)

def quiescent_ReferenceSbIdeal [hReferenceSbIdeal : Cert.ReferenceSbIdeal.Facts] : Prop :=
  ∀ (m : (ℓ : Loc Cert.ReferenceSbIdeal.nD Cert.ReferenceSbIdeal.τ Cert.ReferenceSbIdeal.sig) → Buf (Elt Ideal) ℓ) (g : Dev Cert.ReferenceSbIdeal.nD → PrngReg), Pre_ReferenceSbIdeal m →
    θ_run (Cert.ReferenceSbIdeal.defs (F := Ideal)) (onTc (τ := Cert.ReferenceSbIdeal.τ) (Cert.ReferenceSbIdeal.main (F := Ideal))) ⟨m, fun _ => 0, g⟩ (fun r => (∀ c : Dev Cert.ReferenceSbIdeal.nD,
      r.2.mem ((c.tc : Thread Cert.ReferenceSbIdeal.nD Cert.ReferenceSbIdeal.τ).loc Cert.ReferenceSbIdeal.main_arg0) = m ((c.tc : Thread Cert.ReferenceSbIdeal.nD Cert.ReferenceSbIdeal.τ).loc Cert.ReferenceSbIdeal.main_arg0)
      ∧ r.2.mem ((c.tc : Thread Cert.ReferenceSbIdeal.nD Cert.ReferenceSbIdeal.τ).loc Cert.ReferenceSbIdeal.main_arg1) = m ((c.tc : Thread Cert.ReferenceSbIdeal.nD Cert.ReferenceSbIdeal.τ).loc Cert.ReferenceSbIdeal.main_arg1)
      ∧ r.2.mem ((c.tc : Thread Cert.ReferenceSbIdeal.nD Cert.ReferenceSbIdeal.τ).loc Cert.ReferenceSbIdeal.main_arg2) = m ((c.tc : Thread Cert.ReferenceSbIdeal.nD Cert.ReferenceSbIdeal.τ).loc Cert.ReferenceSbIdeal.main_arg2)
      ∧ r.2.mem ((c.tc : Thread Cert.ReferenceSbIdeal.nD Cert.ReferenceSbIdeal.τ).loc Cert.ReferenceSbIdeal.main_arg3) = m ((c.tc : Thread Cert.ReferenceSbIdeal.nD Cert.ReferenceSbIdeal.τ).loc Cert.ReferenceSbIdeal.main_arg3))
      ∧ r.2.sem = fun _ => 0)

def quiescent_ReferenceSbIdeal_pre_finite_sb [hReferenceSbIdeal : Cert.ReferenceSbIdeal.Facts] [hPre_finite_sb : Cert.Pre_finite_sb.Facts] : Prop :=
  ∀ (m : (ℓ : Loc Cert.ReferenceSbIdeal.nD Cert.ReferenceSbIdeal.τ Cert.ReferenceSbIdeal.sig) → Buf (Elt Ideal) ℓ) (g : Dev Cert.ReferenceSbIdeal.nD → PrngReg), Pre_ReferenceSbIdeal_finite_sb m →
    θ_run (Cert.ReferenceSbIdeal.defs (F := Ideal)) (onTc (τ := Cert.ReferenceSbIdeal.τ) (Cert.ReferenceSbIdeal.main (F := Ideal))) ⟨m, fun _ => 0, g⟩ (fun r => (∀ c : Dev Cert.ReferenceSbIdeal.nD,
      r.2.mem ((c.tc : Thread Cert.ReferenceSbIdeal.nD Cert.ReferenceSbIdeal.τ).loc Cert.ReferenceSbIdeal.main_arg0) = m ((c.tc : Thread Cert.ReferenceSbIdeal.nD Cert.ReferenceSbIdeal.τ).loc Cert.ReferenceSbIdeal.main_arg0)
      ∧ r.2.mem ((c.tc : Thread Cert.ReferenceSbIdeal.nD Cert.ReferenceSbIdeal.τ).loc Cert.ReferenceSbIdeal.main_arg1) = m ((c.tc : Thread Cert.ReferenceSbIdeal.nD Cert.ReferenceSbIdeal.τ).loc Cert.ReferenceSbIdeal.main_arg1)
      ∧ r.2.mem ((c.tc : Thread Cert.ReferenceSbIdeal.nD Cert.ReferenceSbIdeal.τ).loc Cert.ReferenceSbIdeal.main_arg2) = m ((c.tc : Thread Cert.ReferenceSbIdeal.nD Cert.ReferenceSbIdeal.τ).loc Cert.ReferenceSbIdeal.main_arg2)
      ∧ r.2.mem ((c.tc : Thread Cert.ReferenceSbIdeal.nD Cert.ReferenceSbIdeal.τ).loc Cert.ReferenceSbIdeal.main_arg3) = m ((c.tc : Thread Cert.ReferenceSbIdeal.nD Cert.ReferenceSbIdeal.τ).loc Cert.ReferenceSbIdeal.main_arg3))
      ∧ r.2.sem = fun _ => 0)

def quiescent_KernelFin [hKernelFin : Cert.KernelFin.Facts] : Prop :=
  ∀ (m : (ℓ : Loc Cert.KernelFin.nD Cert.KernelFin.τ Cert.KernelFin.sig) → Buf (Elt Bits) ℓ) (g : Dev Cert.KernelFin.nD → PrngReg), Pre_KernelFin m →
    θ_run (Cert.KernelFin.defs (F := Bits)) (onTc (τ := Cert.KernelFin.τ) (Cert.KernelFin.main (F := Bits))) ⟨m, fun _ => 0, g⟩ (fun r => (∀ c : Dev Cert.KernelFin.nD,
      r.2.mem ((c.tc : Thread Cert.KernelFin.nD Cert.KernelFin.τ).loc Cert.KernelFin.main_arg0) = m ((c.tc : Thread Cert.KernelFin.nD Cert.KernelFin.τ).loc Cert.KernelFin.main_arg0)
      ∧ r.2.mem ((c.tc : Thread Cert.KernelFin.nD Cert.KernelFin.τ).loc Cert.KernelFin.main_arg1) = m ((c.tc : Thread Cert.KernelFin.nD Cert.KernelFin.τ).loc Cert.KernelFin.main_arg1)
      ∧ r.2.mem ((c.tc : Thread Cert.KernelFin.nD Cert.KernelFin.τ).loc Cert.KernelFin.main_arg2) = m ((c.tc : Thread Cert.KernelFin.nD Cert.KernelFin.τ).loc Cert.KernelFin.main_arg2)
      ∧ r.2.mem ((c.tc : Thread Cert.KernelFin.nD Cert.KernelFin.τ).loc Cert.KernelFin.main_arg3) = m ((c.tc : Thread Cert.KernelFin.nD Cert.KernelFin.τ).loc Cert.KernelFin.main_arg3)
      ∧ r.2.mem ((c.tc : Thread Cert.KernelFin.nD Cert.KernelFin.τ).loc Cert.KernelFin.main_arg4) = m ((c.tc : Thread Cert.KernelFin.nD Cert.KernelFin.τ).loc Cert.KernelFin.main_arg4))
      ∧ r.2.sem = fun _ => 0)

def quiescent_KernelFinIdeal [hKernelFinIdeal : Cert.KernelFinIdeal.Facts] : Prop :=
  ∀ (m : (ℓ : Loc Cert.KernelFinIdeal.nD Cert.KernelFinIdeal.τ Cert.KernelFinIdeal.sig) → Buf (Elt Ideal) ℓ) (g : Dev Cert.KernelFinIdeal.nD → PrngReg), Pre_KernelFinIdeal m →
    θ_run (Cert.KernelFinIdeal.defs (F := Ideal)) (onTc (τ := Cert.KernelFinIdeal.τ) (Cert.KernelFinIdeal.main (F := Ideal))) ⟨m, fun _ => 0, g⟩ (fun r => (∀ c : Dev Cert.KernelFinIdeal.nD,
      r.2.mem ((c.tc : Thread Cert.KernelFinIdeal.nD Cert.KernelFinIdeal.τ).loc Cert.KernelFinIdeal.main_arg0) = m ((c.tc : Thread Cert.KernelFinIdeal.nD Cert.KernelFinIdeal.τ).loc Cert.KernelFinIdeal.main_arg0)
      ∧ r.2.mem ((c.tc : Thread Cert.KernelFinIdeal.nD Cert.KernelFinIdeal.τ).loc Cert.KernelFinIdeal.main_arg1) = m ((c.tc : Thread Cert.KernelFinIdeal.nD Cert.KernelFinIdeal.τ).loc Cert.KernelFinIdeal.main_arg1)
      ∧ r.2.mem ((c.tc : Thread Cert.KernelFinIdeal.nD Cert.KernelFinIdeal.τ).loc Cert.KernelFinIdeal.main_arg2) = m ((c.tc : Thread Cert.KernelFinIdeal.nD Cert.KernelFinIdeal.τ).loc Cert.KernelFinIdeal.main_arg2)
      ∧ r.2.mem ((c.tc : Thread Cert.KernelFinIdeal.nD Cert.KernelFinIdeal.τ).loc Cert.KernelFinIdeal.main_arg3) = m ((c.tc : Thread Cert.KernelFinIdeal.nD Cert.KernelFinIdeal.τ).loc Cert.KernelFinIdeal.main_arg3)
      ∧ r.2.mem ((c.tc : Thread Cert.KernelFinIdeal.nD Cert.KernelFinIdeal.τ).loc Cert.KernelFinIdeal.main_arg4) = m ((c.tc : Thread Cert.KernelFinIdeal.nD Cert.KernelFinIdeal.τ).loc Cert.KernelFinIdeal.main_arg4))
      ∧ r.2.sem = fun _ => 0)

def quiescent_KernelFinIdeal_pre_finite_in [hKernelFinIdeal : Cert.KernelFinIdeal.Facts] [hPre_finite_in : Cert.Pre_finite_in.Facts] : Prop :=
  ∀ (m : (ℓ : Loc Cert.KernelFinIdeal.nD Cert.KernelFinIdeal.τ Cert.KernelFinIdeal.sig) → Buf (Elt Ideal) ℓ) (g : Dev Cert.KernelFinIdeal.nD → PrngReg), Pre_KernelFinIdeal_finite_in m →
    θ_run (Cert.KernelFinIdeal.defs (F := Ideal)) (onTc (τ := Cert.KernelFinIdeal.τ) (Cert.KernelFinIdeal.main (F := Ideal))) ⟨m, fun _ => 0, g⟩ (fun r => (∀ c : Dev Cert.KernelFinIdeal.nD,
      r.2.mem ((c.tc : Thread Cert.KernelFinIdeal.nD Cert.KernelFinIdeal.τ).loc Cert.KernelFinIdeal.main_arg0) = m ((c.tc : Thread Cert.KernelFinIdeal.nD Cert.KernelFinIdeal.τ).loc Cert.KernelFinIdeal.main_arg0)
      ∧ r.2.mem ((c.tc : Thread Cert.KernelFinIdeal.nD Cert.KernelFinIdeal.τ).loc Cert.KernelFinIdeal.main_arg1) = m ((c.tc : Thread Cert.KernelFinIdeal.nD Cert.KernelFinIdeal.τ).loc Cert.KernelFinIdeal.main_arg1)
      ∧ r.2.mem ((c.tc : Thread Cert.KernelFinIdeal.nD Cert.KernelFinIdeal.τ).loc Cert.KernelFinIdeal.main_arg2) = m ((c.tc : Thread Cert.KernelFinIdeal.nD Cert.KernelFinIdeal.τ).loc Cert.KernelFinIdeal.main_arg2)
      ∧ r.2.mem ((c.tc : Thread Cert.KernelFinIdeal.nD Cert.KernelFinIdeal.τ).loc Cert.KernelFinIdeal.main_arg3) = m ((c.tc : Thread Cert.KernelFinIdeal.nD Cert.KernelFinIdeal.τ).loc Cert.KernelFinIdeal.main_arg3)
      ∧ r.2.mem ((c.tc : Thread Cert.KernelFinIdeal.nD Cert.KernelFinIdeal.τ).loc Cert.KernelFinIdeal.main_arg4) = m ((c.tc : Thread Cert.KernelFinIdeal.nD Cert.KernelFinIdeal.τ).loc Cert.KernelFinIdeal.main_arg4))
      ∧ r.2.sem = fun _ => 0)

def quiescent_ReferenceFinIdeal [hReferenceFinIdeal : Cert.ReferenceFinIdeal.Facts] : Prop :=
  ∀ (m : (ℓ : Loc Cert.ReferenceFinIdeal.nD Cert.ReferenceFinIdeal.τ Cert.ReferenceFinIdeal.sig) → Buf (Elt Ideal) ℓ) (g : Dev Cert.ReferenceFinIdeal.nD → PrngReg), Pre_ReferenceFinIdeal m →
    θ_run (Cert.ReferenceFinIdeal.defs (F := Ideal)) (onTc (τ := Cert.ReferenceFinIdeal.τ) (Cert.ReferenceFinIdeal.main (F := Ideal))) ⟨m, fun _ => 0, g⟩ (fun r => (∀ c : Dev Cert.ReferenceFinIdeal.nD,
      r.2.mem ((c.tc : Thread Cert.ReferenceFinIdeal.nD Cert.ReferenceFinIdeal.τ).loc Cert.ReferenceFinIdeal.main_arg0) = m ((c.tc : Thread Cert.ReferenceFinIdeal.nD Cert.ReferenceFinIdeal.τ).loc Cert.ReferenceFinIdeal.main_arg0)
      ∧ r.2.mem ((c.tc : Thread Cert.ReferenceFinIdeal.nD Cert.ReferenceFinIdeal.τ).loc Cert.ReferenceFinIdeal.main_arg1) = m ((c.tc : Thread Cert.ReferenceFinIdeal.nD Cert.ReferenceFinIdeal.τ).loc Cert.ReferenceFinIdeal.main_arg1)
      ∧ r.2.mem ((c.tc : Thread Cert.ReferenceFinIdeal.nD Cert.ReferenceFinIdeal.τ).loc Cert.ReferenceFinIdeal.main_arg2) = m ((c.tc : Thread Cert.ReferenceFinIdeal.nD Cert.ReferenceFinIdeal.τ).loc Cert.ReferenceFinIdeal.main_arg2)
      ∧ r.2.mem ((c.tc : Thread Cert.ReferenceFinIdeal.nD Cert.ReferenceFinIdeal.τ).loc Cert.ReferenceFinIdeal.main_arg3) = m ((c.tc : Thread Cert.ReferenceFinIdeal.nD Cert.ReferenceFinIdeal.τ).loc Cert.ReferenceFinIdeal.main_arg3)
      ∧ r.2.mem ((c.tc : Thread Cert.ReferenceFinIdeal.nD Cert.ReferenceFinIdeal.τ).loc Cert.ReferenceFinIdeal.main_arg4) = m ((c.tc : Thread Cert.ReferenceFinIdeal.nD Cert.ReferenceFinIdeal.τ).loc Cert.ReferenceFinIdeal.main_arg4))
      ∧ r.2.sem = fun _ => 0)

def quiescent_ReferenceFinIdeal_pre_finite_in [hReferenceFinIdeal : Cert.ReferenceFinIdeal.Facts] [hPre_finite_in : Cert.Pre_finite_in.Facts] : Prop :=
  ∀ (m : (ℓ : Loc Cert.ReferenceFinIdeal.nD Cert.ReferenceFinIdeal.τ Cert.ReferenceFinIdeal.sig) → Buf (Elt Ideal) ℓ) (g : Dev Cert.ReferenceFinIdeal.nD → PrngReg), Pre_ReferenceFinIdeal_finite_in m →
    θ_run (Cert.ReferenceFinIdeal.defs (F := Ideal)) (onTc (τ := Cert.ReferenceFinIdeal.τ) (Cert.ReferenceFinIdeal.main (F := Ideal))) ⟨m, fun _ => 0, g⟩ (fun r => (∀ c : Dev Cert.ReferenceFinIdeal.nD,
      r.2.mem ((c.tc : Thread Cert.ReferenceFinIdeal.nD Cert.ReferenceFinIdeal.τ).loc Cert.ReferenceFinIdeal.main_arg0) = m ((c.tc : Thread Cert.ReferenceFinIdeal.nD Cert.ReferenceFinIdeal.τ).loc Cert.ReferenceFinIdeal.main_arg0)
      ∧ r.2.mem ((c.tc : Thread Cert.ReferenceFinIdeal.nD Cert.ReferenceFinIdeal.τ).loc Cert.ReferenceFinIdeal.main_arg1) = m ((c.tc : Thread Cert.ReferenceFinIdeal.nD Cert.ReferenceFinIdeal.τ).loc Cert.ReferenceFinIdeal.main_arg1)
      ∧ r.2.mem ((c.tc : Thread Cert.ReferenceFinIdeal.nD Cert.ReferenceFinIdeal.τ).loc Cert.ReferenceFinIdeal.main_arg2) = m ((c.tc : Thread Cert.ReferenceFinIdeal.nD Cert.ReferenceFinIdeal.τ).loc Cert.ReferenceFinIdeal.main_arg2)
      ∧ r.2.mem ((c.tc : Thread Cert.ReferenceFinIdeal.nD Cert.ReferenceFinIdeal.τ).loc Cert.ReferenceFinIdeal.main_arg3) = m ((c.tc : Thread Cert.ReferenceFinIdeal.nD Cert.ReferenceFinIdeal.τ).loc Cert.ReferenceFinIdeal.main_arg3)
      ∧ r.2.mem ((c.tc : Thread Cert.ReferenceFinIdeal.nD Cert.ReferenceFinIdeal.τ).loc Cert.ReferenceFinIdeal.main_arg4) = m ((c.tc : Thread Cert.ReferenceFinIdeal.nD Cert.ReferenceFinIdeal.τ).loc Cert.ReferenceFinIdeal.main_arg4))
      ∧ r.2.sem = fun _ => 0)

def quiescent_KernelLast [hKernelLast : Cert.KernelLast.Facts] : Prop :=
  ∀ (m : (ℓ : Loc Cert.KernelLast.nD Cert.KernelLast.τ Cert.KernelLast.sig) → Buf (Elt Bits) ℓ) (g : Dev Cert.KernelLast.nD → PrngReg), Pre_KernelLast m →
    θ_run (Cert.KernelLast.defs (F := Bits)) (onTc (τ := Cert.KernelLast.τ) (Cert.KernelLast.main (F := Bits))) ⟨m, fun _ => 0, g⟩ (fun r => (∀ c : Dev Cert.KernelLast.nD,
      r.2.mem ((c.tc : Thread Cert.KernelLast.nD Cert.KernelLast.τ).loc Cert.KernelLast.main_arg0) = m ((c.tc : Thread Cert.KernelLast.nD Cert.KernelLast.τ).loc Cert.KernelLast.main_arg0)
      ∧ r.2.mem ((c.tc : Thread Cert.KernelLast.nD Cert.KernelLast.τ).loc Cert.KernelLast.main_arg1) = m ((c.tc : Thread Cert.KernelLast.nD Cert.KernelLast.τ).loc Cert.KernelLast.main_arg1)
      ∧ r.2.mem ((c.tc : Thread Cert.KernelLast.nD Cert.KernelLast.τ).loc Cert.KernelLast.main_arg2) = m ((c.tc : Thread Cert.KernelLast.nD Cert.KernelLast.τ).loc Cert.KernelLast.main_arg2)
      ∧ r.2.mem ((c.tc : Thread Cert.KernelLast.nD Cert.KernelLast.τ).loc Cert.KernelLast.main_arg3) = m ((c.tc : Thread Cert.KernelLast.nD Cert.KernelLast.τ).loc Cert.KernelLast.main_arg3)
      ∧ r.2.mem ((c.tc : Thread Cert.KernelLast.nD Cert.KernelLast.τ).loc Cert.KernelLast.main_arg4) = m ((c.tc : Thread Cert.KernelLast.nD Cert.KernelLast.τ).loc Cert.KernelLast.main_arg4)
      ∧ r.2.mem ((c.tc : Thread Cert.KernelLast.nD Cert.KernelLast.τ).loc Cert.KernelLast.main_arg5) = m ((c.tc : Thread Cert.KernelLast.nD Cert.KernelLast.τ).loc Cert.KernelLast.main_arg5))
      ∧ r.2.sem = fun _ => 0)

def quiescent_KernelLastIdeal [hKernelLastIdeal : Cert.KernelLastIdeal.Facts] : Prop :=
  ∀ (m : (ℓ : Loc Cert.KernelLastIdeal.nD Cert.KernelLastIdeal.τ Cert.KernelLastIdeal.sig) → Buf (Elt Ideal) ℓ) (g : Dev Cert.KernelLastIdeal.nD → PrngReg), Pre_KernelLastIdeal m →
    θ_run (Cert.KernelLastIdeal.defs (F := Ideal)) (onTc (τ := Cert.KernelLastIdeal.τ) (Cert.KernelLastIdeal.main (F := Ideal))) ⟨m, fun _ => 0, g⟩ (fun r => (∀ c : Dev Cert.KernelLastIdeal.nD,
      r.2.mem ((c.tc : Thread Cert.KernelLastIdeal.nD Cert.KernelLastIdeal.τ).loc Cert.KernelLastIdeal.main_arg0) = m ((c.tc : Thread Cert.KernelLastIdeal.nD Cert.KernelLastIdeal.τ).loc Cert.KernelLastIdeal.main_arg0)
      ∧ r.2.mem ((c.tc : Thread Cert.KernelLastIdeal.nD Cert.KernelLastIdeal.τ).loc Cert.KernelLastIdeal.main_arg1) = m ((c.tc : Thread Cert.KernelLastIdeal.nD Cert.KernelLastIdeal.τ).loc Cert.KernelLastIdeal.main_arg1)
      ∧ r.2.mem ((c.tc : Thread Cert.KernelLastIdeal.nD Cert.KernelLastIdeal.τ).loc Cert.KernelLastIdeal.main_arg2) = m ((c.tc : Thread Cert.KernelLastIdeal.nD Cert.KernelLastIdeal.τ).loc Cert.KernelLastIdeal.main_arg2)
      ∧ r.2.mem ((c.tc : Thread Cert.KernelLastIdeal.nD Cert.KernelLastIdeal.τ).loc Cert.KernelLastIdeal.main_arg3) = m ((c.tc : Thread Cert.KernelLastIdeal.nD Cert.KernelLastIdeal.τ).loc Cert.KernelLastIdeal.main_arg3)
      ∧ r.2.mem ((c.tc : Thread Cert.KernelLastIdeal.nD Cert.KernelLastIdeal.τ).loc Cert.KernelLastIdeal.main_arg4) = m ((c.tc : Thread Cert.KernelLastIdeal.nD Cert.KernelLastIdeal.τ).loc Cert.KernelLastIdeal.main_arg4)
      ∧ r.2.mem ((c.tc : Thread Cert.KernelLastIdeal.nD Cert.KernelLastIdeal.τ).loc Cert.KernelLastIdeal.main_arg5) = m ((c.tc : Thread Cert.KernelLastIdeal.nD Cert.KernelLastIdeal.τ).loc Cert.KernelLastIdeal.main_arg5))
      ∧ r.2.sem = fun _ => 0)

def quiescent_KernelLastIdeal_pre_finite_last [hKernelLastIdeal : Cert.KernelLastIdeal.Facts] [hPre_finite_last : Cert.Pre_finite_last.Facts] : Prop :=
  ∀ (m : (ℓ : Loc Cert.KernelLastIdeal.nD Cert.KernelLastIdeal.τ Cert.KernelLastIdeal.sig) → Buf (Elt Ideal) ℓ) (g : Dev Cert.KernelLastIdeal.nD → PrngReg), Pre_KernelLastIdeal_finite_last m →
    θ_run (Cert.KernelLastIdeal.defs (F := Ideal)) (onTc (τ := Cert.KernelLastIdeal.τ) (Cert.KernelLastIdeal.main (F := Ideal))) ⟨m, fun _ => 0, g⟩ (fun r => (∀ c : Dev Cert.KernelLastIdeal.nD,
      r.2.mem ((c.tc : Thread Cert.KernelLastIdeal.nD Cert.KernelLastIdeal.τ).loc Cert.KernelLastIdeal.main_arg0) = m ((c.tc : Thread Cert.KernelLastIdeal.nD Cert.KernelLastIdeal.τ).loc Cert.KernelLastIdeal.main_arg0)
      ∧ r.2.mem ((c.tc : Thread Cert.KernelLastIdeal.nD Cert.KernelLastIdeal.τ).loc Cert.KernelLastIdeal.main_arg1) = m ((c.tc : Thread Cert.KernelLastIdeal.nD Cert.KernelLastIdeal.τ).loc Cert.KernelLastIdeal.main_arg1)
      ∧ r.2.mem ((c.tc : Thread Cert.KernelLastIdeal.nD Cert.KernelLastIdeal.τ).loc Cert.KernelLastIdeal.main_arg2) = m ((c.tc : Thread Cert.KernelLastIdeal.nD Cert.KernelLastIdeal.τ).loc Cert.KernelLastIdeal.main_arg2)
      ∧ r.2.mem ((c.tc : Thread Cert.KernelLastIdeal.nD Cert.KernelLastIdeal.τ).loc Cert.KernelLastIdeal.main_arg3) = m ((c.tc : Thread Cert.KernelLastIdeal.nD Cert.KernelLastIdeal.τ).loc Cert.KernelLastIdeal.main_arg3)
      ∧ r.2.mem ((c.tc : Thread Cert.KernelLastIdeal.nD Cert.KernelLastIdeal.τ).loc Cert.KernelLastIdeal.main_arg4) = m ((c.tc : Thread Cert.KernelLastIdeal.nD Cert.KernelLastIdeal.τ).loc Cert.KernelLastIdeal.main_arg4)
      ∧ r.2.mem ((c.tc : Thread Cert.KernelLastIdeal.nD Cert.KernelLastIdeal.τ).loc Cert.KernelLastIdeal.main_arg5) = m ((c.tc : Thread Cert.KernelLastIdeal.nD Cert.KernelLastIdeal.τ).loc Cert.KernelLastIdeal.main_arg5))
      ∧ r.2.sem = fun _ => 0)

def quiescent_ReferenceLastIdeal [hReferenceLastIdeal : Cert.ReferenceLastIdeal.Facts] : Prop :=
  ∀ (m : (ℓ : Loc Cert.ReferenceLastIdeal.nD Cert.ReferenceLastIdeal.τ Cert.ReferenceLastIdeal.sig) → Buf (Elt Ideal) ℓ) (g : Dev Cert.ReferenceLastIdeal.nD → PrngReg), Pre_ReferenceLastIdeal m →
    θ_run (Cert.ReferenceLastIdeal.defs (F := Ideal)) (onTc (τ := Cert.ReferenceLastIdeal.τ) (Cert.ReferenceLastIdeal.main (F := Ideal))) ⟨m, fun _ => 0, g⟩ (fun r => (∀ c : Dev Cert.ReferenceLastIdeal.nD,
      r.2.mem ((c.tc : Thread Cert.ReferenceLastIdeal.nD Cert.ReferenceLastIdeal.τ).loc Cert.ReferenceLastIdeal.main_arg0) = m ((c.tc : Thread Cert.ReferenceLastIdeal.nD Cert.ReferenceLastIdeal.τ).loc Cert.ReferenceLastIdeal.main_arg0)
      ∧ r.2.mem ((c.tc : Thread Cert.ReferenceLastIdeal.nD Cert.ReferenceLastIdeal.τ).loc Cert.ReferenceLastIdeal.main_arg1) = m ((c.tc : Thread Cert.ReferenceLastIdeal.nD Cert.ReferenceLastIdeal.τ).loc Cert.ReferenceLastIdeal.main_arg1)
      ∧ r.2.mem ((c.tc : Thread Cert.ReferenceLastIdeal.nD Cert.ReferenceLastIdeal.τ).loc Cert.ReferenceLastIdeal.main_arg2) = m ((c.tc : Thread Cert.ReferenceLastIdeal.nD Cert.ReferenceLastIdeal.τ).loc Cert.ReferenceLastIdeal.main_arg2)
      ∧ r.2.mem ((c.tc : Thread Cert.ReferenceLastIdeal.nD Cert.ReferenceLastIdeal.τ).loc Cert.ReferenceLastIdeal.main_arg3) = m ((c.tc : Thread Cert.ReferenceLastIdeal.nD Cert.ReferenceLastIdeal.τ).loc Cert.ReferenceLastIdeal.main_arg3)
      ∧ r.2.mem ((c.tc : Thread Cert.ReferenceLastIdeal.nD Cert.ReferenceLastIdeal.τ).loc Cert.ReferenceLastIdeal.main_arg4) = m ((c.tc : Thread Cert.ReferenceLastIdeal.nD Cert.ReferenceLastIdeal.τ).loc Cert.ReferenceLastIdeal.main_arg4)
      ∧ r.2.mem ((c.tc : Thread Cert.ReferenceLastIdeal.nD Cert.ReferenceLastIdeal.τ).loc Cert.ReferenceLastIdeal.main_arg5) = m ((c.tc : Thread Cert.ReferenceLastIdeal.nD Cert.ReferenceLastIdeal.τ).loc Cert.ReferenceLastIdeal.main_arg5))
      ∧ r.2.sem = fun _ => 0)

def quiescent_ReferenceLastIdeal_pre_finite_last [hReferenceLastIdeal : Cert.ReferenceLastIdeal.Facts] [hPre_finite_last : Cert.Pre_finite_last.Facts] : Prop :=
  ∀ (m : (ℓ : Loc Cert.ReferenceLastIdeal.nD Cert.ReferenceLastIdeal.τ Cert.ReferenceLastIdeal.sig) → Buf (Elt Ideal) ℓ) (g : Dev Cert.ReferenceLastIdeal.nD → PrngReg), Pre_ReferenceLastIdeal_finite_last m →
    θ_run (Cert.ReferenceLastIdeal.defs (F := Ideal)) (onTc (τ := Cert.ReferenceLastIdeal.τ) (Cert.ReferenceLastIdeal.main (F := Ideal))) ⟨m, fun _ => 0, g⟩ (fun r => (∀ c : Dev Cert.ReferenceLastIdeal.nD,
      r.2.mem ((c.tc : Thread Cert.ReferenceLastIdeal.nD Cert.ReferenceLastIdeal.τ).loc Cert.ReferenceLastIdeal.main_arg0) = m ((c.tc : Thread Cert.ReferenceLastIdeal.nD Cert.ReferenceLastIdeal.τ).loc Cert.ReferenceLastIdeal.main_arg0)
      ∧ r.2.mem ((c.tc : Thread Cert.ReferenceLastIdeal.nD Cert.ReferenceLastIdeal.τ).loc Cert.ReferenceLastIdeal.main_arg1) = m ((c.tc : Thread Cert.ReferenceLastIdeal.nD Cert.ReferenceLastIdeal.τ).loc Cert.ReferenceLastIdeal.main_arg1)
      ∧ r.2.mem ((c.tc : Thread Cert.ReferenceLastIdeal.nD Cert.ReferenceLastIdeal.τ).loc Cert.ReferenceLastIdeal.main_arg2) = m ((c.tc : Thread Cert.ReferenceLastIdeal.nD Cert.ReferenceLastIdeal.τ).loc Cert.ReferenceLastIdeal.main_arg2)
      ∧ r.2.mem ((c.tc : Thread Cert.ReferenceLastIdeal.nD Cert.ReferenceLastIdeal.τ).loc Cert.ReferenceLastIdeal.main_arg3) = m ((c.tc : Thread Cert.ReferenceLastIdeal.nD Cert.ReferenceLastIdeal.τ).loc Cert.ReferenceLastIdeal.main_arg3)
      ∧ r.2.mem ((c.tc : Thread Cert.ReferenceLastIdeal.nD Cert.ReferenceLastIdeal.τ).loc Cert.ReferenceLastIdeal.main_arg4) = m ((c.tc : Thread Cert.ReferenceLastIdeal.nD Cert.ReferenceLastIdeal.τ).loc Cert.ReferenceLastIdeal.main_arg4)
      ∧ r.2.mem ((c.tc : Thread Cert.ReferenceLastIdeal.nD Cert.ReferenceLastIdeal.τ).loc Cert.ReferenceLastIdeal.main_arg5) = m ((c.tc : Thread Cert.ReferenceLastIdeal.nD Cert.ReferenceLastIdeal.τ).loc Cert.ReferenceLastIdeal.main_arg5))
      ∧ r.2.sem = fun _ => 0)

def quiescent_KernelMin [hKernelMin : Cert.KernelMin.Facts] : Prop :=
  ∀ (m : (ℓ : Loc Cert.KernelMin.nD Cert.KernelMin.τ Cert.KernelMin.sig) → Buf (Elt Bits) ℓ) (g : Dev Cert.KernelMin.nD → PrngReg), Pre_KernelMin m →
    θ_run (Cert.KernelMin.defs (F := Bits)) (onTc (τ := Cert.KernelMin.τ) (Cert.KernelMin.main (F := Bits))) ⟨m, fun _ => 0, g⟩ (fun r => (∀ c : Dev Cert.KernelMin.nD,
      r.2.mem ((c.tc : Thread Cert.KernelMin.nD Cert.KernelMin.τ).loc Cert.KernelMin.main_arg0) = m ((c.tc : Thread Cert.KernelMin.nD Cert.KernelMin.τ).loc Cert.KernelMin.main_arg0)
      ∧ r.2.mem ((c.tc : Thread Cert.KernelMin.nD Cert.KernelMin.τ).loc Cert.KernelMin.main_arg1) = m ((c.tc : Thread Cert.KernelMin.nD Cert.KernelMin.τ).loc Cert.KernelMin.main_arg1)
      ∧ r.2.mem ((c.tc : Thread Cert.KernelMin.nD Cert.KernelMin.τ).loc Cert.KernelMin.main_arg2) = m ((c.tc : Thread Cert.KernelMin.nD Cert.KernelMin.τ).loc Cert.KernelMin.main_arg2)
      ∧ r.2.mem ((c.tc : Thread Cert.KernelMin.nD Cert.KernelMin.τ).loc Cert.KernelMin.main_arg3) = m ((c.tc : Thread Cert.KernelMin.nD Cert.KernelMin.τ).loc Cert.KernelMin.main_arg3)
      ∧ r.2.mem ((c.tc : Thread Cert.KernelMin.nD Cert.KernelMin.τ).loc Cert.KernelMin.main_arg4) = m ((c.tc : Thread Cert.KernelMin.nD Cert.KernelMin.τ).loc Cert.KernelMin.main_arg4))
      ∧ r.2.sem = fun _ => 0)

def quiescent_KernelMinIdeal [hKernelMinIdeal : Cert.KernelMinIdeal.Facts] : Prop :=
  ∀ (m : (ℓ : Loc Cert.KernelMinIdeal.nD Cert.KernelMinIdeal.τ Cert.KernelMinIdeal.sig) → Buf (Elt Ideal) ℓ) (g : Dev Cert.KernelMinIdeal.nD → PrngReg), Pre_KernelMinIdeal m →
    θ_run (Cert.KernelMinIdeal.defs (F := Ideal)) (onTc (τ := Cert.KernelMinIdeal.τ) (Cert.KernelMinIdeal.main (F := Ideal))) ⟨m, fun _ => 0, g⟩ (fun r => (∀ c : Dev Cert.KernelMinIdeal.nD,
      r.2.mem ((c.tc : Thread Cert.KernelMinIdeal.nD Cert.KernelMinIdeal.τ).loc Cert.KernelMinIdeal.main_arg0) = m ((c.tc : Thread Cert.KernelMinIdeal.nD Cert.KernelMinIdeal.τ).loc Cert.KernelMinIdeal.main_arg0)
      ∧ r.2.mem ((c.tc : Thread Cert.KernelMinIdeal.nD Cert.KernelMinIdeal.τ).loc Cert.KernelMinIdeal.main_arg1) = m ((c.tc : Thread Cert.KernelMinIdeal.nD Cert.KernelMinIdeal.τ).loc Cert.KernelMinIdeal.main_arg1)
      ∧ r.2.mem ((c.tc : Thread Cert.KernelMinIdeal.nD Cert.KernelMinIdeal.τ).loc Cert.KernelMinIdeal.main_arg2) = m ((c.tc : Thread Cert.KernelMinIdeal.nD Cert.KernelMinIdeal.τ).loc Cert.KernelMinIdeal.main_arg2)
      ∧ r.2.mem ((c.tc : Thread Cert.KernelMinIdeal.nD Cert.KernelMinIdeal.τ).loc Cert.KernelMinIdeal.main_arg3) = m ((c.tc : Thread Cert.KernelMinIdeal.nD Cert.KernelMinIdeal.τ).loc Cert.KernelMinIdeal.main_arg3)
      ∧ r.2.mem ((c.tc : Thread Cert.KernelMinIdeal.nD Cert.KernelMinIdeal.τ).loc Cert.KernelMinIdeal.main_arg4) = m ((c.tc : Thread Cert.KernelMinIdeal.nD Cert.KernelMinIdeal.τ).loc Cert.KernelMinIdeal.main_arg4))
      ∧ r.2.sem = fun _ => 0)

def quiescent_KernelMinIdeal_pre_finite_min [hKernelMinIdeal : Cert.KernelMinIdeal.Facts] [hPre_finite_min : Cert.Pre_finite_min.Facts] : Prop :=
  ∀ (m : (ℓ : Loc Cert.KernelMinIdeal.nD Cert.KernelMinIdeal.τ Cert.KernelMinIdeal.sig) → Buf (Elt Ideal) ℓ) (g : Dev Cert.KernelMinIdeal.nD → PrngReg), Pre_KernelMinIdeal_finite_min m →
    θ_run (Cert.KernelMinIdeal.defs (F := Ideal)) (onTc (τ := Cert.KernelMinIdeal.τ) (Cert.KernelMinIdeal.main (F := Ideal))) ⟨m, fun _ => 0, g⟩ (fun r => (∀ c : Dev Cert.KernelMinIdeal.nD,
      r.2.mem ((c.tc : Thread Cert.KernelMinIdeal.nD Cert.KernelMinIdeal.τ).loc Cert.KernelMinIdeal.main_arg0) = m ((c.tc : Thread Cert.KernelMinIdeal.nD Cert.KernelMinIdeal.τ).loc Cert.KernelMinIdeal.main_arg0)
      ∧ r.2.mem ((c.tc : Thread Cert.KernelMinIdeal.nD Cert.KernelMinIdeal.τ).loc Cert.KernelMinIdeal.main_arg1) = m ((c.tc : Thread Cert.KernelMinIdeal.nD Cert.KernelMinIdeal.τ).loc Cert.KernelMinIdeal.main_arg1)
      ∧ r.2.mem ((c.tc : Thread Cert.KernelMinIdeal.nD Cert.KernelMinIdeal.τ).loc Cert.KernelMinIdeal.main_arg2) = m ((c.tc : Thread Cert.KernelMinIdeal.nD Cert.KernelMinIdeal.τ).loc Cert.KernelMinIdeal.main_arg2)
      ∧ r.2.mem ((c.tc : Thread Cert.KernelMinIdeal.nD Cert.KernelMinIdeal.τ).loc Cert.KernelMinIdeal.main_arg3) = m ((c.tc : Thread Cert.KernelMinIdeal.nD Cert.KernelMinIdeal.τ).loc Cert.KernelMinIdeal.main_arg3)
      ∧ r.2.mem ((c.tc : Thread Cert.KernelMinIdeal.nD Cert.KernelMinIdeal.τ).loc Cert.KernelMinIdeal.main_arg4) = m ((c.tc : Thread Cert.KernelMinIdeal.nD Cert.KernelMinIdeal.τ).loc Cert.KernelMinIdeal.main_arg4))
      ∧ r.2.sem = fun _ => 0)

def quiescent_ReferenceMinIdeal [hReferenceMinIdeal : Cert.ReferenceMinIdeal.Facts] : Prop :=
  ∀ (m : (ℓ : Loc Cert.ReferenceMinIdeal.nD Cert.ReferenceMinIdeal.τ Cert.ReferenceMinIdeal.sig) → Buf (Elt Ideal) ℓ) (g : Dev Cert.ReferenceMinIdeal.nD → PrngReg), Pre_ReferenceMinIdeal m →
    θ_run (Cert.ReferenceMinIdeal.defs (F := Ideal)) (onTc (τ := Cert.ReferenceMinIdeal.τ) (Cert.ReferenceMinIdeal.main (F := Ideal))) ⟨m, fun _ => 0, g⟩ (fun r => (∀ c : Dev Cert.ReferenceMinIdeal.nD,
      r.2.mem ((c.tc : Thread Cert.ReferenceMinIdeal.nD Cert.ReferenceMinIdeal.τ).loc Cert.ReferenceMinIdeal.main_arg0) = m ((c.tc : Thread Cert.ReferenceMinIdeal.nD Cert.ReferenceMinIdeal.τ).loc Cert.ReferenceMinIdeal.main_arg0)
      ∧ r.2.mem ((c.tc : Thread Cert.ReferenceMinIdeal.nD Cert.ReferenceMinIdeal.τ).loc Cert.ReferenceMinIdeal.main_arg1) = m ((c.tc : Thread Cert.ReferenceMinIdeal.nD Cert.ReferenceMinIdeal.τ).loc Cert.ReferenceMinIdeal.main_arg1)
      ∧ r.2.mem ((c.tc : Thread Cert.ReferenceMinIdeal.nD Cert.ReferenceMinIdeal.τ).loc Cert.ReferenceMinIdeal.main_arg2) = m ((c.tc : Thread Cert.ReferenceMinIdeal.nD Cert.ReferenceMinIdeal.τ).loc Cert.ReferenceMinIdeal.main_arg2)
      ∧ r.2.mem ((c.tc : Thread Cert.ReferenceMinIdeal.nD Cert.ReferenceMinIdeal.τ).loc Cert.ReferenceMinIdeal.main_arg3) = m ((c.tc : Thread Cert.ReferenceMinIdeal.nD Cert.ReferenceMinIdeal.τ).loc Cert.ReferenceMinIdeal.main_arg3)
      ∧ r.2.mem ((c.tc : Thread Cert.ReferenceMinIdeal.nD Cert.ReferenceMinIdeal.τ).loc Cert.ReferenceMinIdeal.main_arg4) = m ((c.tc : Thread Cert.ReferenceMinIdeal.nD Cert.ReferenceMinIdeal.τ).loc Cert.ReferenceMinIdeal.main_arg4))
      ∧ r.2.sem = fun _ => 0)

def quiescent_ReferenceMinIdeal_pre_finite_min [hReferenceMinIdeal : Cert.ReferenceMinIdeal.Facts] [hPre_finite_min : Cert.Pre_finite_min.Facts] : Prop :=
  ∀ (m : (ℓ : Loc Cert.ReferenceMinIdeal.nD Cert.ReferenceMinIdeal.τ Cert.ReferenceMinIdeal.sig) → Buf (Elt Ideal) ℓ) (g : Dev Cert.ReferenceMinIdeal.nD → PrngReg), Pre_ReferenceMinIdeal_finite_min m →
    θ_run (Cert.ReferenceMinIdeal.defs (F := Ideal)) (onTc (τ := Cert.ReferenceMinIdeal.τ) (Cert.ReferenceMinIdeal.main (F := Ideal))) ⟨m, fun _ => 0, g⟩ (fun r => (∀ c : Dev Cert.ReferenceMinIdeal.nD,
      r.2.mem ((c.tc : Thread Cert.ReferenceMinIdeal.nD Cert.ReferenceMinIdeal.τ).loc Cert.ReferenceMinIdeal.main_arg0) = m ((c.tc : Thread Cert.ReferenceMinIdeal.nD Cert.ReferenceMinIdeal.τ).loc Cert.ReferenceMinIdeal.main_arg0)
      ∧ r.2.mem ((c.tc : Thread Cert.ReferenceMinIdeal.nD Cert.ReferenceMinIdeal.τ).loc Cert.ReferenceMinIdeal.main_arg1) = m ((c.tc : Thread Cert.ReferenceMinIdeal.nD Cert.ReferenceMinIdeal.τ).loc Cert.ReferenceMinIdeal.main_arg1)
      ∧ r.2.mem ((c.tc : Thread Cert.ReferenceMinIdeal.nD Cert.ReferenceMinIdeal.τ).loc Cert.ReferenceMinIdeal.main_arg2) = m ((c.tc : Thread Cert.ReferenceMinIdeal.nD Cert.ReferenceMinIdeal.τ).loc Cert.ReferenceMinIdeal.main_arg2)
      ∧ r.2.mem ((c.tc : Thread Cert.ReferenceMinIdeal.nD Cert.ReferenceMinIdeal.τ).loc Cert.ReferenceMinIdeal.main_arg3) = m ((c.tc : Thread Cert.ReferenceMinIdeal.nD Cert.ReferenceMinIdeal.τ).loc Cert.ReferenceMinIdeal.main_arg3)
      ∧ r.2.mem ((c.tc : Thread Cert.ReferenceMinIdeal.nD Cert.ReferenceMinIdeal.τ).loc Cert.ReferenceMinIdeal.main_arg4) = m ((c.tc : Thread Cert.ReferenceMinIdeal.nD Cert.ReferenceMinIdeal.τ).loc Cert.ReferenceMinIdeal.main_arg4))
      ∧ r.2.sem = fun _ => 0)

def quiescent_KernelAf [hKernelAf : Cert.KernelAf.Facts] : Prop :=
  ∀ (m : (ℓ : Loc Cert.KernelAf.nD Cert.KernelAf.τ Cert.KernelAf.sig) → Buf (Elt Bits) ℓ) (g : Dev Cert.KernelAf.nD → PrngReg), Pre_KernelAf m →
    θ_run (Cert.KernelAf.defs (F := Bits)) (onTc (τ := Cert.KernelAf.τ) (Cert.KernelAf.main (F := Bits))) ⟨m, fun _ => 0, g⟩ (fun r => (∀ c : Dev Cert.KernelAf.nD,
      r.2.mem ((c.tc : Thread Cert.KernelAf.nD Cert.KernelAf.τ).loc Cert.KernelAf.main_arg0) = m ((c.tc : Thread Cert.KernelAf.nD Cert.KernelAf.τ).loc Cert.KernelAf.main_arg0)
      ∧ r.2.mem ((c.tc : Thread Cert.KernelAf.nD Cert.KernelAf.τ).loc Cert.KernelAf.main_arg1) = m ((c.tc : Thread Cert.KernelAf.nD Cert.KernelAf.τ).loc Cert.KernelAf.main_arg1)
      ∧ r.2.mem ((c.tc : Thread Cert.KernelAf.nD Cert.KernelAf.τ).loc Cert.KernelAf.main_arg2) = m ((c.tc : Thread Cert.KernelAf.nD Cert.KernelAf.τ).loc Cert.KernelAf.main_arg2))
      ∧ r.2.sem = fun _ => 0)

def quiescent_KernelAfIdeal [hKernelAfIdeal : Cert.KernelAfIdeal.Facts] : Prop :=
  ∀ (m : (ℓ : Loc Cert.KernelAfIdeal.nD Cert.KernelAfIdeal.τ Cert.KernelAfIdeal.sig) → Buf (Elt Ideal) ℓ) (g : Dev Cert.KernelAfIdeal.nD → PrngReg), Pre_KernelAfIdeal m →
    θ_run (Cert.KernelAfIdeal.defs (F := Ideal)) (onTc (τ := Cert.KernelAfIdeal.τ) (Cert.KernelAfIdeal.main (F := Ideal))) ⟨m, fun _ => 0, g⟩ (fun r => (∀ c : Dev Cert.KernelAfIdeal.nD,
      r.2.mem ((c.tc : Thread Cert.KernelAfIdeal.nD Cert.KernelAfIdeal.τ).loc Cert.KernelAfIdeal.main_arg0) = m ((c.tc : Thread Cert.KernelAfIdeal.nD Cert.KernelAfIdeal.τ).loc Cert.KernelAfIdeal.main_arg0)
      ∧ r.2.mem ((c.tc : Thread Cert.KernelAfIdeal.nD Cert.KernelAfIdeal.τ).loc Cert.KernelAfIdeal.main_arg1) = m ((c.tc : Thread Cert.KernelAfIdeal.nD Cert.KernelAfIdeal.τ).loc Cert.KernelAfIdeal.main_arg1)
      ∧ r.2.mem ((c.tc : Thread Cert.KernelAfIdeal.nD Cert.KernelAfIdeal.τ).loc Cert.KernelAfIdeal.main_arg2) = m ((c.tc : Thread Cert.KernelAfIdeal.nD Cert.KernelAfIdeal.τ).loc Cert.KernelAfIdeal.main_arg2))
      ∧ r.2.sem = fun _ => 0)

def quiescent_KernelAfIdeal_pre_finite_af [hKernelAfIdeal : Cert.KernelAfIdeal.Facts] [hPre_finite_af : Cert.Pre_finite_af.Facts] : Prop :=
  ∀ (m : (ℓ : Loc Cert.KernelAfIdeal.nD Cert.KernelAfIdeal.τ Cert.KernelAfIdeal.sig) → Buf (Elt Ideal) ℓ) (g : Dev Cert.KernelAfIdeal.nD → PrngReg), Pre_KernelAfIdeal_finite_af m →
    θ_run (Cert.KernelAfIdeal.defs (F := Ideal)) (onTc (τ := Cert.KernelAfIdeal.τ) (Cert.KernelAfIdeal.main (F := Ideal))) ⟨m, fun _ => 0, g⟩ (fun r => (∀ c : Dev Cert.KernelAfIdeal.nD,
      r.2.mem ((c.tc : Thread Cert.KernelAfIdeal.nD Cert.KernelAfIdeal.τ).loc Cert.KernelAfIdeal.main_arg0) = m ((c.tc : Thread Cert.KernelAfIdeal.nD Cert.KernelAfIdeal.τ).loc Cert.KernelAfIdeal.main_arg0)
      ∧ r.2.mem ((c.tc : Thread Cert.KernelAfIdeal.nD Cert.KernelAfIdeal.τ).loc Cert.KernelAfIdeal.main_arg1) = m ((c.tc : Thread Cert.KernelAfIdeal.nD Cert.KernelAfIdeal.τ).loc Cert.KernelAfIdeal.main_arg1)
      ∧ r.2.mem ((c.tc : Thread Cert.KernelAfIdeal.nD Cert.KernelAfIdeal.τ).loc Cert.KernelAfIdeal.main_arg2) = m ((c.tc : Thread Cert.KernelAfIdeal.nD Cert.KernelAfIdeal.τ).loc Cert.KernelAfIdeal.main_arg2))
      ∧ r.2.sem = fun _ => 0)

def quiescent_ReferenceAfIdeal [hReferenceAfIdeal : Cert.ReferenceAfIdeal.Facts] : Prop :=
  ∀ (m : (ℓ : Loc Cert.ReferenceAfIdeal.nD Cert.ReferenceAfIdeal.τ Cert.ReferenceAfIdeal.sig) → Buf (Elt Ideal) ℓ) (g : Dev Cert.ReferenceAfIdeal.nD → PrngReg), Pre_ReferenceAfIdeal m →
    θ_run (Cert.ReferenceAfIdeal.defs (F := Ideal)) (onTc (τ := Cert.ReferenceAfIdeal.τ) (Cert.ReferenceAfIdeal.main (F := Ideal))) ⟨m, fun _ => 0, g⟩ (fun r => (∀ c : Dev Cert.ReferenceAfIdeal.nD,
      r.2.mem ((c.tc : Thread Cert.ReferenceAfIdeal.nD Cert.ReferenceAfIdeal.τ).loc Cert.ReferenceAfIdeal.main_arg0) = m ((c.tc : Thread Cert.ReferenceAfIdeal.nD Cert.ReferenceAfIdeal.τ).loc Cert.ReferenceAfIdeal.main_arg0)
      ∧ r.2.mem ((c.tc : Thread Cert.ReferenceAfIdeal.nD Cert.ReferenceAfIdeal.τ).loc Cert.ReferenceAfIdeal.main_arg1) = m ((c.tc : Thread Cert.ReferenceAfIdeal.nD Cert.ReferenceAfIdeal.τ).loc Cert.ReferenceAfIdeal.main_arg1)
      ∧ r.2.mem ((c.tc : Thread Cert.ReferenceAfIdeal.nD Cert.ReferenceAfIdeal.τ).loc Cert.ReferenceAfIdeal.main_arg2) = m ((c.tc : Thread Cert.ReferenceAfIdeal.nD Cert.ReferenceAfIdeal.τ).loc Cert.ReferenceAfIdeal.main_arg2))
      ∧ r.2.sem = fun _ => 0)

def quiescent_ReferenceAfIdeal_pre_finite_af [hReferenceAfIdeal : Cert.ReferenceAfIdeal.Facts] [hPre_finite_af : Cert.Pre_finite_af.Facts] : Prop :=
  ∀ (m : (ℓ : Loc Cert.ReferenceAfIdeal.nD Cert.ReferenceAfIdeal.τ Cert.ReferenceAfIdeal.sig) → Buf (Elt Ideal) ℓ) (g : Dev Cert.ReferenceAfIdeal.nD → PrngReg), Pre_ReferenceAfIdeal_finite_af m →
    θ_run (Cert.ReferenceAfIdeal.defs (F := Ideal)) (onTc (τ := Cert.ReferenceAfIdeal.τ) (Cert.ReferenceAfIdeal.main (F := Ideal))) ⟨m, fun _ => 0, g⟩ (fun r => (∀ c : Dev Cert.ReferenceAfIdeal.nD,
      r.2.mem ((c.tc : Thread Cert.ReferenceAfIdeal.nD Cert.ReferenceAfIdeal.τ).loc Cert.ReferenceAfIdeal.main_arg0) = m ((c.tc : Thread Cert.ReferenceAfIdeal.nD Cert.ReferenceAfIdeal.τ).loc Cert.ReferenceAfIdeal.main_arg0)
      ∧ r.2.mem ((c.tc : Thread Cert.ReferenceAfIdeal.nD Cert.ReferenceAfIdeal.τ).loc Cert.ReferenceAfIdeal.main_arg1) = m ((c.tc : Thread Cert.ReferenceAfIdeal.nD Cert.ReferenceAfIdeal.τ).loc Cert.ReferenceAfIdeal.main_arg1)
      ∧ r.2.mem ((c.tc : Thread Cert.ReferenceAfIdeal.nD Cert.ReferenceAfIdeal.τ).loc Cert.ReferenceAfIdeal.main_arg2) = m ((c.tc : Thread Cert.ReferenceAfIdeal.nD Cert.ReferenceAfIdeal.τ).loc Cert.ReferenceAfIdeal.main_arg2))
      ∧ r.2.sem = fun _ => 0)

def quiescent_KernelFf [hKernelFf : Cert.KernelFf.Facts] : Prop :=
  ∀ (m : (ℓ : Loc Cert.KernelFf.nD Cert.KernelFf.τ Cert.KernelFf.sig) → Buf (Elt Bits) ℓ) (g : Dev Cert.KernelFf.nD → PrngReg), Pre_KernelFf m →
    θ_run (Cert.KernelFf.defs (F := Bits)) (onTc (τ := Cert.KernelFf.τ) (Cert.KernelFf.main (F := Bits))) ⟨m, fun _ => 0, g⟩ (fun r => (∀ c : Dev Cert.KernelFf.nD,
      r.2.mem ((c.tc : Thread Cert.KernelFf.nD Cert.KernelFf.τ).loc Cert.KernelFf.main_arg0) = m ((c.tc : Thread Cert.KernelFf.nD Cert.KernelFf.τ).loc Cert.KernelFf.main_arg0)
      ∧ r.2.mem ((c.tc : Thread Cert.KernelFf.nD Cert.KernelFf.τ).loc Cert.KernelFf.main_arg1) = m ((c.tc : Thread Cert.KernelFf.nD Cert.KernelFf.τ).loc Cert.KernelFf.main_arg1)
      ∧ r.2.mem ((c.tc : Thread Cert.KernelFf.nD Cert.KernelFf.τ).loc Cert.KernelFf.main_arg2) = m ((c.tc : Thread Cert.KernelFf.nD Cert.KernelFf.τ).loc Cert.KernelFf.main_arg2)
      ∧ r.2.mem ((c.tc : Thread Cert.KernelFf.nD Cert.KernelFf.τ).loc Cert.KernelFf.main_arg3) = m ((c.tc : Thread Cert.KernelFf.nD Cert.KernelFf.τ).loc Cert.KernelFf.main_arg3))
      ∧ r.2.sem = fun _ => 0)

def quiescent_KernelFfIdeal [hKernelFfIdeal : Cert.KernelFfIdeal.Facts] : Prop :=
  ∀ (m : (ℓ : Loc Cert.KernelFfIdeal.nD Cert.KernelFfIdeal.τ Cert.KernelFfIdeal.sig) → Buf (Elt Ideal) ℓ) (g : Dev Cert.KernelFfIdeal.nD → PrngReg), Pre_KernelFfIdeal m →
    θ_run (Cert.KernelFfIdeal.defs (F := Ideal)) (onTc (τ := Cert.KernelFfIdeal.τ) (Cert.KernelFfIdeal.main (F := Ideal))) ⟨m, fun _ => 0, g⟩ (fun r => (∀ c : Dev Cert.KernelFfIdeal.nD,
      r.2.mem ((c.tc : Thread Cert.KernelFfIdeal.nD Cert.KernelFfIdeal.τ).loc Cert.KernelFfIdeal.main_arg0) = m ((c.tc : Thread Cert.KernelFfIdeal.nD Cert.KernelFfIdeal.τ).loc Cert.KernelFfIdeal.main_arg0)
      ∧ r.2.mem ((c.tc : Thread Cert.KernelFfIdeal.nD Cert.KernelFfIdeal.τ).loc Cert.KernelFfIdeal.main_arg1) = m ((c.tc : Thread Cert.KernelFfIdeal.nD Cert.KernelFfIdeal.τ).loc Cert.KernelFfIdeal.main_arg1)
      ∧ r.2.mem ((c.tc : Thread Cert.KernelFfIdeal.nD Cert.KernelFfIdeal.τ).loc Cert.KernelFfIdeal.main_arg2) = m ((c.tc : Thread Cert.KernelFfIdeal.nD Cert.KernelFfIdeal.τ).loc Cert.KernelFfIdeal.main_arg2)
      ∧ r.2.mem ((c.tc : Thread Cert.KernelFfIdeal.nD Cert.KernelFfIdeal.τ).loc Cert.KernelFfIdeal.main_arg3) = m ((c.tc : Thread Cert.KernelFfIdeal.nD Cert.KernelFfIdeal.τ).loc Cert.KernelFfIdeal.main_arg3))
      ∧ r.2.sem = fun _ => 0)

def quiescent_KernelFfIdeal_pre_finite_ff [hKernelFfIdeal : Cert.KernelFfIdeal.Facts] [hPre_finite_ff : Cert.Pre_finite_ff.Facts] : Prop :=
  ∀ (m : (ℓ : Loc Cert.KernelFfIdeal.nD Cert.KernelFfIdeal.τ Cert.KernelFfIdeal.sig) → Buf (Elt Ideal) ℓ) (g : Dev Cert.KernelFfIdeal.nD → PrngReg), Pre_KernelFfIdeal_finite_ff m →
    θ_run (Cert.KernelFfIdeal.defs (F := Ideal)) (onTc (τ := Cert.KernelFfIdeal.τ) (Cert.KernelFfIdeal.main (F := Ideal))) ⟨m, fun _ => 0, g⟩ (fun r => (∀ c : Dev Cert.KernelFfIdeal.nD,
      r.2.mem ((c.tc : Thread Cert.KernelFfIdeal.nD Cert.KernelFfIdeal.τ).loc Cert.KernelFfIdeal.main_arg0) = m ((c.tc : Thread Cert.KernelFfIdeal.nD Cert.KernelFfIdeal.τ).loc Cert.KernelFfIdeal.main_arg0)
      ∧ r.2.mem ((c.tc : Thread Cert.KernelFfIdeal.nD Cert.KernelFfIdeal.τ).loc Cert.KernelFfIdeal.main_arg1) = m ((c.tc : Thread Cert.KernelFfIdeal.nD Cert.KernelFfIdeal.τ).loc Cert.KernelFfIdeal.main_arg1)
      ∧ r.2.mem ((c.tc : Thread Cert.KernelFfIdeal.nD Cert.KernelFfIdeal.τ).loc Cert.KernelFfIdeal.main_arg2) = m ((c.tc : Thread Cert.KernelFfIdeal.nD Cert.KernelFfIdeal.τ).loc Cert.KernelFfIdeal.main_arg2)
      ∧ r.2.mem ((c.tc : Thread Cert.KernelFfIdeal.nD Cert.KernelFfIdeal.τ).loc Cert.KernelFfIdeal.main_arg3) = m ((c.tc : Thread Cert.KernelFfIdeal.nD Cert.KernelFfIdeal.τ).loc Cert.KernelFfIdeal.main_arg3))
      ∧ r.2.sem = fun _ => 0)

def quiescent_ReferenceFfIdeal [hReferenceFfIdeal : Cert.ReferenceFfIdeal.Facts] : Prop :=
  ∀ (m : (ℓ : Loc Cert.ReferenceFfIdeal.nD Cert.ReferenceFfIdeal.τ Cert.ReferenceFfIdeal.sig) → Buf (Elt Ideal) ℓ) (g : Dev Cert.ReferenceFfIdeal.nD → PrngReg), Pre_ReferenceFfIdeal m →
    θ_run (Cert.ReferenceFfIdeal.defs (F := Ideal)) (onTc (τ := Cert.ReferenceFfIdeal.τ) (Cert.ReferenceFfIdeal.main (F := Ideal))) ⟨m, fun _ => 0, g⟩ (fun r => (∀ c : Dev Cert.ReferenceFfIdeal.nD,
      r.2.mem ((c.tc : Thread Cert.ReferenceFfIdeal.nD Cert.ReferenceFfIdeal.τ).loc Cert.ReferenceFfIdeal.main_arg0) = m ((c.tc : Thread Cert.ReferenceFfIdeal.nD Cert.ReferenceFfIdeal.τ).loc Cert.ReferenceFfIdeal.main_arg0)
      ∧ r.2.mem ((c.tc : Thread Cert.ReferenceFfIdeal.nD Cert.ReferenceFfIdeal.τ).loc Cert.ReferenceFfIdeal.main_arg1) = m ((c.tc : Thread Cert.ReferenceFfIdeal.nD Cert.ReferenceFfIdeal.τ).loc Cert.ReferenceFfIdeal.main_arg1)
      ∧ r.2.mem ((c.tc : Thread Cert.ReferenceFfIdeal.nD Cert.ReferenceFfIdeal.τ).loc Cert.ReferenceFfIdeal.main_arg2) = m ((c.tc : Thread Cert.ReferenceFfIdeal.nD Cert.ReferenceFfIdeal.τ).loc Cert.ReferenceFfIdeal.main_arg2)
      ∧ r.2.mem ((c.tc : Thread Cert.ReferenceFfIdeal.nD Cert.ReferenceFfIdeal.τ).loc Cert.ReferenceFfIdeal.main_arg3) = m ((c.tc : Thread Cert.ReferenceFfIdeal.nD Cert.ReferenceFfIdeal.τ).loc Cert.ReferenceFfIdeal.main_arg3))
      ∧ r.2.sem = fun _ => 0)

def quiescent_ReferenceFfIdeal_pre_finite_ff [hReferenceFfIdeal : Cert.ReferenceFfIdeal.Facts] [hPre_finite_ff : Cert.Pre_finite_ff.Facts] : Prop :=
  ∀ (m : (ℓ : Loc Cert.ReferenceFfIdeal.nD Cert.ReferenceFfIdeal.τ Cert.ReferenceFfIdeal.sig) → Buf (Elt Ideal) ℓ) (g : Dev Cert.ReferenceFfIdeal.nD → PrngReg), Pre_ReferenceFfIdeal_finite_ff m →
    θ_run (Cert.ReferenceFfIdeal.defs (F := Ideal)) (onTc (τ := Cert.ReferenceFfIdeal.τ) (Cert.ReferenceFfIdeal.main (F := Ideal))) ⟨m, fun _ => 0, g⟩ (fun r => (∀ c : Dev Cert.ReferenceFfIdeal.nD,
      r.2.mem ((c.tc : Thread Cert.ReferenceFfIdeal.nD Cert.ReferenceFfIdeal.τ).loc Cert.ReferenceFfIdeal.main_arg0) = m ((c.tc : Thread Cert.ReferenceFfIdeal.nD Cert.ReferenceFfIdeal.τ).loc Cert.ReferenceFfIdeal.main_arg0)
      ∧ r.2.mem ((c.tc : Thread Cert.ReferenceFfIdeal.nD Cert.ReferenceFfIdeal.τ).loc Cert.ReferenceFfIdeal.main_arg1) = m ((c.tc : Thread Cert.ReferenceFfIdeal.nD Cert.ReferenceFfIdeal.τ).loc Cert.ReferenceFfIdeal.main_arg1)
      ∧ r.2.mem ((c.tc : Thread Cert.ReferenceFfIdeal.nD Cert.ReferenceFfIdeal.τ).loc Cert.ReferenceFfIdeal.main_arg2) = m ((c.tc : Thread Cert.ReferenceFfIdeal.nD Cert.ReferenceFfIdeal.τ).loc Cert.ReferenceFfIdeal.main_arg2)
      ∧ r.2.mem ((c.tc : Thread Cert.ReferenceFfIdeal.nD Cert.ReferenceFfIdeal.τ).loc Cert.ReferenceFfIdeal.main_arg3) = m ((c.tc : Thread Cert.ReferenceFfIdeal.nD Cert.ReferenceFfIdeal.τ).loc Cert.ReferenceFfIdeal.main_arg3))
      ∧ r.2.sem = fun _ => 0)

def preserves_KernelAct_KernelActIdeal : Prop :=
  True

def algebraic_KernelActIdeal_ReferenceActIdeal_pre_finite_act [hKernelActIdeal : Cert.KernelActIdeal.Facts] [hReferenceActIdeal : Cert.ReferenceActIdeal.Facts] [hPre_finite_act : Cert.Pre_finite_act.Facts] : Prop :=
  ∀ (m : (ℓ : Loc Cert.KernelActIdeal.nD Cert.KernelActIdeal.τ Cert.KernelActIdeal.sig) → Buf (Elt Ideal) ℓ) (g : Dev Cert.KernelActIdeal.nD → PrngReg)
    (m' : (ℓ : Loc Cert.ReferenceActIdeal.nD Cert.ReferenceActIdeal.τ Cert.ReferenceActIdeal.sig) → Buf (Elt Ideal) ℓ) (g' : Dev Cert.ReferenceActIdeal.nD → PrngReg), Pre_KernelActIdeal_finite_act m →
    (∀ c : Dev Cert.KernelActIdeal.nD,
      m' ((c.tc : Thread Cert.ReferenceActIdeal.nD Cert.ReferenceActIdeal.τ).loc Cert.ReferenceActIdeal.main_arg0) = m ((c.tc : Thread Cert.KernelActIdeal.nD Cert.KernelActIdeal.τ).loc Cert.KernelActIdeal.main_arg0)
      ∧ m' ((c.tc : Thread Cert.ReferenceActIdeal.nD Cert.ReferenceActIdeal.τ).loc Cert.ReferenceActIdeal.main_arg1) = m ((c.tc : Thread Cert.KernelActIdeal.nD Cert.KernelActIdeal.τ).loc Cert.KernelActIdeal.main_arg1)
      ∧ m' ((c.tc : Thread Cert.ReferenceActIdeal.nD Cert.ReferenceActIdeal.τ).loc Cert.ReferenceActIdeal.main_arg2) = m ((c.tc : Thread Cert.KernelActIdeal.nD Cert.KernelActIdeal.τ).loc Cert.KernelActIdeal.main_arg2)) →
    ∃ (v0 : (c : Dev Cert.KernelActIdeal.nD) → Buf (Elt Ideal) ((c.tc : Thread Cert.KernelActIdeal.nD Cert.KernelActIdeal.τ).loc Cert.KernelActIdeal.main_v5)),
      θ_run (Cert.KernelActIdeal.defs (F := Ideal)) (onTc (τ := Cert.KernelActIdeal.τ) (Cert.KernelActIdeal.main (F := Ideal))) ⟨m, fun _ => 0, g⟩ (fun r => ∀ c : Dev Cert.KernelActIdeal.nD,
          r.2.mem ((c.tc : Thread Cert.KernelActIdeal.nD Cert.KernelActIdeal.τ).loc Cert.KernelActIdeal.main_v5) = v0 c
          ∧ r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
          ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1)
          ∧ r.2.mem ((c.tc : Thread Cert.KernelActIdeal.nD Cert.KernelActIdeal.τ).loc Cert.KernelActIdeal.main_arg2) = m ((c.tc : Thread Cert.KernelActIdeal.nD Cert.KernelActIdeal.τ).loc Cert.KernelActIdeal.main_arg2))
      ∧ θ_run (Cert.ReferenceActIdeal.defs (F := Ideal)) (onTc (τ := Cert.ReferenceActIdeal.τ) (Cert.ReferenceActIdeal.main (F := Ideal))) ⟨m', fun _ => 0, g'⟩ (fun r => ∀ c : Dev Cert.ReferenceActIdeal.nD,
          r.2.mem ((c.tc : Thread Cert.ReferenceActIdeal.nD Cert.ReferenceActIdeal.τ).loc Cert.ReferenceActIdeal.main_v16) = v0 c
          ∧ r.2.mem ((c.tc : Thread Cert.ReferenceActIdeal.nD Cert.ReferenceActIdeal.τ).loc Cert.ReferenceActIdeal.main_arg0) = m' ((c.tc : Thread Cert.ReferenceActIdeal.nD Cert.ReferenceActIdeal.τ).loc Cert.ReferenceActIdeal.main_arg0)
          ∧ r.2.mem ((c.tc : Thread Cert.ReferenceActIdeal.nD Cert.ReferenceActIdeal.τ).loc Cert.ReferenceActIdeal.main_arg1) = m' ((c.tc : Thread Cert.ReferenceActIdeal.nD Cert.ReferenceActIdeal.τ).loc Cert.ReferenceActIdeal.main_arg1)
          ∧ r.2.mem ((c.tc : Thread Cert.ReferenceActIdeal.nD Cert.ReferenceActIdeal.τ).loc Cert.ReferenceActIdeal.main_arg2) = m' ((c.tc : Thread Cert.ReferenceActIdeal.nD Cert.ReferenceActIdeal.τ).loc Cert.ReferenceActIdeal.main_arg2))

def preserves_KernelSb_KernelSbIdeal : Prop :=
  IdealRules.named_const.Statement Cert.KernelSbIdeal.κ "scale_log2e" .f32 0x3E38AA3B#32 (((8 * (Real.log 2))⁻¹ : ℝ) : EReal)
  ∧ IdealRules.named_const.Statement Cert.KernelSbIdeal.κ "log2e" .f32 0x3FB8AA3B#32 (((Real.log 2)⁻¹ : ℝ) : EReal)

def algebraic_KernelSbIdeal_ReferenceSbIdeal_pre_finite_sb [hKernelSbIdeal : Cert.KernelSbIdeal.Facts] [hReferenceSbIdeal : Cert.ReferenceSbIdeal.Facts] [hPre_finite_sb : Cert.Pre_finite_sb.Facts] : Prop :=
  ∀ (m : (ℓ : Loc Cert.KernelSbIdeal.nD Cert.KernelSbIdeal.τ Cert.KernelSbIdeal.sig) → Buf (Elt Ideal) ℓ) (g : Dev Cert.KernelSbIdeal.nD → PrngReg)
    (m' : (ℓ : Loc Cert.ReferenceSbIdeal.nD Cert.ReferenceSbIdeal.τ Cert.ReferenceSbIdeal.sig) → Buf (Elt Ideal) ℓ) (g' : Dev Cert.ReferenceSbIdeal.nD → PrngReg), Pre_KernelSbIdeal_finite_sb m →
    (∀ c : Dev Cert.KernelSbIdeal.nD,
      m' ((c.tc : Thread Cert.ReferenceSbIdeal.nD Cert.ReferenceSbIdeal.τ).loc Cert.ReferenceSbIdeal.main_arg0) = m ((c.tc : Thread Cert.KernelSbIdeal.nD Cert.KernelSbIdeal.τ).loc Cert.KernelSbIdeal.main_arg0)
      ∧ m' ((c.tc : Thread Cert.ReferenceSbIdeal.nD Cert.ReferenceSbIdeal.τ).loc Cert.ReferenceSbIdeal.main_arg1) = m ((c.tc : Thread Cert.KernelSbIdeal.nD Cert.KernelSbIdeal.τ).loc Cert.KernelSbIdeal.main_arg1)
      ∧ m' ((c.tc : Thread Cert.ReferenceSbIdeal.nD Cert.ReferenceSbIdeal.τ).loc Cert.ReferenceSbIdeal.main_arg2) = m ((c.tc : Thread Cert.KernelSbIdeal.nD Cert.KernelSbIdeal.τ).loc Cert.KernelSbIdeal.main_arg2)
      ∧ m' ((c.tc : Thread Cert.ReferenceSbIdeal.nD Cert.ReferenceSbIdeal.τ).loc Cert.ReferenceSbIdeal.main_arg3) = m ((c.tc : Thread Cert.KernelSbIdeal.nD Cert.KernelSbIdeal.τ).loc Cert.KernelSbIdeal.main_arg3)) →
    ∃ (v0 : (c : Dev Cert.KernelSbIdeal.nD) → Buf (Elt Ideal) ((c.tc : Thread Cert.KernelSbIdeal.nD Cert.KernelSbIdeal.τ).loc Cert.KernelSbIdeal.main_v36_0)) (v1 : (c : Dev Cert.KernelSbIdeal.nD) → Buf (Elt Ideal) ((c.tc : Thread Cert.KernelSbIdeal.nD Cert.KernelSbIdeal.τ).loc Cert.KernelSbIdeal.main_v36_1)) (v2 : (c : Dev Cert.KernelSbIdeal.nD) → Buf (Elt Ideal) ((c.tc : Thread Cert.KernelSbIdeal.nD Cert.KernelSbIdeal.τ).loc Cert.KernelSbIdeal.main_v36_2)),
      θ_run (Cert.KernelSbIdeal.defs (F := Ideal)) (onTc (τ := Cert.KernelSbIdeal.τ) (Cert.KernelSbIdeal.main (F := Ideal))) ⟨m, fun _ => 0, g⟩ (fun r => ∀ c : Dev Cert.KernelSbIdeal.nD,
          r.2.mem ((c.tc : Thread Cert.KernelSbIdeal.nD Cert.KernelSbIdeal.τ).loc Cert.KernelSbIdeal.main_v36_0) = v0 c
          ∧ r.2.mem ((c.tc : Thread Cert.KernelSbIdeal.nD Cert.KernelSbIdeal.τ).loc Cert.KernelSbIdeal.main_v36_1) = v1 c
          ∧ r.2.mem ((c.tc : Thread Cert.KernelSbIdeal.nD Cert.KernelSbIdeal.τ).loc Cert.KernelSbIdeal.main_v36_2) = v2 c
          ∧ r.2.mem ((c.tc : Thread Cert.KernelSbIdeal.nD Cert.KernelSbIdeal.τ).loc Cert.KernelSbIdeal.main_arg0) = m ((c.tc : Thread Cert.KernelSbIdeal.nD Cert.KernelSbIdeal.τ).loc Cert.KernelSbIdeal.main_arg0)
          ∧ r.2.mem ((c.tc : Thread Cert.KernelSbIdeal.nD Cert.KernelSbIdeal.τ).loc Cert.KernelSbIdeal.main_arg1) = m ((c.tc : Thread Cert.KernelSbIdeal.nD Cert.KernelSbIdeal.τ).loc Cert.KernelSbIdeal.main_arg1)
          ∧ r.2.mem ((c.tc : Thread Cert.KernelSbIdeal.nD Cert.KernelSbIdeal.τ).loc Cert.KernelSbIdeal.main_arg2) = m ((c.tc : Thread Cert.KernelSbIdeal.nD Cert.KernelSbIdeal.τ).loc Cert.KernelSbIdeal.main_arg2)
          ∧ r.2.mem ((c.tc : Thread Cert.KernelSbIdeal.nD Cert.KernelSbIdeal.τ).loc Cert.KernelSbIdeal.main_arg3) = m ((c.tc : Thread Cert.KernelSbIdeal.nD Cert.KernelSbIdeal.τ).loc Cert.KernelSbIdeal.main_arg3))
      ∧ θ_run (Cert.ReferenceSbIdeal.defs (F := Ideal)) (onTc (τ := Cert.ReferenceSbIdeal.τ) (Cert.ReferenceSbIdeal.main (F := Ideal))) ⟨m', fun _ => 0, g'⟩ (fun r => ∀ c : Dev Cert.ReferenceSbIdeal.nD,
          r.2.mem ((c.tc : Thread Cert.ReferenceSbIdeal.nD Cert.ReferenceSbIdeal.τ).loc Cert.ReferenceSbIdeal.main_v54) = v0 c
          ∧ r.2.mem ((c.tc : Thread Cert.ReferenceSbIdeal.nD Cert.ReferenceSbIdeal.τ).loc Cert.ReferenceSbIdeal.main_v56) = v1 c
          ∧ r.2.mem ((c.tc : Thread Cert.ReferenceSbIdeal.nD Cert.ReferenceSbIdeal.τ).loc Cert.ReferenceSbIdeal.main_v58) = v2 c
          ∧ r.2.mem ((c.tc : Thread Cert.ReferenceSbIdeal.nD Cert.ReferenceSbIdeal.τ).loc Cert.ReferenceSbIdeal.main_arg0) = m' ((c.tc : Thread Cert.ReferenceSbIdeal.nD Cert.ReferenceSbIdeal.τ).loc Cert.ReferenceSbIdeal.main_arg0)
          ∧ r.2.mem ((c.tc : Thread Cert.ReferenceSbIdeal.nD Cert.ReferenceSbIdeal.τ).loc Cert.ReferenceSbIdeal.main_arg1) = m' ((c.tc : Thread Cert.ReferenceSbIdeal.nD Cert.ReferenceSbIdeal.τ).loc Cert.ReferenceSbIdeal.main_arg1)
          ∧ r.2.mem ((c.tc : Thread Cert.ReferenceSbIdeal.nD Cert.ReferenceSbIdeal.τ).loc Cert.ReferenceSbIdeal.main_arg2) = m' ((c.tc : Thread Cert.ReferenceSbIdeal.nD Cert.ReferenceSbIdeal.τ).loc Cert.ReferenceSbIdeal.main_arg2)
          ∧ r.2.mem ((c.tc : Thread Cert.ReferenceSbIdeal.nD Cert.ReferenceSbIdeal.τ).loc Cert.ReferenceSbIdeal.main_arg3) = m' ((c.tc : Thread Cert.ReferenceSbIdeal.nD Cert.ReferenceSbIdeal.τ).loc Cert.ReferenceSbIdeal.main_arg3))

def preserves_KernelFin_KernelFinIdeal : Prop :=
  True

def algebraic_KernelFinIdeal_ReferenceFinIdeal_pre_finite_in [hKernelFinIdeal : Cert.KernelFinIdeal.Facts] [hReferenceFinIdeal : Cert.ReferenceFinIdeal.Facts] [hPre_finite_in : Cert.Pre_finite_in.Facts] : Prop :=
  ∀ (m : (ℓ : Loc Cert.KernelFinIdeal.nD Cert.KernelFinIdeal.τ Cert.KernelFinIdeal.sig) → Buf (Elt Ideal) ℓ) (g : Dev Cert.KernelFinIdeal.nD → PrngReg)
    (m' : (ℓ : Loc Cert.ReferenceFinIdeal.nD Cert.ReferenceFinIdeal.τ Cert.ReferenceFinIdeal.sig) → Buf (Elt Ideal) ℓ) (g' : Dev Cert.ReferenceFinIdeal.nD → PrngReg), Pre_KernelFinIdeal_finite_in m →
    (∀ c : Dev Cert.KernelFinIdeal.nD,
      m' ((c.tc : Thread Cert.ReferenceFinIdeal.nD Cert.ReferenceFinIdeal.τ).loc Cert.ReferenceFinIdeal.main_arg0) = m ((c.tc : Thread Cert.KernelFinIdeal.nD Cert.KernelFinIdeal.τ).loc Cert.KernelFinIdeal.main_arg0)
      ∧ m' ((c.tc : Thread Cert.ReferenceFinIdeal.nD Cert.ReferenceFinIdeal.τ).loc Cert.ReferenceFinIdeal.main_arg1) = m ((c.tc : Thread Cert.KernelFinIdeal.nD Cert.KernelFinIdeal.τ).loc Cert.KernelFinIdeal.main_arg1)
      ∧ m' ((c.tc : Thread Cert.ReferenceFinIdeal.nD Cert.ReferenceFinIdeal.τ).loc Cert.ReferenceFinIdeal.main_arg2) = m ((c.tc : Thread Cert.KernelFinIdeal.nD Cert.KernelFinIdeal.τ).loc Cert.KernelFinIdeal.main_arg2)
      ∧ m' ((c.tc : Thread Cert.ReferenceFinIdeal.nD Cert.ReferenceFinIdeal.τ).loc Cert.ReferenceFinIdeal.main_arg3) = m ((c.tc : Thread Cert.KernelFinIdeal.nD Cert.KernelFinIdeal.τ).loc Cert.KernelFinIdeal.main_arg3)
      ∧ m' ((c.tc : Thread Cert.ReferenceFinIdeal.nD Cert.ReferenceFinIdeal.τ).loc Cert.ReferenceFinIdeal.main_arg4) = m ((c.tc : Thread Cert.KernelFinIdeal.nD Cert.KernelFinIdeal.τ).loc Cert.KernelFinIdeal.main_arg4)) →
    ∃ (v0 : (c : Dev Cert.KernelFinIdeal.nD) → Buf (Elt Ideal) ((c.tc : Thread Cert.KernelFinIdeal.nD Cert.KernelFinIdeal.τ).loc Cert.KernelFinIdeal.main_v8_0)) (v1 : (c : Dev Cert.KernelFinIdeal.nD) → Buf (Elt Ideal) ((c.tc : Thread Cert.KernelFinIdeal.nD Cert.KernelFinIdeal.τ).loc Cert.KernelFinIdeal.main_v8_1)),
      θ_run (Cert.KernelFinIdeal.defs (F := Ideal)) (onTc (τ := Cert.KernelFinIdeal.τ) (Cert.KernelFinIdeal.main (F := Ideal))) ⟨m, fun _ => 0, g⟩ (fun r => ∀ c : Dev Cert.KernelFinIdeal.nD,
          r.2.mem ((c.tc : Thread Cert.KernelFinIdeal.nD Cert.KernelFinIdeal.τ).loc Cert.KernelFinIdeal.main_v8_0) = v0 c
          ∧ r.2.mem ((c.tc : Thread Cert.KernelFinIdeal.nD Cert.KernelFinIdeal.τ).loc Cert.KernelFinIdeal.main_v8_1) = v1 c
          ∧ r.2.mem ((c.tc : Thread Cert.KernelFinIdeal.nD Cert.KernelFinIdeal.τ).loc Cert.KernelFinIdeal.main_arg0) = m ((c.tc : Thread Cert.KernelFinIdeal.nD Cert.KernelFinIdeal.τ).loc Cert.KernelFinIdeal.main_arg0)
          ∧ r.2.mem ((c.tc : Thread Cert.KernelFinIdeal.nD Cert.KernelFinIdeal.τ).loc Cert.KernelFinIdeal.main_arg1) = m ((c.tc : Thread Cert.KernelFinIdeal.nD Cert.KernelFinIdeal.τ).loc Cert.KernelFinIdeal.main_arg1)
          ∧ r.2.mem ((c.tc : Thread Cert.KernelFinIdeal.nD Cert.KernelFinIdeal.τ).loc Cert.KernelFinIdeal.main_arg2) = m ((c.tc : Thread Cert.KernelFinIdeal.nD Cert.KernelFinIdeal.τ).loc Cert.KernelFinIdeal.main_arg2)
          ∧ r.2.mem ((c.tc : Thread Cert.KernelFinIdeal.nD Cert.KernelFinIdeal.τ).loc Cert.KernelFinIdeal.main_arg3) = m ((c.tc : Thread Cert.KernelFinIdeal.nD Cert.KernelFinIdeal.τ).loc Cert.KernelFinIdeal.main_arg3)
          ∧ r.2.mem ((c.tc : Thread Cert.KernelFinIdeal.nD Cert.KernelFinIdeal.τ).loc Cert.KernelFinIdeal.main_arg4) = m ((c.tc : Thread Cert.KernelFinIdeal.nD Cert.KernelFinIdeal.τ).loc Cert.KernelFinIdeal.main_arg4))
      ∧ θ_run (Cert.ReferenceFinIdeal.defs (F := Ideal)) (onTc (τ := Cert.ReferenceFinIdeal.τ) (Cert.ReferenceFinIdeal.main (F := Ideal))) ⟨m', fun _ => 0, g'⟩ (fun r => ∀ c : Dev Cert.ReferenceFinIdeal.nD,
          r.2.mem ((c.tc : Thread Cert.ReferenceFinIdeal.nD Cert.ReferenceFinIdeal.τ).loc Cert.ReferenceFinIdeal.main_v43) = v0 c
          ∧ r.2.mem ((c.tc : Thread Cert.ReferenceFinIdeal.nD Cert.ReferenceFinIdeal.τ).loc Cert.ReferenceFinIdeal.main_v42) = v1 c
          ∧ r.2.mem ((c.tc : Thread Cert.ReferenceFinIdeal.nD Cert.ReferenceFinIdeal.τ).loc Cert.ReferenceFinIdeal.main_arg0) = m' ((c.tc : Thread Cert.ReferenceFinIdeal.nD Cert.ReferenceFinIdeal.τ).loc Cert.ReferenceFinIdeal.main_arg0)
          ∧ r.2.mem ((c.tc : Thread Cert.ReferenceFinIdeal.nD Cert.ReferenceFinIdeal.τ).loc Cert.ReferenceFinIdeal.main_arg1) = m' ((c.tc : Thread Cert.ReferenceFinIdeal.nD Cert.ReferenceFinIdeal.τ).loc Cert.ReferenceFinIdeal.main_arg1)
          ∧ r.2.mem ((c.tc : Thread Cert.ReferenceFinIdeal.nD Cert.ReferenceFinIdeal.τ).loc Cert.ReferenceFinIdeal.main_arg2) = m' ((c.tc : Thread Cert.ReferenceFinIdeal.nD Cert.ReferenceFinIdeal.τ).loc Cert.ReferenceFinIdeal.main_arg2)
          ∧ r.2.mem ((c.tc : Thread Cert.ReferenceFinIdeal.nD Cert.ReferenceFinIdeal.τ).loc Cert.ReferenceFinIdeal.main_arg3) = m' ((c.tc : Thread Cert.ReferenceFinIdeal.nD Cert.ReferenceFinIdeal.τ).loc Cert.ReferenceFinIdeal.main_arg3)
          ∧ r.2.mem ((c.tc : Thread Cert.ReferenceFinIdeal.nD Cert.ReferenceFinIdeal.τ).loc Cert.ReferenceFinIdeal.main_arg4) = m' ((c.tc : Thread Cert.ReferenceFinIdeal.nD Cert.ReferenceFinIdeal.τ).loc Cert.ReferenceFinIdeal.main_arg4))

def preserves_KernelLast_KernelLastIdeal : Prop :=
  True

def algebraic_KernelLastIdeal_ReferenceLastIdeal_pre_finite_last [hKernelLastIdeal : Cert.KernelLastIdeal.Facts] [hReferenceLastIdeal : Cert.ReferenceLastIdeal.Facts] [hPre_finite_last : Cert.Pre_finite_last.Facts] : Prop :=
  ∀ (m : (ℓ : Loc Cert.KernelLastIdeal.nD Cert.KernelLastIdeal.τ Cert.KernelLastIdeal.sig) → Buf (Elt Ideal) ℓ) (g : Dev Cert.KernelLastIdeal.nD → PrngReg)
    (m' : (ℓ : Loc Cert.ReferenceLastIdeal.nD Cert.ReferenceLastIdeal.τ Cert.ReferenceLastIdeal.sig) → Buf (Elt Ideal) ℓ) (g' : Dev Cert.ReferenceLastIdeal.nD → PrngReg), Pre_KernelLastIdeal_finite_last m →
    (∀ c : Dev Cert.KernelLastIdeal.nD,
      m' ((c.tc : Thread Cert.ReferenceLastIdeal.nD Cert.ReferenceLastIdeal.τ).loc Cert.ReferenceLastIdeal.main_arg0) = m ((c.tc : Thread Cert.KernelLastIdeal.nD Cert.KernelLastIdeal.τ).loc Cert.KernelLastIdeal.main_arg0)
      ∧ m' ((c.tc : Thread Cert.ReferenceLastIdeal.nD Cert.ReferenceLastIdeal.τ).loc Cert.ReferenceLastIdeal.main_arg1) = m ((c.tc : Thread Cert.KernelLastIdeal.nD Cert.KernelLastIdeal.τ).loc Cert.KernelLastIdeal.main_arg1)
      ∧ m' ((c.tc : Thread Cert.ReferenceLastIdeal.nD Cert.ReferenceLastIdeal.τ).loc Cert.ReferenceLastIdeal.main_arg2) = m ((c.tc : Thread Cert.KernelLastIdeal.nD Cert.KernelLastIdeal.τ).loc Cert.KernelLastIdeal.main_arg2)
      ∧ m' ((c.tc : Thread Cert.ReferenceLastIdeal.nD Cert.ReferenceLastIdeal.τ).loc Cert.ReferenceLastIdeal.main_arg3) = m ((c.tc : Thread Cert.KernelLastIdeal.nD Cert.KernelLastIdeal.τ).loc Cert.KernelLastIdeal.main_arg3)
      ∧ m' ((c.tc : Thread Cert.ReferenceLastIdeal.nD Cert.ReferenceLastIdeal.τ).loc Cert.ReferenceLastIdeal.main_arg4) = m ((c.tc : Thread Cert.KernelLastIdeal.nD Cert.KernelLastIdeal.τ).loc Cert.KernelLastIdeal.main_arg4)
      ∧ m' ((c.tc : Thread Cert.ReferenceLastIdeal.nD Cert.ReferenceLastIdeal.τ).loc Cert.ReferenceLastIdeal.main_arg5) = m ((c.tc : Thread Cert.KernelLastIdeal.nD Cert.KernelLastIdeal.τ).loc Cert.KernelLastIdeal.main_arg5)) →
    ∃ (v0 : (c : Dev Cert.KernelLastIdeal.nD) → Buf (Elt Ideal) ((c.tc : Thread Cert.KernelLastIdeal.nD Cert.KernelLastIdeal.τ).loc Cert.KernelLastIdeal.main_v9_0)) (v1 : (c : Dev Cert.KernelLastIdeal.nD) → Buf (Elt Ideal) ((c.tc : Thread Cert.KernelLastIdeal.nD Cert.KernelLastIdeal.τ).loc Cert.KernelLastIdeal.main_v9_1)) (v2 : (c : Dev Cert.KernelLastIdeal.nD) → Buf (Elt Ideal) ((c.tc : Thread Cert.KernelLastIdeal.nD Cert.KernelLastIdeal.τ).loc Cert.KernelLastIdeal.main_v9_2)) (v3 : (c : Dev Cert.KernelLastIdeal.nD) → Buf (Elt Ideal) ((c.tc : Thread Cert.KernelLastIdeal.nD Cert.KernelLastIdeal.τ).loc Cert.KernelLastIdeal.main_v9_3)) (v4 : (c : Dev Cert.KernelLastIdeal.nD) → Buf (Elt Ideal) ((c.tc : Thread Cert.KernelLastIdeal.nD Cert.KernelLastIdeal.τ).loc Cert.KernelLastIdeal.main_v9_4)) (v5 : (c : Dev Cert.KernelLastIdeal.nD) → Buf (Elt Ideal) ((c.tc : Thread Cert.KernelLastIdeal.nD Cert.KernelLastIdeal.τ).loc Cert.KernelLastIdeal.main_v9_5)) (v6 : (c : Dev Cert.KernelLastIdeal.nD) → Buf (Elt Ideal) ((c.tc : Thread Cert.KernelLastIdeal.nD Cert.KernelLastIdeal.τ).loc Cert.KernelLastIdeal.main_v9_6)) (v7 : (c : Dev Cert.KernelLastIdeal.nD) → Buf (Elt Ideal) ((c.tc : Thread Cert.KernelLastIdeal.nD Cert.KernelLastIdeal.τ).loc Cert.KernelLastIdeal.main_v9_7)),
      θ_run (Cert.KernelLastIdeal.defs (F := Ideal)) (onTc (τ := Cert.KernelLastIdeal.τ) (Cert.KernelLastIdeal.main (F := Ideal))) ⟨m, fun _ => 0, g⟩ (fun r => ∀ c : Dev Cert.KernelLastIdeal.nD,
          r.2.mem ((c.tc : Thread Cert.KernelLastIdeal.nD Cert.KernelLastIdeal.τ).loc Cert.KernelLastIdeal.main_v9_0) = v0 c
          ∧ r.2.mem ((c.tc : Thread Cert.KernelLastIdeal.nD Cert.KernelLastIdeal.τ).loc Cert.KernelLastIdeal.main_v9_1) = v1 c
          ∧ r.2.mem ((c.tc : Thread Cert.KernelLastIdeal.nD Cert.KernelLastIdeal.τ).loc Cert.KernelLastIdeal.main_v9_2) = v2 c
          ∧ r.2.mem ((c.tc : Thread Cert.KernelLastIdeal.nD Cert.KernelLastIdeal.τ).loc Cert.KernelLastIdeal.main_v9_3) = v3 c
          ∧ r.2.mem ((c.tc : Thread Cert.KernelLastIdeal.nD Cert.KernelLastIdeal.τ).loc Cert.KernelLastIdeal.main_v9_4) = v4 c
          ∧ r.2.mem ((c.tc : Thread Cert.KernelLastIdeal.nD Cert.KernelLastIdeal.τ).loc Cert.KernelLastIdeal.main_v9_5) = v5 c
          ∧ r.2.mem ((c.tc : Thread Cert.KernelLastIdeal.nD Cert.KernelLastIdeal.τ).loc Cert.KernelLastIdeal.main_v9_6) = v6 c
          ∧ r.2.mem ((c.tc : Thread Cert.KernelLastIdeal.nD Cert.KernelLastIdeal.τ).loc Cert.KernelLastIdeal.main_v9_7) = v7 c
          ∧ r.2.mem ((c.tc : Thread Cert.KernelLastIdeal.nD Cert.KernelLastIdeal.τ).loc Cert.KernelLastIdeal.main_arg0) = m ((c.tc : Thread Cert.KernelLastIdeal.nD Cert.KernelLastIdeal.τ).loc Cert.KernelLastIdeal.main_arg0)
          ∧ r.2.mem ((c.tc : Thread Cert.KernelLastIdeal.nD Cert.KernelLastIdeal.τ).loc Cert.KernelLastIdeal.main_arg1) = m ((c.tc : Thread Cert.KernelLastIdeal.nD Cert.KernelLastIdeal.τ).loc Cert.KernelLastIdeal.main_arg1)
          ∧ r.2.mem ((c.tc : Thread Cert.KernelLastIdeal.nD Cert.KernelLastIdeal.τ).loc Cert.KernelLastIdeal.main_arg2) = m ((c.tc : Thread Cert.KernelLastIdeal.nD Cert.KernelLastIdeal.τ).loc Cert.KernelLastIdeal.main_arg2)
          ∧ r.2.mem ((c.tc : Thread Cert.KernelLastIdeal.nD Cert.KernelLastIdeal.τ).loc Cert.KernelLastIdeal.main_arg3) = m ((c.tc : Thread Cert.KernelLastIdeal.nD Cert.KernelLastIdeal.τ).loc Cert.KernelLastIdeal.main_arg3)
          ∧ r.2.mem ((c.tc : Thread Cert.KernelLastIdeal.nD Cert.KernelLastIdeal.τ).loc Cert.KernelLastIdeal.main_arg4) = m ((c.tc : Thread Cert.KernelLastIdeal.nD Cert.KernelLastIdeal.τ).loc Cert.KernelLastIdeal.main_arg4)
          ∧ r.2.mem ((c.tc : Thread Cert.KernelLastIdeal.nD Cert.KernelLastIdeal.τ).loc Cert.KernelLastIdeal.main_arg5) = m ((c.tc : Thread Cert.KernelLastIdeal.nD Cert.KernelLastIdeal.τ).loc Cert.KernelLastIdeal.main_arg5))
      ∧ θ_run (Cert.ReferenceLastIdeal.defs (F := Ideal)) (onTc (τ := Cert.ReferenceLastIdeal.τ) (Cert.ReferenceLastIdeal.main (F := Ideal))) ⟨m', fun _ => 0, g'⟩ (fun r => ∀ c : Dev Cert.ReferenceLastIdeal.nD,
          r.2.mem ((c.tc : Thread Cert.ReferenceLastIdeal.nD Cert.ReferenceLastIdeal.τ).loc Cert.ReferenceLastIdeal.main_v133) = v0 c
          ∧ r.2.mem ((c.tc : Thread Cert.ReferenceLastIdeal.nD Cert.ReferenceLastIdeal.τ).loc Cert.ReferenceLastIdeal.main_v135) = v1 c
          ∧ r.2.mem ((c.tc : Thread Cert.ReferenceLastIdeal.nD Cert.ReferenceLastIdeal.τ).loc Cert.ReferenceLastIdeal.main_v132) = v2 c
          ∧ r.2.mem ((c.tc : Thread Cert.ReferenceLastIdeal.nD Cert.ReferenceLastIdeal.τ).loc Cert.ReferenceLastIdeal.main_v136) = v3 c
          ∧ r.2.mem ((c.tc : Thread Cert.ReferenceLastIdeal.nD Cert.ReferenceLastIdeal.τ).loc Cert.ReferenceLastIdeal.main_v137) = v4 c
          ∧ r.2.mem ((c.tc : Thread Cert.ReferenceLastIdeal.nD Cert.ReferenceLastIdeal.τ).loc Cert.ReferenceLastIdeal.main_v139) = v5 c
          ∧ r.2.mem ((c.tc : Thread Cert.ReferenceLastIdeal.nD Cert.ReferenceLastIdeal.τ).loc Cert.ReferenceLastIdeal.main_v141) = v6 c
          ∧ r.2.mem ((c.tc : Thread Cert.ReferenceLastIdeal.nD Cert.ReferenceLastIdeal.τ).loc Cert.ReferenceLastIdeal.main_v143) = v7 c
          ∧ r.2.mem ((c.tc : Thread Cert.ReferenceLastIdeal.nD Cert.ReferenceLastIdeal.τ).loc Cert.ReferenceLastIdeal.main_arg0) = m' ((c.tc : Thread Cert.ReferenceLastIdeal.nD Cert.ReferenceLastIdeal.τ).loc Cert.ReferenceLastIdeal.main_arg0)
          ∧ r.2.mem ((c.tc : Thread Cert.ReferenceLastIdeal.nD Cert.ReferenceLastIdeal.τ).loc Cert.ReferenceLastIdeal.main_arg1) = m' ((c.tc : Thread Cert.ReferenceLastIdeal.nD Cert.ReferenceLastIdeal.τ).loc Cert.ReferenceLastIdeal.main_arg1)
          ∧ r.2.mem ((c.tc : Thread Cert.ReferenceLastIdeal.nD Cert.ReferenceLastIdeal.τ).loc Cert.ReferenceLastIdeal.main_arg2) = m' ((c.tc : Thread Cert.ReferenceLastIdeal.nD Cert.ReferenceLastIdeal.τ).loc Cert.ReferenceLastIdeal.main_arg2)
          ∧ r.2.mem ((c.tc : Thread Cert.ReferenceLastIdeal.nD Cert.ReferenceLastIdeal.τ).loc Cert.ReferenceLastIdeal.main_arg3) = m' ((c.tc : Thread Cert.ReferenceLastIdeal.nD Cert.ReferenceLastIdeal.τ).loc Cert.ReferenceLastIdeal.main_arg3)
          ∧ r.2.mem ((c.tc : Thread Cert.ReferenceLastIdeal.nD Cert.ReferenceLastIdeal.τ).loc Cert.ReferenceLastIdeal.main_arg4) = m' ((c.tc : Thread Cert.ReferenceLastIdeal.nD Cert.ReferenceLastIdeal.τ).loc Cert.ReferenceLastIdeal.main_arg4)
          ∧ r.2.mem ((c.tc : Thread Cert.ReferenceLastIdeal.nD Cert.ReferenceLastIdeal.τ).loc Cert.ReferenceLastIdeal.main_arg5) = m' ((c.tc : Thread Cert.ReferenceLastIdeal.nD Cert.ReferenceLastIdeal.τ).loc Cert.ReferenceLastIdeal.main_arg5))

def preserves_KernelMin_KernelMinIdeal : Prop :=
  True

def algebraic_KernelMinIdeal_ReferenceMinIdeal_pre_finite_min [hKernelMinIdeal : Cert.KernelMinIdeal.Facts] [hReferenceMinIdeal : Cert.ReferenceMinIdeal.Facts] [hPre_finite_min : Cert.Pre_finite_min.Facts] : Prop :=
  ∀ (m : (ℓ : Loc Cert.KernelMinIdeal.nD Cert.KernelMinIdeal.τ Cert.KernelMinIdeal.sig) → Buf (Elt Ideal) ℓ) (g : Dev Cert.KernelMinIdeal.nD → PrngReg)
    (m' : (ℓ : Loc Cert.ReferenceMinIdeal.nD Cert.ReferenceMinIdeal.τ Cert.ReferenceMinIdeal.sig) → Buf (Elt Ideal) ℓ) (g' : Dev Cert.ReferenceMinIdeal.nD → PrngReg), Pre_KernelMinIdeal_finite_min m →
    (∀ c : Dev Cert.KernelMinIdeal.nD,
      m' ((c.tc : Thread Cert.ReferenceMinIdeal.nD Cert.ReferenceMinIdeal.τ).loc Cert.ReferenceMinIdeal.main_arg0) = m ((c.tc : Thread Cert.KernelMinIdeal.nD Cert.KernelMinIdeal.τ).loc Cert.KernelMinIdeal.main_arg0)
      ∧ m' ((c.tc : Thread Cert.ReferenceMinIdeal.nD Cert.ReferenceMinIdeal.τ).loc Cert.ReferenceMinIdeal.main_arg1) = m ((c.tc : Thread Cert.KernelMinIdeal.nD Cert.KernelMinIdeal.τ).loc Cert.KernelMinIdeal.main_arg1)
      ∧ m' ((c.tc : Thread Cert.ReferenceMinIdeal.nD Cert.ReferenceMinIdeal.τ).loc Cert.ReferenceMinIdeal.main_arg2) = m ((c.tc : Thread Cert.KernelMinIdeal.nD Cert.KernelMinIdeal.τ).loc Cert.KernelMinIdeal.main_arg2)
      ∧ m' ((c.tc : Thread Cert.ReferenceMinIdeal.nD Cert.ReferenceMinIdeal.τ).loc Cert.ReferenceMinIdeal.main_arg3) = m ((c.tc : Thread Cert.KernelMinIdeal.nD Cert.KernelMinIdeal.τ).loc Cert.KernelMinIdeal.main_arg3)
      ∧ m' ((c.tc : Thread Cert.ReferenceMinIdeal.nD Cert.ReferenceMinIdeal.τ).loc Cert.ReferenceMinIdeal.main_arg4) = m ((c.tc : Thread Cert.KernelMinIdeal.nD Cert.KernelMinIdeal.τ).loc Cert.KernelMinIdeal.main_arg4)) →
    ∃ (v0 : (c : Dev Cert.KernelMinIdeal.nD) → Buf (Elt Ideal) ((c.tc : Thread Cert.KernelMinIdeal.nD Cert.KernelMinIdeal.τ).loc Cert.KernelMinIdeal.main_v13_0)) (v1 : (c : Dev Cert.KernelMinIdeal.nD) → Buf (Elt Ideal) ((c.tc : Thread Cert.KernelMinIdeal.nD Cert.KernelMinIdeal.τ).loc Cert.KernelMinIdeal.main_v13_1)),
      θ_run (Cert.KernelMinIdeal.defs (F := Ideal)) (onTc (τ := Cert.KernelMinIdeal.τ) (Cert.KernelMinIdeal.main (F := Ideal))) ⟨m, fun _ => 0, g⟩ (fun r => ∀ c : Dev Cert.KernelMinIdeal.nD,
          r.2.mem ((c.tc : Thread Cert.KernelMinIdeal.nD Cert.KernelMinIdeal.τ).loc Cert.KernelMinIdeal.main_v13_0) = v0 c
          ∧ r.2.mem ((c.tc : Thread Cert.KernelMinIdeal.nD Cert.KernelMinIdeal.τ).loc Cert.KernelMinIdeal.main_v13_1) = v1 c
          ∧ r.2.mem ((c.tc : Thread Cert.KernelMinIdeal.nD Cert.KernelMinIdeal.τ).loc Cert.KernelMinIdeal.main_arg0) = m ((c.tc : Thread Cert.KernelMinIdeal.nD Cert.KernelMinIdeal.τ).loc Cert.KernelMinIdeal.main_arg0)
          ∧ r.2.mem ((c.tc : Thread Cert.KernelMinIdeal.nD Cert.KernelMinIdeal.τ).loc Cert.KernelMinIdeal.main_arg1) = m ((c.tc : Thread Cert.KernelMinIdeal.nD Cert.KernelMinIdeal.τ).loc Cert.KernelMinIdeal.main_arg1)
          ∧ r.2.mem ((c.tc : Thread Cert.KernelMinIdeal.nD Cert.KernelMinIdeal.τ).loc Cert.KernelMinIdeal.main_arg2) = m ((c.tc : Thread Cert.KernelMinIdeal.nD Cert.KernelMinIdeal.τ).loc Cert.KernelMinIdeal.main_arg2)
          ∧ r.2.mem ((c.tc : Thread Cert.KernelMinIdeal.nD Cert.KernelMinIdeal.τ).loc Cert.KernelMinIdeal.main_arg3) = m ((c.tc : Thread Cert.KernelMinIdeal.nD Cert.KernelMinIdeal.τ).loc Cert.KernelMinIdeal.main_arg3)
          ∧ r.2.mem ((c.tc : Thread Cert.KernelMinIdeal.nD Cert.KernelMinIdeal.τ).loc Cert.KernelMinIdeal.main_arg4) = m ((c.tc : Thread Cert.KernelMinIdeal.nD Cert.KernelMinIdeal.τ).loc Cert.KernelMinIdeal.main_arg4))
      ∧ θ_run (Cert.ReferenceMinIdeal.defs (F := Ideal)) (onTc (τ := Cert.ReferenceMinIdeal.τ) (Cert.ReferenceMinIdeal.main (F := Ideal))) ⟨m', fun _ => 0, g'⟩ (fun r => ∀ c : Dev Cert.ReferenceMinIdeal.nD,
          r.2.mem ((c.tc : Thread Cert.ReferenceMinIdeal.nD Cert.ReferenceMinIdeal.τ).loc Cert.ReferenceMinIdeal.main_v43) = v0 c
          ∧ r.2.mem ((c.tc : Thread Cert.ReferenceMinIdeal.nD Cert.ReferenceMinIdeal.τ).loc Cert.ReferenceMinIdeal.main_v42) = v1 c
          ∧ r.2.mem ((c.tc : Thread Cert.ReferenceMinIdeal.nD Cert.ReferenceMinIdeal.τ).loc Cert.ReferenceMinIdeal.main_arg0) = m' ((c.tc : Thread Cert.ReferenceMinIdeal.nD Cert.ReferenceMinIdeal.τ).loc Cert.ReferenceMinIdeal.main_arg0)
          ∧ r.2.mem ((c.tc : Thread Cert.ReferenceMinIdeal.nD Cert.ReferenceMinIdeal.τ).loc Cert.ReferenceMinIdeal.main_arg1) = m' ((c.tc : Thread Cert.ReferenceMinIdeal.nD Cert.ReferenceMinIdeal.τ).loc Cert.ReferenceMinIdeal.main_arg1)
          ∧ r.2.mem ((c.tc : Thread Cert.ReferenceMinIdeal.nD Cert.ReferenceMinIdeal.τ).loc Cert.ReferenceMinIdeal.main_arg2) = m' ((c.tc : Thread Cert.ReferenceMinIdeal.nD Cert.ReferenceMinIdeal.τ).loc Cert.ReferenceMinIdeal.main_arg2)
          ∧ r.2.mem ((c.tc : Thread Cert.ReferenceMinIdeal.nD Cert.ReferenceMinIdeal.τ).loc Cert.ReferenceMinIdeal.main_arg3) = m' ((c.tc : Thread Cert.ReferenceMinIdeal.nD Cert.ReferenceMinIdeal.τ).loc Cert.ReferenceMinIdeal.main_arg3)
          ∧ r.2.mem ((c.tc : Thread Cert.ReferenceMinIdeal.nD Cert.ReferenceMinIdeal.τ).loc Cert.ReferenceMinIdeal.main_arg4) = m' ((c.tc : Thread Cert.ReferenceMinIdeal.nD Cert.ReferenceMinIdeal.τ).loc Cert.ReferenceMinIdeal.main_arg4))

def preserves_KernelAf_KernelAfIdeal : Prop :=
  IdealRules.named_const.Statement Cert.KernelAfIdeal.κ "scale_log2e" .f32 0x3E38AA3B#32 (((8 * (Real.log 2))⁻¹ : ℝ) : EReal)
  ∧ IdealRules.named_const.Statement Cert.KernelAfIdeal.κ "log2e" .f32 0x3FB8AA3B#32 (((Real.log 2)⁻¹ : ℝ) : EReal)

def algebraic_KernelAfIdeal_ReferenceAfIdeal_pre_finite_af [hKernelAfIdeal : Cert.KernelAfIdeal.Facts] [hReferenceAfIdeal : Cert.ReferenceAfIdeal.Facts] [hPre_finite_af : Cert.Pre_finite_af.Facts] : Prop :=
  ∀ (m : (ℓ : Loc Cert.KernelAfIdeal.nD Cert.KernelAfIdeal.τ Cert.KernelAfIdeal.sig) → Buf (Elt Ideal) ℓ) (g : Dev Cert.KernelAfIdeal.nD → PrngReg)
    (m' : (ℓ : Loc Cert.ReferenceAfIdeal.nD Cert.ReferenceAfIdeal.τ Cert.ReferenceAfIdeal.sig) → Buf (Elt Ideal) ℓ) (g' : Dev Cert.ReferenceAfIdeal.nD → PrngReg), Pre_KernelAfIdeal_finite_af m →
    (∀ c : Dev Cert.KernelAfIdeal.nD,
      m' ((c.tc : Thread Cert.ReferenceAfIdeal.nD Cert.ReferenceAfIdeal.τ).loc Cert.ReferenceAfIdeal.main_arg0) = m ((c.tc : Thread Cert.KernelAfIdeal.nD Cert.KernelAfIdeal.τ).loc Cert.KernelAfIdeal.main_arg0)
      ∧ m' ((c.tc : Thread Cert.ReferenceAfIdeal.nD Cert.ReferenceAfIdeal.τ).loc Cert.ReferenceAfIdeal.main_arg1) = m ((c.tc : Thread Cert.KernelAfIdeal.nD Cert.KernelAfIdeal.τ).loc Cert.KernelAfIdeal.main_arg1)
      ∧ m' ((c.tc : Thread Cert.ReferenceAfIdeal.nD Cert.ReferenceAfIdeal.τ).loc Cert.ReferenceAfIdeal.main_arg2) = m ((c.tc : Thread Cert.KernelAfIdeal.nD Cert.KernelAfIdeal.τ).loc Cert.KernelAfIdeal.main_arg2)) →
    ∃ (v0 : (c : Dev Cert.KernelAfIdeal.nD) → Buf (Elt Ideal) ((c.tc : Thread Cert.KernelAfIdeal.nD Cert.KernelAfIdeal.τ).loc Cert.KernelAfIdeal.main_v6_0)) (v1 : (c : Dev Cert.KernelAfIdeal.nD) → Buf (Elt Ideal) ((c.tc : Thread Cert.KernelAfIdeal.nD Cert.KernelAfIdeal.τ).loc Cert.KernelAfIdeal.main_v6_1)),
      θ_run (Cert.KernelAfIdeal.defs (F := Ideal)) (onTc (τ := Cert.KernelAfIdeal.τ) (Cert.KernelAfIdeal.main (F := Ideal))) ⟨m, fun _ => 0, g⟩ (fun r => ∀ c : Dev Cert.KernelAfIdeal.nD,
          r.2.mem ((c.tc : Thread Cert.KernelAfIdeal.nD Cert.KernelAfIdeal.τ).loc Cert.KernelAfIdeal.main_v6_0) = v0 c
          ∧ r.2.mem ((c.tc : Thread Cert.KernelAfIdeal.nD Cert.KernelAfIdeal.τ).loc Cert.KernelAfIdeal.main_v6_1) = v1 c
          ∧ r.2.mem ((c.tc : Thread Cert.KernelAfIdeal.nD Cert.KernelAfIdeal.τ).loc Cert.KernelAfIdeal.main_arg0) = m ((c.tc : Thread Cert.KernelAfIdeal.nD Cert.KernelAfIdeal.τ).loc Cert.KernelAfIdeal.main_arg0)
          ∧ r.2.mem ((c.tc : Thread Cert.KernelAfIdeal.nD Cert.KernelAfIdeal.τ).loc Cert.KernelAfIdeal.main_arg1) = m ((c.tc : Thread Cert.KernelAfIdeal.nD Cert.KernelAfIdeal.τ).loc Cert.KernelAfIdeal.main_arg1)
          ∧ r.2.mem ((c.tc : Thread Cert.KernelAfIdeal.nD Cert.KernelAfIdeal.τ).loc Cert.KernelAfIdeal.main_arg2) = m ((c.tc : Thread Cert.KernelAfIdeal.nD Cert.KernelAfIdeal.τ).loc Cert.KernelAfIdeal.main_arg2))
      ∧ θ_run (Cert.ReferenceAfIdeal.defs (F := Ideal)) (onTc (τ := Cert.ReferenceAfIdeal.τ) (Cert.ReferenceAfIdeal.main (F := Ideal))) ⟨m', fun _ => 0, g'⟩ (fun r => ∀ c : Dev Cert.ReferenceAfIdeal.nD,
          r.2.mem ((c.tc : Thread Cert.ReferenceAfIdeal.nD Cert.ReferenceAfIdeal.τ).loc Cert.ReferenceAfIdeal.main_v52) = v0 c
          ∧ r.2.mem ((c.tc : Thread Cert.ReferenceAfIdeal.nD Cert.ReferenceAfIdeal.τ).loc Cert.ReferenceAfIdeal.main_v57) = v1 c
          ∧ r.2.mem ((c.tc : Thread Cert.ReferenceAfIdeal.nD Cert.ReferenceAfIdeal.τ).loc Cert.ReferenceAfIdeal.main_arg0) = m' ((c.tc : Thread Cert.ReferenceAfIdeal.nD Cert.ReferenceAfIdeal.τ).loc Cert.ReferenceAfIdeal.main_arg0)
          ∧ r.2.mem ((c.tc : Thread Cert.ReferenceAfIdeal.nD Cert.ReferenceAfIdeal.τ).loc Cert.ReferenceAfIdeal.main_arg1) = m' ((c.tc : Thread Cert.ReferenceAfIdeal.nD Cert.ReferenceAfIdeal.τ).loc Cert.ReferenceAfIdeal.main_arg1)
          ∧ r.2.mem ((c.tc : Thread Cert.ReferenceAfIdeal.nD Cert.ReferenceAfIdeal.τ).loc Cert.ReferenceAfIdeal.main_arg2) = m' ((c.tc : Thread Cert.ReferenceAfIdeal.nD Cert.ReferenceAfIdeal.τ).loc Cert.ReferenceAfIdeal.main_arg2))

def preserves_KernelFf_KernelFfIdeal : Prop :=
  True

def algebraic_KernelFfIdeal_ReferenceFfIdeal_pre_finite_ff [hKernelFfIdeal : Cert.KernelFfIdeal.Facts] [hReferenceFfIdeal : Cert.ReferenceFfIdeal.Facts] [hPre_finite_ff : Cert.Pre_finite_ff.Facts] : Prop :=
  ∀ (m : (ℓ : Loc Cert.KernelFfIdeal.nD Cert.KernelFfIdeal.τ Cert.KernelFfIdeal.sig) → Buf (Elt Ideal) ℓ) (g : Dev Cert.KernelFfIdeal.nD → PrngReg)
    (m' : (ℓ : Loc Cert.ReferenceFfIdeal.nD Cert.ReferenceFfIdeal.τ Cert.ReferenceFfIdeal.sig) → Buf (Elt Ideal) ℓ) (g' : Dev Cert.ReferenceFfIdeal.nD → PrngReg), Pre_KernelFfIdeal_finite_ff m →
    (∀ c : Dev Cert.KernelFfIdeal.nD,
      m' ((c.tc : Thread Cert.ReferenceFfIdeal.nD Cert.ReferenceFfIdeal.τ).loc Cert.ReferenceFfIdeal.main_arg0) = m ((c.tc : Thread Cert.KernelFfIdeal.nD Cert.KernelFfIdeal.τ).loc Cert.KernelFfIdeal.main_arg0)
      ∧ m' ((c.tc : Thread Cert.ReferenceFfIdeal.nD Cert.ReferenceFfIdeal.τ).loc Cert.ReferenceFfIdeal.main_arg1) = m ((c.tc : Thread Cert.KernelFfIdeal.nD Cert.KernelFfIdeal.τ).loc Cert.KernelFfIdeal.main_arg1)
      ∧ m' ((c.tc : Thread Cert.ReferenceFfIdeal.nD Cert.ReferenceFfIdeal.τ).loc Cert.ReferenceFfIdeal.main_arg2) = m ((c.tc : Thread Cert.KernelFfIdeal.nD Cert.KernelFfIdeal.τ).loc Cert.KernelFfIdeal.main_arg2)
      ∧ m' ((c.tc : Thread Cert.ReferenceFfIdeal.nD Cert.ReferenceFfIdeal.τ).loc Cert.ReferenceFfIdeal.main_arg3) = m ((c.tc : Thread Cert.KernelFfIdeal.nD Cert.KernelFfIdeal.τ).loc Cert.KernelFfIdeal.main_arg3)) →
    ∃ (v0 : (c : Dev Cert.KernelFfIdeal.nD) → Buf (Elt Ideal) ((c.tc : Thread Cert.KernelFfIdeal.nD Cert.KernelFfIdeal.τ).loc Cert.KernelFfIdeal.main_v7_0)) (v1 : (c : Dev Cert.KernelFfIdeal.nD) → Buf (Elt Ideal) ((c.tc : Thread Cert.KernelFfIdeal.nD Cert.KernelFfIdeal.τ).loc Cert.KernelFfIdeal.main_v7_1)) (v2 : (c : Dev Cert.KernelFfIdeal.nD) → Buf (Elt Ideal) ((c.tc : Thread Cert.KernelFfIdeal.nD Cert.KernelFfIdeal.τ).loc Cert.KernelFfIdeal.main_v7_2)) (v3 : (c : Dev Cert.KernelFfIdeal.nD) → Buf (Elt Ideal) ((c.tc : Thread Cert.KernelFfIdeal.nD Cert.KernelFfIdeal.τ).loc Cert.KernelFfIdeal.main_v7_3)),
      θ_run (Cert.KernelFfIdeal.defs (F := Ideal)) (onTc (τ := Cert.KernelFfIdeal.τ) (Cert.KernelFfIdeal.main (F := Ideal))) ⟨m, fun _ => 0, g⟩ (fun r => ∀ c : Dev Cert.KernelFfIdeal.nD,
          r.2.mem ((c.tc : Thread Cert.KernelFfIdeal.nD Cert.KernelFfIdeal.τ).loc Cert.KernelFfIdeal.main_v7_0) = v0 c
          ∧ r.2.mem ((c.tc : Thread Cert.KernelFfIdeal.nD Cert.KernelFfIdeal.τ).loc Cert.KernelFfIdeal.main_v7_1) = v1 c
          ∧ r.2.mem ((c.tc : Thread Cert.KernelFfIdeal.nD Cert.KernelFfIdeal.τ).loc Cert.KernelFfIdeal.main_v7_2) = v2 c
          ∧ r.2.mem ((c.tc : Thread Cert.KernelFfIdeal.nD Cert.KernelFfIdeal.τ).loc Cert.KernelFfIdeal.main_v7_3) = v3 c
          ∧ r.2.mem ((c.tc : Thread Cert.KernelFfIdeal.nD Cert.KernelFfIdeal.τ).loc Cert.KernelFfIdeal.main_arg0) = m ((c.tc : Thread Cert.KernelFfIdeal.nD Cert.KernelFfIdeal.τ).loc Cert.KernelFfIdeal.main_arg0)
          ∧ r.2.mem ((c.tc : Thread Cert.KernelFfIdeal.nD Cert.KernelFfIdeal.τ).loc Cert.KernelFfIdeal.main_arg1) = m ((c.tc : Thread Cert.KernelFfIdeal.nD Cert.KernelFfIdeal.τ).loc Cert.KernelFfIdeal.main_arg1)
          ∧ r.2.mem ((c.tc : Thread Cert.KernelFfIdeal.nD Cert.KernelFfIdeal.τ).loc Cert.KernelFfIdeal.main_arg2) = m ((c.tc : Thread Cert.KernelFfIdeal.nD Cert.KernelFfIdeal.τ).loc Cert.KernelFfIdeal.main_arg2)
          ∧ r.2.mem ((c.tc : Thread Cert.KernelFfIdeal.nD Cert.KernelFfIdeal.τ).loc Cert.KernelFfIdeal.main_arg3) = m ((c.tc : Thread Cert.KernelFfIdeal.nD Cert.KernelFfIdeal.τ).loc Cert.KernelFfIdeal.main_arg3))
      ∧ θ_run (Cert.ReferenceFfIdeal.defs (F := Ideal)) (onTc (τ := Cert.ReferenceFfIdeal.τ) (Cert.ReferenceFfIdeal.main (F := Ideal))) ⟨m', fun _ => 0, g'⟩ (fun r => ∀ c : Dev Cert.ReferenceFfIdeal.nD,
          r.2.mem ((c.tc : Thread Cert.ReferenceFfIdeal.nD Cert.ReferenceFfIdeal.τ).loc Cert.ReferenceFfIdeal.main_v25) = v0 c
          ∧ r.2.mem ((c.tc : Thread Cert.ReferenceFfIdeal.nD Cert.ReferenceFfIdeal.τ).loc Cert.ReferenceFfIdeal.main_v27) = v1 c
          ∧ r.2.mem ((c.tc : Thread Cert.ReferenceFfIdeal.nD Cert.ReferenceFfIdeal.τ).loc Cert.ReferenceFfIdeal.main_v29) = v2 c
          ∧ r.2.mem ((c.tc : Thread Cert.ReferenceFfIdeal.nD Cert.ReferenceFfIdeal.τ).loc Cert.ReferenceFfIdeal.main_v33) = v3 c
          ∧ r.2.mem ((c.tc : Thread Cert.ReferenceFfIdeal.nD Cert.ReferenceFfIdeal.τ).loc Cert.ReferenceFfIdeal.main_arg0) = m' ((c.tc : Thread Cert.ReferenceFfIdeal.nD Cert.ReferenceFfIdeal.τ).loc Cert.ReferenceFfIdeal.main_arg0)
          ∧ r.2.mem ((c.tc : Thread Cert.ReferenceFfIdeal.nD Cert.ReferenceFfIdeal.τ).loc Cert.ReferenceFfIdeal.main_arg1) = m' ((c.tc : Thread Cert.ReferenceFfIdeal.nD Cert.ReferenceFfIdeal.τ).loc Cert.ReferenceFfIdeal.main_arg1)
          ∧ r.2.mem ((c.tc : Thread Cert.ReferenceFfIdeal.nD Cert.ReferenceFfIdeal.τ).loc Cert.ReferenceFfIdeal.main_arg2) = m' ((c.tc : Thread Cert.ReferenceFfIdeal.nD Cert.ReferenceFfIdeal.τ).loc Cert.ReferenceFfIdeal.main_arg2)
          ∧ r.2.mem ((c.tc : Thread Cert.ReferenceFfIdeal.nD Cert.ReferenceFfIdeal.τ).loc Cert.ReferenceFfIdeal.main_arg3) = m' ((c.tc : Thread Cert.ReferenceFfIdeal.nD Cert.ReferenceFfIdeal.τ).loc Cert.ReferenceFfIdeal.main_arg3))

def Claim : Prop :=
  ∃ (hKernelAct : Cert.KernelAct.Facts) (hKernelActIdeal : Cert.KernelActIdeal.Facts) (hReferenceActIdeal : Cert.ReferenceActIdeal.Facts) (hKernelSb : Cert.KernelSb.Facts) (hKernelSbIdeal : Cert.KernelSbIdeal.Facts) (hReferenceSbIdeal : Cert.ReferenceSbIdeal.Facts) (hKernelFin : Cert.KernelFin.Facts) (hKernelFinIdeal : Cert.KernelFinIdeal.Facts) (hReferenceFinIdeal : Cert.ReferenceFinIdeal.Facts) (hKernelLast : Cert.KernelLast.Facts) (hKernelLastIdeal : Cert.KernelLastIdeal.Facts) (hReferenceLastIdeal : Cert.ReferenceLastIdeal.Facts) (hKernelMin : Cert.KernelMin.Facts) (hKernelMinIdeal : Cert.KernelMinIdeal.Facts) (hReferenceMinIdeal : Cert.ReferenceMinIdeal.Facts) (hKernelAf : Cert.KernelAf.Facts) (hKernelAfIdeal : Cert.KernelAfIdeal.Facts) (hReferenceAfIdeal : Cert.ReferenceAfIdeal.Facts) (hKernelFf : Cert.KernelFf.Facts) (hKernelFfIdeal : Cert.KernelFfIdeal.Facts) (hReferenceFfIdeal : Cert.ReferenceFfIdeal.Facts) (hPre_finite_act : Cert.Pre_finite_act.Facts) (hPre_finite_sb : Cert.Pre_finite_sb.Facts) (hPre_finite_in : Cert.Pre_finite_in.Facts) (hPre_finite_last : Cert.Pre_finite_last.Facts) (hPre_finite_min : Cert.Pre_finite_min.Facts) (hPre_finite_af : Cert.Pre_finite_af.Facts) (hPre_finite_ff : Cert.Pre_finite_ff.Facts),
    quiescent_KernelAct (hKernelAct := hKernelAct)
    ∧ quiescent_KernelActIdeal (hKernelActIdeal := hKernelActIdeal)
    ∧ quiescent_KernelActIdeal_pre_finite_act (hKernelActIdeal := hKernelActIdeal) (hPre_finite_act := hPre_finite_act)
    ∧ quiescent_ReferenceActIdeal (hReferenceActIdeal := hReferenceActIdeal)
    ∧ quiescent_ReferenceActIdeal_pre_finite_act (hReferenceActIdeal := hReferenceActIdeal) (hPre_finite_act := hPre_finite_act)
    ∧ quiescent_KernelSb (hKernelSb := hKernelSb)
    ∧ quiescent_KernelSbIdeal (hKernelSbIdeal := hKernelSbIdeal)
    ∧ quiescent_KernelSbIdeal_pre_finite_sb (hKernelSbIdeal := hKernelSbIdeal) (hPre_finite_sb := hPre_finite_sb)
    ∧ quiescent_ReferenceSbIdeal (hReferenceSbIdeal := hReferenceSbIdeal)
    ∧ quiescent_ReferenceSbIdeal_pre_finite_sb (hReferenceSbIdeal := hReferenceSbIdeal) (hPre_finite_sb := hPre_finite_sb)
    ∧ quiescent_KernelFin (hKernelFin := hKernelFin)
    ∧ quiescent_KernelFinIdeal (hKernelFinIdeal := hKernelFinIdeal)
    ∧ quiescent_KernelFinIdeal_pre_finite_in (hKernelFinIdeal := hKernelFinIdeal) (hPre_finite_in := hPre_finite_in)
    ∧ quiescent_ReferenceFinIdeal (hReferenceFinIdeal := hReferenceFinIdeal)
    ∧ quiescent_ReferenceFinIdeal_pre_finite_in (hReferenceFinIdeal := hReferenceFinIdeal) (hPre_finite_in := hPre_finite_in)
    ∧ quiescent_KernelLast (hKernelLast := hKernelLast)
    ∧ quiescent_KernelLastIdeal (hKernelLastIdeal := hKernelLastIdeal)
    ∧ quiescent_KernelLastIdeal_pre_finite_last (hKernelLastIdeal := hKernelLastIdeal) (hPre_finite_last := hPre_finite_last)
    ∧ quiescent_ReferenceLastIdeal (hReferenceLastIdeal := hReferenceLastIdeal)
    ∧ quiescent_ReferenceLastIdeal_pre_finite_last (hReferenceLastIdeal := hReferenceLastIdeal) (hPre_finite_last := hPre_finite_last)
    ∧ quiescent_KernelMin (hKernelMin := hKernelMin)
    ∧ quiescent_KernelMinIdeal (hKernelMinIdeal := hKernelMinIdeal)
    ∧ quiescent_KernelMinIdeal_pre_finite_min (hKernelMinIdeal := hKernelMinIdeal) (hPre_finite_min := hPre_finite_min)
    ∧ quiescent_ReferenceMinIdeal (hReferenceMinIdeal := hReferenceMinIdeal)
    ∧ quiescent_ReferenceMinIdeal_pre_finite_min (hReferenceMinIdeal := hReferenceMinIdeal) (hPre_finite_min := hPre_finite_min)
    ∧ quiescent_KernelAf (hKernelAf := hKernelAf)
    ∧ quiescent_KernelAfIdeal (hKernelAfIdeal := hKernelAfIdeal)
    ∧ quiescent_KernelAfIdeal_pre_finite_af (hKernelAfIdeal := hKernelAfIdeal) (hPre_finite_af := hPre_finite_af)
    ∧ quiescent_ReferenceAfIdeal (hReferenceAfIdeal := hReferenceAfIdeal)
    ∧ quiescent_ReferenceAfIdeal_pre_finite_af (hReferenceAfIdeal := hReferenceAfIdeal) (hPre_finite_af := hPre_finite_af)
    ∧ quiescent_KernelFf (hKernelFf := hKernelFf)
    ∧ quiescent_KernelFfIdeal (hKernelFfIdeal := hKernelFfIdeal)
    ∧ quiescent_KernelFfIdeal_pre_finite_ff (hKernelFfIdeal := hKernelFfIdeal) (hPre_finite_ff := hPre_finite_ff)
    ∧ quiescent_ReferenceFfIdeal (hReferenceFfIdeal := hReferenceFfIdeal)
    ∧ quiescent_ReferenceFfIdeal_pre_finite_ff (hReferenceFfIdeal := hReferenceFfIdeal) (hPre_finite_ff := hPre_finite_ff)
    ∧ preserves_KernelAct_KernelActIdeal
    ∧ algebraic_KernelActIdeal_ReferenceActIdeal_pre_finite_act (hKernelActIdeal := hKernelActIdeal) (hReferenceActIdeal := hReferenceActIdeal) (hPre_finite_act := hPre_finite_act)
    ∧ preserves_KernelSb_KernelSbIdeal
    ∧ algebraic_KernelSbIdeal_ReferenceSbIdeal_pre_finite_sb (hKernelSbIdeal := hKernelSbIdeal) (hReferenceSbIdeal := hReferenceSbIdeal) (hPre_finite_sb := hPre_finite_sb)
    ∧ preserves_KernelFin_KernelFinIdeal
    ∧ algebraic_KernelFinIdeal_ReferenceFinIdeal_pre_finite_in (hKernelFinIdeal := hKernelFinIdeal) (hReferenceFinIdeal := hReferenceFinIdeal) (hPre_finite_in := hPre_finite_in)
    ∧ preserves_KernelLast_KernelLastIdeal
    ∧ algebraic_KernelLastIdeal_ReferenceLastIdeal_pre_finite_last (hKernelLastIdeal := hKernelLastIdeal) (hReferenceLastIdeal := hReferenceLastIdeal) (hPre_finite_last := hPre_finite_last)
    ∧ preserves_KernelMin_KernelMinIdeal
    ∧ algebraic_KernelMinIdeal_ReferenceMinIdeal_pre_finite_min (hKernelMinIdeal := hKernelMinIdeal) (hReferenceMinIdeal := hReferenceMinIdeal) (hPre_finite_min := hPre_finite_min)
    ∧ preserves_KernelAf_KernelAfIdeal
    ∧ algebraic_KernelAfIdeal_ReferenceAfIdeal_pre_finite_af (hKernelAfIdeal := hKernelAfIdeal) (hReferenceAfIdeal := hReferenceAfIdeal) (hPre_finite_af := hPre_finite_af)
    ∧ preserves_KernelFf_KernelFfIdeal
    ∧ algebraic_KernelFfIdeal_ReferenceFfIdeal_pre_finite_ff (hKernelFfIdeal := hKernelFfIdeal) (hReferenceFfIdeal := hReferenceFfIdeal) (hPre_finite_ff := hPre_finite_ff)
-- ==== Pre_finite_act.lean ====
abbrev S1x2048x5632 : Shape := ⟨3, ![1, 2048, 5632]⟩
abbrev S1x2816x1024 : Shape := ⟨3, ![1, 2816, 1024]⟩
abbrev S1x2048x1024 : Shape := ⟨3, ![1, 2048, 1024]⟩
abbrev S_ : Shape := ⟨0, ![]⟩

class Facts : Prop where
  bcast_S_S1x2048x5632 : S_.BroadcastsInDim S1x2048x5632 (![] : Fin 0 → Fin S1x2048x5632.rank)
  bcast_S_S1x2816x1024 : S_.BroadcastsInDim S1x2816x1024 (![] : Fin 0 → Fin S1x2816x1024.rank)
  bcast_S_S1x2048x1024 : S_.BroadcastsInDim S1x2048x1024 (![] : Fin 0 → Fin S1x2048x1024.rank)

variable [Facts]

def fn {F : FTy → Type} [FloatOps F] (main_arg0 : FVec F S1x2048x5632 .f32) (main_arg1 : FVec F S1x2816x1024 .f32) (main_arg2 : FVec F S1x2048x1024 .f32) : IVec S1x2048x5632 1 × IVec S1x2816x1024 1 × IVec S1x2048x1024 1 :=
  let main_v0 : FVec F S1x2048x5632 .f32 := Host.absf main_arg0
  let main_cst : FVec F S_ .f32 := constant S_ .f32 0x7F800000#32
  let main_v1 : FVec F S1x2048x5632 .f32 := broadcastInDim S1x2048x5632 ![] bcast_S_S1x2048x5632 main_cst
  let main_v2 : IVec S1x2048x5632 1 := cmpf .olt main_v0 main_v1
  let main_v3 : FVec F S1x2816x1024 .f32 := Host.absf main_arg1
  let main_cst_0 : FVec F S_ .f32 := constant S_ .f32 0x7F800000#32
  let main_v4 : FVec F S1x2816x1024 .f32 := broadcastInDim S1x2816x1024 ![] bcast_S_S1x2816x1024 main_cst_0
  let main_v5 : IVec S1x2816x1024 1 := cmpf .olt main_v3 main_v4
  let main_v6 : FVec F S1x2048x1024 .f32 := Host.absf main_arg2
  let main_cst_1 : FVec F S_ .f32 := constant S_ .f32 0x7F800000#32
  let main_v7 : FVec F S1x2048x1024 .f32 := broadcastInDim S1x2048x1024 ![] bcast_S_S1x2048x1024 main_cst_1
  let main_v8 : IVec S1x2048x1024 1 := cmpf .olt main_v6 main_v7
  (main_v2, main_v5, main_v8)
-- ==== Pre_finite_af.lean ====
abbrev S1x2048x512 : Shape := ⟨3, ![1, 2048, 512]⟩
abbrev S_ : Shape := ⟨0, ![]⟩

class Facts : Prop where
  bcast_S_S1x2048x512 : S_.BroadcastsInDim S1x2048x512 (![] : Fin 0 → Fin S1x2048x512.rank)

variable [Facts]

def fn {F : FTy → Type} [FloatOps F] (main_arg0 : FVec F S1x2048x512 .f32) (main_arg1 : FVec F S1x2048x512 .f32) (main_arg2 : FVec F S1x2048x512 .f32) : IVec S1x2048x512 1 × IVec S1x2048x512 1 × IVec S1x2048x512 1 :=
  let main_v0 : FVec F S1x2048x512 .f32 := Host.absf main_arg0
  let main_cst : FVec F S_ .f32 := constant S_ .f32 0x7F800000#32
  let main_v1 : FVec F S1x2048x512 .f32 := broadcastInDim S1x2048x512 ![] bcast_S_S1x2048x512 main_cst
  let main_v2 : IVec S1x2048x512 1 := cmpf .olt main_v0 main_v1
  let main_v3 : FVec F S1x2048x512 .f32 := Host.absf main_arg1
  let main_cst_0 : FVec F S_ .f32 := constant S_ .f32 0x7F800000#32
  let main_v4 : FVec F S1x2048x512 .f32 := broadcastInDim S1x2048x512 ![] bcast_S_S1x2048x512 main_cst_0
  let main_v5 : IVec S1x2048x512 1 := cmpf .olt main_v3 main_v4
  let main_v6 : FVec F S1x2048x512 .f32 := Host.absf main_arg2
  let main_cst_1 : FVec F S_ .f32 := constant S_ .f32 0x7F800000#32
  let main_v7 : FVec F S1x2048x512 .f32 := broadcastInDim S1x2048x512 ![] bcast_S_S1x2048x512 main_cst_1
  let main_v8 : IVec S1x2048x512 1 := cmpf .olt main_v6 main_v7
  (main_v2, main_v5, main_v8)
-- ==== Pre_finite_ff.lean ====
abbrev S1x2048x1024 : Shape := ⟨3, ![1, 2048, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S_ : Shape := ⟨0, ![]⟩

class Facts : Prop where
  bcast_S_S1x2048x1024 : S_.BroadcastsInDim S1x2048x1024 (![] : Fin 0 → Fin S1x2048x1024.rank)
  bcast_S_S1x1024 : S_.BroadcastsInDim S1x1024 (![] : Fin 0 → Fin S1x1024.rank)
  bcast_S_S1x1024x5632 : S_.BroadcastsInDim S1x1024x5632 (![] : Fin 0 → Fin S1x1024x5632.rank)
  bcast_S_S1x2816x1024 : S_.BroadcastsInDim S1x2816x1024 (![] : Fin 0 → Fin S1x2816x1024.rank)

variable [Facts]

def fn {F : FTy → Type} [FloatOps F] (main_arg0 : FVec F S1x2048x1024 .f32) (main_arg1 : FVec F S1x1024 .f32) (main_arg2 : FVec F S1x1024x5632 .f32) (main_arg3 : FVec F S1x2816x1024 .f32) : IVec S1x2048x1024 1 × IVec S1x1024 1 × IVec S1x1024x5632 1 × IVec S1x2816x1024 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x5632 .f32 := Host.absf main_arg2
  let main_cst_1 : FVec F S_ .f32 := constant S_ .f32 0x7F800000#32
  let main_v7 : FVec F S1x1024x5632 .f32 := broadcastInDim S1x1024x5632 ![] bcast_S_S1x1024x5632 main_cst_1
  let main_v8 : IVec S1x1024x5632 1 := cmpf .olt main_v6 main_v7
  let main_v9 : FVec F S1x2816x1024 .f32 := Host.absf main_arg3
  let main_cst_2 : FVec F S_ .f32 := constant S_ .f32 0x7F800000#32
  let main_v10 : FVec F S1x2816x1024 .f32 := broadcastInDim S1x2816x1024 ![] bcast_S_S1x2816x1024 main_cst_2
  let main_v11 : IVec S1x2816x1024 1 := cmpf .olt main_v9 main_v10
  (main_v2, main_v5, main_v8, main_v11)
-- ==== Pre_finite_in.lean ====
abbrev S1x2048x1024 : Shape := ⟨3, ![1, 2048, 1024]⟩
abbrev S1x1024 : Shape := ⟨2, ![1, 1024]⟩
abbrev S1x1024x5632 : Shape := ⟨3, ![1, 1024, 5632]⟩
abbrev S1x2048x5632 : Shape := ⟨3, ![1, 2048, 5632]⟩
abbrev S_ : Shape := ⟨0, ![]⟩

class Facts : Prop where
  bcast_S_S1x2048x1024 : S_.BroadcastsInDim S1x2048x1024 (![] : Fin 0 → Fin S1x2048x1024.rank)
  bcast_S_S1x1024 : S_.BroadcastsInDim S1x1024 (![] : Fin 0 → Fin S1x1024.rank)
  bcast_S_S1x1024x5632 : S_.BroadcastsInDim S1x1024x5632 (![] : Fin 0 → Fin S1x1024x5632.rank)
  bcast_S_S1x2048x5632 : S_.BroadcastsInDim S1x2048x5632 (![] : Fin 0 → Fin S1x2048x5632.rank)

variable [Facts]

def fn {F : FTy → Type} [FloatOps F] (main_arg0 : FVec F S1x2048x1024 .f32) (main_arg1 : FVec F S1x2048x1024 .f32) (main_arg2 : FVec F S1x1024 .f32) (main_arg3 : FVec F S1x1024x5632 .f32) (main_arg4 : FVec F S1x2048x5632 .f32) : IVec S1x2048x1024 1 × IVec S1x1024 1 × IVec S1x1024x5632 1 × IVec S1x2048x5632 1 :=
  let main_v0 : FVec F S1x2048x1024 .f32 := Host.absf main_arg1
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_v3 : FVec F S1x1024 .f32 := Host.absf main_arg2
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x5632 .f32 := Host.absf main_arg3
  let main_cst_1 : FVec F S_ .f32 := constant S_ .f32 0x7F800000#32
  let main_v7 : FVec F S1x1024x5632 .f32 := broadcastInDim S1x1024x5632 ![] bcast_S_S1x1024x5632 main_cst_1
  let main_v8 : IVec S1x1024x5632 1 := cmpf .olt main_v6 main_v7
  let main_v9 : FVec F S1x2048x5632 .f32 := Host.absf main_arg4
  let main_cst_2 : FVec F S_ .f32 := constant S_ .f32 0x7F800000#32
  let main_v10 : FVec F S1x2048x5632 .f32 := broadcastInDim S1x2048x5632 ![] bcast_S_S1x2048x5632 main_cst_2
  let main_v11 : IVec S1x2048x5632 1 := cmpf .olt main_v9 main_v10
  (main_v2, main_v5, main_v8, main_v11)
-- ==== Pre_finite_last.lean ====
abbrev S1x2048x1024 : Shape := ⟨3, ![1, 2048, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S_ : Shape := ⟨0, ![]⟩

class Facts : Prop where
  bcast_S_S1x2048x1024 : S_.BroadcastsInDim S1x2048x1024 (![] : Fin 0 → Fin S1x2048x1024.rank)
  bcast_S_S1x1024 : S_.BroadcastsInDim S1x1024 (![] : Fin 0 → Fin S1x1024.rank)
  bcast_S_S1x1024x5632 : S_.BroadcastsInDim S1x1024x5632 (![] : Fin 0 → Fin S1x1024x5632.rank)
  bcast_S_S1x2816x1024 : S_.BroadcastsInDim S1x2816x1024 (![] : Fin 0 → Fin S1x2816x1024.rank)
  bcast_S_S1024 : S_.BroadcastsInDim S1024 (![] : Fin 0 → Fin S1024.rank)

variable [Facts]

def fn {F : FTy → Type} [FloatOps F] (main_arg0 : FVec F S1x2048x1024 .f32) (main_arg1 : FVec F S1x1024 .f32) (main_arg2 : FVec F S1x1024x5632 .f32) (main_arg3 : FVec F S1x2816x1024 .f32) (main_arg4 : FVec F S1x2048x1024 .f32) (main_arg5 : FVec F S1024 .f32) : IVec S1x2048x1024 1 × IVec S1x1024 1 × IVec S1x1024x5632 1 × IVec S1x2816x1024 1 × IVec S1x2048x1024 1 × IVec S1024 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x5632 .f32 := Host.absf main_arg2
  let main_cst_1 : FVec F S_ .f32 := constant S_ .f32 0x7F800000#32
  let main_v7 : FVec F S1x1024x5632 .f32 := broadcastInDim S1x1024x5632 ![] bcast_S_S1x1024x5632 main_cst_1
  let main_v8 : IVec S1x1024x5632 1 := cmpf .olt main_v6 main_v7
  let main_v9 : FVec F S1x2816x1024 .f32 := Host.absf main_arg3
  let main_cst_2 : FVec F S_ .f32 := constant S_ .f32 0x7F800000#32
  let main_v10 : FVec F S1x2816x1024 .f32 := broadcastInDim S1x2816x1024 ![] bcast_S_S1x2816x1024 main_cst_2
  let main_v11 : IVec S1x2816x1024 1 := cmpf .olt main_v9 main_v10
  let main_v12 : FVec F S1x2048x1024 .f32 := Host.absf main_arg4
  let main_cst_3 : FVec F S_ .f32 := constant S_ .f32 0x7F800000#32
  let main_v13 : FVec F S1x2048x1024 .f32 := broadcastInDim S1x2048x1024 ![] bcast_S_S1x2048x1024 main_cst_3
  let main_v14 : IVec S1x2048x1024 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  (main_v2, main_v5, main_v8, main_v11, main_v14, main_v17)
-- ==== Pre_finite_min.lean ====
abbrev S1x2048x1024 : Shape := ⟨3, ![1, 2048, 1024]⟩
abbrev S1x1024 : Shape := ⟨2, ![1, 1024]⟩
abbrev S1x1024x4096 : Shape := ⟨3, ![1, 1024, 4096]⟩
abbrev S1x2048x4096 : Shape := ⟨3, ![1, 2048, 4096]⟩
abbrev S_ : Shape := ⟨0, ![]⟩

class Facts : Prop where
  bcast_S_S1x2048x1024 : S_.BroadcastsInDim S1x2048x1024 (![] : Fin 0 → Fin S1x2048x1024.rank)
  bcast_S_S1x1024 : S_.BroadcastsInDim S1x1024 (![] : Fin 0 → Fin S1x1024.rank)
  bcast_S_S1x1024x4096 : S_.BroadcastsInDim S1x1024x4096 (![] : Fin 0 → Fin S1x1024x4096.rank)
  bcast_S_S1x2048x4096 : S_.BroadcastsInDim S1x2048x4096 (![] : Fin 0 → Fin S1x2048x4096.rank)

variable [Facts]

def fn {F : FTy → Type} [FloatOps F] (main_arg0 : FVec F S1x2048x1024 .f32) (main_arg1 : FVec F S1x2048x1024 .f32) (main_arg2 : FVec F S1x1024 .f32) (main_arg3 : FVec F S1x1024x4096 .f32) (main_arg4 : FVec F S1x2048x4096 .f32) : IVec S1x2048x1024 1 × IVec S1x1024 1 × IVec S1x1024x4096 1 × IVec S1x2048x4096 1 :=
  let main_v0 : FVec F S1x2048x1024 .f32 := Host.absf main_arg1
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_v3 : FVec F S1x1024 .f32 := Host.absf main_arg2
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x4096 .f32 := Host.absf main_arg3
  let main_cst_1 : FVec F S_ .f32 := constant S_ .f32 0x7F800000#32
  let main_v7 : FVec F S1x1024x4096 .f32 := broadcastInDim S1x1024x4096 ![] bcast_S_S1x1024x4096 main_cst_1
  let main_v8 : IVec S1x1024x4096 1 := cmpf .olt main_v6 main_v7
  let main_v9 : FVec F S1x2048x4096 .f32 := Host.absf main_arg4
  let main_cst_2 : FVec F S_ .f32 := constant S_ .f32 0x7F800000#32
  let main_v10 : FVec F S1x2048x4096 .f32 := broadcastInDim S1x2048x4096 ![] bcast_S_S1x2048x4096 main_cst_2
  let main_v11 : IVec S1x2048x4096 1 := cmpf .olt main_v9 main_v10
  (main_v2, main_v5, main_v8, main_v11)
-- ==== Pre_finite_sb.lean ====
abbrev S1x2048x512 : Shape := ⟨3, ![1, 2048, 512]⟩
abbrev S_ : Shape := ⟨0, ![]⟩

class Facts : Prop where
  bcast_S_S1x2048x512 : S_.BroadcastsInDim S1x2048x512 (![] : Fin 0 → Fin S1x2048x512.rank)

variable [Facts]

def fn {F : FTy → Type} [FloatOps F] (main_arg0 : FVec F S1x2048x512 .f32) (main_arg1 : FVec F S1x2048x512 .f32) (main_arg2 : FVec F S1x2048x512 .f32) (main_arg3 : FVec F S1x2048x512 .f32) : IVec S1x2048x512 1 × IVec S1x2048x512 1 × IVec S1x2048x512 1 × IVec S1x2048x512 1 :=
  let main_v0 : FVec F S1x2048x512 .f32 := Host.absf main_arg0
  let main_cst : FVec F S_ .f32 := constant S_ .f32 0x7F800000#32
  let main_v1 : FVec F S1x2048x512 .f32 := broadcastInDim S1x2048x512 ![] bcast_S_S1x2048x512 main_cst
  let main_v2 : IVec S1x2048x512 1 := cmpf .olt main_v0 main_v1
  let main_v3 : FVec F S1x2048x512 .f32 := Host.absf main_arg1
  let main_cst_0 : FVec F S_ .f32 := constant S_ .f32 0x7F800000#32
  let main_v4 : FVec F S1x2048x512 .f32 := broadcastInDim S1x2048x512 ![] bcast_S_S1x2048x512 main_cst_0
  let main_v5 : IVec S1x2048x512 1 := cmpf .olt main_v3 main_v4
  let main_v6 : FVec F S1x2048x512 .f32 := Host.absf main_arg2
  let main_cst_1 : FVec F S_ .f32 := constant S_ .f32 0x7F800000#32
  let main_v7 : FVec F S1x2048x512 .f32 := broadcastInDim S1x2048x512 ![] bcast_S_S1x2048x512 main_cst_1
  let main_v8 : IVec S1x2048x512 1 := cmpf .olt main_v6 main_v7
  let main_v9 : FVec F S1x2048x512 .f32 := Host.absf main_arg3
  let main_cst_2 : FVec F S_ .f32 := constant S_ .f32 0x7F800000#32
  let main_v10 : FVec F S1x2048x512 .f32 := broadcastInDim S1x2048x512 ![] bcast_S_S1x2048x512 main_cst_2
  let main_v11 : IVec S1x2048x512 1 := cmpf .olt main_v9 main_v10
  (main_v2, main_v5, main_v8, main_v11)
-- ==== KernelAct.lean ====
abbrev S1x2048x5632 : Shape := ⟨3, ![1, 2048, 5632]⟩
abbrev S1x2816x1024 : Shape := ⟨3, ![1, 2816, 1024]⟩
abbrev S1x2048x1024 : Shape := ⟨3, ![1, 2048, 1024]⟩
abbrev S2816x1024 : Shape := ⟨2, ![2816, 1024]⟩
abbrev S2048x1024 : Shape := ⟨2, ![2048, 1024]⟩
abbrev S2048x5632 : Shape := ⟨2, ![2048, 5632]⟩
abbrev S512x1024 : Shape := ⟨2, ![512, 1024]⟩
abbrev S512x5632 : Shape := ⟨2, ![512, 5632]⟩
abbrev S2 : Shape := ⟨1, ![2]⟩
abbrev S1 : Shape := ⟨1, ![1]⟩
abbrev S_ : Shape := ⟨0, ![]⟩
abbrev S1536x1024 : Shape := ⟨2, ![1536, 1024]⟩
abbrev S1280x1024 : Shape := ⟨2, ![1280, 1024]⟩
abbrev S512x1536 : Shape := ⟨2, ![512, 1536]⟩
abbrev S512x1280 : Shape := ⟨2, ![512, 1280]⟩

abbrev nBuf : Space → Nat
  | .hbm => 9
  | .vmem => 7
  | .smem => 0
  | _ => 0

abbrev bufTy : (tb : Table) → Fin (tcTables nBuf tb) → BufTy
  | .hbm, ⟨0, _⟩ => ⟨S1x2048x5632, .f32⟩
  | .hbm, ⟨1, _⟩ => ⟨S1x2816x1024, .f32⟩
  | .hbm, ⟨2, _⟩ => ⟨S1x2048x1024, .f32⟩
  | .hbm, ⟨3, _⟩ => ⟨S2816x1024, .f32⟩
  | .hbm, ⟨4, _⟩ => ⟨S2816x1024, .bf16⟩
  | .hbm, ⟨5, _⟩ => ⟨S2048x1024, .f32⟩
  | .hbm, ⟨6, _⟩ => ⟨S2048x5632, .f32⟩
  | .hbm, ⟨7, _⟩ => ⟨S2048x5632, .bf16⟩
  | .hbm, ⟨8, _⟩ => ⟨S2048x5632, .bf16⟩
  | .local _ .vmem, ⟨0, _⟩ => ⟨S512x1024, .f32⟩
  | .local _ .vmem, ⟨1, _⟩ => ⟨S512x1024, .f32⟩
  | .local _ .vmem, ⟨2, _⟩ => ⟨S512x5632, .bf16⟩
  | .local _ .vmem, ⟨3, _⟩ => ⟨S512x5632, .bf16⟩
  | .local _ .vmem, ⟨4, _⟩ => ⟨S512x5632, .bf16⟩
  | .local _ .vmem, ⟨5, _⟩ => ⟨S512x5632, .bf16⟩
  | .local _ .vmem, ⟨6, _⟩ => ⟨S2816x1024, .bf16⟩
  | _, _ => ⟨S1x2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v3 : BitVec 1 := Scalar.xori v0 v_true
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceActIdeal.lean ====
abbrev S1x2048x5632 : Shape := ⟨3, ![1, 2048, 5632]⟩
abbrev S1x2816x1024 : Shape := ⟨3, ![1, 2816, 1024]⟩
abbrev S1x2048x1024 : Shape := ⟨3, ![1, 2048, 1024]⟩
abbrev S1x2048x2816 : Shape := ⟨3, ![1, 2048, 2816]⟩
abbrev S_ : Shape := ⟨0, ![]⟩
abbrev S2816x1024 : Shape := ⟨2, ![2816, 1024]⟩
abbrev S2048x5632 : Shape := ⟨2, ![2048, 5632]⟩

abbrev nBuf : Space → Nat
  | .hbm => 37
  | .vmem => 0
  | .smem => 0
  | _ => 0

abbrev bufTy : (tb : Table) → Fin (tcTables nBuf tb) → BufTy
  | .hbm, ⟨0, _⟩ => ⟨S1x2048x5632, .f32⟩
  | .hbm, ⟨1, _⟩ => ⟨S1x2816x1024, .f32⟩
  | .hbm, ⟨2, _⟩ => ⟨S1x2048x1024, .f32⟩
  | .hbm, ⟨3, _⟩ => ⟨S1x2048x2816, .f32⟩
  | .hbm, ⟨4, _⟩ => ⟨S1x2048x2816, .f32⟩
  | .hbm, ⟨5, _⟩ => ⟨S1x2048x2816, .f32⟩
  | .hbm, ⟨6, _⟩ => ⟨S1x2048x2816, .f32⟩
  | .hbm, ⟨7, _⟩ => ⟨S_, .f32⟩
  | .hbm, ⟨8, _⟩ => ⟨S1x2048x2816, .f32⟩
  | .hbm, ⟨9, _⟩ => ⟨S1x2048x2816, .f32⟩
  | .hbm, ⟨10, _⟩ => ⟨S_, .f32⟩
  | .hbm, ⟨11, _⟩ => ⟨S1x2048x2816, .f32⟩
  | .hbm, ⟨12, _⟩ => ⟨S1x2048x2816, .f32⟩
  | .hbm, ⟨13, _⟩ => ⟨S_, .f32⟩
  | .hbm, ⟨14, _⟩ => ⟨S1x2048x2816, .f32⟩
  | .hbm, ⟨15, _⟩ => ⟨S1x2048x2816, .f32⟩
  | .hbm, ⟨16, _⟩ => ⟨S1x2048x2816, .f32⟩
  | .hbm, ⟨17, _⟩ => ⟨S1x2048x2816, .f32⟩
  | .hbm, ⟨18, _⟩ => ⟨S1x2048x2816, .f32⟩
  | .hbm, ⟨19, _⟩ => ⟨S2816x1024, .f32⟩
  | .hbm, ⟨20, _⟩ => ⟨S1x2048x1024, .f32⟩
  | .hbm, ⟨21, _⟩ => ⟨S_, .f32⟩
  | .hbm, ⟨22, _⟩ => ⟨S1x2048x1024, .f32⟩
  | .hbm, ⟨23, _⟩ => ⟨S1x2048x1024, .f32⟩
  | .hbm, ⟨24, _⟩ => ⟨S_, .f32⟩
  | .hbm, ⟨25, _⟩ => ⟨S1x2048x1024, .f32⟩
  | .hbm, ⟨26, _⟩ => ⟨S1x2048x1024, .f32⟩
  | .hbm, ⟨27, _⟩ => ⟨S1x2048x2816, .f32⟩
  | .hbm, ⟨28, _⟩ => ⟨S1x2048x2816, .f32⟩
  | .hbm, ⟨29, _⟩ => ⟨S1x2048x2816, .f32⟩
  | .hbm, ⟨30, _⟩ => ⟨S1x2048x2816, .f32⟩
  | .hbm, ⟨31, _⟩ => ⟨S1x2048x2816, .f32⟩
  | .hbm, ⟨32, _⟩ => ⟨S1x2048x2816, .f32⟩
  | .hbm, ⟨33, _⟩ => ⟨S1x2048x2816, .f32⟩
  | .hbm, ⟨34, _⟩ => ⟨S1x2048x5632, .f32⟩
  | .hbm, ⟨35, _⟩ => ⟨S2048x5632, .f32⟩
  | .hbm, ⟨36, _⟩ => ⟨S2048x5632, .bf16⟩
  | _, _ => ⟨S1x2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩

abbrev nD : Nat := 1
abbrev τ : Topo := Topo.v7x

variable {F : FTy → Type} [FloatOps F]
-- ==== KernelSb.lean ====
abbrev S1x2048x512 : Shape := ⟨3, ![1, 2048, 512]⟩
abbrev S1x2048x8x64 : Shape := ⟨4, ![1, 2048, 8, 64]⟩
abbrev S1x8x2048x64 : Shape := ⟨4, ![1, 8, 2048, 64]⟩
abbrev S1x8x2048x2048 : Shape := ⟨4, ![1, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x8x2048 : Shape := ⟨3, ![1, 8, 2048]⟩
abbrev S8x2048 : Shape := ⟨2, ![8, 2048]⟩
abbrev S2048x8 : Shape := ⟨2, ![2048, 8]⟩
abbrev S2048x8x1 : Shape := ⟨3, ![2048, 8, 1]⟩
abbrev S2048x8x64 : Shape := ⟨3, ![2048, 8, 64]⟩
abbrev S2048x512 : Shape := ⟨2, ![2048, 512]⟩
abbrev S512x128 : Shape := ⟨2, ![512, 128]⟩
abbrev S2048x128 : Shape := ⟨2, ![2048, 128]⟩
abbrev S256x256 : Shape := ⟨2, ![256, 256]⟩
abbrev S1x128 : Shape := ⟨2, ![1, 128]⟩
abbrev S256x128 : Shape := ⟨2, ![256, 128]⟩
abbrev S256x1 : Shape := ⟨2, ![256, 1]⟩
abbrev S256 : Shape := ⟨1, ![256]⟩

abbrev nBuf : Space → Nat
  | .hbm => 80
  | .vmem => 18
  | .smem => 0
  | _ => 0

abbrev bufTy : (tb : Table) → Fin (tcTables nBuf tb) → BufTy
  | .hbm, ⟨0, _⟩ => ⟨S1x2048x512, .f32⟩
  | .hbm, ⟨1, _⟩ => ⟨S1x2048x512, .f32⟩
  | .hbm, ⟨2, _⟩ => ⟨S1x2048x512, .f32⟩
  | .hbm, ⟨3, _⟩ => ⟨S1x2048x512, .f32⟩
  | .hbm, ⟨4, _⟩ => ⟨S1x2048x8x64, .f32⟩
  | .hbm, ⟨5, _⟩ => ⟨S1x8x2048x64, .f32⟩
  | .hbm, ⟨6, _⟩ => ⟨S1x2048x8x64, .f32⟩
  | .hbm, ⟨7, _⟩ => ⟨S1x8x2048x64, .f32⟩
  | .hbm, ⟨8, _⟩ => ⟨S1x8x2048x2048, .f32⟩
  | .hbm, ⟨9, _⟩ => ⟨S_, .f32⟩
  | .hbm, ⟨10, _⟩ => ⟨S1x8x2048x2048, .f32⟩
  | .hbm, ⟨11, _⟩ => ⟨S1x8x2048x2048, .f32⟩
  | .hbm, ⟨12, _⟩ => ⟨S2048, .i32⟩
  | .hbm, ⟨13, _⟩ => ⟨S1x2048, .i32⟩
  | .hbm, ⟨14, _⟩ => ⟨S2048, .i32⟩
  | .hbm, ⟨15, _⟩ => ⟨S2048x1, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S1x8x2048x2048, .f32⟩
  | .hbm, ⟨20, _⟩ => ⟨S_, .f32⟩
  | .hbm, ⟨21, _⟩ => ⟨S1x8x2048x2048, .f32⟩
  | .hbm, ⟨22, _⟩ => ⟨S1x8x2048x2048, .f32⟩
  | .hbm, ⟨23, _⟩ => ⟨S1x8x2048x2048, .f32⟩
  | .hbm, ⟨24, _⟩ => ⟨S1x8x2048x2048, .f32⟩
  | .hbm, ⟨25, _⟩ => ⟨S1x8x2048x2048, .i1⟩
  | .hbm, ⟨26, _⟩ => ⟨S1x8x2048x2048, .f32⟩
  | .hbm, ⟨27, _⟩ => ⟨S1x8x2048x2048, .f32⟩
  | .hbm, ⟨28, _⟩ => ⟨S1x8x2048x2048, .f32⟩
  | .hbm, ⟨29, _⟩ => ⟨S1x8x2048x2048, .f32⟩
  | .hbm, ⟨30, _⟩ => ⟨S1x8x2048x2048, .f32⟩
  | .hbm, ⟨31, _⟩ => ⟨S1x8x2048x2048, .f32⟩
  | .hbm, ⟨32, _⟩ => ⟨S1x8x2048x2048, .f32⟩
  | .hbm, ⟨33, _⟩ => ⟨S1x8x2048x2048, .f32⟩
  | .hbm, ⟨34, _⟩ => ⟨S1x8x2048x2048, .f32⟩
  | .hbm, ⟨35, _⟩ => ⟨S1x8x2048x2048, .f32⟩
  | .hbm, ⟨36, _⟩ => ⟨S1x8x2048x2048, .f32⟩
  | .hbm, ⟨37, _⟩ => ⟨S_, .f32⟩
  | .hbm, ⟨38, _⟩ => ⟨S1x8x2048x2048, .f32⟩
  | .hbm, ⟨39, _⟩ => ⟨S1x8x2048x2048, .f32⟩
  | .hbm, ⟨40, _⟩ => ⟨S1x8x2048x2048, .f32⟩
  | .hbm, ⟨41, _⟩ => ⟨S1x8x2048x2048, .f32⟩
  | .hbm, ⟨42, _⟩ => ⟨S1x8x2048x2048, .i1⟩
  | .hbm, ⟨43, _⟩ => ⟨S1x8x2048x2048, .f32⟩
  | .hbm, ⟨44, _⟩ => ⟨S1x8x2048x2048, .f32⟩
  | .hbm, ⟨45, _⟩ => ⟨S1x8x2048x2048, .f32⟩
  | .hbm, ⟨46, _⟩ => ⟨S1x8x2048x2048, .f32⟩
  | .hbm, ⟨47, _⟩ => ⟨S1x8x2048x2048, .f32⟩
  | .hbm, ⟨48, _⟩ => ⟨S1x8x2048x2048, .f32⟩
  | .hbm, ⟨49, _⟩ => ⟨S1x8x2048x2048, .f32⟩
  | .hbm, ⟨50, _⟩ => ⟨S1x8x2048x2048, .f32⟩
  | .hbm, ⟨51, _⟩ => ⟨S1x8x2048x2048, .f32⟩
  | .hbm, ⟨52, _⟩ => ⟨S_, .f32⟩
  | .hbm, ⟨53, _⟩ => ⟨S_, .f32⟩
  | .hbm, ⟨54, _⟩ => ⟨S1x8x2048x2048, .i1⟩
  | .hbm, ⟨55, _⟩ => ⟨S1x8x2048x2048, .f32⟩
  | .hbm, ⟨56, _⟩ => ⟨S1x8x2048x2048, .f32⟩
  | .hbm, ⟨57, _⟩ => ⟨S_, .f32⟩
  | .hbm, ⟨58, _⟩ => ⟨S1x8x2048, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S1x8x2048, .f32⟩
  | .hbm, ⟨63, _⟩ => ⟨S1x8x2048, .f32⟩
  | .hbm, ⟨64, _⟩ => ⟨S8x2048, .f32⟩
  | .hbm, ⟨65, _⟩ => ⟨S2048x8, .f32⟩
  | .hbm, ⟨66, _⟩ => ⟨S2048x8x1, .f32⟩
  | .hbm, ⟨67, _⟩ => ⟨S2048x8x64, .f32⟩
  | .hbm, ⟨68, _⟩ => ⟨S2048x512, .f32⟩
  | .hbm, ⟨69, _⟩ => ⟨S2048x512, .f32⟩
  | .hbm, ⟨70, _⟩ => ⟨S2048x512, .bf16⟩
  | .hbm, ⟨71, _⟩ => ⟨S2048x512, .f32⟩
  | .hbm, ⟨72, _⟩ => ⟨S2048x512, .bf16⟩
  | .hbm, ⟨73, _⟩ => ⟨S2048x512, .f32⟩
  | .hbm, ⟨74, _⟩ => ⟨S2048x512, .bf16⟩
  | .hbm, ⟨75, _⟩ => ⟨S2048x512, .f32⟩
  | .hbm, ⟨76, _⟩ => ⟨S2048x512, .bf16⟩
  | .hbm, ⟨77, _⟩ => ⟨S2048x512, .bf16⟩
  | .hbm, ⟨78, _⟩ => ⟨S2048x512, .bf16⟩
  | .hbm, ⟨79, _⟩ => ⟨S2048x512, .bf16⟩
  | .local _ .vmem, ⟨0, _⟩ => ⟨S512x128, .bf16⟩
  | .local _ .vmem, ⟨1, _⟩ => ⟨S512x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S512x128, .bf16⟩
  | .local _ .vmem, ⟨7, _⟩ => ⟨S512x128, .bf16⟩
  | .local _ .vmem, ⟨8, _⟩ => ⟨S512x128, .f32⟩
  | .local _ .vmem, ⟨9, _⟩ => ⟨S512x128, .f32⟩
  | .local _ .vmem, ⟨10, _⟩ => ⟨S512x128, .bf16⟩
  | .local _ .vmem, ⟨11, _⟩ => ⟨S512x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .f32⟩
  | .local _ .vmem, ⟨17, _⟩ => ⟨S2048x128, .f32⟩
  | _, _ => ⟨S1x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v14 : Ref sig .tc := ⟨.hbm, 34, rfl⟩
abbrev main_v15 : Ref sig .tc := ⟨.hbm, 35, rfl⟩
abbrev main_call1_v0 : Ref sig .tc := ⟨.hbm, 36, rfl⟩
abbrev main_call1_call0_cst : Ref sig .tc := ⟨.hbm, 37, rfl⟩
abbrev main_call1_call0_v0 : Ref sig .tc := ⟨.hbm, 38, rfl⟩
abbrev main_call1_call0_v1 : Ref sig .tc := ⟨.hbm, 39, rfl⟩
abbrev main_call1_call0_v2 : Ref sig .tc := ⟨.hbm, 40, rfl⟩
abbrev main_call1_call0_v3 : Ref sig .tc := ⟨.hbm, 41, rfl⟩
abbrev main_call1_call0_v4 : Ref sig .tc := ⟨.hbm, 42, rfl⟩
abbrev main_call1_call0_v5 : Ref sig .tc := ⟨.hbm, 43, rfl⟩
abbrev main_call1_call0_v6 : Ref sig .tc := ⟨.hbm, 44, rfl⟩
abbrev main_call1_call0_v7 : Ref sig .tc := ⟨.hbm, 45, rfl⟩
abbrev main_call1_call0_v8 : Ref sig .tc := ⟨.hbm, 46, rfl⟩
abbrev main_call1_call0_v9 : Ref sig .tc := ⟨.hbm, 47, rfl⟩
abbrev main_call1_call0_v10 : Ref sig .tc := ⟨.hbm, 48, rfl⟩
abbrev main_call1_call0_v11 : Ref sig .tc := ⟨.hbm, 49, rfl⟩
abbrev main_call1_v1 : Ref sig .tc := ⟨.hbm, 50, rfl⟩
abbrev main_v16 : Ref sig .tc := ⟨.hbm, 51, rfl⟩
abbrev main_cst_0 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_v17 : Ref sig .tc := ⟨.hbm, 56, rfl⟩
abbrev main_cst_1 : Ref sig .tc := ⟨.hbm, 57, rfl⟩
abbrev main_v18 : Ref sig .tc := ⟨.hbm, 58, rfl⟩
abbrev main_cst_2 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36_0 : Ref sig .tc := ⟨.hbm, 77, rfl⟩
abbrev main_v36_1 : Ref sig .tc := ⟨.hbm, 78, rfl⟩
abbrev main_v36_2 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

@[reducible] def k0_t1_loop (i : grid0.Coords) : Scf.Loop 32 :=
  let c0_i32_31 : BitVec 32 := 0#32
  let c2_i32 : BitVec 32 := 2#32
  let arg1 : BitVec 32 := BitVec.ofNat 32 (i 1).val
  let v0 : BitVec 32 := Scalar.muli c2_i32 arg1
  let c0_i32_26 : BitVec 32 := 0#32
  let v72 : BitVec 1 := Scalar.cmpi .sgt v0 c0_i32_26
  let v73 : BitVec 32 := Scalar.extui v72
  let c0_i32_27 : BitVec 32 := 0#32
  let v74 : BitVec 1 := Scalar.cmpi .slt v0 c0_i32_27
  let v75 : BitVec 32 := Scalar.extui v74
  let v76 : BitVec 32 := Scalar.subi v73 v75
  let c2_i32_25 : BitVec 32 := 2#32
  let c0_i32_28 : BitVec 32 := 0#32
  let v77 : BitVec 1 := Scalar.cmpi .sgt c2_i32_25 c0_i32_28
  let v78 : BitVec 32 := Scalar.extui v77
  let c0_i32_29 : BitVec 32 := 0#32
  let v79 : BitVec 1 := Scalar.cmpi .slt c2_i32_25 c0_i32_29
  let v80 : BitVec 32 := Scalar.extui v79
  let v81 : BitVec 32 := Scalar.subi v78 v80
  let v82 : BitVec 1 := Scalar.cmpi .ne v76 v81
  let v83 : BitVec 32 := Scalar.remsi v0 c2_i32_25
  let c0_i32_30 : BitVec 32 := 0#32
  let v84 : BitVec 1 := Scalar.cmpi .ne v83 c0_i32_30
  let v85 : BitVec 1 := Scalar.andi v82 v84
  let v71 : BitVec 32 := Scalar.divsi v0 c2_i32_25
  let c1_i32 : BitVec 32 := 1#32
  let v86 : BitVec 32 := Scalar.subi v71 c1_i32
  let v87 : BitVec 32 := Scalar.select v85 v86 v71
  let v88 : BitVec 32 := Scalar.subi v87 c0_i32_31
  let c1_i32_32 : BitVec 32 := 1#32
  let v90 : BitVec 32 := Scalar.divsi v88 c1_i32_32
  let v91 : BitVec 32 := Scalar.muli v90 c1_i32_32
  let v92 : BitVec 32 := Scalar.addi c0_i32_31 v91
  let c1_i32_33 : BitVec 32 := 1#32
  ⟨c0_i32_31, v92, c1_i32_33⟩
def k0_mult1 (i : grid0.Coords) (k0_t1 : Fin (k0_t1_loop i).trips) : BitVec 32 :=
  let c2_i32_160 : BitVec 32 := 2#32
  let c0_i32_31 : BitVec 32 := 0#32
  let c1_i32_33 : BitVec 32 := 1#32
  let arg12 : BitVec 32 := Scf.iv c0_i32_31 c1_i32_33 k0_t1
  let v509 : BitVec 32 := Scalar.muli c2_i32_160 arg12
  let c256_i32_163 : BitVec 32 := 256#32
  let v512 : BitVec 32 := Scalar.muli v509 c256_i32_163
  v512
def k0_mult2 (i : grid0.Coords) (k0_t1 : Fin (k0_t1_loop i).trips) : BitVec 32 :=
  let c2_i32_161 : BitVec 32 := 2#32
  let c0_i32_31 : BitVec 32 := 0#32
  let c1_i32_33 : BitVec 32 := 1#32
  let arg12 : BitVec 32 := Scf.iv c0_i32_31 c1_i32_33 k0_t1
  let v510 : BitVec 32 := Scalar.muli c2_i32_161 arg12
  let c1_i32_162 : BitVec 32 := 1#32
  let v511 : BitVec 32 := Scalar.addi v510 c1_i32_162
  let c256_i32_164 : BitVec 32 := 256#32
  let v514 : BitVec 32 := Scalar.muli v511 c256_i32_164
  v514
def k0_off1 (i : grid0.Coords) (k0_t1 : Fin (k0_t1_loop i).trips) : Fin 2 → Nat :=
  let c2_i32_160 : BitVec 32 := 2#32
  let c0_i32_31 : BitVec 32 := 0#32
  let c1_i32_33 : BitVec 32 := 1#32
  let arg12 : BitVec 32 := Scf.iv c0_i32_31 c1_i32_33 k0_t1
  let v509 : BitVec 32 := Scalar.muli c2_i32_160 arg12
  let c256_i32_163 : BitVec 32 := 256#32
  let v512 : BitVec 32 := Scalar.muli v509 c256_i32_163
  let v513 : BitVec 32 := v512
  let v516 : Index := Scalar.indexCast v513
  let c0_165 : Index := 0#32
  ![v516.toNat, 0]
def k0_off2 (i : grid0.Coords) (k0_t1 : Fin (k0_t1_loop i).trips) : Fin 2 → Nat :=
  let c2_i32_161 : BitVec 32 := 2#32
  let c0_i32_31 : BitVec 32 := 0#32
  let c1_i32_33 : BitVec 32 := 1#32
  let arg12 : BitVec 32 := Scf.iv c0_i32_31 c1_i32_33 k0_t1
  let v510 : BitVec 32 := Scalar.muli c2_i32_161 arg12
  let c1_i32_162 : BitVec 32 := 1#32
  let v511 : BitVec 32 := Scalar.addi v510 c1_i32_162
  let c256_i32_164 : BitVec 32 := 256#32
  let v514 : BitVec 32 := Scalar.muli v511 c256_i32_164
  let v515 : BitVec 32 := v514
  let v519 : Index := Scalar.indexCast v515
  let c0_166 : Index := 0#32
  ![v519.toNat, 0]
@[reducible] def k0_t2_loop (i : grid0.Coords) : Scf.Loop 32 :=
  let c0_i32_31 : BitVec 32 := 0#32
  let c2_i32 : BitVec 32 := 2#32
  let arg1 : BitVec 32 := BitVec.ofNat 32 (i 1).val
  let v0 : BitVec 32 := Scalar.muli c2_i32 arg1
  let c0_i32_26 : BitVec 32 := 0#32
  let v72 : BitVec 1 := Scalar.cmpi .sgt v0 c0_i32_26
  let v73 : BitVec 32 := Scalar.extui v72
  let c0_i32_27 : BitVec 32 := 0#32
  let v74 : BitVec 1 := Scalar.cmpi .slt v0 c0_i32_27
  let v75 : BitVec 32 := Scalar.extui v74
  let v76 : BitVec 32 := Scalar.subi v73 v75
  let c2_i32_25 : BitVec 32 := 2#32
  let c0_i32_28 : BitVec 32 := 0#32
  let v77 : BitVec 1 := Scalar.cmpi .sgt c2_i32_25 c0_i32_28
  let v78 : BitVec 32 := Scalar.extui v77
  let c0_i32_29 : BitVec 32 := 0#32
  let v79 : BitVec 1 := Scalar.cmpi .slt c2_i32_25 c0_i32_29
  let v80 : BitVec 32 := Scalar.extui v79
  let v81 : BitVec 32 := Scalar.subi v78 v80
  let v82 : BitVec 1 := Scalar.cmpi .ne v76 v81
  let v83 : BitVec 32 := Scalar.remsi v0 c2_i32_25
  let c0_i32_30 : BitVec 32 := 0#32
  let v84 : BitVec 1 := Scalar.cmpi .ne v83 c0_i32_30
  let v85 : BitVec 1 := Scalar.andi v82 v84
  let v71 : BitVec 32 := Scalar.divsi v0 c2_i32_25
  let c1_i32 : BitVec 32 := 1#32
  let v86 : BitVec 32 := Scalar.subi v71 c1_i32
  let v87 : BitVec 32 := Scalar.select v85 v86 v71
  let v88 : BitVec 32 := Scalar.subi v87 c0_i32_31
  let c1_i32_32 : BitVec 32 := 1#32
  let v90 : BitVec 32 := Scalar.divsi v88 c1_i32_32
  let v91 : BitVec 32 := Scalar.muli v90 c1_i32_32
  let v92 : BitVec 32 := Scalar.addi c0_i32_31 v91
  let v89 : BitVec 32 := Scalar.addi c0_i32_31 v88
  let c1_i32_34 : BitVec 32 := 1#32
  ⟨v92, v89, c1_i32_34⟩
def k0_mult3 (i : grid0.Coords) (k0_t2 : Fin (k0_t2_loop i).trips) : BitVec 32 :=
  let c2_i32_160 : BitVec 32 := 2#32
  let c0_i32_31 : BitVec 32 := 0#32
  let c2_i32 : BitVec 32 := 2#32
  let arg1 : BitVec 32 := BitVec.ofNat 32 (i 1).val
  let v0 : BitVec 32 := Scalar.muli c2_i32 arg1
  let c0_i32_26 : BitVec 32 := 0#32
  let v72 : BitVec 1 := Scalar.cmpi .sgt v0 c0_i32_26
  let v73 : BitVec 32 := Scalar.extui v72
  let c0_i32_27 : BitVec 32 := 0#32
  let v74 : BitVec 1 := Scalar.cmpi .slt v0 c0_i32_27
  let v75 : BitVec 32 := Scalar.extui v74
  let v76 : BitVec 32 := Scalar.subi v73 v75
  let c2_i32_25 : BitVec 32 := 2#32
  let c0_i32_28 : BitVec 32 := 0#32
  let v77 : BitVec 1 := Scalar.cmpi .sgt c2_i32_25 c0_i32_28
  let v78 : BitVec 32 := Scalar.extui v77
  let c0_i32_29 : BitVec 32 := 0#32
  let v79 : BitVec 1 := Scalar.cmpi .slt c2_i32_25 c0_i32_29
  let v80 : BitVec 32 := Scalar.extui v79
  let v81 : BitVec 32 := Scalar.subi v78 v80
  let v82 : BitVec 1 := Scalar.cmpi .ne v76 v81
  let v83 : BitVec 32 := Scalar.remsi v0 c2_i32_25
  let c0_i32_30 : BitVec 32 := 0#32
  let v84 : BitVec 1 := Scalar.cmpi .ne v83 c0_i32_30
  let v85 : BitVec 1 := Scalar.andi v82 v84
  let v71 : BitVec 32 := Scalar.divsi v0 c2_i32_25
  let c1_i32 : BitVec 32 := 1#32
  let v86 : BitVec 32 := Scalar.subi v71 c1_i32
  let v87 : BitVec 32 := Scalar.select v85 v86 v71
  let v88 : BitVec 32 := Scalar.subi v87 c0_i32_31
  let c1_i32_32 : BitVec 32 := 1#32
  let v90 : BitVec 32 := Scalar.divsi v88 c1_i32_32
  let v91 : BitVec 32 := Scalar.muli v90 c1_i32_32
  let v92 : BitVec 32 := Scalar.addi c0_i32_31 v91
  let c1_i32_34 : BitVec 32 := 1#32
  let arg12 : BitVec 32 := Scf.iv v92 c1_i32_34 k0_t2
  let v509 : BitVec 32 := Scalar.muli c2_i32_160 arg12
  let c256_i32_163 : BitVec 32 := 256#32
  let v512 : BitVec 32 := Scalar.muli v509 c256_i32_163
  v512
def k0_mult4 (i : grid0.Coords) (k0_t2 : Fin (k0_t2_loop i).trips) : BitVec 32 :=
  let c2_i32_161 : BitVec 32 := 2#32
  let c0_i32_31 : BitVec 32 := 0#32
  let c2_i32 : BitVec 32 := 2#32
  let arg1 : BitVec 32 := BitVec.ofNat 32 (i 1).val
  let v0 : BitVec 32 := Scalar.muli c2_i32 arg1
  let c0_i32_26 : BitVec 32 := 0#32
  let v72 : BitVec 1 := Scalar.cmpi .sgt v0 c0_i32_26
  let v73 : BitVec 32 := Scalar.extui v72
  let c0_i32_27 : BitVec 32 := 0#32
  let v74 : BitVec 1 := Scalar.cmpi .slt v0 c0_i32_27
  let v75 : BitVec 32 := Scalar.extui v74
  let v76 : BitVec 32 := Scalar.subi v73 v75
  let c2_i32_25 : BitVec 32 := 2#32
  let c0_i32_28 : BitVec 32 := 0#32
  let v77 : BitVec 1 := Scalar.cmpi .sgt c2_i32_25 c0_i32_28
  let v78 : BitVec 32 := Scalar.extui v77
  let c0_i32_29 : BitVec 32 := 0#32
  let v79 : BitVec 1 := Scalar.cmpi .slt c2_i32_25 c0_i32_29
  let v80 : BitVec 32 := Scalar.extui v79
  let v81 : BitVec 32 := Scalar.subi v78 v80
  let v82 : BitVec 1 := Scalar.cmpi .ne v76 v81
  let v83 : BitVec 32 := Scalar.remsi v0 c2_i32_25
  let c0_i32_30 : BitVec 32 := 0#32
  let v84 : BitVec 1 := Scalar.cmpi .ne v83 c0_i32_30
  let v85 : BitVec 1 := Scalar.andi v82 v84
  let v71 : BitVec 32 := Scalar.divsi v0 c2_i32_25
  let c1_i32 : BitVec 32 := 1#32
  let v86 : BitVec 32 := Scalar.subi v71 c1_i32
  let v87 : BitVec 32 := Scalar.select v85 v86 v71
  let v88 : BitVec 32 := Scalar.subi v87 c0_i32_31
  let c1_i32_32 : BitVec 32 := 1#32
  let v90 : BitVec 32 := Scalar.divsi v88 c1_i32_32
  let v91 : BitVec 32 := Scalar.muli v90 c1_i32_32
  let v92 : BitVec 32 := Scalar.addi c0_i32_31 v91
  let c1_i32_34 : BitVec 32 := 1#32
  let arg12 : BitVec 32 := Scf.iv v92 c1_i32_34 k0_t2
  let v510 : BitVec 32 := Scalar.muli c2_i32_161 arg12
  let c1_i32_162 : BitVec 32 := 1#32
  let v511 : BitVec 32 := Scalar.addi v510 c1_i32_162
  let c256_i32_164 : BitVec 32 := 256#32
  let v514 : BitVec 32 := Scalar.muli v511 c256_i32_164
  v514
def k0_off3 (i : grid0.Coords) (k0_t2 : Fin (k0_t2_loop i).trips) : Fin 2 → Nat :=
  let c2_i32_160 : BitVec 32 := 2#32
  let c0_i32_31 : BitVec 32 := 0#32
  let c2_i32 : BitVec 32 := 2#32
  let arg1 : BitVec 32 := BitVec.ofNat 32 (i 1).val
  let v0 : BitVec 32 := Scalar.muli c2_i32 arg1
  let c0_i32_26 : BitVec 32 := 0#32
  let v72 : BitVec 1 := Scalar.cmpi .sgt v0 c0_i32_26
  let v73 : BitVec 32 := Scalar.extui v72
  let c0_i32_27 : BitVec 32 := 0#32
  let v74 : BitVec 1 := Scalar.cmpi .slt v0 c0_i32_27
  let v75 : BitVec 32 := Scalar.extui v74
  let v76 : BitVec 32 := Scalar.subi v73 v75
  let c2_i32_25 : BitVec 32 := 2#32
  let c0_i32_28 : BitVec 32 := 0#32
  let v77 : BitVec 1 := Scalar.cmpi .sgt c2_i32_25 c0_i32_28
  let v78 : BitVec 32 := Scalar.extui v77
  let c0_i32_29 : BitVec 32 := 0#32
  let v79 : BitVec 1 := Scalar.cmpi .slt c2_i32_25 c0_i32_29
  let v80 : BitVec 32 := Scalar.extui v79
  let v81 : BitVec 32 := Scalar.subi v78 v80
  let v82 : BitVec 1 := Scalar.cmpi .ne v76 v81
  let v83 : BitVec 32 := Scalar.remsi v0 c2_i32_25
  let c0_i32_30 : BitVec 32 := 0#32
  let v84 : BitVec 1 := Scalar.cmpi .ne v83 c0_i32_30
  let v85 : BitVec 1 := Scalar.andi v82 v84
  let v71 : BitVec 32 := Scalar.divsi v0 c2_i32_25
  let c1_i32 : BitVec 32 := 1#32
  let v86 : BitVec 32 := Scalar.subi v71 c1_i32
  let v87 : BitVec 32 := Scalar.select v85 v86 v71
  let v88 : BitVec 32 := Scalar.subi v87 c0_i32_31
  let c1_i32_32 : BitVec 32 := 1#32
  let v90 : BitVec 32 := Scalar.divsi v88 c1_i32_32
  let v91 : BitVec 32 := Scalar.muli v90 c1_i32_32
  let v92 : BitVec 32 := Scalar.addi c0_i32_31 v91
  let c1_i32_34 : BitVec 32 := 1#32
  let arg12 : BitVec 32 := Scf.iv v92 c1_i32_34 k0_t2
  let v509 : BitVec 32 := Scalar.muli c2_i32_160 arg12
  let c256_i32_163 : BitVec 32 := 256#32
  let v512 : BitVec 32 := Scalar.muli v509 c256_i32_163
  let v513 : BitVec 32 := v512
  let v516 : Index := Scalar.indexCast v513
  let c0_165 : Index := 0#32
  ![v516.toNat, 0]
def k0_off4 (i : grid0.Coords) (k0_t2 : Fin (k0_t2_loop i).trips) : Fin 2 → Nat :=
  let c2_i32_161 : BitVec 32 := 2#32
  let c0_i32_31 : BitVec 32 := 0#32
  let c2_i32 : BitVec 32 := 2#32
  let arg1 : BitVec 32 := BitVec.ofNat 32 (i 1).val
  let v0 : BitVec 32 := Scalar.muli c2_i32 arg1
  let c0_i32_26 : BitVec 32 := 0#32
  let v72 : BitVec 1 := Scalar.cmpi .sgt v0 c0_i32_26
  let v73 : BitVec 32 := Scalar.extui v72
  let c0_i32_27 : BitVec 32 := 0#32
  let v74 : BitVec 1 := Scalar.cmpi .slt v0 c0_i32_27
  let v75 : BitVec 32 := Scalar.extui v74
  let v76 : BitVec 32 := Scalar.subi v73 v75
  let c2_i32_25 : BitVec 32 := 2#32
  let c0_i32_28 : BitVec 32 := 0#32
  let v77 : BitVec 1 := Scalar.cmpi .sgt c2_i32_25 c0_i32_28
  let v78 : BitVec 32 := Scalar.extui v77
  let c0_i32_29 : BitVec 32 := 0#32
  let v79 : BitVec 1 := Scalar.cmpi .slt c2_i32_25 c0_i32_29
  let v80 : BitVec 32 := Scalar.extui v79
  let v81 : BitVec 32 := Scalar.subi v78 v80
  let v82 : BitVec 1 := Scalar.cmpi .ne v76 v81
  let v83 : BitVec 32 := Scalar.remsi v0 c2_i32_25
  let c0_i32_30 : BitVec 32 := 0#32
  let v84 : BitVec 1 := Scalar.cmpi .ne v83 c0_i32_30
  let v85 : BitVec 1 := Scalar.andi v82 v84
  let v71 : BitVec 32 := Scalar.divsi v0 c2_i32_25
  let c1_i32 : BitVec 32 := 1#32
  let v86 : BitVec 32 := Scalar.subi v71 c1_i32
  let v87 : BitVec 32 := Scalar.select v85 v86 v71
  let v88 : BitVec 32 := Scalar.subi v87 c0_i32_31
  let c1_i32_32 : BitVec 32 := 1#32
  let v90 : BitVec 32 := Scalar.divsi v88 c1_i32_32
  let v91 : BitVec 32 := Scalar.muli v90 c1_i32_32
  let v92 : BitVec 32 := Scalar.addi c0_i32_31 v91
  let c1_i32_34 : BitVec 32 := 1#32
  let arg12 : BitVec 32 := Scf.iv v92 c1_i32_34 k0_t2
  let v510 : BitVec 32 := Scalar.muli c2_i32_161 arg12
  let c1_i32_162 : BitVec 32 := 1#32
  let v511 : BitVec 32 := Scalar.addi v510 c1_i32_162
  let c256_i32_164 : BitVec 32 := 256#32
  let v514 : BitVec 32 := Scalar.muli v511 c256_i32_164
  let v515 : BitVec 32 := v514
  let v519 : Index := Scalar.indexCast v515
  let c0_166 : Index := 0#32
  ![v519.toNat, 0]
def k0_mult5 (i : grid0.Coords) : BitVec 32 :=
  let c2_i32 : BitVec 32 := 2#32
  let arg1 : BitVec 32 := BitVec.ofNat 32 (i 1).val
  let v0 : BitVec 32 := Scalar.muli c2_i32 arg1
  let c256_i32 : BitVec 32 := 256#32
  let v96 : BitVec 32 := Scalar.muli v0 c256_i32
  v96
def k0_mult6 (i : grid0.Coords) : BitVec 32 :=
  let c2_i32 : BitVec 32 := 2#32
  let arg1 : BitVec 32 := BitVec.ofNat 32 (i 1).val
  let v0 : BitVec 32 := Scalar.muli c2_i32 arg1
  let c1_i32_35 : BitVec 32 := 1#32
  let v95 : BitVec 32 := Scalar.addi v0 c1_i32_35
  let c256_i32_36 : BitVec 32 := 256#32
  let v98 : BitVec 32 := Scalar.muli v95 c256_i32_36
  v98
def k0_off5 (i : grid0.Coords) : Fin 2 → Nat :=
  let c2_i32 : BitVec 32 := 2#32
  let arg1 : BitVec 32 := BitVec.ofNat 32 (i 1).val
  let v0 : BitVec 32 := Scalar.muli c2_i32 arg1
  let c256_i32 : BitVec 32 := 256#32
  let v96 : BitVec 32 := Scalar.muli v0 c256_i32
  let v97 : BitVec 32 := v96
  let v100 : Index := Scalar.indexCast v97
  let c0_37 : Index := 0#32
  ![v100.toNat, 0]
def k0_off6 (i : grid0.Coords) : Fin 2 → Nat :=
  let c2_i32 : BitVec 32 := 2#32
  let arg1 : BitVec 32 := BitVec.ofNat 32 (i 1).val
  let v0 : BitVec 32 := Scalar.muli c2_i32 arg1
  let c1_i32_35 : BitVec 32 := 1#32
  let v95 : BitVec 32 := Scalar.addi v0 c1_i32_35
  let c256_i32_36 : BitVec 32 := 256#32
  let v98 : BitVec 32 := Scalar.muli v95 c256_i32_36
  let v99 : BitVec 32 := v98
  let v103 : Index := Scalar.indexCast v99
  let c0_38 : Index := 0#32
  ![v103.toNat, 0]
def k0_cond2 (i : grid0.Coords) : BitVec 1 :=
  let arg1 : BitVec 32 := BitVec.ofNat 32 (i 1).val
  let c3_i32 : BitVec 32 := 3#32
  let v506 : BitVec 1 := Scalar.cmpi .eq arg1 c3_i32
  let v507 : BitVec 32 := Scalar.extui v506
  let c0_i32_159 : BitVec 32 := 0#32
  let v508 : BitVec 1 := Scalar.cmpi .ne v507 c0_i32_159
  v508

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== KernelSbIdeal.lean ====
variable {F : FTy → Type} [FloatOps F] [Named F]
def κ : String → Option EReal := fun
  | "log2e" => some (((Real.log 2)⁻¹ : ℝ) : EReal)
  | "scale_log2e" => some (((8 * (Real.log 2))⁻¹ : ℝ) : EReal)
  | _ => none
-- ==== ReferenceSbIdeal.lean ====
abbrev S1x2048x512 : Shape := ⟨3, ![1, 2048, 512]⟩
abbrev S1x2048x8x64 : Shape := ⟨4, ![1, 2048, 8, 64]⟩
abbrev S1x8x2048x64 : Shape := ⟨4, ![1, 8, 2048, 64]⟩
abbrev S1x8x2048x2048 : Shape := ⟨4, ![1, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x8x64x2048 : Shape := ⟨4, ![1, 8, 64, 2048]⟩
abbrev S2048x512 : Shape := ⟨2, ![2048, 512]⟩

abbrev nBuf : Space → Nat
  | .hbm => 183
  | .vmem => 0
  | .smem => 0
  | _ => 0

abbrev hbmTy0_0 (i : Nat) : BufTy := match i % 128 with
  | 0 => ⟨S1x2048x512, .f32⟩
  | 1 => ⟨S1x2048x512, .f32⟩
  | 2 => ⟨S1x2048x512, .f32⟩
  | 3 => ⟨S1x2048x512, .f32⟩
  | 4 => ⟨S1x2048x8x64, .f32⟩
  | 5 => ⟨S1x8x2048x64, .f32⟩
  | 6 => ⟨S1x2048x8x64, .f32⟩
  | 7 => ⟨S1x8x2048x64, .f32⟩
  | 8 => ⟨S1x8x2048x2048, .f32⟩
  | 9 => ⟨S_, .f32⟩
  | 10 => ⟨S1x8x2048x2048, .f32⟩
  | 11 => ⟨S1x8x2048x2048, .f32⟩
  | 12 => ⟨S2048, .i32⟩
  | 13 => ⟨S1x2048, .i32⟩
  | 14 => ⟨S2048, .i32⟩
  | 15 => ⟨S2048x1, .i32⟩
  | 16 => ⟨S2048x2048, .i32⟩
  | 17 => ⟨S2048x2048, .i32⟩
  | 18 => ⟨S2048x2048, .i1⟩
  | 19 => ⟨S1x8x2048x2048, .f32⟩
  | 20 => ⟨S_, .f32⟩
  | 21 => ⟨S1x8x2048x2048, .f32⟩
  | 22 => ⟨S1x8x2048x2048, .f32⟩
  | 23 => ⟨S1x8x2048x2048, .f32⟩
  | 24 => ⟨S1x8x2048x2048, .f32⟩
  | 25 => ⟨S1x8x2048x2048, .i1⟩
  | 26 => ⟨S1x8x2048x2048, .f32⟩
  | 27 => ⟨S1x8x2048x2048, .f32⟩
  | 28 => ⟨S1x8x2048x2048, .f32⟩
  | 29 => ⟨S1x8x2048x2048, .f32⟩
  | 30 => ⟨S1x8x2048x2048, .f32⟩
  | 31 => ⟨S1x8x2048x2048, .f32⟩
  | 32 => ⟨S1x8x2048x2048, .f32⟩
  | 33 => ⟨S1x8x2048x2048, .f32⟩
  | 34 => ⟨S_, .f32⟩
  | 35 => ⟨S1x8x2048x2048, .f32⟩
  | 36 => ⟨S1x8x2048x2048, .i1⟩
  | 37 => ⟨S_, .f32⟩
  | 38 => ⟨S1x8x2048x2048, .f32⟩
  | 39 => ⟨S1x8x2048x2048, .f32⟩
  | 40 => ⟨S_, .f32⟩
  | 41 => ⟨S1x8x2048x2048, .f32⟩
  | 42 => ⟨S1x8x2048x2048, .i1⟩
  | 43 => ⟨S_, .f32⟩
  | 44 => ⟨S1x8x2048x2048, .f32⟩
  | 45 => ⟨S1x8x2048x2048, .f32⟩
  | 46 => ⟨S1x8x2048x2048, .f32⟩
  | 47 => ⟨S1x8x2048x2048, .f32⟩
  | 48 => ⟨S_, .f32⟩
  | 49 => ⟨S_, .f32⟩
  | 50 => ⟨S_, .i1⟩
  | 51 => ⟨S_, .f32⟩
  | 52 => ⟨S_, .f32⟩
  | 53 => ⟨S_, .f32⟩
  | 54 => ⟨S_, .f32⟩
  | 55 => ⟨S1x8x2048x2048, .f32⟩
  | 56 => ⟨S1x8x2048x2048, .i1⟩
  | 57 => ⟨S_, .f32⟩
  | 58 => ⟨S1x8x2048x2048, .f32⟩
  | 59 => ⟨S1x8x2048x2048, .f32⟩
  | 60 => ⟨S1x8x2048x2048, .f32⟩
  | 61 => ⟨S1x8x2048x2048, .f32⟩
  | 62 => ⟨S1x8x2048x2048, .f32⟩
  | 63 => ⟨S_, .f32⟩
  | 64 => ⟨S1x8x2048x2048, .f32⟩
  | 65 => ⟨S1x8x2048x2048, .f32⟩
  | 66 => ⟨S1x8x2048x2048, .f32⟩
  | 67 => ⟨S1x8x2048x2048, .f32⟩
  | 68 => ⟨S1x8x2048x2048, .f32⟩
  | 69 => ⟨S_, .f32⟩
  | 70 => ⟨S1x8x2048x2048, .f32⟩
  | 71 => ⟨S1x8x2048x2048, .f32⟩
  | 72 => ⟨S1x8x2048x2048, .f32⟩
  | 73 => ⟨S1x8x2048x2048, .f32⟩
  | 74 => ⟨S1x8x2048x2048, .i1⟩
  | 75 => ⟨S1x8x2048x2048, .f32⟩
  | 76 => ⟨S1x8x2048x2048, .f32⟩
  | 77 => ⟨S1x8x2048x2048, .f32⟩
  | 78 => ⟨S1x8x2048x2048, .f32⟩
  | 79 => ⟨S1x8x2048x2048, .f32⟩
  | 80 => ⟨S1x8x2048x2048, .f32⟩
  | 81 => ⟨S1x8x2048x2048, .f32⟩
  | 82 => ⟨S1x8x2048x2048, .f32⟩
  | 83 => ⟨S_, .f32⟩
  | 84 => ⟨S1x8x2048x2048, .f32⟩
  | 85 => ⟨S1x8x2048x2048, .i1⟩
  | 86 => ⟨S_, .f32⟩
  | 87 => ⟨S1x8x2048x2048, .f32⟩
  | 88 => ⟨S1x8x2048x2048, .f32⟩
  | 89 => ⟨S_, .f32⟩
  | 90 => ⟨S1x8x2048x2048, .f32⟩
  | 91 => ⟨S1x8x2048x2048, .i1⟩
  | 92 => ⟨S_, .f32⟩
  | 93 => ⟨S1x8x2048x2048, .f32⟩
  | 94 => ⟨S1x8x2048x2048, .f32⟩
  | 95 => ⟨S1x8x2048x2048, .f32⟩
  | 96 => ⟨S1x8x2048x2048, .f32⟩
  | 97 => ⟨S_, .f32⟩
  | 98 => ⟨S_, .f32⟩
  | 99 => ⟨S_, .i1⟩
  | 100 => ⟨S_, .f32⟩
  | 101 => ⟨S_, .f32⟩
  | 102 => ⟨S_, .f32⟩
  | 103 => ⟨S_, .f32⟩
  | 104 => ⟨S1x8x2048x2048, .f32⟩
  | 105 => ⟨S1x8x2048x2048, .i1⟩
  | 106 => ⟨S_, .f32⟩
  | 107 => ⟨S1x8x2048x2048, .f32⟩
  | 108 => ⟨S1x8x2048x2048, .f32⟩
  | 109 => ⟨S1x8x2048x2048, .f32⟩
  | 110 => ⟨S1x8x2048x2048, .f32⟩
  | 111 => ⟨S1x8x2048x2048, .f32⟩
  | 112 => ⟨S_, .f32⟩
  | 113 => ⟨S1x8x2048x2048, .f32⟩
  | 114 => ⟨S1x8x2048x2048, .f32⟩
  | 115 => ⟨S1x8x2048x2048, .f32⟩
  | 116 => ⟨S_, .f32⟩
  | 117 => ⟨S_, .f32⟩
  | 118 => ⟨S1x8x2048x2048, .i1⟩
  | 119 => ⟨S1x8x2048x2048, .f32⟩
  | 120 => ⟨S1x8x2048x2048, .f32⟩
  | 121 => ⟨S_, .f32⟩
  | 122 => ⟨S1x8x2048x2048, .f32⟩
  | 123 => ⟨S_, .f32⟩
  | 124 => ⟨S_, .f32⟩
  | 125 => ⟨S1x8x2048x2048, .f32⟩
  | 126 => ⟨S1x8x2048x2048, .f32⟩
  | 127 => ⟨S1x8x2048x2048, .f32⟩
  | _ => ⟨S1x2048x512, .f32⟩

abbrev hbmTy0_1 (i : Nat) : BufTy := match i % 128 with
  | 0 => ⟨S1x8x2048x2048, .f32⟩
  | 1 => ⟨S_, .f32⟩
  | 2 => ⟨S_, .f32⟩
  | 3 => ⟨S1x8x2048x2048, .i1⟩
  | 4 => ⟨S1x8x2048x2048, .f32⟩
  | 5 => ⟨S1x8x2048x2048, .f32⟩
  | 6 => ⟨S_, .f32⟩
  | 7 => ⟨S1x8x2048x2048, .f32⟩
  | 8 => ⟨S1x2048x8x64, .f32⟩
  | 9 => ⟨S1x8x2048x64, .f32⟩
  | 10 => ⟨S1x8x2048x64, .f32⟩
  | 11 => ⟨S1x2048x8x64, .f32⟩
  | 12 => ⟨S1x2048x512, .f32⟩
  | 13 => ⟨S1x2048x8x64, .f32⟩
  | 14 => ⟨S1x8x2048x64, .f32⟩
  | 15 => ⟨S1x8x64x2048, .f32⟩
  | 16 => ⟨S1x8x2048x64, .f32⟩
  | 17 => ⟨S1x8x2048x2048, .f32⟩
  | 18 => ⟨S1x2048x8x64, .f32⟩
  | 19 => ⟨S1x2048x512, .f32⟩
  | 20 => ⟨S_, .f32⟩
  | 21 => ⟨S1x8x2048x2048, .f32⟩
  | 22 => ⟨S1x8x2048x2048, .f32⟩
  | 23 => ⟨S1x8x2048x2048, .f32⟩
  | 24 => ⟨S1x8x2048x2048, .f32⟩
  | 25 => ⟨S_, .f32⟩
  | 26 => ⟨S_, .f32⟩
  | 27 => ⟨S1x8x2048x2048, .f32⟩
  | 28 => ⟨S1x8x2048x2048, .f32⟩
  | 29 => ⟨S_, .f32⟩
  | 30 => ⟨S1x8x2048x2048, .f32⟩
  | 31 => ⟨S1x8x2048x2048, .f32⟩
  | 32 => ⟨S1x8x2048x2048, .f32⟩
  | 33 => ⟨S1x8x2048x2048, .f32⟩
  | 34 => ⟨S1x8x2048x2048, .f32⟩
  | 35 => ⟨S1x8x2048x2048, .f32⟩
  | 36 => ⟨S1x8x2048x2048, .f32⟩
  | 37 => ⟨S1x8x2048x2048, .f32⟩
  | 38 => ⟨S1x8x2048x2048, .f32⟩
  | 39 => ⟨S1x8x2048x2048, .f32⟩
  | 40 => ⟨S_, .f32⟩
  | 41 => ⟨S1x8x2048x2048, .f32⟩
  | 42 => ⟨S1x8x2048x2048, .f32⟩
  | 43 => ⟨S1x8x2048x64, .f32⟩
  | 44 => ⟨S1x8x2048x64, .f32⟩
  | 45 => ⟨S1x2048x8x64, .f32⟩
  | 46 => ⟨S1x2048x512, .f32⟩
  | 47 => ⟨S1x2048x8x64, .f32⟩
  | 48 => ⟨S1x2048x512, .f32⟩
  | 49 => ⟨S2048x512, .f32⟩
  | 50 => ⟨S2048x512, .bf16⟩
  | 51 => ⟨S2048x512, .f32⟩
  | 52 => ⟨S2048x512, .bf16⟩
  | 53 => ⟨S2048x512, .f32⟩
  | 54 => ⟨S2048x512, .bf16⟩
  | _ => ⟨S1x2048x512, .f32⟩

abbrev hbmTy (i : Nat) : BufTy := match i / 128 with
  | 0 => hbmTy0_0 i
  | 1 => hbmTy0_1 i
  | _ => ⟨S1x2048x512, .f32⟩

abbrev bufTy : (tb : Table) → Fin (tcTables nBuf tb) → BufTy
  | .hbm, ⟨i, _⟩ => hbmTy i
  | _, _ => ⟨S1x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1_0 : Ref sig .tc := ⟨.hbm, 33, rfl⟩
abbrev main_call0_call0_cst_0 : Ref sig .tc := ⟨.hbm, 34, rfl⟩
abbrev main_call0_call0_v13 : Ref sig .tc := ⟨.hbm, 35, rfl⟩
abbrev main_call0_call0_v14 : Ref sig .tc := ⟨.hbm, 36, rfl⟩
abbrev main_call0_call0_cst_1 : Ref sig .tc := ⟨.hbm, 37, rfl⟩
abbrev main_call0_call0_v15 : Ref sig .tc := ⟨.hbm, 38, rfl⟩
abbrev main_call0_call0_v16 : Ref sig .tc := ⟨.hbm, 39, rfl⟩
abbrev main_call0_call0_cst_2 : Ref sig .tc := ⟨.hbm, 40, rfl⟩
abbrev main_call0_call0_v17 : Ref sig .tc := ⟨.hbm, 41, rfl⟩
abbrev main_call0_call0_v18 : Ref sig .tc := ⟨.hbm, 42, rfl⟩
abbrev main_call0_call0_cst_3 : Ref sig .tc := ⟨.hbm, 43, rfl⟩
abbrev main_call0_call0_v19 : Ref sig .tc := ⟨.hbm, 44, rfl⟩
abbrev main_call0_call0_v20 : Ref sig .tc := ⟨.hbm, 45, rfl⟩
abbrev main_call0_call0_v21 : Ref sig .tc := ⟨.hbm, 46, rfl⟩
abbrev main_v14_1 : Ref sig .tc := ⟨.hbm, 47, rfl⟩
abbrev main_call0_call0_cst_4 : Ref sig .tc := ⟨.hbm, 48, rfl⟩
abbrev main_call0_call0_cst_5 : Ref sig .tc := ⟨.hbm, 49, rfl⟩
abbrev main_call0_call0_v23 : Ref sig .tc := ⟨.hbm, 50, rfl⟩
abbrev main_call0_call0_cst_6 : Ref sig .tc := ⟨.hbm, 51, rfl⟩
abbrev main_call0_call0_cst_7 : Ref sig .tc := ⟨.hbm, 52, rfl⟩
abbrev main_call0_call0_v24 : Ref sig .tc := ⟨.hbm, 53, rfl⟩
abbrev main_call0_call0_cst_8 : Ref sig .tc := ⟨.hbm, 54, rfl⟩
abbrev main_call0_call0_v25 : Ref sig .tc := ⟨.hbm, 55, rfl⟩
abbrev main_call0_call0_v26 : Ref sig .tc := ⟨.hbm, 56, rfl⟩
abbrev main_call0_call0_cst_9 : Ref sig .tc := ⟨.hbm, 57, rfl⟩
abbrev main_call0_call0_v27 : Ref sig .tc := ⟨.hbm, 58, rfl⟩
abbrev main_call0_call0_v28 : Ref sig .tc := ⟨.hbm, 59, rfl⟩
abbrev main_call0_call0_v29 : Ref sig .tc := ⟨.hbm, 60, rfl⟩
abbrev main_call0_call0_v30 : Ref sig .tc := ⟨.hbm, 61, rfl⟩
abbrev main_call0_call0_v31 : Ref sig .tc := ⟨.hbm, 62, rfl⟩
abbrev main_call0_call0_cst_10 : Ref sig .tc := ⟨.hbm, 63, rfl⟩
abbrev main_call0_call0_v32 : Ref sig .tc := ⟨.hbm, 64, rfl⟩
abbrev main_v14_2 : Ref sig .tc := ⟨.hbm, 65, rfl⟩
abbrev main_v14_0 : Ref sig .tc := ⟨.hbm, 66, rfl⟩
abbrev main_v15 : Ref sig .tc := ⟨.hbm, 67, rfl⟩
abbrev main_call1_v0 : Ref sig .tc := ⟨.hbm, 68, rfl⟩
abbrev main_call1_call0_cst : Ref sig .tc := ⟨.hbm, 69, rfl⟩
abbrev main_call1_call0_v0 : Ref sig .tc := ⟨.hbm, 70, rfl⟩
abbrev main_call1_call0_v1 : Ref sig .tc := ⟨.hbm, 71, rfl⟩
abbrev main_call1_call0_v2 : Ref sig .tc := ⟨.hbm, 72, rfl⟩
abbrev main_call1_call0_v3 : Ref sig .tc := ⟨.hbm, 73, rfl⟩
abbrev main_call1_call0_v4 : Ref sig .tc := ⟨.hbm, 74, rfl⟩
abbrev main_call1_call0_v5 : Ref sig .tc := ⟨.hbm, 75, rfl⟩
abbrev main_call1_call0_v6 : Ref sig .tc := ⟨.hbm, 76, rfl⟩
abbrev main_call1_call0_v7 : Ref sig .tc := ⟨.hbm, 77, rfl⟩
abbrev main_call1_call0_v8 : Ref sig .tc := ⟨.hbm, 78, rfl⟩
abbrev main_call1_call0_v9 : Ref sig .tc := ⟨.hbm, 79, rfl⟩
abbrev main_call1_call0_v10 : Ref sig .tc := ⟨.hbm, 80, rfl⟩
abbrev main_call1_call0_v11 : Ref sig .tc := ⟨.hbm, 81, rfl⟩
abbrev main_call1_v1_0 : Ref sig .tc := ⟨.hbm, 82, rfl⟩
abbrev main_call1_call0_cst_0 : Ref sig .tc := ⟨.hbm, 83, rfl⟩
abbrev main_call1_call0_v13 : Ref sig .tc := ⟨.hbm, 84, rfl⟩
abbrev main_call1_call0_v14 : Ref sig .tc := ⟨.hbm, 85, rfl⟩
abbrev main_call1_call0_cst_1 : Ref sig .tc := ⟨.hbm, 86, rfl⟩
abbrev main_call1_call0_v15 : Ref sig .tc := ⟨.hbm, 87, rfl⟩
abbrev main_call1_call0_v16 : Ref sig .tc := ⟨.hbm, 88, rfl⟩
abbrev main_call1_call0_cst_2 : Ref sig .tc := ⟨.hbm, 89, rfl⟩
abbrev main_call1_call0_v17 : Ref sig .tc := ⟨.hbm, 90, rfl⟩
abbrev main_call1_call0_v18 : Ref sig .tc := ⟨.hbm, 91, rfl⟩
abbrev main_call1_call0_cst_3 : Ref sig .tc := ⟨.hbm, 92, rfl⟩
abbrev main_call1_call0_v19 : Ref sig .tc := ⟨.hbm, 93, rfl⟩
abbrev main_call1_call0_v20 : Ref sig .tc := ⟨.hbm, 94, rfl⟩
abbrev main_call1_call0_v21 : Ref sig .tc := ⟨.hbm, 95, rfl⟩
abbrev main_v16_1 : Ref sig .tc := ⟨.hbm, 96, rfl⟩
abbrev main_call1_call0_cst_4 : Ref sig .tc := ⟨.hbm, 97, rfl⟩
abbrev main_call1_call0_cst_5 : Ref sig .tc := ⟨.hbm, 98, rfl⟩
abbrev main_call1_call0_v23 : Ref sig .tc := ⟨.hbm, 99, rfl⟩
abbrev main_call1_call0_cst_6 : Ref sig .tc := ⟨.hbm, 100, rfl⟩
abbrev main_call1_call0_cst_7 : Ref sig .tc := ⟨.hbm, 101, rfl⟩
abbrev main_call1_call0_v24 : Ref sig .tc := ⟨.hbm, 102, rfl⟩
abbrev main_call1_call0_cst_8 : Ref sig .tc := ⟨.hbm, 103, rfl⟩
abbrev main_call1_call0_v25 : Ref sig .tc := ⟨.hbm, 104, rfl⟩
abbrev main_call1_call0_v26 : Ref sig .tc := ⟨.hbm, 105, rfl⟩
abbrev main_call1_call0_cst_9 : Ref sig .tc := ⟨.hbm, 106, rfl⟩
abbrev main_call1_call0_v27 : Ref sig .tc := ⟨.hbm, 107, rfl⟩
abbrev main_call1_call0_v28 : Ref sig .tc := ⟨.hbm, 108, rfl⟩
abbrev main_call1_call0_v29 : Ref sig .tc := ⟨.hbm, 109, rfl⟩
abbrev main_call1_call0_v30 : Ref sig .tc := ⟨.hbm, 110, rfl⟩
abbrev main_call1_call0_v31 : Ref sig .tc := ⟨.hbm, 111, rfl⟩
abbrev main_call1_call0_cst_10 : Ref sig .tc := ⟨.hbm, 112, rfl⟩
abbrev main_call1_call0_v32 : Ref sig .tc := ⟨.hbm, 113, rfl⟩
abbrev main_v16_2 : Ref sig .tc := ⟨.hbm, 114, rfl⟩
abbrev main_v16_0 : Ref sig .tc := ⟨.hbm, 115, rfl⟩
abbrev main_cst_0 : Ref sig .tc := ⟨.hbm, 116, rfl⟩
abbrev main_call2_v0 : Ref sig .tc := ⟨.hbm, 117, rfl⟩
abbrev main_v17_1 : Ref sig .tc := ⟨.hbm, 118, rfl⟩
abbrev main_call2_v2 : Ref sig .tc := ⟨.hbm, 119, rfl⟩
abbrev main_v17_0 : Ref sig .tc := ⟨.hbm, 120, rfl⟩
abbrev main_call2_cst : Ref sig .tc := ⟨.hbm, 121, rfl⟩
abbrev main_v17_2 : Ref sig .tc := ⟨.hbm, 122, rfl⟩
abbrev main_call3_cst : Ref sig .tc := ⟨.hbm, 123, rfl⟩
abbrev main_call3_v0 : Ref sig .tc := ⟨.hbm, 124, rfl⟩
abbrev main_v18 : Ref sig .tc := ⟨.hbm, 125, rfl⟩
abbrev main_v19 : Ref sig .tc := ⟨.hbm, 126, rfl⟩
abbrev main_v20 : Ref sig .tc := ⟨.hbm, 127, rfl⟩
abbrev main_v21 : Ref sig .tc := ⟨.hbm, 128, rfl⟩
abbrev main_cst_1 : Ref sig .tc := ⟨.hbm, 129, rfl⟩
abbrev main_call4_v0 : Ref sig .tc := ⟨.hbm, 130, rfl⟩
abbrev main_v22_1 : Ref sig .tc := ⟨.hbm, 131, rfl⟩
abbrev main_call4_v2 : Ref sig .tc := ⟨.hbm, 132, rfl⟩
abbrev main_v22_0 : Ref sig .tc := ⟨.hbm, 133, rfl⟩
abbrev main_call4_cst : Ref sig .tc := ⟨.hbm, 134, rfl⟩
abbrev main_v22_2 : Ref sig .tc := ⟨.hbm, 135, rfl⟩
abbrev main_v23 : Ref sig .tc := ⟨.hbm, 136, rfl⟩
abbrev main_v24 : Ref sig .tc := ⟨.hbm, 137, rfl⟩
abbrev main_v25 : Ref sig .tc := ⟨.hbm, 138, rfl⟩
abbrev main_v26 : Ref sig .tc := ⟨.hbm, 139, rfl⟩
abbrev main_v27 : Ref sig .tc := ⟨.hbm, 140, rfl⟩
abbrev main_v28 : Ref sig .tc := ⟨.hbm, 141, rfl⟩
abbrev main_v29 : Ref sig .tc := ⟨.hbm, 142, rfl⟩
abbrev main_v30 : Ref sig .tc := ⟨.hbm, 143, rfl⟩
abbrev main_v31 : Ref sig .tc := ⟨.hbm, 144, rfl⟩
abbrev main_v32 : Ref sig .tc := ⟨.hbm, 145, rfl⟩
abbrev main_v33 : Ref sig .tc := ⟨.hbm, 146, rfl⟩
abbrev main_v34 : Ref sig .tc := ⟨.hbm, 147, rfl⟩
abbrev main_call5_cst : Ref sig .tc := ⟨.hbm, 148, rfl⟩
abbrev main_call5_v0 : Ref sig .tc := ⟨.hbm, 149, rfl⟩
abbrev main_v35 : Ref sig .tc := ⟨.hbm, 150, rfl⟩
abbrev main_v36 : Ref sig .tc := ⟨.hbm, 151, rfl⟩
abbrev main_v37 : Ref sig .tc := ⟨.hbm, 152, rfl⟩
abbrev main_call6_cst : Ref sig .tc := ⟨.hbm, 153, rfl⟩
abbrev main_call6_v0 : Ref sig .tc := ⟨.hbm, 154, rfl⟩
abbrev main_v38 : Ref sig .tc := ⟨.hbm, 155, rfl⟩
abbrev main_v39 : Ref sig .tc := ⟨.hbm, 156, rfl⟩
abbrev main_call7_cst : Ref sig .tc := ⟨.hbm, 157, rfl⟩
abbrev main_call7_v0 : Ref sig .tc := ⟨.hbm, 158, rfl⟩
abbrev main_v40 : Ref sig .tc := ⟨.hbm, 159, rfl⟩
abbrev main_call8_v0 : Ref sig .tc := ⟨.hbm, 160, rfl⟩
abbrev main_call8_v1 : Ref sig .tc := ⟨.hbm, 161, rfl⟩
abbrev main_v41 : Ref sig .tc := ⟨.hbm, 162, rfl⟩
abbrev main_v42 : Ref sig .tc := ⟨.hbm, 163, rfl⟩
abbrev main_call9_v0 : Ref sig .tc := ⟨.hbm, 164, rfl⟩
abbrev main_call9_v1 : Ref sig .tc := ⟨.hbm, 165, rfl⟩
abbrev main_v43 : Ref sig .tc := ⟨.hbm, 166, rfl⟩
abbrev main_v44 : Ref sig .tc := ⟨.hbm, 167, rfl⟩
abbrev main_cst_2 : Ref sig .tc := ⟨.hbm, 168, rfl⟩
abbrev main_v45 : Ref sig .tc := ⟨.hbm, 169, rfl⟩
abbrev main_v46 : Ref sig .tc := ⟨.hbm, 170, rfl⟩
abbrev main_v47 : Ref sig .tc := ⟨.hbm, 171, rfl⟩
abbrev main_v48 : Ref sig .tc := ⟨.hbm, 172, rfl⟩
abbrev main_v49 : Ref sig .tc := ⟨.hbm, 173, rfl⟩
abbrev main_v50 : Ref sig .tc := ⟨.hbm, 174, rfl⟩
abbrev main_v51 : Ref sig .tc := ⟨.hbm, 175, rfl⟩
abbrev main_v52 : Ref sig .tc := ⟨.hbm, 176, rfl⟩
abbrev main_v53 : Ref sig .tc := ⟨.hbm, 177, rfl⟩
abbrev main_v54 : Ref sig .tc := ⟨.hbm, 178, rfl⟩
abbrev main_v55 : Ref sig .tc := ⟨.hbm, 179, rfl⟩
abbrev main_v56 : Ref sig .tc := ⟨.hbm, 180, rfl⟩
abbrev main_v57 : Ref sig .tc := ⟨.hbm, 181, rfl⟩
abbrev main_v58 : Ref sig .tc := ⟨.hbm, 182, rfl⟩

abbrev nD : Nat := 1
abbrev τ : Topo := Topo.v7x

variable {F : FTy → Type} [FloatOps F]
-- ==== KernelFin.lean ====
abbrev S1x2048x1024 : Shape := ⟨3, ![1, 2048, 1024]⟩
abbrev S1x1024 : Shape := ⟨2, ![1, 1024]⟩
abbrev S1x1024x5632 : Shape := ⟨3, ![1, 1024, 5632]⟩
abbrev S1x2048x5632 : Shape := ⟨3, ![1, 2048, 5632]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S2048x1024 : Shape := ⟨2, ![2048, 1024]⟩
abbrev S2048x5632 : Shape := ⟨2, ![2048, 5632]⟩
abbrev S512x1024 : Shape := ⟨2, ![512, 1024]⟩
abbrev S512x5632 : Shape := ⟨2, ![512, 5632]⟩
abbrev S6 : Shape := ⟨1, ![6]⟩
abbrev S1 : Shape := ⟨1, ![1]⟩
abbrev S_ : Shape := ⟨0, ![]⟩
abbrev S1024x1408 : Shape := ⟨2, ![1024, 1408]⟩
abbrev S1x1024x1408 : Shape := ⟨3, ![1, 1024, 1408]⟩
abbrev S1024x128 : Shape := ⟨2, ![1024, 128]⟩
abbrev S1x1024x128 : Shape := ⟨3, ![1, 1024, 128]⟩
abbrev S1024x1280 : Shape := ⟨2, ![1024, 1280]⟩
abbrev S1x1024x1280 : Shape := ⟨3, ![1, 1024, 1280]⟩
abbrev S512x1536 : Shape := ⟨2, ![512, 1536]⟩
abbrev S1024x1536 : Shape := ⟨2, ![1024, 1536]⟩
abbrev S512x1280 : Shape := ⟨2, ![512, 1280]⟩
abbrev S512 : Shape := ⟨1, ![512]⟩
abbrev S512x1 : Shape := ⟨2, ![512, 1]⟩
abbrev S1024 : Shape := ⟨1, ![1024]⟩

abbrev nBuf : Space → Nat
  | .hbm => 15
  | .vmem => 11
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x1024, .f32⟩
  | .hbm, ⟨3, _⟩ => ⟨S1x1024x5632, .f32⟩
  | .hbm, ⟨4, _⟩ => ⟨S1x2048x5632, .f32⟩
  | .hbm, ⟨5, _⟩ => ⟨S1024x5632, .f32⟩
  | .hbm, ⟨6, _⟩ => ⟨S1024x4x1408, .f32⟩
  | .hbm, ⟨7, _⟩ => ⟨S4x1024x1408, .f32⟩
  | .hbm, ⟨8, _⟩ => ⟨S4x1024x1408, .bf16⟩
  | .hbm, ⟨9, _⟩ => ⟨S2048x1024, .f32⟩
  | .hbm, ⟨10, _⟩ => ⟨S2048x1024, .f32⟩
  | .hbm, ⟨11, _⟩ => ⟨S2048x5632, .f32⟩
  | .hbm, ⟨12, _⟩ => ⟨S2048x5632, .bf16⟩
  | .hbm, ⟨13, _⟩ => ⟨S2048x1024, .f32⟩
  | .hbm, ⟨14, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x5632, .bf16⟩
  | .local _ .vmem, ⟨6, _⟩ => ⟨S512x5632, .bf16⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1024x5632, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_5 : BitVec 32 := 0#32
  let v5 : BitVec 1 := Scalar.cmpi .ne v4 c0_i32_5
  v5

def k0_cond3 (i : grid0.Coords) : BitVec 1 :=
  let arg0 : BitVec 32 := BitVec.ofNat 32 (i 0).val
  let c0_i32_1 : BitVec 32 := 0#32
  let v3 : BitVec 1 := Scalar.cmpi .eq arg0 c0_i32_1
  let v_true : BitVec 1 := 1#1
  let v6 : BitVec 1 := Scalar.xori v3 v_true
  let v7 : BitVec 32 := Scalar.extui v6
  let c0_i32_6 : BitVec 32 := 0#32
  let v8 : BitVec 1 := Scalar.cmpi .ne v7 c0_i32_6
  v8

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceFinIdeal.lean ====
abbrev S1x2048x1024 : Shape := ⟨3, ![1, 2048, 1024]⟩
abbrev S1x1024 : Shape := ⟨2, ![1, 1024]⟩
abbrev S1x1024x5632 : Shape := ⟨3, ![1, 1024, 5632]⟩
abbrev S1x2048x5632 : Shape := ⟨3, ![1, 2048, 5632]⟩
abbrev S1024 : Shape := ⟨1, ![1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1024x5632 : Shape := ⟨2, ![1024, 5632]⟩
abbrev S2048 : Shape := ⟨1, ![2048]⟩
abbrev S2048x1024 : Shape := ⟨2, ![2048, 1024]⟩

abbrev nBuf : Space → Nat
  | .hbm => 58
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x1024, .f32⟩
  | .hbm, ⟨3, _⟩ => ⟨S1x1024x5632, .f32⟩
  | .hbm, ⟨4, _⟩ => ⟨S1x2048x5632, .f32⟩
  | .hbm, ⟨5, _⟩ => ⟨S1024, .f32⟩
  | .hbm, ⟨6, _⟩ => ⟨S1x2048x1024, .f32⟩
  | .hbm, ⟨7, _⟩ => ⟨S_, .f32⟩
  | .hbm, ⟨8, _⟩ => ⟨S1x2048, .f32⟩
  | .hbm, ⟨9, _⟩ => ⟨S1x2048x1, .f32⟩
  | .hbm, ⟨10, _⟩ => ⟨S_, .f32⟩
  | .hbm, ⟨11, _⟩ => ⟨S1x2048x1, .f32⟩
  | .hbm, ⟨12, _⟩ => ⟨S1x2048x1, .f32⟩
  | .hbm, ⟨13, _⟩ => ⟨S_, .f32⟩
  | .hbm, ⟨14, _⟩ => ⟨S1x2048x1, .f32⟩
  | .hbm, ⟨15, _⟩ => ⟨S1x2048x1, .f32⟩
  | .hbm, ⟨16, _⟩ => ⟨S1x2048x1, .f32⟩
  | .hbm, ⟨17, _⟩ => ⟨S1x2048x1, .f32⟩
  | .hbm, ⟨18, _⟩ => ⟨S_, .f32⟩
  | .hbm, ⟨19, _⟩ => ⟨S1x2048x1, .f32⟩
  | .hbm, ⟨20, _⟩ => ⟨S1x2048x1, .f32⟩
  | .hbm, ⟨21, _⟩ => ⟨S1x2048x1024, .f32⟩
  | .hbm, ⟨22, _⟩ => ⟨S1x2048x1024, .f32⟩
  | .hbm, ⟨23, _⟩ => ⟨S1x1x1024, .f32⟩
  | .hbm, ⟨24, _⟩ => ⟨S1x2048x1024, .f32⟩
  | .hbm, ⟨25, _⟩ => ⟨S1x2048x1024, .f32⟩
  | .hbm, ⟨26, _⟩ => ⟨S1024x5632, .f32⟩
  | .hbm, ⟨27, _⟩ => ⟨S1x2048x5632, .f32⟩
  | .hbm, ⟨28, _⟩ => ⟨S1x2048x1024, .f32⟩
  | .hbm, ⟨29, _⟩ => ⟨S1x2048x1024, .f32⟩
  | .hbm, ⟨30, _⟩ => ⟨S_, .f32⟩
  | .hbm, ⟨31, _⟩ => ⟨S1x1024, .f32⟩
  | .hbm, ⟨32, _⟩ => ⟨S1x1x1024, .f32⟩
  | .hbm, ⟨33, _⟩ => ⟨S1x2048x1024, .f32⟩
  | .hbm, ⟨34, _⟩ => ⟨S1x2048x1024, .f32⟩
  | .hbm, ⟨35, _⟩ => ⟨S_, .f32⟩
  | .hbm, ⟨36, _⟩ => ⟨S1024, .f32⟩
  | .hbm, ⟨37, _⟩ => ⟨S1x2048x1024, .f32⟩
  | .hbm, ⟨38, _⟩ => ⟨S_, .f32⟩
  | .hbm, ⟨39, _⟩ => ⟨S1x2048, .f32⟩
  | .hbm, ⟨40, _⟩ => ⟨S1x2048x1, .f32⟩
  | .hbm, ⟨41, _⟩ => ⟨S1x2048x1024, .f32⟩
  | .hbm, ⟨42, _⟩ => ⟨S1x2048x1024, .f32⟩
  | .hbm, ⟨43, _⟩ => ⟨S1x2048x1024, .f32⟩
  | .hbm, ⟨44, _⟩ => ⟨S1x2048x1, .f32⟩
  | .hbm, ⟨45, _⟩ => ⟨S_, .f32⟩
  | .hbm, ⟨46, _⟩ => ⟨S1x2048x1, .f32⟩
  | .hbm, ⟨47, _⟩ => ⟨S1x2048x1, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S1x2048x1024, .f32⟩
  | .hbm, ⟨52, _⟩ => ⟨S1x2048x1024, .f32⟩
  | .hbm, ⟨53, _⟩ => ⟨S1x2048x1024, .f32⟩
  | .hbm, ⟨54, _⟩ => ⟨S1x2048x1024, .f32⟩
  | .hbm, ⟨55, _⟩ => ⟨S1x2048x1024, .f32⟩
  | .hbm, ⟨56, _⟩ => ⟨S1x1024, .f32⟩
  | .hbm, ⟨57, _⟩ => ⟨S2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== KernelLast.lean ====
abbrev S1x2048x1024 : Shape := ⟨3, ![1, 2048, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S2048x1024 : Shape := ⟨2, ![2048, 1024]⟩
abbrev S2816x1024 : Shape := ⟨2, ![2816, 1024]⟩
abbrev S2048x5632 : Shape := ⟨2, ![2048, 5632]⟩
abbrev S1x128 : Shape := ⟨2, ![1, 128]⟩
abbrev S2048x2816 : Shape := ⟨2, ![2048, 2816]⟩
abbrev S256x1024 : Shape := ⟨2, ![256, 1024]⟩
abbrev S256x5632 : Shape := ⟨2, ![256, 5632]⟩
abbrev S256x2816 : Shape := ⟨2, ![256, 2816]⟩
abbrev S8 : Shape := ⟨1, ![8]⟩
abbrev S1 : Shape := ⟨1, ![1]⟩
abbrev S_ : Shape := ⟨0, ![]⟩
abbrev S1024x1408 : Shape := ⟨2, ![1024, 1408]⟩
abbrev S1x1024x1408 : Shape := ⟨3, ![1, 1024, 1408]⟩
abbrev S704x1024 : Shape := ⟨2, ![704, 1024]⟩
abbrev S256 : Shape := ⟨1, ![256]⟩
abbrev S256x1 : Shape := ⟨2, ![256, 1]⟩
abbrev S1024x1536 : Shape := ⟨2, ![1024, 1536]⟩
abbrev S256x1536 : Shape := ⟨2, ![256, 1536]⟩
abbrev S1536x1024 : Shape := ⟨2, ![1536, 1024]⟩
abbrev S1024x1280 : Shape := ⟨2, ![1024, 1280]⟩
abbrev S256x1280 : Shape := ⟨2, ![256, 1280]⟩
abbrev S1280x1024 : Shape := ⟨2, ![1280, 1024]⟩
abbrev S1x256x1024 : Shape := ⟨3, ![1, 256, 1024]⟩
abbrev S1x1x1 : Shape := ⟨3, ![1, 1, 1]⟩

abbrev nBuf : Space → Nat
  | .hbm => 23
  | .vmem => 21
  | .smem => 0
  | _ => 0

abbrev bufTy : (tb : Table) → Fin (tcTables nBuf tb) → BufTy
  | .hbm, ⟨0, _⟩ => ⟨S1x2048x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1x2048x1024, .f32⟩
  | .hbm, ⟨5, _⟩ => ⟨S1024, .f32⟩
  | .hbm, ⟨6, _⟩ => ⟨S1024x5632, .f32⟩
  | .hbm, ⟨7, _⟩ => ⟨S1024x4x1408, .f32⟩
  | .hbm, ⟨8, _⟩ => ⟨S4x1024x1408, .f32⟩
  | .hbm, ⟨9, _⟩ => ⟨S4x1024x1408, .bf16⟩
  | .hbm, ⟨10, _⟩ => ⟨S2048x1024, .f32⟩
  | .hbm, ⟨11, _⟩ => ⟨S2816x1024, .f32⟩
  | .hbm, ⟨12, _⟩ => ⟨S2816x1024, .bf16⟩
  | .hbm, ⟨13, _⟩ => ⟨S2048x1024, .f32⟩
  | .hbm, ⟨14, _⟩ => ⟨S1x1024, .f32⟩
  | .hbm, ⟨15, _⟩ => ⟨S2048x1024, .f32⟩
  | .hbm, ⟨16, _⟩ => ⟨S2048x5632, .bf16⟩
  | .hbm, ⟨17, _⟩ => ⟨S1x1024, .f32⟩
  | .hbm, ⟨18, _⟩ => ⟨S1x128, .f32⟩
  | .hbm, ⟨19, _⟩ => ⟨S1x1024, .f32⟩
  | .hbm, ⟨20, _⟩ => ⟨S2048x1024, .bf16⟩
  | .hbm, ⟨21, _⟩ => ⟨S2048x2816, .bf16⟩
  | .hbm, ⟨22, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x5632, .bf16⟩
  | .local _ .vmem, ⟨9, _⟩ => ⟨S256x5632, .bf16⟩
  | .local _ .vmem, ⟨10, _⟩ => ⟨S1x1024, .f32⟩
  | .local _ .vmem, ⟨11, _⟩ => ⟨S1x128, .f32⟩
  | .local _ .vmem, ⟨12, _⟩ => ⟨S1x1024, .f32⟩
  | .local _ .vmem, ⟨13, _⟩ => ⟨S256x1024, .bf16⟩
  | .local _ .vmem, ⟨14, _⟩ => ⟨S256x1024, .bf16⟩
  | .local _ .vmem, ⟨15, _⟩ => ⟨S256x2816, .bf16⟩
  | .local _ .vmem, ⟨16, _⟩ => ⟨S256x2816, .bf16⟩
  | .local _ .vmem, ⟨17, _⟩ => ⟨S256x1024, .bf16⟩
  | .local _ .vmem, ⟨18, _⟩ => ⟨S256x1024, .bf16⟩
  | .local _ .vmem, ⟨19, _⟩ => ⟨S1024x5632, .bf16⟩
  | .local _ .vmem, ⟨20, _⟩ => ⟨S2816x1024, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v9_3 : Ref sig .tc := ⟨.hbm, 18, rfl⟩
abbrev main_v9_4 : Ref sig .tc := ⟨.hbm, 19, rfl⟩
abbrev main_v9_5 : Ref sig .tc := ⟨.hbm, 20, rfl⟩
abbrev main_v9_6 : Ref sig .tc := ⟨.hbm, 21, rfl⟩
abbrev main_v9_7 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x5632 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceLastIdeal.lean ====
abbrev S1x2048x1024 : Shape := ⟨3, ![1, 2048, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1024x5632 : Shape := ⟨2, ![1024, 5632]⟩
abbrev S1x2048x5632 : Shape := ⟨3, ![1, 2048, 5632]⟩
abbrev S1x2048x2816 : Shape := ⟨3, ![1, 2048, 2816]⟩
abbrev S2816x1024 : Shape := ⟨2, ![2816, 1024]⟩
abbrev S2048 : Shape := ⟨1, ![2048]⟩
abbrev S2048x1024 : Shape := ⟨2, ![2048, 1024]⟩
abbrev S2048x5632 : Shape := ⟨2, ![2048, 5632]⟩
abbrev S1x128 : Shape := ⟨2, ![1, 128]⟩
abbrev S2048x2816 : Shape := ⟨2, ![2048, 2816]⟩

abbrev nBuf : Space → Nat
  | .hbm => 205
  | .vmem => 0
  | .smem => 0
  | _ => 0

abbrev hbmTy0_0 (i : Nat) : BufTy := match i % 128 with
  | 0 => ⟨S1x2048x1024, .f32⟩
  | 1 => ⟨S1x1024, .f32⟩
  | 2 => ⟨S1x1024x5632, .f32⟩
  | 3 => ⟨S1x2816x1024, .f32⟩
  | 4 => ⟨S1x2048x1024, .f32⟩
  | 5 => ⟨S1024, .f32⟩
  | 6 => ⟨S1024, .f32⟩
  | 7 => ⟨S1x2048x1024, .f32⟩
  | 8 => ⟨S_, .f32⟩
  | 9 => ⟨S1x2048, .f32⟩
  | 10 => ⟨S1x2048x1, .f32⟩
  | 11 => ⟨S_, .f32⟩
  | 12 => ⟨S1x2048x1, .f32⟩
  | 13 => ⟨S1x2048x1, .f32⟩
  | 14 => ⟨S_, .f32⟩
  | 15 => ⟨S1x2048x1, .f32⟩
  | 16 => ⟨S1x2048x1, .f32⟩
  | 17 => ⟨S1x2048x1, .f32⟩
  | 18 => ⟨S1x2048x1024, .f32⟩
  | 19 => ⟨S1x2048x1024, .f32⟩
  | 20 => ⟨S1x1x1024, .f32⟩
  | 21 => ⟨S1x2048x1024, .f32⟩
  | 22 => ⟨S1x2048x1024, .f32⟩
  | 23 => ⟨S1024x5632, .f32⟩
  | 24 => ⟨S1x2048x5632, .f32⟩
  | 25 => ⟨S1x2048x2816, .f32⟩
  | 26 => ⟨S1x2048x2816, .f32⟩
  | 27 => ⟨S1x2048x2816, .f32⟩
  | 28 => ⟨S1x2048x2816, .f32⟩
  | 29 => ⟨S_, .f32⟩
  | 30 => ⟨S1x2048x2816, .f32⟩
  | 31 => ⟨S1x2048x2816, .f32⟩
  | 32 => ⟨S_, .f32⟩
  | 33 => ⟨S1x2048x2816, .f32⟩
  | 34 => ⟨S1x2048x2816, .f32⟩
  | 35 => ⟨S1x2048x2816, .f32⟩
  | 36 => ⟨S1x2048x2816, .f32⟩
  | 37 => ⟨S_, .f32⟩
  | 38 => ⟨S1x2048x2816, .f32⟩
  | 39 => ⟨S1x2048x2816, .f32⟩
  | 40 => ⟨S1x2048x2816, .f32⟩
  | 41 => ⟨S1x2048x2816, .f32⟩
  | 42 => ⟨S1x2048x2816, .f32⟩
  | 43 => ⟨S1x2048x2816, .f32⟩
  | 44 => ⟨S_, .f32⟩
  | 45 => ⟨S1x2048x2816, .f32⟩
  | 46 => ⟨S1x2048x2816, .f32⟩
  | 47 => ⟨S_, .f32⟩
  | 48 => ⟨S1x2048x2816, .f32⟩
  | 49 => ⟨S1x2048x2816, .f32⟩
  | 50 => ⟨S_, .f32⟩
  | 51 => ⟨S1x2048x2816, .f32⟩
  | 52 => ⟨S1x2048x2816, .f32⟩
  | 53 => ⟨S1x2048x2816, .f32⟩
  | 54 => ⟨S1x2048x2816, .f32⟩
  | 55 => ⟨S1x2048x2816, .f32⟩
  | 56 => ⟨S2816x1024, .f32⟩
  | 57 => ⟨S1x2048x1024, .f32⟩
  | 58 => ⟨S_, .f32⟩
  | 59 => ⟨S1x2048x1024, .f32⟩
  | 60 => ⟨S1x2048x1024, .f32⟩
  | 61 => ⟨S1x2048x1024, .f32⟩
  | 62 => ⟨S1x2048x1024, .f32⟩
  | 63 => ⟨S_, .f32⟩
  | 64 => ⟨S1x2048, .f32⟩
  | 65 => ⟨S1x2048x1, .f32⟩
  | 66 => ⟨S_, .f32⟩
  | 67 => ⟨S1x2048x1, .f32⟩
  | 68 => ⟨S1x2048x1, .f32⟩
  | 69 => ⟨S_, .f32⟩
  | 70 => ⟨S1x2048x1, .f32⟩
  | 71 => ⟨S1x2048x1, .f32⟩
  | 72 => ⟨S1x2048x1, .f32⟩
  | 73 => ⟨S1x2048x1, .f32⟩
  | 74 => ⟨S_, .f32⟩
  | 75 => ⟨S1x2048x1, .f32⟩
  | 76 => ⟨S1x2048x1, .f32⟩
  | 77 => ⟨S1x2048x1024, .f32⟩
  | 78 => ⟨S1x2048x1024, .f32⟩
  | 79 => ⟨S1x1x1024, .f32⟩
  | 80 => ⟨S1x2048x1024, .f32⟩
  | 81 => ⟨S1x2048x1024, .f32⟩
  | 82 => ⟨S1x2048x1024, .f32⟩
  | 83 => ⟨S1x2048x1024, .f32⟩
  | 84 => ⟨S_, .f32⟩
  | 85 => ⟨S1x2048x1024, .f32⟩
  | 86 => ⟨S1x2048x1024, .f32⟩
  | 87 => ⟨S_, .f32⟩
  | 88 => ⟨S1x2048, .f32⟩
  | 89 => ⟨S_, .f32⟩
  | 90 => ⟨S1x2048, .f32⟩
  | 91 => ⟨S1x2048, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S1x2048, .f32⟩
  | 100 => ⟨S_, .f32⟩
  | 101 => ⟨S1x2048, .f32⟩
  | 102 => ⟨S1x2048, .f32⟩
  | 103 => ⟨S1x2048x1024, .f32⟩
  | 104 => ⟨S1x2048x1024, .f32⟩
  | 105 => ⟨S1x2048x1024, .f32⟩
  | 106 => ⟨S_, .f32⟩
  | 107 => ⟨S1x1024, .f32⟩
  | 108 => ⟨S1x1x1024, .f32⟩
  | 109 => ⟨S1x2048x1024, .f32⟩
  | 110 => ⟨S1x2048x1024, .f32⟩
  | 111 => ⟨S_, .f32⟩
  | 112 => ⟨S1024, .f32⟩
  | 113 => ⟨S1x2048x1024, .f32⟩
  | 114 => ⟨S_, .f32⟩
  | 115 => ⟨S1x2048, .f32⟩
  | 116 => ⟨S1x2048x1, .f32⟩
  | 117 => ⟨S1x2048x1024, .f32⟩
  | 118 => ⟨S1x2048x1024, .f32⟩
  | 119 => ⟨S1x2048x1, .f32⟩
  | 120 => ⟨S_, .f32⟩
  | 121 => ⟨S1x2048x1, .f32⟩
  | 122 => ⟨S1x2048x1, .f32⟩
  | 123 => ⟨S_, .f32⟩
  | 124 => ⟨S2048, .f32⟩
  | 125 => ⟨S1x2048, .f32⟩
  | 126 => ⟨S1x2048x1024, .f32⟩
  | 127 => ⟨S1x2048x1024, .f32⟩
  | _ => ⟨S1x2048x1024, .f32⟩

abbrev hbmTy0_1 (i : Nat) : BufTy := match i % 128 with
  | 0 => ⟨S1x2048x1024, .f32⟩
  | 1 => ⟨S1x2048x1024, .f32⟩
  | 2 => ⟨S1x2048x1024, .f32⟩
  | 3 => ⟨S_, .f32⟩
  | 4 => ⟨S1x2048x1024, .f32⟩
  | 5 => ⟨S1x2048x1024, .f32⟩
  | 6 => ⟨S1x2048x2816, .f32⟩
  | 7 => ⟨S1x2048x2816, .f32⟩
  | 8 => ⟨S1x2048x2816, .f32⟩
  | 9 => ⟨S1x2048x2816, .f32⟩
  | 10 => ⟨S1x2048x2816, .f32⟩
  | 11 => ⟨S1x2048x2816, .f32⟩
  | 12 => ⟨S1x2048x2816, .f32⟩
  | 13 => ⟨S1x2048x5632, .f32⟩
  | 14 => ⟨S1024, .f32⟩
  | 15 => ⟨S1x2048x1024, .f32⟩
  | 16 => ⟨S_, .f32⟩
  | 17 => ⟨S1x2048, .f32⟩
  | 18 => ⟨S1x2048x1, .f32⟩
  | 19 => ⟨S_, .f32⟩
  | 20 => ⟨S1x2048x1, .f32⟩
  | 21 => ⟨S1x2048x1, .f32⟩
  | 22 => ⟨S_, .f32⟩
  | 23 => ⟨S1x2048x1, .f32⟩
  | 24 => ⟨S1x2048x1, .f32⟩
  | 25 => ⟨S1x2048x1, .f32⟩
  | 26 => ⟨S1x2048x1, .f32⟩
  | 27 => ⟨S_, .f32⟩
  | 28 => ⟨S1x2048x1, .f32⟩
  | 29 => ⟨S1x2048x1, .f32⟩
  | 30 => ⟨S1x2048x1024, .f32⟩
  | 31 => ⟨S1x2048x1024, .f32⟩
  | 32 => ⟨S1x1x1024, .f32⟩
  | 33 => ⟨S1x2048x1024, .f32⟩
  | 34 => ⟨S1x2048x1024, .f32⟩
  | 35 => ⟨S1024x5632, .f32⟩
  | 36 => ⟨S1x2048x5632, .f32⟩
  | 37 => ⟨S1x2048x1024, .f32⟩
  | 38 => ⟨S1x2048x1024, .f32⟩
  | 39 => ⟨S_, .f32⟩
  | 40 => ⟨S1x1024, .f32⟩
  | 41 => ⟨S1x1x1024, .f32⟩
  | 42 => ⟨S1x2048x1024, .f32⟩
  | 43 => ⟨S1x2048x1024, .f32⟩
  | 44 => ⟨S_, .f32⟩
  | 45 => ⟨S1024, .f32⟩
  | 46 => ⟨S1x2048x1024, .f32⟩
  | 47 => ⟨S_, .f32⟩
  | 48 => ⟨S1x2048, .f32⟩
  | 49 => ⟨S1x2048x1, .f32⟩
  | 50 => ⟨S1x2048x1024, .f32⟩
  | 51 => ⟨S1x2048x1024, .f32⟩
  | 52 => ⟨S1x2048x1024, .f32⟩
  | 53 => ⟨S1x2048x1, .f32⟩
  | 54 => ⟨S_, .f32⟩
  | 55 => ⟨S1x2048x1, .f32⟩
  | 56 => ⟨S1x2048x1, .f32⟩
  | 57 => ⟨S_, .f32⟩
  | 58 => ⟨S2048, .f32⟩
  | 59 => ⟨S1x2048, .f32⟩
  | 60 => ⟨S1x2048x1024, .f32⟩
  | 61 => ⟨S1x2048x1024, .f32⟩
  | 62 => ⟨S1x2048x1024, .f32⟩
  | 63 => ⟨S1x2048x1024, .f32⟩
  | 64 => ⟨S1x2048x1024, .f32⟩
  | 65 => ⟨S1x1024, .f32⟩
  | 66 => ⟨S2048x1024, .f32⟩
  | 67 => ⟨S2048x5632, .f32⟩
  | 68 => ⟨S2048x5632, .bf16⟩
  | 69 => ⟨S1x128, .f32⟩
  | 70 => ⟨S1x1024, .f32⟩
  | 71 => ⟨S2048x1024, .f32⟩
  | 72 => ⟨S2048x1024, .bf16⟩
  | 73 => ⟨S2048x2816, .f32⟩
  | 74 => ⟨S2048x2816, .bf16⟩
  | 75 => ⟨S2048x1024, .f32⟩
  | 76 => ⟨S2048x1024, .bf16⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_call1_v0 : Ref sig .tc := ⟨.hbm, 42, rfl⟩
abbrev main_call1_v1 : Ref sig .tc := ⟨.hbm, 43, rfl⟩
abbrev main_call1_cst : Ref sig .tc := ⟨.hbm, 44, rfl⟩
abbrev main_call1_v2 : Ref sig .tc := ⟨.hbm, 45, rfl⟩
abbrev main_call1_v3 : Ref sig .tc := ⟨.hbm, 46, rfl⟩
abbrev main_call1_cst_0 : Ref sig .tc := ⟨.hbm, 47, rfl⟩
abbrev main_call1_v4 : Ref sig .tc := ⟨.hbm, 48, rfl⟩
abbrev main_v24_2 : Ref sig .tc := ⟨.hbm, 49, rfl⟩
abbrev main_call1_cst_1 : Ref sig .tc := ⟨.hbm, 50, rfl⟩
abbrev main_call1_v6 : Ref sig .tc := ⟨.hbm, 51, rfl⟩
abbrev main_call1_v7 : Ref sig .tc := ⟨.hbm, 52, rfl⟩
abbrev main_v24_1 : Ref sig .tc := ⟨.hbm, 53, rfl⟩
abbrev main_v24_0 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_cst_3 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_cst_4 : Ref sig .tc := ⟨.hbm, 63, rfl⟩
abbrev main_v32 : Ref sig .tc := ⟨.hbm, 64, rfl⟩
abbrev main_v33 : Ref sig .tc := ⟨.hbm, 65, rfl⟩
abbrev main_cst_5 : Ref sig .tc := ⟨.hbm, 66, rfl⟩
abbrev main_v34 : Ref sig .tc := ⟨.hbm, 67, rfl⟩
abbrev main_v35 : Ref sig .tc := ⟨.hbm, 68, rfl⟩
abbrev main_cst_6 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_cst_7 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_cst_8 : Ref sig .tc := ⟨.hbm, 84, rfl⟩
abbrev main_v49 : Ref sig .tc := ⟨.hbm, 85, rfl⟩
abbrev main_v50 : Ref sig .tc := ⟨.hbm, 86, rfl⟩
abbrev main_cst_9 : Ref sig .tc := ⟨.hbm, 87, rfl⟩
abbrev main_v51 : Ref sig .tc := ⟨.hbm, 88, rfl⟩
abbrev main_cst_10 : Ref sig .tc := ⟨.hbm, 89, rfl⟩
abbrev main_v52 : Ref sig .tc := ⟨.hbm, 90, rfl⟩
abbrev main_v53 : Ref sig .tc := ⟨.hbm, 91, rfl⟩
abbrev main_cst_11 : Ref sig .tc := ⟨.hbm, 92, rfl⟩
abbrev main_v54 : Ref sig .tc := ⟨.hbm, 93, rfl⟩
abbrev main_cst_12 : Ref sig .tc := ⟨.hbm, 94, rfl⟩
abbrev main_v55 : Ref sig .tc := ⟨.hbm, 95, rfl⟩
abbrev main_cst_13 : Ref sig .tc := ⟨.hbm, 96, rfl⟩
abbrev main_cst_14 : Ref sig .tc := ⟨.hbm, 97, rfl⟩
abbrev main_v56 : Ref sig .tc := ⟨.hbm, 98, rfl⟩
abbrev main_v57 : Ref sig .tc := ⟨.hbm, 99, rfl⟩
abbrev main_cst_15 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_cst_16 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_cst_17 : Ref sig .tc := ⟨.hbm, 111, rfl⟩
abbrev main_v67 : Ref sig .tc := ⟨.hbm, 112, rfl⟩
abbrev main_v68 : Ref sig .tc := ⟨.hbm, 113, rfl⟩
abbrev main_cst_18 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_cst_19 : Ref sig .tc := ⟨.hbm, 120, rfl⟩
abbrev main_v74 : Ref sig .tc := ⟨.hbm, 121, rfl⟩
abbrev main_v75 : Ref sig .tc := ⟨.hbm, 122, rfl⟩
abbrev main_cst_20 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_cst_21 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_call2_v0 : Ref sig .tc := ⟨.hbm, 137, rfl⟩
abbrev main_call2_v1 : Ref sig .tc := ⟨.hbm, 138, rfl⟩
abbrev main_call2_v2 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_cst_22 : Ref sig .tc := ⟨.hbm, 144, rfl⟩
abbrev main_v92 : Ref sig .tc := ⟨.hbm, 145, rfl⟩
abbrev main_v93 : Ref sig .tc := ⟨.hbm, 146, rfl⟩
abbrev main_cst_23 : Ref sig .tc := ⟨.hbm, 147, rfl⟩
abbrev main_v94 : Ref sig .tc := ⟨.hbm, 148, rfl⟩
abbrev main_v95 : Ref sig .tc := ⟨.hbm, 149, rfl⟩
abbrev main_cst_24 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_cst_25 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_cst_26 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_cst_27 : Ref sig .tc := ⟨.hbm, 172, rfl⟩
abbrev main_v115 : Ref sig .tc := ⟨.hbm, 173, rfl⟩
abbrev main_v116 : Ref sig .tc := ⟨.hbm, 174, rfl⟩
abbrev main_cst_28 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_cst_29 : Ref sig .tc := ⟨.hbm, 182, rfl⟩
abbrev main_v123 : Ref sig .tc := ⟨.hbm, 183, rfl⟩
abbrev main_v124 : Ref sig .tc := ⟨.hbm, 184, rfl⟩
abbrev main_cst_30 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩

abbrev nD : Nat := 1
abbrev τ : Topo := Topo.v7x

variable {F : FTy → Type} [FloatOps F]
-- ==== KernelMin.lean ====
abbrev S1x2048x1024 : Shape := ⟨3, ![1, 2048, 1024]⟩
abbrev S1x1024 : Shape := ⟨2, ![1, 1024]⟩
abbrev S1x1024x4096 : Shape := ⟨3, ![1, 1024, 4096]⟩
abbrev S1x2048x4096 : Shape := ⟨3, ![1, 2048, 4096]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S2048x4096 : Shape := ⟨2, ![2048, 4096]⟩
abbrev S2048x1024 : Shape := ⟨2, ![2048, 1024]⟩
abbrev S2048x512 : Shape := ⟨2, ![2048, 512]⟩
abbrev S2048x2048 : Shape := ⟨2, ![2048, 2048]⟩
abbrev S512x1024 : Shape := ⟨2, ![512, 1024]⟩
abbrev S512x512 : Shape := ⟨2, ![512, 512]⟩
abbrev S512x2048 : Shape := ⟨2, ![512, 2048]⟩
abbrev S512x4096 : Shape := ⟨2, ![512, 4096]⟩
abbrev S4 : Shape := ⟨1, ![4]⟩
abbrev S1 : Shape := ⟨1, ![1]⟩
abbrev S_ : Shape := ⟨0, ![]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 20
  | .vmem => 20
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x1024, .f32⟩
  | .hbm, ⟨3, _⟩ => ⟨S1x1024x4096, .f32⟩
  | .hbm, ⟨4, _⟩ => ⟨S1x2048x4096, .f32⟩
  | .hbm, ⟨5, _⟩ => ⟨S1024x4096, .f32⟩
  | .hbm, ⟨6, _⟩ => ⟨S1024x4x1024, .f32⟩
  | .hbm, ⟨7, _⟩ => ⟨S4x1024x1024, .f32⟩
  | .hbm, ⟨8, _⟩ => ⟨S4x1024x1024, .bf16⟩
  | .hbm, ⟨9, _⟩ => ⟨S2048x4096, .f32⟩
  | .hbm, ⟨10, _⟩ => ⟨S2048x4096, .bf16⟩
  | .hbm, ⟨11, _⟩ => ⟨S2048x1024, .f32⟩
  | .hbm, ⟨12, _⟩ => ⟨S2048x1024, .f32⟩
  | .hbm, ⟨13, _⟩ => ⟨S2048x512, .bf16⟩
  | .hbm, ⟨14, _⟩ => ⟨S2048x512, .bf16⟩
  | .hbm, ⟨15, _⟩ => ⟨S2048x512, .bf16⟩
  | .hbm, ⟨16, _⟩ => ⟨S2048x512, .bf16⟩
  | .hbm, ⟨17, _⟩ => ⟨S2048x2048, .bf16⟩
  | .hbm, ⟨18, _⟩ => ⟨S2048x1024, .f32⟩
  | .hbm, ⟨19, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x2048, .bf16⟩
  | .local _ .vmem, ⟨14, _⟩ => ⟨S512x2048, .bf16⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S4x1024x1024, .bf16⟩
  | .local _ .vmem, ⟨19, _⟩ => ⟨S512x4096, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_7 : BitVec 32 := 0#32
  let v5 : BitVec 1 := Scalar.cmpi .ne v4 c0_i32_7
  v5

def k0_cond3 (i : grid0.Coords) : BitVec 1 :=
  let arg0 : BitVec 32 := BitVec.ofNat 32 (i 0).val
  let c0_i32_1 : BitVec 32 := 0#32
  let v3 : BitVec 1 := Scalar.cmpi .eq arg0 c0_i32_1
  let v_true : BitVec 1 := 1#1
  let v6 : BitVec 1 := Scalar.xori v3 v_true
  let v7 : BitVec 32 := Scalar.extui v6
  let c0_i32_8 : BitVec 32 := 0#32
  let v8 : BitVec 1 := Scalar.cmpi .ne v7 c0_i32_8
  v8

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceMinIdeal.lean ====
abbrev S1x2048x1024 : Shape := ⟨3, ![1, 2048, 1024]⟩
abbrev S1x1024 : Shape := ⟨2, ![1, 1024]⟩
abbrev S1x1024x4096 : Shape := ⟨3, ![1, 1024, 4096]⟩
abbrev S1x2048x4096 : Shape := ⟨3, ![1, 2048, 4096]⟩
abbrev S1024 : Shape := ⟨1, ![1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1024x4096 : Shape := ⟨2, ![1024, 4096]⟩
abbrev S2048 : Shape := ⟨1, ![2048]⟩
abbrev S2048x1024 : Shape := ⟨2, ![2048, 1024]⟩

abbrev nBuf : Space → Nat
  | .hbm => 58
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x1024, .f32⟩
  | .hbm, ⟨3, _⟩ => ⟨S1x1024x4096, .f32⟩
  | .hbm, ⟨4, _⟩ => ⟨S1x2048x4096, .f32⟩
  | .hbm, ⟨5, _⟩ => ⟨S1024, .f32⟩
  | .hbm, ⟨6, _⟩ => ⟨S1x2048x1024, .f32⟩
  | .hbm, ⟨7, _⟩ => ⟨S_, .f32⟩
  | .hbm, ⟨8, _⟩ => ⟨S1x2048, .f32⟩
  | .hbm, ⟨9, _⟩ => ⟨S1x2048x1, .f32⟩
  | .hbm, ⟨10, _⟩ => ⟨S_, .f32⟩
  | .hbm, ⟨11, _⟩ => ⟨S1x2048x1, .f32⟩
  | .hbm, ⟨12, _⟩ => ⟨S1x2048x1, .f32⟩
  | .hbm, ⟨13, _⟩ => ⟨S_, .f32⟩
  | .hbm, ⟨14, _⟩ => ⟨S1x2048x1, .f32⟩
  | .hbm, ⟨15, _⟩ => ⟨S1x2048x1, .f32⟩
  | .hbm, ⟨16, _⟩ => ⟨S1x2048x1, .f32⟩
  | .hbm, ⟨17, _⟩ => ⟨S1x2048x1, .f32⟩
  | .hbm, ⟨18, _⟩ => ⟨S_, .f32⟩
  | .hbm, ⟨19, _⟩ => ⟨S1x2048x1, .f32⟩
  | .hbm, ⟨20, _⟩ => ⟨S1x2048x1, .f32⟩
  | .hbm, ⟨21, _⟩ => ⟨S1x2048x1024, .f32⟩
  | .hbm, ⟨22, _⟩ => ⟨S1x2048x1024, .f32⟩
  | .hbm, ⟨23, _⟩ => ⟨S1x1x1024, .f32⟩
  | .hbm, ⟨24, _⟩ => ⟨S1x2048x1024, .f32⟩
  | .hbm, ⟨25, _⟩ => ⟨S1x2048x1024, .f32⟩
  | .hbm, ⟨26, _⟩ => ⟨S1024x4096, .f32⟩
  | .hbm, ⟨27, _⟩ => ⟨S1x2048x4096, .f32⟩
  | .hbm, ⟨28, _⟩ => ⟨S1x2048x1024, .f32⟩
  | .hbm, ⟨29, _⟩ => ⟨S1x2048x1024, .f32⟩
  | .hbm, ⟨30, _⟩ => ⟨S_, .f32⟩
  | .hbm, ⟨31, _⟩ => ⟨S1x1024, .f32⟩
  | .hbm, ⟨32, _⟩ => ⟨S1x1x1024, .f32⟩
  | .hbm, ⟨33, _⟩ => ⟨S1x2048x1024, .f32⟩
  | .hbm, ⟨34, _⟩ => ⟨S1x2048x1024, .f32⟩
  | .hbm, ⟨35, _⟩ => ⟨S_, .f32⟩
  | .hbm, ⟨36, _⟩ => ⟨S1024, .f32⟩
  | .hbm, ⟨37, _⟩ => ⟨S1x2048x1024, .f32⟩
  | .hbm, ⟨38, _⟩ => ⟨S_, .f32⟩
  | .hbm, ⟨39, _⟩ => ⟨S1x2048, .f32⟩
  | .hbm, ⟨40, _⟩ => ⟨S1x2048x1, .f32⟩
  | .hbm, ⟨41, _⟩ => ⟨S1x2048x1024, .f32⟩
  | .hbm, ⟨42, _⟩ => ⟨S1x2048x1024, .f32⟩
  | .hbm, ⟨43, _⟩ => ⟨S1x2048x1024, .f32⟩
  | .hbm, ⟨44, _⟩ => ⟨S1x2048x1, .f32⟩
  | .hbm, ⟨45, _⟩ => ⟨S_, .f32⟩
  | .hbm, ⟨46, _⟩ => ⟨S1x2048x1, .f32⟩
  | .hbm, ⟨47, _⟩ => ⟨S1x2048x1, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S1x2048x1024, .f32⟩
  | .hbm, ⟨52, _⟩ => ⟨S1x2048x1024, .f32⟩
  | .hbm, ⟨53, _⟩ => ⟨S1x2048x1024, .f32⟩
  | .hbm, ⟨54, _⟩ => ⟨S1x2048x1024, .f32⟩
  | .hbm, ⟨55, _⟩ => ⟨S1x2048x1024, .f32⟩
  | .hbm, ⟨56, _⟩ => ⟨S1x1024, .f32⟩
  | .hbm, ⟨57, _⟩ => ⟨S2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== KernelAf.lean ====
abbrev S1x2048x512 : Shape := ⟨3, ![1, 2048, 512]⟩
abbrev S2048x512 : Shape := ⟨2, ![2048, 512]⟩
abbrev S512x128 : Shape := ⟨2, ![512, 128]⟩
abbrev S2048x128 : Shape := ⟨2, ![2048, 128]⟩
abbrev S256x256 : Shape := ⟨2, ![256, 256]⟩
abbrev S1x128 : Shape := ⟨2, ![1, 128]⟩
abbrev S256x128 : Shape := ⟨2, ![256, 128]⟩
abbrev S256x1 : Shape := ⟨2, ![256, 1]⟩
abbrev S256 : Shape := ⟨1, ![256]⟩

abbrev nBuf : Space → Nat
  | .hbm => 11
  | .vmem => 10
  | .smem => 0
  | _ => 0

abbrev bufTy : (tb : Table) → Fin (tcTables nBuf tb) → BufTy
  | .hbm, ⟨0, _⟩ => ⟨S1x2048x512, .f32⟩
  | .hbm, ⟨1, _⟩ => ⟨S1x2048x512, .f32⟩
  | .hbm, ⟨2, _⟩ => ⟨S1x2048x512, .f32⟩
  | .hbm, ⟨3, _⟩ => ⟨S2048x512, .f32⟩
  | .hbm, ⟨4, _⟩ => ⟨S2048x512, .bf16⟩
  | .hbm, ⟨5, _⟩ => ⟨S2048x512, .f32⟩
  | .hbm, ⟨6, _⟩ => ⟨S2048x512, .bf16⟩
  | .hbm, ⟨7, _⟩ => ⟨S2048x512, .f32⟩
  | .hbm, ⟨8, _⟩ => ⟨S2048x512, .bf16⟩
  | .hbm, ⟨9, _⟩ => ⟨S2048x512, .bf16⟩
  | .hbm, ⟨10, _⟩ => ⟨S2048x512, .f32⟩
  | .local _ .vmem, ⟨0, _⟩ => ⟨S512x128, .bf16⟩
  | .local _ .vmem, ⟨1, _⟩ => ⟨S512x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S512x128, .bf16⟩
  | .local _ .vmem, ⟨7, _⟩ => ⟨S512x128, .bf16⟩
  | .local _ .vmem, ⟨8, _⟩ => ⟨S512x128, .f32⟩
  | .local _ .vmem, ⟨9, _⟩ => ⟨S512x128, .f32⟩
  | _, _ => ⟨S1x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let c2_i32 : BitVec 32 := 2#32
  let arg1 : BitVec 32 := BitVec.ofNat 32 (i 1).val
  let v0 : BitVec 32 := Scalar.muli c2_i32 arg1
  let c1_i32 : BitVec 32 := 1#32
  let v39 : BitVec 32 := Scalar.addi v0 c1_i32
  let c256_i32 : BitVec 32 := 256#32
  let v40 : BitVec 32 := Scalar.muli v39 c256_i32
  v40
def k0_off1 (i : grid0.Coords) : Fin 2 → Nat :=
  let c2_i32 : BitVec 32 := 2#32
  let arg1 : BitVec 32 := BitVec.ofNat 32 (i 1).val
  let v0 : BitVec 32 := Scalar.muli c2_i32 arg1
  let c1_i32 : BitVec 32 := 1#32
  let v39 : BitVec 32 := Scalar.addi v0 c1_i32
  let c256_i32 : BitVec 32 := 256#32
  let v40 : BitVec 32 := Scalar.muli v39 c256_i32
  let v41 : BitVec 32 := v40
  let v42 : Index := Scalar.indexCast v41
  let c0_12 : Index := 0#32
  ![v42.toNat, 0]
def k0_mult2 (i : grid0.Coords) : BitVec 32 :=
  let c2_i32 : BitVec 32 := 2#32
  let arg1 : BitVec 32 := BitVec.ofNat 32 (i 1).val
  let v0 : BitVec 32 := Scalar.muli c2_i32 arg1
  let c256_i32_16 : BitVec 32 := 256#32
  let v56 : BitVec 32 := Scalar.muli v0 c256_i32_16
  v56
def k0_off2 (i : grid0.Coords) : Fin 2 → Nat :=
  let c2_i32 : BitVec 32 := 2#32
  let arg1 : BitVec 32 := BitVec.ofNat 32 (i 1).val
  let v0 : BitVec 32 := Scalar.muli c2_i32 arg1
  let c256_i32_16 : BitVec 32 := 256#32
  let v56 : BitVec 32 := Scalar.muli v0 c256_i32_16
  let v57 : BitVec 32 := v56
  let v58 : Index := Scalar.indexCast v57
  let c0_17 : Index := 0#32
  ![v58.toNat, 0]
@[reducible] def k0_t1_loop (i : grid0.Coords) : Scf.Loop 32 :=
  let c0_i32_95 : BitVec 32 := 0#32
  let c2_i32 : BitVec 32 := 2#32
  let arg1 : BitVec 32 := BitVec.ofNat 32 (i 1).val
  let v0 : BitVec 32 := Scalar.muli c2_i32 arg1
  let c0_i32 : BitVec 32 := 0#32
  let v287 : BitVec 1 := Scalar.cmpi .sgt v0 c0_i32
  let v288 : BitVec 32 := Scalar.extui v287
  let c0_i32_90 : BitVec 32 := 0#32
  let v289 : BitVec 1 := Scalar.cmpi .slt v0 c0_i32_90
  let v290 : BitVec 32 := Scalar.extui v289
  let v291 : BitVec 32 := Scalar.subi v288 v290
  let c2_i32_89 : BitVec 32 := 2#32
  let c0_i32_91 : BitVec 32 := 0#32
  let v292 : BitVec 1 := Scalar.cmpi .sgt c2_i32_89 c0_i32_91
  let v293 : BitVec 32 := Scalar.extui v292
  let c0_i32_92 : BitVec 32 := 0#32
  let v294 : BitVec 1 := Scalar.cmpi .slt c2_i32_89 c0_i32_92
  let v295 : BitVec 32 := Scalar.extui v294
  let v296 : BitVec 32 := Scalar.subi v293 v295
  let v297 : BitVec 1 := Scalar.cmpi .ne v291 v296
  let v298 : BitVec 32 := Scalar.remsi v0 c2_i32_89
  let c0_i32_93 : BitVec 32 := 0#32
  let v299 : BitVec 1 := Scalar.cmpi .ne v298 c0_i32_93
  let v300 : BitVec 1 := Scalar.andi v297 v299
  let v286 : BitVec 32 := Scalar.divsi v0 c2_i32_89
  let c1_i32_94 : BitVec 32 := 1#32
  let v301 : BitVec 32 := Scalar.subi v286 c1_i32_94
  let v302 : BitVec 32 := Scalar.select v300 v301 v286
  let v303 : BitVec 32 := Scalar.subi v302 c0_i32_95
  let c1_i32_96 : BitVec 32 := 1#32
  let v305 : BitVec 32 := Scalar.divsi v303 c1_i32_96
  let v306 : BitVec 32 := Scalar.muli v305 c1_i32_96
  let v307 : BitVec 32 := Scalar.addi c0_i32_95 v306
  let c1_i32_97 : BitVec 32 := 1#32
  ⟨c0_i32_95, v307, c1_i32_97⟩
def k0_mult3 (i : grid0.Coords) (k0_t1 : Fin (k0_t1_loop i).trips) : BitVec 32 :=
  let c2_i32 : BitVec 32 := 2#32
  let arg1 : BitVec 32 := BitVec.ofNat 32 (i 1).val
  let v0 : BitVec 32 := Scalar.muli c2_i32 arg1
  let c1_i32_107 : BitVec 32 := 1#32
  let v338 : BitVec 32 := Scalar.subi v0 c1_i32_107
  let c2_i32_108 : BitVec 32 := 2#32
  let c0_i32_95 : BitVec 32 := 0#32
  let c1_i32_97 : BitVec 32 := 1#32
  let arg7 : BitVec 32 := Scf.iv c0_i32_95 c1_i32_97 k0_t1
  let v339 : BitVec 32 := Scalar.muli c2_i32_108 arg7
  let v340 : BitVec 32 := Scalar.subi v338 v339
  let c256_i32_111 : BitVec 32 := 256#32
  let v344 : BitVec 32 := Scalar.muli v340 c256_i32_111
  v344
def k0_off3 (i : grid0.Coords) (k0_t1 : Fin (k0_t1_loop i).trips) (c1_i32_107 : BitVec 32) : Fin 2 → Nat :=
  let c2_i32 : BitVec 32 := 2#32
  let arg1 : BitVec 32 := BitVec.ofNat 32 (i 1).val
  let v0 : BitVec 32 := Scalar.muli c2_i32 arg1
  let v338 : BitVec 32 := Scalar.subi v0 c1_i32_107
  let c2_i32_108 : BitVec 32 := 2#32
  let c0_i32_95 : BitVec 32 := 0#32
  let c1_i32_97 : BitVec 32 := 1#32
  let arg7 : BitVec 32 := Scf.iv c0_i32_95 c1_i32_97 k0_t1
  let v339 : BitVec 32 := Scalar.muli c2_i32_108 arg7
  let v340 : BitVec 32 := Scalar.subi v338 v339
  let c256_i32_111 : BitVec 32 := 256#32
  let v344 : BitVec 32 := Scalar.muli v340 c256_i32_111
  let v345 : BitVec 32 := v344
  let v346 : Index := Scalar.indexCast v345
  let c0_112 : Index := 0#32
  ![v346.toNat, 0]
def k0_mult4 (i : grid0.Coords) (k0_t1 : Fin (k0_t1_loop i).trips) : BitVec 32 :=
  let c2_i32 : BitVec 32 := 2#32
  let arg1 : BitVec 32 := BitVec.ofNat 32 (i 1).val
  let v0 : BitVec 32 := Scalar.muli c2_i32 arg1
  let c2_i32_109 : BitVec 32 := 2#32
  let v341 : BitVec 32 := Scalar.subi v0 c2_i32_109
  let c2_i32_110 : BitVec 32 := 2#32
  let c0_i32_95 : BitVec 32 := 0#32
  let c1_i32_97 : BitVec 32 := 1#32
  let arg7 : BitVec 32 := Scf.iv c0_i32_95 c1_i32_97 k0_t1
  let v342 : BitVec 32 := Scalar.muli c2_i32_110 arg7
  let v343 : BitVec 32 := Scalar.subi v341 v342
  let c256_i32_116 : BitVec 32 := 256#32
  let v360 : BitVec 32 := Scalar.muli v343 c256_i32_116
  v360
@[reducible] def k0_t2_loop (i : grid0.Coords) : Scf.Loop 32 :=
  let c0_i32_95 : BitVec 32 := 0#32
  let c2_i32 : BitVec 32 := 2#32
  let arg1 : BitVec 32 := BitVec.ofNat 32 (i 1).val
  let v0 : BitVec 32 := Scalar.muli c2_i32 arg1
  let c0_i32 : BitVec 32 := 0#32
  let v287 : BitVec 1 := Scalar.cmpi .sgt v0 c0_i32
  let v288 : BitVec 32 := Scalar.extui v287
  let c0_i32_90 : BitVec 32 := 0#32
  let v289 : BitVec 1 := Scalar.cmpi .slt v0 c0_i32_90
  let v290 : BitVec 32 := Scalar.extui v289
  let v291 : BitVec 32 := Scalar.subi v288 v290
  let c2_i32_89 : BitVec 32 := 2#32
  let c0_i32_91 : BitVec 32 := 0#32
  let v292 : BitVec 1 := Scalar.cmpi .sgt c2_i32_89 c0_i32_91
  let v293 : BitVec 32 := Scalar.extui v292
  let c0_i32_92 : BitVec 32 := 0#32
  let v294 : BitVec 1 := Scalar.cmpi .slt c2_i32_89 c0_i32_92
  let v295 : BitVec 32 := Scalar.extui v294
  let v296 : BitVec 32 := Scalar.subi v293 v295
  let v297 : BitVec 1 := Scalar.cmpi .ne v291 v296
  let v298 : BitVec 32 := Scalar.remsi v0 c2_i32_89
  let c0_i32_93 : BitVec 32 := 0#32
  let v299 : BitVec 1 := Scalar.cmpi .ne v298 c0_i32_93
  let v300 : BitVec 1 := Scalar.andi v297 v299
  let v286 : BitVec 32 := Scalar.divsi v0 c2_i32_89
  let c1_i32_94 : BitVec 32 := 1#32
  let v301 : BitVec 32 := Scalar.subi v286 c1_i32_94
  let v302 : BitVec 32 := Scalar.select v300 v301 v286
  let v303 : BitVec 32 := Scalar.subi v302 c0_i32_95
  let c1_i32_96 : BitVec 32 := 1#32
  let v305 : BitVec 32 := Scalar.divsi v303 c1_i32_96
  let v306 : BitVec 32 := Scalar.muli v305 c1_i32_96
  let v307 : BitVec 32 := Scalar.addi c0_i32_95 v306
  let v304 : BitVec 32 := Scalar.addi c0_i32_95 v303
  let c1_i32_98 : BitVec 32 := 1#32
  ⟨v307, v304, c1_i32_98⟩
def k0_mult5 (i : grid0.Coords) (k0_t2 : Fin (k0_t2_loop i).trips) : BitVec 32 :=
  let c2_i32 : BitVec 32 := 2#32
  let arg1 : BitVec 32 := BitVec.ofNat 32 (i 1).val
  let v0 : BitVec 32 := Scalar.muli c2_i32 arg1
  let c1_i32_107 : BitVec 32 := 1#32
  let v338 : BitVec 32 := Scalar.subi v0 c1_i32_107
  let c2_i32_108 : BitVec 32 := 2#32
  let c0_i32_95 : BitVec 32 := 0#32
  let c0_i32 : BitVec 32 := 0#32
  let v287 : BitVec 1 := Scalar.cmpi .sgt v0 c0_i32
  let v288 : BitVec 32 := Scalar.extui v287
  let c0_i32_90 : BitVec 32 := 0#32
  let v289 : BitVec 1 := Scalar.cmpi .slt v0 c0_i32_90
  let v290 : BitVec 32 := Scalar.extui v289
  let v291 : BitVec 32 := Scalar.subi v288 v290
  let c2_i32_89 : BitVec 32 := 2#32
  let c0_i32_91 : BitVec 32 := 0#32
  let v292 : BitVec 1 := Scalar.cmpi .sgt c2_i32_89 c0_i32_91
  let v293 : BitVec 32 := Scalar.extui v292
  let c0_i32_92 : BitVec 32 := 0#32
  let v294 : BitVec 1 := Scalar.cmpi .slt c2_i32_89 c0_i32_92
  let v295 : BitVec 32 := Scalar.extui v294
  let v296 : BitVec 32 := Scalar.subi v293 v295
  let v297 : BitVec 1 := Scalar.cmpi .ne v291 v296
  let v298 : BitVec 32 := Scalar.remsi v0 c2_i32_89
  let c0_i32_93 : BitVec 32 := 0#32
  let v299 : BitVec 1 := Scalar.cmpi .ne v298 c0_i32_93
  let v300 : BitVec 1 := Scalar.andi v297 v299
  let v286 : BitVec 32 := Scalar.divsi v0 c2_i32_89
  let c1_i32_94 : BitVec 32 := 1#32
  let v301 : BitVec 32 := Scalar.subi v286 c1_i32_94
  let v302 : BitVec 32 := Scalar.select v300 v301 v286
  let v303 : BitVec 32 := Scalar.subi v302 c0_i32_95
  let c1_i32_96 : BitVec 32 := 1#32
  let v305 : BitVec 32 := Scalar.divsi v303 c1_i32_96
  let v306 : BitVec 32 := Scalar.muli v305 c1_i32_96
  let v307 : BitVec 32 := Scalar.addi c0_i32_95 v306
  let c1_i32_98 : BitVec 32 := 1#32
  let arg7 : BitVec 32 := Scf.iv v307 c1_i32_98 k0_t2
  let v339 : BitVec 32 := Scalar.muli c2_i32_108 arg7
  let v340 : BitVec 32 := Scalar.subi v338 v339
  let c256_i32_111 : BitVec 32 := 256#32
  let v344 : BitVec 32 := Scalar.muli v340 c256_i32_111
  v344
def k0_off4 (i : grid0.Coords) (k0_t2 : Fin (k0_t2_loop i).trips) (c1_i32_107 : BitVec 32) : Fin 2 → Nat :=
  let c2_i32 : BitVec 32 := 2#32
  let arg1 : BitVec 32 := BitVec.ofNat 32 (i 1).val
  let v0 : BitVec 32 := Scalar.muli c2_i32 arg1
  let v338 : BitVec 32 := Scalar.subi v0 c1_i32_107
  let c2_i32_108 : BitVec 32 := 2#32
  let c0_i32_95 : BitVec 32 := 0#32
  let c0_i32 : BitVec 32 := 0#32
  let v287 : BitVec 1 := Scalar.cmpi .sgt v0 c0_i32
  let v288 : BitVec 32 := Scalar.extui v287
  let c0_i32_90 : BitVec 32 := 0#32
  let v289 : BitVec 1 := Scalar.cmpi .slt v0 c0_i32_90
  let v290 : BitVec 32 := Scalar.extui v289
  let v291 : BitVec 32 := Scalar.subi v288 v290
  let c2_i32_89 : BitVec 32 := 2#32
  let c0_i32_91 : BitVec 32 := 0#32
  let v292 : BitVec 1 := Scalar.cmpi .sgt c2_i32_89 c0_i32_91
  let v293 : BitVec 32 := Scalar.extui v292
  let c0_i32_92 : BitVec 32 := 0#32
  let v294 : BitVec 1 := Scalar.cmpi .slt c2_i32_89 c0_i32_92
  let v295 : BitVec 32 := Scalar.extui v294
  let v296 : BitVec 32 := Scalar.subi v293 v295
  let v297 : BitVec 1 := Scalar.cmpi .ne v291 v296
  let v298 : BitVec 32 := Scalar.remsi v0 c2_i32_89
  let c0_i32_93 : BitVec 32 := 0#32
  let v299 : BitVec 1 := Scalar.cmpi .ne v298 c0_i32_93
  let v300 : BitVec 1 := Scalar.andi v297 v299
  let v286 : BitVec 32 := Scalar.divsi v0 c2_i32_89
  let c1_i32_94 : BitVec 32 := 1#32
  let v301 : BitVec 32 := Scalar.subi v286 c1_i32_94
  let v302 : BitVec 32 := Scalar.select v300 v301 v286
  let v303 : BitVec 32 := Scalar.subi v302 c0_i32_95
  let c1_i32_96 : BitVec 32 := 1#32
  let v305 : BitVec 32 := Scalar.divsi v303 c1_i32_96
  let v306 : BitVec 32 := Scalar.muli v305 c1_i32_96
  let v307 : BitVec 32 := Scalar.addi c0_i32_95 v306
  let c1_i32_98 : BitVec 32 := 1#32
  let arg7 : BitVec 32 := Scf.iv v307 c1_i32_98 k0_t2
  let v339 : BitVec 32 := Scalar.muli c2_i32_108 arg7
  let v340 : BitVec 32 := Scalar.subi v338 v339
  let c256_i32_111 : BitVec 32 := 256#32
  let v344 : BitVec 32 := Scalar.muli v340 c256_i32_111
  let v345 : BitVec 32 := v344
  let v346 : Index := Scalar.indexCast v345
  let c0_112 : Index := 0#32
  ![v346.toNat, 0]
def k0_mult6 (i : grid0.Coords) (k0_t2 : Fin (k0_t2_loop i).trips) : BitVec 32 :=
  let c2_i32 : BitVec 32 := 2#32
  let arg1 : BitVec 32 := BitVec.ofNat 32 (i 1).val
  let v0 : BitVec 32 := Scalar.muli c2_i32 arg1
  let c2_i32_109 : BitVec 32 := 2#32
  let v341 : BitVec 32 := Scalar.subi v0 c2_i32_109
  let c2_i32_110 : BitVec 32 := 2#32
  let c0_i32_95 : BitVec 32 := 0#32
  let c0_i32 : BitVec 32 := 0#32
  let v287 : BitVec 1 := Scalar.cmpi .sgt v0 c0_i32
  let v288 : BitVec 32 := Scalar.extui v287
  let c0_i32_90 : BitVec 32 := 0#32
  let v289 : BitVec 1 := Scalar.cmpi .slt v0 c0_i32_90
  let v290 : BitVec 32 := Scalar.extui v289
  let v291 : BitVec 32 := Scalar.subi v288 v290
  let c2_i32_89 : BitVec 32 := 2#32
  let c0_i32_91 : BitVec 32 := 0#32
  let v292 : BitVec 1 := Scalar.cmpi .sgt c2_i32_89 c0_i32_91
  let v293 : BitVec 32 := Scalar.extui v292
  let c0_i32_92 : BitVec 32 := 0#32
  let v294 : BitVec 1 := Scalar.cmpi .slt c2_i32_89 c0_i32_92
  let v295 : BitVec 32 := Scalar.extui v294
  let v296 : BitVec 32 := Scalar.subi v293 v295
  let v297 : BitVec 1 := Scalar.cmpi .ne v291 v296
  let v298 : BitVec 32 := Scalar.remsi v0 c2_i32_89
  let c0_i32_93 : BitVec 32 := 0#32
  let v299 : BitVec 1 := Scalar.cmpi .ne v298 c0_i32_93
  let v300 : BitVec 1 := Scalar.andi v297 v299
  let v286 : BitVec 32 := Scalar.divsi v0 c2_i32_89
  let c1_i32_94 : BitVec 32 := 1#32
  let v301 : BitVec 32 := Scalar.subi v286 c1_i32_94
  let v302 : BitVec 32 := Scalar.select v300 v301 v286
  let v303 : BitVec 32 := Scalar.subi v302 c0_i32_95
  let c1_i32_96 : BitVec 32 := 1#32
  let v305 : BitVec 32 := Scalar.divsi v303 c1_i32_96
  let v306 : BitVec 32 := Scalar.muli v305 c1_i32_96
  let v307 : BitVec 32 := Scalar.addi c0_i32_95 v306
  let c1_i32_98 : BitVec 32 := 1#32
  let arg7 : BitVec 32 := Scf.iv v307 c1_i32_98 k0_t2
  let v342 : BitVec 32 := Scalar.muli c2_i32_110 arg7
  let v343 : BitVec 32 := Scalar.subi v341 v342
  let c256_i32_116 : BitVec 32 := 256#32
  let v360 : BitVec 32 := Scalar.muli v343 c256_i32_116
  v360
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelAfIdeal.lean ====
variable {F : FTy → Type} [FloatOps F] [Named F]
def κ : String → Option EReal := fun
  | "log2e" => some (((Real.log 2)⁻¹ : ℝ) : EReal)
  | "scale_log2e" => some (((8 * (Real.log 2))⁻¹ : ℝ) : EReal)
  | _ => none
-- ==== ReferenceAfIdeal.lean ====
abbrev S1x2048x512 : Shape := ⟨3, ![1, 2048, 512]⟩
abbrev S1x2048x8x64 : Shape := ⟨4, ![1, 2048, 8, 64]⟩
abbrev S1x8x2048x64 : Shape := ⟨4, ![1, 8, 2048, 64]⟩
abbrev S1x8x2048x2048 : Shape := ⟨4, ![1, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x8x2048 : Shape := ⟨3, ![1, 8, 2048]⟩
abbrev S2048x512 : Shape := ⟨2, ![2048, 512]⟩
abbrev S8x2048 : Shape := ⟨2, ![8, 2048]⟩
abbrev S2048x8 : Shape := ⟨2, ![2048, 8]⟩
abbrev S2048x8x1 : Shape := ⟨3, ![2048, 8, 1]⟩
abbrev S2048x8x64 : Shape := ⟨3, ![2048, 8, 64]⟩

abbrev nBuf : Space → Nat
  | .hbm => 139
  | .vmem => 0
  | .smem => 0
  | _ => 0

abbrev hbmTy0_0 (i : Nat) : BufTy := match i % 128 with
  | 0 => ⟨S1x2048x512, .f32⟩
  | 1 => ⟨S1x2048x512, .f32⟩
  | 2 => ⟨S1x2048x512, .f32⟩
  | 3 => ⟨S1x2048x8x64, .f32⟩
  | 4 => ⟨S1x8x2048x64, .f32⟩
  | 5 => ⟨S1x2048x8x64, .f32⟩
  | 6 => ⟨S1x8x2048x64, .f32⟩
  | 7 => ⟨S1x8x2048x2048, .f32⟩
  | 8 => ⟨S_, .f32⟩
  | 9 => ⟨S1x8x2048x2048, .f32⟩
  | 10 => ⟨S1x8x2048x2048, .f32⟩
  | 11 => ⟨S2048, .i32⟩
  | 12 => ⟨S1x2048, .i32⟩
  | 13 => ⟨S2048, .i32⟩
  | 14 => ⟨S2048x1, .i32⟩
  | 15 => ⟨S2048x2048, .i32⟩
  | 16 => ⟨S2048x2048, .i32⟩
  | 17 => ⟨S2048x2048, .i1⟩
  | 18 => ⟨S1x8x2048x2048, .f32⟩
  | 19 => ⟨S_, .f32⟩
  | 20 => ⟨S1x8x2048x2048, .f32⟩
  | 21 => ⟨S1x8x2048x2048, .f32⟩
  | 22 => ⟨S1x8x2048x2048, .f32⟩
  | 23 => ⟨S1x8x2048x2048, .f32⟩
  | 24 => ⟨S1x8x2048x2048, .i1⟩
  | 25 => ⟨S1x8x2048x2048, .f32⟩
  | 26 => ⟨S1x8x2048x2048, .f32⟩
  | 27 => ⟨S1x8x2048x2048, .f32⟩
  | 28 => ⟨S1x8x2048x2048, .f32⟩
  | 29 => ⟨S1x8x2048x2048, .f32⟩
  | 30 => ⟨S1x8x2048x2048, .f32⟩
  | 31 => ⟨S1x8x2048x2048, .f32⟩
  | 32 => ⟨S1x8x2048x2048, .f32⟩
  | 33 => ⟨S1x8x2048x2048, .f32⟩
  | 34 => ⟨S1x8x2048x2048, .f32⟩
  | 35 => ⟨S1x8x2048x2048, .f32⟩
  | 36 => ⟨S_, .f32⟩
  | 37 => ⟨S1x8x2048x2048, .f32⟩
  | 38 => ⟨S1x8x2048x2048, .f32⟩
  | 39 => ⟨S1x8x2048x2048, .f32⟩
  | 40 => ⟨S1x8x2048x2048, .f32⟩
  | 41 => ⟨S1x8x2048x2048, .i1⟩
  | 42 => ⟨S1x8x2048x2048, .f32⟩
  | 43 => ⟨S1x8x2048x2048, .f32⟩
  | 44 => ⟨S1x8x2048x2048, .f32⟩
  | 45 => ⟨S1x8x2048x2048, .f32⟩
  | 46 => ⟨S1x8x2048x2048, .f32⟩
  | 47 => ⟨S1x8x2048x2048, .f32⟩
  | 48 => ⟨S1x8x2048x2048, .f32⟩
  | 49 => ⟨S1x8x2048x2048, .f32⟩
  | 50 => ⟨S1x8x2048x2048, .f32⟩
  | 51 => ⟨S_, .f32⟩
  | 52 => ⟨S_, .f32⟩
  | 53 => ⟨S1x8x2048x2048, .i1⟩
  | 54 => ⟨S1x8x2048x2048, .f32⟩
  | 55 => ⟨S1x8x2048x2048, .f32⟩
  | 56 => ⟨S_, .f32⟩
  | 57 => ⟨S1x8x2048, .f32⟩
  | 58 => ⟨S_, .f32⟩
  | 59 => ⟨S_, .f32⟩
  | 60 => ⟨S_, .f32⟩
  | 61 => ⟨S1x8x2048, .f32⟩
  | 62 => ⟨S1x8x2048, .f32⟩
  | 63 => ⟨S1x2048x8x64, .f32⟩
  | 64 => ⟨S1x8x2048x64, .f32⟩
  | 65 => ⟨S1x2048x8x64, .f32⟩
  | 66 => ⟨S1x8x2048x64, .f32⟩
  | 67 => ⟨S1x8x2048x2048, .f32⟩
  | 68 => ⟨S_, .f32⟩
  | 69 => ⟨S1x8x2048x2048, .f32⟩
  | 70 => ⟨S1x8x2048x2048, .f32⟩
  | 71 => ⟨S2048, .i32⟩
  | 72 => ⟨S1x2048, .i32⟩
  | 73 => ⟨S2048, .i32⟩
  | 74 => ⟨S2048x1, .i32⟩
  | 75 => ⟨S2048x2048, .i32⟩
  | 76 => ⟨S2048x2048, .i32⟩
  | 77 => ⟨S2048x2048, .i1⟩
  | 78 => ⟨S1x8x2048x2048, .f32⟩
  | 79 => ⟨S_, .f32⟩
  | 80 => ⟨S1x8x2048x2048, .f32⟩
  | 81 => ⟨S1x8x2048x2048, .f32⟩
  | 82 => ⟨S1x8x2048x2048, .f32⟩
  | 83 => ⟨S1x8x2048x2048, .f32⟩
  | 84 => ⟨S1x8x2048x2048, .i1⟩
  | 85 => ⟨S1x8x2048x2048, .f32⟩
  | 86 => ⟨S1x8x2048x2048, .f32⟩
  | 87 => ⟨S1x8x2048x2048, .f32⟩
  | 88 => ⟨S1x8x2048x2048, .f32⟩
  | 89 => ⟨S1x8x2048x2048, .f32⟩
  | 90 => ⟨S1x8x2048x2048, .f32⟩
  | 91 => ⟨S1x8x2048x2048, .f32⟩
  | 92 => ⟨S1x8x2048x2048, .f32⟩
  | 93 => ⟨S1x8x2048x2048, .f32⟩
  | 94 => ⟨S1x8x2048x2048, .f32⟩
  | 95 => ⟨S1x8x2048x2048, .f32⟩
  | 96 => ⟨S_, .f32⟩
  | 97 => ⟨S1x8x2048x2048, .f32⟩
  | 98 => ⟨S1x8x2048x2048, .f32⟩
  | 99 => ⟨S1x8x2048x2048, .f32⟩
  | 100 => ⟨S1x8x2048x2048, .f32⟩
  | 101 => ⟨S1x8x2048x2048, .i1⟩
  | 102 => ⟨S1x8x2048x2048, .f32⟩
  | 103 => ⟨S1x8x2048x2048, .f32⟩
  | 104 => ⟨S1x8x2048x2048, .f32⟩
  | 105 => ⟨S1x8x2048x2048, .f32⟩
  | 106 => ⟨S1x8x2048x2048, .f32⟩
  | 107 => ⟨S1x8x2048x2048, .f32⟩
  | 108 => ⟨S1x8x2048x2048, .f32⟩
  | 109 => ⟨S1x8x2048x2048, .f32⟩
  | 110 => ⟨S1x8x2048x2048, .f32⟩
  | 111 => ⟨S_, .f32⟩
  | 112 => ⟨S_, .f32⟩
  | 113 => ⟨S1x8x2048x2048, .i1⟩
  | 114 => ⟨S1x8x2048x2048, .f32⟩
  | 115 => ⟨S1x8x2048x2048, .f32⟩
  | 116 => ⟨S_, .f32⟩
  | 117 => ⟨S_, .f32⟩
  | 118 => ⟨S1x8x2048x2048, .f32⟩
  | 119 => ⟨S1x8x2048x2048, .f32⟩
  | 120 => ⟨S1x8x2048x2048, .f32⟩
  | 121 => ⟨S1x8x2048x2048, .f32⟩
  | 122 => ⟨S_, .f32⟩
  | 123 => ⟨S_, .f32⟩
  | 124 => ⟨S1x8x2048x2048, .i1⟩
  | 125 => ⟨S1x8x2048x2048, .f32⟩
  | 126 => ⟨S1x8x2048x2048, .f32⟩
  | 127 => ⟨S1x2048x8x64, .f32⟩
  | _ => ⟨S1x2048x512, .f32⟩

abbrev hbmTy0_1 (i : Nat) : BufTy := match i % 128 with
  | 0 => ⟨S1x8x2048x64, .f32⟩
  | 1 => ⟨S1x8x2048x64, .f32⟩
  | 2 => ⟨S1x2048x8x64, .f32⟩
  | 3 => ⟨S1x2048x512, .f32⟩
  | 4 => ⟨S2048x512, .f32⟩
  | 5 => ⟨S2048x512, .bf16⟩
  | 6 => ⟨S8x2048, .f32⟩
  | 7 => ⟨S2048x8, .f32⟩
  | 8 => ⟨S2048x8x1, .f32⟩
  | 9 => ⟨S2048x8x64, .f32⟩
  | 10 => ⟨S2048x512, .f32⟩
  | _ => ⟨S1x2048x512, .f32⟩

abbrev hbmTy (i : Nat) : BufTy := match i / 128 with
  | 0 => hbmTy0_0 i
  | 1 => hbmTy0_1 i
  | _ => ⟨S1x2048x512, .f32⟩

abbrev bufTy : (tb : Table) → Fin (tcTables nBuf tb) → BufTy
  | .hbm, ⟨i, _⟩ => hbmTy i
  | _, _ => ⟨S1x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v14 : Ref sig .tc := ⟨.hbm, 33, rfl⟩
abbrev main_v15 : Ref sig .tc := ⟨.hbm, 34, rfl⟩
abbrev main_call1_v0 : Ref sig .tc := ⟨.hbm, 35, rfl⟩
abbrev main_call1_call0_cst : Ref sig .tc := ⟨.hbm, 36, rfl⟩
abbrev main_call1_call0_v0 : Ref sig .tc := ⟨.hbm, 37, rfl⟩
abbrev main_call1_call0_v1 : Ref sig .tc := ⟨.hbm, 38, rfl⟩
abbrev main_call1_call0_v2 : Ref sig .tc := ⟨.hbm, 39, rfl⟩
abbrev main_call1_call0_v3 : Ref sig .tc := ⟨.hbm, 40, rfl⟩
abbrev main_call1_call0_v4 : Ref sig .tc := ⟨.hbm, 41, rfl⟩
abbrev main_call1_call0_v5 : Ref sig .tc := ⟨.hbm, 42, rfl⟩
abbrev main_call1_call0_v6 : Ref sig .tc := ⟨.hbm, 43, rfl⟩
abbrev main_call1_call0_v7 : Ref sig .tc := ⟨.hbm, 44, rfl⟩
abbrev main_call1_call0_v8 : Ref sig .tc := ⟨.hbm, 45, rfl⟩
abbrev main_call1_call0_v9 : Ref sig .tc := ⟨.hbm, 46, rfl⟩
abbrev main_call1_call0_v10 : Ref sig .tc := ⟨.hbm, 47, rfl⟩
abbrev main_call1_call0_v11 : Ref sig .tc := ⟨.hbm, 48, rfl⟩
abbrev main_call1_v1 : Ref sig .tc := ⟨.hbm, 49, rfl⟩
abbrev main_v16 : Ref sig .tc := ⟨.hbm, 50, rfl⟩
abbrev main_cst_0 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v17 : Ref sig .tc := ⟨.hbm, 55, rfl⟩
abbrev main_cst_1 : Ref sig .tc := ⟨.hbm, 56, rfl⟩
abbrev main_v18 : Ref sig .tc := ⟨.hbm, 57, rfl⟩
abbrev main_cst_2 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_cst_3 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_call3_v0 : Ref sig .tc := ⟨.hbm, 78, rfl⟩
abbrev main_call3_call0_cst : Ref sig .tc := ⟨.hbm, 79, rfl⟩
abbrev main_call3_call0_v0 : Ref sig .tc := ⟨.hbm, 80, rfl⟩
abbrev main_call3_call0_v1 : Ref sig .tc := ⟨.hbm, 81, rfl⟩
abbrev main_call3_call0_v2 : Ref sig .tc := ⟨.hbm, 82, rfl⟩
abbrev main_call3_call0_v3 : Ref sig .tc := ⟨.hbm, 83, rfl⟩
abbrev main_call3_call0_v4 : Ref sig .tc := ⟨.hbm, 84, rfl⟩
abbrev main_call3_call0_v5 : Ref sig .tc := ⟨.hbm, 85, rfl⟩
abbrev main_call3_call0_v6 : Ref sig .tc := ⟨.hbm, 86, rfl⟩
abbrev main_call3_call0_v7 : Ref sig .tc := ⟨.hbm, 87, rfl⟩
abbrev main_call3_call0_v8 : Ref sig .tc := ⟨.hbm, 88, rfl⟩
abbrev main_call3_call0_v9 : Ref sig .tc := ⟨.hbm, 89, rfl⟩
abbrev main_call3_call0_v10 : Ref sig .tc := ⟨.hbm, 90, rfl⟩
abbrev main_call3_call0_v11 : Ref sig .tc := ⟨.hbm, 91, rfl⟩
abbrev main_call3_v1 : Ref sig .tc := ⟨.hbm, 92, rfl⟩
abbrev main_v37 : Ref sig .tc := ⟨.hbm, 93, rfl⟩
abbrev main_v38 : Ref sig .tc := ⟨.hbm, 94, rfl⟩
abbrev main_call4_v0 : Ref sig .tc := ⟨.hbm, 95, rfl⟩
abbrev main_call4_call0_cst : Ref sig .tc := ⟨.hbm, 96, rfl⟩
abbrev main_call4_call0_v0 : Ref sig .tc := ⟨.hbm, 97, rfl⟩
abbrev main_call4_call0_v1 : Ref sig .tc := ⟨.hbm, 98, rfl⟩
abbrev main_call4_call0_v2 : Ref sig .tc := ⟨.hbm, 99, rfl⟩
abbrev main_call4_call0_v3 : Ref sig .tc := ⟨.hbm, 100, rfl⟩
abbrev main_call4_call0_v4 : Ref sig .tc := ⟨.hbm, 101, rfl⟩
abbrev main_call4_call0_v5 : Ref sig .tc := ⟨.hbm, 102, rfl⟩
abbrev main_call4_call0_v6 : Ref sig .tc := ⟨.hbm, 103, rfl⟩
abbrev main_call4_call0_v7 : Ref sig .tc := ⟨.hbm, 104, rfl⟩
abbrev main_call4_call0_v8 : Ref sig .tc := ⟨.hbm, 105, rfl⟩
abbrev main_call4_call0_v9 : Ref sig .tc := ⟨.hbm, 106, rfl⟩
abbrev main_call4_call0_v10 : Ref sig .tc := ⟨.hbm, 107, rfl⟩
abbrev main_call4_call0_v11 : Ref sig .tc := ⟨.hbm, 108, rfl⟩
abbrev main_call4_v1 : Ref sig .tc := ⟨.hbm, 109, rfl⟩
abbrev main_v39 : Ref sig .tc := ⟨.hbm, 110, rfl⟩
abbrev main_cst_4 : Ref sig .tc := ⟨.hbm, 111, rfl⟩
abbrev main_call5_v0 : Ref sig .tc := ⟨.hbm, 112, rfl⟩
abbrev main_call5_v1 : Ref sig .tc := ⟨.hbm, 113, rfl⟩
abbrev main_call5_v2 : Ref sig .tc := ⟨.hbm, 114, rfl⟩
abbrev main_v40 : Ref sig .tc := ⟨.hbm, 115, rfl⟩
abbrev main_call6_cst : Ref sig .tc := ⟨.hbm, 116, rfl⟩
abbrev main_call6_v0 : Ref sig .tc := ⟨.hbm, 117, rfl⟩
abbrev main_v41 : Ref sig .tc := ⟨.hbm, 118, rfl⟩
abbrev main_v42 : Ref sig .tc := ⟨.hbm, 119, rfl⟩
abbrev main_v43 : Ref sig .tc := ⟨.hbm, 120, rfl⟩
abbrev main_v44 : Ref sig .tc := ⟨.hbm, 121, rfl⟩
abbrev main_cst_5 : Ref sig .tc := ⟨.hbm, 122, rfl⟩
abbrev main_call7_v0 : Ref sig .tc := ⟨.hbm, 123, rfl⟩
abbrev main_call7_v1 : Ref sig .tc := ⟨.hbm, 124, rfl⟩
abbrev main_call7_v2 : Ref sig .tc := ⟨.hbm, 125, rfl⟩
abbrev main_v45 : Ref sig .tc := ⟨.hbm, 126, rfl⟩
abbrev main_v46 : Ref sig .tc := ⟨.hbm, 127, rfl⟩
abbrev main_v47 : Ref sig .tc := ⟨.hbm, 128, rfl⟩
abbrev main_v48 : Ref sig .tc := ⟨.hbm, 129, rfl⟩
abbrev main_v49 : Ref sig .tc := ⟨.hbm, 130, rfl⟩
abbrev main_v50 : Ref sig .tc := ⟨.hbm, 131, rfl⟩
abbrev main_v51 : Ref sig .tc := ⟨.hbm, 132, rfl⟩
abbrev main_v52 : Ref sig .tc := ⟨.hbm, 133, rfl⟩
abbrev main_v53 : Ref sig .tc := ⟨.hbm, 134, rfl⟩
abbrev main_v54 : Ref sig .tc := ⟨.hbm, 135, rfl⟩
abbrev main_v55 : Ref sig .tc := ⟨.hbm, 136, rfl⟩
abbrev main_v56 : Ref sig .tc := ⟨.hbm, 137, rfl⟩
abbrev main_v57 : Ref sig .tc := ⟨.hbm, 138, rfl⟩

abbrev nD : Nat := 1
abbrev τ : Topo := Topo.v7x

variable {F : FTy → Type} [FloatOps F]
-- ==== KernelFf.lean ====
abbrev S1x2048x1024 : Shape := ⟨3, ![1, 2048, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S2048x1024 : Shape := ⟨2, ![2048, 1024]⟩
abbrev S2816x1024 : Shape := ⟨2, ![2816, 1024]⟩
abbrev S2048x5632 : Shape := ⟨2, ![2048, 5632]⟩
abbrev S2048x2816 : Shape := ⟨2, ![2048, 2816]⟩
abbrev S256x1024 : Shape := ⟨2, ![256, 1024]⟩
abbrev S256x5632 : Shape := ⟨2, ![256, 5632]⟩
abbrev S256x2816 : Shape := ⟨2, ![256, 2816]⟩
abbrev S8 : Shape := ⟨1, ![8]⟩
abbrev S1 : Shape := ⟨1, ![1]⟩
abbrev S_ : Shape := ⟨0, ![]⟩
abbrev S1024x1408 : Shape := ⟨2, ![1024, 1408]⟩
abbrev S1x1024x1408 : Shape := ⟨3, ![1, 1024, 1408]⟩
abbrev S1024x128 : Shape := ⟨2, ![1024, 128]⟩
abbrev S1x1024x128 : Shape := ⟨3, ![1, 1024, 128]⟩
abbrev S1536x1024 : Shape := ⟨2, ![1536, 1024]⟩
abbrev S1024x1280 : Shape := ⟨2, ![1024, 1280]⟩
abbrev S1x1024x1280 : Shape := ⟨3, ![1, 1024, 1280]⟩
abbrev S1280x1024 : Shape := ⟨2, ![1280, 1024]⟩
abbrev S256 : Shape := ⟨1, ![256]⟩
abbrev S256x1 : Shape := ⟨2, ![256, 1]⟩
abbrev S1024x1536 : Shape := ⟨2, ![1024, 1536]⟩
abbrev S256x1536 : Shape := ⟨2, ![256, 1536]⟩
abbrev S256x1280 : Shape := ⟨2, ![256, 1280]⟩

abbrev nBuf : Space → Nat
  | .hbm => 15
  | .vmem => 13
  | .smem => 0
  | _ => 0

abbrev bufTy : (tb : Table) → Fin (tcTables nBuf tb) → BufTy
  | .hbm, ⟨0, _⟩ => ⟨S1x2048x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1024x5632, .f32⟩
  | .hbm, ⟨5, _⟩ => ⟨S1024x4x1408, .f32⟩
  | .hbm, ⟨6, _⟩ => ⟨S4x1024x1408, .f32⟩
  | .hbm, ⟨7, _⟩ => ⟨S4x1024x1408, .bf16⟩
  | .hbm, ⟨8, _⟩ => ⟨S2048x1024, .f32⟩
  | .hbm, ⟨9, _⟩ => ⟨S2816x1024, .f32⟩
  | .hbm, ⟨10, _⟩ => ⟨S2816x1024, .bf16⟩
  | .hbm, ⟨11, _⟩ => ⟨S2048x1024, .f32⟩
  | .hbm, ⟨12, _⟩ => ⟨S2048x1024, .bf16⟩
  | .hbm, ⟨13, _⟩ => ⟨S2048x5632, .bf16⟩
  | .hbm, ⟨14, _⟩ => ⟨S2048x2816, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .bf16⟩
  | .local _ .vmem, ⟨6, _⟩ => ⟨S256x1024, .bf16⟩
  | .local _ .vmem, ⟨7, _⟩ => ⟨S256x5632, .bf16⟩
  | .local _ .vmem, ⟨8, _⟩ => ⟨S256x5632, .bf16⟩
  | .local _ .vmem, ⟨9, _⟩ => ⟨S256x2816, .bf16⟩
  | .local _ .vmem, ⟨10, _⟩ => ⟨S256x2816, .bf16⟩
  | .local _ .vmem, ⟨11, _⟩ => ⟨S1024x5632, .bf16⟩
  | .local _ .vmem, ⟨12, _⟩ => ⟨S2816x1024, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v7_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_3 : BitVec 32 := 0#32
  let v2 : BitVec 1 := Scalar.cmpi .ne v1 c0_i32_3
  v2

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v3 : BitVec 1 := Scalar.xori v0 v_true
  let v4 : BitVec 32 := Scalar.extui v3
  let c0_i32_4 : BitVec 32 := 0#32
  let v5 : BitVec 1 := Scalar.cmpi .ne v4 c0_i32_4
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceFfIdeal.lean ====
abbrev S1x2048x1024 : Shape := ⟨3, ![1, 2048, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1024x5632 : Shape := ⟨2, ![1024, 5632]⟩
abbrev S1x2048x5632 : Shape := ⟨3, ![1, 2048, 5632]⟩
abbrev S1x2048x2816 : Shape := ⟨3, ![1, 2048, 2816]⟩
abbrev S2816x1024 : Shape := ⟨2, ![2816, 1024]⟩
abbrev S2048x1024 : Shape := ⟨2, ![2048, 1024]⟩
abbrev S2048x5632 : Shape := ⟨2, ![2048, 5632]⟩
abbrev S2048x2816 : Shape := ⟨2, ![2048, 2816]⟩

abbrev nBuf : Space → Nat
  | .hbm => 51
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1024, .f32⟩
  | .hbm, ⟨5, _⟩ => ⟨S1x2048x1024, .f32⟩
  | .hbm, ⟨6, _⟩ => ⟨S_, .f32⟩
  | .hbm, ⟨7, _⟩ => ⟨S1x2048, .f32⟩
  | .hbm, ⟨8, _⟩ => ⟨S1x2048x1, .f32⟩
  | .hbm, ⟨9, _⟩ => ⟨S_, .f32⟩
  | .hbm, ⟨10, _⟩ => ⟨S1x2048x1, .f32⟩
  | .hbm, ⟨11, _⟩ => ⟨S1x2048x1, .f32⟩
  | .hbm, ⟨12, _⟩ => ⟨S_, .f32⟩
  | .hbm, ⟨13, _⟩ => ⟨S1x2048x1, .f32⟩
  | .hbm, ⟨14, _⟩ => ⟨S1x2048x1, .f32⟩
  | .hbm, ⟨15, _⟩ => ⟨S1x2048x1, .f32⟩
  | .hbm, ⟨16, _⟩ => ⟨S1x2048x1024, .f32⟩
  | .hbm, ⟨17, _⟩ => ⟨S1x2048x1024, .f32⟩
  | .hbm, ⟨18, _⟩ => ⟨S1x1x1024, .f32⟩
  | .hbm, ⟨19, _⟩ => ⟨S1x2048x1024, .f32⟩
  | .hbm, ⟨20, _⟩ => ⟨S1x2048x1024, .f32⟩
  | .hbm, ⟨21, _⟩ => ⟨S1024x5632, .f32⟩
  | .hbm, ⟨22, _⟩ => ⟨S1x2048x5632, .f32⟩
  | .hbm, ⟨23, _⟩ => ⟨S1x2048x2816, .f32⟩
  | .hbm, ⟨24, _⟩ => ⟨S1x2048x2816, .f32⟩
  | .hbm, ⟨25, _⟩ => ⟨S1x2048x2816, .f32⟩
  | .hbm, ⟨26, _⟩ => ⟨S1x2048x2816, .f32⟩
  | .hbm, ⟨27, _⟩ => ⟨S_, .f32⟩
  | .hbm, ⟨28, _⟩ => ⟨S1x2048x2816, .f32⟩
  | .hbm, ⟨29, _⟩ => ⟨S1x2048x2816, .f32⟩
  | .hbm, ⟨30, _⟩ => ⟨S_, .f32⟩
  | .hbm, ⟨31, _⟩ => ⟨S1x2048x2816, .f32⟩
  | .hbm, ⟨32, _⟩ => ⟨S1x2048x2816, .f32⟩
  | .hbm, ⟨33, _⟩ => ⟨S1x2048x2816, .f32⟩
  | .hbm, ⟨34, _⟩ => ⟨S1x2048x2816, .f32⟩
  | .hbm, ⟨35, _⟩ => ⟨S2816x1024, .f32⟩
  | .hbm, ⟨36, _⟩ => ⟨S1x2048x1024, .f32⟩
  | .hbm, ⟨37, _⟩ => ⟨S_, .f32⟩
  | .hbm, ⟨38, _⟩ => ⟨S1x2048x1024, .f32⟩
  | .hbm, ⟨39, _⟩ => ⟨S1x2048x1024, .f32⟩
  | .hbm, ⟨40, _⟩ => ⟨S1x2048x1024, .f32⟩
  | .hbm, ⟨41, _⟩ => ⟨S2048x1024, .f32⟩
  | .hbm, ⟨42, _⟩ => ⟨S2048x1024, .f32⟩
  | .hbm, ⟨43, _⟩ => ⟨S2048x1024, .bf16⟩
  | .hbm, ⟨44, _⟩ => ⟨S2048x5632, .f32⟩
  | .hbm, ⟨45, _⟩ => ⟨S2048x5632, .bf16⟩
  | .hbm, ⟨46, _⟩ => ⟨S_, .f32⟩
  | .hbm, ⟨47, _⟩ => ⟨S1x2048x2816, .f32⟩
  | .hbm, ⟨48, _⟩ => ⟨S1x2048x2816, .f32⟩
  | .hbm, ⟨49, _⟩ => ⟨S2048x2816, .f32⟩
  | .hbm, ⟨50, _⟩ => ⟨S2048x2816, .bf16⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_3 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩

abbrev nD : Nat := 1
abbrev τ : Topo := Topo.v7x

variable {F : FTy → Type} [FloatOps F]
-- ==== Proof.ActBlock.lean ====
/- The gradient of SwiGLU's gate, one block of rows at a time: what a grid point of `_ffn_bwd_act` leaves in its block of
   the result, as a function of its rows of `dh` and of the saved gate and up projections, and of the down projection's
   weight (`gate`). The first point copies the weight into scratch, the others find it there; both store the same. -/
module

public import proofs.«01_k».proof.Proof.Gen.KernelActIdeal.Value
public import Idealize.ShloMosaic.Lib.Pipeline.ValueKit.Tiles
public import Idealize.ShloMosaic.Lib.Pipeline.ReadBack
public import Idealize.ShloMosaic.Lib.Pointwise
public import Idealize.ShloMosaic.PureOps.Ideal.Laws

@[expose] public section

set_option maxRecDepth 16384

noncomputable section

namespace Cert.Proof.Act

open Cert.KernelActIdeal Cert.KernelActIdeal.Gen Cert.KernelActIdeal.Value Idealize.ShloMosaic Idealize.ShloMosaic.TcCoe Idealize.SL.Sem

/-- The gradient of the activation: half the product of a row of `dh` with a row of the weight. -/
def dact (a w : Fin 1024 → EReal) : EReal := Ideal.ofBits .f32 0x3F000000#32 * ∑ k, a k * w k

/-- The gradient with respect to the gate `g`. -/
def dgate (da g u : EReal) : EReal := da * u * (Ideal.logistic g * (1 + g * (1 - Ideal.logistic g)))

/-- The gradient with respect to the up projection. -/
def dup (da g : EReal) : EReal := da * (g * Ideal.logistic g)

/-- The two gradients side by side, for `n` rows: the gate's in the first 2816 columns, the up projection's after them. -/
def gate {n : ℕ} (dh : Fin n → Fin 1024 → EReal) (gu : Fin n → Fin 5632 → EReal) (w : Fin 2816 → Fin 1024 → EReal)
    (r : Fin n) (q : Fin 5632) : EReal :=
  if h : q.val < 2816 then dgate (dact (dh r) (w ⟨q.val, h⟩)) (gu r q) (gu r ⟨2816 + q.val, by omega⟩)
  else dup (dact (dh r) (w ⟨q.val - 2816, by omega⟩)) (gu r ⟨q.val - 2816, by omega⟩)

/-- The gate's half, at a column named by its value. -/
theorem gate_lo {n : ℕ} (dh : Fin n → Fin 1024 → EReal) (gu : Fin n → Fin 5632 → EReal) (w : Fin 2816 → Fin 1024 → EReal)
    (r : Fin n) (q : Fin 5632) (g u : Fin 5632) (j : Fin 2816) (hq : q.val = j.val) (hg : g.val = j.val) (hu : u.val = 2816 + j.val) :
    gate dh gu w r q = dgate (dact (dh r) (w j)) (gu r g) (gu r u) := by
  have hlt : q.val < 2816 := by omega
  unfold gate
  obtain rfl : q = g := Fin.ext (hq.trans hg.symm)
  rw [dif_pos hlt, show (⟨q.val, hlt⟩ : Fin 2816) = j from Fin.ext hq]
  exact congrArg (fun a => dgate (dact (dh r) (w j)) (gu r q) (gu r a)) (Fin.ext (by show 2816 + q.val = u.val; omega))

/-- The up projection's half, at a column named by its value. -/
theorem gate_hi {n : ℕ} (dh : Fin n → Fin 1024 → EReal) (gu : Fin n → Fin 5632 → EReal) (w : Fin 2816 → Fin 1024 → EReal)
    (r : Fin n) (q : Fin 5632) (g : Fin 5632) (j : Fin 2816) (hq : q.val = 2816 + j.val) (hg : g.val = j.val) :
    gate dh gu w r q = dup (dact (dh r) (w j)) (gu r g) := by
  have hlt : ¬ q.val < 2816 := by omega
  unfold gate
  rw [dif_neg hlt]
  exact congrArg₂ (fun a b => dup (dact (dh r) (w a)) (gu r b)) (Fin.ext (by show q.val - 2816 = j.val; omega))
    (Fin.ext (by show q.val - 2816 = g.val; omega))

/-- `gate` depends on its rows only. -/
theorem gate_congr {n n' : ℕ} {dh : Fin n → Fin 1024 → EReal} {dh' : Fin n' → Fin 1024 → EReal} {gu : Fin n → Fin 5632 → EReal}
    {gu' : Fin n' → Fin 5632 → EReal} {w w' : Fin 2816 → Fin 1024 → EReal} {r : Fin n} {r' : Fin n'} {q q' : Fin 5632}
    (hd : ∀ k, dh r k = dh' r' k) (hg : ∀ k, gu r k = gu' r' k) (hw : ∀ q k, w q k = w' q k) (hq : q = q') :
    gate dh gu w r q = gate dh' gu' w' r' q' := by
  obtain rfl : w = w' := funext fun q => funext fun k => hw q k
  subst hq
  unfold gate
  rw [show dh r = dh' r' from funext hd, show gu r = gu' r' from funext hg]

theorem hz : (![0, 0] : Fin 2 → Nat) = fun _ => 0 := funext fun a => by fin_cases a <;> rfl

/-- Rows of the weight from `o` on, read out of the whole array through a unit-stride rectangle. -/
theorem weight_rows {n : ℕ} (o : ℕ) (inb) (f : Vec Ideal S2816x1024 .bf16) (r : Fin n) (k : Fin 1024) (h : o + r.val < 2816) :
    View.ld f (Rect.unit (s := S2816x1024) ![o, 0] ![n, 1024] inb) (ix2 r k) = f (ix2 ⟨o + r.val, h⟩ k) :=
  View.ld_unit_apply_of _ _ _ _ _ _ (fun a => by
    match a with
    | ⟨0, _⟩ => rfl
    | ⟨1, _⟩ => exact (Nat.zero_add _).symm)

/-- The block's contents: `gate` of the block's rows. -/
def blockVal (b0 : Vec Ideal S512x1024 .f32) (b1 : Vec Ideal S512x5632 .bf16) (w : Vec Ideal S2816x1024 .bf16) (r : Fin 512) (q : Fin 5632) : EReal :=
  gate (fun r k => b0 (ix2 r k)) (fun r q => b1 (ix2 r q)) (fun q k => w (ix2 q k)) r q

theorem blockVal_lo (b0 : Vec Ideal S512x1024 .f32) (b1 : Vec Ideal S512x5632 .bf16) (w : Vec Ideal S2816x1024 .bf16) (r : Fin 512)
    (q g u : Fin 5632) (j : Fin 2816) (hq : q.val = j.val) (hg : g.val = j.val) (hu : u.val = 2816 + j.val) :
    dgate (Ideal.ofBits .f32 0x3F000000#32 * ∑ k : Fin 1024, b0 (ix2 r k) * w (ix2 j k)) (b1 (ix2 r g)) (b1 (ix2 r u)) = blockVal b0 b1 w r q :=
  by unfold blockVal; rw [gate_lo _ _ _ r q g u j hq hg hu]; rfl

theorem blockVal_hi (b0 : Vec Ideal S512x1024 .f32) (b1 : Vec Ideal S512x5632 .bf16) (w : Vec Ideal S2816x1024 .bf16) (r : Fin 512)
    (q g : Fin 5632) (j : Fin 2816) (hq : q.val = 2816 + j.val) (hg : g.val = j.val) :
    dup (Ideal.ofBits .f32 0x3F000000#32 * ∑ k : Fin 1024, b0 (ix2 r k) * w (ix2 j k)) (b1 (ix2 r g)) = blockVal b0 b1 w r q :=
  by unfold blockVal; rw [gate_hi _ _ _ r q g j hq hg]; rfl

variable (c : Dev nD) (i : grid0.Coords) (arg1 : Memref sig .tc .vmem S512x1024 .f32) (harg1 : arg1.IsWhole)
  (arg2 : Memref sig .tc .vmem S512x5632 .bf16) (harg2 : arg2.IsWhole) (arg4 : Memref sig .tc .vmem S512x5632 .bf16) (harg4 : arg4.IsWhole)
  (arg5 : Memref sig .tc .vmem S2816x1024 .bf16) (harg5 : arg5.IsWhole)
  (b0 : Vec Ideal S512x1024 .f32) (b1 : Vec Ideal S512x5632 .bf16) (xs : Vec Ideal S2816x1024 .bf16) (fh0 : HbBuf0 (F := Ideal) c hbM0_0)

/-- The first point, which copies the weight in two pieces and waits for each before the products that read it. -/
theorem out_first (hc0 : cond0_0 i) (hc1 : ¬cond0_1 i) (y : S512x5632.Idx) :
    out0_A_2 c i arg1 harg1 arg2 harg2 arg4 harg4 arg5 harg5 hc0 hc1 b0 b1 fh0 y = blockVal b0 b1 fh0 (y 0) (y 1) := by
  have hw1 : ∀ (r : Fin 1280) (k : Fin 1024), (ReadAs.same.apply (View.read (Elt Ideal)
      ((View.whole main_v1).slice (Rect.unit ![1536, 0] ![1280, 1024] inb_S2816x1024_S1280x1024_1536_0)) fh0)) (ix2 r k)
      = fh0 (ix2 (⟨1536 + r.val, by omega⟩ : Fin 2816) k) := fun r k => weight_rows 1536 _ fh0 r k _
  have hw0 : ∀ (r : Fin 1536) (k : Fin 1024), (ReadAs.same.apply (View.read (Elt Ideal)
      ((View.whole main_v1).slice (Rect.unit ![0, 0] ![1536, 1024] inb_S2816x1024_S1536x1024_0_0)) fh0)) (ix2 r k)
      = fh0 (ix2 (⟨r.val, by omega⟩ : Fin 2816) k) := fun r k => (weight_rows 0 _ fh0 r k (by omega)).trans
        (congrArg fh0 (congrArg (fun a => ix2 a k) (Fin.ext (Nat.zero_add _))))
  unfold out0_A_2
  rw [View.read_writes_eq_canon _ _ _ (cover0_A_2 c i arg1 harg1 arg2 harg2 arg4 harg4 arg5 harg5 hc0 hc1 b0 b1 fh0)]
  unfold kernelRun0_A
  dsimp only
  canon_tiles x h using (cover0_A_2 c i arg1 harg1 arg2 harg2 arg4 harg4 arg5 harg5 hc0 hc1 b0 b1 fh0 y)
  all_goals
    open_payloads
    sl_unfold_words
    simp only [View.readAt_eq_ld, harg1.read_unread, harg2.read_unread, View.readCov_cons_toLoadRect]
    rw [View.ld_unit_zero hz]
    try rw [View.readCov_skip _ _ _ _ _ (by decide), View.readCov_cons_toLoadRect]
    unfold_payloads
    idx_vars x
    obtain ⟨y0, y1, rfl⟩ : ∃ (a : Fin 512) (b : Fin 5632), y = ix2 a b := ⟨y 0, y 1, eq_ix2 y⟩
    obtain rfl : y0 = x0 := Fin.ext h0
    pointwise [hw0, hw1]
  · exact blockVal_hi b0 b1 fh0 y0 y1 ⟨1536 + x1.val, by omega⟩ ⟨1536 + x1.val, by omega⟩
      (h1.trans (by show 4352 + x1.val = 2816 + (1536 + x1.val); omega)) rfl
  · exact blockVal_lo b0 b1 fh0 y0 y1 ⟨1536 + x1.val, by omega⟩ ⟨4352 + x1.val, by omega⟩ ⟨1536 + x1.val, by omega⟩
      h1 rfl (by show 4352 + x1.val = 2816 + (1536 + x1.val); omega)
  · exact blockVal_hi b0 b1 fh0 y0 y1 ⟨x1.val, by omega⟩ ⟨x1.val, by omega⟩ h1 rfl
  · exact blockVal_lo b0 b1 fh0 y0 y1 ⟨x1.val, by omega⟩ ⟨2816 + x1.val, by omega⟩ ⟨x1.val, by omega⟩ h1 rfl rfl

/-- A later point, which finds the weight in scratch. -/
theorem out_later (hc0 : ¬cond0_0 i) (hc1 : cond0_1 i) (y : S512x5632.Idx) :
    out0_B_2 c i arg1 harg1 arg2 harg2 arg4 harg4 arg5 harg5 hc0 hc1 b0 b1 xs fh0 y = blockVal b0 b1 xs (y 0) (y 1) := by
  unfold out0_B_2
  rw [View.read_writes_eq_canon _ _ _ (cover0_B_2 c i arg1 harg1 arg2 harg2 arg4 harg4 arg5 harg5 hc0 hc1 b0 b1 xs fh0)]
  unfold kernelRun0_B
  dsimp only
  canon_tiles x h using (cover0_B_2 c i arg1 harg1 arg2 harg2 arg4 harg4 arg5 harg5 hc0 hc1 b0 b1 xs fh0 y)
  all_goals
    open_payloads
    sl_unfold_words
    simp only [View.readAt_eq_ld, harg1.read_unread, harg2.read_unread, harg5.read_unread]
    try rw [View.ld_unit_zero hz]
    unfold_payloads
    idx_vars x
    obtain ⟨y0, y1, rfl⟩ : ∃ (a : Fin 512) (b : Fin 5632), y = ix2 a b := ⟨y 0, y 1, eq_ix2 y⟩
    obtain rfl : y0 = x0 := Fin.ext h0
    pointwise
  · exact blockVal_hi b0 b1 xs y0 y1 ⟨1536 + x1.val, by omega⟩ ⟨1536 + x1.val, by omega⟩
      (h1.trans (by show 4352 + x1.val = 2816 + (1536 + x1.val); omega)) rfl
  · exact blockVal_lo b0 b1 xs y0 y1 ⟨1536 + x1.val, by omega⟩ ⟨4352 + x1.val, by omega⟩ ⟨1536 + x1.val, by omega⟩
      h1 rfl (by show 4352 + x1.val = 2816 + (1536 + x1.val); omega)
  · exact blockVal_hi b0 b1 xs y0 y1 ⟨x1.val, by omega⟩ ⟨x1.val, by omega⟩ h1 rfl
  · exact blockVal_lo b0 b1 xs y0 y1 ⟨x1.val, by omega⟩ ⟨2816 + x1.val, by omega⟩ ⟨x1.val, by omega⟩ h1 rfl rfl

/-- What the first point leaves in scratch: the weight. -/
theorem scratch_first (hc0 : cond0_0 i) (hc1 : ¬cond0_1 i) :
    sout0_A_0 c i arg1 harg1 arg2 harg2 arg4 harg4 arg5 harg5 hc0 hc1 b0 b1 fh0 = fh0 := by
  funext y
  unfold sout0_A_0
  rw [View.read_writes_eq_canon _ _ _ (scover0_A_0 c i arg1 harg1 arg2 harg2 arg4 harg4 arg5 harg5 hc0 hc1 b0 b1 fh0)]
  refine View.canon_apply_of_pieces fh0 _ (View.PiecesOf.mem ?_) y (scover0_A_0 c i arg1 harg1 arg2 harg2 arg4 harg4 arg5 harg5 hc0 hc1 b0 b1 fh0 y)
  unfold kernelRun0_A
  dsimp only
  exact ⟨fun _ => rfl, fun _ => rfl, trivial⟩

end Cert.Proof.Act

end
-- ==== Proof.ActArray.lean ====
/- The gradient of SwiGLU's gate, the whole array: the run's result is `gate` of the whole arguments (`run`). -/
module

public import proofs.«01_k».proof.Proof.ActBlock
public import Idealize.ShloMosaic.Lib.Pipeline.ValueKit
public import Idealize.ShloMosaic.Lib.Claim

@[expose] public section

set_option maxRecDepth 16384

noncomputable section

namespace Cert.Proof.Act

open Cert.KernelActIdeal Cert.KernelActIdeal.Gen Cert.KernelActIdeal.Value Idealize.ShloMosaic Idealize.ShloMosaic.TcCoe Idealize.SL.Sem

variable (m : (ℓ : Loc nD τ sig) → Buf (Elt Ideal) ℓ) (ρ : Dev nD → PrngReg) (c : Dev nD)

/-- The scratch holds the weight after every point. -/
theorem scratch_eq : ∀ (n : ℕ) (hn : n < cfg0.N), (outsAt0 m c n hn).2 = V m c main_v1
  | 0, hn => by
    rw [outsAt0_A m c ⟨0, hn⟩ (Nat.zero_mod _) (by decide : ¬ 1 ≤ 0)]
    dsimp only
    exact scratch_first ..
  | n + 1, hn => by
    have hN := lt_of_lt_of_eq hn (show cfg0.N = 4 from N_0)
    rw [outsAt0_B m c ⟨n + 1, hn⟩ (show ¬ (n + 1) % 4 = 0 by omega) (show 1 ≤ n + 1 by omega)]
    dsimp only
    exact scratch_eq n (by omega)

/-- A point's block of the result. -/
theorem out_eq (t : Fin cfg0.N) (y : S512x5632.Idx) :
    (outsAt0 m c t.val t.isLt).1 y = blockVal (iblk m c 0 t) (iblk m c 1 t) (V m c main_v1) (y 0) (y 1) := by
  have hN := lt_of_lt_of_eq t.isLt (show cfg0.N = 4 from N_0)
  by_cases h : t.val % 4 = 0
  · rw [outsAt0_A m c t h (by omega)]
    dsimp only
    exact out_first ..
  · rw [outsAt0_B m c t h (by omega), scratch_eq]
    dsimp only
    exact out_later ..

/-- The result: `gate` of the arguments. -/
def result (gu : Vec Ideal S1x2048x5632 .f32) (w : Vec Ideal S1x2816x1024 .f32) (dh : Vec Ideal S1x2048x1024 .f32) (y : S2048x5632.Idx) : EReal :=
  gate (n := 2048) (fun r k => dh (ix3 0 r k)) (fun r q => gu (ix3 0 r q)) (fun q k => w (ix3 0 q k)) (y 0) (y 1)

theorem idx : ∀ t : Fin cfg0.N, win0_0.index t = ![(grid0.coords t 0).val, 0] ∧ win0_1.index t = ![(grid0.coords t 0).val, 0]
    ∧ win0_2.index t = ![(grid0.coords t 0).val, 0] := (by decide +kernel : ∀ t : Fin grid0.N, _)

theorem V_w (q : Fin 2816) (k : Fin 1024) : V m c main_v1 (ix2 q k) = m ((c : Thread nD τ).loc main_arg1) (ix3 0 q k) := by
  entry_read
  pointwise

theorem V_dh (r : Fin 2048) (k : Fin 1024) : V m c main_v2 (ix2 r k) = m ((c : Thread nD τ).loc main_arg2) (ix3 0 r k) := by
  entry_read
  pointwise

theorem V_gu (r : Fin 2048) (q : Fin 5632) : V m c main_v4 (ix2 r q) = m ((c : Thread nD τ).loc main_arg0) (ix3 0 r q) := by
  entry_read
  pointwise

/-- The array after all points. -/
theorem final : (dats m 0 c).arrAt 2 (cfgs 0).N = result (m ((c : Thread nD τ).loc main_arg0)) (m ((c : Thread nD τ).loc main_arg1)) (m ((c : Thread nD τ).loc main_arg2)) := by
  refine (dats m 0 c).arrAt_eq_of_covers 2 _ (by decide +kernel) fun t hf y => ?_
  blk_simp
  rw [after0_2, out_eq]
  unfold blockVal result
  refine gate_congr (fun k => ?_) (fun q => ?_) (fun q k => V_w m c q k) ?_
  · refine Eq.trans ?_ (V_dh m c _ k)
    blk_ext [iblk, idx t]
  · refine Eq.trans ?_ (V_gu m c _ q)
    blk_ext [iblk, idx t]
  · exact Fin.ext (by blk_simp [idx t])

end Cert.Proof.Act

end
-- ==== Proof.Finite.lean ====
/- Finite extended reals: the word of `+∞` and of one half, what `|x| < ∞` says, and sums of reals. -/
module

public import Idealize.ShloMosaic.Lib.Pointwise
public import Idealize.ShloMosaic.Lib.IdealHost
public import Idealize.ShloMosaic.Lib.Claim

@[expose] public section

noncomputable section

namespace Cert.Proof

open Idealize.ShloMosaic

/-- The f32 word of `+∞`. -/
theorem inf_f32 : Ideal.ofBits .f32 0x7F800000#32 = ⊤ := by
  simp [Ideal.ofBits, Ideal.ieee]

/-- The f32 word of one half. -/
theorem half_f32 : Ideal.ofBits .f32 0x3F000000#32 = ((1 / 2 : ℝ) : EReal) := by
  simp [Ideal.ofBits, Ideal.ieee, -EReal.coe_mul]; norm_num

/-- `|x| < ∞`, the bit that a precondition states, says that `x` is a real number. -/
theorem real_of_abs_lt {x : EReal} (h : Ideal.cmp .olt (max x (-x)) (Ideal.ofBits .f32 0x7F800000#32) = 1#1) : ∃ r : ℝ, x = r := by
  rw [inf_f32] at h
  induction x using EReal.rec with
  | bot => simp [Ideal.cmp] at h
  | top => simp [Ideal.cmp] at h
  | coe r => exact ⟨r, rfl⟩

/-- An array of reals. -/
theorem reals_of {ι : Type} {x : ι → EReal} (h : ∀ i, ∃ r : ℝ, x i = r) : ∃ f : ι → ℝ, x = fun i => ↑(f i) :=
  ⟨fun i => (h i).choose, funext fun i => (h i).choose_spec⟩

/-- A sum of reals is real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of reals is real. -/
theorem coe_sum_mul {ι : Type} (s : Finset ι) (f g : ι → ℝ) :
    ∑ i ∈ s, (f i : EReal) * (g i : EReal) = ((∑ i ∈ s, f i * g i : ℝ) : EReal) := by
  rw [coe_sum]
  exact Finset.sum_congr rfl fun i _ => (EReal.coe_mul _ _).symm

/-- The logistic function of a real, as it is written with a quotient. -/
theorem sigmoid_coe (g : ℝ) : Ideal.div 1 (1 + Ideal.exp (-(g : EReal))) = (((1 + Real.exp (-g))⁻¹ : ℝ) : EReal) :=
  Ideal.logistic_coe g

end Cert.Proof

end
-- ==== Proof.ActRef.lean ====
/- The gradient of SwiGLU's gate, the reference: the derivative of the forward lines is `gate` of the arguments where these
   are finite (`ref_eq`). -/
module

public import proofs.«01_k».proof.Proof.ActArray
public import proofs.«01_k».proof.Proof.Finite
public import proofs.«01_k».proof.Proof.Gen.ReferenceActIdeal.Read

@[expose] public section

set_option maxRecDepth 16384

noncomputable section

namespace Cert.Proof.ActRef

open Cert.ReferenceActIdeal Cert.ReferenceActIdeal.Gen Cert.ReferenceActIdeal.Read Idealize.ShloMosaic

/-- The half of a product of two rows, whichever factor takes the half. -/
theorem dact_eq (a w : Fin 1024 → ℝ) : ∃ s : ℝ, Act.dact (fun k => ↑(a k)) (fun k => ↑(w k)) = s
    ∧ ∑ k, Ideal.ofBits .f32 0x3F000000#32 * (a k : EReal) * (w k : EReal) = s := by
  refine ⟨1 / 2 * ∑ k, a k * w k, ?_, ?_⟩
  · unfold Act.dact
    rw [half_f32, coe_sum_mul, ← EReal.coe_mul]
  · simp only [half_f32, ← EReal.coe_mul, ← coe_sum]
    rw [Finset.mul_sum]
    exact congrArg _ (Finset.sum_congr rfl fun k _ => by ring)

/-- The gate's gradient. -/
theorem dgate_eq (a w : Fin 1024 → ℝ) (g u : ℝ) :
    (∑ k, Ideal.ofBits .f32 0x3F000000#32 * (a k : EReal) * (w k : EReal)) * (u : EReal) * Ideal.div 1 (1 + Ideal.exp (-(g : EReal)))
      + (g : EReal) * ((∑ k, Ideal.ofBits .f32 0x3F000000#32 * (a k : EReal) * (w k : EReal)) * (u : EReal))
        * (Ideal.div 1 (1 + Ideal.exp (-(g : EReal))) * (1 - Ideal.div 1 (1 + Ideal.exp (-(g : EReal)))))
      = Act.dgate (Act.dact (fun k => ↑(a k)) (fun k => ↑(w k))) g u := by
  obtain ⟨s, h1, h2⟩ := dact_eq a w
  rw [h1, h2, Act.dgate, sigmoid_coe, Ideal.logistic_coe]
  norm_cast
  ring

/-- The up projection's gradient. -/
theorem dup_eq (a w : Fin 1024 → ℝ) (g : ℝ) :
    (g : EReal) * Ideal.div 1 (1 + Ideal.exp (-(g : EReal))) * (∑ k, Ideal.ofBits .f32 0x3F000000#32 * (a k : EReal) * (w k : EReal))
      = Act.dup (Act.dact (fun k => ↑(a k)) (fun k => ↑(w k))) g := by
  obtain ⟨s, h1, h2⟩ := dact_eq a w
  rw [h1, h2, Act.dup, sigmoid_coe, Ideal.logistic_coe, mul_comm]

/-- The derivative of the forward lines at finite arguments is `gate` of them. -/
theorem ref_eq (gu : Vec Ideal S1x2048x5632 .f32) (w : Vec Ideal S1x2816x1024 .f32) (dh : Vec Ideal S1x2048x1024 .f32)
    (hgu : ∀ i, ∃ r : ℝ, gu i = r) (hw : ∀ i, ∃ r : ℝ, w i = r) (hdh : ∀ i, ∃ r : ℝ, dh i = r) :
    val_main_v16 (F := Ideal) gu w dh = Act.result gu w dh := by
  funext y
  obtain ⟨gu, rfl⟩ := reals_of hgu
  obtain ⟨w, rfl⟩ := reals_of hw
  obtain ⟨dh, rfl⟩ := reals_of hdh
  obtain ⟨r, q, rfl⟩ : ∃ (a : Fin 2048) (b : Fin 5632), y = ix2 a b := ⟨y 0, y 1, eq_ix2 y⟩
  unfold Act.result Act.gate
  pointwise [val_main_v16, val_main_v15, val_main_v14, val_main_v13, val_main_v12, val_main_v11, val_main_v10, val_main_v9, val_main_v8,
    val_main_v4, val_main_v1, val_main_v0, val_main_cst_0, val_main_v2_0, val_main_v2_1, val_main_v2_2, val_main_call0_v0, val_main_call0_v1,
    val_main_call0_v2, val_main_call0_v3, val_main_call0_v4, val_main_call0_v6, val_main_call0_v7, val_main_call0_cst, val_main_call0_cst_0,
    val_main_call0_cst_1, val_main_call1_v0, val_main_call1_v1, val_main_call1_v2]
  split
  · exact dgate_eq _ _ _ _
  · exact dup_eq _ _ _

end Cert.Proof.ActRef

end
-- ==== Proof.Act.lean ====
/- The gradient of SwiGLU's gate: the claims. -/
module

public import proofs.«01_k».proof.Defs
public import proofs.«01_k».proof.Proof.ActRef
public import proofs.«01_k».proof.Proof.Gen.KernelAct.Frame
public import proofs.«01_k».proof.Proof.Gen.KernelActIdeal.Value
public import proofs.«01_k».proof.Proof.Gen.ReferenceActIdeal.Run
public import proofs.«01_k».proof.Proof.Gen.Pre_finite_act

@[expose] public section

set_option maxRecDepth 16384

noncomputable section

namespace Cert.Proof.Act

open Idealize.ShloMosaic Idealize.SL.Sem

theorem frame_kernel : Cert.quiescent_KernelAct := fun m ρ _ => Cert.KernelAct.Gen.frame m ρ
theorem frame_ideal : Cert.quiescent_KernelActIdeal := fun m ρ _ => Cert.KernelActIdeal.Gen.frame m ρ
theorem frame_ideal_pre : Cert.quiescent_KernelActIdeal_pre_finite_act := fun m ρ _ => Cert.KernelActIdeal.Gen.frame m ρ
theorem frame_ref : Cert.quiescent_ReferenceActIdeal := fun m ρ _ =>
  (θ_run _ _ _).mono (fun r h => ⟨fun c => (h c).2, sem_eq_zero_of_no_sems (by decide) r.2⟩) (Cert.ReferenceActIdeal.Value.run m ρ)
theorem frame_ref_pre : Cert.quiescent_ReferenceActIdeal_pre_finite_act := fun m ρ _ => frame_ref m ρ trivial

/-- What the precondition says of one device's arguments. -/
theorem finite_of_pre (gu : Vec Ideal Cert.Pre_finite_act.S1x2048x5632 .f32) (w : Vec Ideal Cert.Pre_finite_act.S1x2816x1024 .f32)
    (dh : Vec Ideal Cert.Pre_finite_act.S1x2048x1024 .f32)
    (h : (Cert.Pre_finite_act.fn (F := Ideal) gu w dh).1 = (fun _ => 1#1) ∧ (Cert.Pre_finite_act.fn (F := Ideal) gu w dh).2.1 = (fun _ => 1#1)
      ∧ (Cert.Pre_finite_act.fn (F := Ideal) gu w dh).2.2 = fun _ => 1#1) :
    (∀ i, ∃ r : ℝ, gu i = r) ∧ (∀ i, ∃ r : ℝ, w i = r) ∧ ∀ i, ∃ r : ℝ, dh i = r :=
  ⟨fun i => real_of_abs_lt (congrFun h.1 i), fun i => real_of_abs_lt (congrFun h.2.1 i), fun i => real_of_abs_lt (congrFun h.2.2 i)⟩

theorem algebraic : Cert.algebraic_KernelActIdeal_ReferenceActIdeal_pre_finite_act := fun m g m' g' hpre hag =>
  ⟨fun c => result (m ((c.tc : Thread Cert.KernelActIdeal.nD Cert.KernelActIdeal.τ).loc Cert.KernelActIdeal.main_arg0))
      (m ((c.tc : Thread Cert.KernelActIdeal.nD Cert.KernelActIdeal.τ).loc Cert.KernelActIdeal.main_arg1))
      (m ((c.tc : Thread Cert.KernelActIdeal.nD Cert.KernelActIdeal.τ).loc Cert.KernelActIdeal.main_arg2)),
    (θ_run _ _ _).mono (fun _ h c => ⟨(h c).1.trans (final m c), (h c).2⟩) (Cert.KernelActIdeal.Value.run_blocks m g),
    (θ_run _ _ _).mono (fun _ h c => ⟨(h c).1.trans ((Cert.ReferenceActIdeal.Read.val_main_v16_eq _ _ _).trans (by
        obtain ⟨hgu, hw, hdh⟩ := finite_of_pre _ _ _ (hpre c)
        obtain ⟨e0, e1, e2⟩ := hag c
        rw [e0, e1, e2]
        exact ActRef.ref_eq _ _ _ hgu hw hdh)), (h c).2⟩) (Cert.ReferenceActIdeal.Value.run m' g')⟩

end Cert.Proof.Act

end
-- ==== Proof.SbLift.lean ====
/- The operations of `_attn_bwd`'s body on blocks of real numbers: each printed operation, applied to blocks whose elements
   are real, gives a block of reals (`up`), and which. -/
module

public import proofs.«01_k».proof.Proof.Gen.KernelSbIdeal.Skeleton
public import proofs.«01_k».proof.Proof.Finite
public import Idealize.ShloMosaic.Lib.Pointwise
public import Idealize.ShloMosaic.PureOps.Ideal.Laws

@[expose] public section

set_option maxRecDepth 16384

noncomputable section

namespace Cert.Proof.Sb

open Cert.KernelSbIdeal Cert.KernelSbIdeal.Gen Idealize.ShloMosaic Idealize.ShloMosaic.TcCoe

variable {s : Shape} {t : FTy}

/-- A block of reals, as a block of extended reals of a float type. -/
def up (t : FTy) (f : s.Idx → ℝ) : FVec Ideal s t := fun i => ((f i : ℝ) : EReal)

/-- `2` to the power of each element. -/
def pow2 (f : s.Idx → ℝ) : s.Idx → ℝ := fun i => Real.rpow 2 (f i)
/-- The logarithm of each element. -/
def lnb (f : s.Idx → ℝ) : s.Idx → ℝ := fun i => Real.log (f i)
/-- The smaller of two elements. -/
def minb (f g : s.Idx → ℝ) : s.Idx → ℝ := fun i => min (f i) (g i)
/-- The absolute value of each element. -/
def absb (f : s.Idx → ℝ) : s.Idx → ℝ := fun i => |f i|
/-- One number everywhere. -/
def cst (s : Shape) (x : ℝ) : s.Idx → ℝ := fun _ => x

theorem addf_up (f g : s.Idx → ℝ) : addf (up t f) (up t g) = up t (f + g) := by
  funext i; pointwise [up]; exact (EReal.coe_add _ _).symm
theorem subf_up (f g : s.Idx → ℝ) : subf (up t f) (up t g) = up t (f - g) := by
  funext i; pointwise [up]; exact (EReal.coe_sub _ _).symm
theorem mulf_up (f g : s.Idx → ℝ) : mulf (up t f) (up t g) = up t (f * g) := by
  funext i; pointwise [up]; exact (EReal.coe_mul _ _).symm
theorem exp2_up (f : s.Idx → ℝ) : exp2 (up t f) = up t (pow2 f) := by
  funext i; pointwise [up]; rfl
theorem minimumf_up (f g : s.Idx → ℝ) : minimumf (up t f) (up t g) = up t (minb f g) := by
  funext i; pointwise [up, minb]; exact (Monotone.map_min EReal.coe_strictMono.monotone).symm
theorem absf_up (f : s.Idx → ℝ) : absf (up t f) = up t (absb f) := by
  funext i; pointwise [up, absb]
  show max ((f i : ℝ) : EReal) (-(f i : ℝ)) = _
  rw [← EReal.coe_neg]; exact (Monotone.map_max EReal.coe_strictMono.monotone).symm
theorem log_up (f : s.Idx → ℝ) : log (up t (cst s 1 + pow2 f)) = up t (lnb (cst s 1 + pow2 f)) := by
  funext i; pointwise [up]
  show Ideal.log _ = _
  rw [Ideal.log_coe, if_neg]
  · rfl
  · have : 0 < Real.rpow 2 (f i) := Real.rpow_pos_of_pos (by norm_num) _
    simp only [Pi.add_apply, cst, pow2]; linarith
theorem truncf_up (f : s.Idx → ℝ) (h) : truncf .bf16 (up .f32 f) h = up .bf16 f := by
  funext i; pointwise [up]
theorem extf_up (f : s.Idx → ℝ) (h) : extf .f32 (up .bf16 f) h = up .f32 f := by
  funext i; pointwise [up]
theorem zero_up : broadcast (α := Ideal .f32) s (Scalar.ofBits .f32 0x00000000#32) = up .f32 (0 : s.Idx → ℝ) := by
  funext i; pointwise [up]; rfl
theorem zero_up16 : broadcast (α := Ideal .bf16) s (Scalar.ofBits .bf16 0x0000#16) = up .bf16 (0 : s.Idx → ℝ) := by
  funext i; pointwise [up]; rfl
theorem one_up : broadcast (α := Ideal .f32) s (Scalar.ofBits .f32 0x3F800000#32) = up .f32 (cst s 1) := by
  funext i; pointwise [up, cst]; rfl
theorem log2e_up : broadcast (α := Ideal .f32) s (Named.named κ "log2e" 0x3FB8AA3B#32) = up .f32 (cst s (Real.log 2)⁻¹) := by
  funext i
  exact IdealRules.named_const.ideal_named_scalar _ _ _ _ rfl
theorem scale_up : broadcast (α := Ideal .f32) s (Named.named κ "scale_log2e" 0x3E38AA3B#32) = up .f32 (cst s (8 * Real.log 2)⁻¹) := by
  funext i
  exact IdealRules.named_const.ideal_named_scalar _ _ _ _ rfl

/-- A column of a block, in every column. -/
def bcol (f : S256x1.Idx → ℝ) : S256x256.Idx → ℝ := fun i => f (ix2 (i 0) 0)
/-- The sums of the rows. -/
def rsum (f : S256x256.Idx → ℝ) : S256x1.Idx → ℝ := fun i => ∑ k : Fin 256, f (ix2 (i 0) k)
/-- Rows by rows. -/
def nt (f g : S256x128.Idx → ℝ) : S256x256.Idx → ℝ := fun i => ∑ k : Fin 128, f (ix2 (i 0) k) * g (ix2 (i 1) k)
/-- Rows by columns. -/
def nn (f g : S256x256.Idx → ℝ) : S256x256.Idx → ℝ := fun i => ∑ k : Fin 256, f (ix2 (i 0) k) * g (ix2 k (i 1))
/-- Rows by columns, against a block of heads. -/
def nh (f : S256x256.Idx → ℝ) (g : S256x128.Idx → ℝ) : S256x128.Idx → ℝ := fun i => ∑ k : Fin 256, f (ix2 (i 0) k) * g (ix2 k (i 1))
/-- Columns by columns, against a block of heads. -/
def th (f : S256x256.Idx → ℝ) (g : S256x128.Idx → ℝ) : S256x128.Idx → ℝ := fun i => ∑ k : Fin 256, f (ix2 k (i 0)) * g (ix2 k (i 1))

theorem bcol_up (f : S256x1.Idx → ℝ) (h) : broadcastTo S256x256 (up t f) h = up t (bcol f) := by
  funext i; pointwise [up, bcol]
theorem rsum_up (f : S256x256.Idx → ℝ) :
    shapeCast S256x1 (multiReduction (F := Ideal) .add (@List.cons (Fin 2) (1 : Fin S256x256.rank) []) S256 (up .f32 f) 0x00000000#32 reduces_S256x256_S256 (.inl rfl) rfl)
      shapeCasts_S256_S256x1 = up .f32 (rsum f) := by
  funext i; pointwise [up, rsum]; exact (coe_sum _ _).symm
theorem nt_up (f g : S256x128.Idx → ℝ) :
    matmul dot_S256x128_S256x128_S256x256_1_1_0_0_n_n none (up .bf16 f) (up .bf16 g) (constant (F := Ideal) S256x256 .f32 0x00000000#32) = up .f32 (nt f g) := by
  funext i; pointwise [up, nt]; exact coe_sum_mul _ _ _
theorem nn_up (f g : S256x256.Idx → ℝ) :
    matmul dot_S256x256_S256x256_S256x256_1_0_0_1_n_n none (up .bf16 f) (up .bf16 g) (constant (F := Ideal) S256x256 .f32 0x00000000#32) = up .f32 (nn f g) := by
  funext i; pointwise [up, nn]; exact coe_sum_mul _ _ _
theorem nh_up (f : S256x256.Idx → ℝ) (g : S256x128.Idx → ℝ) :
    matmul dot_S256x256_S256x128_S256x128_1_0_0_1_n_n none (up .bf16 f) (up .bf16 g) (constant (F := Ideal) S256x128 .f32 0x00000000#32) = up .f32 (nh f g) := by
  funext i; pointwise [up, nh]; exact coe_sum_mul _ _ _
theorem th_up (f : S256x256.Idx → ℝ) (g : S256x128.Idx → ℝ) :
    matmul dot_S256x256_S256x128_S256x128_0_0_1_1_n_n none (up .bf16 f) (up .bf16 g) (constant (F := Ideal) S256x128 .f32 0x00000000#32) = up .f32 (th f g) := by
  funext i; pointwise [up, th]; exact coe_sum_mul _ _ _
theorem same_up (f : S256x128.Idx → ℝ) (h) : shapeCast S256x128 (up t f) h = up t f := by
  funext i; pointwise [up]
theorem same_up1 (f : S256x1.Idx → ℝ) (h) : shapeCast S256x1 (up t f) h = up t f := by
  funext i; pointwise [up]

/-- The rows of a block of queries: masked queries and cotangents of one head, and the rows' totals. -/
structure Rows where
  /-- The queries, zero outside the head. -/
  q : S256x128.Idx → ℝ
  /-- The cotangents of the output, zero outside the head. -/
  o : S256x128.Idx → ℝ
  /-- The rows' totals of `log₂ (1 - β)`. -/
  e : S256x1.Idx → ℝ

/-- A block of keys and of values. -/
structure Keys where
  /-- The keys. -/
  k : S256x128.Idx → ℝ
  /-- The values. -/
  v : S256x128.Idx → ℝ

/-- The scaled scores in units of `log 2`. -/
def zs (z : S256x256.Idx → ℝ) : S256x256.Idx → ℝ := z * cst S256x256 (8 * Real.log 2)⁻¹
/-- `log₂ β`. -/
def lb (z : S256x256.Idx → ℝ) : S256x256.Idx → ℝ :=
  minb (zs z) 0 - lnb (cst S256x256 1 + pow2 (0 - absb (zs z))) * cst S256x256 (Real.log 2)⁻¹
/-- `log₂ (1 - β)`. -/
def lm (z : S256x256.Idx → ℝ) : S256x256.Idx → ℝ := lb z - zs z

variable (m : (S256x256.Idx → ℝ) → S256x256.Idx → ℝ) (U B : S256x256.Idx → ℝ)

/-- The attention weights of a block, `c` being the rows' sums over the keys before. -/
def att (R : Rows) (K : Keys) (c : S256x1.Idx → ℝ) : S256x256.Idx → ℝ :=
  m (pow2 (lb (nt R.q K.k) + bcol (R.e - c) - nn (m (lm (nt R.q K.k))) U))
/-- The cotangent of the weights' logarithm. -/
def dlog (R : Rows) (K : Keys) (c : S256x1.Idx → ℝ) : S256x256.Idx → ℝ := nt R.o K.v * att m U R K c
/-- The cotangent of the scores, `p` being the rows' sums of `dlog` over the keys before. -/
def dsc (R : Rows) (K : Keys) (c p : S256x1.Idx → ℝ) : S256x256.Idx → ℝ :=
  m (dlog m U R K c - pow2 (lb (nt R.q K.k)) * (dlog m U R K c + nn (dlog m U R K c) B + bcol p))
/-- The rows' sums of `log₂ (1 - β)` after the block. -/
def cl (R : Rows) (K : Keys) (c : S256x1.Idx → ℝ) : S256x1.Idx → ℝ := c + rsum (m (lm (nt R.q K.k)))
/-- The rows' sums of `dlog` after the block. -/
def cp (R : Rows) (K : Keys) (c p : S256x1.Idx → ℝ) : S256x1.Idx → ℝ := p + rsum (dlog m U R K c)

/-- Every element of a block, where no key of it comes after a row. -/
abbrev all (f : S256x256.Idx → ℝ) : S256x256.Idx → ℝ := f

theorem nn_zero (g : S256x256.Idx → ℝ) : nn 0 g = 0 := by
  funext i; simp [nn]

/-- The lanes of head `h` of a pair. -/
def lanes (h : ℕ) : IVec S1x128 1 := fun i => if (i 1).val / 64 = h then 1#1 else 0#1
/-- The lanes of head `h`, zero elsewhere. -/
def only (h : ℕ) (f : S256x128.Idx → ℝ) : S256x128.Idx → ℝ := fun i => if (i 1).val / 64 = h then f i else 0
/-- Where a key comes before the row. -/
def causal : IVec S256x256 1 := fun i => if (i 1).val < (i 0).val then 1#1 else 0#1
/-- The elements strictly below the diagonal, zero elsewhere. -/
def below (f : S256x256.Idx → ℝ) : S256x256.Idx → ℝ := fun i => if (i 1).val < (i 0).val then f i else 0

theorem only_up (n : ℕ) (f : S256x128.Idx → ℝ) (h h') :
    select (broadcastTo S256x128 (shapeCast S1x128 (lanes n) h) h') (up t f) (up t 0) = up t (only n f) := by
  funext i
  pointwise [up, only, lanes]
  split <;> rfl
theorem below_up (f : S256x256.Idx → ℝ) : select causal (up t f) (up t 0) = up t (below f) := by
  funext i
  pointwise [up, below, causal]
  split <;> rfl

end Cert.Proof.Sb

end
-- ==== Proof.SbTrip.lean ====
/- One trip of the loop over the keys before a block of rows, as `_attn_bwd`'s body runs it: two blocks of keys, two blocks of
   rows, two heads. What the trip yields and what it adds to the accumulators of the keys' and values' gradients, in blocks
   of reals. -/
module

public import proofs.«01_k».proof.Proof.Gen.KernelSbIdeal.Loops
public import proofs.«01_k».proof.Proof.SbLift
public import Idealize.ShloMosaic.Lib.VecWindow

@[expose] public section

set_option maxRecDepth 16384

noncomputable section

namespace Cert.Proof.Sb

open Cert.KernelSbIdeal Cert.KernelSbIdeal.Gen Idealize.ShloMosaic Idealize.ShloMosaic.TcCoe Idealize.SL.Sem

variable (𝒱 : Variants) (dev : Dev nD) (bd : Option 𝒱.V) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S512x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x128 .f32) (harg11 : arg11.IsWhole) (v0 : BitVec 32) (v68 : FVec Ideal S256x1 .f32) (v69 : FVec Ideal S256x128 .f32) (v70 : FVec Ideal S256x128 .f32) (c2_i32_25 : BitVec 32) (v71 : BitVec 32) (v76 : BitVec 32) (v78 : BitVec 32) (v79 : BitVec 1) (X_arg3 : BufTy.Contents (Elt Ideal) arg3.view.ty) (X_arg4 : BufTy.Contents (Elt Ideal) arg4.view.ty) (k : Fin (k0_t1_loop i).trips)
  (U B : S256x256.Idx → ℝ) (a b c d : Rows) (x y : Keys)

/-- What a loop carries: for each block of rows and head the two sums, then the gradients of the two blocks of queries. -/
structure Carry where
  /-- The sums of the first block of rows, first head. -/
  ca : S256x1.Idx → ℝ
  /-- The same of `dlog`. -/
  pa : S256x1.Idx → ℝ
  /-- The sums of the first block of rows, second head. -/
  cb : S256x1.Idx → ℝ
  /-- The same of `dlog`. -/
  pb : S256x1.Idx → ℝ
  /-- The sums of the second block of rows, first head. -/
  cc : S256x1.Idx → ℝ
  /-- The same of `dlog`. -/
  pc : S256x1.Idx → ℝ
  /-- The sums of the second block of rows, second head. -/
  cd : S256x1.Idx → ℝ
  /-- The same of `dlog`. -/
  pd : S256x1.Idx → ℝ
  /-- The gradient of the first block of queries. -/
  dq0 : S256x128.Idx → ℝ
  /-- The gradient of the second block of queries. -/
  dq1 : S256x128.Idx → ℝ

/-- The carried value, as the program holds it. -/
def Carry.up (s : Carry) : FVec Ideal S256x1 .f32 × FVec Ideal S256x1 .f32 × FVec Ideal S256x1 .f32 × FVec Ideal S256x1 .f32 × FVec Ideal S256x1 .f32 × FVec Ideal S256x1 .f32 × FVec Ideal S256x1 .f32 × FVec Ideal S256x1 .f32 × FVec Ideal S256x128 .f32 × FVec Ideal S256x128 .f32 :=
  (Sb.up .f32 s.ca, Sb.up .f32 s.pa, Sb.up .f32 s.cb, Sb.up .f32 s.pb, Sb.up .f32 s.cc, Sb.up .f32 s.pc, Sb.up .f32 s.cd, Sb.up .f32 s.pd, Sb.up .f32 s.dq0, Sb.up .f32 s.dq1)

/-- The sums after one block of keys. -/
def Carry.sums (s : Carry) : Carry :=
  ⟨cl all a x s.ca, cp all U a x s.ca s.pa, cl all b x s.cb, cp all U b x s.cb s.pb,
   cl all c x s.cc, cp all U c x s.cc s.pc, cl all d x s.cd, cp all U d x s.cd s.pd, s.dq0, s.dq1⟩

/-- What a trip over the blocks of keys `x` and `y` yields. -/
def Carry.trip (s : Carry) : Carry :=
  let s' := s.sums U a b c d x
  { s'.sums U a b c d y with
    dq0 := s.dq0 + nh (dsc all U B a x s.ca s.pa) (only 0 x.k) + nh (dsc all U B b x s.cb s.pb) (only 1 x.k)
      + nh (dsc all U B a y s'.ca s'.pa) (only 0 y.k) + nh (dsc all U B b y s'.cb s'.pb) (only 1 y.k)
    dq1 := s.dq1 + nh (dsc all U B c x s.cc s.pc) (only 0 x.k) + nh (dsc all U B d x s.cd s.pd) (only 1 x.k)
      + nh (dsc all U B c y s'.cc s'.pc) (only 0 y.k) + nh (dsc all U B d y s'.cd s'.pd) (only 1 y.k) }

/-- What the block of keys `x` adds to the keys' gradient. -/
def Carry.addk (s : Carry) : S256x128.Idx → ℝ :=
  th (dsc all U B a x s.ca s.pa) a.q + th (dsc all U B b x s.cb s.pb) b.q + th (dsc all U B c x s.cc s.pc) c.q + th (dsc all U B d x s.cd s.pd) d.q

/-- What the block of keys `x` adds to the values' gradient. -/
def Carry.addv (s : Carry) : S256x128.Idx → ℝ :=
  th (att all U a x s.ca) a.o + th (att all U b x s.cb) b.o + th (att all U c x s.cc) c.o + th (att all U d x s.cd) d.o

variable (s : Carry) (f10 : BufTy.Contents (Elt Ideal) arg10.view.ty) (f11 : BufTy.Contents (Elt Ideal) arg11.view.ty)
  (hk1 : arg3.view.readAt (Elt Ideal) (Rect.unit (s := S2048x128) (k0_off1 i k) S256x128.size (k0_off1_inb i k)).toLoadRect X_arg3 = up .bf16 x.k)
  (hk2 : arg3.view.readAt (Elt Ideal) (Rect.unit (s := S2048x128) (k0_off2 i k) S256x128.size (k0_off2_inb i k)).toLoadRect X_arg3 = up .bf16 y.k)
  (hw1 : arg4.view.readAt (Elt Ideal) (Rect.unit (s := S2048x128) (k0_off1 i k) S256x128.size (k0_off1_inb i k)).toLoadRect X_arg4 = up .bf16 x.v)
  (hw2 : arg4.view.readAt (Elt Ideal) (Rect.unit (s := S2048x128) (k0_off2 i k) S256x128.size (k0_off2_inb i k)).toLoadRect X_arg4 = up .bf16 y.v)

include hk1 hk2 hw1 hw2

theorem trip_R :
    (trip_k0_t1 (F := Ideal) 𝒱 dev bd i arg2 harg2 arg3 harg3 arg4 harg4 arg5 harg5 arg6 harg6 arg7 harg7 arg8 harg8 arg9 harg9 arg10 harg10 arg11 harg11 v0 (up .bf16 U) (up .bf16 B) (lanes 0) (lanes 1) (up .bf16 a.q) (up .bf16 a.o) (up .f32 a.e) (up .bf16 b.q) (up .bf16 b.o) (up .f32 b.e) (up .bf16 c.q) (up .bf16 c.o) (up .f32 c.e) (up .bf16 d.q) (up .bf16 d.o) (up .f32 d.e) v68 v69 v70 c2_i32_25 v71 v76 v78 v79 X_arg3 X_arg4 k).1 s.up f10 f11
      = (s.trip U B a b c d x y).up := by
  unfold trip_k0_t1
  dsimp only [Carry.up]
  sl_unfold_run_names
  unfold_payloads
  simp only [hk1, hk2, hw1, hw2, addf_up, subf_up, mulf_up, exp2_up, minimumf_up, absf_up, log_up, truncf_up, extf_up, zero_up, zero_up16, one_up, log2e_up, scale_up, bcol_up, nt_up, nn_up, nh_up, th_up, same_up, same_up1, only_up, below_up, sub_self, nn_zero, add_zero]
  repeat (rw [rsum_up]; try simp only [hk1, hk2, hw1, hw2, addf_up, subf_up, mulf_up, exp2_up, minimumf_up, absf_up, log_up, truncf_up, extf_up, zero_up, zero_up16, one_up, log2e_up, scale_up, bcol_up, nt_up, nn_up, nh_up, th_up, same_up, same_up1, only_up, below_up, sub_self, nn_zero, add_zero])
  rfl

variable (a1 a2 w1 w2 : S256x128.Idx → ℝ)
  (hA1 : arg10.view.readAt (Elt Ideal) (Rect.unit (s := S2048x128) (k0_off1 i k) S256x128.size (k0_off1_inb i k)).toLoadRect f10 = up .f32 a1)
  (hA2 : arg10.view.readAt (Elt Ideal) (Rect.unit (s := S2048x128) (k0_off2 i k) S256x128.size (k0_off2_inb i k)).toLoadRect f10 = up .f32 a2)
  (hV1 : arg11.view.readAt (Elt Ideal) (Rect.unit (s := S2048x128) (k0_off1 i k) S256x128.size (k0_off1_inb i k)).toLoadRect f11 = up .f32 w1)
  (hV2 : arg11.view.readAt (Elt Ideal) (Rect.unit (s := S2048x128) (k0_off2 i k) S256x128.size (k0_off2_inb i k)).toLoadRect f11 = up .f32 w2)

include hA1 hA2 in
theorem trip_L10 :
    (trip_k0_t1 (F := Ideal) 𝒱 dev bd i arg2 harg2 arg3 harg3 arg4 harg4 arg5 harg5 arg6 harg6 arg7 harg7 arg8 harg8 arg9 harg9 arg10 harg10 arg11 harg11 v0 (up .bf16 U) (up .bf16 B) (lanes 0) (lanes 1) (up .bf16 a.q) (up .bf16 a.o) (up .f32 a.e) (up .bf16 b.q) (up .bf16 b.o) (up .f32 b.e) (up .bf16 c.q) (up .bf16 c.o) (up .f32 c.e) (up .bf16 d.q) (up .bf16 d.o) (up .f32 d.e) v68 v69 v70 c2_i32_25 v71 v76 v78 v79 X_arg3 X_arg4 k).2.1 s.up f10 f11
      = [⟨Rect.unit (s := S2048x128) (k0_off2 i k) S256x128.size (k0_off2_inb i k), up .f32 (a2 + (s.sums U a b c d x).addk U B a b c d y)⟩,
         ⟨Rect.unit (s := S2048x128) (k0_off1 i k) S256x128.size (k0_off1_inb i k), up .f32 (a1 + s.addk U B a b c d x)⟩] := by
  unfold trip_k0_t1
  dsimp only [Carry.up]
  sl_unfold_run_names
  unfold_payloads
  simp only [hA1, hA2, hk1, hk2, hw1, hw2, addf_up, subf_up, mulf_up, exp2_up, minimumf_up, absf_up, log_up, truncf_up, extf_up, zero_up, zero_up16, one_up, log2e_up, scale_up, bcol_up, nt_up, nn_up, nh_up, th_up, same_up, same_up1, only_up, below_up, sub_self, nn_zero, add_zero]
  repeat (rw [rsum_up]; try simp only [hA1, hA2, hk1, hk2, hw1, hw2, addf_up, subf_up, mulf_up, exp2_up, minimumf_up, absf_up, log_up, truncf_up, extf_up, zero_up, zero_up16, one_up, log2e_up, scale_up, bcol_up, nt_up, nn_up, nh_up, th_up, same_up, same_up1, only_up, below_up, sub_self, nn_zero, add_zero])
  rfl

include hV1 hV2 in
theorem trip_L11 :
    (trip_k0_t1 (F := Ideal) 𝒱 dev bd i arg2 harg2 arg3 harg3 arg4 harg4 arg5 harg5 arg6 harg6 arg7 harg7 arg8 harg8 arg9 harg9 arg10 harg10 arg11 harg11 v0 (up .bf16 U) (up .bf16 B) (lanes 0) (lanes 1) (up .bf16 a.q) (up .bf16 a.o) (up .f32 a.e) (up .bf16 b.q) (up .bf16 b.o) (up .f32 b.e) (up .bf16 c.q) (up .bf16 c.o) (up .f32 c.e) (up .bf16 d.q) (up .bf16 d.o) (up .f32 d.e) v68 v69 v70 c2_i32_25 v71 v76 v78 v79 X_arg3 X_arg4 k).2.2.1 s.up f10 f11
      = [⟨Rect.unit (s := S2048x128) (k0_off2 i k) S256x128.size (k0_off2_inb i k), up .f32 (w2 + (s.sums U a b c d x).addv U a b c d y)⟩,
         ⟨Rect.unit (s := S2048x128) (k0_off1 i k) S256x128.size (k0_off1_inb i k), up .f32 (w1 + s.addv U a b c d x)⟩] := by
  unfold trip_k0_t1
  dsimp only [Carry.up]
  sl_unfold_run_names
  unfold_payloads
  simp only [hV1, hV2, hk1, hk2, hw1, hw2, addf_up, subf_up, mulf_up, exp2_up, minimumf_up, absf_up, log_up, truncf_up, extf_up, zero_up, zero_up16, one_up, log2e_up, scale_up, bcol_up, nt_up, nn_up, nh_up, th_up, same_up, same_up1, only_up, below_up, sub_self, nn_zero, add_zero]
  repeat (rw [rsum_up]; try simp only [hV1, hV2, hk1, hk2, hw1, hw2, addf_up, subf_up, mulf_up, exp2_up, minimumf_up, absf_up, log_up, truncf_up, extf_up, zero_up, zero_up16, one_up, log2e_up, scale_up, bcol_up, nt_up, nn_up, nh_up, th_up, same_up, same_up1, only_up, below_up, sub_self, nn_zero, add_zero])
  rfl

end Cert.Proof.Sb

end
-- ==== Proof.SbTile.lean ====
/- What the blocks of `_attn_bwd` are of the whole arrays: rows and keys counted by natural numbers, the sums over the keys
   before, the weights, the cotangents of the scores and the gradients as sums over the keys or the rows so far. -/
module

public import proofs.«01_k».proof.Proof.SbTrip

@[expose] public section

set_option maxRecDepth 16384

noncomputable section

namespace Cert.Proof.Sb

open Cert.KernelSbIdeal Idealize.ShloMosaic

/-- `log₂ β` of a score. -/
def lbR (z : ℝ) : ℝ := min (z * (8 * Real.log 2)⁻¹) 0 - Real.log (1 + Real.rpow 2 (0 - |z * (8 * Real.log 2)⁻¹|)) * (Real.log 2)⁻¹
/-- `log₂ (1 - β)` of a score. -/
def lmR (z : ℝ) : ℝ := lbR z - z * (8 * Real.log 2)⁻¹

/-- The arrays of one pair of heads, by row and lane, and the rows' totals, by head and row. -/
structure Data where
  /-- The queries. -/
  Q : ℕ → ℕ → ℝ
  /-- The keys. -/
  K : ℕ → ℕ → ℝ
  /-- The values. -/
  V : ℕ → ℕ → ℝ
  /-- The cotangents of the output. -/
  G : ℕ → ℕ → ℝ
  /-- The rows' totals. -/
  E : ℕ → ℕ → ℝ

namespace Data

variable (X : Data) (h : ℕ)

/-- A score. -/
def Z (r s : ℕ) : ℝ := ∑ l : Fin 128, (if l.val / 64 = h then X.Q r l else 0) * X.K s l
/-- The cotangent of a weight. -/
def D (r s : ℕ) : ℝ := ∑ l : Fin 128, (if l.val / 64 = h then X.G r l else 0) * X.V s l
/-- `log₂ (1 - β)` where the key comes before the row. -/
def M (r s : ℕ) : ℝ := if s < r then lmR (X.Z h r s) else 0
/-- Its sum over the first `n` keys. -/
def CL (r n : ℕ) : ℝ := ∑ s ∈ Finset.range n, X.M h r s
/-- A weight. -/
def A (r s : ℕ) : ℝ := if s < r then Real.rpow 2 (lbR (X.Z h r s) + (X.E h r - X.CL h r (s + 1))) else 0
/-- The cotangent of a weight's logarithm. -/
def L (r s : ℕ) : ℝ := X.D h r s * X.A h r s
/-- Its sum over the first `n` keys. -/
def CP (r n : ℕ) : ℝ := ∑ s ∈ Finset.range n, X.L h r s
/-- The cotangent of a score. -/
def S (r s : ℕ) : ℝ := if s < r then X.L h r s - Real.rpow 2 (lbR (X.Z h r s)) * (X.L h r s + X.CP h r s) else 0
/-- The gradient of the queries over the first `n` keys. -/
def DQ (n r l : ℕ) : ℝ := ∑ s ∈ Finset.range n, X.S (l / 64) r s * X.K s l
/-- The gradient of the keys over the first `n` rows. -/
def DK (n s l : ℕ) : ℝ := ∑ r ∈ Finset.range n, X.S (l / 64) r s * X.Q r l
/-- The gradient of the values over the first `n` rows. -/
def DV (n s l : ℕ) : ℝ := ∑ r ∈ Finset.range n, X.A (l / 64) r s * X.G r l

end Data

/-- A block of rows of an array. -/
def blk (f : ℕ → ℕ → ℝ) (o : ℕ) : S256x128.Idx → ℝ := fun i => f (o + (i 0).val) (i 1).val
/-- A block of an array of rows by keys. -/
def tile (f : ℕ → ℕ → ℝ) (o p : ℕ) : S256x256.Idx → ℝ := fun i => f (o + (i 0).val) (p + (i 1).val)
/-- A block of a column. -/
def col (f : ℕ → ℝ) (o : ℕ) : S256x1.Idx → ℝ := fun i => f (o + (i 0).val)
/-- Ones where the row of the block does not exceed the column. -/
def upto : S256x256.Idx → ℝ := fun i => if (i 0).val ≤ (i 1).val then 1 else 0
/-- Ones where the row of the block is less than the column. -/
def before : S256x256.Idx → ℝ := fun i => if (i 0).val < (i 1).val then 1 else 0

theorem sum_upto (f : ℕ → ℝ) {j : ℕ} (hj : j < 256) :
    (∑ k : Fin 256, f k.val * if k.val ≤ j then 1 else 0) = ∑ s ∈ Finset.range (j + 1), f s := by
  rw [Fin.sum_univ_eq_sum_range (fun k => f k * if k ≤ j then 1 else 0) 256]
  simp only [mul_ite, mul_one, mul_zero, ← Finset.sum_filter]
  exact Finset.sum_congr (by ext x; simp; omega) fun _ _ => rfl

theorem sum_before (f : ℕ → ℝ) {j : ℕ} (hj : j < 256) :
    (∑ k : Fin 256, f k.val * if k.val < j then 1 else 0) = ∑ s ∈ Finset.range j, f s := by
  rw [Fin.sum_univ_eq_sum_range (fun k => f k * if k < j then 1 else 0) 256]
  simp only [mul_ite, mul_one, mul_zero, ← Finset.sum_filter]
  exact Finset.sum_congr (by ext x; simp; omega) fun _ _ => rfl

section Tile

variable (X : Data) (h : ℕ)

/-- The rows from `o` on. -/
def rows (o : ℕ) : Rows := ⟨only h (blk X.Q o), only h (blk X.G o), col (X.E h) o⟩
/-- The keys from `o` on. -/
def keys (o : ℕ) : Keys := ⟨blk X.K o, blk X.V o⟩

variable (m : (S256x256.Idx → ℝ) → S256x256.Idx → ℝ) (o p : ℕ)
  (hm : ∀ f i, m f i = if p + (i 1).val < o + (i 0).val then f i else 0)

theorem nt_q : nt (rows X h o).q (keys X p).k = tile (X.Z h) o p := rfl
theorem nt_o : nt (rows X h o).o (keys X p).v = tile (X.D h) o p := rfl
theorem lb_tile : lb (tile (X.Z h) o p) = tile (fun r s => lbR (X.Z h r s)) o p := rfl
theorem lm_tile : lm (tile (X.Z h) o p) = tile (fun r s => lmR (X.Z h r s)) o p := rfl

include hm

theorem m_lm : m (lm (tile (X.Z h) o p)) = tile (X.M h) o p := by
  funext i; rw [hm]; rfl

theorem cl_eq : cl m (rows X h o) (keys X p) (col (fun r => X.CL h r p) o) = col (fun r => X.CL h r (p + 256)) o := by
  funext i
  unfold cl
  rw [nt_q, m_lm X h m o p hm]
  show X.CL h (o + (i 0).val) p + ∑ k : Fin 256, X.M h (o + (i 0).val) (p + k.val) = X.CL h (o + (i 0).val) (p + 256)
  rw [Fin.sum_univ_eq_sum_range (fun k => X.M h (o + (i 0).val) (p + k)) 256]
  exact (Finset.sum_range_add _ _ _).symm

theorem att_eq : att m upto (rows X h o) (keys X p) (col (fun r => X.CL h r p) o) = tile (X.A h) o p := by
  funext i
  unfold att
  rw [nt_q, m_lm X h m o p hm, hm]
  show ite _ (Real.rpow 2 (lbR (X.Z h (o + (i 0).val) (p + (i 1).val)) + (X.E h (o + (i 0).val) - X.CL h (o + (i 0).val) p)
      - ∑ k : Fin 256, X.M h (o + (i 0).val) (p + k.val) * if k.val ≤ (i 1).val then 1 else 0)) 0
    = X.A h (o + (i 0).val) (p + (i 1).val)
  rw [sum_upto (fun k => X.M h (o + (i 0).val) (p + k)) (i 1).isLt]
  unfold Data.A Data.CL
  rw [Nat.add_assoc p, Finset.sum_range_add _ p]
  congr 2
  ring

theorem dlog_eq : dlog m upto (rows X h o) (keys X p) (col (fun r => X.CL h r p) o) = tile (X.L h) o p := by
  unfold dlog
  rw [att_eq X h m o p hm, nt_o]
  rfl

theorem cp_eq : cp m upto (rows X h o) (keys X p) (col (fun r => X.CL h r p) o) (col (fun r => X.CP h r p) o)
    = col (fun r => X.CP h r (p + 256)) o := by
  funext i
  unfold cp
  rw [dlog_eq X h m o p hm]
  show X.CP h (o + (i 0).val) p + ∑ k : Fin 256, X.L h (o + (i 0).val) (p + k.val) = X.CP h (o + (i 0).val) (p + 256)
  rw [Fin.sum_univ_eq_sum_range (fun k => X.L h (o + (i 0).val) (p + k)) 256]
  exact (Finset.sum_range_add _ _ _).symm

theorem dsc_eq : dsc m upto before (rows X h o) (keys X p) (col (fun r => X.CL h r p) o) (col (fun r => X.CP h r p) o)
    = tile (X.S h) o p := by
  funext i
  unfold dsc
  rw [dlog_eq X h m o p hm, nt_q, lb_tile, hm]
  show ite _ (X.L h (o + (i 0).val) (p + (i 1).val) - Real.rpow 2 (lbR (X.Z h (o + (i 0).val) (p + (i 1).val)))
      * (X.L h (o + (i 0).val) (p + (i 1).val) + (∑ k : Fin 256, X.L h (o + (i 0).val) (p + k.val) * if k.val < (i 1).val then 1 else 0)
        + X.CP h (o + (i 0).val) p)) 0
    = X.S h (o + (i 0).val) (p + (i 1).val)
  rw [sum_before (fun k => X.L h (o + (i 0).val) (p + k)) (i 1).isLt]
  unfold Data.S Data.CP
  rw [Finset.sum_range_add _ p]
  congr 2
  ring

end Tile

section Sums

variable (X : Data)

/-- A block of the gradient of the queries, from the tile of the scores' cotangents, over the heads. -/
theorem nh_eq (o p n : ℕ) (hn : n = p) : blk (X.DQ n) o + nh (tile (X.S 0) o p) (only 0 (keys X p).k) + nh (tile (X.S 1) o p) (only 1 (keys X p).k)
    = blk (X.DQ (p + 256)) o := by
  subst hn
  funext i
  show X.DQ n (o + (i 0).val) (i 1).val
      + (∑ k : Fin 256, X.S 0 (o + (i 0).val) (n + k.val) * if (i 1).val / 64 = 0 then X.K (n + k.val) (i 1).val else 0)
      + (∑ k : Fin 256, X.S 1 (o + (i 0).val) (n + k.val) * if (i 1).val / 64 = 1 then X.K (n + k.val) (i 1).val else 0)
    = X.DQ (n + 256) (o + (i 0).val) (i 1).val
  unfold Data.DQ
  rw [Finset.sum_range_add _ n, add_assoc]
  congr 1
  rw [← Fin.sum_univ_eq_sum_range (fun k => X.S ((i 1).val / 64) (o + (i 0).val) (n + k) * X.K (n + k) (i 1).val) 256]
  have h1 : (i 1).val < 128 := (i 1).isLt
  obtain h | h : (i 1).val / 64 = 0 ∨ (i 1).val / 64 = 1 := by omega
  all_goals simp [h]

/-- What a block of 512 rows adds to a block of the keys' gradient. -/
theorem th_eq (T : ℕ → ℕ → ℕ → ℝ) (Y : ℕ → ℕ → ℝ) (o p : ℕ) :
    th (tile (T 0) o p) (only 0 (blk Y o)) + th (tile (T 1) o p) (only 1 (blk Y o))
      + th (tile (T 0) (o + 256) p) (only 0 (blk Y (o + 256))) + th (tile (T 1) (o + 256) p) (only 1 (blk Y (o + 256)))
    = blk (fun s l => ∑ r ∈ Finset.range 512, T (l / 64) (o + r) s * Y (o + r) l) p := by
  funext i
  show (∑ k : Fin 256, T 0 (o + k.val) (p + (i 0).val) * if (i 1).val / 64 = 0 then Y (o + k.val) (i 1).val else 0)
      + (∑ k : Fin 256, T 1 (o + k.val) (p + (i 0).val) * if (i 1).val / 64 = 1 then Y (o + k.val) (i 1).val else 0)
      + (∑ k : Fin 256, T 0 (o + 256 + k.val) (p + (i 0).val) * if (i 1).val / 64 = 0 then Y (o + 256 + k.val) (i 1).val else 0)
      + (∑ k : Fin 256, T 1 (o + 256 + k.val) (p + (i 0).val) * if (i 1).val / 64 = 1 then Y (o + 256 + k.val) (i 1).val else 0)
    = ∑ r ∈ Finset.range (256 + 256), T ((i 1).val / 64) (o + r) (p + (i 0).val) * Y (o + r) (i 1).val
  rw [Finset.sum_range_add _ 256,
    ← Fin.sum_univ_eq_sum_range (fun r => T ((i 1).val / 64) (o + r) (p + (i 0).val) * Y (o + r) (i 1).val) 256,
    ← Fin.sum_univ_eq_sum_range (fun r => T ((i 1).val / 64) (o + (256 + r)) (p + (i 0).val) * Y (o + (256 + r)) (i 1).val) 256]
  have h1 : (i 1).val < 128 := (i 1).isLt
  obtain h | h : (i 1).val / 64 = 0 ∨ (i 1).val / 64 = 1 := by omega
  all_goals simp [h, Nat.add_assoc]

end Sums

section Trip

variable (X : Data) (o n : ℕ)

/-- What the loop carries for the rows from `o` on, after the first `n` keys. -/
def carryAt : Carry :=
  ⟨col (fun r => X.CL 0 r n) o, col (fun r => X.CP 0 r n) o, col (fun r => X.CL 1 r n) o, col (fun r => X.CP 1 r n) o,
   col (fun r => X.CL 0 r n) (o + 256), col (fun r => X.CP 0 r n) (o + 256), col (fun r => X.CL 1 r n) (o + 256), col (fun r => X.CP 1 r n) (o + 256),
   blk (X.DQ n) o, blk (X.DQ n) (o + 256)⟩

variable (hn : n + 512 ≤ o)

theorem hm_all (o n : ℕ) (hn : n + 256 ≤ o) (f : S256x256.Idx → ℝ) (i : S256x256.Idx) : all f i = if n + (i 1).val < o + (i 0).val then f i else 0 := by
  have h1 : (i 1).val < 256 := (i 1).isLt
  rw [if_pos (by omega)]

theorem sums_eq (hn : n + 256 ≤ o) :
    (carryAt X o n).sums upto (rows X 0 o) (rows X 1 o) (rows X 0 (o + 256)) (rows X 1 (o + 256)) (keys X n)
      = { carryAt X o (n + 256) with dq0 := blk (X.DQ n) o, dq1 := blk (X.DQ n) (o + 256) } := by
  unfold carryAt Carry.sums
  have h0 := hm_all o n hn
  have h1 := hm_all (o + 256) n (by omega)
  simp only [cl_eq X 0 all o n h0, cl_eq X 1 all o n h0, cl_eq X 0 all (o + 256) n h1, cl_eq X 1 all (o + 256) n h1,
    cp_eq X 0 all o n h0, cp_eq X 1 all o n h0, cp_eq X 0 all (o + 256) n h1, cp_eq X 1 all (o + 256) n h1]

theorem addk_eq (hn : n + 256 ≤ o) (s : Carry) (hs : s = { carryAt X o n with dq0 := s.dq0, dq1 := s.dq1 }) :
    s.addk upto before (rows X 0 o) (rows X 1 o) (rows X 0 (o + 256)) (rows X 1 (o + 256)) (keys X n)
      = blk (fun s l => ∑ r ∈ Finset.range 512, X.S (l / 64) (o + r) s * X.Q (o + r) l) n := by
  rw [hs]
  unfold carryAt Carry.addk
  have h0 := hm_all o n hn
  have h1 := hm_all (o + 256) n (by omega)
  simp only [dsc_eq X 0 all o n h0, dsc_eq X 1 all o n h0, dsc_eq X 0 all (o + 256) n h1, dsc_eq X 1 all (o + 256) n h1]
  exact th_eq X.S X.Q o n

theorem addv_eq (hn : n + 256 ≤ o) (s : Carry) (hs : s = { carryAt X o n with dq0 := s.dq0, dq1 := s.dq1 }) :
    s.addv upto (rows X 0 o) (rows X 1 o) (rows X 0 (o + 256)) (rows X 1 (o + 256)) (keys X n)
      = blk (fun s l => ∑ r ∈ Finset.range 512, X.A (l / 64) (o + r) s * X.G (o + r) l) n := by
  rw [hs]
  unfold carryAt Carry.addv
  have h0 := hm_all o n hn
  have h1 := hm_all (o + 256) n (by omega)
  simp only [att_eq X 0 all o n h0, att_eq X 1 all o n h0, att_eq X 0 all (o + 256) n h1, att_eq X 1 all (o + 256) n h1]
  exact th_eq X.A X.G o n

include hn in
theorem trip_eq :
    (carryAt X o n).trip upto before (rows X 0 o) (rows X 1 o) (rows X 0 (o + 256)) (rows X 1 (o + 256)) (keys X n) (keys X (n + 256))
      = carryAt X o (n + 512) := by
  unfold Carry.trip
  have h0 := hm_all o n (by omega)
  have h1 := hm_all (o + 256) n (by omega)
  have h0' := hm_all o (n + 256) (by omega)
  have h1' := hm_all (o + 256) (n + 256) (by omega)
  dsimp only
  rw [sums_eq X o n (by omega)]
  unfold carryAt Carry.sums
  simp only [dsc_eq X 0 all o n h0, dsc_eq X 1 all o n h0, dsc_eq X 0 all (o + 256) n h1, dsc_eq X 1 all (o + 256) n h1,
    dsc_eq X 0 all o (n + 256) h0', dsc_eq X 1 all o (n + 256) h0', dsc_eq X 0 all (o + 256) (n + 256) h1', dsc_eq X 1 all (o + 256) (n + 256) h1',
    cl_eq X 0 all o (n + 256) h0', cl_eq X 1 all o (n + 256) h0', cl_eq X 0 all (o + 256) (n + 256) h1', cl_eq X 1 all (o + 256) (n + 256) h1',
    cp_eq X 0 all o (n + 256) h0', cp_eq X 1 all o (n + 256) h0', cp_eq X 0 all (o + 256) (n + 256) h1', cp_eq X 1 all (o + 256) (n + 256) h1',
    nh_eq X _ _ _ rfl, Nat.add_assoc]

end Trip

end Cert.Proof.Sb

end
-- ==== Proof.SbLoop.lean ====
/- The loops of `_attn_bwd`'s body over the keys before a block of rows: what the carried value and the accumulators of the keys' and
   values' gradients are after each trip. -/
module

public import proofs.«01_k».proof.Proof.SbTile

@[expose] public section

set_option maxRecDepth 16384

noncomputable section

namespace Cert.Proof.Sb

open Cert.KernelSbIdeal Cert.KernelSbIdeal.Gen Idealize.ShloMosaic Idealize.ShloMosaic.TcCoe Idealize.SL.Sem

/-- A block of 512 rows of an array. -/
def half (f : ℕ → ℕ → ℝ) (o : ℕ) : S512x128.Idx → ℝ := fun i => f (o + (i 0).val) (i 1).val
/-- A whole array. -/
def full (f : ℕ → ℕ → ℝ) : S2048x128.Idx → ℝ := fun i => f (i 0).val (i 1).val
/-- `g` with the rows from `o` to `o + 256` those of `f`. -/
def over (g f : ℕ → ℕ → ℝ) (o : ℕ) : ℕ → ℕ → ℝ := fun r l => if o ≤ r ∧ r < o + 256 then f r l else g r l

section Memory

variable {σ : RefSig} {κ : Kind} {sp : Space} {e : EltTy} (φ : ℝ → Elt Ideal e)

/-- A load of 256 rows. -/
theorem load_rows (v : View σ κ sp S2048x128 e) (F : v.ty.Contents (Elt Ideal)) (g : ℕ → ℕ → ℝ) (hF : v.read (Elt Ideal) F = fun i => φ (full g i))
    {off : Fin 2 → ℕ} {o : ℕ} (inb : ∀ a, off a + S256x128.size a ≤ S2048x128.size a) (h : off = ![o, 0]) :
    v.readAt (Elt Ideal) (Rect.unit (s := S2048x128) off S256x128.size inb).toLoadRect F = fun i => φ (blk g o i) := by
  subst h
  rw [View.readAt_unit v F inb rfl inb, hF]
  funext y
  show φ (g (o + 1 * (y 0).val) (0 + 1 * (y 1).val)) = _
  rw [Nat.one_mul, Nat.one_mul, Nat.zero_add]
  rfl

/-- A store of 256 rows. -/
theorem store_rows (v : View σ κ sp S2048x128 e) (F : v.ty.Contents (Elt Ideal)) (L : List (View.Piece (Elt Ideal) S2048x128 e))
    (g f : ℕ → ℕ → ℝ) (hF : v.read (Elt Ideal) (v.writes (Elt Ideal) F L) = fun i => φ (full g i))
    {off : Fin 2 → ℕ} {o : ℕ} (inb : ∀ a, off a + S256x128.size a ≤ S2048x128.size a) (h : off = ![o, 0]) :
    v.read (Elt Ideal) (v.writes (Elt Ideal) F (⟨Rect.unit (s := S2048x128) off S256x128.size inb, fun i => φ (blk f o i)⟩ :: L))
      = fun i => φ (full (over g f o) i) := by
  rw [View.read_writes_cons_put v F inb _ L h, hF]
  funext y
  have h1 : (y 1).val < 128 := (y 1).isLt
  unfold VecWindow.put
  split
  · rename_i hy
    have h0 : o ≤ (y 0).val ∧ (y 0).val < o + 256 := hy 0
    show φ (f (o + ((y 0).val - o)) ((y 1).val - 0)) = φ (over g f o (y 0).val (y 1).val)
    unfold over
    rw [if_pos h0, Nat.add_sub_cancel' h0.1, Nat.sub_zero]
  · rename_i hy
    have h0 : ¬(o ≤ (y 0).val ∧ (y 0).val < o + 256) := fun h => hy (Fin.forall_fin_two.mpr ⟨h, ⟨Nat.zero_le _, by simpa using h1⟩⟩)
    show φ (g (y 0).val (y 1).val) = φ (over g f o (y 0).val (y 1).val)
    unfold over
    rw [if_neg h0]

end Memory

/-- A real, as an element of a `bf16` buffer. -/
abbrev r16 (x : ℝ) : Elt Ideal .bf16 := (x : EReal)
/-- A real, as an element of an `f32` buffer. -/
abbrev r32 (x : ℝ) : Elt Ideal .f32 := (x : EReal)

/-- An accumulator before whose row `n` the block of rows from `o` on has been added. -/
def mid (b : ℕ → ℕ → ℝ) (T : ℕ → ℕ → ℕ → ℝ) (Y : ℕ → ℕ → ℝ) (o n : ℕ) : ℕ → ℕ → ℝ :=
  fun s l => b s l + if s < n then ∑ r ∈ Finset.range 512, T (l / 64) (o + r) s * Y (o + r) l else 0

theorem mid_zero (b : ℕ → ℕ → ℝ) (T : ℕ → ℕ → ℕ → ℝ) (Y : ℕ → ℕ → ℝ) (o : ℕ) : mid b T Y o (512 * 0) = b := by
  funext s l
  simp [mid]

theorem over_mid (b : ℕ → ℕ → ℝ) (T : ℕ → ℕ → ℕ → ℝ) (Y : ℕ → ℕ → ℝ) (o n : ℕ) (g : ℕ → ℕ → ℝ)
    (hg : ∀ s l, n ≤ s → s < n + 256 → g s l = mid b T Y o n s l + ∑ r ∈ Finset.range 512, T (l / 64) (o + r) s * Y (o + r) l) :
    over (mid b T Y o n) g n = mid b T Y o (n + 256) := by
  funext s l
  unfold over
  by_cases h : n ≤ s ∧ s < n + 256
  · rw [if_pos h, hg s l h.1 h.2]
    unfold mid
    rw [if_neg (by omega), if_pos h.2, add_zero]
  · rw [if_neg h]
    unfold mid
    by_cases h' : s < n
    · rw [if_pos h', if_pos (by omega)]
    · rw [if_neg h', if_neg (by omega)]

theorem blk_add (f g : ℕ → ℕ → ℝ) (o : ℕ) : blk f o + blk g o = blk (fun r l => f r l + g r l) o := rfl

theorem trips1 : ∀ i : grid0.Coords, (k0_t1_loop i).trips = (i 1).val := by decide +kernel
theorem trips2 : ∀ i : grid0.Coords, Scf.trips (k0_t2_loop i).lb (k0_t2_loop i).ub (k0_t2_loop i).st = 0 := by decide +kernel
theorem off1_eq : ∀ (i : grid0.Coords) (k : Fin (k0_t1_loop i).trips), k0_off1 i k = ![512 * k.val, 0] := by decide +kernel
theorem off2_eq : ∀ (i : grid0.Coords) (k : Fin (k0_t1_loop i).trips), k0_off2 i k = ![512 * k.val + 256, 0] := by decide +kernel
theorem off5_eq : ∀ i : grid0.Coords, k0_off5 i = ![512 * (i 1).val, 0] := by decide +kernel
theorem off6_eq : ∀ i : grid0.Coords, k0_off6 i = ![512 * (i 1).val + 256, 0] := by decide +kernel

section Loop

variable (𝒱 : Variants) (dev : Dev nD) (bd : Option 𝒱.V) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S512x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x128 .f32) (harg11 : arg11.IsWhole) (v0 : BitVec 32) (v68 : FVec Ideal S256x1 .f32) (v69 : FVec Ideal S256x128 .f32) (v70 : FVec Ideal S256x128 .f32) (c2_i32_25 : BitVec 32) (v71 : BitVec 32) (v76 : BitVec 32) (v78 : BitVec 32) (v79 : BitVec 1) (X_arg3 : BufTy.Contents (Elt Ideal) arg3.view.ty) (X_arg4 : BufTy.Contents (Elt Ideal) arg4.view.ty)
  (X : Data) (o : ℕ) (ho : o = 512 * (i 1).val)
  (G10 : BufTy.Contents (Elt Ideal) arg10.view.ty) (G11 : BufTy.Contents (Elt Ideal) arg11.view.ty) (bk bv : ℕ → ℕ → ℝ)
  (h3 : arg3.view.read (Elt Ideal) X_arg3 = up .bf16 (full X.K)) (h4 : arg4.view.read (Elt Ideal) X_arg4 = up .bf16 (full X.V))
  (h10 : arg10.view.read (Elt Ideal) G10 = up .f32 (full bk)) (h11 : arg11.view.read (Elt Ideal) G11 = up .f32 (full bv))

include ho h3 h4 h10 h11

/-- After `n` trips: the carried value at the first `512 n` keys, and the accumulators with the block of rows added before key `512 n`. -/
theorem loop1 (n : ℕ) (hn : n ≤ (i 1).val) :
    (st_k0_t1 (F := Ideal) 𝒱 dev bd i arg2 harg2 arg3 harg3 arg4 harg4 arg5 harg5 arg6 harg6 arg7 harg7 arg8 harg8 arg9 harg9 arg10 harg10 arg11 harg11 v0 (up .bf16 upto) (up .bf16 before) (lanes 0) (lanes 1) (up .bf16 (rows X 0 o).q) (up .bf16 (rows X 0 o).o) (up .f32 (rows X 0 o).e) (up .bf16 (rows X 1 o).q) (up .bf16 (rows X 1 o).o) (up .f32 (rows X 1 o).e) (up .bf16 (rows X 0 (o + 256)).q) (up .bf16 (rows X 0 (o + 256)).o) (up .f32 (rows X 0 (o + 256)).e) (up .bf16 (rows X 1 (o + 256)).q) (up .bf16 (rows X 1 (o + 256)).o) (up .f32 (rows X 1 (o + 256)).e) v68 v69 v70 c2_i32_25 v71 v76 v78 v79 X_arg3 X_arg4 G10 G11 (carryAt X o 0).up n).1 = (carryAt X o (512 * n)).up ∧
    arg10.view.read (Elt Ideal) (arg10.view.writes (Elt Ideal) G10 (st_k0_t1 (F := Ideal) 𝒱 dev bd i arg2 harg2 arg3 harg3 arg4 harg4 arg5 harg5 arg6 harg6 arg7 harg7 arg8 harg8 arg9 harg9 arg10 harg10 arg11 harg11 v0 (up .bf16 upto) (up .bf16 before) (lanes 0) (lanes 1) (up .bf16 (rows X 0 o).q) (up .bf16 (rows X 0 o).o) (up .f32 (rows X 0 o).e) (up .bf16 (rows X 1 o).q) (up .bf16 (rows X 1 o).o) (up .f32 (rows X 1 o).e) (up .bf16 (rows X 0 (o + 256)).q) (up .bf16 (rows X 0 (o + 256)).o) (up .f32 (rows X 0 (o + 256)).e) (up .bf16 (rows X 1 (o + 256)).q) (up .bf16 (rows X 1 (o + 256)).o) (up .f32 (rows X 1 (o + 256)).e) v68 v69 v70 c2_i32_25 v71 v76 v78 v79 X_arg3 X_arg4 G10 G11 (carryAt X o 0).up n).2.1)
      = up .f32 (full (mid bk X.S X.Q o (512 * n))) ∧
    arg11.view.read (Elt Ideal) (arg11.view.writes (Elt Ideal) G11 (st_k0_t1 (F := Ideal) 𝒱 dev bd i arg2 harg2 arg3 harg3 arg4 harg4 arg5 harg5 arg6 harg6 arg7 harg7 arg8 harg8 arg9 harg9 arg10 harg10 arg11 harg11 v0 (up .bf16 upto) (up .bf16 before) (lanes 0) (lanes 1) (up .bf16 (rows X 0 o).q) (up .bf16 (rows X 0 o).o) (up .f32 (rows X 0 o).e) (up .bf16 (rows X 1 o).q) (up .bf16 (rows X 1 o).o) (up .f32 (rows X 1 o).e) (up .bf16 (rows X 0 (o + 256)).q) (up .bf16 (rows X 0 (o + 256)).o) (up .f32 (rows X 0 (o + 256)).e) (up .bf16 (rows X 1 (o + 256)).q) (up .bf16 (rows X 1 (o + 256)).o) (up .f32 (rows X 1 (o + 256)).e) v68 v69 v70 c2_i32_25 v71 v76 v78 v79 X_arg3 X_arg4 G10 G11 (carryAt X o 0).up n).2.2)
      = up .f32 (full (mid bv X.A X.G o (512 * n))) := by
  induction n with
  | zero =>
    refine ⟨rfl, ?_, ?_⟩
    · show arg10.view.read (Elt Ideal) (arg10.view.writes (Elt Ideal) G10 []) = _
      rw [View.writes_nil, h10, mid_zero]
    · show arg11.view.read (Elt Ideal) (arg11.view.writes (Elt Ideal) G11 []) = _
      rw [View.writes_nil, h11, mid_zero]
  | succ n ih =>
    obtain ⟨e1, e2, e3⟩ := ih (by omega)
    have hk : n < (k0_t1_loop i).trips := by rw [trips1]; omega
    have hs := st_k0_t1_succ (F := Ideal) 𝒱 dev bd i arg2 harg2 arg3 harg3 arg4 harg4 arg5 harg5 arg6 harg6 arg7 harg7 arg8 harg8 arg9 harg9 arg10 harg10 arg11 harg11 v0 (up .bf16 upto) (up .bf16 before) (lanes 0) (lanes 1) (up .bf16 (rows X 0 o).q) (up .bf16 (rows X 0 o).o) (up .f32 (rows X 0 o).e) (up .bf16 (rows X 1 o).q) (up .bf16 (rows X 1 o).o) (up .f32 (rows X 1 o).e) (up .bf16 (rows X 0 (o + 256)).q) (up .bf16 (rows X 0 (o + 256)).o) (up .f32 (rows X 0 (o + 256)).e) (up .bf16 (rows X 1 (o + 256)).q) (up .bf16 (rows X 1 (o + 256)).o) (up .f32 (rows X 1 (o + 256)).e) v68 v69 v70 c2_i32_25 v71 v76 v78 v79 X_arg3 X_arg4 G10 G11 (carryAt X o 0).up ⟨n, hk⟩
    dsimp only at hs
    rw [hs]
    clear hs
    generalize st_k0_t1 (F := Ideal) 𝒱 dev bd i arg2 harg2 arg3 harg3 arg4 harg4 arg5 harg5 arg6 harg6 arg7 harg7 arg8 harg8 arg9 harg9 arg10 harg10 arg11 harg11 v0 (up .bf16 upto) (up .bf16 before) (lanes 0) (lanes 1) (up .bf16 (rows X 0 o).q) (up .bf16 (rows X 0 o).o) (up .f32 (rows X 0 o).e) (up .bf16 (rows X 1 o).q) (up .bf16 (rows X 1 o).o) (up .f32 (rows X 1 o).e) (up .bf16 (rows X 0 (o + 256)).q) (up .bf16 (rows X 0 (o + 256)).o) (up .f32 (rows X 0 (o + 256)).e) (up .bf16 (rows X 1 (o + 256)).q) (up .bf16 (rows X 1 (o + 256)).o) (up .f32 (rows X 1 (o + 256)).e) v68 v69 v70 c2_i32_25 v71 v76 v78 v79 X_arg3 X_arg4 G10 G11 (carryAt X o 0).up n = t at e1 e2 e3 ⊢
    obtain ⟨t1, t2, t3⟩ := t
    dsimp only at e1 e2 e3 ⊢
    subst e1
    have o1 := off1_eq i ⟨n, hk⟩
    have o2 := off2_eq i ⟨n, hk⟩
    have hk1 := load_rows r16 arg3.view X_arg3 X.K h3 (k0_off1_inb i ⟨n, hk⟩) o1
    have hk2 := load_rows r16 arg3.view X_arg3 X.K h3 (k0_off2_inb i ⟨n, hk⟩) o2
    have hw1 := load_rows r16 arg4.view X_arg4 X.V h4 (k0_off1_inb i ⟨n, hk⟩) o1
    have hw2 := load_rows r16 arg4.view X_arg4 X.V h4 (k0_off2_inb i ⟨n, hk⟩) o2
    have hA1 := load_rows r32 arg10.view _ _ e2 (k0_off1_inb i ⟨n, hk⟩) o1
    have hA2 := load_rows r32 arg10.view _ _ e2 (k0_off2_inb i ⟨n, hk⟩) o2
    have hV1 := load_rows r32 arg11.view _ _ e3 (k0_off1_inb i ⟨n, hk⟩) o1
    have hV2 := load_rows r32 arg11.view _ _ e3 (k0_off2_inb i ⟨n, hk⟩) o2
    have hR := trip_R 𝒱 dev bd i arg2 harg2 arg3 harg3 arg4 harg4 arg5 harg5 arg6 harg6 arg7 harg7 arg8 harg8 arg9 harg9 arg10 harg10 arg11 harg11 v0 v68 v69 v70 c2_i32_25 v71 v76 v78 v79 X_arg3 X_arg4 ⟨n, hk⟩ upto before (rows X 0 o) (rows X 1 o) (rows X 0 (o + 256)) (rows X 1 (o + 256)) (keys X (512 * n)) (keys X (512 * n + 256)) (carryAt X o (512 * n))
      (arg10.view.writes (Elt Ideal) G10 t2) (arg11.view.writes (Elt Ideal) G11 t3) hk1 hk2 hw1 hw2
    have hL10 := trip_L10 𝒱 dev bd i arg2 harg2 arg3 harg3 arg4 harg4 arg5 harg5 arg6 harg6 arg7 harg7 arg8 harg8 arg9 harg9 arg10 harg10 arg11 harg11 v0 v68 v69 v70 c2_i32_25 v71 v76 v78 v79 X_arg3 X_arg4 ⟨n, hk⟩ upto before (rows X 0 o) (rows X 1 o) (rows X 0 (o + 256)) (rows X 1 (o + 256)) (keys X (512 * n)) (keys X (512 * n + 256)) (carryAt X o (512 * n))
      (arg10.view.writes (Elt Ideal) G10 t2) (arg11.view.writes (Elt Ideal) G11 t3) hk1 hk2 hw1 hw2 _ _ hA1 hA2
    have hL11 := trip_L11 𝒱 dev bd i arg2 harg2 arg3 harg3 arg4 harg4 arg5 harg5 arg6 harg6 arg7 harg7 arg8 harg8 arg9 harg9 arg10 harg10 arg11 harg11 v0 v68 v69 v70 c2_i32_25 v71 v76 v78 v79 X_arg3 X_arg4 ⟨n, hk⟩ upto before (rows X 0 o) (rows X 1 o) (rows X 0 (o + 256)) (rows X 1 (o + 256)) (keys X (512 * n)) (keys X (512 * n + 256)) (carryAt X o (512 * n))
      (arg10.view.writes (Elt Ideal) G10 t2) (arg11.view.writes (Elt Ideal) G11 t3) hk1 hk2 hw1 hw2 _ _ hV1 hV2
    rw [trip_eq X o (512 * n) (by omega)] at hR
    have q1 : 512 * n + 256 ≤ o := by omega
    have q2 : 512 * n + 256 + 256 ≤ o := by omega
    have hs := sums_eq X o (512 * n) q1
    rw [addk_eq X o (512 * n) q1 _ rfl, addk_eq X o (512 * n + 256) q2 _ (by rw [hs]), blk_add, blk_add] at hL10
    rw [addv_eq X o (512 * n) q1 _ rfl, addv_eq X o (512 * n + 256) q2 _ (by rw [hs]), blk_add, blk_add] at hL11
    refine ⟨hR, ?_, ?_⟩
    · rw [hL10]
      have w1 := store_rows r32 arg10.view G10 t2 _ (fun s l => mid bk X.S X.Q o (512 * n) s l + ∑ r ∈ Finset.range 512, X.S (l / 64) (o + r) s * X.Q (o + r) l) e2 (k0_off1_inb i ⟨n, hk⟩) o1
      rw [over_mid bk X.S X.Q o (512 * n) _ fun s l _ _ => rfl] at w1
      have w2 := store_rows r32 arg10.view G10 _ _ (fun s l => mid bk X.S X.Q o (512 * n) s l + ∑ r ∈ Finset.range 512, X.S (l / 64) (o + r) s * X.Q (o + r) l) w1 (k0_off2_inb i ⟨n, hk⟩) o2
      rw [over_mid bk X.S X.Q o (512 * n + 256) _ fun s l h _ => by simp only [mid]; rw [if_neg (by omega), if_neg (by omega)]] at w2
      exact w2
    · rw [hL11]
      have w1 := store_rows r32 arg11.view G11 t3 _ (fun s l => mid bv X.A X.G o (512 * n) s l + ∑ r ∈ Finset.range 512, X.A (l / 64) (o + r) s * X.G (o + r) l) e3 (k0_off1_inb i ⟨n, hk⟩) o1
      rw [over_mid bv X.A X.G o (512 * n) _ fun s l _ _ => rfl] at w1
      have w2 := store_rows r32 arg11.view G11 _ _ (fun s l => mid bv X.A X.G o (512 * n) s l + ∑ r ∈ Finset.range 512, X.A (l / 64) (o + r) s * X.G (o + r) l) w1 (k0_off2_inb i ⟨n, hk⟩) o2
      rw [over_mid bv X.A X.G o (512 * n + 256) _ fun s l h _ => by simp only [mid]; rw [if_neg (by omega), if_neg (by omega)]] at w2
      exact w2

end Loop

end Cert.Proof.Sb

end
-- ==== Proof.SbLoad.lean ====
/- The values that one grid point of `_attn_bwd` starts from, as blocks of reals: its masks and zeros, its loads, and the loops'
   results. -/
module

public import proofs.«01_k».proof.Proof.SbLoop
public import Idealize.ShloMosaic.Lib.WordCmp

@[expose] public section

set_option maxRecDepth 16384

noncomputable section

namespace Cert.Proof.Sb

open Cert.KernelSbIdeal Cert.KernelSbIdeal.Gen Idealize.ShloMosaic Idealize.ShloMosaic.TcCoe Idealize.SL.Sem

/-- The bits of `r ≤ s`, as numbers. -/
theorem upto_up : truncf .bf16 (sitofp (F := Ideal) .f32 (extui 32 (cmpi .sle (iota .tc S256x256 32 (@List.cons (Fin 2) (0 : Fin S256x256.rank) []) iota_S256x256_d0_w32) (iota .tc S256x256 32 (@List.cons (Fin 2) (1 : Fin S256x256.rank) []) iota_S256x256_d1_w32)) natLt_1_32)) bitsLt_bf16_f32
    = up .bf16 upto := by
  funext i
  idx_vars i
  pointwise [up, upto]
  rw [WordCmp.cmpi_sle_ofNat (by omega) (by omega)]
  by_cases h : i0.val ≤ i1.val <;> simp [h, FloatOps.sitofp]
/-- The bits of `r < s`, as numbers. -/
theorem before_up : truncf .bf16 (sitofp (F := Ideal) .f32 (extui 32 (cmpi .slt (iota .tc S256x256 32 (@List.cons (Fin 2) (0 : Fin S256x256.rank) []) iota_S256x256_d0_w32) (iota .tc S256x256 32 (@List.cons (Fin 2) (1 : Fin S256x256.rank) []) iota_S256x256_d1_w32)) natLt_1_32)) bitsLt_bf16_f32
    = up .bf16 before := by
  funext i
  idx_vars i
  pointwise [up, before]
  rw [WordCmp.cmpi_slt_ofNat (by omega) (by omega)]
  by_cases h : i0.val < i1.val <;> simp [h, FloatOps.sitofp]
/-- The bits of `s < r`. -/
theorem causal_up : cmpi .slt (iota .tc S256x256 32 (@List.cons (Fin 2) (1 : Fin S256x256.rank) []) iota_S256x256_d1_w32) (iota .tc S256x256 32 (@List.cons (Fin 2) (0 : Fin S256x256.rank) []) iota_S256x256_d0_w32) = causal := by
  funext i
  idx_vars i
  pointwise [causal]
  rw [WordCmp.cmpi_slt_ofNat (by omega) (by omega)]
  by_cases h : i1.val < i0.val <;> simp [h]
/-- The bits of the first head's lanes. -/
theorem lanes0_up : cmpi .slt (iota .tc S1x128 32 (@List.cons (Fin 2) (1 : Fin S1x128.rank) []) iota_S1x128_d1_w32) (broadcast S1x128 64#32) = lanes 0 := by
  funext i
  idx_vars i
  pointwise [lanes]
  have e : i1.val / 64 = 0 ↔ i1.val < 64 := by omega
  rw [WordCmp.cmpi_slt_ofNat (by omega) (by omega)]
  by_cases h : i1.val < 64
  · simp [h, e.mpr h]
  · simp [h, mt e.mp h]
/-- The bits of the second head's lanes. -/
theorem lanes1_up : cmpi .sge (iota .tc S1x128 32 (@List.cons (Fin 2) (1 : Fin S1x128.rank) []) iota_S1x128_d1_w32) (broadcast S1x128 64#32) = lanes 1 := by
  funext i
  idx_vars i
  pointwise [lanes]
  have e : i1.val / 64 = 1 ↔ 64 ≤ i1.val := by omega
  rw [WordCmp.cmpi_sge_ofNat (by omega) (by omega)]
  by_cases h : 64 ≤ i1.val
  · simp [h, e.mpr h]
  · simp [h, mt e.mp h]

/-- One eighth. -/
theorem eighth_up {s : Shape} : broadcast (α := Ideal .f32) s (Scalar.ofBits .f32 0x3E000000#32) = up .f32 (cst s (1 / 8)) := by
  funext i
  show (Ideal.ofBits .f32 0x3E000000#32 : EReal) = ((1 / 8 : ℝ) : EReal)
  simp [Ideal.ofBits, Ideal.ieee, -EReal.coe_mul]; norm_num

section Loads

variable {σ : RefSig} {κ : Kind} {sp : Space} {e : EltTy} (φ : ℝ → Elt Ideal e)

/-- A load of 256 rows of a block of 512. -/
theorem load_half (v : View σ κ sp S512x128 e) (F : v.ty.Contents (Elt Ideal)) (g : ℕ → ℕ → ℝ) (o k : ℕ) (hF : v.read (Elt Ideal) F = fun i => φ (half g o i))
    (inb : ∀ a, (![k, 0] : Fin 2 → ℕ) a + S256x128.size a ≤ S512x128.size a) :
    v.readAt (Elt Ideal) (Rect.unit (s := S512x128) ![k, 0] S256x128.size inb).toLoadRect F = fun i => φ (blk g (o + k) i) := by
  rw [View.readAt_unit v F inb rfl inb, hF]
  funext y
  show φ (g (o + (k + 1 * (y 0).val)) (0 + 1 * (y 1).val)) = _
  rw [Nat.one_mul, Nat.one_mul, Nat.zero_add, ← Nat.add_assoc]
  rfl

/-- A load of one column, 256 rows of it, of a block of 512. -/
theorem load_col (v : View σ κ sp S512x128 e) (F : v.ty.Contents (Elt Ideal)) (g : ℕ → ℕ → ℝ) (o k l : ℕ) (hF : v.read (Elt Ideal) F = fun i => φ (half g o i))
    (inb : ∀ a, (![k, l] : Fin 2 → ℕ) a + S256x1.size a ≤ S512x128.size a) :
    v.readAt (Elt Ideal) (Rect.unit (s := S512x128) ![k, l] S256x1.size inb).toLoadRect F = fun i => φ (col (fun r => g r l) (o + k) i) := by
  rw [View.readAt_unit v F inb rfl inb, hF]
  funext y
  have h1 : (y 1).val = 0 := Nat.lt_one_iff.mp (y 1).isLt
  show φ (g (o + (k + 1 * (y 0).val)) (l + 1 * (y 1).val)) = _
  rw [h1, Nat.one_mul, Nat.mul_zero, Nat.add_zero, ← Nat.add_assoc]
  rfl

/-- A load of 256 rows does not see a store to the 256 rows before them. -/
theorem load_skip (v : View σ κ sp S2048x128 e) (F : v.ty.Contents (Elt Ideal)) (L : List (View.Piece (Elt Ideal) S2048x128 e))
    {off off' : Fin 2 → ℕ} {o : ℕ} (inb : ∀ a, off a + S256x128.size a ≤ S2048x128.size a) (inb' : ∀ a, off' a + S256x128.size a ≤ S2048x128.size a)
    (h : off = ![o, 0]) (h' : off' = ![o + 256, 0]) (w) :
    v.readAt (Elt Ideal) (Rect.unit (s := S2048x128) off' S256x128.size inb').toLoadRect (v.writes (Elt Ideal) F (⟨Rect.unit (s := S2048x128) off S256x128.size inb, w⟩ :: L))
      = v.readAt (Elt Ideal) (Rect.unit (s := S2048x128) off' S256x128.size inb').toLoadRect (v.writes (Elt Ideal) F L) := by
  subst h'
  rw [View.readAt_unit v _ inb' rfl inb', View.readAt_unit v _ inb' rfl inb', View.read_writes_cons_put v F inb w L h]
  funext y
  unfold VecWindow.put VecWindow.window
  refine dif_neg fun hy => ?_
  have h0 : o ≤ o + 256 + 1 * (y 0).val ∧ o + 256 + 1 * (y 0).val < o + 256 := hy 0
  omega

end Loads

/-- Before the first trip everything carried is zero. -/
theorem carryAt_zero (X : Data) (o : ℕ) : (carryAt X o 0).up = (up .f32 0, up .f32 0, up .f32 0, up .f32 0, up .f32 0, up .f32 0, up .f32 0, up .f32 0, up .f32 0, up .f32 0) := by
  have hc (h r : ℕ) : X.CL h r 0 = 0 := rfl
  have hp (h r : ℕ) : X.CP h r 0 = 0 := rfl
  have hd (r l : ℕ) : X.DQ 0 r l = 0 := rfl
  unfold carryAt Carry.up col blk
  simp only [hc, hp, hd]
  rfl

end Cert.Proof.Sb

end
-- ==== Proof.SbSpec.lean ====
/- What the diagonal part of `_attn_bwd`'s body is of the whole arrays: the tiles of a block of 512 rows against its own keys, and
   the blocks of the gradients that they give. -/
module

public import proofs.«01_k».proof.Proof.SbLoad

@[expose] public section

set_option maxRecDepth 16384

noncomputable section

namespace Cert.Proof.Sb

open Cert.KernelSbIdeal Cert.KernelSbIdeal.Gen Idealize.ShloMosaic Idealize.ShloMosaic.TcCoe Idealize.SL.Sem

section Tiles

variable (X : Data) (h o : ℕ)

/-- The rows' sums of `log₂ (1 - β)` over the keys before the block, for the rows from `p` on. -/
def cl0 (p : ℕ) : S256x1.Idx → ℝ := col (fun r => X.CL h r o) p
/-- The rows' sums of the weights' cotangents over the keys before the block, for the rows from `p` on. -/
def cp0 (p : ℕ) : S256x1.Idx → ℝ := col (fun r => X.CP h r o) p

/-- The weights of the first rows against the first keys, of the last rows against the first keys, and of the last rows against
    the last keys, as the body computes them. -/
def attA : S256x256.Idx → ℝ := att below upto (rows X h o) (keys X o) (cl0 X h o o)
def attC : S256x256.Idx → ℝ := att all upto (rows X h (o + 256)) (keys X o) (cl0 X h o (o + 256))
def attE : S256x256.Idx → ℝ :=
  att below upto (rows X h (o + 256)) (keys X (o + 256)) (cl all (rows X h (o + 256)) (keys X o) (cl0 X h o (o + 256)))
/-- The scores' cotangents of the same three tiles. -/
def dscA : S256x256.Idx → ℝ := dsc below upto before (rows X h o) (keys X o) (cl0 X h o o) (cp0 X h o o)
def dscC : S256x256.Idx → ℝ := dsc all upto before (rows X h (o + 256)) (keys X o) (cl0 X h o (o + 256)) (cp0 X h o (o + 256))
def dscE : S256x256.Idx → ℝ :=
  dsc below upto before (rows X h (o + 256)) (keys X (o + 256)) (cl all (rows X h (o + 256)) (keys X o) (cl0 X h o (o + 256)))
    (cp all upto (rows X h (o + 256)) (keys X o) (cl0 X h o (o + 256)) (cp0 X h o (o + 256)))

theorem hm_below (f : S256x256.Idx → ℝ) (i : S256x256.Idx) : below f i = if o + (i 1).val < o + (i 0).val then f i else 0 := by
  unfold below
  by_cases h : (i 1).val < (i 0).val
  · rw [if_pos h, if_pos (by omega)]
  · rw [if_neg h, if_neg (by omega)]

theorem attA_eq : attA X h o = tile (X.A h) o o := att_eq X h below o o (hm_below o)
theorem attC_eq : attC X h o = tile (X.A h) (o + 256) o := att_eq X h all (o + 256) o (hm_all (o + 256) o le_rfl)
theorem attE_eq : attE X h o = tile (X.A h) (o + 256) (o + 256) := by
  unfold attE cl0
  rw [cl_eq X h all (o + 256) o (hm_all (o + 256) o le_rfl)]
  exact att_eq X h below (o + 256) (o + 256) (hm_below (o + 256))
theorem dscA_eq : dscA X h o = tile (X.S h) o o := dsc_eq X h below o o (hm_below o)
theorem dscC_eq : dscC X h o = tile (X.S h) (o + 256) o := dsc_eq X h all (o + 256) o (hm_all (o + 256) o le_rfl)
theorem dscE_eq : dscE X h o = tile (X.S h) (o + 256) (o + 256) := by
  unfold dscE cl0 cp0
  rw [cl_eq X h all (o + 256) o (hm_all (o + 256) o le_rfl), cp_eq X h all (o + 256) o (hm_all (o + 256) o le_rfl)]
  exact dsc_eq X h below (o + 256) (o + 256) (hm_below (o + 256))

end Tiles

theorem zero_S (X : Data) (h r s : ℕ) (hr : r ≤ s) : X.S h r s = 0 := if_neg (by omega)
theorem zero_A (X : Data) (h r s : ℕ) (hr : r ≤ s) : X.A h r s = 0 := if_neg (by omega)

theorem th_zero (g : S256x128.Idx → ℝ) : th 0 g = 0 := by
  funext i; simp [th]

/-- `th_eq` where the first rows come before the keys. -/
theorem th_last (T : ℕ → ℕ → ℕ → ℝ) (hT : ∀ h r s, r ≤ s → T h r s = 0) (Y : ℕ → ℕ → ℝ) (o : ℕ) :
    th (tile (T 0) (o + 256) (o + 256)) (only 0 (blk Y (o + 256))) + th (tile (T 1) (o + 256) (o + 256)) (only 1 (blk Y (o + 256)))
    = blk (fun s l => ∑ r ∈ Finset.range 512, T (l / 64) (o + r) s * Y (o + r) l) (o + 256) := by
  have hz : ∀ h, tile (T h) o (o + 256) = 0 := fun h => by
    funext i
    have h0 : (i 0).val < 256 := (i 0).isLt
    exact hT _ _ _ (by omega)
  rw [← th_eq T Y o (o + 256), hz, hz, th_zero, th_zero, zero_add, zero_add]

/-- The keys after a row add nothing to the gradient of its query. -/
theorem DQ_ge (X : Data) (n r l : ℕ) (h : r ≤ n) : X.DQ n r l = X.DQ r r l := by
  unfold Data.DQ
  obtain ⟨k, rfl⟩ := Nat.exists_eq_add_of_le h
  rw [Finset.sum_range_add, Finset.sum_eq_zero (s := Finset.range k) fun s _ => ?_, add_zero]
  rw [zero_S X _ _ _ (by omega), zero_mul]

/-- The gradient of the queries, with the scores' scale. -/
def gq (X : Data) : ℕ → ℕ → ℝ := fun r l => X.DQ r r l * (1 / 8)

/-- The first rows of the block of the queries' gradient. -/
theorem dq_first (X : Data) (o : ℕ) :
    (blk (X.DQ o) o + nh (dscA X 0 o) (only 0 (blk X.K o)) + nh (dscA X 1 o) (only 1 (blk X.K o))) * cst S256x128 (1 / 8) = blk (gq X) o := by
  rw [dscA_eq, dscA_eq]
  have e := nh_eq X o o o rfl
  dsimp only [keys] at e
  rw [e]
  funext i
  have h0 : (i 0).val < 256 := (i 0).isLt
  show X.DQ (o + 256) (o + (i 0).val) (i 1).val * (1 / 8) = X.DQ (o + (i 0).val) (o + (i 0).val) (i 1).val * (1 / 8)
  rw [DQ_ge X (o + 256) _ _ (by omega)]

/-- The last rows of the block of the queries' gradient. -/
theorem dq_last (X : Data) (o : ℕ) :
    (blk (X.DQ o) (o + 256) + nh (dscC X 0 o) (only 0 (blk X.K o)) + nh (dscC X 1 o) (only 1 (blk X.K o))
      + nh (dscE X 0 o) (only 0 (blk X.K (o + 256))) + nh (dscE X 1 o) (only 1 (blk X.K (o + 256)))) * cst S256x128 (1 / 8)
    = blk (gq X) (o + 256) := by
  rw [dscC_eq, dscC_eq, dscE_eq, dscE_eq]
  have e := nh_eq X (o + 256) o o rfl
  have e' := nh_eq X (o + 256) (o + 256) (o + 256) rfl
  dsimp only [keys] at e e'
  rw [e, e']
  funext i
  have h0 : (i 0).val < 256 := (i 0).isLt
  show X.DQ (o + 256 + 256) (o + 256 + (i 0).val) (i 1).val * (1 / 8) = X.DQ (o + 256 + (i 0).val) (o + 256 + (i 0).val) (i 1).val * (1 / 8)
  rw [DQ_ge X (o + 256 + 256) _ _ (by omega)]

/-- What the block of 512 rows adds to a sum over the rows. -/
def inc (T : ℕ → ℕ → ℕ → ℝ) (Y : ℕ → ℕ → ℝ) (o : ℕ) : ℕ → ℕ → ℝ := fun s l => ∑ r ∈ Finset.range 512, T (l / 64) (o + r) s * Y (o + r) l

theorem mid_first (b : ℕ → ℕ → ℝ) (T : ℕ → ℕ → ℕ → ℝ) (Y : ℕ → ℕ → ℝ) (o : ℕ) :
    over (mid b T Y o o) (fun s l => mid b T Y o o s l + inc T Y o s l) o = mid b T Y o (o + 256) :=
  over_mid b T Y o o _ fun s l _ _ => rfl
theorem mid_last (b : ℕ → ℕ → ℝ) (T : ℕ → ℕ → ℕ → ℝ) (Y : ℕ → ℕ → ℝ) (o : ℕ) :
    over (mid b T Y o (o + 256)) (fun s l => mid b T Y o o s l + inc T Y o s l) (o + 256) = mid b T Y o (o + 512) :=
  over_mid b T Y o (o + 256) _ fun s l h _ => by
    simp only [mid]; rw [if_neg (by omega), if_neg (by omega)]; rfl

section Adds

variable (X : Data) (o : ℕ) (b : ℕ → ℕ → ℝ)

theorem dk_first : blk (mid b X.S X.Q o o) o + (th (dscA X 0 o) (only 0 (blk X.Q o)) + th (dscA X 1 o) (only 1 (blk X.Q o))
      + th (dscC X 0 o) (only 0 (blk X.Q (o + 256))) + th (dscC X 1 o) (only 1 (blk X.Q (o + 256))))
    = blk (fun s l => mid b X.S X.Q o o s l + inc X.S X.Q o s l) o := by
  rw [dscA_eq, dscA_eq, dscC_eq, dscC_eq, th_eq X.S X.Q o o]; rfl
theorem dk_last : blk (mid b X.S X.Q o o) (o + 256) + (th (dscE X 0 o) (only 0 (blk X.Q (o + 256))) + th (dscE X 1 o) (only 1 (blk X.Q (o + 256))))
    = blk (fun s l => mid b X.S X.Q o o s l + inc X.S X.Q o s l) (o + 256) := by
  rw [dscE_eq, dscE_eq, th_last X.S (zero_S X) X.Q o]; rfl
theorem dv_first : blk (mid b X.A X.G o o) o + (th (attA X 0 o) (only 0 (blk X.G o)) + th (attA X 1 o) (only 1 (blk X.G o))
      + th (attC X 0 o) (only 0 (blk X.G (o + 256))) + th (attC X 1 o) (only 1 (blk X.G (o + 256))))
    = blk (fun s l => mid b X.A X.G o o s l + inc X.A X.G o s l) o := by
  rw [attA_eq, attA_eq, attC_eq, attC_eq, th_eq X.A X.G o o]; rfl
theorem dv_last : blk (mid b X.A X.G o o) (o + 256) + (th (attE X 0 o) (only 0 (blk X.G (o + 256))) + th (attE X 1 o) (only 1 (blk X.G (o + 256))))
    = blk (fun s l => mid b X.A X.G o o s l + inc X.A X.G o s l) (o + 256) := by
  rw [attE_eq, attE_eq, th_last X.A (zero_A X) X.G o]; rfl

end Adds

/-- The sums over the first `n` rows, with the next 512. -/
theorem mid_DK (X : Data) (n : ℕ) : mid (X.DK n) X.S X.Q n (n + 512) = X.DK (n + 512) := by
  funext s l
  unfold mid Data.DK
  rw [Finset.sum_range_add]
  by_cases h : s < n + 512
  · rw [if_pos h]
  · rw [if_neg h, Finset.sum_eq_zero (s := Finset.range 512) fun r hr => ?_]
    rw [zero_S X _ _ _ (by have := Finset.mem_range.mp hr; omega), zero_mul]
theorem mid_DV (X : Data) (n : ℕ) : mid (X.DV n) X.A X.G n (n + 512) = X.DV (n + 512) := by
  funext s l
  unfold mid Data.DV
  rw [Finset.sum_range_add]
  by_cases h : s < n + 512
  · rw [if_pos h]
  · rw [if_neg h, Finset.sum_eq_zero (s := Finset.range 512) fun r hr => ?_]
    rw [zero_A X _ _ _ (by have := Finset.mem_range.mp hr; omega), zero_mul]

/-- The zeros that an accumulator begins with. -/
theorem zeros_up (h) : shapeCast S2048x128 (up (s := S2048x128) .f32 0) h = up .f32 (full fun _ _ => 0) := by
  rfl

/-- A finished accumulator, scaled. -/
theorem scaled_up (f : ℕ → ℕ → ℝ) (h h') :
    shapeCast S2048x128 (truncf (F := Ideal) .bf16 (mulf (F := Ideal) (up (s := S2048x128) .f32 (full f)) (up (s := S2048x128) .f32 (cst S2048x128 (1 / 8)))) h) h'
      = up .bf16 (full fun s l => f s l * (1 / 8)) := by
  funext i; pointwise [up, full, cst]; exact (EReal.coe_mul _ _).symm
/-- A finished accumulator. -/
theorem plain_up (f : ℕ → ℕ → ℝ) (h h') :
    shapeCast S2048x128 (truncf (F := Ideal) .bf16 (up (s := S2048x128) .f32 (full f)) h) h' = up .bf16 (full f) := by
  funext i; pointwise [up, full]

/-- Two stores of 256 rows make the block of 512. -/
theorem store_half {σ : RefSig} {κ : Kind} {sp : Space} {e : EltTy} (φ : ℝ → Elt Ideal e) (v : View σ κ sp S512x128 e) (F : v.ty.Contents (Elt Ideal))
    (f : ℕ → ℕ → ℝ) (o : ℕ) (inb : ∀ a, (![256, 0] : Fin 2 → ℕ) a + S256x128.size a ≤ S512x128.size a)
    (inb' : ∀ a, (![0, 0] : Fin 2 → ℕ) a + S256x128.size a ≤ S512x128.size a) :
    v.read (Elt Ideal) (v.writes (Elt Ideal) F [⟨Rect.unit (s := S512x128) ![256, 0] S256x128.size inb, fun i => φ (blk f (o + 256) i)⟩,
      ⟨Rect.unit (s := S512x128) ![0, 0] S256x128.size inb', fun i => φ (blk f o i)⟩]) = fun i => φ (half f o i) := by
  rw [View.read_writes_cons_put v F inb _ _ rfl, View.read_writes_cons_put v F inb' _ _ rfl]
  funext y
  have h0 : (y 0).val < 512 := (y 0).isLt
  have h1 : (y 1).val < 128 := (y 1).isLt
  unfold VecWindow.put
  split
  · rename_i hy
    have hy0 : 256 ≤ (y 0).val ∧ (y 0).val < 256 + 256 := hy 0
    show φ (f (o + 256 + ((y 0).val - 256)) ((y 1).val - 0)) = φ (f (o + (y 0).val) (y 1).val)
    rw [Nat.sub_zero, Nat.add_assoc, Nat.add_sub_cancel' hy0.1]
  · rename_i hy
    have hy0 : (y 0).val < 256 := by
      by_contra hc
      have hb : 256 ≤ (y 0).val ∧ (y 0).val < 256 + 256 := by omega
      exact hy (Fin.forall_fin_two.mpr ⟨hb, ⟨Nat.zero_le _, by simpa using h1⟩⟩)
    rw [dif_pos (Fin.forall_fin_two.mpr ⟨⟨Nat.zero_le _, by simpa using hy0⟩, ⟨Nat.zero_le _, by simpa using h1⟩⟩)]
    rfl

/-- One store of a whole array. -/
theorem store_full {σ : RefSig} {κ : Kind} {sp : Space} {e : EltTy} (v : View σ κ sp S2048x128 e) (F : v.ty.Contents (Elt Ideal))
    (w : S2048x128.Idx → Elt Ideal e) (inb : ∀ a, (![0, 0] : Fin 2 → ℕ) a + S2048x128.size a ≤ S2048x128.size a) :
    v.read (Elt Ideal) (v.writes (Elt Ideal) F [⟨Rect.unit (s := S2048x128) ![0, 0] S2048x128.size inb, w⟩]) = w := by
  rw [View.read_writes_cons_put v F inb _ _ rfl]
  funext y
  have h0 : (y 0).val < 2048 := (y 0).isLt
  have h1 : (y 1).val < 128 := (y 1).isLt
  unfold VecWindow.put
  rw [dif_pos (Fin.forall_fin_two.mpr ⟨⟨Nat.zero_le _, by simpa using h0⟩, ⟨Nat.zero_le _, by simpa using h1⟩⟩)]
  congr 1
  funext a
  fin_cases a <;> exact Fin.ext (Nat.sub_zero _)

/-- A load of a whole array. -/
theorem load_full {σ : RefSig} {κ : Kind} {sp : Space} {e : EltTy} (v : View σ κ sp S2048x128 e) (F : v.ty.Contents (Elt Ideal))
    (inb : ∀ a, (![0, 0] : Fin 2 → ℕ) a + S2048x128.size a ≤ S2048x128.size a) :
    v.readAt (Elt Ideal) (Rect.unit (s := S2048x128) ![0, 0] S2048x128.size inb).toLoadRect F = v.read (Elt Ideal) F := by
  rw [View.readAt_unit v F inb rfl inb]
  funext y
  unfold VecWindow.window
  congr 1
  funext a
  fin_cases a <;> exact Fin.ext (by simp)

end Cert.Proof.Sb

end
-- ==== Proof.SbDiag.lean ====
/- The body of `_attn_bwd` at a grid point: the block of the queries' gradient and the accumulators of the keys' and values' gradients,
   at the first, at a middle and at the last block of rows. -/
module

public import proofs.«01_k».proof.Proof.SbSpec
public import proofs.«01_k».proof.Proof.Gen.KernelSbIdeal.Value

@[expose] public section

set_option maxRecDepth 16384

noncomputable section

namespace Cert.Proof.Sb

open Cert.KernelSbIdeal Cert.KernelSbIdeal.Gen Idealize.ShloMosaic Idealize.ShloMosaic.TcCoe Idealize.SL.Sem

variable (dev : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S512x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x128 .f32) (harg11 : arg11.IsWhole)
  (X : Data) (o : ℕ) (ho : o = 512 * (i 1).val) (bk bv : ℕ → ℕ → ℝ)

include ho

/-- The loads of the rows and of the diagonal part's keys. -/
theorem loads :
    arg2.view.readAt (Elt Ideal) (Rect.unit (s := S512x128) ![0, 0] S256x128.size inb_S512x128_S256x128_0_0).toLoadRect (harg2.unread (up .bf16 (half X.Q o))) = up .bf16 (blk X.Q o) ∧ arg2.view.readAt (Elt Ideal) (Rect.unit (s := S512x128) ![256, 0] S256x128.size inb_S512x128_S256x128_256_0).toLoadRect (harg2.unread (up .bf16 (half X.Q o))) = up .bf16 (blk X.Q (o + 256)) ∧
    arg5.view.readAt (Elt Ideal) (Rect.unit (s := S512x128) ![0, 0] S256x128.size inb_S512x128_S256x128_0_0).toLoadRect (harg5.unread (up .bf16 (half X.G o))) = up .bf16 (blk X.G o) ∧ arg5.view.readAt (Elt Ideal) (Rect.unit (s := S512x128) ![256, 0] S256x128.size inb_S512x128_S256x128_256_0).toLoadRect (harg5.unread (up .bf16 (half X.G o))) = up .bf16 (blk X.G (o + 256)) ∧
    arg6.view.readAt (Elt Ideal) (Rect.unit (s := S512x128) ![0, 0] S256x1.size inb_S512x128_S256x1_0_0).toLoadRect (harg6.unread (up .f32 (half (fun r l => X.E (l / 64) r) o))) = up .f32 (col (X.E 0) o) ∧ arg6.view.readAt (Elt Ideal) (Rect.unit (s := S512x128) ![0, 64] S256x1.size inb_S512x128_S256x1_0_64).toLoadRect (harg6.unread (up .f32 (half (fun r l => X.E (l / 64) r) o))) = up .f32 (col (X.E 1) o) ∧
    arg6.view.readAt (Elt Ideal) (Rect.unit (s := S512x128) ![256, 0] S256x1.size inb_S512x128_S256x1_256_0).toLoadRect (harg6.unread (up .f32 (half (fun r l => X.E (l / 64) r) o))) = up .f32 (col (X.E 0) (o + 256)) ∧ arg6.view.readAt (Elt Ideal) (Rect.unit (s := S512x128) ![256, 64] S256x1.size inb_S512x128_S256x1_256_64).toLoadRect (harg6.unread (up .f32 (half (fun r l => X.E (l / 64) r) o))) = up .f32 (col (X.E 1) (o + 256)) ∧
    arg3.view.readAt (Elt Ideal) (Rect.unit (s := S2048x128) (k0_off5 i) S256x128.size (k0_off5_inb i)).toLoadRect (harg3.unread (up .bf16 (full X.K))) = up .bf16 (blk X.K o) ∧ arg3.view.readAt (Elt Ideal) (Rect.unit (s := S2048x128) (k0_off6 i) S256x128.size (k0_off6_inb i)).toLoadRect (harg3.unread (up .bf16 (full X.K))) = up .bf16 (blk X.K (o + 256)) ∧
    arg4.view.readAt (Elt Ideal) (Rect.unit (s := S2048x128) (k0_off5 i) S256x128.size (k0_off5_inb i)).toLoadRect (harg4.unread (up .bf16 (full X.V))) = up .bf16 (blk X.V o) ∧ arg4.view.readAt (Elt Ideal) (Rect.unit (s := S2048x128) (k0_off6 i) S256x128.size (k0_off6_inb i)).toLoadRect (harg4.unread (up .bf16 (full X.V))) = up .bf16 (blk X.V (o + 256)) := by
  have h5 : k0_off5 i = ![o, 0] := by rw [off5_eq, ho]
  have h6 : k0_off6 i = ![o + 256, 0] := by rw [off6_eq, ho]
  exact ⟨load_half r16 arg2.view _ X.Q o 0 (harg2.read_unread _) _, load_half r16 arg2.view _ X.Q o 256 (harg2.read_unread _) _,
    load_half r16 arg5.view _ X.G o 0 (harg5.read_unread _) _, load_half r16 arg5.view _ X.G o 256 (harg5.read_unread _) _,
    load_col r32 arg6.view _ (fun r l => X.E (l / 64) r) o 0 0 (harg6.read_unread _) _,
    load_col r32 arg6.view _ (fun r l => X.E (l / 64) r) o 0 64 (harg6.read_unread _) _,
    load_col r32 arg6.view _ (fun r l => X.E (l / 64) r) o 256 0 (harg6.read_unread _) _,
    load_col r32 arg6.view _ (fun r l => X.E (l / 64) r) o 256 64 (harg6.read_unread _) _,
    load_rows r16 arg3.view _ X.K (harg3.read_unread _) (k0_off5_inb i) h5, load_rows r16 arg3.view _ X.K (harg3.read_unread _) (k0_off6_inb i) h6,
    load_rows r16 arg4.view _ X.V (harg4.read_unread _) (k0_off5_inb i) h5, load_rows r16 arg4.view _ X.V (harg4.read_unread _) (k0_off6_inb i) h6⟩

set_option maxHeartbeats 2000000 in
/-- The body at the first block of rows. -/
theorem point_A (hc0 : cond0_0 i) (hc1 : ¬cond0_1 i) :
    out0_A_5 (F := Ideal) dev i arg2 harg2 arg3 harg3 arg4 harg4 arg5 harg5 arg6 harg6 arg7 harg7 arg8 harg8 arg9 harg9 arg10 harg10 arg11 harg11 hc0 hc1 (up .bf16 (half X.Q o)) (up .bf16 (full X.K)) (up .bf16 (full X.V)) (up .bf16 (half X.G o)) (up .f32 (half (fun r l => X.E (l / 64) r) o))  = up .bf16 (half (gq X) o) ∧
      sout0_A_0 (F := Ideal) dev i arg2 harg2 arg3 harg3 arg4 harg4 arg5 harg5 arg6 harg6 arg7 harg7 arg8 harg8 arg9 harg9 arg10 harg10 arg11 harg11 hc0 hc1 (up .bf16 (half X.Q o)) (up .bf16 (full X.K)) (up .bf16 (full X.V)) (up .bf16 (half X.G o)) (up .f32 (half (fun r l => X.E (l / 64) r) o))  = up .f32 (full (mid (fun _ _ => 0) X.S X.Q o (o + 512))) ∧
      sout0_A_1 (F := Ideal) dev i arg2 harg2 arg3 harg3 arg4 harg4 arg5 harg5 arg6 harg6 arg7 harg7 arg8 harg8 arg9 harg9 arg10 harg10 arg11 harg11 hc0 hc1 (up .bf16 (half X.Q o)) (up .bf16 (full X.K)) (up .bf16 (full X.V)) (up .bf16 (half X.G o)) (up .f32 (half (fun r l => X.E (l / 64) r) o))  = up .f32 (full (mid (fun _ _ => 0) X.A X.G o (o + 512))) := by
  obtain ⟨hq1, hq2, hg1, hg2, he1, he2, he3, he4, hk1, hk2, hv1, hv2⟩ := loads i arg2 harg2 arg3 harg3 arg4 harg4 arg5 harg5 arg6 harg6 X o ho
  have h5 : k0_off5 i = ![o, 0] := by rw [off5_eq, ho]
  have h6 : k0_off6 i = ![o + 256, 0] := by rw [off6_eq, ho]
  have t1 : Scf.trips (k0_t1_loop i).lb (k0_t1_loop i).ub (k0_t1_loop i).st = (i 1).val := trips1 i
  have t2 : Scf.trips (k0_t2_loop i).lb (k0_t2_loop i).ub (k0_t2_loop i).st = 0 := trips2 i
  have L := fun v0 v68 v69 v70 c2 v71 v76 v78 v79 => loop1 Variants.none dev none i arg2 harg2 arg3 harg3 arg4 harg4 arg5 harg5 arg6 harg6 arg7 harg7 arg8 harg8 arg9 harg9 arg10 harg10 arg11 harg11 v0 v68 v69 v70 c2 v71 v76 v78 v79 (harg3.unread (up .bf16 (full X.K))) (harg4.unread (up .bf16 (full X.V))) X o ho
    (arg10.view.writes (Elt Ideal) arg10.view.junk [⟨Rect.unit ![0, 0] S2048x128.size inb_S2048x128_S2048x128_0_0, up .f32 (full fun _ _ => 0)⟩]) (arg11.view.writes (Elt Ideal) arg11.view.junk [⟨Rect.unit ![0, 0] S2048x128.size inb_S2048x128_S2048x128_0_0, up .f32 (full fun _ _ => 0)⟩]) (fun _ _ => 0) (fun _ _ => 0) (harg3.read_unread _) (harg4.read_unread _) (store_full arg10.view _ _ _) (store_full arg11.view _ _ _) (i 1).val le_rfl
  have e1 := fun v0 v68 v69 v70 c2 v71 v76 v78 v79 => (L v0 v68 v69 v70 c2 v71 v76 v78 v79).1
  have e2 := fun v0 v68 v69 v70 c2 v71 v76 v78 v79 => (L v0 v68 v69 v70 c2 v71 v76 v78 v79).2.1
  have e3 := fun v0 v68 v69 v70 c2 v71 v76 v78 v79 => (L v0 v68 v69 v70 c2 v71 v76 v78 v79).2.2
  clear L
  simp only [← ho] at e1 e2 e3
  rw [carryAt_zero] at e1 e2 e3
  dsimp only [rows, carryAt, Carry.up] at e1 e2 e3
  have a1 := fun v0 v68 v69 v70 c2 v71 v76 v78 v79 => load_rows r32 arg10.view _ (mid (fun _ _ => 0) X.S X.Q o o) (e2 v0 v68 v69 v70 c2 v71 v76 v78 v79) (k0_off5_inb i) h5
  have a2 := fun v0 v68 v69 v70 c2 v71 v76 v78 v79 w => (load_skip arg10.view (arg10.view.writes (Elt Ideal) arg10.view.junk [⟨Rect.unit ![0, 0] S2048x128.size inb_S2048x128_S2048x128_0_0, up .f32 (full fun _ _ => 0)⟩]) _ (k0_off5_inb i) (k0_off6_inb i) h5 h6 w).trans (load_rows r32 arg10.view _ (mid (fun _ _ => 0) X.S X.Q o o) (e2 v0 v68 v69 v70 c2 v71 v76 v78 v79) (k0_off6_inb i) h6)
  have a3 := fun v0 v68 v69 v70 c2 v71 v76 v78 v79 => load_rows r32 arg11.view _ (mid (fun _ _ => 0) X.A X.G o o) (e3 v0 v68 v69 v70 c2 v71 v76 v78 v79) (k0_off5_inb i) h5
  have a4 := fun v0 v68 v69 v70 c2 v71 v76 v78 v79 w => (load_skip arg11.view (arg11.view.writes (Elt Ideal) arg11.view.junk [⟨Rect.unit ![0, 0] S2048x128.size inb_S2048x128_S2048x128_0_0, up .f32 (full fun _ _ => 0)⟩]) _ (k0_off5_inb i) (k0_off6_inb i) h5 h6 w).trans (load_rows r32 arg11.view _ (mid (fun _ _ => 0) X.A X.G o o) (e3 v0 v68 v69 v70 c2 v71 v76 v78 v79) (k0_off6_inb i) h6)
  change ∀ v0 v68 v69 v70 c2 v71 v76 v78 v79, _ = up .f32 (blk (mid (fun _ _ => 0) X.S X.Q o o) o) at a1
  change ∀ v0 v68 v69 v70 c2 v71 v76 v78 v79 w, _ = up .f32 (blk (mid (fun _ _ => 0) X.S X.Q o o) (o + 256)) at a2
  change ∀ v0 v68 v69 v70 c2 v71 v76 v78 v79, _ = up .f32 (blk (mid (fun _ _ => 0) X.A X.G o o) o) at a3
  change ∀ v0 v68 v69 v70 c2 v71 v76 v78 v79 w, _ = up .f32 (blk (mid (fun _ _ => 0) X.A X.G o o) (o + 256)) at a4
  have s1 := fun v0 v68 v69 v70 c2 v71 v76 v78 v79 => store_rows r32 arg10.view (arg10.view.writes (Elt Ideal) arg10.view.junk [⟨Rect.unit ![0, 0] S2048x128.size inb_S2048x128_S2048x128_0_0, up .f32 (full fun _ _ => 0)⟩]) _ _ (fun s l => mid (fun _ _ => 0) X.S X.Q o o s l + inc X.S X.Q o s l) (e2 v0 v68 v69 v70 c2 v71 v76 v78 v79) (k0_off5_inb i) h5
  simp only [mid_first] at s1
  have s2 := fun v0 v68 v69 v70 c2 v71 v76 v78 v79 => store_rows r32 arg10.view (arg10.view.writes (Elt Ideal) arg10.view.junk [⟨Rect.unit ![0, 0] S2048x128.size inb_S2048x128_S2048x128_0_0, up .f32 (full fun _ _ => 0)⟩]) _ _ (fun s l => mid (fun _ _ => 0) X.S X.Q o o s l + inc X.S X.Q o s l) (s1 v0 v68 v69 v70 c2 v71 v76 v78 v79) (k0_off6_inb i) h6
  simp only [mid_last] at s2
  have s3 := fun v0 v68 v69 v70 c2 v71 v76 v78 v79 => store_rows r32 arg11.view (arg11.view.writes (Elt Ideal) arg11.view.junk [⟨Rect.unit ![0, 0] S2048x128.size inb_S2048x128_S2048x128_0_0, up .f32 (full fun _ _ => 0)⟩]) _ _ (fun s l => mid (fun _ _ => 0) X.A X.G o o s l + inc X.A X.G o s l) (e3 v0 v68 v69 v70 c2 v71 v76 v78 v79) (k0_off5_inb i) h5
  simp only [mid_first] at s3
  have s4 := fun v0 v68 v69 v70 c2 v71 v76 v78 v79 => store_rows r32 arg11.view (arg11.view.writes (Elt Ideal) arg11.view.junk [⟨Rect.unit ![0, 0] S2048x128.size inb_S2048x128_S2048x128_0_0, up .f32 (full fun _ _ => 0)⟩]) _ _ (fun s l => mid (fun _ _ => 0) X.A X.G o o s l + inc X.A X.G o s l) (s3 v0 v68 v69 v70 c2 v71 v76 v78 v79) (k0_off6_inb i) h6
  simp only [mid_last] at s4
  have c0 : sout0_A_0 (F := Ideal) dev i arg2 harg2 arg3 harg3 arg4 harg4 arg5 harg5 arg6 harg6 arg7 harg7 arg8 harg8 arg9 harg9 arg10 harg10 arg11 harg11 hc0 hc1 (up .bf16 (half X.Q o)) (up .bf16 (full X.K)) (up .bf16 (full X.V)) (up .bf16 (half X.G o)) (up .f32 (half (fun r l => X.E (l / 64) r) o)) = arg10.view.read (Elt Ideal) (arg10.view.writes (Elt Ideal) arg10.view.junk (kernelRun0_A (F := Ideal) dev i arg2 harg2 arg3 harg3 arg4 harg4 arg5 harg5 arg6 harg6 arg7 harg7 arg8 harg8 arg9 harg9 arg10 harg10 arg11 harg11 hc0 hc1 (up .bf16 (half X.Q o)) (up .bf16 (full X.K)) (up .bf16 (full X.V)) (up .bf16 (half X.G o)) (up .f32 (half (fun r l => X.E (l / 64) r) o))).2.2.2.1) :=
    (View.read_writes_eq_canon _ _ _ (scover0_A_0 (F := Ideal) dev i arg2 harg2 arg3 harg3 arg4 harg4 arg5 harg5 arg6 harg6 arg7 harg7 arg8 harg8 arg9 harg9 arg10 harg10 arg11 harg11 hc0 hc1 (up .bf16 (half X.Q o)) (up .bf16 (full X.K)) (up .bf16 (full X.V)) (up .bf16 (half X.G o)) (up .f32 (half (fun r l => X.E (l / 64) r) o)))).trans (View.read_writes_eq_canon _ _ _ (scover0_A_0 (F := Ideal) dev i arg2 harg2 arg3 harg3 arg4 harg4 arg5 harg5 arg6 harg6 arg7 harg7 arg8 harg8 arg9 harg9 arg10 harg10 arg11 harg11 hc0 hc1 (up .bf16 (half X.Q o)) (up .bf16 (full X.K)) (up .bf16 (full X.V)) (up .bf16 (half X.G o)) (up .f32 (half (fun r l => X.E (l / 64) r) o)))).symm
  have c1 : sout0_A_1 (F := Ideal) dev i arg2 harg2 arg3 harg3 arg4 harg4 arg5 harg5 arg6 harg6 arg7 harg7 arg8 harg8 arg9 harg9 arg10 harg10 arg11 harg11 hc0 hc1 (up .bf16 (half X.Q o)) (up .bf16 (full X.K)) (up .bf16 (full X.V)) (up .bf16 (half X.G o)) (up .f32 (half (fun r l => X.E (l / 64) r) o)) = arg11.view.read (Elt Ideal) (arg11.view.writes (Elt Ideal) arg11.view.junk (kernelRun0_A (F := Ideal) dev i arg2 harg2 arg3 harg3 arg4 harg4 arg5 harg5 arg6 harg6 arg7 harg7 arg8 harg8 arg9 harg9 arg10 harg10 arg11 harg11 hc0 hc1 (up .bf16 (half X.Q o)) (up .bf16 (full X.K)) (up .bf16 (full X.V)) (up .bf16 (half X.G o)) (up .f32 (half (fun r l => X.E (l / 64) r) o))).2.2.2.2.val) :=
    (View.read_writes_eq_canon _ _ _ (scover0_A_1 (F := Ideal) dev i arg2 harg2 arg3 harg3 arg4 harg4 arg5 harg5 arg6 harg6 arg7 harg7 arg8 harg8 arg9 harg9 arg10 harg10 arg11 harg11 hc0 hc1 (up .bf16 (half X.Q o)) (up .bf16 (full X.K)) (up .bf16 (full X.V)) (up .bf16 (half X.G o)) (up .f32 (half (fun r l => X.E (l / 64) r) o)))).trans (View.read_writes_eq_canon _ _ _ (scover0_A_1 (F := Ideal) dev i arg2 harg2 arg3 harg3 arg4 harg4 arg5 harg5 arg6 harg6 arg7 harg7 arg8 harg8 arg9 harg9 arg10 harg10 arg11 harg11 hc0 hc1 (up .bf16 (half X.Q o)) (up .bf16 (full X.K)) (up .bf16 (full X.V)) (up .bf16 (half X.G o)) (up .f32 (half (fun r l => X.E (l / 64) r) o)))).symm
  rw [c0, c1]
  unfold out0_A_5 kernelRun0_A
  dsimp only
  sl_unfold_run_names
  simp only [t1, t2, st_k0_t2.eq_1, List.nil_append]
  unfold_payloads
  simp only [zeros_up, ← List.cons_append, View.writes_append, he1, he2, he3, he4, hq1, hq2, hg1, hg2, hk1, hk2, hv1, hv2, upto_up, before_up, causal_up, lanes0_up, lanes1_up, eighth_up,
    addf_up, subf_up, mulf_up, exp2_up, minimumf_up, absf_up, log_up, truncf_up, extf_up, zero_up, zero_up16, one_up, log2e_up, scale_up, bcol_up, nt_up, nn_up, nh_up, th_up, same_up, same_up1, only_up, below_up, sub_self, nn_zero, add_zero,
    e1, a1, a2, a3, a4]
  repeat (rw [rsum_up]; try simp only [zeros_up, ← List.cons_append, View.writes_append, he1, he2, he3, he4, hq1, hq2, hg1, hg2, hk1, hk2, hv1, hv2, upto_up, before_up, causal_up, lanes0_up, lanes1_up, eighth_up,
    addf_up, subf_up, mulf_up, exp2_up, minimumf_up, absf_up, log_up, truncf_up, extf_up, zero_up, zero_up16, one_up, log2e_up, scale_up, bcol_up, nt_up, nn_up, nh_up, th_up, same_up, same_up1, only_up, below_up, sub_self, nn_zero, add_zero,
    a1, a2, a3, a4])
  simp only [← dk_first X o, ← dk_last X o] at s2
  simp only [← dv_first X o, ← dv_last X o] at s4
  refine ⟨?_, s2 _ _ _ _ _ _ _ _ _, s4 _ _ _ _ _ _ _ _ _⟩
  refine (congrArg (fun p => VO0_5.read (Elt Ideal) (VO0_5.writes (Elt Ideal) VO0_5.junk p)) ?_).trans
    (store_half r16 VO0_5 VO0_5.junk (gq X) o inb_S512x128_S256x128_256_0 inb_S512x128_S256x128_0_0)
  rw [← dq_first X o, ← dq_last X o]
  rfl

set_option maxHeartbeats 2000000 in
/-- The body at a block of rows in between. -/
theorem point_B (hc0 : ¬cond0_0 i) (hc1 : ¬cond0_1 i) :
    out0_B_5 (F := Ideal) dev i arg2 harg2 arg3 harg3 arg4 harg4 arg5 harg5 arg6 harg6 arg7 harg7 arg8 harg8 arg9 harg9 arg10 harg10 arg11 harg11 hc0 hc1 (up .bf16 (half X.Q o)) (up .bf16 (full X.K)) (up .bf16 (full X.V)) (up .bf16 (half X.G o)) (up .f32 (half (fun r l => X.E (l / 64) r) o)) (up .f32 (full bk)) (up .f32 (full bv)) = up .bf16 (half (gq X) o) ∧
      sout0_B_0 (F := Ideal) dev i arg2 harg2 arg3 harg3 arg4 harg4 arg5 harg5 arg6 harg6 arg7 harg7 arg8 harg8 arg9 harg9 arg10 harg10 arg11 harg11 hc0 hc1 (up .bf16 (half X.Q o)) (up .bf16 (full X.K)) (up .bf16 (full X.V)) (up .bf16 (half X.G o)) (up .f32 (half (fun r l => X.E (l / 64) r) o)) (up .f32 (full bk)) (up .f32 (full bv)) = up .f32 (full (mid bk X.S X.Q o (o + 512))) ∧
      sout0_B_1 (F := Ideal) dev i arg2 harg2 arg3 harg3 arg4 harg4 arg5 harg5 arg6 harg6 arg7 harg7 arg8 harg8 arg9 harg9 arg10 harg10 arg11 harg11 hc0 hc1 (up .bf16 (half X.Q o)) (up .bf16 (full X.K)) (up .bf16 (full X.V)) (up .bf16 (half X.G o)) (up .f32 (half (fun r l => X.E (l / 64) r) o)) (up .f32 (full bk)) (up .f32 (full bv)) = up .f32 (full (mid bv X.A X.G o (o + 512))) := by
  obtain ⟨hq1, hq2, hg1, hg2, he1, he2, he3, he4, hk1, hk2, hv1, hv2⟩ := loads i arg2 harg2 arg3 harg3 arg4 harg4 arg5 harg5 arg6 harg6 X o ho
  have h5 : k0_off5 i = ![o, 0] := by rw [off5_eq, ho]
  have h6 : k0_off6 i = ![o + 256, 0] := by rw [off6_eq, ho]
  have t1 : Scf.trips (k0_t1_loop i).lb (k0_t1_loop i).ub (k0_t1_loop i).st = (i 1).val := trips1 i
  have t2 : Scf.trips (k0_t2_loop i).lb (k0_t2_loop i).ub (k0_t2_loop i).st = 0 := trips2 i
  have L := fun v0 v68 v69 v70 c2 v71 v76 v78 v79 => loop1 Variants.none dev none i arg2 harg2 arg3 harg3 arg4 harg4 arg5 harg5 arg6 harg6 arg7 harg7 arg8 harg8 arg9 harg9 arg10 harg10 arg11 harg11 v0 v68 v69 v70 c2 v71 v76 v78 v79 (harg3.unread (up .bf16 (full X.K))) (harg4.unread (up .bf16 (full X.V))) X o ho
    (harg10.unread (up .f32 (full bk))) (harg11.unread (up .f32 (full bv))) bk bv (harg3.read_unread _) (harg4.read_unread _) (harg10.read_unread _) (harg11.read_unread _) (i 1).val le_rfl
  have e1 := fun v0 v68 v69 v70 c2 v71 v76 v78 v79 => (L v0 v68 v69 v70 c2 v71 v76 v78 v79).1
  have e2 := fun v0 v68 v69 v70 c2 v71 v76 v78 v79 => (L v0 v68 v69 v70 c2 v71 v76 v78 v79).2.1
  have e3 := fun v0 v68 v69 v70 c2 v71 v76 v78 v79 => (L v0 v68 v69 v70 c2 v71 v76 v78 v79).2.2
  clear L
  simp only [← ho] at e1 e2 e3
  rw [carryAt_zero] at e1 e2 e3
  dsimp only [rows, carryAt, Carry.up] at e1 e2 e3
  have a1 := fun v0 v68 v69 v70 c2 v71 v76 v78 v79 => load_rows r32 arg10.view _ (mid bk X.S X.Q o o) (e2 v0 v68 v69 v70 c2 v71 v76 v78 v79) (k0_off5_inb i) h5
  have a2 := fun v0 v68 v69 v70 c2 v71 v76 v78 v79 w => (load_skip arg10.view (harg10.unread (up .f32 (full bk))) _ (k0_off5_inb i) (k0_off6_inb i) h5 h6 w).trans (load_rows r32 arg10.view _ (mid bk X.S X.Q o o) (e2 v0 v68 v69 v70 c2 v71 v76 v78 v79) (k0_off6_inb i) h6)
  have a3 := fun v0 v68 v69 v70 c2 v71 v76 v78 v79 => load_rows r32 arg11.view _ (mid bv X.A X.G o o) (e3 v0 v68 v69 v70 c2 v71 v76 v78 v79) (k0_off5_inb i) h5
  have a4 := fun v0 v68 v69 v70 c2 v71 v76 v78 v79 w => (load_skip arg11.view (harg11.unread (up .f32 (full bv))) _ (k0_off5_inb i) (k0_off6_inb i) h5 h6 w).trans (load_rows r32 arg11.view _ (mid bv X.A X.G o o) (e3 v0 v68 v69 v70 c2 v71 v76 v78 v79) (k0_off6_inb i) h6)
  change ∀ v0 v68 v69 v70 c2 v71 v76 v78 v79, _ = up .f32 (blk (mid bk X.S X.Q o o) o) at a1
  change ∀ v0 v68 v69 v70 c2 v71 v76 v78 v79 w, _ = up .f32 (blk (mid bk X.S X.Q o o) (o + 256)) at a2
  change ∀ v0 v68 v69 v70 c2 v71 v76 v78 v79, _ = up .f32 (blk (mid bv X.A X.G o o) o) at a3
  change ∀ v0 v68 v69 v70 c2 v71 v76 v78 v79 w, _ = up .f32 (blk (mid bv X.A X.G o o) (o + 256)) at a4
  have s1 := fun v0 v68 v69 v70 c2 v71 v76 v78 v79 => store_rows r32 arg10.view (harg10.unread (up .f32 (full bk))) _ _ (fun s l => mid bk X.S X.Q o o s l + inc X.S X.Q o s l) (e2 v0 v68 v69 v70 c2 v71 v76 v78 v79) (k0_off5_inb i) h5
  simp only [mid_first] at s1
  have s2 := fun v0 v68 v69 v70 c2 v71 v76 v78 v79 => store_rows r32 arg10.view (harg10.unread (up .f32 (full bk))) _ _ (fun s l => mid bk X.S X.Q o o s l + inc X.S X.Q o s l) (s1 v0 v68 v69 v70 c2 v71 v76 v78 v79) (k0_off6_inb i) h6
  simp only [mid_last] at s2
  have s3 := fun v0 v68 v69 v70 c2 v71 v76 v78 v79 => store_rows r32 arg11.view (harg11.unread (up .f32 (full bv))) _ _ (fun s l => mid bv X.A X.G o o s l + inc X.A X.G o s l) (e3 v0 v68 v69 v70 c2 v71 v76 v78 v79) (k0_off5_inb i) h5
  simp only [mid_first] at s3
  have s4 := fun v0 v68 v69 v70 c2 v71 v76 v78 v79 => store_rows r32 arg11.view (harg11.unread (up .f32 (full bv))) _ _ (fun s l => mid bv X.A X.G o o s l + inc X.A X.G o s l) (s3 v0 v68 v69 v70 c2 v71 v76 v78 v79) (k0_off6_inb i) h6
  simp only [mid_last] at s4
  unfold out0_B_5 sout0_B_0 sout0_B_1 kernelRun0_B
  dsimp only
  sl_unfold_run_names
  simp only [t1, t2, st_k0_t2.eq_1, List.nil_append]
  unfold_payloads
  simp only [he1, he2, he3, he4, hq1, hq2, hg1, hg2, hk1, hk2, hv1, hv2, upto_up, before_up, causal_up, lanes0_up, lanes1_up, eighth_up,
    addf_up, subf_up, mulf_up, exp2_up, minimumf_up, absf_up, log_up, truncf_up, extf_up, zero_up, zero_up16, one_up, log2e_up, scale_up, bcol_up, nt_up, nn_up, nh_up, th_up, same_up, same_up1, only_up, below_up, sub_self, nn_zero, add_zero,
    e1, a1, a2, a3, a4]
  repeat (rw [rsum_up]; try simp only [he1, he2, he3, he4, hq1, hq2, hg1, hg2, hk1, hk2, hv1, hv2, upto_up, before_up, causal_up, lanes0_up, lanes1_up, eighth_up,
    addf_up, subf_up, mulf_up, exp2_up, minimumf_up, absf_up, log_up, truncf_up, extf_up, zero_up, zero_up16, one_up, log2e_up, scale_up, bcol_up, nt_up, nn_up, nh_up, th_up, same_up, same_up1, only_up, below_up, sub_self, nn_zero, add_zero,
    a1, a2, a3, a4])
  simp only [← dk_first X o, ← dk_last X o] at s2
  simp only [← dv_first X o, ← dv_last X o] at s4
  refine ⟨?_, s2 _ _ _ _ _ _ _ _ _, s4 _ _ _ _ _ _ _ _ _⟩
  refine (congrArg (fun p => VO0_5.read (Elt Ideal) (VO0_5.writes (Elt Ideal) VO0_5.junk p)) ?_).trans
    (store_half r16 VO0_5 VO0_5.junk (gq X) o inb_S512x128_S256x128_256_0 inb_S512x128_S256x128_0_0)
  rw [← dq_first X o, ← dq_last X o]
  rfl

set_option maxHeartbeats 2000000 in
/-- The body at the last block of rows. -/
theorem point_C (hc0 : ¬cond0_0 i) (hc1 : cond0_1 i) :
    out0_C_5 (F := Ideal) dev i arg2 harg2 arg3 harg3 arg4 harg4 arg5 harg5 arg6 harg6 arg7 harg7 arg8 harg8 arg9 harg9 arg10 harg10 arg11 harg11 hc0 hc1 (up .bf16 (half X.Q o)) (up .bf16 (full X.K)) (up .bf16 (full X.V)) (up .bf16 (half X.G o)) (up .f32 (half (fun r l => X.E (l / 64) r) o)) (up .f32 (full bk)) (up .f32 (full bv)) = up .bf16 (half (gq X) o) ∧
      out0_C_6 (F := Ideal) dev i arg2 harg2 arg3 harg3 arg4 harg4 arg5 harg5 arg6 harg6 arg7 harg7 arg8 harg8 arg9 harg9 arg10 harg10 arg11 harg11 hc0 hc1 (up .bf16 (half X.Q o)) (up .bf16 (full X.K)) (up .bf16 (full X.V)) (up .bf16 (half X.G o)) (up .f32 (half (fun r l => X.E (l / 64) r) o)) (up .f32 (full bk)) (up .f32 (full bv)) = up .bf16 (full (fun s l => mid bk X.S X.Q o (o + 512) s l * (1 / 8))) ∧
      out0_C_7 (F := Ideal) dev i arg2 harg2 arg3 harg3 arg4 harg4 arg5 harg5 arg6 harg6 arg7 harg7 arg8 harg8 arg9 harg9 arg10 harg10 arg11 harg11 hc0 hc1 (up .bf16 (half X.Q o)) (up .bf16 (full X.K)) (up .bf16 (full X.V)) (up .bf16 (half X.G o)) (up .f32 (half (fun r l => X.E (l / 64) r) o)) (up .f32 (full bk)) (up .f32 (full bv)) = up .bf16 (full (mid bv X.A X.G o (o + 512))) ∧
      sout0_C_0 (F := Ideal) dev i arg2 harg2 arg3 harg3 arg4 harg4 arg5 harg5 arg6 harg6 arg7 harg7 arg8 harg8 arg9 harg9 arg10 harg10 arg11 harg11 hc0 hc1 (up .bf16 (half X.Q o)) (up .bf16 (full X.K)) (up .bf16 (full X.V)) (up .bf16 (half X.G o)) (up .f32 (half (fun r l => X.E (l / 64) r) o)) (up .f32 (full bk)) (up .f32 (full bv)) = up .f32 (full (mid bk X.S X.Q o (o + 512))) ∧
      sout0_C_1 (F := Ideal) dev i arg2 harg2 arg3 harg3 arg4 harg4 arg5 harg5 arg6 harg6 arg7 harg7 arg8 harg8 arg9 harg9 arg10 harg10 arg11 harg11 hc0 hc1 (up .bf16 (half X.Q o)) (up .bf16 (full X.K)) (up .bf16 (full X.V)) (up .bf16 (half X.G o)) (up .f32 (half (fun r l => X.E (l / 64) r) o)) (up .f32 (full bk)) (up .f32 (full bv)) = up .f32 (full (mid bv X.A X.G o (o + 512))) := by
  obtain ⟨hq1, hq2, hg1, hg2, he1, he2, he3, he4, hk1, hk2, hv1, hv2⟩ := loads i arg2 harg2 arg3 harg3 arg4 harg4 arg5 harg5 arg6 harg6 X o ho
  have h5 : k0_off5 i = ![o, 0] := by rw [off5_eq, ho]
  have h6 : k0_off6 i = ![o + 256, 0] := by rw [off6_eq, ho]
  have t1 : Scf.trips (k0_t1_loop i).lb (k0_t1_loop i).ub (k0_t1_loop i).st = (i 1).val := trips1 i
  have t2 : Scf.trips (k0_t2_loop i).lb (k0_t2_loop i).ub (k0_t2_loop i).st = 0 := trips2 i
  have L := fun v0 v68 v69 v70 c2 v71 v76 v78 v79 => loop1 Variants.none dev none i arg2 harg2 arg3 harg3 arg4 harg4 arg5 harg5 arg6 harg6 arg7 harg7 arg8 harg8 arg9 harg9 arg10 harg10 arg11 harg11 v0 v68 v69 v70 c2 v71 v76 v78 v79 (harg3.unread (up .bf16 (full X.K))) (harg4.unread (up .bf16 (full X.V))) X o ho
    (harg10.unread (up .f32 (full bk))) (harg11.unread (up .f32 (full bv))) bk bv (harg3.read_unread _) (harg4.read_unread _) (harg10.read_unread _) (harg11.read_unread _) (i 1).val le_rfl
  have e1 := fun v0 v68 v69 v70 c2 v71 v76 v78 v79 => (L v0 v68 v69 v70 c2 v71 v76 v78 v79).1
  have e2 := fun v0 v68 v69 v70 c2 v71 v76 v78 v79 => (L v0 v68 v69 v70 c2 v71 v76 v78 v79).2.1
  have e3 := fun v0 v68 v69 v70 c2 v71 v76 v78 v79 => (L v0 v68 v69 v70 c2 v71 v76 v78 v79).2.2
  clear L
  simp only [← ho] at e1 e2 e3
  rw [carryAt_zero] at e1 e2 e3
  dsimp only [rows, carryAt, Carry.up] at e1 e2 e3
  have a1 := fun v0 v68 v69 v70 c2 v71 v76 v78 v79 => load_rows r32 arg10.view _ (mid bk X.S X.Q o o) (e2 v0 v68 v69 v70 c2 v71 v76 v78 v79) (k0_off5_inb i) h5
  have a2 := fun v0 v68 v69 v70 c2 v71 v76 v78 v79 w => (load_skip arg10.view (harg10.unread (up .f32 (full bk))) _ (k0_off5_inb i) (k0_off6_inb i) h5 h6 w).trans (load_rows r32 arg10.view _ (mid bk X.S X.Q o o) (e2 v0 v68 v69 v70 c2 v71 v76 v78 v79) (k0_off6_inb i) h6)
  have a3 := fun v0 v68 v69 v70 c2 v71 v76 v78 v79 => load_rows r32 arg11.view _ (mid bv X.A X.G o o) (e3 v0 v68 v69 v70 c2 v71 v76 v78 v79) (k0_off5_inb i) h5
  have a4 := fun v0 v68 v69 v70 c2 v71 v76 v78 v79 w => (load_skip arg11.view (harg11.unread (up .f32 (full bv))) _ (k0_off5_inb i) (k0_off6_inb i) h5 h6 w).trans (load_rows r32 arg11.view _ (mid bv X.A X.G o o) (e3 v0 v68 v69 v70 c2 v71 v76 v78 v79) (k0_off6_inb i) h6)
  change ∀ v0 v68 v69 v70 c2 v71 v76 v78 v79, _ = up .f32 (blk (mid bk X.S X.Q o o) o) at a1
  change ∀ v0 v68 v69 v70 c2 v71 v76 v78 v79 w, _ = up .f32 (blk (mid bk X.S X.Q o o) (o + 256)) at a2
  change ∀ v0 v68 v69 v70 c2 v71 v76 v78 v79, _ = up .f32 (blk (mid bv X.A X.G o o) o) at a3
  change ∀ v0 v68 v69 v70 c2 v71 v76 v78 v79 w, _ = up .f32 (blk (mid bv X.A X.G o o) (o + 256)) at a4
  have s1 := fun v0 v68 v69 v70 c2 v71 v76 v78 v79 => store_rows r32 arg10.view (harg10.unread (up .f32 (full bk))) _ _ (fun s l => mid bk X.S X.Q o o s l + inc X.S X.Q o s l) (e2 v0 v68 v69 v70 c2 v71 v76 v78 v79) (k0_off5_inb i) h5
  simp only [mid_first] at s1
  have s2 := fun v0 v68 v69 v70 c2 v71 v76 v78 v79 => store_rows r32 arg10.view (harg10.unread (up .f32 (full bk))) _ _ (fun s l => mid bk X.S X.Q o o s l + inc X.S X.Q o s l) (s1 v0 v68 v69 v70 c2 v71 v76 v78 v79) (k0_off6_inb i) h6
  simp only [mid_last] at s2
  have s3 := fun v0 v68 v69 v70 c2 v71 v76 v78 v79 => store_rows r32 arg11.view (harg11.unread (up .f32 (full bv))) _ _ (fun s l => mid bv X.A X.G o o s l + inc X.A X.G o s l) (e3 v0 v68 v69 v70 c2 v71 v76 v78 v79) (k0_off5_inb i) h5
  simp only [mid_first] at s3
  have s4 := fun v0 v68 v69 v70 c2 v71 v76 v78 v79 => store_rows r32 arg11.view (harg11.unread (up .f32 (full bv))) _ _ (fun s l => mid bv X.A X.G o o s l + inc X.A X.G o s l) (s3 v0 v68 v69 v70 c2 v71 v76 v78 v79) (k0_off6_inb i) h6
  simp only [mid_last] at s4
  unfold out0_C_5 out0_C_6 out0_C_7 sout0_C_0 sout0_C_1 kernelRun0_C
  dsimp only
  sl_unfold_run_names
  simp only [t1, t2, st_k0_t2.eq_1, List.nil_append]
  unfold_payloads
  simp only [he1, he2, he3, he4, hq1, hq2, hg1, hg2, hk1, hk2, hv1, hv2, upto_up, before_up, causal_up, lanes0_up, lanes1_up, eighth_up,
    addf_up, subf_up, mulf_up, exp2_up, minimumf_up, absf_up, log_up, truncf_up, extf_up, zero_up, zero_up16, one_up, log2e_up, scale_up, bcol_up, nt_up, nn_up, nh_up, th_up, same_up, same_up1, only_up, below_up, sub_self, nn_zero, add_zero,
    e1, a1, a2, a3, a4]
  repeat (rw [rsum_up]; try simp only [he1, he2, he3, he4, hq1, hq2, hg1, hg2, hk1, hk2, hv1, hv2, upto_up, before_up, causal_up, lanes0_up, lanes1_up, eighth_up,
    addf_up, subf_up, mulf_up, exp2_up, minimumf_up, absf_up, log_up, truncf_up, extf_up, zero_up, zero_up16, one_up, log2e_up, scale_up, bcol_up, nt_up, nn_up, nh_up, th_up, same_up, same_up1, only_up, below_up, sub_self, nn_zero, add_zero,
    a1, a2, a3, a4])
  simp only [← dk_first X o, ← dk_last X o] at s2
  simp only [← dv_first X o, ← dv_last X o] at s4
  refine ⟨?_, ?_, ?_, s2 _ _ _ _ _ _ _ _ _, s4 _ _ _ _ _ _ _ _ _⟩
  · refine (congrArg (fun p => VO0_5.read (Elt Ideal) (VO0_5.writes (Elt Ideal) VO0_5.junk p)) ?_).trans
      (store_half r16 VO0_5 VO0_5.junk (gq X) o inb_S512x128_S256x128_256_0 inb_S512x128_S256x128_0_0)
    rw [← dq_first X o, ← dq_last X o]
    rfl
  · rw [store_full, load_full]
    refine (congrArg (fun z => shapeCast S2048x128 (truncf .bf16 (mulf (F := Ideal) z (up .f32 (cst S2048x128 (1 / 8)))) bitsLt_bf16_f32)
      shapeCasts_S2048x128_S2048x128) (s2 _ _ _ _ _ _ _ _ _)).trans (scaled_up _ _ _)
  · rw [store_full, load_full]
    refine (congrArg (fun z => shapeCast S2048x128 (truncf (F := Ideal) (φ := .f32) .bf16 z bitsLt_bf16_f32) shapeCasts_S2048x128_S2048x128) (s4 _ _ _ _ _ _ _ _ _)).trans (plain_up _ _ _)

end Cert.Proof.Sb

end
-- ==== Proof.SbHost.lean ====
/- What the host lines of `kernel_sb` hand to `_attn_bwd`: the arguments, and the rows' totals of `log₂ (1 - β)`. -/
module

public import proofs.«01_k».proof.Proof.SbDiag
public import proofs.«01_k».proof.Proof.Finite
public import Idealize.ShloMosaic.Lib.Pipeline.ValueKit
public import Idealize.ShloMosaic.Lib.Claim
public import Idealize.ShloMosaic.Lib.WordCmp

@[expose] public section

set_option maxRecDepth 16384

noncomputable section

namespace Cert.Proof.Sb

open Cert.KernelSbIdeal Cert.KernelSbIdeal.Gen Cert.KernelSbIdeal.Value Idealize.ShloMosaic Idealize.ShloMosaic.TcCoe Idealize.SL.Sem

/-- A whole array of reals. -/
abbrev Arr : Type := S1x2048x512.Idx → ℝ

/-- An array by row and column, zero outside. -/
def ext (f : Arr) (r l : ℕ) : ℝ := if h : r < 2048 ∧ l < 512 then f (ix3 0 ⟨r, h.1⟩ ⟨l, h.2⟩) else 0

theorem ext_eq (f : Arr) (r : Fin 2048) (l : Fin 512) : ext f r.val l.val = f (ix3 0 r l) := dif_pos ⟨r.isLt, l.isLt⟩

/-- A score of head `H`, before the scale. -/
def zz (q k : Arr) (H r s : ℕ) : ℝ := ∑ d : Fin 64, ext q r (H * 64 + d.val) * ext k s (H * 64 + d.val)
/-- A row's total of `log₂ (1 - β)` over the keys before it. -/
def tot (q k : Arr) (H r : ℕ) : ℝ := ∑ s ∈ Finset.range 2048, if s < r then lmR (zz q k H r s) else 0

/-- The arrays of pair `p` of the heads. -/
def dat (q k v g : Arr) (p : ℕ) : Data where
  Q := fun r l => ext q r (128 * p + l)
  K := fun r l => ext k r (128 * p + l)
  V := fun r l => ext v r (128 * p + l)
  G := fun r l => ext g r (128 * p + l)
  E := fun h r => tot q k (2 * p + h) r

/-- A sum over the lanes of a pair of heads that takes one head is the sum over that head's lanes. -/
theorem sum_head (f : ℕ → ℝ) (y : ℕ → ℝ) (p h : ℕ) (hh : h < 2) :
    (∑ l : Fin 128, (if l.val / 64 = h then f (128 * p + l.val) else 0) * y (128 * p + l.val))
      = ∑ d : Fin 64, f ((2 * p + h) * 64 + d.val) * y ((2 * p + h) * 64 + d.val) := by
  rw [Fin.sum_univ_eq_sum_range (fun l => (if l / 64 = h then f (128 * p + l) else 0) * y (128 * p + l)) 128,
    Fin.sum_univ_eq_sum_range (fun d => f ((2 * p + h) * 64 + d) * y ((2 * p + h) * 64 + d)) 64,
    show (128 : ℕ) = 64 + 64 from rfl, Finset.sum_range_add]
  obtain rfl | rfl : h = 0 ∨ h = 1 := by omega
  · rw [Finset.sum_eq_zero (s := Finset.range 64) (f := fun l => (if (64 + l) / 64 = 0 then _ else _) * _) fun l hl => ?_, add_zero]
    · refine Finset.sum_congr rfl fun l hl => ?_
      have := Finset.mem_range.mp hl
      rw [if_pos (by omega), show (64 + 64) * p + l = (2 * p + 0) * 64 + l by ring]
    · have := Finset.mem_range.mp hl
      rw [if_neg (by omega), zero_mul]
  · rw [Finset.sum_eq_zero (s := Finset.range 64) (f := fun l => (if l / 64 = 1 then _ else _) * _) fun l hl => ?_, zero_add]
    · refine Finset.sum_congr rfl fun l hl => ?_
      have := Finset.mem_range.mp hl
      rw [if_pos (by omega), show (64 + 64) * p + (64 + l) = (2 * p + 1) * 64 + l by ring]
    · have := Finset.mem_range.mp hl
      rw [if_neg (by omega), zero_mul]

theorem Z_dat (q k v g : Arr) (p h r s : ℕ) (hh : h < 2) : (dat q k v g p).Z h r s = zz q k (2 * p + h) r s :=
  sum_head (ext q r) (ext k s) p h hh
theorem D_dat (q k v g : Arr) (p h r s : ℕ) (hh : h < 2) : (dat q k v g p).D h r s = zz g v (2 * p + h) r s :=
  sum_head (ext g r) (ext v s) p h hh

/-- `2 ^ (-|z|)` in units of `log 2`. -/
theorem rpow_scaled (z : ℝ) : Real.rpow 2 (0 - |z * (8 * Real.log 2)⁻¹|) = Real.exp (-|z * (1 / 8)|) := by
  have h2 : 0 < Real.log 2 := Real.log_pos (by norm_num)
  rw [Real.rpow_eq_pow, Real.rpow_def_of_pos (by norm_num), abs_mul, abs_mul, abs_of_pos (by positivity : (0:ℝ) < (8 * Real.log 2)⁻¹),
    abs_of_pos (by norm_num : (0:ℝ) < 1 / 8)]
  congr 1
  field_simp
  ring

/-- `log₂ (1 - β)` in units of `log 2`. -/
theorem lmR_log (z : ℝ) : lmR z * Real.log 2 = -(max (z * (1 / 8)) 0 + Real.log (1 + Real.exp (-|z * (1 / 8)|))) := by
  have h2 : 0 < Real.log 2 := Real.log_pos (by norm_num)
  unfold lmR lbR
  rw [rpow_scaled]
  have e : z * (8 * Real.log 2)⁻¹ = z * (1 / 8) * (Real.log 2)⁻¹ := by field_simp
  have hm : min (z * (8 * Real.log 2)⁻¹) 0 - z * (8 * Real.log 2)⁻¹ = -(max (z * (1 / 8)) 0 * (Real.log 2)⁻¹) := by
    rw [e]
    obtain h | h := le_total (z * (1 / 8)) 0
    · rw [max_eq_right h, min_eq_left (mul_nonpos_of_nonpos_of_nonneg h (by positivity))]; ring
    · rw [max_eq_left h, min_eq_right (by positivity)]; ring
  have : min (z * (8 * Real.log 2)⁻¹) 0 - Real.log (1 + Real.exp (-|z * (1 / 8)|)) * (Real.log 2)⁻¹ - z * (8 * Real.log 2)⁻¹
      = -((max (z * (1 / 8)) 0 + Real.log (1 + Real.exp (-|z * (1 / 8)|))) * (Real.log 2)⁻¹) := by linarith
  rw [this, neg_mul, mul_assoc, inv_mul_cancel₀ h2.ne', mul_one]

theorem eighth_f32 : Ideal.ofBits .f32 1040187392#32 = ((1 / 8 : ℝ) : EReal) := by
  simp [Ideal.ofBits, Ideal.ieee, -EReal.coe_mul]
  norm_num
theorem two_f32 : Ideal.ofBits .f32 1073741824#32 = ((2 : ℝ) : EReal) := by
  simp [Ideal.ofBits, Ideal.ieee, -EReal.coe_mul]
  norm_num

/-- The host's `log_sigmoid` of a negated score. -/
theorem soft (z : ℝ) : -(max (((z * (1 / 8) : ℝ) : EReal)) (0 : EReal) + Ideal.log1p (Ideal.exp (-FloatOps.absf (F := Ideal) (φ := .f32) (((z * (1 / 8) : ℝ) : EReal)))))
    = ((lmR z * Real.log 2 : ℝ) : EReal) := by
  have ha : FloatOps.absf (F := Ideal) (φ := .f32) ((z * (1 / 8) : ℝ) : EReal) = ((|z * (1 / 8)| : ℝ) : EReal) := by
    show max ((z * (1 / 8) : ℝ) : EReal) (-((z * (1 / 8) : ℝ) : EReal)) = _
    rw [← EReal.coe_neg, ← EReal.coe_strictMono.monotone.map_max]
    rfl
  rw [ha, ← EReal.coe_neg, Ideal.exp_coe, lmR_log]
  unfold Ideal.log1p
  rw [← EReal.coe_one, ← EReal.coe_add, Ideal.log_coe, if_neg (not_le.mpr (by positivity)), ← EReal.coe_zero, ← EReal.coe_strictMono.monotone.map_max, ← EReal.coe_add, ← EReal.coe_neg]

variable (m : (ℓ : Loc nD τ sig) → Buf (Elt Ideal) ℓ) (c : Dev nD)

theorem V_q (r : Fin 2048) (l : Fin 512) : V m c main_v29 (ix2 r l) = m ((c : Thread nD τ).loc main_arg0) (ix3 0 r l) := by
  unfold V
  simp only [List.flatten_cons, List.flatten_nil, List.append_nil, hostOps0, hostOps0_1, hostOps0_2, hostOps0_3, hostOps0_4, hostOps0_5, hostOps0_6, List.cons_append, List.nil_append]
  entry_read
  pointwise
theorem V_k (r : Fin 2048) (l : Fin 512) : V m c main_v31 (ix2 r l) = m ((c : Thread nD τ).loc main_arg1) (ix3 0 r l) := by
  unfold V
  simp only [List.flatten_cons, List.flatten_nil, List.append_nil, hostOps0, hostOps0_1, hostOps0_2, hostOps0_3, hostOps0_4, hostOps0_5, hostOps0_6, List.cons_append, List.nil_append]
  entry_read
  pointwise
theorem V_v (r : Fin 2048) (l : Fin 512) : V m c main_v33 (ix2 r l) = m ((c : Thread nD τ).loc main_arg2) (ix3 0 r l) := by
  unfold V
  simp only [List.flatten_cons, List.flatten_nil, List.append_nil, hostOps0, hostOps0_1, hostOps0_2, hostOps0_3, hostOps0_4, hostOps0_5, hostOps0_6, List.cons_append, List.nil_append]
  entry_read
  pointwise
theorem V_g (r : Fin 2048) (l : Fin 512) : V m c main_v35 (ix2 r l) = m ((c : Thread nD τ).loc main_arg3) (ix3 0 r l) := by
  unfold V
  simp only [List.flatten_cons, List.flatten_nil, List.append_nil, hostOps0, hostOps0_1, hostOps0_2, hostOps0_3, hostOps0_4, hostOps0_5, hostOps0_6, List.cons_append, List.nil_append]
  entry_read
  pointwise

theorem V_tot (q k : Arr) (h0 : m ((c : Thread nD τ).loc main_arg0) = fun i => (q i : EReal)) (h1 : m ((c : Thread nD τ).loc main_arg1) = fun i => (k i : EReal))
    (r : Fin 2048) (l : Fin 512) : V m c main_v27 (ix2 r l) = ((tot q k (l.val / 64) r.val : ℝ) : EReal) := by
  have h0' : m (c, Proc.tc.devRef main_arg0) = fun i => (q i : EReal) := h0
  have h1' : m (c, Proc.tc.devRef main_arg1) = fun i => (k i : EReal) := h1
  unfold V
  simp only [List.flatten_cons, List.flatten_nil, List.append_nil, hostOps0, hostOps0_1, hostOps0_2, hostOps0_3, hostOps0_4, hostOps0_5, hostOps0_6, List.cons_append, List.nil_append]
  entry_read
  simp only [StableHlo.TRef.ofBuf_toBuf]
  simp only [StableHlo.TRef.ofBuf, StableHlo.TRef.toBuf, cast_eq]
  pointwise
  simp only [h0', h1']
  have hz : ∀ x : Fin 2048, (∑ d : Fin 64, ((q (ix3 0 r ⟨l.val / 64 * 64 + d.val, by omega⟩) : ℝ) : EReal)
      * ((k (ix3 0 x ⟨l.val / 64 * 64 + d.val, by omega⟩) : ℝ) : EReal)) = ((zz q k (l.val / 64) r.val x.val : ℝ) : EReal) := fun x => by
    unfold zz
    rw [coe_sum_mul]
    exact congrArg _ (Fin.sum_fin_congr fun d => by
      rw [← ext_eq q r ⟨l.val / 64 * 64 + d.val, by omega⟩, ← ext_eq k x ⟨l.val / 64 * 64 + d.val, by omega⟩])
  have h2 : 0 < Real.log 2 := Real.log_pos (by norm_num)
  have ht : ∀ x : Fin 2048, Scalar.select (IntOp.cmpi .slt (BitVec.ofNat 32 x.val) (BitVec.ofNat 32 r.val)) ((lmR (zz q k (l.val / 64) r.val x.val) * Real.log 2 : ℝ) : EReal) 0
      = (((if x.val < r.val then lmR (zz q k (l.val / 64) r.val x.val) else 0) * Real.log 2 : ℝ) : EReal) := fun x => by
    rw [WordCmp.cmpi_slt_ofNat (by omega) (by omega)]
    by_cases h : x.val < r.val
    · simp [h, Scalar.select]
    · simp [h, Scalar.select]
  simp only [hz, neg_neg, ne_eq, not_true_eq_false, if_false]
  simp only [eighth_f32, ← EReal.coe_mul, soft]
  simp only [ht]
  rw [← coe_sum, ← Finset.sum_mul, two_f32, Ideal.log_coe, if_neg (by norm_num), Ideal.div_coe h2.ne', ← EReal.coe_mul,
    mul_assoc, mul_one_div_cancel h2.ne', mul_one]
  unfold tot
  rw [Fin.sum_univ_eq_sum_range (fun x => if x < r.val then lmR (zz q k (l.val / 64) r.val x) else 0) 2048]

end Cert.Proof.Sb

end
-- ==== Proof.SbFold.lean ====
/- `_attn_bwd` point by point: the blocks that a point reads, what it writes, and the accumulators after it. -/
module

public import proofs.«01_k».proof.Proof.SbHost

@[expose] public section

set_option maxRecDepth 16384

noncomputable section

namespace Cert.Proof.Sb

open Cert.KernelSbIdeal Cert.KernelSbIdeal.Gen Cert.KernelSbIdeal.Value Idealize.ShloMosaic Idealize.ShloMosaic.TcCoe Idealize.SL.Sem

variable (m : (ℓ : Loc nD τ sig) → Buf (Elt Ideal) ℓ) (c : Dev nD) (q k v g : Arr)

/-- The arguments are the reals `q`, `k`, `v` and `g`. -/
structure Args : Prop where
  q : m ((c : Thread nD τ).loc main_arg0) = fun i => (q i : EReal)
  k : m ((c : Thread nD τ).loc main_arg1) = fun i => (k i : EReal)
  v : m ((c : Thread nD τ).loc main_arg2) = fun i => (v i : EReal)
  g : m ((c : Thread nD τ).loc main_arg3) = fun i => (g i : EReal)

theorem idx : ∀ t : Fin cfg0.N, (win0_0.index t = ![t.val % 4, t.val / 4] ∧ win0_1.index t = ![0, t.val / 4] ∧ win0_2.index t = ![0, t.val / 4]
    ∧ win0_3.index t = ![t.val % 4, t.val / 4] ∧ win0_4.index t = ![t.val % 4, t.val / 4]) ∧ win0_5.index t = ![t.val % 4, t.val / 4]
    ∧ win0_6.index t = ![0, t.val / 4] ∧ win0_7.index t = ![0, t.val / 4] := (by decide +kernel : ∀ t : Fin grid0.N, _)

theorem coords1 (t : Fin cfg0.N) : (grid0.coords t 1).val = t.val % 4 :=
  (Pipeline.Grid.coords_val t 1 (by decide) rfl : (grid0.coords t 1).val = t.val / 1 % 4).trans (by rw [Nat.div_one])

theorem lt16 (t : Fin cfg0.N) : t.val < 16 := lt_of_lt_of_eq t.isLt (show cfg0.N = 16 from N_0)

variable {m c q k v g} (H : Args m c q k v g) (t : Fin cfg0.N)
include H

theorem iblk_q : iblk m c 0 t = up .bf16 (half (dat q k v g (t.val / 4)).Q (512 * (t.val % 4))) := funext fun (y : S512x128.Idx) => by
  have hN := lt16 t
  have h0 : (y 0).val < 512 := (y 0).isLt
  have h1 : (y 1).val < 128 := (y 1).isLt
  refine Eq.trans ?_ ((V_q m c ⟨512 * (t.val % 4) + (y 0).val, by omega⟩ ⟨128 * (t.val / 4) + (y 1).val, by omega⟩).trans ?_)
  · blk_ext [iblk, idx t]
  · rw [H.q]
    exact congrArg _ (ext_eq q ⟨512 * (t.val % 4) + (y 0).val, _⟩ ⟨128 * (t.val / 4) + (y 1).val, _⟩).symm
theorem iblk_k : iblk m c 1 t = up .bf16 (full (dat q k v g (t.val / 4)).K ) := funext fun (y : S2048x128.Idx) => by
  have hN := lt16 t
  have h0 : (y 0).val < 2048 := (y 0).isLt
  have h1 : (y 1).val < 128 := (y 1).isLt
  refine Eq.trans ?_ ((V_k m c ⟨(y 0).val, by omega⟩ ⟨128 * (t.val / 4) + (y 1).val, by omega⟩).trans ?_)
  · blk_ext [iblk, idx t]
  · rw [H.k]
    exact congrArg _ (ext_eq k ⟨(y 0).val, _⟩ ⟨128 * (t.val / 4) + (y 1).val, _⟩).symm
theorem iblk_v : iblk m c 2 t = up .bf16 (full (dat q k v g (t.val / 4)).V ) := funext fun (y : S2048x128.Idx) => by
  have hN := lt16 t
  have h0 : (y 0).val < 2048 := (y 0).isLt
  have h1 : (y 1).val < 128 := (y 1).isLt
  refine Eq.trans ?_ ((V_v m c ⟨(y 0).val, by omega⟩ ⟨128 * (t.val / 4) + (y 1).val, by omega⟩).trans ?_)
  · blk_ext [iblk, idx t]
  · rw [H.v]
    exact congrArg _ (ext_eq v ⟨(y 0).val, _⟩ ⟨128 * (t.val / 4) + (y 1).val, _⟩).symm
theorem iblk_g : iblk m c 3 t = up .bf16 (half (dat q k v g (t.val / 4)).G (512 * (t.val % 4))) := funext fun (y : S512x128.Idx) => by
  have hN := lt16 t
  have h0 : (y 0).val < 512 := (y 0).isLt
  have h1 : (y 1).val < 128 := (y 1).isLt
  refine Eq.trans ?_ ((V_g m c ⟨512 * (t.val % 4) + (y 0).val, by omega⟩ ⟨128 * (t.val / 4) + (y 1).val, by omega⟩).trans ?_)
  · blk_ext [iblk, idx t]
  · rw [H.g]
    exact congrArg _ (ext_eq g ⟨512 * (t.val % 4) + (y 0).val, _⟩ ⟨128 * (t.val / 4) + (y 1).val, _⟩).symm
theorem iblk_t : iblk m c 4 t = up .f32 (half (fun r l => (dat q k v g (t.val / 4)).E (l / 64) r) (512 * (t.val % 4))) := funext fun (y : S512x128.Idx) => by
  have hN := lt16 t
  have h0 : (y 0).val < 512 := (y 0).isLt
  have h1 : (y 1).val < 128 := (y 1).isLt
  refine Eq.trans ?_ ((V_tot m c q k H.q H.k ⟨512 * (t.val % 4) + (y 0).val, by omega⟩ ⟨128 * (t.val / 4) + (y 1).val, by omega⟩).trans ?_)
  · blk_ext [iblk, idx t]
  · show ((tot q k ((128 * (t.val / 4) + (y 1).val) / 64) (512 * (t.val % 4) + (y 0).val) : ℝ) : EReal)
      = ((tot q k (2 * (t.val / 4) + (y 1).val / 64) (512 * (t.val % 4) + (y 0).val) : ℝ) : EReal)
    rw [show (128 * (t.val / 4) + (y 1).val) / 64 = 2 * (t.val / 4) + (y 1).val / 64 by omega]

omit H in
theorem base (t : Fin cfg0.N) : 512 * (t.val % 4) = 512 * (grid0.coords t 1).val := by rw [coords1]

variable (m c q k v g) in
/-- The accumulators after point `n`. -/
def Acc (n : ℕ) (hn : n < cfg0.N) : Prop :=
  (outsAt0 m c n hn).2.2.2.1 = up .f32 (full ((dat q k v g (n / 4)).DK (512 * (n % 4 + 1)))) ∧
    (outsAt0 m c n hn).2.2.2.2 = up .f32 (full ((dat q k v g (n / 4)).DV (512 * (n % 4 + 1))))

variable (m c q k v g) in
/-- What point `n` writes of the queries' gradient. -/
def Out (n : ℕ) (hn : n < cfg0.N) : Prop :=
  (outsAt0 m c n hn).1 = up .bf16 (half (gq (dat q k v g (n / 4))) (512 * (n % 4)))

variable (m c q k v g) in
/-- What the last point of a pair of heads writes of the keys' and values' gradients. -/
def Last (n : ℕ) (hn : n < cfg0.N) : Prop :=
  (outsAt0 m c n hn).2.1 = up .bf16 (full fun s l => (dat q k v g (n / 4)).DK 2048 s l * (1 / 8)) ∧
    (outsAt0 m c n hn).2.2.1 = up .bf16 (full ((dat q k v g (n / 4)).DV 2048))

omit H in
theorem step_DK (X : Data) (j : ℕ) : mid (X.DK (512 * j)) X.S X.Q (512 * j) (512 * j + 512) = X.DK (512 * (j + 1)) := mid_DK X (512 * j)
omit H in
theorem step_DV (X : Data) (j : ℕ) : mid (X.DV (512 * j)) X.A X.G (512 * j) (512 * j + 512) = X.DV (512 * (j + 1)) := mid_DV X (512 * j)
omit H in
theorem none_DK (X : Data) : X.DK (512 * 0) = fun _ _ => 0 := rfl
omit H in
theorem none_DV (X : Data) : X.DV (512 * 0) = fun _ _ => 0 := rfl

/-- The first point of a pair of heads. -/
theorem at_A (h : t.val % 4 = 0) : Out m c q k v g t.val t.isLt ∧ Acc m c q k v g t.val t.isLt := by
  unfold Out Acc
  rw [outsAt0_A m c t h (by omega), iblk_q H, iblk_k H, iblk_v H, iblk_g H, iblk_t H]
  dsimp only
  obtain ⟨h5, hk, hv⟩ := point_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _)
    (dat q k v g (t.val / 4)) (512 * (t.val % 4)) (base t) ((hcond0_0 t).mpr h) (fun h' => absurd ((hcond0_1 t).mp h') (by omega))
  refine ⟨h5, hk.trans ?_, hv.trans ?_⟩
  · rw [h, ← none_DK (dat q k v g (t.val / 4)), step_DK]
  · rw [h, ← none_DV (dat q k v g (t.val / 4)), step_DV]

/-- A point between. -/
theorem at_B (h0 : ¬t.val % 4 = 0) (h1 : ¬t.val % 4 = 3) (hp : Acc m c q k v g (t.val - 1) (lt_of_le_of_lt (Nat.sub_le _ _) t.isLt)) :
    Out m c q k v g t.val t.isLt ∧ Acc m c q k v g t.val t.isLt := by
  unfold Out Acc
  have e1 : (t.val - 1) / 4 = t.val / 4 := by omega
  have e2 : (t.val - 1) % 4 + 1 = t.val % 4 := by omega
  unfold Acc at hp
  rw [e1, e2] at hp
  rw [outsAt0_B m c t h0 h1, iblk_q H, iblk_k H, iblk_v H, iblk_g H, iblk_t H, hp.1, hp.2]
  dsimp only
  obtain ⟨h5, hk, hv⟩ := point_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _)
    (dat q k v g (t.val / 4)) (512 * (t.val % 4)) (base t) ((dat q k v g (t.val / 4)).DK (512 * (t.val % 4))) ((dat q k v g (t.val / 4)).DV (512 * (t.val % 4)))
    (fun h' => h0 ((hcond0_0 t).mp h')) (fun h' => h1 ((hcond0_1 t).mp h'))
  rw [step_DK] at hk
  rw [step_DV] at hv
  exact ⟨h5, hk, hv⟩

/-- The last point of a pair of heads. -/
theorem at_C (h0 : ¬t.val % 4 = 0) (h1 : t.val % 4 = 3) (hp : Acc m c q k v g (t.val - 1) (lt_of_le_of_lt (Nat.sub_le _ _) t.isLt)) :
    Out m c q k v g t.val t.isLt ∧ Last m c q k v g t.val t.isLt ∧ Acc m c q k v g t.val t.isLt := by
  unfold Out Last Acc
  have e1 : (t.val - 1) / 4 = t.val / 4 := by omega
  have e2 : (t.val - 1) % 4 + 1 = t.val % 4 := by omega
  unfold Acc at hp
  rw [e1, e2] at hp
  rw [outsAt0_C m c t h0 h1, iblk_q H, iblk_k H, iblk_v H, iblk_g H, iblk_t H, hp.1, hp.2]
  dsimp only
  obtain ⟨h5, h6, h7, hk, hv⟩ := point_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _)
    (dat q k v g (t.val / 4)) (512 * (t.val % 4)) (base t) ((dat q k v g (t.val / 4)).DK (512 * (t.val % 4))) ((dat q k v g (t.val / 4)).DV (512 * (t.val % 4)))
    (fun h' => h0 ((hcond0_0 t).mp h')) ((hcond0_1 t).mpr h1)
  rw [step_DK] at hk h6
  rw [step_DV] at hv h7
  rw [show 512 * (t.val % 4 + 1) = 2048 by omega] at h6 h7
  exact ⟨h5, ⟨h6, h7⟩, hk, hv⟩

/-- The accumulators after every point. -/
theorem acc : ∀ (n : ℕ) (hn : n < cfg0.N), Acc m c q k v g n hn
  | 0, hn => (at_A H ⟨0, hn⟩ rfl).2
  | n + 1, hn => by
    by_cases h0 : (n + 1) % 4 = 0
    · exact (at_A H ⟨n + 1, hn⟩ h0).2
    by_cases h1 : (n + 1) % 4 = 3
    · exact (at_C H ⟨n + 1, hn⟩ h0 h1 (acc n (by omega))).2.2
    · exact (at_B H ⟨n + 1, hn⟩ h0 h1 (acc n (by omega))).2

theorem out_q : Out m c q k v g t.val t.isLt := by
  by_cases h0 : t.val % 4 = 0
  · exact (at_A H t h0).1
  by_cases h1 : t.val % 4 = 3
  · exact (at_C H t h0 h1 (acc H _ _)).1
  · exact (at_B H t h0 h1 (acc H _ _)).1

theorem out_kv (h1 : t.val % 4 = 3) : Last m c q k v g t.val t.isLt :=
  (at_C H t (by omega) h1 (acc H _ _)).2.1

end Cert.Proof.Sb

end
-- ==== Proof.SbArray.lean ====
/- The arrays that `_attn_bwd` leaves: the gradients of the queries, keys and values. -/
module

public import proofs.«01_k».proof.Proof.SbFold

@[expose] public section

set_option maxRecDepth 16384

noncomputable section

namespace Cert.Proof.Sb

open Cert.KernelSbIdeal Cert.KernelSbIdeal.Gen Cert.KernelSbIdeal.Value Idealize.ShloMosaic Idealize.ShloMosaic.TcCoe Idealize.SL.Sem

/-- A gradient, given for each pair of heads, as an array. -/
def result (f : ℕ → ℕ → ℕ → ℝ) (y : S2048x512.Idx) : EReal := ((f ((y 1).val / 128) (y 0).val ((y 1).val % 128) : ℝ) : EReal)

variable {m : (ℓ : Loc nD τ sig) → Buf (Elt Ideal) ℓ} {c : Dev nD} {q k v g : Arr} (H : Args m c q k v g)
include H

theorem final_q : (dats m 0 c).arrAt 5 (cfgs 0).N = result fun p => gq (dat q k v g p) := by
  refine (dats m 0 c).arrAt_eq_of_covers 5 _ (by decide +kernel) fun t hf y => ?_
  have h1 : (y 1).val < 128 := (y 1).isLt
  rw [after0_5, out_q H t]
  unfold result
  blk_simp [idx t]
  rw [show (t.val / 4 * 128 + (y 1).val) / 128 = t.val / 4 by omega, show (t.val / 4 * 128 + (y 1).val) % 128 = (y 1).val by omega, Nat.mul_comm (t.val % 4) 512]
  rfl

theorem final_k : (dats m 0 c).arrAt 6 (cfgs 0).N = result fun p s l => (dat q k v g p).DK 2048 s l * (1 / 8) := by
  refine (dats m 0 c).arrAt_eq_of_covers 6 _ (by decide +kernel) fun t hf y => ?_
  have h1 : (y 1).val < 128 := (y 1).isLt
  rw [after0_6, (out_kv H t ((flush0_6 t).mp hf)).1]
  unfold result
  blk_simp [idx t]
  rw [show (t.val / 4 * 128 + (y 1).val) / 128 = t.val / 4 by omega, show (t.val / 4 * 128 + (y 1).val) % 128 = (y 1).val by omega]
  rfl

theorem final_v : (dats m 0 c).arrAt 7 (cfgs 0).N = result fun p => (dat q k v g p).DV 2048 := by
  refine (dats m 0 c).arrAt_eq_of_covers 7 _ (by decide +kernel) fun t hf y => ?_
  have h1 : (y 1).val < 128 := (y 1).isLt
  rw [after0_7, (out_kv H t ((flush0_7 t).mp hf)).2]
  unfold result
  blk_simp [idx t]
  rw [show (t.val / 4 * 128 + (y 1).val) / 128 = t.val / 4 by omega, show (t.val / 4 * 128 + (y 1).val) % 128 = (y 1).val by omega]
  rfl

end Cert.Proof.Sb

end
-- ==== Proof.SbRef.lean ====
/- The derivative of the forward lines of the stick-breaking attention, read at an index at finite arguments. -/
module

public import proofs.«01_k».proof.Proof.SbArray
public import proofs.«01_k».proof.Proof.Gen.ReferenceSbIdeal.Read

@[expose] public section

set_option maxRecDepth 16384

noncomputable section

namespace Cert.Proof.SbRef

open Cert.ReferenceSbIdeal Cert.ReferenceSbIdeal.Gen Cert.ReferenceSbIdeal.Read Idealize.ShloMosaic
open Cert.Proof.Sb (Arr ext ext_eq zz dat lmR lbR lmR_log soft tot Z_dat D_dat gq eighth_f32 DQ_ge)

theorem foldl_sum {N : ℕ} (g : Fin N → EReal) : (List.finRange N).foldl (fun r n => r + g n) 0 = ∑ n, g n := by
  rw [← List.sum_ofFn, List.ofFn_eq_map]
  suffices ∀ (l : List (Fin N)) (z : EReal), l.foldl (fun r n => r + g n) z = z + (l.map g).sum by rw [this, zero_add]
  intro l
  induction l with
  | nil => intro z; simp
  | cons a l ih => intro z; rw [List.foldl_cons, ih, List.map_cons, List.sum_cons, add_assoc]

/-- The positions of a window along the last axis. -/
def along : (⟨4, ![1, 1, 1, 2048]⟩ : Shape).Idx ≃ Fin 2048 where
  toFun w := w 3
  invFun w := ix4 (0 : Fin 1) (0 : Fin 1) (0 : Fin 1) w
  left_inv w := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
  right_inv _ := rfl

theorem sum_positions (G : (⟨4, ![1, 1, 1, 2048]⟩ : Shape).Idx → EReal) :
    ∑ n, G ((Shape.rowMajor ⟨4, ![1, 1, 1, 2048]⟩).symm n) = ∑ w : Fin 2048, G (along.symm w) :=
  (Equiv.sum_comp (Shape.rowMajor _).symm G).trans (Equiv.sum_comp along.symm G).symm

/-- A window sum along the last axis, read at an index. -/
theorem window (L : ℕ) (hi : Fin 4 → ℕ) (x : S1x8x2048x2048.Idx → EReal) (f : ℕ → EReal) (H : Fin 8) (r s : Fin 2048)
    (hx : ∀ u : Fin 2048, x (ix4 0 H r u) = f u.val)
    (h : S1x8x2048x2048.ReduceWindows ![1, 1, 1, 2048] ![1, 1, 1, 1] ![0, 0, 0, L] hi S1x8x2048x2048) :
    Ideal.hostReduceWindowAdd ![1, 1, 1, 2048] ![1, 1, 1, 1] ![0, 0, 0, L] hi h x 0 (ix4 0 H r s)
      = ∑ w : Fin 2048, if L ≤ s.val + w.val ∧ s.val + w.val - L < 2048 then f (s.val + w.val - L) else 0 := by
  unfold Ideal.hostReduceWindowAdd Host.reduceWindow
  dsimp only
  rw [foldl_sum]
  have hH := H.isLt
  have hr := r.isLt
  refine (Finset.sum_congr rfl fun n _ => ?_).trans (sum_positions fun w => if L ≤ s.val + (w 3).val ∧ s.val + (w 3).val - L < 2048 then f (s.val + (w 3).val - L) else 0)
  let w : (⟨4, ![1, 1, 1, 2048]⟩ : Shape).Idx := (Shape.rowMajor ⟨4, ![1, 1, 1, 2048]⟩).symm n
  have w1 : (w 1).val = 0 := Nat.lt_one_iff.mp (w 1).isLt
  have w2 : (w 2).val = 0 := Nat.lt_one_iff.mp (w 2).isLt
  by_cases c : L ≤ s.val + (w 3).val ∧ s.val + (w 3).val - L < 2048
  · refine (dif_pos ?_).trans (Eq.trans ?_ (if_pos c).symm)
    · intro a
      match a with
      | ⟨0, _⟩ => exact ⟨Nat.zero_le _, show 0 * 1 + (w 0).val - 0 < 1 by have : (w 0).val < 1 := (w 0).isLt; omega⟩
      | ⟨1, _⟩ => exact ⟨Nat.zero_le _, show H.val * 1 + (w 1).val - 0 < 8 by omega⟩
      | ⟨2, _⟩ => exact ⟨Nat.zero_le _, show r.val * 1 + (w 2).val - 0 < 2048 by omega⟩
      | ⟨3, _⟩ => exact ⟨show L ≤ s.val * 1 + (w 3).val by omega, show s.val * 1 + (w 3).val - L < 2048 by omega⟩
    · rw [← hx ⟨_, c.2⟩]
      refine congrArg x (funext fun a => ?_)
      match a with
      | ⟨0, _⟩ => exact Subsingleton.elim (α := Fin 1) _ _
      | ⟨1, _⟩ => exact Fin.ext (show H.val * 1 + (w 1).val - 0 = H.val by omega)
      | ⟨2, _⟩ => exact Fin.ext (show r.val * 1 + (w 2).val - 0 = r.val by omega)
      | ⟨3, _⟩ => exact Fin.ext (show s.val * 1 + (w 3).val - L = s.val + (w 3).val - L by omega)
  · refine (dif_neg fun e => c ?_).trans (if_neg c).symm
    have h3 : L ≤ s.val * 1 + (w 3).val ∧ s.val * 1 + (w 3).val - L < 2048 := e 3
    omega

theorem tail_sum (f : ℕ → ℝ) (n s : ℕ) (h : s ≤ n) :
    (∑ w ∈ Finset.range n, if s + w < n then f (s + w) else 0) = ∑ u ∈ Finset.range n, f u - ∑ u ∈ Finset.range s, f u := by
  obtain ⟨d, rfl⟩ := Nat.exists_eq_add_of_le h
  rw [Finset.sum_range_add f, add_sub_cancel_left, Nat.add_comm s d, Finset.sum_range_add _ d s,
    Finset.sum_eq_zero (s := Finset.range s) fun w hw => if_neg (by omega), add_zero]
  exact Finset.sum_congr rfl fun w hw => if_pos (by have := Finset.mem_range.mp hw; omega)

theorem head_sum (f : ℕ → ℝ) (n s : ℕ) (h : s ≤ n) :
    (∑ w ∈ Finset.range (n + 1), if n ≤ s + w then f (s + w - n) else 0) = ∑ u ∈ Finset.range (s + 1), f u := by
  obtain ⟨d, rfl⟩ := Nat.exists_eq_add_of_le h
  rw [show s + d + 1 = d + (s + 1) by omega, Finset.sum_range_add _ d (s + 1),
    Finset.sum_eq_zero (s := Finset.range d) fun w hw => if_neg (by have := Finset.mem_range.mp hw; omega), zero_add]
  exact Finset.sum_congr rfl fun w hw => by rw [if_pos (by omega)]; congr 1; omega

/-- A window sum along the last axis of reals, each row summed from an index on. -/
theorem sum_from (f : ℕ → ℝ) (s : Fin 2048) :
    (∑ w : Fin 2048, if 0 ≤ s.val + w.val ∧ s.val + w.val - 0 < 2048 then ((f (s.val + w.val - 0) : ℝ) : EReal) else 0)
      = ((∑ u ∈ Finset.range 2048, f u - ∑ u ∈ Finset.range s.val, f u : ℝ) : EReal) := by
  have e : ∀ w : Fin 2048, (if 0 ≤ s.val + w.val ∧ s.val + w.val - 0 < 2048 then ((f (s.val + w.val - 0) : ℝ) : EReal) else 0)
      = ((if s.val + w.val < 2048 then f (s.val + w.val) else 0 : ℝ) : EReal) := fun w => by
    rw [Nat.sub_zero]
    by_cases h : s.val + w.val < 2048
    · rw [if_pos ⟨Nat.zero_le _, h⟩, if_pos h]
    · rw [if_neg fun h' => h h'.2, if_neg h, EReal.coe_zero]
  rw [Finset.sum_congr rfl fun w _ => e w, ← coe_sum, Fin.sum_univ_eq_sum_range (fun w => if s.val + w < 2048 then f (s.val + w) else 0) 2048]
  exact congrArg _ (tail_sum f 2048 s.val s.isLt.le)

/-- The same, each row summed up to an index. -/
theorem sum_upto (f : ℕ → ℝ) (s : Fin 2048) :
    (∑ w : Fin 2048, if 2047 ≤ s.val + w.val ∧ s.val + w.val - 2047 < 2048 then ((f (s.val + w.val - 2047) : ℝ) : EReal) else 0)
      = ((∑ u ∈ Finset.range (s.val + 1), f u : ℝ) : EReal) := by
  have e : ∀ w : Fin 2048, (if 2047 ≤ s.val + w.val ∧ s.val + w.val - 2047 < 2048 then ((f (s.val + w.val - 2047) : ℝ) : EReal) else 0)
      = ((if 2047 ≤ s.val + w.val then f (s.val + w.val - 2047) else 0 : ℝ) : EReal) := fun w => by
    by_cases h : 2047 ≤ s.val + w.val
    · rw [if_pos ⟨h, by omega⟩, if_pos h]
    · rw [if_neg fun h' => h h'.1, if_neg h, EReal.coe_zero]
  rw [Finset.sum_congr rfl fun w _ => e w, ← coe_sum, Fin.sum_univ_eq_sum_range (fun w => if 2047 ≤ s.val + w then f (s.val + w - 2047) else 0) (2047 + 1)]
  exact congrArg _ (head_sum f 2047 s.val (by omega))

theorem log_two : 0 < Real.log 2 := Real.log_pos (by norm_num)

theorem lbR_lmR (z : ℝ) : lbR z * Real.log 2 = lmR z * Real.log 2 + z * (1 / 8) := by
  unfold lmR
  have := log_two.ne'
  field_simp
  ring

/-- `log_sigmoid` of a negated score. -/
theorem lmR_neg (z : ℝ) : lmR (-z) * Real.log 2 = lbR z * Real.log 2 := by
  rw [lbR_lmR, lmR_log, lmR_log, neg_mul, abs_neg]
  obtain h | h := le_total (z * (1 / 8)) 0
  · rw [max_eq_right h, max_eq_left (by linarith)]; ring
  · rw [max_eq_left h, max_eq_right (by linarith)]; ring

theorem two_pow (a : ℝ) : Real.rpow 2 a = Real.exp (a * Real.log 2) := by
  rw [Real.rpow_eq_pow, Real.rpow_def_of_pos (by norm_num), mul_comm]

/-- `β + (1 - β) = 1`. -/
theorem beta_add (z : ℝ) : Real.rpow 2 (lbR z) + Real.rpow 2 (lmR z) = 1 := by
  rw [two_pow, two_pow, lbR_lmR, Real.exp_add, lmR_log, neg_add, Real.exp_add, Real.exp_neg (Real.log _), Real.exp_log (by positivity)]
  have h1 : (0 : ℝ) < 1 + Real.exp (-|z * (1 / 8)|) := by positivity
  obtain h | h := le_total (z * (1 / 8)) 0
  · rw [max_eq_right h, abs_of_nonpos h, neg_neg, neg_zero, Real.exp_zero]
    field_simp
    ring
  · rw [max_eq_left h, abs_of_nonneg h]
    rw [abs_of_nonneg h] at h1
    rw [Real.exp_neg (z * (1 / 8))] at h1 ⊢
    have := Real.exp_pos (z * (1 / 8))
    field_simp

/-- The host's `log_sigmoid`. -/
theorem soft_if (z : ℝ) : (if ((z * (1 / 8) : ℝ) : EReal) ≠ ((z * (1 / 8) : ℝ) : EReal) then ((z * (1 / 8) : ℝ) : EReal) else
    max ((z * (1 / 8) : ℝ) : EReal) 0 + Ideal.log1p (Ideal.exp (-FloatOps.absf (F := Ideal) (φ := .f32) ((z * (1 / 8) : ℝ) : EReal)))) = ((-(lmR z * Real.log 2) : ℝ) : EReal) := by
  rw [if_neg (not_not.mpr rfl), EReal.coe_neg, ← soft, neg_neg]

/-- The factor by which it hands a gradient on. -/
theorem soft_grad (a b : ℝ) : Ideal.exp ((if (a : EReal) = Ideal.ofBits .f32 0x7F800000#32 then 0 else (a : EReal)) - (if (b : EReal) = Ideal.ofBits .f32 0x7F800000#32 then 0 else (b : EReal)))
    = ((Real.exp (a - b) : ℝ) : EReal) := by
  rw [inf_f32, if_neg (EReal.coe_ne_top _), if_neg (EReal.coe_ne_top _), ← EReal.coe_sub, Ideal.exp_coe]

variable (q k v g : Arr) (H : Fin 8) (r s : Fin 2048)

theorem at6 : val_main_v6 (F := Ideal) (fun i => (q i : EReal)) (fun i => (k i : EReal)) (ix4 0 H r s) = ((zz q k H.val r.val s.val * (1 / 8) : ℝ) : EReal) := by
  pointwise [val_main_v6, val_main_v5, val_main_cst, val_main_v4, val_main_v3, val_main_v2, val_main_v1, val_main_v0]
  rw [coe_sum_mul, eighth_f32, ← EReal.coe_mul]
  unfold zz
  congr 2
  exact Fin.sum_fin_congr fun d => by
    rw [← ext_eq q r ⟨H.val * 64 + d.val, by omega⟩, ← ext_eq k s ⟨H.val * 64 + d.val, by omega⟩]

theorem at32 : val_main_v32 (F := Ideal) (fun i => (v i : EReal)) (fun i => (g i : EReal)) (ix4 0 H r s) = ((zz g v H.val r.val s.val : ℝ) : EReal) := by
  pointwise [val_main_v32, val_main_v29, val_main_v28, val_main_v24, val_main_v23]
  rw [coe_sum_mul]
  unfold zz
  congr 1
  exact Fin.sum_fin_congr fun d => by
    rw [← ext_eq g r ⟨H.val * 64 + d.val, by omega⟩, ← ext_eq v s ⟨H.val * 64 + d.val, by omega⟩]

theorem at16_0 : val_main_v16_0 (F := Ideal) (fun i => (q i : EReal)) (fun i => (k i : EReal)) (ix4 0 H r s) = ((lmR (zz q k H.val r.val s.val) * Real.log 2 : ℝ) : EReal) := by
  pointwise [val_main_v15, val_main_v16_0, val_main_v16_1, val_main_v16_2, val_main_call1_v0, val_main_call1_v1_0, val_main_call1_call0_v0, val_main_call1_call0_v1, val_main_call1_call0_v2, val_main_call1_call0_v3, val_main_call1_call0_v4, val_main_call1_call0_v5, val_main_call1_call0_v6, val_main_call1_call0_v7, val_main_call1_call0_v8, val_main_call1_call0_v9, val_main_call1_call0_v10, val_main_call1_call0_v11, val_main_call1_call0_v13, val_main_call1_call0_v14, val_main_call1_call0_v15, val_main_call1_call0_v16, val_main_call1_call0_v17, val_main_call1_call0_v18, val_main_call1_call0_v19, val_main_call1_call0_v20, val_main_call1_call0_v21, val_main_call1_call0_cst, val_main_call1_call0_cst_0, val_main_call1_call0_cst_1, val_main_call1_call0_cst_2, val_main_call1_call0_cst_3]
  rw [at6 q k H r s, neg_neg, soft_if, ← EReal.coe_neg, neg_neg]

theorem at16_1 : val_main_v16_1 (F := Ideal) (fun i => (q i : EReal)) (fun i => (k i : EReal)) (ix4 0 H r s) = ((Real.rpow 2 (lbR (zz q k H.val r.val s.val)) : ℝ) : EReal) := by
  pointwise [val_main_v15, val_main_v16_0, val_main_v16_1, val_main_v16_2, val_main_call1_v0, val_main_call1_v1_0, val_main_call1_call0_v0, val_main_call1_call0_v1, val_main_call1_call0_v2, val_main_call1_call0_v3, val_main_call1_call0_v4, val_main_call1_call0_v5, val_main_call1_call0_v6, val_main_call1_call0_v7, val_main_call1_call0_v8, val_main_call1_call0_v9, val_main_call1_call0_v10, val_main_call1_call0_v11, val_main_call1_call0_v13, val_main_call1_call0_v14, val_main_call1_call0_v15, val_main_call1_call0_v16, val_main_call1_call0_v17, val_main_call1_call0_v18, val_main_call1_call0_v19, val_main_call1_call0_v20, val_main_call1_call0_v21, val_main_call1_call0_cst, val_main_call1_call0_cst_0, val_main_call1_call0_cst_1, val_main_call1_call0_cst_2, val_main_call1_call0_cst_3]
  rw [at6 q k H r s, neg_neg, soft_if, soft_grad, two_pow, lbR_lmR]
  congr 2
  ring

theorem at14_0 : val_main_v14_0 (F := Ideal) (fun i => (q i : EReal)) (fun i => (k i : EReal)) (ix4 0 H r s) = ((lbR (zz q k H.val r.val s.val) * Real.log 2 : ℝ) : EReal) := by
  pointwise [val_main_v14_0, val_main_v14_1, val_main_v14_2, val_main_call0_v0, val_main_call0_v1_0, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_call0_v13, val_main_call0_call0_v14, val_main_call0_call0_v15, val_main_call0_call0_v16, val_main_call0_call0_v17, val_main_call0_call0_v18, val_main_call0_call0_v19, val_main_call0_call0_v20, val_main_call0_call0_v21, val_main_call0_call0_cst, val_main_call0_call0_cst_0, val_main_call0_call0_cst_1, val_main_call0_call0_cst_2, val_main_call0_call0_cst_3]
  rw [at6 q k H r s, ← EReal.coe_neg, ← neg_mul, soft_if, ← EReal.coe_neg, neg_neg, lmR_neg]

theorem at14_1 : val_main_v14_1 (F := Ideal) (fun i => (q i : EReal)) (fun i => (k i : EReal)) (ix4 0 H r s) = ((Real.rpow 2 (lmR (zz q k H.val r.val s.val)) : ℝ) : EReal) := by
  pointwise [val_main_v14_0, val_main_v14_1, val_main_v14_2, val_main_call0_v0, val_main_call0_v1_0, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_call0_v13, val_main_call0_call0_v14, val_main_call0_call0_v15, val_main_call0_call0_v16, val_main_call0_call0_v17, val_main_call0_call0_v18, val_main_call0_call0_v19, val_main_call0_call0_v20, val_main_call0_call0_v21, val_main_call0_call0_cst, val_main_call0_call0_cst_0, val_main_call0_call0_cst_1, val_main_call0_call0_cst_2, val_main_call0_call0_cst_3]
  rw [at6 q k H r s, ← EReal.coe_neg, ← neg_mul, soft_if, soft_grad, two_pow, lmR_neg, lbR_lmR]
  congr 2
  ring

theorem Z_head (r s : ℕ) : (dat q k v g (H.val / 2)).Z (H.val % 2) r s = zz q k H.val r s := by
  rw [Z_dat q k v g _ _ r s (Nat.mod_lt _ (by decide)), Nat.div_add_mod]
theorem D_head (r s : ℕ) : (dat q k v g (H.val / 2)).D (H.val % 2) r s = zz g v H.val r s := by
  rw [D_dat q k v g _ _ r s (Nat.mod_lt _ (by decide)), Nat.div_add_mod]
theorem M_head (r s : ℕ) : (dat q k v g (H.val / 2)).M (H.val % 2) r s = if s < r then lmR (zz q k H.val r s) else 0 := by
  unfold Sb.Data.M
  rw [Z_head]
theorem E_head (r : ℕ) : (dat q k v g (H.val / 2)).E (H.val % 2) r = (dat q k v g (H.val / 2)).CL (H.val % 2) r 2048 := by
  show tot q k (2 * (H.val / 2) + H.val % 2) r = _
  unfold Sb.Data.CL tot
  rw [Nat.div_add_mod]
  exact Finset.sum_congr rfl fun s _ => (M_head q k v g H r s).symm

/-- The mask of the keys before a row. -/
theorem select_before (x : ℝ) : Scalar.select (IntOp.cmpi .slt (BitVec.ofNat 32 s.val) (BitVec.ofNat 32 r.val)) (x : EReal) 0
    = ((if s.val < r.val then x else 0 : ℝ) : EReal) := by
  rw [WordCmp.cmpi_slt_ofNat (by omega) (by omega)]
  by_cases h : s.val < r.val
  · simp [h, Scalar.select]
  · simp [h, Scalar.select]

theorem zero_id : id (constant (F := Ideal) S_ .f32 0x00000000#32) ix0 = 0 := by
  show Ideal.ofBits .f32 0x00000000#32 = 0
  simp [Ideal.ofBits, Ideal.ieee]

theorem at17 : val_main_v17_0 (F := Ideal) (fun i => (q i : EReal)) (fun i => (k i : EReal)) (ix4 0 H r s) = (((dat q k v g (H.val / 2)).M (H.val % 2) r.val s.val * Real.log 2 : ℝ) : EReal) := by
  pointwise [val_main_v17_0, val_main_v17_1, val_main_v13, val_main_v12, val_main_v11, val_main_v10, val_main_v9, val_main_v8, val_main_v7, val_main_call2_v2, val_main_call2_v0, val_main_cst_0]
  rw [at16_0 q k H r s, zero_id, select_before, M_head, ite_mul, zero_mul]

theorem at18 : val_main_v18 (F := Ideal) (fun i => (q i : EReal)) (fun i => (k i : EReal)) (ix4 0 H r s) = ((((dat q k v g (H.val / 2)).CL (H.val % 2) r.val 2048 - (dat q k v g (H.val / 2)).CL (H.val % 2) r.val s.val) * Real.log 2 : ℝ) : EReal) := by
  have e : val_main_call3_v0 (F := Ideal) (Shape.Idx.first h_S_) = 0 := by
    pointwise [val_main_call3_v0, val_main_call3_cst]
  unfold val_main_v18 Host.reduceWindowAdd
  rw [Ideal.hostReduceWindowAdd_def, e, window 0 _ _ (fun u => (((dat q k v g (H.val / 2)).M (H.val % 2) r.val u * Real.log 2 : ℝ) : EReal)) H r s (fun u => at17 q k v g H r u),
    sum_from (fun u => (dat q k v g (H.val / 2)).M (H.val % 2) r.val u * Real.log 2) s, ← Finset.sum_mul, ← Finset.sum_mul, ← sub_mul]
  rfl

theorem at21 : val_main_v21 (F := Ideal) (fun i => (q i : EReal)) (fun i => (k i : EReal)) (ix4 0 H r s) = ((Real.rpow 2 (lbR (zz q k H.val r.val s.val) + ((dat q k v g (H.val / 2)).E (H.val % 2) r.val - (dat q k v g (H.val / 2)).CL (H.val % 2) r.val (s.val + 1))) : ℝ) : EReal) := by
  pointwise [val_main_v21, val_main_v20, val_main_v19]
  rw [at14_0 q k H r s, at18 q k v g H r s, at17 q k v g H r s, ← EReal.coe_add, ← EReal.coe_sub, Ideal.exp_coe, two_pow, E_head]
  congr 2
  unfold Sb.Data.CL
  rw [Finset.sum_range_succ _ s.val]
  ring

theorem at22 : val_main_v22_0 (F := Ideal) (fun i => (q i : EReal)) (fun i => (k i : EReal)) (ix4 0 H r s) = (((dat q k v g (H.val / 2)).A (H.val % 2) r.val s.val : ℝ) : EReal) := by
  pointwise [val_main_v22_0, val_main_v22_1, val_main_v13, val_main_v12, val_main_v11, val_main_v10, val_main_v9, val_main_v8, val_main_v7, val_main_call4_v2, val_main_call4_v0, val_main_cst_1]
  rw [at21 q k v g H r s, zero_id, select_before]
  unfold Sb.Data.A
  rw [Z_head]

theorem at36 : val_main_v36 (F := Ideal) (fun i => (q i : EReal)) (fun i => (k i : EReal)) (fun i => (v i : EReal)) (fun i => (g i : EReal)) (ix4 0 H r s) = (((dat q k v g (H.val / 2)).L (H.val % 2) r.val s.val : ℝ) : EReal) := by
  pointwise [val_main_v36, val_main_v35, val_main_v22_1, val_main_v13, val_main_v12, val_main_v11, val_main_v10, val_main_v9, val_main_v8, val_main_v7, val_main_call5_v0, val_main_call5_cst]
  rw [at21 q k v g H r s, at32 v g H r s, ← EReal.coe_mul, select_before]
  unfold Sb.Data.L Sb.Data.A
  rw [Z_head, D_head, mul_ite, mul_zero]

theorem at38 : val_main_v38 (F := Ideal) (fun i => (q i : EReal)) (fun i => (k i : EReal)) (fun i => (v i : EReal)) (fun i => (g i : EReal)) (ix4 0 H r s) = (((dat q k v g (H.val / 2)).CP (H.val % 2) r.val (s.val + 1) : ℝ) : EReal) := by
  have e : val_main_call6_v0 (F := Ideal) (Shape.Idx.first h_S_) = 0 := by
    pointwise [val_main_call6_v0, val_main_call6_cst]
  unfold val_main_v38 Host.reduceWindowAdd
  rw [Ideal.hostReduceWindowAdd_def, e, window 2047 _ _ (fun u => (((dat q k v g (H.val / 2)).L (H.val % 2) r.val u : ℝ) : EReal)) H r s (fun u => at36 q k v g H r u), sum_upto]
  rfl

theorem at44 : val_main_v44 (F := Ideal) (fun i => (q i : EReal)) (fun i => (k i : EReal)) (fun i => (v i : EReal)) (fun i => (g i : EReal)) (ix4 0 H r s) = (((dat q k v g (H.val / 2)).S (H.val % 2) r.val s.val : ℝ) : EReal) := by
  pointwise [val_main_v44, val_main_v43, val_main_v42, val_main_v41, val_main_v40, val_main_v39, val_main_v37, val_main_call8_v0, val_main_call8_v1, val_main_call9_v0, val_main_call9_v1,
    val_main_v17_1, val_main_v13, val_main_v12, val_main_v11, val_main_v10, val_main_v9, val_main_v8, val_main_v7, val_main_call7_v0, val_main_call7_cst]
  rw [at36 q k v g H r s, at38 q k v g H r s, at16_1 q k H r s, at14_1 q k H r s, ← EReal.coe_neg, ← EReal.coe_add, select_before]
  simp only [← EReal.coe_neg, ← EReal.coe_mul, ← EReal.coe_add]
  congr 1
  have hb := beta_add (zz q k H.val r.val s.val)
  unfold Sb.Data.S
  rw [Z_head, show Real.rpow 2 (lmR (zz q k H.val r.val s.val)) = 1 - Real.rpow 2 (lbR (zz q k H.val r.val s.val)) by linarith]
  unfold Sb.Data.CP
  rw [Finset.sum_range_succ _ s.val]
  by_cases h : s.val < r.val
  · rw [if_pos h, if_pos h]
    ring
  · rw [if_neg h, if_neg h]
    have : (dat q k v g (H.val / 2)).L (H.val % 2) r.val s.val = 0 := by
      unfold Sb.Data.L Sb.Data.A
      rw [if_neg h, mul_zero]
    rw [this]
    ring

theorem res_q : val_main_v54 (F := Ideal) (fun i => (q i : EReal)) (fun i => (k i : EReal)) (fun i => (v i : EReal)) (fun i => (g i : EReal)) = Sb.result fun p => gq (dat q k v g p) := by
  funext y
  obtain ⟨r, c, rfl⟩ : ∃ (a : Fin 2048) (b : Fin 512), y = ix2 a b := ⟨y 0, y 1, eq_ix2 y⟩
  pointwise [val_main_v54, val_main_v53, val_main_v52, val_main_v51, val_main_v48, val_main_v46, val_main_v45, val_main_cst_2, val_main_v3, val_main_v2]
  have hp : c.val / 64 / 2 = c.val / 128 := by omega
  have hh : c.val / 64 % 2 = c.val % 128 / 64 := by omega
  have hc : 128 * (c.val / 128) + c.val % 128 = c.val := by omega
  simp only [at44, eighth_f32, ← EReal.coe_mul, ← coe_sum]
  refine congrArg _ ?_
  show _ = (dat q k v g (c.val / 128)).DQ r.val r.val (c.val % 128) * (1 / 8)
  rw [← DQ_ge _ 2048 _ _ r.isLt.le, hp, hh]
  unfold Sb.Data.DQ
  rw [Finset.sum_mul, ← Fin.sum_univ_eq_sum_range (fun u => (dat q k v g (c.val / 128)).S (c.val % 128 / 64) r.val u * (dat q k v g (c.val / 128)).K u (c.val % 128) * (1 / 8)) 2048]
  refine Finset.sum_congr rfl fun x _ => ?_
  show _ = _ * ext k x.val (128 * (c.val / 128) + c.val % 128) * (1 / 8)
  rw [hc, ext_eq k x c]
  ring

theorem res_k : val_main_v56 (F := Ideal) (fun i => (q i : EReal)) (fun i => (k i : EReal)) (fun i => (v i : EReal)) (fun i => (g i : EReal)) = Sb.result fun p s l => (dat q k v g p).DK 2048 s l * (1 / 8) := by
  funext y
  obtain ⟨r, c, rfl⟩ : ∃ (a : Fin 2048) (b : Fin 512), y = ix2 a b := ⟨y 0, y 1, eq_ix2 y⟩
  pointwise [val_main_v56, val_main_v55, val_main_v50, val_main_v49, val_main_v47, val_main_v46, val_main_v45, val_main_cst_2, val_main_v1, val_main_v0]
  have hp : c.val / 64 / 2 = c.val / 128 := by omega
  have hh : c.val / 64 % 2 = c.val % 128 / 64 := by omega
  have hc : 128 * (c.val / 128) + c.val % 128 = c.val := by omega
  simp only [at44, eighth_f32, ← EReal.coe_mul, ← coe_sum]
  refine congrArg _ ?_
  show _ = (dat q k v g (c.val / 128)).DK 2048 r.val (c.val % 128) * (1 / 8)
  rw [hp, hh]
  unfold Sb.Data.DK
  rw [Finset.sum_mul, ← Fin.sum_univ_eq_sum_range (fun u => (dat q k v g (c.val / 128)).S (c.val % 128 / 64) u r.val * (dat q k v g (c.val / 128)).Q u (c.val % 128) * (1 / 8)) 2048]
  refine Finset.sum_congr rfl fun x _ => ?_
  show _ = _ * ext q x.val (128 * (c.val / 128) + c.val % 128) * (1 / 8)
  rw [hc, ext_eq q x c]
  ring

theorem res_v : val_main_v58 (F := Ideal) (fun i => (q i : EReal)) (fun i => (k i : EReal)) (fun i => (g i : EReal)) = Sb.result fun p => (dat q k v g p).DV 2048 := by
  funext y
  obtain ⟨r, c, rfl⟩ : ∃ (a : Fin 2048) (b : Fin 512), y = ix2 a b := ⟨y 0, y 1, eq_ix2 y⟩
  pointwise [val_main_v58, val_main_v57, val_main_v34, val_main_v33, val_main_v31, val_main_v30, val_main_v29, val_main_v28]
  have hp : c.val / 64 / 2 = c.val / 128 := by omega
  have hh : c.val / 64 % 2 = c.val % 128 / 64 := by omega
  have hc : 128 * (c.val / 128) + c.val % 128 = c.val := by omega
  simp only [at22 q k v g, ← EReal.coe_mul, ← coe_sum]
  refine congrArg _ ?_
  show _ = (dat q k v g (c.val / 128)).DV 2048 r.val (c.val % 128)
  rw [hp, hh]
  unfold Sb.Data.DV
  rw [← Fin.sum_univ_eq_sum_range (fun u => (dat q k v g (c.val / 128)).A (c.val % 128 / 64) u r.val * (dat q k v g (c.val / 128)).G u (c.val % 128)) 2048]
  refine Finset.sum_congr rfl fun x _ => ?_
  show _ = _ * ext g x.val (128 * (c.val / 128) + c.val % 128)
  rw [hc, ext_eq g x c]
  ring

end Cert.Proof.SbRef

end
-- ==== Proof.Sb.lean ====
/- The gradients of the stick-breaking attention: the claims. -/
module

public import proofs.«01_k».proof.Defs
public import proofs.«01_k».proof.Proof.SbRef
public import proofs.«01_k».proof.Proof.Gen.KernelSb.Frame
public import proofs.«01_k».proof.Proof.Gen.KernelSbIdeal.Value
public import proofs.«01_k».proof.Proof.Gen.ReferenceSbIdeal.Run
public import proofs.«01_k».proof.Proof.Gen.Pre_finite_sb

@[expose] public section

set_option maxRecDepth 16384

noncomputable section

namespace Cert.Proof.Sb

open Idealize.ShloMosaic Idealize.SL.Sem
open Cert.KernelSbIdeal (nD τ sig main_arg0 main_arg1 main_arg2 main_arg3 cfgs)
open Cert.KernelSbIdeal.Gen

theorem frame_kernel : Cert.quiescent_KernelSb := fun m ρ _ => Cert.KernelSb.Gen.frame m ρ
theorem frame_ideal : Cert.quiescent_KernelSbIdeal := fun m ρ _ => Cert.KernelSbIdeal.Gen.frame m ρ
theorem frame_ideal_pre : Cert.quiescent_KernelSbIdeal_pre_finite_sb := fun m ρ _ => Cert.KernelSbIdeal.Gen.frame m ρ
theorem frame_ref : Cert.quiescent_ReferenceSbIdeal := fun m ρ _ =>
  (θ_run _ _ _).mono (fun r h => ⟨fun c => (h c).2.2.2, sem_eq_zero_of_no_sems (by decide) r.2⟩) (Cert.ReferenceSbIdeal.Value.run m ρ)
theorem frame_ref_pre : Cert.quiescent_ReferenceSbIdeal_pre_finite_sb := fun m ρ _ => frame_ref m ρ trivial

theorem preserves : Cert.preserves_KernelSb_KernelSbIdeal :=
  ⟨IdealRules.named_const.statement Cert.KernelSbIdeal.κ "scale_log2e" .f32 0x3E38AA3B#32 _ rfl, IdealRules.named_const.statement Cert.KernelSbIdeal.κ "log2e" .f32 0x3FB8AA3B#32 _ rfl⟩

/-- What the precondition says of one device's arguments. -/
theorem reals_of_pre (m : (ℓ : Loc nD τ sig) → Buf (Elt Ideal) ℓ) (c : Dev nD) (h : Cert.Pre_KernelSbIdeal_finite_sb m) :
    ∃ q k v g : Arr, Args m c q k v g := by
  obtain ⟨q, hq⟩ := reals_of fun i => real_of_abs_lt (congrFun (h c).1 i)
  obtain ⟨k, hk⟩ := reals_of fun i => real_of_abs_lt (congrFun (h c).2.1 i)
  obtain ⟨v, hv⟩ := reals_of fun i => real_of_abs_lt (congrFun (h c).2.2.1 i)
  obtain ⟨g, hg⟩ := reals_of fun i => real_of_abs_lt (congrFun (h c).2.2.2 i)
  exact ⟨q, k, v, g, hq, hk, hv, hg⟩

theorem algebraic : Cert.algebraic_KernelSbIdeal_ReferenceSbIdeal_pre_finite_sb := fun m ρ m' ρ' hpre hag =>
  ⟨fun c => (dats m 0 c).arrAt 5 (cfgs 0).N, fun c => (dats m 0 c).arrAt 6 (cfgs 0).N, fun c => (dats m 0 c).arrAt 7 (cfgs 0).N,
    Cert.KernelSbIdeal.Value.run_blocks m ρ,
    (θ_run _ _ _).mono (fun _ h c => by
      obtain ⟨q, k, v, g, H⟩ := reals_of_pre m c hpre
      obtain ⟨e0, e1, e2, e3⟩ := hag c
      refine ⟨(h c).1.trans ((Cert.ReferenceSbIdeal.Read.val_main_v54_eq _ _).trans ?_),
        (h c).2.1.trans ((Cert.ReferenceSbIdeal.Read.val_main_v56_eq _ _).trans ?_),
        (h c).2.2.1.trans ((Cert.ReferenceSbIdeal.Read.val_main_v58_eq _ _).trans ?_), (h c).2.2.2⟩
      · rw [e0, e1, e2, e3, H.q, H.k, H.v, H.g]
        exact (SbRef.res_q q k v g).trans (final_q H).symm
      · rw [e0, e1, e2, e3, H.q, H.k, H.v, H.g]
        exact (SbRef.res_k q k v g).trans (final_k H).symm
      · rw [e0, e1, e3, H.q, H.k, H.g]
        exact (SbRef.res_v q k v g).trans (final_v H).symm) (Cert.ReferenceSbIdeal.Value.run m' ρ')⟩

end Cert.Proof.Sb

end
-- ==== Proof.Norm.lean ====
/- The root-mean-square norm of a row of 1024 and the gradient through it, as the kernels compute them, and their readings
   at finite rows. -/
module

public import proofs.«01_k».proof.Proof.Finite
public import Idealize.ShloMosaic.Lib.Pipeline.ReadBack
public import Idealize.ShloMosaic.PureOps.Ideal.Laws

@[expose] public section

noncomputable section

namespace Cert.Proof.Norm

open Idealize.ShloMosaic

/-- The row's length, and the constant that the mean of squares is kept away from zero by. -/
abbrev width : EReal := Ideal.ofBits .f32 1149239296#32
abbrev eps : EReal := Ideal.ofBits .f32 897988541#32

/-- One over the root of the row's mean square. -/
def rms (x : Fin 1024 → EReal) : EReal := Ideal.rsqrt (Ideal.div (∑ k, x k * x k) width + eps)

/-- The gradient through the norm, `dn` being the gradient of the normed row and `g` the gain. -/
def back (x dn g : Fin 1024 → EReal) (q : Fin 1024) : EReal :=
  rms x * (dn q * g q - x q * rms x * Ideal.div (∑ k, dn k * g k * (x k * rms x)) width)

theorem width_f32 : width = ((1024 : ℝ) : EReal) := by
  simp [width, Ideal.ofBits, Ideal.ieee, -EReal.coe_mul]; norm_num

/-- The constant, as a real. -/
def e : ℝ := 8796093 / 2 ^ 43

theorem eps_f32 : eps = (e : EReal) := by
  simp [eps, e, Ideal.ofBits, Ideal.ieee, -EReal.coe_mul]; norm_num

/-- A row's mean square, kept away from zero. -/
def ms (x : Fin 1024 → ℝ) : ℝ := (∑ k, x k * x k) / 1024 + e

theorem ms_pos (x : Fin 1024 → ℝ) : 0 < ms x :=
  add_pos_of_nonneg_of_pos (div_nonneg (Finset.sum_nonneg fun k _ => mul_self_nonneg _) (by norm_num)) (by norm_num [e])

/-- One over its root. -/
def rho (x : Fin 1024 → ℝ) : ℝ := (Real.sqrt (ms x))⁻¹

theorem rho_sq (x : Fin 1024 → ℝ) : rho x * rho x = 1 / ms x := by
  unfold rho
  rw [← mul_inv, Real.mul_self_sqrt (ms_pos x).le, one_div]

theorem div_width (r : ℝ) : Ideal.div r width = ((r / 1024 : ℝ) : EReal) := by
  rw [width_f32, Ideal.div_coe (by norm_num), ← EReal.coe_mul]
  exact congrArg _ (by ring)

theorem ms_coe (x : Fin 1024 → ℝ) : Ideal.div (∑ k, (x k : EReal) * x k) width + eps = (ms x : EReal) := by
  rw [coe_sum_mul, div_width, eps_f32, ← EReal.coe_add]
  rfl

theorem rsqrt_ms (x : Fin 1024 → ℝ) : Ideal.rsqrt (ms x : EReal) = (rho x : EReal) := by
  rw [Ideal.rsqrt_coe, if_neg (ms_pos x).le.not_gt, if_neg (ms_pos x).ne']
  rfl

theorem rms_coe (x : Fin 1024 → ℝ) : rms (fun k => ↑(x k)) = (rho x : EReal) := by
  unfold rms
  rw [ms_coe, rsqrt_ms]

/-- The gradient through the norm, of reals. -/
def backR (x dn g : Fin 1024 → ℝ) (q : Fin 1024) : ℝ :=
  rho x * (dn q * g q - x q * rho x * ((∑ k, dn k * g k * (x k * rho x)) / 1024))

theorem back_coe (x dn g : Fin 1024 → ℝ) (q : Fin 1024) :
    back (fun k => ↑(x k)) (fun k => ↑(dn k)) (fun k => ↑(g k)) q = (backR x dn g q : EReal) := by
  unfold back backR
  rw [rms_coe]
  simp only [← EReal.coe_mul, ← coe_sum]
  rw [div_width]
  norm_cast

theorem neg_half_f32 : Ideal.ofBits .f32 3204448256#32 = ((-1 / 2 : ℝ) : EReal) := by
  simp [Ideal.ofBits, Ideal.ieee, -EReal.coe_mul]; norm_num

/-- The gradient through the mean of squares, per entry and up to the entry itself: the derivative's own factors, of reals. -/
def meanR (x dn g : Fin 1024 → ℝ) : ℝ := (∑ k, x k * (dn k * g k)) * (-1 / 2 * (rho x / ms x)) / 1024

theorem mean_coe (x dn g : Fin 1024 → ℝ) :
    Ideal.div ((∑ k, (x k : EReal) * (dn k * g k)) * (Ideal.ofBits .f32 3204448256#32
      * Ideal.div (rms fun k => ↑(x k)) (Ideal.div (∑ k, (x k : EReal) * x k) width + eps))) width = (meanR x dn g : EReal) := by
  rw [ms_coe, rms_coe, neg_half_f32, Ideal.div_coe (ms_pos x).ne']
  simp only [← EReal.coe_mul, ← coe_sum]
  rw [div_width]
  refine congrArg _ ?_
  unfold meanR
  ring

/-- The derivative's three terms of an entry are the gradient through the norm. -/
theorem terms_eq (x dn g : Fin 1024 → ℝ) (q : Fin 1024) :
    dn q * g q * rho x + x q * meanR x dn g + meanR x dn g * x q = backR x dn g q := by
  have hs : ∑ k, dn k * g k * (x k * rho x) = (∑ k, x k * (dn k * g k)) * rho x := by
    rw [Finset.sum_mul]
    exact Finset.sum_congr rfl fun k _ => by ring
  have hr : rho x / ms x = rho x * (rho x * rho x) := by rw [rho_sq]; ring
  unfold backR meanR
  rw [hs, hr]
  ring

/-- The same, added to an entry that may be infinite. -/
theorem terms_coe (h : EReal) (x dn g : Fin 1024 → ℝ) (q : Fin 1024) :
    (h + (dn q : EReal) * g q * rms fun k => ↑(x k)) + (x q : EReal) * (meanR x dn g : ℝ) + ((meanR x dn g : ℝ) : EReal) * x q
      = h + back (fun k => ↑(x k)) (fun k => ↑(dn k)) (fun k => ↑(g k)) q := by
  rw [back_coe, ← terms_eq, rms_coe, add_assoc, add_assoc]
  norm_cast
  rw [add_assoc]

/-- A load of a buffer that landed copies cover reads what they copied. -/
theorem readCov_of_pieces {Val : EltTy → Type} {sig : RefSig} {κ : Kind} {sp : Space} {s : Shape} {e : EltTy} [∀ e, Nonempty (Val e)]
    (v : View sig κ sp s e) (G : s.Idx → Val e) (L : List (View.Piece Val s e)) (hp : View.PiecesOf G L) (hc : ∀ y, ∃ p ∈ L, y ∈ p.1.set) (r : Rect s) :
    v.readCov L r.toLoadRect = View.ld G r := by
  rw [View.readCov_eq_canon_ld v L r hc, show View.canon L = G from funext fun y => View.canon_apply_of_pieces G L hp.mem y (hc y)]

end Cert.Proof.Norm

end
-- ==== Proof.FinBlock.lean ====
/- The gradient through SwiGLU's up projection and the norm before it, one block of rows at a time: what a grid point of
   `_ffn_bwd_in` leaves in its blocks of the two results. The first point copies the weight into scratch, six pieces that
   two of the products' column ranges straddle; the others find it there. -/
module

public import proofs.«01_k».proof.Proof.Gen.KernelFinIdeal.Value
public import Idealize.ShloMosaic.Lib.Pipeline.ValueKit.Tiles
public import Idealize.ShloMosaic.Lib.Pipeline.ReadBack
public import proofs.«01_k».proof.Proof.Norm
public import Idealize.ShloMosaic.Lib.Pointwise
public import Idealize.ShloMosaic.Lib.ValueLayout
public import Idealize.ShloMosaic.PureOps.Ideal.Laws

@[expose] public section

set_option maxRecDepth 16384

noncomputable section

namespace Cert.Proof.Fin

open Cert.KernelFinIdeal Cert.KernelFinIdeal.Gen Cert.KernelFinIdeal.Value Idealize.ShloMosaic Idealize.ShloMosaic.TcCoe Idealize.SL.Sem
open Idealize.ShloMosaic.ValueIdx (reshapeEquiv_ix2_1ab)
open Cert.Proof.Norm (rms back readCov_of_pieces)

/-- The gradient of the normed rows: the product with the transposed weight. -/
def dn (x3 : Vec Ideal S512x5632 .bf16) (w : Vec Ideal S1024x5632 .bf16) (r : Fin 512) (q : Fin 1024) : EReal :=
  ∑ j : Fin 5632, x3 (ix2 r j) * w (ix2 q j)

/-- The weight's four blocks of columns side by side. -/
def wide (f : Vec Ideal S4x1024x1408 .bf16) (y : S1024x5632.Idx) : EReal :=
  f (ix3 ⟨(y 1).val / 1408, by have h : (y 1).val < 5632 := (y 1).isLt; omega⟩ (y 0) ⟨(y 1).val % 1408, Nat.mod_lt _ (by decide)⟩)

/-- A row of the first result. -/
def outVal (x0 x1 : Vec Ideal S512x1024 .f32) (x2 : Vec Ideal S1x1024 .f32) (d : Fin 512 → Fin 1024 → EReal) (r : Fin 512) (q : Fin 1024) : EReal :=
  x0 (ix2 r q) + back (fun k => x1 (ix2 r k)) (d r) (fun k => x2 (ix2 0 k)) q

/-- A block's part of the gain's gradient. -/
def gainVal (x1 : Vec Ideal S512x1024 .f32) (d : Fin 512 → Fin 1024 → EReal) (q : Fin 1024) : EReal :=
  ∑ r : Fin 512, d r q * (x1 (ix2 r q) * rms fun k => x1 (ix2 r k))

/-- A sum over the columns, in the four ranges the products take. -/
theorem sum_ranges (f : Fin 5632 → EReal) : (∑ x : Fin 1536, f ⟨x.val, by omega⟩) + (∑ x : Fin 1280, f ⟨1536 + x.val, by omega⟩)
    + (∑ x : Fin 1536, f ⟨2816 + x.val, by omega⟩) + (∑ x : Fin 1280, f ⟨4352 + x.val, by omega⟩) = ∑ j, f j := by
  have e : ∀ (n o : ℕ) (h : o + n ≤ 5632), ∑ x : Fin n, f ⟨o + x.val, by omega⟩ = ∑ x ∈ Finset.range n, if h : o + x < 5632 then f ⟨o + x, h⟩ else 0 := fun n o h => by
    rw [← Fin.sum_univ_eq_sum_range (fun x => if h : o + x < 5632 then f ⟨o + x, h⟩ else 0) n]
    exact Finset.sum_congr rfl fun x _ => by rw [dif_pos (show o + x.val < 5632 by omega)]
  have e0 := e 1536 0 (by decide)
  have e5 := e 5632 0 (by decide)
  simp only [Nat.zero_add] at e0 e5
  rw [e0, e 1280 1536 (by decide), e 1536 2816 (by decide), e 1280 4352 (by decide)]
  refine Eq.trans ?_ e5.symm
  show _ = ∑ x ∈ Finset.range (1536 + 1280 + 1536 + 1280), if h : x < 5632 then f ⟨x, h⟩ else 0
  rw [Finset.sum_range_add, Finset.sum_range_add, Finset.sum_range_add]

theorem hz : (![0, 0] : Fin 2 → Nat) = fun _ => 0 := funext fun a => by fin_cases a <;> rfl

/-- The first points' product, in the body's four parts. -/
theorem product_first (x3 : Vec Ideal S512x5632 .bf16) (w : Vec Ideal S1024x5632 .bf16) :
    k0_pay10 (k0_pay8 (View.ld x3 (Rect.unit ![0, 0] ![512, 1536] inb_S512x5632_S512x1536_0_0)) (View.ld w (Rect.unit ![0, 0] ![1024, 1536] inb_S1024x5632_S1024x1536_0_0)))
      (k0_pay9 (View.ld x3 (Rect.unit ![0, 1536] ![512, 1280] inb_S512x5632_S512x1280_0_1536)) (View.ld w (Rect.unit ![0, 1536] ![1024, 1280] inb_S1024x5632_S1024x1280_0_1536)))
      (View.ld x3 (Rect.unit ![0, 2816] ![512, 1536] inb_S512x5632_S512x1536_0_2816)) (View.ld w (Rect.unit ![0, 2816] ![1024, 1536] inb_S1024x5632_S1024x1536_0_2816))
      (View.ld x3 (Rect.unit ![0, 4352] ![512, 1280] inb_S512x5632_S512x1280_0_4352)) (View.ld w (Rect.unit ![0, 4352] ![1024, 1280] inb_S1024x5632_S1024x1280_0_4352))
      = fun y => dn x3 w (y 0) (y 1) := by
  funext y
  obtain ⟨r, q, rfl⟩ : ∃ (a : Fin 512) (b : Fin 1024), y = ix2 a b := ⟨y 0, y 1, eq_ix2 y⟩
  unfold_payloads
  pointwise
  exact sum_ranges fun j => x3 (ix2 r j) * w (ix2 q j)

/-- The later points' product. -/
theorem product_later (x3 : Vec Ideal S512x5632 .bf16) (w : Vec Ideal S1024x5632 .bf16) :
    k0_pay13 (View.ld x3 (Rect.unit ![0, 0] ![512, 1536] inb_S512x5632_S512x1536_0_0)) (View.ld w (Rect.unit ![0, 0] ![1024, 1536] inb_S1024x5632_S1024x1536_0_0))
      (View.ld x3 (Rect.unit ![0, 1536] ![512, 1280] inb_S512x5632_S512x1280_0_1536)) (View.ld w (Rect.unit ![0, 1536] ![1024, 1280] inb_S1024x5632_S1024x1280_0_1536))
      (View.ld x3 (Rect.unit ![0, 2816] ![512, 1536] inb_S512x5632_S512x1536_0_2816)) (View.ld w (Rect.unit ![0, 2816] ![1024, 1536] inb_S1024x5632_S1024x1536_0_2816))
      (View.ld x3 (Rect.unit ![0, 4352] ![512, 1280] inb_S512x5632_S512x1280_0_4352)) (View.ld w (Rect.unit ![0, 4352] ![1024, 1280] inb_S1024x5632_S1024x1280_0_4352))
      = fun y => dn x3 w (y 0) (y 1) := by
  funext y
  obtain ⟨r, q, rfl⟩ : ∃ (a : Fin 512) (b : Fin 1024), y = ix2 a b := ⟨y 0, y 1, eq_ix2 y⟩
  unfold_payloads
  pointwise
  exact sum_ranges fun j => x3 (ix2 r j) * w (ix2 q j)

/-- A column of the copied weight lies in the block and column the copy took it from. -/
theorem wide_at (f : Vec Ideal S4x1024x1408 .bf16) (y : S1024x5632.Idx) (p : ℕ) (hp : p < 4) (l : ℕ) (hl : l < 1408) (h : (y 1).val = p * 1408 + l) :
    wide f y = f (ix3 ⟨p, hp⟩ (y 0) ⟨l, hl⟩) := by
  unfold wide
  exact congrArg f (congrArg₂ (fun a b => ix3 a (y 0) b) (Fin.ext (by dsimp only; omega)) (Fin.ext (by dsimp only; omega)))

/-- One copied piece: `n` columns from column `o` of the weight's block `p`, put at column `s`. -/
theorem piece_wide (c : Dev nD) (fh0 : HbBuf0 (F := Ideal) c hbM0_0) (p o n s : ℕ) (inb : ∀ a, (![p, 0, o] : Fin 3 → ℕ) a + (![1, 1024, n] : Fin 3 → ℕ) a ≤ S4x1024x1408.size a)
    (inb' : ∀ a, (![0, s] : Fin 2 → ℕ) a + (![1024, n] : Fin 2 → ℕ) a ≤ S1024x5632.size a)
    (hn : (⟨2, ![1024, n]⟩ : Shape).numel = (⟨3, ![1, 1024, n]⟩ : Shape).numel) (hs : s = p * 1408 + o) (x : (⟨2, ![1024, n]⟩ : Shape).Idx) :
    View.read (Elt Ideal) (((View.whole main_v3).slice (Rect.unit ![p, 0, o] ![1, 1024, n] inb)).reshape ⟨2, ![1024, n]⟩ hn) fh0 x = wide fh0 ((Rect.unit (s := S1024x5632) ![0, s] ![1024, n] inb').emb x) := by
  obtain ⟨r, q, rfl⟩ : ∃ (a : Fin 1024) (b : Fin n), x = ValueIdx.ix2 a b := ⟨x 0, x 1, eq_ix2 x⟩
  have hp : p + 1 ≤ 4 := inb 0
  have ho : o + n ≤ 1408 := inb 2
  have hq := q.isLt
  refine Eq.trans ?_ (wide_at fh0 _ p (by omega) (o + q.val) (by omega) ?_).symm
  · show fh0 ((Rect.unit ![p, 0, o] ![1, 1024, n] inb).emb (Shape.reshapeEquiv hn (ValueIdx.ix2 r q))) = _
    rw [reshapeEquiv_ix2_1ab]
    exact congrArg fh0 (funext fun a => by fin_cases a <;> exact Fin.ext (by simp [Rect.unit, Rect.emb]))
  · show s + 1 * q.val = _
    omega

variable (c : Dev nD) (i : grid0.Coords) (arg1 : Memref sig .tc .vmem S512x1024 .f32) (harg1 : arg1.IsWhole) (arg2 : Memref sig .tc .vmem S512x1024 .f32) (harg2 : arg2.IsWhole)
  (arg3 : Memref sig .tc .vmem S1x1024 .f32) (harg3 : arg3.IsWhole) (arg4 : Memref sig .tc .vmem S512x5632 .bf16) (harg4 : arg4.IsWhole)
  (arg6 : Memref sig .tc .vmem S512x1024 .f32) (harg6 : arg6.IsWhole) (arg7 : Memref sig .tc .vmem S1x1024 .f32) (harg7 : arg7.IsWhole)
  (arg8 : Memref sig .tc .vmem S1024x5632 .bf16) (harg8 : arg8.IsWhole)
  (x0 : Vec Ideal S512x1024 .f32) (x1 : Vec Ideal S512x1024 .f32) (x2 : Vec Ideal S1x1024 .f32) (x3 : Vec Ideal S512x5632 .bf16)
  (xo5 : Vec Ideal S1x1024 .f32) (xs0 : Vec Ideal S1024x5632 .bf16) (fh0 : HbBuf0 (F := Ideal) c hbM0_0)

theorem out_later (hc0 : ¬cond0_0 i) (hc1 : ¬cond0_1 i) (hc2 : cond0_2 i) (r : Fin 512) (q : Fin 1024) :
    out0_B_4 c i arg1 harg1 arg2 harg2 arg3 harg3 arg4 harg4 arg6 harg6 arg7 harg7 arg8 harg8 hc0 hc1 hc2 x0 x1 x2 x3 xo5 xs0 fh0 (ix2 r q) = outVal x0 x1 x2 (dn x3 xs0) r q := by
  frame_out
  rw [product_later]
  unfold_payloads
  pointwise
  rfl

theorem gain_later (hc0 : ¬cond0_0 i) (hc1 : ¬cond0_1 i) (hc2 : cond0_2 i) (q : Fin 1024) :
    out0_B_5 c i arg1 harg1 arg2 harg2 arg3 harg3 arg4 harg4 arg6 harg6 arg7 harg7 arg8 harg8 hc0 hc1 hc2 x0 x1 x2 x3 xo5 xs0 fh0 (ix2 0 q) = xo5 (ix2 0 q) + gainVal x1 (dn x3 xs0) q := by
  frame_out
  rw [product_later]
  unfold_payloads
  pointwise
  rfl

/-- The six copies of the weight's blocks. -/
abbrev pieces : List (View.Piece (Elt Ideal) S1024x5632 .bf16) :=
  [⟨Rect.unit ![0, 4352] ![1024, 1280] inb_S1024x5632_S1024x1280_0_4352, ReadAs.same.apply (View.read (Elt Ideal) (((View.whole main_v3).slice (Rect.unit ![3, 0, 128] ![1, 1024, 1280] inb_S4x1024x1408_S1x1024x1280_3_0_128)).reshape S1024x1280 squeezes_S1x1024x1280_S1024x1280.numel_eq) fh0)⟩,
   ⟨Rect.unit ![0, 4224] ![1024, 128] inb_S1024x5632_S1024x128_0_4224, ReadAs.same.apply (View.read (Elt Ideal) (((View.whole main_v3).slice (Rect.unit ![3, 0, 0] ![1, 1024, 128] inb_S4x1024x1408_S1x1024x128_3_0_0)).reshape S1024x128 squeezes_S1x1024x128_S1024x128.numel_eq) fh0)⟩,
   ⟨Rect.unit ![0, 2816] ![1024, 1408] inb_S1024x5632_S1024x1408_0_2816, ReadAs.same.apply (View.read (Elt Ideal) (((View.whole main_v3).slice (Rect.unit ![2, 0, 0] ![1, 1024, 1408] inb_S4x1024x1408_S1x1024x1408_2_0_0)).reshape S1024x1408 squeezes_S1x1024x1408_S1024x1408.numel_eq) fh0)⟩,
   ⟨Rect.unit ![0, 1536] ![1024, 1280] inb_S1024x5632_S1024x1280_0_1536, ReadAs.same.apply (View.read (Elt Ideal) (((View.whole main_v3).slice (Rect.unit ![1, 0, 128] ![1, 1024, 1280] inb_S4x1024x1408_S1x1024x1280_1_0_128)).reshape S1024x1280 squeezes_S1x1024x1280_S1024x1280.numel_eq) fh0)⟩,
   ⟨Rect.unit ![0, 1408] ![1024, 128] inb_S1024x5632_S1024x128_0_1408, ReadAs.same.apply (View.read (Elt Ideal) (((View.whole main_v3).slice (Rect.unit ![1, 0, 0] ![1, 1024, 128] inb_S4x1024x1408_S1x1024x128_1_0_0)).reshape S1024x128 squeezes_S1x1024x128_S1024x128.numel_eq) fh0)⟩,
   ⟨Rect.unit ![0, 0] ![1024, 1408] inb_S1024x5632_S1024x1408_0_0, ReadAs.same.apply (View.read (Elt Ideal) (((View.whole main_v3).slice (Rect.unit ![0, 0, 0] ![1, 1024, 1408] inb_S4x1024x1408_S1x1024x1408_0_0_0)).reshape S1024x1408 squeezes_S1x1024x1408_S1024x1408.numel_eq) fh0)⟩]

theorem pieces_wide : View.PiecesOf (Val := Elt Ideal) (wide fh0) (pieces c fh0) :=
  ⟨fun x => piece_wide c fh0 3 128 1280 4352 inb_S4x1024x1408_S1x1024x1280_3_0_128 inb_S1024x5632_S1024x1280_0_4352 squeezes_S1x1024x1280_S1024x1280.numel_eq rfl x,
    fun x => piece_wide c fh0 3 0 128 4224 inb_S4x1024x1408_S1x1024x128_3_0_0 inb_S1024x5632_S1024x128_0_4224 squeezes_S1x1024x128_S1024x128.numel_eq rfl x,
    fun x => piece_wide c fh0 2 0 1408 2816 inb_S4x1024x1408_S1x1024x1408_2_0_0 inb_S1024x5632_S1024x1408_0_2816 squeezes_S1x1024x1408_S1024x1408.numel_eq rfl x,
    fun x => piece_wide c fh0 1 128 1280 1536 inb_S4x1024x1408_S1x1024x1280_1_0_128 inb_S1024x5632_S1024x1280_0_1536 squeezes_S1x1024x1280_S1024x1280.numel_eq rfl x,
    fun x => piece_wide c fh0 1 0 128 1408 inb_S4x1024x1408_S1x1024x128_1_0_0 inb_S1024x5632_S1024x128_0_1408 squeezes_S1x1024x128_S1024x128.numel_eq rfl x,
    fun x => piece_wide c fh0 0 0 1408 0 inb_S4x1024x1408_S1x1024x1408_0_0_0 inb_S1024x5632_S1024x1408_0_0 squeezes_S1x1024x1408_S1024x1408.numel_eq rfl x, trivial⟩

theorem pieces_cover (y : S1024x5632.Idx) : ∃ p ∈ pieces c fh0, y ∈ p.1.set :=
  View.cover_of_tiledBy (pieces c fh0) ![1024, 128] (by sl_kernel_rfl) y

theorem scratch_first (hc0 : cond0_0 i) (hc1 : cond0_1 i) (hc2 : ¬cond0_2 i) :
    sout0_A_0 c i arg1 harg1 arg2 harg2 arg3 harg3 arg4 harg4 arg6 harg6 arg7 harg7 arg8 harg8 hc0 hc1 hc2 x0 x1 x2 x3 fh0 = wide fh0 := by
  funext y
  unfold sout0_A_0
  rw [View.read_writes_eq_canon _ _ _ (scover0_A_0 c i arg1 harg1 arg2 harg2 arg3 harg3 arg4 harg4 arg6 harg6 arg7 harg7 arg8 harg8 hc0 hc1 hc2 x0 x1 x2 x3 fh0)]
  exact View.canon_apply_of_pieces (wide fh0) (pieces c fh0) (View.PiecesOf.mem (pieces_wide c fh0)) y (pieces_cover c fh0 y)

theorem out_first (hc0 : cond0_0 i) (hc1 : cond0_1 i) (hc2 : ¬cond0_2 i) (r : Fin 512) (q : Fin 1024) :
    out0_A_4 c i arg1 harg1 arg2 harg2 arg3 harg3 arg4 harg4 arg6 harg6 arg7 harg7 arg8 harg8 hc0 hc1 hc2 x0 x1 x2 x3 fh0 (ix2 r q) = outVal x0 x1 x2 (dn x3 (wide fh0)) r q := by
  frame_out
  simp only [readCov_of_pieces (Val := Elt Ideal) arg8.view (wide fh0) (pieces c fh0) (pieces_wide c fh0) (pieces_cover c fh0)]
  rw [product_first]
  unfold_payloads
  pointwise
  rfl

theorem gain_first (hc0 : cond0_0 i) (hc1 : cond0_1 i) (hc2 : ¬cond0_2 i) (q : Fin 1024) :
    out0_A_5 c i arg1 harg1 arg2 harg2 arg3 harg3 arg4 harg4 arg6 harg6 arg7 harg7 arg8 harg8 hc0 hc1 hc2 x0 x1 x2 x3 fh0 (ix2 0 q) = gainVal x1 (dn x3 (wide fh0)) q := by
  frame_out
  simp only [readCov_of_pieces (Val := Elt Ideal) arg8.view (wide fh0) (pieces c fh0) (pieces_wide c fh0) (pieces_cover c fh0)]
  rw [product_first]
  unfold_payloads
  pointwise
  rfl

end Cert.Proof.Fin

end
-- ==== Proof.FinArray.lean ====
/- The gradient through SwiGLU's up projection and the norm before it: the arrays that `_ffn_bwd_in` leaves. -/
module

public import proofs.«01_k».proof.Proof.FinBlock
public import Idealize.ShloMosaic.Lib.Pipeline.ValueKit
public import Idealize.ShloMosaic.Lib.Claim

@[expose] public section

set_option maxRecDepth 16384

noncomputable section

namespace Cert.Proof.Fin

open Cert.KernelFinIdeal Cert.KernelFinIdeal.Gen Cert.KernelFinIdeal.Value Idealize.ShloMosaic Idealize.ShloMosaic.TcCoe Idealize.SL.Sem
open Cert.Proof.Norm (rms back)

/-- The gradient of the normed rows, of the whole arguments. -/
def dnA (w : Vec Ideal S1x1024x5632 .f32) (dy : Vec Ideal S1x2048x5632 .f32) (r : Fin 2048) (q : Fin 1024) : EReal :=
  ∑ j : Fin 5632, dy (ix3 0 r j) * w (ix3 0 q j)

/-- The gradient of the rows. -/
def rowsA (dh x : Vec Ideal S1x2048x1024 .f32) (g : Vec Ideal S1x1024 .f32) (d : Fin 2048 → Fin 1024 → EReal) (y : S2048x1024.Idx) : EReal :=
  dh (ix3 0 (y 0) (y 1)) + back (fun k => x (ix3 0 (y 0) k)) (d (y 0)) (fun k => g (ix2 0 k)) (y 1)

/-- One row's part of the gain's gradient; nothing past the last row. -/
def gainTerm (x : Vec Ideal S1x2048x1024 .f32) (d : Fin 2048 → Fin 1024 → EReal) (q : Fin 1024) (n : ℕ) : EReal :=
  if h : n < 2048 then d ⟨n, h⟩ q * (x (ix3 0 ⟨n, h⟩ q) * rms fun k => x (ix3 0 ⟨n, h⟩ k)) else 0

/-- The gain's gradient. -/
def gainA (x : Vec Ideal S1x2048x1024 .f32) (d : Fin 2048 → Fin 1024 → EReal) (y : S1x1024.Idx) : EReal :=
  ∑ r : Fin 2048, d r (y 1) * (x (ix3 0 r (y 1)) * rms fun k => x (ix3 0 r k))

theorem sum_gainTerm (x : Vec Ideal S1x2048x1024 .f32) (d : Fin 2048 → Fin 1024 → EReal) (y : S1x1024.Idx) :
    ∑ n ∈ Finset.range 2048, gainTerm x d (y 1) n = gainA x d y := by
  rw [← Fin.sum_univ_eq_sum_range]
  exact Finset.sum_congr rfl fun r _ => dif_pos r.isLt

variable (m : (ℓ : Loc nD τ sig) → Buf (Elt Ideal) ℓ) (c : Dev nD)

abbrev aDh : Vec Ideal S1x2048x1024 .f32 := m ((c : Thread nD τ).loc main_arg0)
abbrev aX : Vec Ideal S1x2048x1024 .f32 := m ((c : Thread nD τ).loc main_arg1)
abbrev aG : Vec Ideal S1x1024 .f32 := m ((c : Thread nD τ).loc main_arg2)
abbrev aW : Vec Ideal S1x1024x5632 .f32 := m ((c : Thread nD τ).loc main_arg3)
abbrev aDy : Vec Ideal S1x2048x5632 .f32 := m ((c : Thread nD τ).loc main_arg4)

/-- The scratch holds the weight after every point. -/
theorem scratch_eq : ∀ (n : ℕ) (hn : n < cfg0.N), (outsAt0 m c n hn).2.2 = wide (V m c main_v3)
  | 0, hn => by
    rw [outsAt0_A m c ⟨0, hn⟩ (Nat.zero_mod _) (Nat.zero_mod _) (by decide : ¬ 1 ≤ 0)]
    dsimp only
    exact scratch_first ..
  | n + 1, hn => by
    have hN := lt_of_lt_of_eq hn (show cfg0.N = 4 from N_0)
    rw [outsAt0_B m c ⟨n + 1, hn⟩ (show ¬ (n + 1) % 4 = 0 by omega) (show ¬ (n + 1) % 4 = 0 by omega) (show 1 ≤ n + 1 by omega)]
    dsimp only
    exact scratch_eq n (by omega)

/-- A point's block of the rows' gradient. -/
theorem out_eq (t : Fin cfg0.N) (r : Fin 512) (q : Fin 1024) :
    (outsAt0 m c t.val t.isLt).1 (ix2 r q) = outVal (iblk m c 0 t) (iblk m c 1 t) (iblk m c 2 t) (dn (iblk m c 3 t) (wide (V m c main_v3))) r q := by
  have hN := lt_of_lt_of_eq t.isLt (show cfg0.N = 4 from N_0)
  by_cases h : t.val % 4 = 0
  · rw [outsAt0_A m c t h h (by omega)]
    dsimp only
    exact out_first ..
  · rw [outsAt0_B m c t h h (by omega), scratch_eq]
    dsimp only
    exact out_later ..

theorem idx : ∀ t : Fin cfg0.N, win0_0.index t = ![t.val, 0] ∧ win0_1.index t = ![t.val, 0] ∧ win0_2.index t = ![0, 0] ∧ win0_3.index t = ![t.val, 0]
    ∧ win0_4.index t = ![t.val, 0] ∧ win0_5.index t = ![0, 0] := (by decide +kernel : ∀ t : Fin grid0.N, _)

theorem V_dh (r : Fin 2048) (k : Fin 1024) : V m c main_v4 (ix2 r k) = aDh m c (ix3 0 r k) := by
  entry_read
  pointwise

theorem V_x (r : Fin 2048) (k : Fin 1024) : V m c main_v5 (ix2 r k) = aX m c (ix3 0 r k) := by
  entry_read
  pointwise

theorem V_dy (r : Fin 2048) (j : Fin 5632) : V m c main_v7 (ix2 r j) = aDy m c (ix3 0 r j) := by
  entry_read
  pointwise

theorem V_w (q : Fin 1024) (j : Fin 5632) : wide (V m c main_v3) (ix2 q j) = aW m c (ix3 0 q j) := by
  unfold wide
  entry_read
  pointwise

/-- Row `r` of point `t`'s blocks, in the whole arrays. -/
def row (t : Fin cfg0.N) (r : Fin 512) : Fin 2048 :=
  ⟨t.val * 512 + r.val, by have := lt_of_lt_of_eq t.isLt (show cfg0.N = 4 from N_0); omega⟩

theorem blk_dh (t : Fin cfg0.N) (r : Fin 512) (k : Fin 1024) : iblk m c 0 t (ix2 r k) = aDh m c (ix3 0 (row t r) k) := by
  refine Eq.trans ?_ (V_dh m c _ k)
  blk_ext [iblk, idx t]
  all_goals rfl

theorem blk_x (t : Fin cfg0.N) (r : Fin 512) (k : Fin 1024) : iblk m c 1 t (ix2 r k) = aX m c (ix3 0 (row t r) k) := by
  refine Eq.trans ?_ (V_x m c _ k)
  blk_ext [iblk, idx t]
  all_goals rfl

theorem blk_g (t : Fin cfg0.N) (k : Fin 1024) : iblk m c 2 t (ix2 0 k) = aG m c (ix2 0 k) := by
  blk_ext [iblk, idx t]

theorem blk_dy (t : Fin cfg0.N) (r : Fin 512) (j : Fin 5632) : iblk m c 3 t (ix2 r j) = aDy m c (ix3 0 (row t r) j) := by
  refine Eq.trans ?_ (V_dy m c _ j)
  blk_ext [iblk, idx t]
  all_goals rfl

theorem dn_eq (t : Fin cfg0.N) (r : Fin 512) : dn (iblk m c 3 t) (wide (V m c main_v3)) r = dnA (aW m c) (aDy m c) (row t r) :=
  funext fun q => Finset.sum_congr rfl fun j _ => congrArg₂ (· * ·) (blk_dy m c t r j) (V_w m c q j)

theorem outVal_eq (t : Fin cfg0.N) (r : Fin 512) (q : Fin 1024) :
    outVal (iblk m c 0 t) (iblk m c 1 t) (iblk m c 2 t) (dn (iblk m c 3 t) (wide (V m c main_v3))) r q = rowsA (aDh m c) (aX m c) (aG m c) (dnA (aW m c) (aDy m c)) (ix2 (row t r) q) := by
  unfold outVal
  rw [dn_eq, blk_dh, funext (blk_x m c t r), funext (blk_g m c t)]
  rfl

theorem gainVal_eq (t : Fin cfg0.N) (q : Fin 1024) :
    gainVal (iblk m c 1 t) (dn (iblk m c 3 t) (wide (V m c main_v3))) q = ∑ n ∈ Finset.range 512, gainTerm (aX m c) (dnA (aW m c) (aDy m c)) q (t.val * 512 + n) := by
  unfold gainVal
  rw [← Fin.sum_univ_eq_sum_range fun n => gainTerm (aX m c) (dnA (aW m c) (aDy m c)) q (t.val * 512 + n)]
  refine Finset.sum_congr rfl fun r _ => ?_
  rw [dn_eq, funext (blk_x m c t r), blk_x]
  unfold gainTerm
  rw [dif_pos (show t.val * 512 + r.val < 2048 from (row t r).isLt)]
  rfl

/-- The gain's gradient after a point: the rows up to the point's last. -/
theorem gain_eq (q : Fin 1024) : ∀ (n : ℕ) (hn : n < cfg0.N), (outsAt0 m c n hn).2.1 (ix2 0 q) = ∑ k ∈ Finset.range ((n + 1) * 512), gainTerm (aX m c) (dnA (aW m c) (aDy m c)) q k
  | 0, hn => by
    rw [outsAt0_A m c ⟨0, hn⟩ (Nat.zero_mod _) (Nat.zero_mod _) (by decide : ¬ 1 ≤ 0)]
    dsimp only
    refine (gain_first ..).trans ((gainVal_eq m c ⟨0, hn⟩ q).trans ?_)
    simp only [Nat.zero_mul, Nat.zero_add, Nat.one_mul]
  | n + 1, hn => by
    have hN := lt_of_lt_of_eq hn (show cfg0.N = 4 from N_0)
    rw [outsAt0_B m c ⟨n + 1, hn⟩ (show ¬ (n + 1) % 4 = 0 by omega) (show ¬ (n + 1) % 4 = 0 by omega) (show 1 ≤ n + 1 by omega)]
    dsimp only
    refine (gain_later ..).trans ?_
    have ih := gain_eq q n (by omega)
    rw [show (n + 1 + 1) * 512 = (n + 1) * 512 + 512 by omega, Finset.sum_range_add, ← ih, scratch_eq]
    exact congrArg _ (gainVal_eq m c ⟨n + 1, hn⟩ q)

/-- A point's block of the rows' gradient, at any index. -/
theorem rows_eq (t : Fin cfg0.N) (y : S512x1024.Idx) : (outsAt0 m c t.val t.isLt).1 y = rowsA (aDh m c) (aX m c) (aG m c) (dnA (aW m c) (aDy m c)) (ix2 (row t (y 0)) (y 1)) := by
  obtain ⟨r, q, rfl⟩ : ∃ (a : Fin 512) (b : Fin 1024), y = ix2 a b := ⟨y 0, y 1, eq_ix2 y⟩
  exact (out_eq m c t r q).trans (outVal_eq m c t r q)

/-- The gain's gradient after the last point. -/
theorem gain_last (t : Fin cfg0.N) (h : t.val % 4 = 3) (y : S1x1024.Idx) : (outsAt0 m c t.val t.isLt).2.1 y = gainA (aX m c) (dnA (aW m c) (aDy m c)) y := by
  have hN := lt_of_lt_of_eq t.isLt (show cfg0.N = 4 from N_0)
  obtain ⟨q, rfl⟩ : ∃ q : Fin 1024, y = ix2 0 q := ⟨y 1, funext fun a => by fin_cases a; exacts [Subsingleton.elim (α := Fin 1) _ _, rfl]⟩
  rw [gain_eq, show (t.val + 1) * 512 = 2048 by omega]
  exact sum_gainTerm _ _ (ix2 0 q)

/-- The rows' gradient after all points. -/
theorem final_rows : (dats m 0 c).arrAt 4 (cfgs 0).N = rowsA (aDh m c) (aX m c) (aG m c) (dnA (aW m c) (aDy m c)) := by
  refine (dats m 0 c).arrAt_eq_of_covers 4 _ (by decide +kernel) fun t hf y => ?_
  rw [after0_4]
  refine (rows_eq m c t y).trans (congrArg _ (funext fun a => ?_))
  fin_cases a <;> exact Fin.ext (by blk_simp [idx t]; try rfl)

/-- The gain's gradient after all points. -/
theorem final_gain : (dats m 0 c).arrAt 5 (cfgs 0).N = gainA (aX m c) (dnA (aW m c) (aDy m c)) := by
  refine (dats m 0 c).arrAt_eq_of_covers 5 _ (by decide +kernel) fun t hf y => ?_
  rw [after0_5]
  refine (gain_last m c t ((flush0_5 t).mp hf) y).trans (congrArg _ (funext fun a => ?_))
  fin_cases a <;> exact Fin.ext (by blk_simp [idx t]; try rfl)

end Cert.Proof.Fin

end
-- ==== Proof.FinRef.lean ====
/- The gradient through SwiGLU's up projection and the norm before it, the reference: the derivative of the forward lines
   where their arguments are finite. -/
module

public import proofs.«01_k».proof.Proof.FinArray
public import proofs.«01_k».proof.Proof.Finite
public import proofs.«01_k».proof.Proof.Gen.ReferenceFinIdeal.Read

@[expose] public section

set_option maxRecDepth 16384

noncomputable section

namespace Cert.Proof.FinRef

open Cert.ReferenceFinIdeal Cert.ReferenceFinIdeal.Gen Cert.ReferenceFinIdeal.Read Idealize.ShloMosaic
open Cert.Proof.Norm (rms back width eps mean_coe terms_coe)
open Cert.Proof.Fin (dnA rowsA gainA)

/-- A sum over axes of length one. -/
theorem sum_unit {s t : Shape} {axes : List (Fin s.rank)} (h : s.ReducesTo axes t) (v : s.Idx → EReal) (b : EReal) (j : t.Idx) (i : s.Idx) (hi : ∀ k, h.drop k = j ↔ k = i) :
    Ideal.hostReduceAdd h v b j = b + v i := by
  unfold Ideal.hostReduceAdd
  simp only [hi, Finset.filter_eq', Finset.mem_univ, if_true, Finset.sum_singleton]

theorem sum_unit_gain (v : S1x1x1024.Idx → EReal) (b : EReal) (q : Fin 1024) : Ideal.hostReduceAdd reducesTo_S1x1x1024_S1024_d0_1 v b (ix1 q) = b + v (ix3 0 0 q) := by
  refine sum_unit _ v b _ _ fun k => ⟨fun e => funext fun a => ?_, fun e => e ▸ funext fun a => by fin_cases a; rfl⟩
  fin_cases a
  · exact Subsingleton.elim (α := Fin 1) _ _
  · exact Subsingleton.elim (α := Fin 1) _ _
  · exact Fin.ext (congrArg Fin.val (congrFun e 0))

theorem sum_unit_row (v : S1x2048x1.Idx → EReal) (b : EReal) (r : Fin 2048) : Ideal.hostReduceAdd reducesTo_S1x2048x1_S2048_d0_2 v b (ix1 r) = b + v (ix3 0 r 0) := by
  refine sum_unit _ v b _ _ fun k => ⟨fun e => funext fun a => ?_, fun e => e ▸ funext fun a => by fin_cases a; rfl⟩
  fin_cases a
  · exact Subsingleton.elim (α := Fin 1) _ _
  · exact Fin.ext (congrArg Fin.val (congrFun e 0))
  · exact Subsingleton.elim (α := Fin 1) _ _

variable (dh x : Vec Ideal S1x2048x1024 .f32) (g : Vec Ideal S1x1024 .f32) (w : Vec Ideal S1x1024x5632 .f32) (dy : Vec Ideal S1x2048x5632 .f32)

/-- The gradient of the normed rows. -/
theorem dn_ref (r : Fin 2048) (q : Fin 1024) : val_main_v19 (F := Ideal) w dy (ix3 0 r q) = dnA w dy r q := by
  unfold dnA
  pointwise [val_main_v19, val_main_v17]

theorem rms_ref (r : Fin 2048) : val_main_v8 (F := Ideal) x (ix3 0 r 0) = rms fun k => x (ix3 0 r k) := by
  unfold rms
  pointwise [val_main_v8, val_main_v7, val_main_v6, val_main_v5, val_main_v4, val_main_v3, val_main_v2, val_main_v1, val_main_cst, val_main_cst_0, val_main_cst_1]

/-- The gain's gradient, at any arguments. -/
theorem gain_ref (q : Fin 1024) : val_main_v42 (F := Ideal) x w dy (ix2 0 q) = gainA x (dnA w dy) (ix2 0 q) := by
  unfold gainA
  pointwise [val_main_v42, val_main_v25, val_main_cst_4]
  rw [sum_unit_gain]
  pointwise [val_main_v22, val_main_v21, val_main_v20, val_main_v13, val_main_v12, val_main_cst_3]
  simp only [rms_ref, dn_ref]
  exact Finset.sum_congr rfl fun r _ => mul_comm _ _

/-- The row's sum that the mean's gradient is made of. -/
theorem mean_ref (r : Fin 2048) : val_main_v36 (F := Ideal) x g w dy (ix2 0 r)
    = Ideal.div ((∑ k, x (ix3 0 r k) * (dnA w dy r k * g (ix2 0 k))) * (Ideal.ofBits .f32 3204448256#32
      * Ideal.div (rms fun k => x (ix3 0 r k)) (Ideal.div (∑ k, x (ix3 0 r k) * x (ix3 0 r k)) width + eps))) width := by
  pointwise [val_main_v36, val_main_v35, val_main_cst_7]
  rw [sum_unit_row]
  pointwise [val_main_v34, val_main_v33, val_main_v32, val_main_v28, val_main_v27, val_main_v26, val_main_v24, val_main_v23, val_main_v14, val_main_v0, val_main_v11, val_main_v10, val_main_v9, val_main_v7, val_main_v6, val_main_v5, val_main_v4, val_main_v3, val_main_v2, val_main_v1, val_main_cst, val_main_cst_0, val_main_cst_1, val_main_cst_2, val_main_cst_5, val_main_cst_6]
  simp only [rms_ref, dn_ref]

/-- The rows' gradient, where the rows, the gain, the weight and the gradient of the products are finite. -/
theorem rows_ref (hx : ∀ i, ∃ r : ℝ, x i = r) (hg : ∀ i, ∃ r : ℝ, g i = r) (hw : ∀ i, ∃ r : ℝ, w i = r) (hdy : ∀ i, ∃ r : ℝ, dy i = r) (r : Fin 2048) (q : Fin 1024) :
    val_main_v43 (F := Ideal) dh x g w dy (ix2 r q) = rowsA dh x g (dnA w dy) (ix2 r q) := by
  pointwise [val_main_v43, val_main_v41, val_main_v40, val_main_v39, val_main_v38, val_main_v37, val_main_v31, val_main_v30, val_main_v29, val_main_v24, val_main_v23, val_main_v14, val_main_v0]
  simp only [rms_ref, dn_ref, mean_ref]
  obtain ⟨x, rfl⟩ := reals_of hx
  obtain ⟨g, rfl⟩ := reals_of hg
  obtain ⟨w, rfl⟩ := reals_of hw
  obtain ⟨dy, rfl⟩ := reals_of hdy
  have hd : ∀ k, dnA (fun i => (w i : EReal)) (fun i => (dy i : EReal)) r k = ((∑ j, dy (ix3 0 r j) * w (ix3 0 k j) : ℝ) : EReal) := fun k => coe_sum_mul _ _ _
  simp only [hd]
  rw [mean_coe (fun k => x (ix3 0 r k)) (fun k => ∑ j, dy (ix3 0 r j) * w (ix3 0 k j)) (fun k => g (ix2 0 k))]
  refine (terms_coe _ (fun k => x (ix3 0 r k)) (fun k => ∑ j, dy (ix3 0 r j) * w (ix3 0 k j)) (fun k => g (ix2 0 k)) q).trans ?_
  exact congrArg (fun d => dh (ix3 0 r q) + back (fun k => ↑(x (ix3 0 r k))) d (fun k => ↑(g (ix2 0 k))) q) (funext fun k => (hd k).symm)

end Cert.Proof.FinRef

end
-- ==== Proof.Fin.lean ====
/- The gradient through SwiGLU's up projection and the norm before it: the claims. -/
module

public import proofs.«01_k».proof.Defs
public import proofs.«01_k».proof.Proof.FinRef
public import proofs.«01_k».proof.Proof.Gen.KernelFin.Frame
public import proofs.«01_k».proof.Proof.Gen.KernelFinIdeal.Value
public import proofs.«01_k».proof.Proof.Gen.ReferenceFinIdeal.Run
public import proofs.«01_k».proof.Proof.Gen.Pre_finite_in

@[expose] public section

set_option maxRecDepth 16384

noncomputable section

namespace Cert.Proof.Fin

open Idealize.ShloMosaic Idealize.SL.Sem
open Cert.KernelFinIdeal (cfgs)
open Cert.KernelFinIdeal.Gen (dats)

theorem frame_kernel : Cert.quiescent_KernelFin := fun m ρ _ => Cert.KernelFin.Gen.frame m ρ
theorem frame_ideal : Cert.quiescent_KernelFinIdeal := fun m ρ _ => Cert.KernelFinIdeal.Gen.frame m ρ
theorem frame_ideal_pre : Cert.quiescent_KernelFinIdeal_pre_finite_in := fun m ρ _ => Cert.KernelFinIdeal.Gen.frame m ρ
theorem frame_ref : Cert.quiescent_ReferenceFinIdeal := fun m ρ _ =>
  (θ_run _ _ _).mono (fun r h => ⟨fun c => (h c).2.2, sem_eq_zero_of_no_sems (by decide) r.2⟩) (Cert.ReferenceFinIdeal.Value.run m ρ)
theorem frame_ref_pre : Cert.quiescent_ReferenceFinIdeal_pre_finite_in := fun m ρ _ => frame_ref m ρ trivial

theorem algebraic : Cert.algebraic_KernelFinIdeal_ReferenceFinIdeal_pre_finite_in := fun m ρ m' ρ' hpre hag =>
  ⟨fun c => (dats m 0 c).arrAt 4 (cfgs 0).N, fun c => (dats m 0 c).arrAt 5 (cfgs 0).N, Cert.KernelFinIdeal.Value.run_blocks m ρ,
    (θ_run _ _ _).mono (fun _ h c => by
      obtain ⟨e0, e1, e2, e3, e4⟩ := hag c
      obtain ⟨p1, p2, p3, p4⟩ := hpre c
      refine ⟨(h c).1.trans ((Cert.ReferenceFinIdeal.Read.val_main_v43_eq _ _).trans ?_),
        (h c).2.1.trans ((Cert.ReferenceFinIdeal.Read.val_main_v42_eq _ _ _).trans ?_), (h c).2.2⟩
      · rw [e0, e1, e2, e3, e4]
        refine Eq.trans (funext fun y => ?_) (final_rows m c).symm
        obtain ⟨r, q, rfl⟩ : ∃ (a : Fin 2048) (b : Fin 1024), y = ix2 a b := ⟨y 0, y 1, eq_ix2 y⟩
        exact FinRef.rows_ref _ _ _ _ _ (fun i => real_of_abs_lt (congrFun p1 i)) (fun i => real_of_abs_lt (congrFun p2 i))
          (fun i => real_of_abs_lt (congrFun p3 i)) (fun i => real_of_abs_lt (congrFun p4 i)) r q
      · rw [e1, e3, e4]
        refine Eq.trans (funext fun y => ?_) (final_gain m c).symm
        obtain ⟨q, rfl⟩ : ∃ q : Fin 1024, y = ix2 0 q := ⟨y 1, funext fun a => by fin_cases a; exacts [Subsingleton.elim (α := Fin 1) _ _, rfl]⟩
        exact FinRef.gain_ref _ _ _ q) (Cert.ReferenceFinIdeal.Value.run m' ρ')⟩

end Cert.Proof.Fin

end
-- ==== Proof.LastOps.lean ====
/-
  The operands of the last block's kernel, and what its body is handed and gives back at a grid point.
-/
module

public import proofs.«01_k».proof.Proof.Gen.KernelLastIdeal.Frame.Runs

@[expose] public section

set_option maxRecDepth 16384

noncomputable section

namespace Cert.Proof.Last

open Cert.KernelLastIdeal Cert.KernelLastIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A whole buffer of shape `S` in the core's memory, as a body's operand. -/
structure Operand (S : Shape) (e : EltTy) where
  ref : Memref sig .tc .vmem S e
  whole : ref.IsWhole

/-- The blocks staged for a grid point: four read, eight written. -/
structure Ops where
  x : Operand S256x1024 .f32
  gain : Operand S1x1024 .f32
  target : Operand S256x1024 .f32
  final : Operand S1x1024 .f32
  dx : Operand S256x1024 .f32
  dgu : Operand S256x5632 .bf16
  dgain : Operand S1x1024 .f32
  loss : Operand S1x128 .f32
  dfinal : Operand S1x1024 .f32
  n : Operand S256x1024 .bf16
  act : Operand S256x2816 .bf16
  dh : Operand S256x1024 .bf16

/-- The contents of the four blocks read. -/
structure Ins (F : FTy → Type) where
  x : Vec F S256x1024 .f32
  gain : Vec F S1x1024 .f32
  target : Vec F S256x1024 .f32
  final : Vec F S1x1024 .f32

/-- The three sums carried from one grid point to the next. -/
structure Sums (F : FTy → Type) where
  dgain : Vec F S1x1024 .f32
  loss : Vec F S1x128 .f32
  dfinal : Vec F S1x1024 .f32

/-- The stores of a body into its eight results, the last store first. -/
abbrev Stores (F : FTy → Type) : Type :=
  List (View.Piece (Elt F) S256x1024 .f32) × List (View.Piece (Elt F) S256x5632 .bf16)
    × List (View.Piece (Elt F) S1x1024 .f32) × List (View.Piece (Elt F) S1x128 .f32)
    × List (View.Piece (Elt F) S1x1024 .f32) × List (View.Piece (Elt F) S256x1024 .bf16)
    × List (View.Piece (Elt F) S256x2816 .bf16) × List (View.Piece (Elt F) S256x1024 .bf16)

/-- The contents of the weights in the memory outside the core. -/
structure Weights (F : FTy → Type) [FloatOps F] (c : Dev nD) where
  up : HbBuf0 (F := F) c hbM0_0
  down : HbBuf0 (F := F) c hbM0_1

/-- The body at a grid point, on the given blocks. -/
abbrev body (i : grid0.Coords) (o : Ops) :=
  cc0_ffn2 (F := F) i o.x.ref o.x.whole o.gain.ref o.gain.whole (Memref.whole main_v3) (Memref.isWhole_whole _)
    (Memref.whole main_v6) (Memref.isWhole_whole _) o.target.ref o.target.whole o.final.ref o.final.whole o.dx.ref o.dx.whole
    o.dgu.ref o.dgu.whole o.dgain.ref o.dgain.whole o.loss.ref o.loss.whole o.dfinal.ref o.dfinal.whole o.n.ref o.n.whole
    o.act.ref o.act.whole o.dh.ref o.dh.whole scM0_0 (Memref.isWhole_whole _) scM0_1 (Memref.isWhole_whole _) cc0_scoped0

/-- The core's hold on an operand at contents `v`, -/
abbrev at_ (c : Dev nD) {S : Shape} {e : EltTy} (o : Operand S e) (v : Vec F S e) : sProp 𝕄 :=
  owns (c : Thread nD τ) o.ref fullShare v
/-- at some contents, -/
abbrev some_ (c : Dev nD) {S : Shape} {e : EltTy} (o : Operand S e) : sProp 𝕄 :=
  iprop(∃ d, owns (c : Thread nD τ) o.ref fullShare d)
/-- and with a list of stores written into it. -/
abbrev stored (c : Dev nD) {S : Shape} {e : EltTy} (o : Operand S e) (L : List (View.Piece (Elt F) S e)) : sProp 𝕄 :=
  iprop(∃ f, o.ref.view.loc (c : Thread nD τ) ↦[o.ref.view.set]{fullShare} o.ref.view.writes (Elt F) f L)

/-- The four blocks read, at their contents. -/
abbrev reads (c : Dev nD) (o : Ops) (v : Ins F) : sProp 𝕄 :=
  iprop(at_ c o.x v.x ∗ at_ c o.gain v.gain ∗ at_ c o.target v.target ∗ at_ c o.final v.final)

/-- The eight results, with a body's stores written, beside `R`. -/
abbrev results (c : Dev nD) (o : Ops) (L : Stores F) (R : sProp 𝕄) : sProp 𝕄 :=
  iprop(stored c o.dx L.1 ∗ stored c o.dgu L.2.1 ∗ stored c o.dgain L.2.2.1 ∗ stored c o.loss L.2.2.2.1
    ∗ stored c o.dfinal L.2.2.2.2.1 ∗ stored c o.n L.2.2.2.2.2.1 ∗ stored c o.act L.2.2.2.2.2.2.1
    ∗ stored c o.dh L.2.2.2.2.2.2.2 ∗ R)

/-- The counters of the body's own copies, all at zero, and the weights outside the core. -/
abbrev around (c : Dev nD) (w : Weights F c) : sProp 𝕄 :=
  iprop(iprop(semVal ((c : Thread nD τ), SemLoc.dma 19) 0 ∗ semVal ((c : Thread nD τ), SemLoc.dma 20) 0
      ∗ semVal ((c : Thread nD τ), SemLoc.dma 21) 0 ∗ semVal ((c : Thread nD τ), SemLoc.dma 22) 0
      ∗ semVal ((c : Thread nD τ), SemLoc.dma 23) 0 ∗ semVal ((c : Thread nD τ), SemLoc.dma 24) 0
      ∗ semVal ((c : Thread nD τ), SemLoc.dma 25) 0 ∗ semVal ((c : Thread nD τ), SemLoc.dma 26) 0)
    ∗ iprop(hbPt0 c hbM0_0 w.up ∗ hbPt0 c hbM0_1 w.down))

/-- A buffer whose stores cover it holds what they wrote. -/
theorem stored_owns (c : Dev nD) {S : Shape} {e : EltTy} (M : Memref sig .tc .vmem S e) (L : List (View.Piece (Elt F) S e))
    (h : ∀ y, ∃ p ∈ L, y ∈ p.1.set) :
    (iprop(∃ f, M.view.loc (c : Thread nD τ) ↦[M.view.set]{fullShare} M.view.writes (Elt F) f L) : sProp 𝕄)
      ⊢ owns (c : Thread nD τ) M fullShare (View.canon L) := by
  iintro ⟨%f, H⟩
  unfold owns
  iexists _
  isplitr
  swap
  · iexact H
  ipureintro
  exact View.read_writes_eq_canon _ _ _ h

end Cert.Proof.Last
-- ==== Proof.LastFirst.lean ====
/-
  The body at the first grid point: it copies the weights into the core, sets the three sums to zero, and computes.
-/
module

public import proofs.«01_k».proof.Proof.LastOps

@[expose] public section

set_option maxRecDepth 16384

noncomputable section

namespace Cert.Proof.Last

open Cert.KernelLastIdeal Cert.KernelLastIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 1000000 in
set_option sl_exec.dmaWindow true in
set_option sl_exec.dmaWindowSet true in
/-- The stores the first body makes into its results and into the two weight buffers of the core, with its run. -/
def first (c : Dev nD) (i : grid0.Coords) (o : Ops) (h0 : cond0_0 i) (h1 : cond0_1 i) (v : Ins F) (w : Weights F c) :
    { L : Stores F × List (View.Piece (Elt F) S1024x5632 .bf16) × List (View.Piece (Elt F) S2816x1024 .bf16) //
      ∀ (W : Waits sig Unit) (K : PUnit → sProp 𝕄),
        iprop(reads c o v ∗ iprop(some_ c o.dx ∗ some_ c o.dgu ∗ some_ c o.dgain ∗ some_ c o.loss ∗ some_ c o.dfinal
              ∗ some_ c o.n ∗ some_ c o.act ∗ some_ c o.dh)
            ∗ iprop((∃ d, owns (c : Thread nD τ) scM0_0 fullShare d) ∗ (∃ d, owns (c : Thread nD τ) scM0_1 fullShare d))
            ∗ around c w ∗ owes (c : Thread nD τ) 0 W
            ∗ (iprop(reads c o v ∗ around c w ∗ (∃ W', owes (c : Thread nD τ) 0 W') ∗ results c o L.1
                iprop((∃ f, scM0_0.view.loc (c : Thread nD τ) ↦[scM0_0.view.set]{fullShare} scM0_0.view.writes (Elt F) f L.2.1)
                    ∗ (∃ f, scM0_1.view.loc (c : Thread nD τ) ↦[scM0_1.view.set]{fullShare} scM0_1.view.writes (Elt F) f L.2.2)))
              -∗ K ⟨⟩))
          ⊢ wp frame (wpE (defs₀ (F := F)) Variants.none c none) Set.univ (body i o) K } := by
  refine ⟨⟨⟨?_, ?_, ?_, ?_, ?_, ?_, ?_, ?_⟩, ?_, ?_⟩, fun W K => ?run⟩
  case run =>
    unfold reads results some_ at_ stored around
    simp only [body, cc0_ffn2_eq_skeleton]; unfold cc0_ffn2_skel
    simp only [k0_part1_eq_skeleton, k0_part2_eq_skeleton, k0_part3_eq_skeleton, k0_part4_eq_skeleton, k0_part5_eq_skeleton,
      k0_part6_eq_skeleton, k0_part7_eq_skeleton]
    unfold owns
    iintro ⟨⟨⟨%f0, %hf0, H0⟩, ⟨%f1, %hf1, H1⟩, ⟨%f2, %hf2, H2⟩, ⟨%f3, %hf3, H3⟩⟩, ⟨⟨%d4, %f4, -, H4⟩, ⟨%d5, %f5, -, H5⟩,
      ⟨%d6, %f6, -, H6⟩, ⟨%d7, %f7, -, H7⟩, ⟨%d8, %f8, -, H8⟩, ⟨%d9, %f9, -, H9⟩, ⟨%d10, %f10, -, H10⟩, ⟨%d11, %f11, -, H11⟩⟩,
      ⟨⟨%e0, %g0, -, S0⟩, ⟨%e1, %g1, -, S1⟩⟩, ⟨⟨Q0, Q1, Q2, Q3, Q4, Q5, Q6, Q7⟩, ⟨U0, U1⟩⟩, HW, Hk⟩
    obtain rfl := o.x.whole.eq_unread hf0
    obtain rfl := o.gain.whole.eq_unread hf1
    obtain rfl := o.target.whole.eq_unread hf2
    obtain rfl := o.final.whole.eq_unread hf3
    sl_exec (disch := first | sl_exact h0 | sl_exact h1)
    sl_step
    iapply Hk
    isplitl [H0 H1 H2 H3]
    · isplitl [H0]
      · iexists _; isplitr; · ipureintro; exact o.x.whole.read_unread _
        iexact H0
      isplitl [H1]
      · iexists _; isplitr; · ipureintro; exact o.gain.whole.read_unread _
        iexact H1
      isplitl [H2]
      · iexists _; isplitr; · ipureintro; exact o.target.whole.read_unread _
        iexact H2
      · iexists _; isplitr; · ipureintro; exact o.final.whole.read_unread _
        iexact H3
    isplitl [Q0 Q1 Q2 Q3 Q4 Q5 Q6 Q7 U0 U1]
    · iframe Q0 Q1 Q2 Q3 Q4 Q5 Q6 Q7 U0 U1
    isplitl [HW]; · iexists _; iexact HW
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [S0]; · iexists _; iexact S0
    iexists _; iexact S1

end Cert.Proof.Last
-- ==== Proof.LastNext.lean ====
/-
  The body at a later grid point: it computes with the weights the first point left in the core, and adds to the sums.
-/
module

public import proofs.«01_k».proof.Proof.LastOps

@[expose] public section

set_option maxRecDepth 16384

noncomputable section

namespace Cert.Proof.Last

open Cert.KernelLastIdeal Cert.KernelLastIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 1000000 in
/-- The stores a later body makes into its results, with its run. -/
def next (c : Dev nD) (i : grid0.Coords) (o : Ops) (h0 : ¬cond0_0 i) (h1 : ¬cond0_1 i) (v : Ins F) (a : Sums F)
    (up : Vec F S1024x5632 .bf16) (down : Vec F S2816x1024 .bf16) (w : Weights F c) :
    { L : Stores F //
      ∀ (W : Waits sig Unit) (K : PUnit → sProp 𝕄),
        iprop(reads c o v ∗ iprop(some_ c o.dx ∗ some_ c o.dgu ∗ at_ c o.dgain a.dgain ∗ at_ c o.loss a.loss
              ∗ at_ c o.dfinal a.dfinal ∗ some_ c o.n ∗ some_ c o.act ∗ some_ c o.dh)
            ∗ iprop(owns (c : Thread nD τ) scM0_0 fullShare up ∗ owns (c : Thread nD τ) scM0_1 fullShare down)
            ∗ around c w ∗ owes (c : Thread nD τ) 0 W
            ∗ (iprop(reads c o v ∗ around c w ∗ (∃ W', owes (c : Thread nD τ) 0 W') ∗ results c o L
                iprop(owns (c : Thread nD τ) scM0_0 fullShare up ∗ owns (c : Thread nD τ) scM0_1 fullShare down))
              -∗ K ⟨⟩))
          ⊢ wp frame (wpE (defs₀ (F := F)) Variants.none c none) Set.univ (body i o) K } := by
  refine ⟨⟨?_, ?_, ?_, ?_, ?_, ?_, ?_, ?_⟩, fun W K => ?run⟩
  case run =>
    unfold reads results some_ at_ stored around
    simp only [body, cc0_ffn2_eq_skeleton]; unfold cc0_ffn2_skel
    simp only [k0_part3_eq_skeleton, k0_part4_eq_skeleton, k0_part5_eq_skeleton,
      k0_part6_eq_skeleton, k0_part7_eq_skeleton]
    unfold owns
    iintro ⟨⟨⟨%f0, %hf0, H0⟩, ⟨%f1, %hf1, H1⟩, ⟨%f2, %hf2, H2⟩, ⟨%f3, %hf3, H3⟩⟩, ⟨⟨%d4, %f4, -, H4⟩, ⟨%d5, %f5, -, H5⟩,
      ⟨%f6, %hf6, H6⟩, ⟨%f7, %hf7, H7⟩, ⟨%f8, %hf8, H8⟩, ⟨%d9, %f9, -, H9⟩, ⟨%d10, %f10, -, H10⟩, ⟨%d11, %f11, -, H11⟩⟩,
      ⟨⟨%g0, %hg0, S0⟩, ⟨%g1, %hg1, S1⟩⟩, ⟨⟨Q0, Q1, Q2, Q3, Q4, Q5, Q6, Q7⟩, ⟨U0, U1⟩⟩, HW, Hk⟩
    obtain rfl := o.x.whole.eq_unread hf0
    obtain rfl := o.gain.whole.eq_unread hf1
    obtain rfl := o.target.whole.eq_unread hf2
    obtain rfl := o.final.whole.eq_unread hf3
    obtain rfl := o.dgain.whole.eq_unread hf6
    obtain rfl := o.loss.whole.eq_unread hf7
    obtain rfl := o.dfinal.whole.eq_unread hf8
    obtain rfl := (Memref.isWhole_whole cc0_scratch0).eq_unread hg0
    obtain rfl := (Memref.isWhole_whole cc0_scratch1).eq_unread hg1
    sl_exec (disch := first | sl_exact h0 | sl_exact h1)
    sl_step
    iapply Hk
    isplitl [H0 H1 H2 H3]
    · isplitl [H0]
      · iexists _; isplitr; · ipureintro; exact o.x.whole.read_unread _
        iexact H0
      isplitl [H1]
      · iexists _; isplitr; · ipureintro; exact o.gain.whole.read_unread _
        iexact H1
      isplitl [H2]
      · iexists _; isplitr; · ipureintro; exact o.target.whole.read_unread _
        iexact H2
      · iexists _; isplitr; · ipureintro; exact o.final.whole.read_unread _
        iexact H3
    isplitl [Q0 Q1 Q2 Q3 Q4 Q5 Q6 Q7 U0 U1]
    · iframe Q0 Q1 Q2 Q3 Q4 Q5 Q6 Q7 U0 U1
    isplitl [HW]; · iexists _; iexact HW
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [S0]
    · iexists _; isplitr; · ipureintro; exact (Memref.isWhole_whole cc0_scratch0).read_unread _
      iexact S0
    · iexists _; isplitr; · ipureintro; exact (Memref.isWhole_whole cc0_scratch1).read_unread _
      iexact S1

end Cert.Proof.Last
-- ==== Proof.LastCover.lean ====
/-
  The stores of the last block's two bodies cover every result they write.
-/
module

public import proofs.«01_k».proof.Proof.LastFirst
public import proofs.«01_k».proof.Proof.LastNext

@[expose] public section

set_option maxRecDepth 16384

noncomputable section

namespace Cert.Proof.Last

open Cert.KernelLastIdeal Cert.KernelLastIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The stores cover the results -/

/-- Every index of every result lies in one of the stores. -/
structure Covers (L : Stores F) : Prop where
  dx : ∀ y, ∃ p ∈ L.1, y ∈ p.1.set
  dgu : ∀ y, ∃ p ∈ L.2.1, y ∈ p.1.set
  dgain : ∀ y, ∃ p ∈ L.2.2.1, y ∈ p.1.set
  loss : ∀ y, ∃ p ∈ L.2.2.2.1, y ∈ p.1.set
  dfinal : ∀ y, ∃ p ∈ L.2.2.2.2.1, y ∈ p.1.set
  n : ∀ y, ∃ p ∈ L.2.2.2.2.2.1, y ∈ p.1.set
  act : ∀ y, ∃ p ∈ L.2.2.2.2.2.2.1, y ∈ p.1.set
  dh : ∀ y, ∃ p ∈ L.2.2.2.2.2.2.2, y ∈ p.1.set

theorem first_covers (c : Dev nD) (i : grid0.Coords) (o : Ops) (h0 : cond0_0 i) (h1 : cond0_1 i) (v : Ins F) (w : Weights F c) :
    Covers (first c i o h0 h1 v w).1.1 where
  dx := View.cover_of_tiledL _ S256x1024.size (by sl_kernel_rfl)
  dgu := View.cover_of_tiledBy _ ![256, 256] (by sl_kernel_rfl)
  dgain := View.cover_of_tiledL _ S1x1024.size (by sl_kernel_rfl)
  loss := View.cover_of_tiledL _ S1x128.size (by sl_kernel_rfl)
  dfinal := View.cover_of_tiledL _ S1x1024.size (by sl_kernel_rfl)
  n := View.cover_of_tiledL _ S256x1024.size (by sl_kernel_rfl)
  act := View.cover_of_tiledBy _ ![256, 256] (by sl_kernel_rfl)
  dh := View.cover_of_tiledL _ S256x1024.size (by sl_kernel_rfl)

theorem next_covers (c : Dev nD) (i : grid0.Coords) (o : Ops) (h0 : ¬cond0_0 i) (h1 : ¬cond0_1 i) (v : Ins F) (a : Sums F)
    (up : Vec F S1024x5632 .bf16) (down : Vec F S2816x1024 .bf16) (w : Weights F c) :
    Covers (next c i o h0 h1 v a up down w).1 where
  dx := View.cover_of_tiledL _ S256x1024.size (by sl_kernel_rfl)
  dgu := View.cover_of_tiledBy _ ![256, 256] (by sl_kernel_rfl)
  dgain := View.cover_of_tiledL _ S1x1024.size (by sl_kernel_rfl)
  loss := View.cover_of_tiledL _ S1x128.size (by sl_kernel_rfl)
  dfinal := View.cover_of_tiledL _ S1x1024.size (by sl_kernel_rfl)
  n := View.cover_of_tiledL _ S256x1024.size (by sl_kernel_rfl)
  act := View.cover_of_tiledBy _ ![256, 256] (by sl_kernel_rfl)
  dh := View.cover_of_tiledL _ S256x1024.size (by sl_kernel_rfl)

theorem up_covers (c : Dev nD) (i : grid0.Coords) (o : Ops) (h0 : cond0_0 i) (h1 : cond0_1 i) (v : Ins F) (w : Weights F c) (y) :
    ∃ p ∈ (first c i o h0 h1 v w).1.2.1, y ∈ p.1.set :=
  View.cover_of_tiledBy _ ![1024, 128] (by sl_kernel_rfl) y

theorem down_covers (c : Dev nD) (i : grid0.Coords) (o : Ops) (h0 : cond0_0 i) (h1 : cond0_1 i) (v : Ins F) (w : Weights F c) (y) :
    ∃ p ∈ (first c i o h0 h1 v w).1.2.2, y ∈ p.1.set :=
  View.cover_of_tiledBy _ ![64, 1024] (by sl_kernel_rfl) y

/-- The eight results held at what a list of covering stores wrote. -/
theorem results_owned (c : Dev nD) (o : Ops) (L : Stores F) (h : Covers L) (R : sProp 𝕄) :
    results c o L R ⊢ iprop(at_ c o.dx (View.canon L.1) ∗ at_ c o.dgu (View.canon L.2.1) ∗ at_ c o.dgain (View.canon L.2.2.1)
      ∗ at_ c o.loss (View.canon L.2.2.2.1) ∗ at_ c o.dfinal (View.canon L.2.2.2.2.1) ∗ at_ c o.n (View.canon L.2.2.2.2.2.1)
      ∗ at_ c o.act (View.canon L.2.2.2.2.2.2.1) ∗ at_ c o.dh (View.canon L.2.2.2.2.2.2.2) ∗ R) :=
  BIClass.sep_mono (stored_owns c _ _ h.dx) <| BIClass.sep_mono (stored_owns c _ _ h.dgu) <| BIClass.sep_mono (stored_owns c _ _ h.dgain) <|
    BIClass.sep_mono (stored_owns c _ _ h.loss) <| BIClass.sep_mono (stored_owns c _ _ h.dfinal) <| BIClass.sep_mono (stored_owns c _ _ h.n) <|
      BIClass.sep_mono (stored_owns c _ _ h.act) <| BIClass.sep_mono (stored_owns c _ _ h.dh) .rfl

end Cert.Proof.Last
-- ==== Proof.LastFrame.lean ====
/-
  The frame of the last block's kernel, over any values: the two bodies at the grid's points, what is held between
  them, and the run of the whole program.
-/
module

public import proofs.«01_k».proof.Proof.LastCover
public import Idealize.ShloMosaic.Lib.Claim

@[expose] public section

set_option maxRecDepth 16384

noncomputable section

namespace Cert.Proof.Last

open Cert.KernelLastIdeal Cert.KernelLastIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-! ## What is held after each point -/

variable (m : (ℓ : Loc nD τ sig) → Buf (Elt F) ℓ) (ρ : Dev nD → PrngReg)

/-- The blocks staged for point `t`. -/
def ops (t : Fin cfg0.N) : Ops where
  x := ⟨ms0_0 t, hs0_0 t⟩
  gain := ⟨ms0_1 t, hs0_1 t⟩
  target := ⟨ms0_2 t, hs0_2 t⟩
  final := ⟨ms0_3 t, hs0_3 t⟩
  dx := ⟨ms0_4 t, hs0_4 t⟩
  dgu := ⟨ms0_5 t, hs0_5 t⟩
  dgain := ⟨ms0_6 t, hs0_6 t⟩
  loss := ⟨ms0_7 t, hs0_7 t⟩
  dfinal := ⟨ms0_8 t, hs0_8 t⟩
  n := ⟨ms0_9 t, hs0_9 t⟩
  act := ⟨ms0_10 t, hs0_10 t⟩
  dh := ⟨ms0_11 t, hs0_11 t⟩

/-- What the four blocks read hold at point `t`. -/
def ins (c : Dev nD) (t : Fin cfg0.N) : Ins F where
  x := iblk m c 0 t
  gain := iblk m c 1 t
  target := iblk m c 2 t
  final := iblk m c 3 t

/-- The weights as the kernel finds them. -/
def weights (c : Dev nD) : Weights F c where
  up := V m c main_v3
  down := V m c main_v6

/-- The first point. -/
abbrev t₀ : Fin cfg0.N := ⟨0, by decide⟩

theorem starts (t : Fin cfg0.N) (h : t.val = 0) : cond0_0 (grid0.coords t) ∧ cond0_1 (grid0.coords t) :=
  ⟨(hcond0_0 t).mpr (by omega), (hcond0_1 t).mpr (by omega)⟩

theorem goes (t : Fin cfg0.N) (h : t.val ≠ 0) : ¬cond0_0 (grid0.coords t) ∧ ¬cond0_1 (grid0.coords t) := by
  have hN : t.val < 8 := lt_of_lt_of_eq t.isLt N_0
  exact ⟨fun e => by have := (hcond0_0 t).mp e; omega, fun e => by have := (hcond0_1 t).mp e; omega⟩

/-- The first body's stores. -/
def start (c : Dev nD) (t : Fin cfg0.N) (h : t.val = 0) :=
  first c (grid0.coords t) (ops t) (starts t h).1 (starts t h).2 (ins m c t) (weights m c)

/-- The two weight buffers of the core once the first body has filled them. -/
def upHeld (c : Dev nD) : Vec F S1024x5632 .bf16 := View.canon (start m c t₀ rfl).1.2.1
def downHeld (c : Dev nD) : Vec F S2816x1024 .bf16 := View.canon (start m c t₀ rfl).1.2.2

/-- The sums that a body's stores leave. -/
def sumsOf (L : Stores F) : Sums F where
  dgain := View.canon L.2.2.1
  loss := View.canon L.2.2.2.1
  dfinal := View.canon L.2.2.2.2.1

/-- A later body's stores, over the sums left before it. -/
def step (c : Dev nD) (t : Fin cfg0.N) (h : t.val ≠ 0) (a : Sums F) :=
  next c (grid0.coords t) (ops t) (goes t h).1 (goes t h).2 (ins m c t) a (upHeld m c) (downHeld m c) (weights m c)

theorem start_covers (c : Dev nD) (t : Fin cfg0.N) (h : t.val = 0) : Covers (start m c t h).1.1 := first_covers _ _ _ _ _ _ _

theorem step_covers (c : Dev nD) (t : Fin cfg0.N) (h : t.val ≠ 0) (a : Sums F) : Covers (step m c t h a).1 :=
  next_covers _ _ _ _ _ _ _ _ _ _

/-- The stores of the body at each point. -/
def outs (c : Dev nD) : (k : ℕ) → k < cfg0.N → Stores F
  | 0, hk => (start m c ⟨0, hk⟩ rfl).1.1
  | k + 1, hk => (step m c ⟨k + 1, hk⟩ (Nat.succ_ne_zero k) (sumsOf (outs c k (Nat.lt_of_succ_lt hk)))).1

theorem outs_first (c : Dev nD) (t : Fin cfg0.N) (h : t.val = 0) : outs m c t.val t.isLt = (start m c t h).1.1 := by
  obtain ⟨k, hk⟩ := t
  cases k with
  | zero => rfl
  | succ k => exact absurd h (Nat.succ_ne_zero k)

theorem before_lt (t : Fin cfg0.N) : t.val - 1 < cfg0.N := Nat.lt_of_le_of_lt (Nat.sub_le _ _) t.isLt

theorem outs_next (c : Dev nD) (t : Fin cfg0.N) (h : t.val ≠ 0) :
    outs m c t.val t.isLt = (step m c t h (sumsOf (outs m c (t.val - 1) (before_lt t)))).1 := by
  obtain ⟨k, hk⟩ := t
  cases k with
  | zero => exact absurd rfl h
  | succ k => rfl

/-- What the core holds besides the staged blocks once the first body has run. -/
abbrev kept (c : Dev nD) : sProp 𝕄 :=
  iprop(iprop(owns (c : Thread nD τ) scM0_0 fullShare (upHeld m c) ∗ owns (c : Thread nD τ) scM0_1 fullShare (downHeld m c))
    ∗ (∃ r, prngReg c r) ∗ around c (weights m c))

/-- What it holds besides before each point. -/
def held (c : Dev nD) : (k : ℕ) → k ≤ cfg0.N → sProp 𝕄
  | 0, _ => Pipeline.ΦD osem0 spec0 H0 (V m) c
  | _ + 1, _ => kept m c

theorem held_first (c : Dev nD) (k : ℕ) (h : k ≤ cfg0.N) (e : k = 0) :
    held m c k h = iprop(iprop((∃ d, owns (c : Thread nD τ) scM0_0 fullShare d) ∗ (∃ d, owns (c : Thread nD τ) scM0_1 fullShare d))
      ∗ (∃ r, prngReg c r) ∗ around c (weights m c)) := by
  subst e
  exact PhiD0_eq m c

theorem held_next (c : Dev nD) (k : ℕ) (h : k ≤ cfg0.N) (e : k ≠ 0) : held m c k h = kept m c := by
  cases k with
  | zero => exact absurd rfl e
  | succ k => rfl

/-- The proof data of the pipeline: the arrays as the kernel finds them, each block after each point, what is held
    besides. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => View.canon (outs m c t.val t.isLt).1
    | ⟨5, _⟩ => View.canon (outs m c t.val t.isLt).2.1
    | ⟨6, _⟩ => (sumsOf (outs m c t.val t.isLt)).dgain
    | ⟨7, _⟩ => (sumsOf (outs m c t.val t.isLt)).loss
    | ⟨8, _⟩ => (sumsOf (outs m c t.val t.isLt)).dfinal
    | ⟨9, _⟩ => View.canon (outs m c t.val t.isLt).2.2.2.2.2.1
    | ⟨10, _⟩ => View.canon (outs m c t.val t.isLt).2.2.2.2.2.2.1
    | ⟨11, _⟩ => View.canon (outs m c t.val t.isLt).2.2.2.2.2.2.2
  Φ t := held m c t.val (Nat.le_of_lt_succ t.isLt)
  q _ := fullShare
  owed _ := 0

theorem arrays (c : Dev nD) (w : Fin cfg0.W) : (dats m 0 c).A w = V m c (Pipeline.arrRef spec0 w) := by
  dsimp only [dats]

theorem held_at (c : Dev nD) (t : Fin cfg0.N) : (dats m 0 c).Φ t.castSucc = held m c t.val (Nat.le_of_lt t.isLt) := by
  dsimp only [dats]; exact Pipeline.Dat.Φ_castSucc (held m c) t

theorem read_x (c : Dev nD) (t : Fin cfg0.N) (d) : (dats m 0 c).before 0 t d = iblk m c 0 t :=
  before0_0_of m _ (arrays m c 0) (fun _ => by dsimp only [dats]) t d
theorem read_gain (c : Dev nD) (t : Fin cfg0.N) (d) : (dats m 0 c).before 1 t d = iblk m c 1 t :=
  before0_1_of m _ (arrays m c 1) (fun _ => by dsimp only [dats]) t d
theorem read_target (c : Dev nD) (t : Fin cfg0.N) (d) : (dats m 0 c).before 2 t d = iblk m c 2 t :=
  before0_2_of m _ (arrays m c 2) (fun _ => by dsimp only [dats]) t d
theorem read_final (c : Dev nD) (t : Fin cfg0.N) (d) : (dats m 0 c).before 3 t d = iblk m c 3 t :=
  before0_3_of m _ (arrays m c 3) (fun _ => by dsimp only [dats]) t d

/-- The sums are carried: at a later point each still holds what the point before left. -/
theorem carried (c : Dev nD) (t : Fin cfg0.N) (h : t.val ≠ 0) :
    (∀ d, (dats m 0 c).before 6 t d = (sumsOf (outs m c (t.val - 1) (before_lt t))).dgain)
      ∧ (∀ d, (dats m 0 c).before 7 t d = (sumsOf (outs m c (t.val - 1) (before_lt t))).loss)
      ∧ ∀ d, (dats m 0 c).before 8 t d = (sumsOf (outs m c (t.val - 1) (before_lt t))).dfinal := by
  have hN : t.val < 8 := lt_of_lt_of_eq t.isLt N_0
  refine ⟨fun d => ?_, fun d => ?_, fun d => ?_⟩
  · rw [Dat.before_out_kept _ 6 rfl t (by omega)
      (Bool.eq_false_iff.mpr fun e => by have := (flush0_6 _).mp e; dsimp only at this; omega) (fun _ => rfl) (fun _ _ => rfl)]
    dsimp only [dats]
  · rw [Dat.before_out_kept _ 7 rfl t (by omega)
      (Bool.eq_false_iff.mpr fun e => by have := (flush0_7 _).mp e; dsimp only at this; omega) (fun _ => rfl) (fun _ _ => rfl)]
    dsimp only [dats]
  · rw [Dat.before_out_kept _ 8 rfl t (by omega)
      (Bool.eq_false_iff.mpr fun e => by have := (flush0_8 _).mp e; dsimp only at this; omega) (fun _ => rfl) (fun _ _ => rfl)]
    dsimp only [dats]

/-! ## The body at a point -/

/-- What the body gives back: the blocks read as they were, the results at its stores. -/
abbrev leaves (c : Dev nD) (o : Ops) (v : Ins F) (L : Stores F) : sProp 𝕄 :=
  iprop(at_ c o.x v.x ∗ at_ c o.gain v.gain ∗ at_ c o.target v.target ∗ at_ c o.final v.final
    ∗ at_ c o.dx (View.canon L.1) ∗ at_ c o.dgu (View.canon L.2.1) ∗ at_ c o.dgain (View.canon L.2.2.1)
    ∗ at_ c o.loss (View.canon L.2.2.2.1) ∗ at_ c o.dfinal (View.canon L.2.2.2.2.1) ∗ at_ c o.n (View.canon L.2.2.2.2.2.1)
    ∗ at_ c o.act (View.canon L.2.2.2.2.2.2.1) ∗ at_ c o.dh (View.canon L.2.2.2.2.2.2.2))

/-- The waits recorded so far. -/
abbrev waits (c : Dev nD) (t : Fin (cfg0.N + 1)) : sProp 𝕄 := (dats m 0 c).owesAt () t

/-- What the body is handed at point `t`. -/
abbrev takes (c : Dev nD) (t : Fin cfg0.N) : sProp 𝕄 :=
  iprop((∃ d, at_ c (ops t).x ((dats m 0 c).before 0 t d)) ∗ (∃ d, at_ c (ops t).gain ((dats m 0 c).before 1 t d))
    ∗ (∃ d, at_ c (ops t).target ((dats m 0 c).before 2 t d)) ∗ (∃ d, at_ c (ops t).final ((dats m 0 c).before 3 t d))
    ∗ (∃ d, at_ c (ops t).dx ((dats m 0 c).before 4 t d)) ∗ (∃ d, at_ c (ops t).dgu ((dats m 0 c).before 5 t d))
    ∗ (∃ d, at_ c (ops t).dgain ((dats m 0 c).before 6 t d)) ∗ (∃ d, at_ c (ops t).loss ((dats m 0 c).before 7 t d))
    ∗ (∃ d, at_ c (ops t).dfinal ((dats m 0 c).before 8 t d)) ∗ (∃ d, at_ c (ops t).n ((dats m 0 c).before 9 t d))
    ∗ (∃ d, at_ c (ops t).act ((dats m 0 c).before 10 t d)) ∗ (∃ d, at_ c (ops t).dh ((dats m 0 c).before 11 t d)))

set_option maxHeartbeats 1000000 in
theorem body_first (c : Dev nD) (t : Fin cfg0.N) (h : t.val = 0) :
    iprop(held m c t.val (Nat.le_of_lt t.isLt) ∗ waits m c t.castSucc ∗ takes m c t)
      ⊢ wp frame (wpE (defs₀ (F := F)) Variants.none c none) Set.univ (body (grid0.coords t) (ops t))
        (fun _ => iprop(kept m c ∗ waits m c t.succ ∗ leaves c (ops t) (ins m c t) (outs m c t.val t.isLt))) := by
  obtain rfl : t = t₀ := Fin.ext h
  rw [held_first m c _ _ rfl, outs_first m c t₀ rfl]
  unfold takes
  simp only [read_x, read_gain, read_target, read_final]
  unfold waits Dat.owesAt Pipeline.owesWithin
  iintro ⟨⟨S, G, A⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩,
    ⟨%d8, H8⟩, ⟨%d9, H9⟩, ⟨%d10, H10⟩, ⟨%d11, H11⟩⟩
  iapply ((start m c t₀ rfl).2 W _)
  isplitl [H0 H1 H2 H3]
  · isplitl [H0]; · iexact H0
    isplitl [H1]; · iexact H1
    isplitl [H2]; · iexact H2
    iexact H3
  isplitl [H4 H5 H6 H7 H8 H9 H10 H11]
  · isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    iexists _; iexact H11
  isplitl [S]; · iexact S
  isplitl [A]; · iexact A
  isplitl [HW]; · iexact HW
  iintro ⟨⟨H0, H1, H2, H3⟩, A, ⟨%W', HW'⟩, R⟩
  ihave R2 := (results_owned c (ops t₀) (start m c t₀ rfl).1.1 (start_covers m c t₀ rfl) _) $$ R
  icases R2 with ⟨H4, H5, H6, H7, H8, H9, H10, H11, S0, S1⟩
  isplitl [S0 S1 G A]
  · isplitl [S0 S1]
    · isplitl [S0]
      · iapply (stored_owns c scM0_0 _ (up_covers c _ _ _ _ _ _)); iexact S0
      iapply (stored_owns c scM0_1 _ (down_covers c _ _ _ _ _ _)); iexact S1
    isplitl [G]; · iexact G
    iexact A
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

set_option maxHeartbeats 1000000 in
theorem body_next (c : Dev nD) (t : Fin cfg0.N) (h : t.val ≠ 0) :
    iprop(held m c t.val (Nat.le_of_lt t.isLt) ∗ waits m c t.castSucc ∗ takes m c t)
      ⊢ wp frame (wpE (defs₀ (F := F)) Variants.none c none) Set.univ (body (grid0.coords t) (ops t))
        (fun _ => iprop(kept m c ∗ waits m c t.succ ∗ leaves c (ops t) (ins m c t) (outs m c t.val t.isLt))) := by
  rw [held_next m c _ _ h, outs_next m c t h]
  obtain ⟨b6, b7, b8⟩ := carried m c t h
  unfold takes
  simp only [read_x, read_gain, read_target, read_final, b6, b7, b8]
  unfold waits Dat.owesAt Pipeline.owesWithin
  iintro ⟨⟨S, G, A⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩,
    ⟨%d8, H8⟩, ⟨%d9, H9⟩, ⟨%d10, H10⟩, ⟨%d11, H11⟩⟩
  iapply ((step m c t h (sumsOf (outs m c (t.val - 1) (before_lt t)))).2 W _)
  isplitl [H0 H1 H2 H3]
  · isplitl [H0]; · iexact H0
    isplitl [H1]; · iexact H1
    isplitl [H2]; · iexact H2
    iexact H3
  isplitl [H4 H5 H6 H7 H8 H9 H10 H11]
  · isplitl [H4]; · iexists _; iexact H4
    isplitl [H5]; · iexists _; iexact H5
    isplitl [H6]; · iexact H6
    isplitl [H7]; · iexact H7
    isplitl [H8]; · iexact H8
    isplitl [H9]; · iexists _; iexact H9
    isplitl [H10]; · iexists _; iexact H10
    iexists _; iexact H11
  isplitl [S]; · iexact S
  isplitl [A]; · iexact A
  isplitl [HW]; · iexact HW
  iintro ⟨⟨H0, H1, H2, H3⟩, A, ⟨%W', HW'⟩, R⟩
  ihave R2 := (results_owned c (ops t) (step m c t h (sumsOf (outs m c (t.val - 1) (before_lt t)))).1 (step_covers m c t h _) _) $$ R
  icases R2 with ⟨H4, H5, H6, H7, H8, H9, H10, H11, S⟩
  isplitl [S G A]
  · isplitl [S]; · iexact S
    isplitl [G]; · iexact G
    iexact A
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_at (c : Dev nD) (t : Fin cfg0.N) :
    iprop((dats m 0 c).Φ t.castSucc ∗ waits m c t.castSucc ∗ takes m c t)
      ⊢ wp frame (wpE (defs₀ (F := F)) Variants.none c none) Set.univ (body (grid0.coords t) (ops t))
        (fun _ => iprop(kept m c ∗ waits m c t.succ ∗ leaves c (ops t) (ins m c t) (outs m c t.val t.isLt))) := by
  rw [held_at]
  by_cases h : t.val = 0
  · exact body_first m c t h
  · exact body_next m c t h

theorem body_row (t : Fin cfg0.N) :
    defs₀ (F := F) .tc cfg0.body (cfg0.bodyArgs t (cfg0.slots t)) = body (grid0.coords t) (ops t) := by
  unfold defs₀; rw [Defs.onTc_tc]; rfl

theorem body_obligation (c : Dev nD) : BodyObligation (dats (F := F) m 0 c) (defs₀ (F := F)) Variants.none () Set.univ := fun t => by
  rw [bigSep_W0, bigSep_W0, body_row]
  exact triple_restated (body_at m c t) rfl .rfl fun _ => .rfl

/-! ## The whole program -/

theorem launched (c : Dev nD) : Pipeline.ΦD osem0 spec0 H0 (V m) c ⊢ (dats m 0 c).Φ 0 := .rfl

theorem returned (c : Dev nD) : (dats m 0 c).Φ (Fin.last cfg0.N) ⊢ Pipeline.ΦD osem0 spec0 H0 (V m) c := by
  rw [show (dats m 0 c).Φ (Fin.last cfg0.N) = held m c cfg0.N le_rfl from rfl,
    held_next m c _ _ (by have : cfg0.N = 8 := N_0; omega), PhiD0_eq]
  iintro ⟨⟨S0, S1⟩, G, A⟩
  isplitl [S0 S1]
  · isplitl [S0]
    · iexists _; iexact S0
    iexists _; iexact S1
  isplitl [G]; · iexact G
  iexact A

set_option backward.isDefEq.respectTransparency.types false in
/-- Every run of the program ends, with each array at what the proof data says and every counter at zero. -/
theorem run : θ_run defs (onTc (τ := τ) (main (F := F))) (s₀ m ρ)
    (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := arrays m)
    (hin := launched m) (hout := returned m)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (arrays m) ((θ_run defs _ _).mono (fun _ h => h.1) (run m ρ)))
    ((θ_run defs _ _).mono (fun _ h => h.2) (run m ρ))

end Cert.Proof.Last
-- ==== Proof.LastSpec.lean ====
/-
  The last block of the step, a row at a time: what the kernel computes at a grid point, part by part. `x` and `t` are the
  rows of the input and of the target, `g` and `f` the two gains, `u` and `d` the two weights.
-/
module

public import proofs.«01_k».proof.Proof.LastFrame
public import Idealize.ShloMosaic.Lib.Pipeline.ValueKit.Tiles
public import Idealize.ShloMosaic.Lib.Pipeline.ReadBack
public import proofs.«01_k».proof.Proof.Norm
public import proofs.«01_k».proof.Proof.ActBlock
public import proofs.«01_k».proof.Proof.FinBlock
public import Idealize.ShloMosaic.Lib.Pointwise
public import Idealize.ShloMosaic.Lib.ValueLayout
public import Idealize.ShloMosaic.PureOps.Ideal.Laws

@[expose] public section

set_option maxRecDepth 16384

noncomputable section

namespace Cert.Proof.Last

open Cert.KernelLastIdeal Cert.KernelLastIdeal.Gen Idealize.ShloMosaic Idealize.ShloMosaic.TcCoe
open Cert.Proof.Norm (rms back)
open Cert.Proof.Act (gate)

/-- One half, the constant of the block's residual branch. -/
abbrev half : EReal := Ideal.ofBits .f32 0x3F000000#32

/-- A row through the norm, times the gain. -/
def normed (x g : Fin 1024 → EReal) (k : Fin 1024) : EReal := x k * rms x * g k

/-- The gate's and the up projection's pre-activations of a normed row. -/
def pre (n : Fin 1024 → EReal) (u : Fin 1024 → Fin 5632 → EReal) (j : Fin 5632) : EReal := ∑ k, n k * u k j

/-- Half the activation. -/
def act (p : Fin 5632 → EReal) (j : Fin 2816) : EReal :=
  half * (p ⟨j.val, by omega⟩ * Ideal.logistic (p ⟨j.val, by omega⟩) * p ⟨2816 + j.val, by omega⟩)

/-- The block's output. -/
def hid (x : Fin 1024 → EReal) (a : Fin 2816 → EReal) (d : Fin 2816 → Fin 1024 → EReal) (q : Fin 1024) : EReal :=
  x q + ∑ j, a j * d j q

/-- The normed output's distance from the target. -/
def err (h f t : Fin 1024 → EReal) (q : Fin 1024) : EReal := h q * rms h * f q - t q

/-- The loss's gradient with respect to the normed output. -/
def dout (e : Fin 1024 → EReal) (q : Fin 1024) : EReal := e q * Ideal.ofBits .f32 0x3A800000#32

/-- The gradient of a normed row through the weight `u`. -/
def dnrm (du : Fin 5632 → EReal) (u : Fin 1024 → Fin 5632 → EReal) (q : Fin 1024) : EReal := ∑ j, du j * u q j

/-- Rows as an array. -/
abbrev vec {a b : ℕ} (H : Fin a → Fin b → EReal) : (⟨2, ![a, b]⟩ : Shape).Idx → EReal := fun y => H (y 0) (y 1)

/-- An array as rows. -/
abbrev rows {a b : ℕ} (v : (⟨2, ![a, b]⟩ : Shape).Idx → EReal) (r : Fin a) (q : Fin b) : EReal := v (ix2 r q)

/-- The four ranges of columns, and the two of rows, that the products take. -/
abbrev u1 (u : Vec Ideal S1024x5632 .bf16) := View.ld u (Rect.unit ![0, 0] ![1024, 1536] inb_S1024x5632_S1024x1536_0_0)
abbrev u2 (u : Vec Ideal S1024x5632 .bf16) := View.ld u (Rect.unit ![0, 1536] ![1024, 1280] inb_S1024x5632_S1024x1280_0_1536)
abbrev u3 (u : Vec Ideal S1024x5632 .bf16) := View.ld u (Rect.unit ![0, 2816] ![1024, 1536] inb_S1024x5632_S1024x1536_0_2816)
abbrev u4 (u : Vec Ideal S1024x5632 .bf16) := View.ld u (Rect.unit ![0, 4352] ![1024, 1280] inb_S1024x5632_S1024x1280_0_4352)
abbrev d1 (d : Vec Ideal S2816x1024 .bf16) := View.ld d (Rect.unit ![0, 0] ![1536, 1024] inb_S2816x1024_S1536x1024_0_0)
abbrev d2 (d : Vec Ideal S2816x1024 .bf16) := View.ld d (Rect.unit ![1536, 0] ![1280, 1024] inb_S2816x1024_S1280x1024_1536_0)

/-- A sum over the rows of `d`, in the two ranges. -/
theorem sum_halves (f : Fin 2816 → EReal) :
    (∑ x : Fin 1536, f ⟨x.val, by omega⟩) + (∑ x : Fin 1280, f ⟨1536 + x.val, by omega⟩) = ∑ j, f j :=
  (Fin.sum_univ_add (a := 1536) (b := 1280) f).symm

variable (x : Vec Ideal S256x1024 .f32) (g : Vec Ideal S1x1024 .f32) (t : Vec Ideal S256x1024 .f32) (f : Vec Ideal S1x1024 .f32)
  (u : Vec Ideal S1024x5632 .bf16) (d : Vec Ideal S2816x1024 .bf16)

def nrmR (r : Fin 256) : Fin 1024 → EReal := normed (rows x r) (rows g 0)
def preR (r : Fin 256) : Fin 5632 → EReal := pre (nrmR x g r) (rows u)
def actR (r : Fin 256) : Fin 2816 → EReal := act (preR x g u r)
def hidR (r : Fin 256) : Fin 1024 → EReal := hid (rows x r) (actR x g u r) (rows d)

theorem normed_rows : k0_pay9 x g = vec (nrmR x g) := by
  funext y
  obtain ⟨r, q, rfl⟩ : ∃ (a : Fin 256) (b : Fin 1024), y = ix2 a b := ⟨y 0, y 1, eq_ix2 y⟩
  unfold_payloads
  pointwise
  rfl

theorem gates_lo : k0_pay14 x g (u1 u) = vec fun r (j : Fin 1536) => preR x g u r ⟨j.val, by omega⟩ := by
  funext y
  obtain ⟨r, q, rfl⟩ : ∃ (a : Fin 256) (b : Fin 1536), y = ix2 a b := ⟨y 0, y 1, eq_ix2 y⟩
  unfold_payloads
  unfold u1
  pointwise
  rfl

theorem ups_lo : k0_pay15 x g (u3 u) = vec fun r (j : Fin 1536) => preR x g u r ⟨2816 + j.val, by omega⟩ := by
  funext y
  obtain ⟨r, q, rfl⟩ : ∃ (a : Fin 256) (b : Fin 1536), y = ix2 a b := ⟨y 0, y 1, eq_ix2 y⟩
  unfold_payloads
  unfold u3
  pointwise
  rfl

theorem gates_hi : k0_pay21 (vec (nrmR x g)) (u2 u) = vec fun r (j : Fin 1280) => preR x g u r ⟨1536 + j.val, by omega⟩ := by
  funext y
  obtain ⟨r, q, rfl⟩ : ∃ (a : Fin 256) (b : Fin 1280), y = ix2 a b := ⟨y 0, y 1, eq_ix2 y⟩
  unfold_payloads
  unfold u2
  pointwise
  rfl

theorem ups_hi : k0_pay22 (vec (nrmR x g)) (u4 u) = vec fun r (j : Fin 1280) => preR x g u r ⟨4352 + j.val, by omega⟩ := by
  funext y
  obtain ⟨r, q, rfl⟩ : ∃ (a : Fin 256) (b : Fin 1280), y = ix2 a b := ⟨y 0, y 1, eq_ix2 y⟩
  unfold_payloads
  unfold u4
  pointwise
  rfl

theorem acts_lo : k0_pay17 (k0_pay16 x g (u1 u) (u3 u)) (FloatOps.ofBits FTy.f32 1056964608#32)
    = vec fun r (j : Fin 1536) => actR x g u r ⟨j.val, by omega⟩ := by
  funext y
  obtain ⟨r, q, rfl⟩ : ∃ (a : Fin 256) (b : Fin 1536), y = ix2 a b := ⟨y 0, y 1, eq_ix2 y⟩
  unfold_payloads
  unfold u1 u3
  pointwise
  rfl

theorem acts_hi : k0_pay23 (vec (nrmR x g)) (u2 u) (u4 u) = vec fun r (j : Fin 1280) => actR x g u r ⟨1536 + j.val, by omega⟩ := by
  funext y
  obtain ⟨r, q, rfl⟩ : ∃ (a : Fin 256) (b : Fin 1280), y = ix2 a b := ⟨y 0, y 1, eq_ix2 y⟩
  unfold_payloads
  unfold u2 u4
  pointwise
  exact congrArg (fun z => half * (preR x g u r ⟨1536 + q.val, by omega⟩ * Ideal.logistic (preR x g u r ⟨1536 + q.val, by omega⟩) * preR x g u r z))
    (Fin.ext (by show 4352 + q.val = 2816 + (1536 + q.val); omega) : (⟨4352 + q.val, by omega⟩ : Fin 5632) = ⟨2816 + (1536 + q.val), by omega⟩)

theorem hidden : k0_pay25 (k0_pay6 x) (vec (nrmR x g)) k0_pay11 (k0_pay16 x g (u1 u) (u3 u)) (FloatOps.ofBits FTy.f32 1056964608#32)
    (d1 d) (u2 u) (u4 u) (d2 d) = vec (hidR x g u d) := by
  unfold k0_pay25
  rw [acts_lo, acts_hi]
  funext y
  obtain ⟨r, q, rfl⟩ : ∃ (a : Fin 256) (b : Fin 1024), y = ix2 a b := ⟨y 0, y 1, eq_ix2 y⟩
  unfold_payloads
  unfold d1 d2
  pointwise
  exact congrArg (x (ix2 r q) + ·) (sum_halves fun j => actR x g u r j * d (ix2 j q))

/-- The mean square of each row, as a column. -/
abbrev ms (H : Fin 256 → Fin 1024 → EReal) := vec fun r (_ : Fin 1) => Ideal.div (∑ k, H r k * H r k) Norm.width

theorem mean_square (H : Fin 256 → Fin 1024 → EReal) (a0 : FVec Ideal S256x1024 .f32) (a1 : FVec Ideal S256x1024 .bf16) (a2 : FVec Ideal S256x1024 .f32)
    (a3 : FVec Ideal S256x1536 .f32) (a4 : Ideal .f32) (a5 : Vec Ideal S1536x1024 .bf16) (a6 a7 : Vec Ideal S1024x1280 .bf16) (a8 : Vec Ideal S1280x1024 .bf16)
    (h : k0_pay25 a0 a1 a2 a3 a4 a5 a6 a7 a8 = vec H) :
    k0_pay27 a0 a1 a2 a3 a4 a5 a6 a7 a8 = ms H := by
  unfold k0_pay27
  rw [h]
  funext y
  obtain ⟨r, q, rfl⟩ : ∃ (a : Fin 256) (b : Fin 1), y = ix2 a b := ⟨y 0, y 1, eq_ix2 y⟩
  pointwise
  rfl

variable (H : Fin 256 → Fin 1024 → EReal)

def errR (r : Fin 256) : Fin 1024 → EReal := err (H r) (rows f 0) (rows t r)
def doutR (r : Fin 256) : Fin 1024 → EReal := dout (errR t f H r)
def dhR (r : Fin 256) : Fin 1024 → EReal := back (H r) (doutR t f H r) (rows f 0)

theorem distance : k0_pay31 (vec H) (k0_pay26 f) (ms H) k0_pay28 t = vec (errR t f H) := by
  funext y
  obtain ⟨r, q, rfl⟩ : ∃ (a : Fin 256) (b : Fin 1024), y = ix2 a b := ⟨y 0, y 1, eq_ix2 y⟩
  unfold_payloads
  pointwise
  rfl

theorem back_out : k0_pay33 (vec H) (k0_pay26 f) (ms H) k0_pay28 t = vec (dhR t f H) := by
  funext y
  obtain ⟨r, q, rfl⟩ : ∃ (a : Fin 256) (b : Fin 1024), y = ix2 a b := ⟨y 0, y 1, eq_ix2 y⟩
  unfold_payloads
  pointwise
  rfl

theorem final_part : k0_pay34 (vec H) (k0_pay26 f) (ms H) k0_pay28 t
    = vec fun (_ : Fin 1) q => ∑ r, doutR t f H r q * (H r q * rms (H r)) := by
  funext y
  obtain ⟨r, q, rfl⟩ : ∃ (a : Fin 1) (b : Fin 1024), y = ix2 a b := ⟨y 0, y 1, eq_ix2 y⟩
  obtain rfl : r = 0 := Subsingleton.elim _ _
  unfold_payloads
  pointwise
  rfl

theorem loss_part (l : Vec Ideal S1x128 .f32) (E : Fin 256 → Fin 1024 → EReal) :
    k0_pay2 (vec E) l = vec fun a q => l (ix2 a q) + Ideal.ofBits .f32 0x3A000000#32 * ∑ r, ∑ k, E r k * E r k := by
  funext y
  obtain ⟨r, q, rfl⟩ : ∃ (a : Fin 1) (b : Fin 128), y = ix2 a b := ⟨y 0, y 1, eq_ix2 y⟩
  obtain rfl : r = 0 := Subsingleton.elim _ _
  unfold_payloads
  pointwise
  rfl

/-- The activation's gradient, in the two ranges. -/
theorem dact_lo : k0_pay39 (vec H) (k0_pay26 f) (ms H) k0_pay28 t (d1 d)
    = vec fun r (j : Fin 1536) => Act.dact (dhR t f H r) (rows d ⟨j.val, by omega⟩) := by
  unfold k0_pay39 k0_pay35
  rw [back_out]
  funext y
  obtain ⟨r, q, rfl⟩ : ∃ (a : Fin 256) (b : Fin 1536), y = ix2 a b := ⟨y 0, y 1, eq_ix2 y⟩
  unfold d1
  pointwise
  rfl

/-- The gradients of the pre-activations `P`. -/
def dguR (P : Fin 256 → Fin 5632 → EReal) : Fin 256 → Fin 5632 → EReal := gate (dhR t f H) P (rows d)

/-- The gradient of the first norm's rows. -/
def dnR (P : Fin 256 → Fin 5632 → EReal) (r : Fin 256) : Fin 1024 → EReal := dnrm (dguR t f d H P r) (rows u)

variable (P : Fin 256 → Fin 5632 → EReal)

abbrev g1 (P : Fin 256 → Fin 5632 → EReal) := vec fun r (j : Fin 1536) => P r ⟨j.val, by omega⟩
abbrev g2 (P : Fin 256 → Fin 5632 → EReal) := vec fun r (j : Fin 1280) => P r ⟨1536 + j.val, by omega⟩
abbrev g3 (P : Fin 256 → Fin 5632 → EReal) := vec fun r (j : Fin 1536) => P r ⟨2816 + j.val, by omega⟩
abbrev g4 (P : Fin 256 → Fin 5632 → EReal) := vec fun r (j : Fin 1280) => P r ⟨4352 + j.val, by omega⟩

theorem dgates_lo : k0_pay43 (k0_pay40 (g1 P)) (k0_pay41 (g3 P) (vec H) (k0_pay26 f) (ms H) k0_pay28 t (d1 d)) (k0_pay42 (g1 P))
    = g1 (dguR t f d H P) := by
  unfold k0_pay41
  rw [dact_lo]
  funext y
  obtain ⟨r, q, rfl⟩ : ∃ (a : Fin 256) (b : Fin 1536), y = ix2 a b := ⟨y 0, y 1, eq_ix2 y⟩
  unfold_payloads
  pointwise
  exact (Act.gate_lo (dhR t f H) P (rows d) r ⟨q.val, by omega⟩ ⟨q.val, by omega⟩ ⟨2816 + q.val, by omega⟩ ⟨q.val, by omega⟩ rfl rfl rfl).symm

theorem dups_lo : k0_pay44 (F := Ideal) (k0_pay38 (g1 P)) (vec fun r (j : Fin 1536) => Act.dact (dhR t f H r) (rows d ⟨j.val, by omega⟩)) (k0_pay40 (g1 P))
    = g3 (dguR t f d H P) := by
  funext y
  obtain ⟨r, q, rfl⟩ : ∃ (a : Fin 256) (b : Fin 1536), y = ix2 a b := ⟨y 0, y 1, eq_ix2 y⟩
  unfold_payloads
  pointwise
  exact (Act.gate_hi (dhR t f H) P (rows d) r ⟨2816 + q.val, by omega⟩ ⟨q.val, by omega⟩ ⟨q.val, by omega⟩ rfl rfl).symm

theorem back_half : k0_pay35 (vec H) (k0_pay26 f) (ms H) k0_pay28 t = vec (dhR t f H) := by
  unfold k0_pay35
  rw [back_out]
  funext y
  pointwise

theorem dgates_hi : k0_pay51 (g2 P) (g4 P) (vec (dhR t f H)) (d2 d) = g2 (dguR t f d H P) := by
  funext y
  obtain ⟨r, q, rfl⟩ : ∃ (a : Fin 256) (b : Fin 1280), y = ix2 a b := ⟨y 0, y 1, eq_ix2 y⟩
  unfold_payloads
  unfold d2
  pointwise
  exact (Act.gate_lo (dhR t f H) P (rows d) r ⟨1536 + q.val, by omega⟩ ⟨1536 + q.val, by omega⟩ ⟨4352 + q.val, by omega⟩ ⟨1536 + q.val, by omega⟩ rfl rfl
    (by show 4352 + q.val = 2816 + (1536 + q.val); omega)).symm

theorem dups_hi : k0_pay52 (g2 P) (vec (dhR t f H)) (d2 d) = g4 (dguR t f d H P) := by
  funext y
  obtain ⟨r, q, rfl⟩ : ∃ (a : Fin 256) (b : Fin 1280), y = ix2 a b := ⟨y 0, y 1, eq_ix2 y⟩
  unfold_payloads
  unfold d2
  pointwise
  exact (Act.gate_hi (dhR t f H) P (rows d) r ⟨4352 + q.val, by omega⟩ ⟨1536 + q.val, by omega⟩ ⟨1536 + q.val, by omega⟩
    (by show 4352 + q.val = 2816 + (1536 + q.val); omega) rfl).symm

/-- The product with the first weight, in the body's four parts. -/
theorem through_up (a0 : FVec Ideal S256x1536 .f32) (a1 : FVec Ideal S256x1536 .f32) (a2 : FVec Ideal S256x1536 .f32) (a3 : FVec Ideal S256x1536 .f32)
    (a4 : FVec Ideal S256x1536 .f32) (Q : Fin 256 → Fin 5632 → EReal) (h : k0_pay43 a2 a3 a4 = g1 Q) (h' : k0_pay44 a0 a1 a2 = g3 Q) :
    k0_pay55 (k0_pay47 k0_pay37 a0 a1 a2 a3 a4 (u1 u) (u3 u)) (g2 Q) (g4 Q) (u2 u) (u4 u) = vec fun r => dnrm (Q r) (rows u) := by
  unfold k0_pay55 k0_pay47
  rw [h, h']
  funext y
  obtain ⟨r, q, rfl⟩ : ∃ (a : Fin 256) (b : Fin 1024), y = ix2 a b := ⟨y 0, y 1, eq_ix2 y⟩
  unfold_payloads
  unfold u1 u2 u3 u4
  pointwise
  refine Eq.trans ?_ (Fin.sum_ranges fun j => Q r j * u (ix2 q j))
  rw [add_right_comm (∑ x : Fin 1536, Q r ⟨x.val, by omega⟩ * u (ix2 q ⟨x.val, by omega⟩))]
  rfl

/-- The gradient with respect to the rows `x`, the block's own gradient added. -/
theorem input_part (a0 : FVec Ideal S256x1024 .f32) (a1 : FVec Ideal S256x1280 .bf16) (a2 : FVec Ideal S256x1280 .bf16) (a3 a4 : Vec Ideal S1024x1280 .bf16)
    (D B : Fin 256 → Fin 1024 → EReal) (h : k0_pay55 a0 a1 a2 a3 a4 = vec D) :
    k0_pay56 (k0_pay7 x) (k0_pay8 x) (vec B) a0 a1 a2 a3 a4 g = vec fun r q => B r q + back (rows x r) (D r) (rows g 0) q := by
  unfold k0_pay56
  rw [h]
  funext y
  obtain ⟨r, q, rfl⟩ : ∃ (a : Fin 256) (b : Fin 1024), y = ix2 a b := ⟨y 0, y 1, eq_ix2 y⟩
  unfold_payloads
  pointwise
  rfl

theorem gain_part (a0 : FVec Ideal S256x1024 .f32) (a1 : FVec Ideal S256x1280 .bf16) (a2 : FVec Ideal S256x1280 .bf16) (a3 a4 : Vec Ideal S1024x1280 .bf16)
    (D : Fin 256 → Fin 1024 → EReal) (h : k0_pay55 a0 a1 a2 a3 a4 = vec D) (s : Vec Ideal S1x1024 .f32) :
    k0_pay57 (k0_pay8 x) a0 a1 a2 a3 a4 s = vec fun a q => s (ix2 a q) + ∑ r, D r q * (x (ix2 r q) * rms (rows x r)) := by
  unfold k0_pay57
  rw [h]
  funext y
  obtain ⟨r, q, rfl⟩ : ∃ (a : Fin 1) (b : Fin 1024), y = ix2 a b := ⟨y 0, y 1, eq_ix2 y⟩
  obtain rfl : r = 0 := Subsingleton.elim _ _
  unfold_payloads
  pointwise
  rfl

end Cert.Proof.Last

end
-- ==== Proof.LastBlock.lean ====
/-
  What a grid point of the last block's kernel leaves in its blocks of the eight results, as the parts of `LastSpec` on the
  point's rows. The first point copies the two weights into the core and starts the sums at zero; the later ones find the
  weights there and add to the sums.
-/
module

public import proofs.«01_k».proof.Proof.LastSpec

@[expose] public section

set_option maxRecDepth 16384

noncomputable section

namespace Cert.Proof.Last

open Cert.KernelLastIdeal Cert.KernelLastIdeal.Gen Idealize.ShloMosaic Idealize.ShloMosaic.TcCoe Idealize.SL.Sem
open Idealize.ShloMosaic.ValueIdx (reshapeEquiv_ix2_1ab)
open Cert.Proof.Norm (rms back readCov_of_pieces)
open Cert.Proof.Fin (wide wide_at)

variable (v : Ins Ideal) (a : Sums Ideal) (up : Vec Ideal S1024x5632 .bf16) (down : Vec Ideal S2816x1024 .bf16)

/-- The parts on a point's rows: the output, its gradient, the pre-activations' gradient and the normed rows' gradient. -/
abbrev hidV : Fin 256 → Fin 1024 → EReal := hidR v.x v.gain up down
abbrev dhV : Fin 256 → Fin 1024 → EReal := dhR v.target v.final (hidV v up down)
abbrev dguV : Fin 256 → Fin 5632 → EReal := dguR v.target v.final down (hidV v up down) (preR v.x v.gain up)
abbrev dnV (r : Fin 256) : Fin 1024 → EReal := dnrm (dguV v up down r) (rows up)

/-- The stores `L` hold the eight results on the rows `v`, the three sums added to `a`. -/
structure Computes (L : Stores Ideal) : Prop where
  dx : View.canon L.1 = vec fun r q => dhV v up down r q + back (rows v.x r) (dnV v up down r) (rows v.gain 0) q
  dgu : View.canon L.2.1 = vec (dguV v up down)
  dgain : View.canon L.2.2.1 = vec fun b q => a.dgain (ix2 b q) + ∑ r, dnV v up down r q * (v.x (ix2 r q) * rms (rows v.x r))
  loss : View.canon L.2.2.2.1 = vec fun b q => a.loss (ix2 b q) + Ideal.ofBits .f32 0x3A000000#32
    * ∑ r, ∑ k, errR v.target v.final (hidV v up down) r k * errR v.target v.final (hidV v up down) r k
  dfinal : View.canon L.2.2.2.2.1 = vec fun b q => a.dfinal (ix2 b q)
    + ∑ r, doutR v.target v.final (hidV v up down) r q * (hidV v up down r q * rms (hidV v up down r))
  n : View.canon L.2.2.2.2.2.1 = vec (nrmR v.x v.gain)
  act : View.canon L.2.2.2.2.2.2.1 = vec (actR v.x v.gain up)
  dh : View.canon L.2.2.2.2.2.2.2 = vec (dhV v up down)

/-- The sums before the first point. -/
def zeros : Sums Ideal := ⟨fun _ => 0, fun _ => 0, fun _ => 0⟩

theorem zero_gain : k0_pay3 (F := Ideal) = zeros.dgain := by funext y; unfold_payloads; unfold zeros; pointwise
theorem zero_final : k0_pay4 (F := Ideal) = zeros.dfinal := by funext y; unfold_payloads; unfold zeros; pointwise
theorem zero_loss : k0_pay5 (F := Ideal) = zeros.loss := by funext y; unfold_payloads; unfold zeros; pointwise

theorem final_sum (p : FVec Ideal S1x1024 .f32) (s : Vec Ideal S1x1024 .f32) : k0_pay1 p s = fun y => s y + p y := by
  funext y
  unfold_payloads
  pointwise

theorem stored_n (x : Vec Ideal S256x1024 .f32) (g : Vec Ideal S1x1024 .f32) : k0_pay10 x g = vec (nrmR x g) := by
  unfold k0_pay10
  rw [normed_rows]
  funext y
  obtain ⟨r, q, rfl⟩ : ∃ (a : Fin 256) (b : Fin 1024), y = ix2 a b := ⟨y 0, y 1, eq_ix2 y⟩
  pointwise

theorem stored_dh (t : Vec Ideal S256x1024 .f32) (f : Vec Ideal S1x1024 .f32) (H : Fin 256 → Fin 1024 → EReal) :
    k0_pay36 (vec H) (k0_pay26 f) (ms H) k0_pay28 t = vec (dhR t f H) := by
  unfold k0_pay36
  rw [back_half]
  funext y
  obtain ⟨r, q, rfl⟩ : ∃ (a : Fin 256) (b : Fin 1024), y = ix2 a b := ⟨y 0, y 1, eq_ix2 y⟩
  pointwise

theorem kept_lo (z : FVec Ideal S256x1536 .bf16) : shapeCast S256x1536 z shapeCasts_S256x1536_S256x1536 = z := by
  funext y
  pointwise

theorem kept_hi (z : FVec Ideal S256x1280 .bf16) : shapeCast S256x1280 z shapeCasts_S256x1280_S256x1280 = z := by
  funext y
  pointwise

theorem stored_act_lo (x : Vec Ideal S256x1024 .f32) (g : Vec Ideal S1x1024 .f32) (u : Vec Ideal S1024x5632 .bf16) :
    k0_pay18 (k0_pay16 x g (u1 u) (u3 u)) (FloatOps.ofBits FTy.f32 1056964608#32) = vec fun r (j : Fin 1536) => actR x g u r ⟨j.val, by omega⟩ := by
  unfold k0_pay18
  rw [acts_lo]
  exact kept_lo _

theorem stored_act_hi (x : Vec Ideal S256x1024 .f32) (g : Vec Ideal S1x1024 .f32) (u : Vec Ideal S1024x5632 .bf16) :
    k0_pay24 (vec (nrmR x g)) (u2 u) (u4 u) = vec fun r (j : Fin 1280) => actR x g u r ⟨1536 + j.val, by omega⟩ := by
  unfold k0_pay24
  rw [acts_hi]
  exact kept_hi _

/-- A store of the first columns of `H` puts them where `H` has them, -/
theorem at_start {b n : ℕ} (H : Fin 256 → Fin b → EReal) (inb) (x : (⟨2, ![256, n]⟩ : Shape).Idx) (h : ∀ j : Fin n, j.val < b) :
    vec (fun r (j : Fin n) => H r ⟨j.val, h j⟩) x = vec H ((Rect.unit (s := ⟨2, ![256, b]⟩) ![0, 0] ![256, n] inb).emb x) :=
  congrArg₂ H (Fin.ext (by simp [Rect.unit, Rect.emb])) (Fin.ext (by simp [Rect.unit, Rect.emb]))

/-- and a store of the columns from `o` on puts them where `H` has them. -/
theorem in_place {b n o : ℕ} (H : Fin 256 → Fin b → EReal) (inb) (x : (⟨2, ![256, n]⟩ : Shape).Idx) (h : ∀ j : Fin n, o + j.val < b) :
    vec (fun r (j : Fin n) => H r ⟨o + j.val, h j⟩) x = vec H ((Rect.unit (s := ⟨2, ![256, b]⟩) ![0, o] ![256, n] inb).emb x) :=
  congrArg₂ H (Fin.ext (by simp [Rect.unit, Rect.emb])) (Fin.ext (by simp [Rect.unit, Rect.emb]))

theorem whole_rows (x : Vec Ideal S256x1024 .f32) : View.ld x (Rect.unit ![0, 0] ![256, 1024] inb_S256x1024_S256x1024_0_0) = x :=
  View.ld_unit_zero Fin.hz _ _
theorem whole_gain (x : Vec Ideal S1x1024 .f32) : View.ld x (Rect.unit ![0, 0] ![1, 1024] inb_S1x1024_S1x1024_0_0) = x :=
  View.ld_unit_zero Fin.hz _ _

variable (c : Dev nD) (i : grid0.Coords) (o : Ops) (w : Weights Ideal c)

theorem up_read : View.read (Elt Ideal) (View.whole cc0_scratch0) ((Memref.isWhole_whole cc0_scratch0).unread up) = up :=
  (Memref.isWhole_whole cc0_scratch0).read_unread up
theorem down_read : View.read (Elt Ideal) (View.whole cc0_scratch1) ((Memref.isWhole_whole cc0_scratch1).unread down) = down :=
  (Memref.isWhole_whole cc0_scratch1).read_unread down

theorem next_computes (h0 : ¬cond0_0 i) (h1 : ¬cond0_1 i) : Computes v a up down (next c i o h0 h1 v a up down w).1 where
  dx := by
    funext y
    obtain ⟨r, q, rfl⟩ : ∃ (a : Fin 256) (b : Fin 1024), y = ix2 a b := ⟨y 0, y 1, eq_ix2 y⟩
    frame_out
    rw [up_read, down_read, normed_rows, hidden, mean_square _ _ _ _ _ _ _ _ _ _ (hidden v.x v.gain up down), gates_lo, ups_lo, gates_hi, ups_hi,
      back_out, dact_lo, back_half, dgates_hi, dups_hi,
      input_part _ _ _ _ _ _ _ _ _ (through_up _ _ _ _ _ _ _ (dgates_lo _ _ _ _ _) (dups_lo _ _ _ _ _))]
  dgu := by
    funext y
    refine View.canon_apply_of_pieces (Val := Elt Ideal) (vec (dguV v up down)) _ (View.PiecesOf.mem ?_) y ((next_covers c i o h0 h1 v a up down w).dgu y)
    unfold next
    dsimp only
    refine ⟨fun x => ?_, fun x => ?_, fun x => ?_, fun x => ?_, trivial⟩
    all_goals
      dsimp only
      open_payloads
      sl_unfold_words
      simp only [View.readAt_eq_ld, o.x.whole.read_unread, o.gain.whole.read_unread, o.target.whole.read_unread, o.final.whole.read_unread, up_read, down_read, whole_rows, whole_gain]
    · rw [normed_rows, hidden, mean_square _ _ _ _ _ _ _ _ _ _ (hidden v.x v.gain up down), gates_hi, back_half, dups_hi]
      exact (congrFun (kept_hi _) x).trans (in_place _ _ x _)
    · rw [normed_rows, hidden, mean_square _ _ _ _ _ _ _ _ _ _ (hidden v.x v.gain up down), gates_hi, ups_hi, back_half]
      unfold k0_pay53
      rw [dgates_hi]
      exact (congrFun (kept_hi _) x).trans (in_place _ _ x _)
    · rw [normed_rows, hidden, mean_square _ _ _ _ _ _ _ _ _ _ (hidden v.x v.gain up down), gates_lo, dact_lo]
      unfold k0_pay46
      rw [dups_lo]
      exact (congrFun (kept_lo _) x).trans (in_place _ _ x _)
    · rw [normed_rows, hidden, mean_square _ _ _ _ _ _ _ _ _ _ (hidden v.x v.gain up down), gates_lo, ups_lo]
      unfold k0_pay45
      rw [dgates_lo]
      exact (congrFun (kept_lo _) x).trans (at_start _ _ x _)
  dgain := by
    funext y
    obtain ⟨r, q, rfl⟩ : ∃ (a : Fin 1) (b : Fin 1024), y = ix2 a b := ⟨y 0, y 1, eq_ix2 y⟩
    frame_out
    rw [up_read, down_read, normed_rows, hidden, mean_square _ _ _ _ _ _ _ _ _ _ (hidden v.x v.gain up down), gates_lo, ups_lo, gates_hi, ups_hi,
      dact_lo, back_half, dgates_hi, dups_hi,
      gain_part _ _ _ _ _ _ _ (through_up _ _ _ _ _ _ _ (dgates_lo _ _ _ _ _) (dups_lo _ _ _ _ _))]
  loss := by
    funext y
    obtain ⟨r, q, rfl⟩ : ∃ (a : Fin 1) (b : Fin 128), y = ix2 a b := ⟨y 0, y 1, eq_ix2 y⟩
    frame_out
    rw [up_read, down_read, normed_rows, hidden, mean_square _ _ _ _ _ _ _ _ _ _ (hidden v.x v.gain up down), distance, loss_part]
  dfinal := by
    funext y
    obtain ⟨r, q, rfl⟩ : ∃ (a : Fin 1) (b : Fin 1024), y = ix2 a b := ⟨y 0, y 1, eq_ix2 y⟩
    frame_out
    rw [up_read, down_read, normed_rows, hidden, mean_square _ _ _ _ _ _ _ _ _ _ (hidden v.x v.gain up down), final_part, final_sum]
    rfl
  n := by
    funext y
    obtain ⟨r, q, rfl⟩ : ∃ (a : Fin 256) (b : Fin 1024), y = ix2 a b := ⟨y 0, y 1, eq_ix2 y⟩
    frame_out
    rw [stored_n]
  act := by
    funext y
    refine View.canon_apply_of_pieces (Val := Elt Ideal) (vec (actR v.x v.gain up)) _ (View.PiecesOf.mem ?_) y ((next_covers c i o h0 h1 v a up down w).act y)
    unfold next
    dsimp only
    refine ⟨fun x => ?_, fun x => ?_, trivial⟩
    all_goals
      dsimp only
      open_payloads
      sl_unfold_words
      simp only [View.readAt_eq_ld, o.x.whole.read_unread, o.gain.whole.read_unread, o.target.whole.read_unread, o.final.whole.read_unread, up_read, down_read, whole_rows, whole_gain]
    · rw [normed_rows, stored_act_hi]
      exact in_place _ _ x _
    · rw [stored_act_lo]
      exact at_start _ _ x _
  dh := by
    funext y
    obtain ⟨r, q, rfl⟩ : ∃ (a : Fin 256) (b : Fin 1024), y = ix2 a b := ⟨y 0, y 1, eq_ix2 y⟩
    frame_out
    rw [up_read, down_read, normed_rows, hidden, mean_square _ _ _ _ _ _ _ _ _ _ (hidden v.x v.gain up down), stored_dh]

variable (fu : HbBuf0 (F := Ideal) c hbM0_0) (fd : HbBuf0 (F := Ideal) c hbM0_1)

/-- One copied block of columns lies in the core where the weight has it. -/
theorem column_block (p s : ℕ) (inb : ∀ a, (![p, 0, 0] : Fin 3 → ℕ) a + (![1, 1024, 1408] : Fin 3 → ℕ) a ≤ S4x1024x1408.size a)
    (inb' : ∀ a, (![0, s] : Fin 2 → ℕ) a + (![1024, 1408] : Fin 2 → ℕ) a ≤ S1024x5632.size a) (hs : s = p * 1408) (x : S1024x1408.Idx) :
    View.read (Elt Ideal) (((View.whole main_v3).slice (Rect.unit ![p, 0, 0] ![1, 1024, 1408] inb)).reshape S1024x1408 squeezes_S1x1024x1408_S1024x1408.numel_eq) fu x
      = wide fu ((Rect.unit (s := S1024x5632) ![0, s] ![1024, 1408] inb').emb x) := by
  obtain ⟨r, q, rfl⟩ : ∃ (a : Fin 1024) (b : Fin 1408), x = ValueIdx.ix2 a b := ⟨x 0, x 1, eq_ix2 x⟩
  have hp : p + 1 ≤ 4 := inb 0
  have hq := q.isLt
  refine Eq.trans ?_ (wide_at fu _ p (by omega) q.val hq ?_).symm
  · show fu ((Rect.unit ![p, 0, 0] ![1, 1024, 1408] inb).emb (Shape.reshapeEquiv _ (ValueIdx.ix2 r q))) = _
    rw [reshapeEquiv_ix2_1ab]
    exact congrArg fu (funext fun a => by fin_cases a <;> exact Fin.ext (by simp [Rect.unit, Rect.emb]))
  · show s + 1 * q.val = _
    omega

/-- The copies of the two weights, the last first. -/
abbrev upPieces : List (View.Piece (Elt Ideal) S1024x5632 .bf16) :=
  [⟨Rect.unit ![0, 4224] ![1024, 1408] inb_S1024x5632_S1024x1408_0_4224, ReadAs.same.apply (View.read (Elt Ideal) (((View.whole main_v3).slice (Rect.unit ![3, 0, 0] ![1, 1024, 1408] inb_S4x1024x1408_S1x1024x1408_3_0_0)).reshape S1024x1408 squeezes_S1x1024x1408_S1024x1408.numel_eq) fu)⟩,
   ⟨Rect.unit ![0, 2816] ![1024, 1408] inb_S1024x5632_S1024x1408_0_2816, ReadAs.same.apply (View.read (Elt Ideal) (((View.whole main_v3).slice (Rect.unit ![2, 0, 0] ![1, 1024, 1408] inb_S4x1024x1408_S1x1024x1408_2_0_0)).reshape S1024x1408 squeezes_S1x1024x1408_S1024x1408.numel_eq) fu)⟩,
   ⟨Rect.unit ![0, 1408] ![1024, 1408] inb_S1024x5632_S1024x1408_0_1408, ReadAs.same.apply (View.read (Elt Ideal) (((View.whole main_v3).slice (Rect.unit ![1, 0, 0] ![1, 1024, 1408] inb_S4x1024x1408_S1x1024x1408_1_0_0)).reshape S1024x1408 squeezes_S1x1024x1408_S1024x1408.numel_eq) fu)⟩,
   ⟨Rect.unit ![0, 0] ![1024, 1408] inb_S1024x5632_S1024x1408_0_0, ReadAs.same.apply (View.read (Elt Ideal) (((View.whole main_v3).slice (Rect.unit ![0, 0, 0] ![1, 1024, 1408] inb_S4x1024x1408_S1x1024x1408_0_0_0)).reshape S1024x1408 squeezes_S1x1024x1408_S1024x1408.numel_eq) fu)⟩]

abbrev downPieces : List (View.Piece (Elt Ideal) S2816x1024 .bf16) :=
  [⟨Rect.unit ![2112, 0] ![704, 1024] inb_S2816x1024_S704x1024_2112_0, ReadAs.same.apply (View.read (Elt Ideal) ((View.whole main_v6).slice (Rect.unit ![2112, 0] ![704, 1024] inb_S2816x1024_S704x1024_2112_0)) fd)⟩,
   ⟨Rect.unit ![1408, 0] ![704, 1024] inb_S2816x1024_S704x1024_1408_0, ReadAs.same.apply (View.read (Elt Ideal) ((View.whole main_v6).slice (Rect.unit ![1408, 0] ![704, 1024] inb_S2816x1024_S704x1024_1408_0)) fd)⟩,
   ⟨Rect.unit ![704, 0] ![704, 1024] inb_S2816x1024_S704x1024_704_0, ReadAs.same.apply (View.read (Elt Ideal) ((View.whole main_v6).slice (Rect.unit ![704, 0] ![704, 1024] inb_S2816x1024_S704x1024_704_0)) fd)⟩,
   ⟨Rect.unit ![0, 0] ![704, 1024] inb_S2816x1024_S704x1024_0_0, ReadAs.same.apply (View.read (Elt Ideal) ((View.whole main_v6).slice (Rect.unit ![0, 0] ![704, 1024] inb_S2816x1024_S704x1024_0_0)) fd)⟩]

theorem up_pieces : View.PiecesOf (Val := Elt Ideal) (wide fu) (upPieces c fu) :=
  ⟨fun x => column_block c fu 3 4224 inb_S4x1024x1408_S1x1024x1408_3_0_0 inb_S1024x5632_S1024x1408_0_4224 rfl x,
    fun x => column_block c fu 2 2816 inb_S4x1024x1408_S1x1024x1408_2_0_0 inb_S1024x5632_S1024x1408_0_2816 rfl x,
    fun x => column_block c fu 1 1408 inb_S4x1024x1408_S1x1024x1408_1_0_0 inb_S1024x5632_S1024x1408_0_1408 rfl x,
    fun x => column_block c fu 0 0 inb_S4x1024x1408_S1x1024x1408_0_0_0 inb_S1024x5632_S1024x1408_0_0 rfl x, trivial⟩

theorem down_pieces : View.PiecesOf (Val := Elt Ideal) fd (downPieces c fd) :=
  ⟨fun _ => rfl, fun _ => rfl, fun _ => rfl, fun _ => rfl, trivial⟩

theorem up_cover (y : S1024x5632.Idx) : ∃ p ∈ upPieces c fu, y ∈ p.1.set :=
  View.cover_of_tiledBy (upPieces c fu) ![1024, 128] (by sl_kernel_rfl) y

theorem down_cover (y : S2816x1024.Idx) : ∃ p ∈ downPieces c fd, y ∈ p.1.set :=
  View.cover_of_tiledBy (downPieces c fd) ![64, 1024] (by sl_kernel_rfl) y

/-- Reads of the copied weights. -/
theorem up_copied (R : Rect cc0_scratch0.ty.shape) :
    (View.whole (sig := sig) cc0_scratch0).readCov (Val := Elt Ideal) (upPieces c fu) R.toLoadRect = @View.ld (Elt Ideal) S1024x5632 .bf16 (wide fu) R :=
  readCov_of_pieces (Val := Elt Ideal) _ (wide fu) (upPieces c fu) (up_pieces c fu) (up_cover c fu) R
theorem down_copied (R : Rect cc0_scratch1.ty.shape) :
    (View.whole (sig := sig) cc0_scratch1).readCov (Val := Elt Ideal) (downPieces c fd) R.toLoadRect = @View.ld (Elt Ideal) S2816x1024 .bf16 fd R :=
  readCov_of_pieces (Val := Elt Ideal) _ fd (downPieces c fd) (down_pieces c fd) (down_cover c fd) R

/-- The core's two buffers once the copies have landed. -/
theorem up_left (h0 : cond0_0 i) (h1 : cond0_1 i) : View.canon (first c i o h0 h1 v ⟨fu, fd⟩).1.2.1 = wide fu := by
  funext y
  unfold first
  dsimp only
  sl_unfold_words
  exact View.canon_apply_of_pieces (wide fu) (upPieces c fu) (View.PiecesOf.mem (up_pieces c fu)) y (up_cover c fu y)
theorem down_left (h0 : cond0_0 i) (h1 : cond0_1 i) : View.canon (first c i o h0 h1 v ⟨fu, fd⟩).1.2.2 = fd := by
  funext y
  unfold first
  dsimp only
  sl_unfold_words
  exact View.canon_apply_of_pieces (Val := Elt Ideal) fd (downPieces c fd) (View.PiecesOf.mem (down_pieces c fd)) y (down_cover c fd y)

set_option maxHeartbeats 2000000 in
theorem first_computes (h0 : cond0_0 i) (h1 : cond0_1 i) : Computes v zeros (wide fu) fd (first c i o h0 h1 v ⟨fu, fd⟩).1.1 where
  dx := by
    funext y
    obtain ⟨r, q, rfl⟩ : ∃ (a : Fin 256) (b : Fin 1024), y = ix2 a b := ⟨y 0, y 1, eq_ix2 y⟩
    frame_out
    simp only [up_copied c fu, down_copied c fd]
    rw [normed_rows, hidden, mean_square _ _ _ _ _ _ _ _ _ _ (hidden v.x v.gain (wide fu) fd), gates_lo, ups_lo, gates_hi, ups_hi,
      back_out, dact_lo, back_half, dgates_hi, dups_hi,
      input_part _ _ _ _ _ _ _ _ _ (through_up _ _ _ _ _ _ _ (dgates_lo _ _ _ _ _) (dups_lo _ _ _ _ _))]
  dgu := by
    funext y
    refine View.canon_apply_of_pieces (Val := Elt Ideal) (vec (dguV v (wide fu) fd)) _ (View.PiecesOf.mem ?_) y ((first_covers c i o h0 h1 v ⟨fu, fd⟩).dgu y)
    unfold first
    dsimp only
    refine ⟨fun x => ?_, fun x => ?_, fun x => ?_, fun x => ?_, trivial⟩
    all_goals
      dsimp only
      open_payloads
      sl_unfold_words
      simp only [View.readAt_eq_ld, o.x.whole.read_unread, o.gain.whole.read_unread, o.target.whole.read_unread, o.final.whole.read_unread, up_copied c fu, down_copied c fd, whole_rows, whole_gain]
    · rw [normed_rows, hidden, mean_square _ _ _ _ _ _ _ _ _ _ (hidden v.x v.gain (wide fu) fd), gates_hi, back_half, dups_hi]
      exact (congrFun (kept_hi _) x).trans (in_place _ _ x _)
    · rw [normed_rows, hidden, mean_square _ _ _ _ _ _ _ _ _ _ (hidden v.x v.gain (wide fu) fd), gates_hi, ups_hi, back_half]
      unfold k0_pay53
      rw [dgates_hi]
      exact (congrFun (kept_hi _) x).trans (in_place _ _ x _)
    · rw [normed_rows, hidden, mean_square _ _ _ _ _ _ _ _ _ _ (hidden v.x v.gain (wide fu) fd), gates_lo, dact_lo]
      unfold k0_pay46
      rw [dups_lo]
      exact (congrFun (kept_lo _) x).trans (in_place _ _ x _)
    · rw [normed_rows, hidden, mean_square _ _ _ _ _ _ _ _ _ _ (hidden v.x v.gain (wide fu) fd), gates_lo, ups_lo]
      unfold k0_pay45
      rw [dgates_lo]
      exact (congrFun (kept_lo _) x).trans (at_start _ _ x _)
  dgain := by
    funext y
    obtain ⟨r, q, rfl⟩ : ∃ (a : Fin 1) (b : Fin 1024), y = ix2 a b := ⟨y 0, y 1, eq_ix2 y⟩
    frame_out
    simp only [up_copied c fu, down_copied c fd]
    rw [normed_rows, hidden, mean_square _ _ _ _ _ _ _ _ _ _ (hidden v.x v.gain (wide fu) fd), gates_lo, ups_lo, gates_hi, ups_hi,
      dact_lo, back_half, dgates_hi, dups_hi,
      zero_gain, gain_part _ _ _ _ _ _ _ (through_up _ _ _ _ _ _ _ (dgates_lo _ _ _ _ _) (dups_lo _ _ _ _ _))]
  loss := by
    funext y
    obtain ⟨r, q, rfl⟩ : ∃ (a : Fin 1) (b : Fin 128), y = ix2 a b := ⟨y 0, y 1, eq_ix2 y⟩
    frame_out
    simp only [up_copied c fu, down_copied c fd]
    rw [normed_rows, hidden, mean_square _ _ _ _ _ _ _ _ _ _ (hidden v.x v.gain (wide fu) fd), zero_loss, distance, loss_part]
  dfinal := by
    funext y
    obtain ⟨r, q, rfl⟩ : ∃ (a : Fin 1) (b : Fin 1024), y = ix2 a b := ⟨y 0, y 1, eq_ix2 y⟩
    frame_out
    simp only [up_copied c fu, down_copied c fd]
    rw [normed_rows, hidden, mean_square _ _ _ _ _ _ _ _ _ _ (hidden v.x v.gain (wide fu) fd), zero_final, final_part, final_sum]
    rfl
  n := by
    funext y
    obtain ⟨r, q, rfl⟩ : ∃ (a : Fin 256) (b : Fin 1024), y = ix2 a b := ⟨y 0, y 1, eq_ix2 y⟩
    frame_out
    rw [stored_n]
  act := by
    funext y
    refine View.canon_apply_of_pieces (Val := Elt Ideal) (vec (actR v.x v.gain (wide fu))) _ (View.PiecesOf.mem ?_) y ((first_covers c i o h0 h1 v ⟨fu, fd⟩).act y)
    unfold first
    dsimp only
    refine ⟨fun x => ?_, fun x => ?_, trivial⟩
    all_goals
      dsimp only
      open_payloads
      sl_unfold_words
      simp only [View.readAt_eq_ld, o.x.whole.read_unread, o.gain.whole.read_unread, o.target.whole.read_unread, o.final.whole.read_unread, up_copied c fu, down_copied c fd, whole_rows, whole_gain]
    · rw [normed_rows, stored_act_hi]
      exact in_place _ _ x _
    · rw [stored_act_lo v.x v.gain (wide fu)]
      exact at_start _ _ x _
  dh := by
    funext y
    obtain ⟨r, q, rfl⟩ : ∃ (a : Fin 256) (b : Fin 1024), y = ix2 a b := ⟨y 0, y 1, eq_ix2 y⟩
    frame_out
    simp only [up_copied c fu, down_copied c fd]
    rw [normed_rows, hidden v.x v.gain (wide fu) fd, mean_square _ _ _ _ _ _ _ _ _ _ (hidden v.x v.gain (wide fu) fd), stored_dh]

end Cert.Proof.Last

end
-- ==== Proof.LastArray.lean ====
/- The last block of the step: the arrays that `_ffn_last` leaves. -/
module

public import proofs.«01_k».proof.Proof.LastBlock
public import Idealize.ShloMosaic.Lib.Pipeline.ValueKit

@[expose] public section

set_option maxRecDepth 16384

noncomputable section

namespace Cert.Proof.Last

open Cert.KernelLastIdeal Cert.KernelLastIdeal.Gen Idealize.ShloMosaic Idealize.ShloMosaic.TcCoe Idealize.SL.Sem
open Cert.Proof.Norm (rms back)
open Cert.Proof.Act (gate gate_congr)
open Cert.Proof.Fin (wide)

/-- The six arguments, as rows. -/
structure Args where
  x : Fin 2048 → Fin 1024 → EReal
  gain : Fin 1024 → EReal
  up : Fin 1024 → Fin 5632 → EReal
  down : Fin 2816 → Fin 1024 → EReal
  target : Fin 2048 → Fin 1024 → EReal
  final : Fin 1024 → EReal

namespace Args

variable (A : Args) (r : Fin 2048)

/-- The forward pass on a row. -/
def nrm : Fin 1024 → EReal := normed (A.x r) A.gain
def pre : Fin 5632 → EReal := Last.pre (A.nrm r) A.up
def act : Fin 2816 → EReal := Last.act (A.pre r)
def hid : Fin 1024 → EReal := Last.hid (A.x r) (A.act r) A.down
def err : Fin 1024 → EReal := Last.err (A.hid r) A.final (A.target r)
/-- The gradients on a row, from the normed output back to the input. -/
def dout : Fin 1024 → EReal := Last.dout (A.err r)
def dh : Fin 1024 → EReal := back (A.hid r) (A.dout r) A.final
def dgu : Fin 5632 → EReal := gate A.dh A.pre A.down r
def dn : Fin 1024 → EReal := dnrm (A.dgu r) A.up
def dx (q : Fin 1024) : EReal := A.dh r q + back (A.x r) (A.dn r) A.gain q
/-- A row's part of the two gains' gradients and of the loss. -/
def gainRow (q : Fin 1024) : EReal := A.dn r q * (A.x r q * rms (A.x r))
def finalRow (q : Fin 1024) : EReal := A.dout r q * (A.hid r q * rms (A.hid r))
def lossRow : EReal := Ideal.ofBits .f32 0x3A000000#32 * ∑ k, A.err r k * A.err r k

end Args

/-- The sum of the first `n` of 2048 terms. -/
def upto (f : Fin 2048 → EReal) (n : ℕ) : EReal := ∑ k ∈ Finset.range n, if h : k < 2048 then f ⟨k, h⟩ else 0

theorem upto_all (f : Fin 2048 → EReal) : upto f 2048 = ∑ r, f r := by
  unfold upto
  rw [← Fin.sum_univ_eq_sum_range fun k => if h : k < 2048 then f ⟨k, h⟩ else 0]
  exact Finset.sum_congr rfl fun r _ => dif_pos r.isLt

/-- Row `r` of point `t`'s blocks, in the whole arrays. -/
def row (t : Fin cfg0.N) (r : Fin 256) : Fin 2048 :=
  ⟨t.val * 256 + r.val, by have := lt_of_lt_of_eq t.isLt (show cfg0.N = 8 from N_0); omega⟩

theorem upto_next (f : Fin 2048 → EReal) (t : Fin cfg0.N) : upto f ((t.val + 1) * 256) = upto f (t.val * 256) + ∑ r : Fin 256, f (row t r) := by
  unfold upto
  rw [show (t.val + 1) * 256 = t.val * 256 + 256 by omega, Finset.sum_range_add,
    ← Fin.sum_univ_eq_sum_range fun k => if h : t.val * 256 + k < 2048 then f ⟨t.val * 256 + k, h⟩ else 0]
  exact congrArg _ (Finset.sum_congr rfl fun r _ => dif_pos (row t r).isLt)

theorem square_nonneg (e : EReal) : 0 ≤ e * e := by
  induction e with
  | bot => simp
  | top => simp
  | coe a => exact_mod_cast mul_self_nonneg a

/-- A factor goes into a sum of terms none of which is negative. -/
theorem mul_sum_nonneg {n : ℕ} (k : EReal) (f : Fin n → EReal) (h : ∀ r, 0 ≤ f r) : k * ∑ r, f r = ∑ r, k * f r := by
  classical
  have : ∀ s : Finset (Fin n), k * ∑ r ∈ s, f r = ∑ r ∈ s, k * f r := fun s => by
    induction s using Finset.induction_on with
    | empty => simp
    | insert r s hr ih =>
      rw [Finset.sum_insert hr, Finset.sum_insert hr, EReal.left_distrib_of_nonneg (h r) (Finset.sum_nonneg fun i _ => h i), ih]
  exact this _

variable (m : (ℓ : Loc nD τ sig) → Buf (Elt Ideal) ℓ) (c : Dev nD)

abbrev aX : Vec Ideal S1x2048x1024 .f32 := m ((c : Thread nD τ).loc main_arg0)
abbrev aG : Vec Ideal S1x1024 .f32 := m ((c : Thread nD τ).loc main_arg1)
abbrev aU : Vec Ideal S1x1024x5632 .f32 := m ((c : Thread nD τ).loc main_arg2)
abbrev aD : Vec Ideal S1x2816x1024 .f32 := m ((c : Thread nD τ).loc main_arg3)
abbrev aT : Vec Ideal S1x2048x1024 .f32 := m ((c : Thread nD τ).loc main_arg4)
abbrev aF : Vec Ideal S1024 .f32 := m ((c : Thread nD τ).loc main_arg5)

/-- The arguments of the program. -/
def argsOf (x : Vec Ideal S1x2048x1024 .f32) (g : Vec Ideal S1x1024 .f32) (u : Vec Ideal S1x1024x5632 .f32) (d : Vec Ideal S1x2816x1024 .f32)
    (t : Vec Ideal S1x2048x1024 .f32) (f : Vec Ideal S1024 .f32) : Args where
  x r k := x (ix3 0 r k)
  gain k := g (ix2 0 k)
  up k j := u (ix3 0 k j)
  down j k := d (ix3 0 j k)
  target r k := t (ix3 0 r k)
  final k := f (ix1 k)

abbrev args : Args := argsOf (aX m c) (aG m c) (aU m c) (aD m c) (aT m c) (aF m c)

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0] ∧ win0_7.index t = ![0, 0] ∧ win0_8.index t = ![0, 0]
    ∧ win0_9.index t = ![t.val, 0] ∧ win0_10.index t = ![t.val, 0] ∧ win0_11.index t = ![t.val, 0] := (by decide +kernel : ∀ t : Fin grid0.N, _)

theorem V_x (r : Fin 2048) (k : Fin 1024) : V m c main_v4 (ix2 r k) = aX m c (ix3 0 r k) := by
  entry_read
  pointwise

theorem V_t (r : Fin 2048) (k : Fin 1024) : V m c main_v7 (ix2 r k) = aT m c (ix3 0 r k) := by
  entry_read
  pointwise

theorem V_f (k : Fin 1024) : V m c main_v8 (ix2 0 k) = aF m c (ix1 k) := by
  entry_read
  pointwise

theorem V_d (j : Fin 2816) (k : Fin 1024) : V m c main_v6 (ix2 j k) = aD m c (ix3 0 j k) := by
  entry_read
  pointwise

theorem V_u (k : Fin 1024) (j : Fin 5632) : wide (V m c main_v3) (ix2 k j) = aU m c (ix3 0 k j) := by
  unfold wide
  entry_read
  pointwise

theorem blk_x (t : Fin cfg0.N) (r : Fin 256) (k : Fin 1024) : iblk m c 0 t (ix2 r k) = aX m c (ix3 0 (row t r) k) := by
  refine Eq.trans ?_ (V_x m c _ k)
  blk_ext [iblk, idx t]
  all_goals rfl

theorem blk_g (t : Fin cfg0.N) (k : Fin 1024) : iblk m c 1 t (ix2 0 k) = aG m c (ix2 0 k) := by
  blk_ext [iblk, idx t]

theorem blk_t (t : Fin cfg0.N) (r : Fin 256) (k : Fin 1024) : iblk m c 2 t (ix2 r k) = aT m c (ix3 0 (row t r) k) := by
  refine Eq.trans ?_ (V_t m c _ k)
  blk_ext [iblk, idx t]
  all_goals rfl

theorem blk_f (t : Fin cfg0.N) (k : Fin 1024) : iblk m c 3 t (ix2 0 k) = aF m c (ix1 k) := by
  refine Eq.trans ?_ (V_f m c k)
  blk_ext [iblk, idx t]

/-- The rows of a point's blocks, and the weights it finds, in the arguments. -/
structure At (t : Fin cfg0.N) (v : Ins Ideal) (up : Vec Ideal S1024x5632 .bf16) (down : Vec Ideal S2816x1024 .bf16) (A : Args) : Prop where
  x : ∀ r, rows v.x r = A.x (row t r)
  gain : rows v.gain 0 = A.gain
  target : ∀ r, rows v.target r = A.target (row t r)
  final : rows v.final 0 = A.final
  up : rows up = A.up
  down : rows down = A.down

theorem here (t : Fin cfg0.N) : At t (ins m c t) (wide (V m c main_v3)) (V m c main_v6) (args m c) where
  x r := funext fun k => blk_x m c t r k
  gain := funext fun k => blk_g m c t k
  target r := funext fun k => blk_t m c t r k
  final := funext fun k => blk_f m c t k
  up := funext fun k => funext fun j => V_u m c k j
  down := funext fun j => funext fun k => V_d m c j k

section

variable {t : Fin cfg0.N} {v : Ins Ideal} {up : Vec Ideal S1024x5632 .bf16} {down : Vec Ideal S2816x1024 .bf16} {A : Args} (h : At t v up down A) (r : Fin 256)
include h

theorem nrm_at : nrmR v.x v.gain r = A.nrm (row t r) := by unfold nrmR Args.nrm; rw [h.x, h.gain]
theorem pre_at : preR v.x v.gain up r = A.pre (row t r) := by unfold preR Args.pre; rw [nrm_at h, h.up]
theorem act_at : actR v.x v.gain up r = A.act (row t r) := by unfold actR Args.act; rw [pre_at h]
theorem hid_at : hidV v up down r = A.hid (row t r) := by unfold hidV hidR Args.hid; rw [act_at h, h.x, h.down]
theorem err_at : errR v.target v.final (hidV v up down) r = A.err (row t r) := by unfold errR Args.err; rw [hid_at h, h.final, h.target]
theorem dout_at : doutR v.target v.final (hidV v up down) r = A.dout (row t r) := by unfold doutR Args.dout; rw [err_at h]
theorem dh_at : dhV v up down r = A.dh (row t r) := by unfold dhV dhR Args.dh; rw [dout_at h, hid_at h, h.final]
theorem dgu_at : dguV v up down r = A.dgu (row t r) :=
  funext fun _ => gate_congr (fun k => congrFun (dh_at h r) k) (fun k => congrFun (pre_at h r) k) (fun j k => congrFun (congrFun h.down j) k) rfl
theorem dn_at : dnV v up down r = A.dn (row t r) := by unfold dnV Args.dn; rw [dgu_at h, h.up]
theorem x_at (q : Fin 1024) : v.x (ix2 r q) = A.x (row t r) q := congrFun (h.x r) q

/-- The stores hold the results on the point's rows, the sums added to `a`. -/
structure Holds (a : Sums Ideal) (t : Fin cfg0.N) (A : Args) (L : Stores Ideal) : Prop where
  dx : View.canon L.1 = vec fun r => A.dx (row t r)
  dgu : View.canon L.2.1 = vec fun r => A.dgu (row t r)
  dgain : (sumsOf L).dgain = vec fun b q => a.dgain (ix2 b q) + ∑ r, A.gainRow (row t r) q
  loss : (sumsOf L).loss = vec fun b q => a.loss (ix2 b q) + ∑ r, A.lossRow (row t r)
  dfinal : (sumsOf L).dfinal = vec fun b q => a.dfinal (ix2 b q) + ∑ r, A.finalRow (row t r) q
  n : View.canon L.2.2.2.2.2.1 = vec fun r => A.nrm (row t r)
  act : View.canon L.2.2.2.2.2.2.1 = vec fun r => A.act (row t r)
  dh : View.canon L.2.2.2.2.2.2.2 = vec fun r => A.dh (row t r)

theorem holds {a : Sums Ideal} {L : Stores Ideal} (C : Computes v a up down L) : Holds a t A L where
  dx := C.dx.trans (congrArg vec (funext fun r => funext fun q => by rw [dh_at h, h.x, dn_at h, h.gain]; rfl))
  dgu := C.dgu.trans (congrArg vec (funext fun r => dgu_at h r))
  dgain := C.dgain.trans (congrArg vec (funext fun b => funext fun q => congrArg _ (Finset.sum_congr rfl fun r _ => by rw [dn_at h, h.x, x_at h]; rfl)))
  loss := C.loss.trans (congrArg vec (funext fun b => funext fun q => congrArg _ (by
    rw [mul_sum_nonneg _ _ fun r => Finset.sum_nonneg fun k _ => square_nonneg _]
    exact Finset.sum_congr rfl fun r _ => by rw [err_at h]; rfl)))
  dfinal := C.dfinal.trans (congrArg vec (funext fun b => funext fun q => congrArg _ (Finset.sum_congr rfl fun r _ => by rw [dout_at h, hid_at h]; rfl)))
  n := C.n.trans (congrArg vec (funext fun r => nrm_at h r))
  act := C.act.trans (congrArg vec (funext fun r => act_at h r))
  dh := C.dh.trans (congrArg vec (funext fun r => dh_at h r))

end

/-- The weights in the core after the first point. -/
theorem up_held : upHeld m c = wide (V m c main_v3) := up_left _ _ _ _ _ _ _ _
theorem down_held : downHeld m c = V m c main_v6 := down_left _ _ _ _ _ _ _ _

/-- The sums before point `n`. -/
def sumsTo (A : Args) (n : ℕ) : Sums Ideal where
  dgain := vec fun _ q => upto (fun r => A.gainRow r q) (n * 256)
  loss := vec fun _ _ => upto A.lossRow (n * 256)
  dfinal := vec fun _ q => upto (fun r => A.finalRow r q) (n * 256)

theorem sumsTo_zero (A : Args) : sumsTo A 0 = zeros := by
  unfold sumsTo zeros upto
  simp only [Nat.zero_mul, Finset.range_zero, Finset.sum_empty]

theorem Holds.sums {A : Args} {t : Fin cfg0.N} {L : Stores Ideal} (h : Holds (sumsTo A t.val) t A L) : sumsOf L = sumsTo A (t.val + 1) := by
  have e1 := h.dgain
  have e2 := h.loss
  have e3 := h.dfinal
  generalize sumsOf L = s at e1 e2 e3
  cases s
  unfold sumsTo at e1 e2 e3 ⊢
  dsimp only at e1 e2 e3
  subst e1 e2 e3
  simp only [upto_next]
  rfl

theorem start_computes (t : Fin cfg0.N) (h : t.val = 0) :
    Computes (ins m c t) zeros (wide (V m c main_v3)) (V m c main_v6) (start m c t h).1.1 := by
  unfold start weights
  exact first_computes (ins m c t) c (grid0.coords t) (ops t) (V m c main_v3) (V m c main_v6) (starts t h).1 (starts t h).2

/-- Every point's stores hold the results on its rows, the sums over all rows so far. -/
theorem holds_at (n : ℕ) (hn : n < cfg0.N) : Holds (sumsTo (args m c) n) ⟨n, hn⟩ (args m c) (outs m c n hn) := by
  induction n with
  | zero =>
    rw [sumsTo_zero]
    refine holds (here m c ⟨0, hn⟩) ?_
    rw [outs_first m c ⟨0, hn⟩ rfl]
    exact start_computes m c ⟨0, hn⟩ rfl
  | succ n ih =>
    have e := Holds.sums (A := args m c) (t := ⟨n, Nat.lt_of_succ_lt hn⟩) (L := outs m c n (Nat.lt_of_succ_lt hn)) (ih (Nat.lt_of_succ_lt hn))
    refine holds (here m c ⟨n + 1, hn⟩) ?_
    rw [outs_next m c ⟨n + 1, hn⟩ (Nat.succ_ne_zero n)]
    unfold step
    rw [up_held, down_held, show sumsOf (outs m c ((⟨n + 1, hn⟩ : Fin cfg0.N).val - 1) _) = sumsTo (args m c) (n + 1) from e]
    exact next_computes _ _ _ _ _ _ _ _ _ _

theorem after4 (t : Fin cfg0.N) : (dats m 0 c).after 4 t = View.canon (outs m c t.val t.isLt).1 := by dsimp only [dats]
theorem after5 (t : Fin cfg0.N) : (dats m 0 c).after 5 t = View.canon (outs m c t.val t.isLt).2.1 := by dsimp only [dats]
theorem after6 (t : Fin cfg0.N) : (dats m 0 c).after 6 t = (sumsOf (outs m c t.val t.isLt)).dgain := by dsimp only [dats]
theorem after7 (t : Fin cfg0.N) : (dats m 0 c).after 7 t = (sumsOf (outs m c t.val t.isLt)).loss := by dsimp only [dats]
theorem after8 (t : Fin cfg0.N) : (dats m 0 c).after 8 t = (sumsOf (outs m c t.val t.isLt)).dfinal := by dsimp only [dats]
theorem after9 (t : Fin cfg0.N) : (dats m 0 c).after 9 t = View.canon (outs m c t.val t.isLt).2.2.2.2.2.1 := by dsimp only [dats]
theorem after10 (t : Fin cfg0.N) : (dats m 0 c).after 10 t = View.canon (outs m c t.val t.isLt).2.2.2.2.2.2.1 := by dsimp only [dats]
theorem after11 (t : Fin cfg0.N) : (dats m 0 c).after 11 t = View.canon (outs m c t.val t.isLt).2.2.2.2.2.2.2 := by dsimp only [dats]

/-- The arrays written block by block. -/
theorem final_dx : (dats m 0 c).arrAt 4 (cfgs 0).N = vec (args m c).dx := by
  refine (dats m 0 c).arrAt_eq_of_covers 4 _ (by decide +kernel) fun t hf y => ?_
  rw [after4, (holds_at m c t.val t.isLt).dx]
  exact congrArg₂ (args m c).dx (Fin.ext (by blk_simp [idx t]; try rfl)) (Fin.ext (by blk_simp [idx t]; try rfl))

theorem final_dgu : (dats m 0 c).arrAt 5 (cfgs 0).N = vec (args m c).dgu := by
  refine (dats m 0 c).arrAt_eq_of_covers 5 _ (by decide +kernel) fun t hf y => ?_
  rw [after5, (holds_at m c t.val t.isLt).dgu]
  exact congrArg₂ (args m c).dgu (Fin.ext (by blk_simp [idx t]; try rfl)) (Fin.ext (by blk_simp [idx t]; try rfl))

theorem final_n : (dats m 0 c).arrAt 9 (cfgs 0).N = vec (args m c).nrm := by
  refine (dats m 0 c).arrAt_eq_of_covers 9 _ (by decide +kernel) fun t hf y => ?_
  rw [after9, (holds_at m c t.val t.isLt).n]
  exact congrArg₂ (args m c).nrm (Fin.ext (by blk_simp [idx t]; try rfl)) (Fin.ext (by blk_simp [idx t]; try rfl))

theorem final_act : (dats m 0 c).arrAt 10 (cfgs 0).N = vec (args m c).act := by
  refine (dats m 0 c).arrAt_eq_of_covers 10 _ (by decide +kernel) fun t hf y => ?_
  rw [after10, (holds_at m c t.val t.isLt).act]
  exact congrArg₂ (args m c).act (Fin.ext (by blk_simp [idx t]; try rfl)) (Fin.ext (by blk_simp [idx t]; try rfl))

theorem final_dh : (dats m 0 c).arrAt 11 (cfgs 0).N = vec (args m c).dh := by
  refine (dats m 0 c).arrAt_eq_of_covers 11 _ (by decide +kernel) fun t hf y => ?_
  rw [after11, (holds_at m c t.val t.isLt).dh]
  exact congrArg₂ (args m c).dh (Fin.ext (by blk_simp [idx t]; try rfl)) (Fin.ext (by blk_simp [idx t]; try rfl))

/-- The sums after the last point are over all rows. -/
theorem sums_last (A : Args) (t : Fin cfg0.N) (h : t.val % 8 = 7) {L : Stores Ideal} (e : Holds (sumsTo A t.val) t A L) :
    sumsOf L = ⟨vec fun _ q => ∑ r, A.gainRow r q, vec fun _ _ => ∑ r, A.lossRow r, vec fun _ q => ∑ r, A.finalRow r q⟩ := by
  have hN := lt_of_lt_of_eq t.isLt (show cfg0.N = 8 from N_0)
  rw [e.sums, show t.val + 1 = 8 by omega]
  unfold sumsTo
  simp only [Nat.reduceMul, upto_all]

theorem final_dgain : (dats m 0 c).arrAt 6 (cfgs 0).N = vec fun (_ : Fin 1) q => ∑ r, (args m c).gainRow r q := by
  refine (dats m 0 c).arrAt_eq_of_covers 6 _ (by decide +kernel) fun t hf y => ?_
  rw [after6, sums_last _ t ((flush0_6 t).mp hf) (holds_at m c t.val t.isLt)]
  exact congrArg (fun q => ∑ r, (args m c).gainRow r q) (Fin.ext (by blk_simp [idx t]; try rfl))

theorem final_loss : (dats m 0 c).arrAt 7 (cfgs 0).N = vec fun (_ : Fin 1) (_ : Fin 128) => ∑ r, (args m c).lossRow r := by
  refine (dats m 0 c).arrAt_eq_of_covers 7 _ (by decide +kernel) fun t hf y => ?_
  rw [after7, sums_last _ t ((flush0_7 t).mp hf) (holds_at m c t.val t.isLt)]
  rfl

theorem final_dfinal : (dats m 0 c).arrAt 8 (cfgs 0).N = vec fun (_ : Fin 1) q => ∑ r, (args m c).finalRow r q := by
  refine (dats m 0 c).arrAt_eq_of_covers 8 _ (by decide +kernel) fun t hf y => ?_
  rw [after8, sums_last _ t ((flush0_8 t).mp hf) (holds_at m c t.val t.isLt)]
  exact congrArg (fun q => ∑ r, (args m c).finalRow r q) (Fin.ext (by blk_simp [idx t]; try rfl))

end Cert.Proof.Last

end
-- ==== Proof.LastReal.lean ====
/- The last block of the step: where the arguments are finite, so is everything computed from them on a row. -/
module

public import proofs.«01_k».proof.Proof.LastArray

@[expose] public section

set_option maxRecDepth 16384

noncomputable section

namespace Cert.Proof.Last

open Idealize.ShloMosaic
open Cert.Proof.Norm (rms back rms_coe back_coe)
open Cert.Proof.Act (gate dgate dup dact)

/-- A real number. -/
abbrev IsReal (e : EReal) : Prop := ∃ r : ℝ, e = r

theorem IsReal.add {a b : EReal} (ha : IsReal a) (hb : IsReal b) : IsReal (a + b) := by
  obtain ⟨a, rfl⟩ := ha
  obtain ⟨b, rfl⟩ := hb
  exact ⟨a + b, (EReal.coe_add a b).symm⟩

theorem IsReal.sub {a b : EReal} (ha : IsReal a) (hb : IsReal b) : IsReal (a - b) := by
  obtain ⟨a, rfl⟩ := ha
  obtain ⟨b, rfl⟩ := hb
  exact ⟨a - b, (EReal.coe_sub a b).symm⟩

theorem IsReal.mul {a b : EReal} (ha : IsReal a) (hb : IsReal b) : IsReal (a * b) := by
  obtain ⟨a, rfl⟩ := ha
  obtain ⟨b, rfl⟩ := hb
  exact ⟨a * b, (EReal.coe_mul a b).symm⟩

theorem IsReal.sum {n : ℕ} {f : Fin n → EReal} (h : ∀ k, IsReal (f k)) : IsReal (∑ k, f k) := by
  obtain ⟨f, rfl⟩ := reals_of h
  exact ⟨∑ k, f k, (coe_sum _ _).symm⟩

theorem IsReal.logistic {a : EReal} (h : IsReal a) : IsReal (Ideal.logistic a) := by
  obtain ⟨a, rfl⟩ := h
  exact ⟨_, Ideal.logistic_coe a⟩

theorem real_one : IsReal 1 := ⟨1, rfl⟩

theorem real_half : IsReal (Ideal.ofBits .f32 0x3F000000#32) := ⟨_, half_f32⟩

/-- The f32 word of one over 1024. -/
theorem inv_width_f32 : Ideal.ofBits .f32 0x3A800000#32 = ((1 / 1024 : ℝ) : EReal) := by
  simp [Ideal.ofBits, Ideal.ieee, -EReal.coe_mul]; norm_num

theorem real_rms {x : Fin 1024 → EReal} (h : ∀ k, IsReal (x k)) : IsReal (rms x) := by
  obtain ⟨x, rfl⟩ := reals_of h
  exact ⟨_, rms_coe x⟩

theorem real_back {x d g : Fin 1024 → EReal} (hx : ∀ k, IsReal (x k)) (hd : ∀ k, IsReal (d k)) (hg : ∀ k, IsReal (g k)) (q : Fin 1024) :
    IsReal (back x d g q) := by
  obtain ⟨x, rfl⟩ := reals_of hx
  obtain ⟨d, rfl⟩ := reals_of hd
  obtain ⟨g, rfl⟩ := reals_of hg
  exact ⟨_, back_coe x d g q⟩

/-- Finite arguments. -/
structure Args.Finite (A : Args) : Prop where
  x : ∀ r k, IsReal (A.x r k)
  gain : ∀ k, IsReal (A.gain k)
  up : ∀ k j, IsReal (A.up k j)
  down : ∀ j k, IsReal (A.down j k)
  target : ∀ r k, IsReal (A.target r k)
  final : ∀ k, IsReal (A.final k)

namespace Args.Finite

variable {A : Args} (h : A.Finite) (r : Fin 2048)
include h

theorem nrm (k) : IsReal (A.nrm r k) := ((h.x r k).mul (real_rms (h.x r))).mul (h.gain k)
theorem pre (j) : IsReal (A.pre r j) := .sum fun k => (h.nrm r k).mul (h.up k j)
theorem act (j) : IsReal (A.act r j) := real_half.mul (((h.pre r _).mul (h.pre r _).logistic).mul (h.pre r _))
theorem hid (q) : IsReal (A.hid r q) := (h.x r q).add (.sum fun j => (h.act r j).mul (h.down j q))
theorem err (q) : IsReal (A.err r q) := (((h.hid r q).mul (real_rms (h.hid r))).mul (h.final q)).sub (h.target r q)
theorem dout (q) : IsReal (A.dout r q) := (h.err r q).mul ⟨_, inv_width_f32⟩
theorem dh (q) : IsReal (A.dh r q) := real_back (h.hid r) (h.dout r) h.final q
theorem dact (w : Fin 1024 → EReal) (hw : ∀ k, IsReal (w k)) : IsReal (Act.dact (A.dh r) w) := real_half.mul (.sum fun k => (h.dh r k).mul (hw k))
theorem dgu (j) : IsReal (A.dgu r j) := by
  unfold Args.dgu gate
  split
  · exact ((h.dact r _ (h.down _)).mul (h.pre r _)).mul ((h.pre r _).logistic.mul (real_one.add ((h.pre r _).mul (real_one.sub (h.pre r _).logistic))))
  · exact (h.dact r _ (h.down _)).mul ((h.pre r _).mul (h.pre r _).logistic)
theorem dn (q) : IsReal (A.dn r q) := .sum fun j => (h.dgu r j).mul (h.up q j)

end Args.Finite

end Cert.Proof.Last

end
-- ==== Proof.LastRef.lean ====
/- The last block of the step, the reference: the forward lines, the loss and the derivative at finite arguments. -/
module

public import proofs.«01_k».proof.Proof.LastReal
public import proofs.«01_k».proof.Proof.ActRef
public import proofs.«01_k».proof.Proof.FinRef
public import proofs.«01_k».proof.Proof.Gen.ReferenceLastIdeal.Read

@[expose] public section

set_option maxRecDepth 16384

noncomputable section

namespace Cert.Proof.LastRef

open Cert.ReferenceLastIdeal Cert.ReferenceLastIdeal.Gen Cert.ReferenceLastIdeal.Read Idealize.ShloMosaic
open Cert.Proof.Norm (rms back width eps mean_coe terms_coe)
open Cert.Proof.Last (Args argsOf IsReal)
open Cert.Proof.FinRef (sum_unit sum_unit_gain sum_unit_row)

variable (x : Vec Ideal S1x2048x1024 .f32) (g : Vec Ideal S1x1024 .f32) (u : Vec Ideal S1x1024x5632 .f32) (d : Vec Ideal S1x2816x1024 .f32)
  (t : Vec Ideal S1x2048x1024 .f32) (f : Vec Ideal S1024 .f32)

/-! ## Forward -/

theorem rms_x (r : Fin 2048) : val_main_v8 (F := Ideal) x (ix3 0 r 0) = rms ((argsOf x g u d t f).x r) := by
  unfold rms
  pointwise [val_main_v8, val_main_v7, val_main_v6, val_main_v5, val_main_v4, val_main_v3, val_main_v2, val_main_v1, val_main_cst, val_main_cst_0, val_main_cst_1]
  rfl

theorem nrm_ref (r : Fin 2048) (k : Fin 1024) : val_main_v13 (F := Ideal) x g (ix3 0 r k) = (argsOf x g u d t f).nrm r k := by
  pointwise [val_main_v13, val_main_v12, val_main_v11, val_main_v10, val_main_v9, val_main_v0]
  rw [rms_x x g u d t f]
  rfl

theorem pre_ref (r : Fin 2048) (j : Fin 5632) : val_main_v15 (F := Ideal) x g u (ix3 0 r j) = (argsOf x g u d t f).pre r j := by
  pointwise [val_main_v15, val_main_v14]
  simp only [nrm_ref x g u d t f]
  rfl

/-- The logistic function as the reference writes it. -/
theorem sigmoid {a : EReal} (h : IsReal a) : Ideal.div 1 (1 + Ideal.exp (-a)) = Ideal.logistic a := by
  obtain ⟨a, rfl⟩ := h
  exact (sigmoid_coe a).trans (Ideal.logistic_coe a).symm

/-- A half goes into a sum of products of reals. -/
theorem half_sum {n : ℕ} (a b : Fin n → EReal) (ha : ∀ j, IsReal (a j)) (hb : ∀ j, IsReal (b j)) :
    Ideal.ofBits .f32 0x3F000000#32 * ∑ j, a j * b j = ∑ j, Ideal.ofBits .f32 0x3F000000#32 * a j * b j := by
  obtain ⟨a, rfl⟩ := reals_of ha
  obtain ⟨b, rfl⟩ := reals_of hb
  simp only [half_f32, ← EReal.coe_mul, ← coe_sum]
  rw [Finset.mul_sum]
  exact congrArg _ (Finset.sum_congr rfl fun j _ => by ring)

/-- The three terms of the derivative through a norm, at finite rows. -/
theorem terms (k : EReal) {a b c : Fin 1024 → EReal} (ha : ∀ i, IsReal (a i)) (hb : ∀ i, IsReal (b i)) (hc : ∀ i, IsReal (c i)) {s : EReal}
    (hs : s = Ideal.div ((∑ k, a k * (b k * c k)) * (Ideal.ofBits .f32 3204448256#32 * Ideal.div (rms a) (Ideal.div (∑ k, a k * a k) width + eps))) width)
    (q : Fin 1024) : (k + b q * c q * rms a) + a q * s + s * a q = k + back a b c q := by
  obtain ⟨a, rfl⟩ := reals_of ha
  obtain ⟨b, rfl⟩ := reals_of hb
  obtain ⟨c, rfl⟩ := reals_of hc
  rw [hs, mean_coe]
  exact terms_coe k a b c q

/-- The gate's and the up projection's gradients, as the derivative has them. -/
theorem dgate_of {a w : Fin 1024 → EReal} {g u : EReal} (ha : ∀ k, IsReal (a k)) (hw : ∀ k, IsReal (w k)) (hg : IsReal g) (hu : IsReal u) :
    (∑ k, Ideal.ofBits .f32 0x3F000000#32 * a k * w k) * u * Ideal.div 1 (1 + Ideal.exp (-g))
      + g * ((∑ k, Ideal.ofBits .f32 0x3F000000#32 * a k * w k) * u) * (Ideal.div 1 (1 + Ideal.exp (-g)) * (1 - Ideal.div 1 (1 + Ideal.exp (-g))))
      = Act.dgate (Act.dact a w) g u := by
  obtain ⟨a, rfl⟩ := reals_of ha
  obtain ⟨w, rfl⟩ := reals_of hw
  obtain ⟨g, rfl⟩ := hg
  obtain ⟨u, rfl⟩ := hu
  exact ActRef.dgate_eq a w g u

theorem dup_of {a w : Fin 1024 → EReal} {g : EReal} (ha : ∀ k, IsReal (a k)) (hw : ∀ k, IsReal (w k)) (hg : IsReal g) :
    g * Ideal.div 1 (1 + Ideal.exp (-g)) * (∑ k, Ideal.ofBits .f32 0x3F000000#32 * a k * w k) = Act.dup (Act.dact a w) g := by
  obtain ⟨a, rfl⟩ := reals_of ha
  obtain ⟨w, rfl⟩ := reals_of hw
  obtain ⟨g, rfl⟩ := hg
  exact ActRef.dup_eq a w g

theorem two_f32 : Ideal.ofBits .f32 0x40000000#32 = ((2 : ℝ) : EReal) := by
  simp [Ideal.ofBits, Ideal.ieee, -EReal.coe_mul]; norm_num

/-- The constant of the rows' losses, one over 2048. -/
theorem loss_f32 : Ideal.ofBits .f32 0x3A000000#32 = ((1 / 2048 : ℝ) : EReal) := by
  simp [Ideal.ofBits, Ideal.ieee, -EReal.coe_mul]; norm_num

theorem dout_of {e : EReal} (he : IsReal e) : Ideal.div (Ideal.ofBits .f32 0x3F000000#32) width * (Ideal.ofBits .f32 0x40000000#32 * e) = e * Ideal.ofBits .f32 0x3A800000#32 := by
  obtain ⟨e, rfl⟩ := he
  rw [half_f32, Norm.div_width, two_f32, Last.inv_width_f32, ← EReal.coe_mul, ← EReal.coe_mul, ← EReal.coe_mul]
  exact congrArg _ (by ring)

theorem loss_of {n : ℕ} {s : Fin n → EReal} (hs : ∀ r, IsReal (s r)) :
    Ideal.ofBits .f32 0x3F000000#32 * ∑ r, Ideal.div (s r) width = ∑ r, Ideal.ofBits .f32 0x3A000000#32 * s r := by
  obtain ⟨s, rfl⟩ := reals_of hs
  simp only [Norm.div_width, half_f32, loss_f32, ← EReal.coe_mul, ← coe_sum]
  rw [Finset.mul_sum]
  exact congrArg _ (Finset.sum_congr rfl fun r _ => by ring)

theorem rms_x' (r : Fin 2048) : val_main_v98 (F := Ideal) x (ix3 0 r 0) = rms ((argsOf x g u d t f).x r) := by
  unfold rms
  pointwise [val_main_v98, val_main_v97, val_main_v96, val_main_v95, val_main_v94, val_main_v93, val_main_v92, val_main_v91, val_main_cst_22, val_main_cst_23, val_main_cst_24]
  rfl

variable (h : (argsOf x g u d t f).Finite)
include h

theorem act_ref (r : Fin 2048) (j : Fin 2816) : val_main_v21 (F := Ideal) x g u (ix3 0 r j) = (argsOf x g u d t f).act r j := by
  pointwise [val_main_v21, val_main_v20, val_main_v19, val_main_v18, val_main_v17, val_main_v16, val_main_cst_2, val_main_call0_v0, val_main_call0_v1,
    val_main_call0_v2, val_main_call0_v3, val_main_call0_v4, val_main_call0_v5, val_main_call0_cst, val_main_call0_cst_0]
  simp only [pre_ref x g u d t f, sigmoid (h.pre r _)]
  rfl

theorem hid_ref (r : Fin 2048) (q : Fin 1024) : val_main_v30 (F := Ideal) x g u d (ix3 0 r q) = (argsOf x g u d t f).hid r q := by
  pointwise [val_main_v30, val_main_v29, val_main_v28, val_main_v27, val_main_v26, val_main_v25, val_main_v24_0, val_main_v24_2, val_main_v23, val_main_v22,
    val_main_cst_3, val_main_call1_v0, val_main_call1_v1, val_main_call1_v2, val_main_call1_v3, val_main_call1_v4, val_main_call1_cst, val_main_call1_cst_0]
  simp only [pre_ref x g u d t f, sigmoid (h.pre r _)]
  refine congrArg (x (ix3 0 r q) + ·) ((half_sum (fun j : Fin 2816 => (argsOf x g u d t f).pre r ⟨j.val, by omega⟩ * Ideal.logistic ((argsOf x g u d t f).pre r ⟨j.val, by omega⟩)
    * (argsOf x g u d t f).pre r ⟨2816 + j.val, by omega⟩) (fun j => d (ix3 0 j q)) (fun j => ?_) fun j => h.down j q).trans ?_)
  · exact ((h.pre r _).mul (h.pre r _).logistic).mul (h.pre r _)
  · rfl

theorem rms_h (r : Fin 2048) : val_main_v38 (F := Ideal) x g u d (ix3 0 r 0) = rms ((argsOf x g u d t f).hid r) := by
  unfold rms
  pointwise [val_main_v38, val_main_v37, val_main_v36, val_main_v35, val_main_v34, val_main_v33, val_main_v32, val_main_v31, val_main_cst_4, val_main_cst_5, val_main_cst_6]
  simp only [hid_ref x g u d t f h]

theorem err_ref (r : Fin 2048) (q : Fin 1024) : val_main_v47 (F := Ideal) x g u d t f (ix3 0 r q) = (argsOf x g u d t f).err r q := by
  pointwise [val_main_v47, val_main_v46, val_main_v45, val_main_v44, val_main_v43, val_main_v42]
  simp only [hid_ref x g u d t f h, rms_h x g u d t f h]
  rfl

/-! ## The loss and the output's gradient -/

theorem dout_ref (r : Fin 2048) (q : Fin 1024) : val_main_v61 (F := Ideal) x g u d t f (ix3 0 r q) = (argsOf x g u d t f).dout r q := by
  pointwise [val_main_v61, val_main_v60, val_main_v59, val_main_v58, val_main_v57, val_main_v56, val_main_v50, val_main_v49, val_main_cst_8, val_main_cst_13, val_main_cst_14, val_main_cst_15]
  simp only [err_ref x g u d t f h]
  exact dout_of (h.err r q)

theorem final_ref (q : Fin 1024) : val_main_v137 (F := Ideal) x g u d t f (ix2 0 q) = ∑ r, (argsOf x g u d t f).finalRow r q := by
  pointwise [val_main_v137, val_main_v67, val_main_cst_17]
  rw [sum_unit_gain]
  pointwise [val_main_v64, val_main_v63, val_main_v62, val_main_v43, val_main_v42, val_main_cst_16]
  simp only [hid_ref x g u d t f h, rms_h x g u d t f h, dout_ref x g u d t f h]
  exact Finset.sum_congr rfl fun r _ => mul_comm _ _

theorem loss_ref (q : Fin 128) : val_main_v136 (F := Ideal) x g u d t f (ix2 0 q) = ∑ r, (argsOf x g u d t f).lossRow r := by
  pointwise [val_main_v136, val_main_v55, val_main_v54, val_main_v53, val_main_v52, val_main_v51, val_main_v48, val_main_cst_9, val_main_cst_10, val_main_cst_11, val_main_cst_12]
  simp only [err_ref x g u d t f h]
  rw [Fintype.sum_unique]
  exact loss_of fun r => .sum fun k => (h.err r k).mul (h.err r k)

/-! ## The gradient through the last norm -/

/-- The row's sum that the mean's gradient is made of. -/
theorem mean_h (r : Fin 2048) : val_main_v77 (F := Ideal) x g u d t f (ix2 0 r)
    = Ideal.div ((∑ k, (argsOf x g u d t f).hid r k * ((argsOf x g u d t f).dout r k * (argsOf x g u d t f).final k)) * (Ideal.ofBits .f32 3204448256#32
      * Ideal.div (rms ((argsOf x g u d t f).hid r)) (Ideal.div (∑ k, (argsOf x g u d t f).hid r k * (argsOf x g u d t f).hid r k) width + eps))) width := by
  pointwise [val_main_v77, val_main_v76, val_main_cst_20]
  rw [sum_unit_row]
  pointwise [val_main_v75, val_main_v74, val_main_v73, val_main_v70, val_main_v69, val_main_v68, val_main_v66, val_main_v65, val_main_v44, val_main_v41, val_main_v40, val_main_v39,
    val_main_v37, val_main_v36, val_main_v35, val_main_v34, val_main_v33, val_main_v32, val_main_v31, val_main_cst_4, val_main_cst_5, val_main_cst_6, val_main_cst_7, val_main_cst_18, val_main_cst_19]
  simp only [hid_ref x g u d t f h, rms_h x g u d t f h, dout_ref x g u d t f h]
  rfl

theorem dh_ref (r : Fin 2048) (q : Fin 1024) : val_main_v82 (F := Ideal) x g u d t f (ix3 0 r q) = (argsOf x g u d t f).dh r q := by
  pointwise [val_main_v82, val_main_v81, val_main_v80, val_main_v79, val_main_v78, val_main_v72, val_main_v71, val_main_v66, val_main_v65, val_main_v44]
  simp only [hid_ref x g u d t f h, rms_h x g u d t f h, dout_ref x g u d t f h]
  have e := terms 0 (h.hid r) (h.dout r) h.final (mean_h x g u d t f h r) q
  rw [zero_add, zero_add] at e
  exact e

/-! ## The gradient through SwiGLU -/

theorem dgu_ref (r : Fin 2048) (j : Fin 5632) : val_main_v89 (F := Ideal) x g u d t f (ix3 0 r j) = (argsOf x g u d t f).dgu r j := by
  pointwise [val_main_v89, val_main_v88, val_main_v87, val_main_v86, val_main_v85, val_main_v84, val_main_v83, val_main_v26, val_main_v24_0, val_main_v24_1, val_main_v24_2, val_main_v23, val_main_v22,
    val_main_cst_21, val_main_call1_v0, val_main_call1_v1, val_main_call1_v2, val_main_call1_v3, val_main_call1_v4, val_main_call1_v6, val_main_call1_v7, val_main_call1_cst, val_main_call1_cst_0,
    val_main_call1_cst_1, val_main_call2_v0, val_main_call2_v1, val_main_call2_v2]
  simp only [pre_ref x g u d t f, dh_ref x g u d t f h]
  unfold Args.dgu Act.gate
  split
  · exact dgate_of (h.dh r) (h.down _) (h.pre r _) (h.pre r _)
  · exact dup_of (h.dh r) (h.down _) (h.pre r _)

/-! ## The gradient through the first norm -/

theorem dn_ref (r : Fin 2048) (q : Fin 1024) : val_main_v109 (F := Ideal) x g u d t f (ix3 0 r q) = (argsOf x g u d t f).dn r q := by
  pointwise [val_main_v109, val_main_v107]
  simp only [dgu_ref x g u d t f h]
  rfl

theorem gain_ref (q : Fin 1024) : val_main_v132 (F := Ideal) x g u d t f (ix2 0 q) = ∑ r, (argsOf x g u d t f).gainRow r q := by
  pointwise [val_main_v132, val_main_v115, val_main_cst_27]
  rw [sum_unit_gain]
  pointwise [val_main_v112, val_main_v111, val_main_v110, val_main_v103, val_main_v102, val_main_cst_26]
  simp only [rms_x' x g u d t f, dn_ref x g u d t f h]
  exact Finset.sum_congr rfl fun r _ => mul_comm _ _

theorem mean_x (r : Fin 2048) : val_main_v126 (F := Ideal) x g u d t f (ix2 0 r)
    = Ideal.div ((∑ k, (argsOf x g u d t f).x r k * ((argsOf x g u d t f).dn r k * (argsOf x g u d t f).gain k)) * (Ideal.ofBits .f32 3204448256#32
      * Ideal.div (rms ((argsOf x g u d t f).x r)) (Ideal.div (∑ k, (argsOf x g u d t f).x r k * (argsOf x g u d t f).x r k) width + eps))) width := by
  pointwise [val_main_v126, val_main_v125, val_main_cst_30]
  rw [sum_unit_row]
  pointwise [val_main_v124, val_main_v123, val_main_v122, val_main_v118, val_main_v117, val_main_v116, val_main_v114, val_main_v113, val_main_v104, val_main_v90, val_main_v101, val_main_v100, val_main_v99,
    val_main_v97, val_main_v96, val_main_v95, val_main_v94, val_main_v93, val_main_v92, val_main_v91, val_main_cst_22, val_main_cst_23, val_main_cst_24, val_main_cst_25, val_main_cst_28, val_main_cst_29]
  simp only [rms_x' x g u d t f, dn_ref x g u d t f h]
  rfl

theorem dx_ref (r : Fin 2048) (q : Fin 1024) : val_main_v133 (F := Ideal) x g u d t f (ix2 r q) = (argsOf x g u d t f).dx r q := by
  pointwise [val_main_v133, val_main_v131, val_main_v130, val_main_v129, val_main_v128, val_main_v127, val_main_v121, val_main_v120, val_main_v119, val_main_v114, val_main_v113, val_main_v104, val_main_v90]
  simp only [rms_x' x g u d t f, dn_ref x g u d t f h, dh_ref x g u d t f h]
  exact terms _ (h.x r) (h.dn r) h.gain (mean_x x g u d t f h r) q

/-! ## The rows as the results hold them -/

theorem dgu_out (r : Fin 2048) (j : Fin 5632) : val_main_v135 (F := Ideal) x g u d t f (ix2 r j) = (argsOf x g u d t f).dgu r j := by
  pointwise [val_main_v135, val_main_v134]
  exact dgu_ref x g u d t f h r j

theorem n_out (r : Fin 2048) (k : Fin 1024) : val_main_v139 (F := Ideal) x g (ix2 r k) = (argsOf x g u d t f).nrm r k := by
  pointwise [val_main_v139, val_main_v138]
  exact nrm_ref x g u d t f r k

theorem act_out (r : Fin 2048) (j : Fin 2816) : val_main_v141 (F := Ideal) x g u (ix2 r j) = (argsOf x g u d t f).act r j := by
  pointwise [val_main_v141, val_main_v140]
  exact act_ref x g u d t f h r j

theorem dh_out (r : Fin 2048) (q : Fin 1024) : val_main_v143 (F := Ideal) x g u d t f (ix2 r q) = (argsOf x g u d t f).dh r q := by
  pointwise [val_main_v143, val_main_v142]
  exact dh_ref x g u d t f h r q

end Cert.Proof.LastRef

end
-- ==== Proof.Last.lean ====
/- The last block of the step: the claims. -/
module

public import proofs.«01_k».proof.Defs
public import proofs.«01_k».proof.Proof.LastRef
public import proofs.«01_k».proof.Proof.Gen.KernelLast
public import proofs.«01_k».proof.Proof.Gen.ReferenceLastIdeal.Run
public import proofs.«01_k».proof.Proof.Gen.Pre_finite_last
public import Idealize.ShloMosaic.Lib.Claim

@[expose] public section

set_option maxRecDepth 16384

noncomputable section

namespace Cert.Proof.Last

open Idealize.ShloMosaic Idealize.ShloMosaic.TcCoe Idealize.SL.Sem

section

open Cert.KernelLastIdeal Cert.KernelLastIdeal.Gen

/-- The program's run: the eight results, and the arguments unchanged. -/
theorem run_arrays (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v9_0) = vec (args m c).dx
      ∧ r.2.mem ((c.tc : Thread nD τ).loc main_v9_1) = vec (args m c).dgu
      ∧ r.2.mem ((c.tc : Thread nD τ).loc main_v9_2) = (vec fun (_ : Fin 1) q => ∑ r, (args m c).gainRow r q)
      ∧ r.2.mem ((c.tc : Thread nD τ).loc main_v9_3) = (vec fun (_ : Fin 1) (_ : Fin 128) => ∑ r, (args m c).lossRow r)
      ∧ r.2.mem ((c.tc : Thread nD τ).loc main_v9_4) = (vec fun (_ : Fin 1) q => ∑ r, (args m c).finalRow r q)
      ∧ r.2.mem ((c.tc : Thread nD τ).loc main_v9_5) = vec (args m c).nrm
      ∧ r.2.mem ((c.tc : Thread nD τ).loc main_v9_6) = vec (args m c).act
      ∧ r.2.mem ((c.tc : Thread nD τ).loc main_v9_7) = vec (args m c).dh
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h.1.1 c).1 4).trans (final_dx m c), ((h.1.1 c).1 5).trans (final_dgu m c), ((h.1.1 c).1 6).trans (final_dgain m c),
    ((h.1.1 c).1 7).trans (final_loss m c), ((h.1.1 c).1 8).trans (final_dfinal m c), ((h.1.1 c).1 9).trans (final_n m c),
    ((h.1.1 c).1 10).trans (final_act m c), ((h.1.1 c).1 11).trans (final_dh m c), h.2.1 c⟩)
    (θ_run_and (run m ρ) (frame m ρ))

end

section

open Cert.ReferenceLastIdeal Cert.ReferenceLastIdeal.Read

/-- The reference's run: each result is the value read of its own arguments. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v133) = val_main_v133 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v135) = val_main_v135 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v132) = val_main_v132 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v136) = val_main_v136 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v137) = val_main_v137 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v139) = val_main_v139 (F := Ideal) (m ((c.tc : Thread nD τ).loc main_arg0)) (m ((c.tc : Thread nD τ).loc main_arg1))
      ∧ r.2.mem ((c.tc : Thread nD τ).loc main_v141) = val_main_v141 (F := Ideal) (m ((c.tc : Thread nD τ).loc main_arg0)) (m ((c.tc : Thread nD τ).loc main_arg1)) (m ((c.tc : Thread nD τ).loc main_arg2))
      ∧ r.2.mem ((c.tc : Thread nD τ).loc main_v143) = val_main_v143 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => by
    obtain ⟨h0, h1, h2, h3, h4, h5, h6, h7, hargs⟩ := h c
    exact ⟨h0.trans (val_main_v133_eq _), h1.trans (val_main_v135_eq _), h2.trans (val_main_v132_eq _), h3.trans (val_main_v136_eq _), h4.trans (val_main_v137_eq _), h5.trans (val_main_v139_eq _), h6.trans (val_main_v141_eq _), h7.trans (val_main_v143_eq _), hargs⟩)
    (Cert.ReferenceLastIdeal.Value.run m ρ)

end

/-- The two printings of the program run the same body. -/
theorem body_eq : @Cert.KernelLast.defs₀ Bits _ _ = @Cert.KernelLastIdeal.defs₀ Bits _ _ := by
  refine congrArg Defs.onTc (funext fun l => ?_)
  fin_cases l
  rfl

theorem defs_eq : @Cert.KernelLast.defs Bits _ _ = @Cert.KernelLastIdeal.defs Bits _ _ := congrArg (Pipeline.defs _) body_eq

theorem frame_kernel : Cert.quiescent_KernelLast := fun m ρ _ => by
  rw [defs_eq]
  exact frame (F := Bits) m ρ
theorem frame_ideal : Cert.quiescent_KernelLastIdeal := fun m ρ _ => frame m ρ
theorem frame_ideal_pre : Cert.quiescent_KernelLastIdeal_pre_finite_last := fun m ρ _ => frame m ρ
theorem frame_ref : Cert.quiescent_ReferenceLastIdeal := fun m ρ _ =>
  (θ_run _ _ _).mono (fun r h => ⟨fun c => (h c).2.2.2.2.2.2.2.2, sem_eq_zero_of_no_sems (by decide) r.2⟩) (Cert.ReferenceLastIdeal.Value.run m ρ)
theorem frame_ref_pre : Cert.quiescent_ReferenceLastIdeal_pre_finite_last := fun m ρ _ => frame_ref m ρ trivial

/-- Two arrays of one row that agree in every column are one. -/
theorem one_row {n : ℕ} {v : (⟨2, ![1, n]⟩ : Shape).Idx → EReal} {H : Fin n → EReal} (h : ∀ q, v (ix2 0 q) = H q) : v = vec fun (_ : Fin 1) q => H q :=
  funext fun y => (congrArg v (funext fun a => by fin_cases a; exacts [Subsingleton.elim (α := Fin 1) _ _, rfl])).trans (h (y 1))

/-- Two arrays that agree row by row are one. -/
theorem by_rows {a b : ℕ} {v : (⟨2, ![a, b]⟩ : Shape).Idx → EReal} {H : Fin a → Fin b → EReal} (h : ∀ r q, v (ix2 r q) = H r q) : v = vec H :=
  funext fun y => (congrArg v (eq_ix2 y)).trans (h (y 0) (y 1))

theorem algebraic : Cert.algebraic_KernelLastIdeal_ReferenceLastIdeal_pre_finite_last := fun m ρ m' ρ' hpre hag =>
  ⟨_, _, _, _, _, _, _, _, run_arrays m ρ,
    (θ_run _ _ _).mono (fun _ h c => by
      obtain ⟨e0, e1, e2, e3, e4, e5⟩ := hag c
      obtain ⟨p0, p1, p2, p3, p4, p5⟩ := hpre c
      have hf : (args m c).Finite := ⟨fun r k => real_of_abs_lt (congrFun p0 (ix3 0 r k)), fun k => real_of_abs_lt (congrFun p1 (ix2 0 k)),
        fun k j => real_of_abs_lt (congrFun p2 (ix3 0 k j)), fun j k => real_of_abs_lt (congrFun p3 (ix3 0 j k)),
        fun r k => real_of_abs_lt (congrFun p4 (ix3 0 r k)), fun k => real_of_abs_lt (congrFun p5 (ix1 k))⟩
      obtain ⟨h0, h1, h2, h3, h4, h5, h6, h7, hargs⟩ := h c
      refine ⟨h0.trans ?_, h1.trans ?_, h2.trans ?_, h3.trans ?_, h4.trans ?_, h5.trans ?_, h6.trans ?_, h7.trans ?_, hargs⟩
      · rw [e0, e1, e2, e3, e4, e5]; exact by_rows (LastRef.dx_ref _ _ _ _ _ _ hf)
      · rw [e0, e1, e2, e3, e4, e5]; exact by_rows (LastRef.dgu_out _ _ _ _ _ _ hf)
      · rw [e0, e1, e2, e3, e4, e5]; exact one_row (LastRef.gain_ref _ _ _ _ _ _ hf)
      · rw [e0, e1, e2, e3, e4, e5]; exact one_row (LastRef.loss_ref _ _ _ _ _ _ hf)
      · rw [e0, e1, e2, e3, e4, e5]; exact one_row (LastRef.final_ref _ _ _ _ _ _ hf)
      · rw [e0, e1]; exact by_rows (LastRef.n_out (aX m c) (aG m c) (aU m c) (aD m c) (aT m c) (aF m c) hf)
      · rw [e0, e1, e2]; exact by_rows (LastRef.act_out (aX m c) (aG m c) (aU m c) (aD m c) (aT m c) (aF m c) hf)
      · rw [e0, e1, e2, e3, e4, e5]; exact by_rows (LastRef.dh_out _ _ _ _ _ _ hf)) (run_ref m' ρ')⟩

end Cert.Proof.Last

end
-- ==== Proof.MinOps.lean ====
/-
  The operands of the kernel behind the mixer's input projection, and what its body is handed and gives back at a grid point.
-/
module

public import proofs.«01_k».proof.Proof.Gen.KernelMinIdeal.Frame
public import proofs.«01_k».proof.Proof.Gen.KernelMinIdeal.Skeleton

@[expose] public section

set_option maxRecDepth 16384

noncomputable section

namespace Cert.Proof.Min

open Cert.KernelMinIdeal Cert.KernelMinIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The launch, over values and counters of copies -/

section

variable (m : (ℓ : Loc nD τ sig) → Buf (Elt F) ℓ)

/-- The program up to the kernel's launch. -/
theorem launched_main : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

end

/-- The two buffers that the core keeps from one grid point to the next: the weight, and the row block of the gradient. -/
abbrev keptW : Memref sig .tc .vmem S4x1024x1024 .bf16 := Memref.whole cc0_scratch0
abbrev keptP : Memref sig .tc .vmem S512x4096 .bf16 := Memref.whole cc0_scratch1
/-- The weight outside the core. -/
abbrev outerW : Memref sig .tc .hbm S4x1024x1024 .bf16 := Memref.whole main_v3

/-- The contents of the weight outside the core, -/
abbrev Outer (F : FTy → Type) [FloatOps F] (c : Dev nD) : Type := Buf (Elt F) (outerW.view.loc (c : Thread nD τ))
/-- and the core's hold on it. -/
abbrev outer (c : Dev nD) (f : Outer F c) : sProp 𝕄 := outerW.view.loc (c : Thread nD τ) ↦{fullShare} f

/-- A whole buffer of shape `S` in the core's memory, as a body's operand. -/
structure Operand (S : Shape) (e : EltTy) where
  ref : Memref sig .tc .vmem S e
  whole : ref.IsWhole

/-- The blocks staged for a grid point: eight read, two written. -/
structure Ops where
  dh : Operand S512x1024 .f32
  x : Operand S512x1024 .f32
  gain : Operand S1x1024 .f32
  p0 : Operand S512x512 .bf16
  p1 : Operand S512x512 .bf16
  p2 : Operand S512x512 .bf16
  p3 : Operand S512x512 .bf16
  p4 : Operand S512x2048 .bf16
  dx : Operand S512x1024 .f32
  dgain : Operand S1x1024 .f32

/-- The contents of the eight blocks read. -/
structure Ins (F : FTy → Type) where
  dh : Vec F S512x1024 .f32
  x : Vec F S512x1024 .f32
  gain : Vec F S1x1024 .f32
  p0 : Vec F S512x512 .bf16
  p1 : Vec F S512x512 .bf16
  p2 : Vec F S512x512 .bf16
  p3 : Vec F S512x512 .bf16
  p4 : Vec F S512x2048 .bf16

/-- The stores of a body into its two results, the last store first. -/
abbrev Stores (F : FTy → Type) : Type := List (View.Piece (Elt F) S512x1024 .f32) × List (View.Piece (Elt F) S1x1024 .f32)

/-- The body at a grid point, on the given blocks. -/
abbrev body (i : grid0.Coords) (o : Ops) :=
  cc0_mix_bwd_in (F := F) i o.dh.ref o.dh.whole o.x.ref o.x.whole o.gain.ref o.gain.whole o.p0.ref o.p0.whole o.p1.ref o.p1.whole o.p2.ref o.p2.whole o.p3.ref o.p3.whole o.p4.ref o.p4.whole
    outerW (Memref.isWhole_whole _) o.dx.ref o.dx.whole o.dgain.ref o.dgain.whole keptW (Memref.isWhole_whole _) keptP (Memref.isWhole_whole _) cc0_scoped0

/-- The core's hold on an operand at contents `v`, -/
abbrev at_ (c : Dev nD) {S : Shape} {e : EltTy} (o : Operand S e) (v : Vec F S e) : sProp 𝕄 :=
  owns (c : Thread nD τ) o.ref fullShare v
/-- at some contents, -/
abbrev some_ (c : Dev nD) {S : Shape} {e : EltTy} (o : Operand S e) : sProp 𝕄 :=
  iprop(∃ d, owns (c : Thread nD τ) o.ref fullShare d)
/-- and with a list of stores written into it. -/
abbrev stored (c : Dev nD) {S : Shape} {e : EltTy} (o : Operand S e) (L : List (View.Piece (Elt F) S e)) : sProp 𝕄 :=
  iprop(∃ f, o.ref.view.loc (c : Thread nD τ) ↦[o.ref.view.set]{fullShare} o.ref.view.writes (Elt F) f L)

/-- The eight blocks read, at their contents. -/
abbrev reads (c : Dev nD) (o : Ops) (v : Ins F) : sProp 𝕄 :=
  iprop(at_ c o.dh v.dh ∗ at_ c o.x v.x ∗ at_ c o.gain v.gain ∗ at_ c o.p0 v.p0 ∗ at_ c o.p1 v.p1 ∗ at_ c o.p2 v.p2 ∗ at_ c o.p3 v.p3 ∗ at_ c o.p4 v.p4)

/-- The counters of the body's own copies, all at zero, and the weight outside the core. -/
abbrev around (c : Dev nD) (w : Outer F c) : sProp 𝕄 :=
  iprop(iprop(semVal ((c : Thread nD τ), SemLoc.dma 18) 0 ∗ semVal ((c : Thread nD τ), SemLoc.dma 19) 0
      ∗ semVal ((c : Thread nD τ), SemLoc.dma 20) 0 ∗ semVal ((c : Thread nD τ), SemLoc.dma 21) 0) ∗ outer c w)

/-- A buffer whose stores cover it holds what they wrote. -/
theorem stored_owns (c : Dev nD) {S : Shape} {e : EltTy} (M : Memref sig .tc .vmem S e) (L : List (View.Piece (Elt F) S e))
    (h : ∀ y, ∃ p ∈ L, y ∈ p.1.set) :
    (iprop(∃ f, M.view.loc (c : Thread nD τ) ↦[M.view.set]{fullShare} M.view.writes (Elt F) f L) : sProp 𝕄)
      ⊢ owns (c : Thread nD τ) M fullShare (View.canon L) := by
  iintro ⟨%f, H⟩
  unfold owns
  iexists _
  isplitr
  swap
  · iexact H
  ipureintro
  exact View.read_writes_eq_canon _ _ _ h

end Cert.Proof.Min
-- ==== Proof.MinFirst.lean ====
/-
  The body at the first grid point: it copies the weight into the core, sets the gain's sum to zero, and computes.
-/
module

public import proofs.«01_k».proof.Proof.MinOps

@[expose] public section

set_option maxRecDepth 16384

noncomputable section

namespace Cert.Proof.Min

open Cert.KernelMinIdeal Cert.KernelMinIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 1000000 in
set_option sl_exec.dmaWindow true in
set_option sl_exec.dmaWindowSet true in
/-- The stores the first body makes into its results and into the two buffers of the core, with its run. -/
def first (c : Dev nD) (i : grid0.Coords) (o : Ops) (h1 : k0_cond1 i = 1#1) (h2 : k0_cond2 i = 1#1) (h3 : ¬k0_cond3 i = 1#1) (v : Ins F) (w : Outer F c)
    (g : Vec F S4x1024x1024 .bf16) :
    { L : Stores F × Buf (Elt F) (keptW.view.loc (c : Thread nD τ)) × List (View.Piece (Elt F) S512x4096 .bf16) //
      ∀ (W : Waits sig Unit) (K : PUnit → sProp 𝕄),
        iprop(reads c o v ∗ iprop(some_ c o.dx ∗ some_ c o.dgain)
            ∗ iprop(owns (c : Thread nD τ) keptW fullShare g ∗ (∃ d, owns (c : Thread nD τ) keptP fullShare d))
            ∗ around c w ∗ owes (c : Thread nD τ) 0 W
            ∗ (iprop(reads c o v ∗ around c w ∗ (∃ W', owes (c : Thread nD τ) 0 W') ∗ stored c o.dx L.1.1 ∗ stored c o.dgain L.1.2
                ∗ (keptW.view.loc (c : Thread nD τ) ↦[keptW.view.set]{fullShare} L.2.1)
                ∗ (∃ f, keptP.view.loc (c : Thread nD τ) ↦[keptP.view.set]{fullShare} keptP.view.writes (Elt F) f L.2.2))
              -∗ K ⟨⟩))
          ⊢ wp frame (wpE (defs₀ (F := F)) Variants.none c none) Set.univ (body i o) K } := by
  refine ⟨⟨⟨?_, ?_⟩, ?_, ?_⟩, fun W K => ?run⟩
  case run =>
    unfold reads some_ at_ stored around
    simp only [body, cc0_mix_bwd_in_eq_skeleton]; unfold cc0_mix_bwd_in_skel
    simp only [k0_part1_eq_skeleton, k0_part2_eq_skeleton, k0_part3_eq_skeleton, k0_part4_eq_skeleton]
    unfold owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨⟨%d8, %f8, -, H8⟩, ⟨%d9, %f9, -, H9⟩⟩,
      ⟨⟨%g0, %hg, S0⟩, ⟨%e1, %g1, -, S1⟩⟩, ⟨⟨Q0, Q1, Q2, Q3⟩, U0⟩, HW, Hk⟩
    obtain rfl := o.dh.whole.eq_unread hf0
    obtain rfl := o.x.whole.eq_unread hf1
    obtain rfl := o.gain.whole.eq_unread hf2
    obtain rfl := o.p0.whole.eq_unread hf3
    obtain rfl := o.p1.whole.eq_unread hf4
    obtain rfl := o.p2.whole.eq_unread hf5
    obtain rfl := o.p3.whole.eq_unread hf6
    obtain rfl := o.p4.whole.eq_unread hf7
    obtain rfl := (Memref.isWhole_whole (sig := sig) cc0_scratch0).eq_unread hg
    sl_exec (disch := first | sl_exact h1 | sl_exact h2 | sl_exact h3)
    sl_step
    iapply Hk
    isplitl [H0 H1 H2 H3 H4 H5 H6 H7]
    · isplitl [H0]
      · iexists _; isplitr; · ipureintro; exact o.dh.whole.read_unread _
        iexact H0
      isplitl [H1]
      · iexists _; isplitr; · ipureintro; exact o.x.whole.read_unread _
        iexact H1
      isplitl [H2]
      · iexists _; isplitr; · ipureintro; exact o.gain.whole.read_unread _
        iexact H2
      isplitl [H3]
      · iexists _; isplitr; · ipureintro; exact o.p0.whole.read_unread _
        iexact H3
      isplitl [H4]
      · iexists _; isplitr; · ipureintro; exact o.p1.whole.read_unread _
        iexact H4
      isplitl [H5]
      · iexists _; isplitr; · ipureintro; exact o.p2.whole.read_unread _
        iexact H5
      isplitl [H6]
      · iexists _; isplitr; · ipureintro; exact o.p3.whole.read_unread _
        iexact H6
      iexists _; isplitr; · ipureintro; exact o.p4.whole.read_unread _
      iexact H7
    isplitl [Q0 Q1 Q2 Q3 U0]
    · iframe Q0 Q1 Q2 Q3 U0
    isplitl [HW]; · iexists _; iexact HW
    isplitl [H8]; · iexists _; iexact H8
    isplitl [H9]; · iexists _; iexact H9
    isplitl [S0]; · iexact S0
    iexists _; iexact S1

end Cert.Proof.Min
-- ==== Proof.MinCopy.lean ====
/-
  The weight in the core after the copies: a buffer into a block of which the block of another buffer was copied.
-/
module

public import proofs.«01_k».proof.Proof.MinFirst
public import Idealize.ShloMosaic.Lib.ViewIndex
public import Idealize.ShloMosaic.Lib.Pointwise

@[expose] public section

set_option maxRecDepth 16384

noncomputable section

namespace Cert.Proof.Min

open Cert.KernelMinIdeal Cert.KernelMinIdeal.Gen
open Idealize.ShloMosaic Idealize.ShloMosaic.TcCoe Idealize.ShloMosaic.Tactic

section

variable {sg : RefSig} {κ κ' : Kind} {sp sp' : Space} {S S' : Shape} {e : EltTy} {Val : EltTy → Type}

/-- The copy of a block of `B` into the same block of `A`, the block's first axis of one element left out. -/
abbrev copied (A : Memref sg κ sp S e) (B : Memref sg κ' sp' S e) (R : Rect S) (h h' : ∀ a, R.stride a = 1) (q q' : R.shape.Squeezes S')
    (f : A.view.ty.Contents Val) (g : B.view.ty.Contents Val) : A.view.ty.Contents Val :=
  ((A.slice R h).squeeze S' q).view.write Val f (ReadAs.same.apply (((B.slice R h').squeeze S' q').view.read Val g)) Finset.univ

/-- Within the block the buffer then reads as the source, -/
theorem read_copied (A : Memref sg κ sp S e) (B : Memref sg κ' sp' S e) (R : Rect S) (h h' : ∀ a, R.stride a = 1) (q q' : R.shape.Squeezes S')
    (f : A.view.ty.Contents Val) (g : B.view.ty.Contents Val) (x : R.shape.Idx) :
    A.view.read Val (copied A B R h h' q q' f g) (R.emb x) = B.view.read Val g (R.emb x) := by
  obtain ⟨z, rfl⟩ := (Shape.reshapeEquiv q.numel_eq).surjective x
  exact View.read_write_of_mem (v := ((A.slice R h).squeeze S' q).view) (x := z) f _ (Finset.mem_univ z)

/-- and elsewhere as before. -/
theorem read_copied_off (A : Memref sg κ sp S e) (B : Memref sg κ' sp' S e) (R : Rect S) (h h' : ∀ a, R.stride a = 1) (q q' : R.shape.Squeezes S')
    (f : A.view.ty.Contents Val) (g : B.view.ty.Contents Val) {y : S.Idx} (hy : y ∉ R.set) :
    A.view.read Val (copied A B R h h' q q' f g) y = A.view.read Val f y := by
  refine View.read_congr_at y (View.write_of_not_mem _ _ _ fun hm => hy ?_)
  have hm' : A.view.emb y ∈ (A.slice R h).view.set := by
    rw [← Memref.set_view_squeeze (A.slice R h) q]; exact hm
  obtain ⟨x, -, hx⟩ := Finset.mem_map.mp hm'
  have := A.view.emb.injective hx
  exact this ▸ (R.map_emb_univ ▸ Finset.mem_map_of_mem R.emb (Finset.mem_univ x))

/-- A load of the block just copied reads the source's. -/
theorem readAt_copied (A : Memref sg κ sp S e) (B : Memref sg κ' sp' S e) (R : Rect S) (h h' : ∀ a, R.stride a = 1) (q q' : R.shape.Squeezes S')
    (f : A.view.ty.Contents Val) (g : B.view.ty.Contents Val) :
    A.view.readAt Val R.toLoadRect (copied A B R h h' q q' f g) = View.ld (Val := Val) (B.view.read Val g) R :=
  funext fun x => read_copied A B R h h' q q' f g x

end

variable {F : FTy → Type} [FloatOps F]

/-- Slab `k` of the weight. -/
abbrev slab (k : ℕ) (h : ∀ a, (![k, 0, 0] : Fin 3 → ℕ) a + S1x1024x1024.size a ≤ S4x1024x1024.size a) : Rect S4x1024x1024 := Rect.unit ![k, 0, 0] S1x1024x1024.size h

/-- The copy of one slab of the weight. -/
abbrev slabCopied (c : Dev nD) (w : Outer F c) (k : ℕ) (h : ∀ a, (![k, 0, 0] : Fin 3 → ℕ) a + S1x1024x1024.size a ≤ S4x1024x1024.size a)
    (f : Buf (Elt F) (keptW.view.loc (c : Thread nD τ))) : Buf (Elt F) (keptW.view.loc (c : Thread nD τ)) :=
  copied (Val := Elt F) keptW outerW (slab k h) (fun _ => rfl) (fun _ => rfl) squeezes_S1x1024x1024_S1024x1024 squeezes_S1x1024x1024_S1024x1024 f w

/-- The weight in the core once its four slabs are copied. -/
abbrev filled (c : Dev nD) (w : Outer F c) (f : Buf (Elt F) (keptW.view.loc (c : Thread nD τ))) : Buf (Elt F) (keptW.view.loc (c : Thread nD τ)) :=
  slabCopied c w 3 inb_S4x1024x1024_S1x1024x1024_3_0_0 (slabCopied c w 2 inb_S4x1024x1024_S1x1024x1024_2_0_0
    (slabCopied c w 1 inb_S4x1024x1024_S1x1024x1024_1_0_0 (slabCopied c w 0 inb_S4x1024x1024_S1x1024x1024_0_0_0 f)))

/-- The weight outside the core, as a vector. -/
abbrev weight (c : Dev nD) (w : Outer F c) : Vec F S4x1024x1024 .bf16 := outerW.view.read (Elt F) w

/-- One slab copied. -/
theorem read_slab (c : Dev nD) (w : Outer F c) (k : ℕ) (h : ∀ a, (![k, 0, 0] : Fin 3 → ℕ) a + S1x1024x1024.size a ≤ S4x1024x1024.size a)
    (f : Buf (Elt F) (keptW.view.loc (c : Thread nD τ))) (a : Fin 4) (b d : Fin 1024) :
    keptW.view.read (Elt F) (slabCopied c w k h f) (ix3 a b d)
      = if a.val = k then weight c w (ix3 a b d) else keptW.view.read (Elt F) f (ix3 a b d) := by
  split
  · rename_i e
    subst e
    have e : ix3 a b d = (slab a.val h).emb (ix3 (0 : Fin 1) b d) :=
      Shape.idx3_ext (by simp [slab, ix3, Rect.emb_apply]) (by simp [slab, ix3, Rect.emb_apply]) (by simp [slab, ix3, Rect.emb_apply])
    rw [e]
    exact read_copied (Val := Elt F) keptW outerW (slab a.val h) _ _ _ _ f w _
  · rename_i e
    refine read_copied_off (Val := Elt F) keptW outerW (slab k h) _ _ _ _ f w fun hm => e ?_
    have := (Rect.mem_set_unit).mp hm 0
    simp [ix3] at this
    omega

/-- The four slabs copied, the buffer reads as the weight, whatever it held before. -/
theorem read_filled (c : Dev nD) (w : Outer F c) (f : Buf (Elt F) (keptW.view.loc (c : Thread nD τ))) :
    keptW.view.read (Elt F) (filled c w f) = weight c w := by
  funext y
  obtain ⟨a, b, d, rfl⟩ : ∃ (a : Fin 4) (b d : Fin 1024), y = ix3 a b d := ⟨y 0, y 1, y 2, eq_ix3 y⟩
  rw [read_slab, read_slab, read_slab, read_slab]
  split_ifs <;> first | rfl | omega

theorem readAt_filled (c : Dev nD) (w : Outer F c) (f : Buf (Elt F) (keptW.view.loc (c : Thread nD τ))) (R : Rect S4x1024x1024) :
    keptW.view.readAt (Elt F) R.toLoadRect (filled c w f) = View.ld (Val := Elt F) (weight c w) R := by
  rw [View.readAt_eq_ld, read_filled]

end Cert.Proof.Min
-- ==== Proof.MinNext.lean ====
/-
  The body at a later grid point: it computes with the weight the first point left in the core, and adds to the gain's sum.
-/
module

public import proofs.«01_k».proof.Proof.MinOps

@[expose] public section

set_option maxRecDepth 16384

noncomputable section

namespace Cert.Proof.Min

open Cert.KernelMinIdeal Cert.KernelMinIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 1000000 in
/-- The stores a later body makes into its results and into the row block kept in the core, with its run. -/
def next (c : Dev nD) (i : grid0.Coords) (o : Ops) (h1 : ¬k0_cond1 i = 1#1) (h2 : ¬k0_cond2 i = 1#1) (h3 : k0_cond3 i = 1#1) (v : Ins F)
    (a : Vec F S1x1024 .f32) (u : Vec F S4x1024x1024 .bf16) (w : Outer F c) :
    { L : Stores F × List (View.Piece (Elt F) S512x4096 .bf16) //
      ∀ (W : Waits sig Unit) (K : PUnit → sProp 𝕄),
        iprop(reads c o v ∗ iprop(some_ c o.dx ∗ at_ c o.dgain a)
            ∗ iprop(owns (c : Thread nD τ) keptW fullShare u ∗ (∃ d, owns (c : Thread nD τ) keptP fullShare d))
            ∗ around c w ∗ owes (c : Thread nD τ) 0 W
            ∗ (iprop(reads c o v ∗ around c w ∗ (∃ W', owes (c : Thread nD τ) 0 W') ∗ stored c o.dx L.1.1 ∗ stored c o.dgain L.1.2
                ∗ owns (c : Thread nD τ) keptW fullShare u
                ∗ (∃ f, keptP.view.loc (c : Thread nD τ) ↦[keptP.view.set]{fullShare} keptP.view.writes (Elt F) f L.2))
              -∗ K ⟨⟩))
          ⊢ wp frame (wpE (defs₀ (F := F)) Variants.none c none) Set.univ (body i o) K } := by
  refine ⟨⟨⟨?_, ?_⟩, ?_⟩, fun W K => ?run⟩
  case run =>
    unfold reads some_ at_ stored around
    simp only [body, cc0_mix_bwd_in_eq_skeleton]; unfold cc0_mix_bwd_in_skel
    simp only [k0_part5_eq_skeleton, k0_part6_eq_skeleton]
    unfold owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨⟨%d8, %f8, -, H8⟩, ⟨%f9, %hf9, H9⟩⟩,
      ⟨⟨%g0, %hg0, S0⟩, ⟨%e1, %g1, -, S1⟩⟩, ⟨⟨Q0, Q1, Q2, Q3⟩, U0⟩, HW, Hk⟩
    obtain rfl := o.dh.whole.eq_unread hf0
    obtain rfl := o.x.whole.eq_unread hf1
    obtain rfl := o.gain.whole.eq_unread hf2
    obtain rfl := o.p0.whole.eq_unread hf3
    obtain rfl := o.p1.whole.eq_unread hf4
    obtain rfl := o.p2.whole.eq_unread hf5
    obtain rfl := o.p3.whole.eq_unread hf6
    obtain rfl := o.p4.whole.eq_unread hf7
    obtain rfl := o.dgain.whole.eq_unread hf9
    obtain rfl := (Memref.isWhole_whole cc0_scratch0).eq_unread hg0
    sl_exec (disch := first | sl_exact h1 | sl_exact h2 | sl_exact h3)
    sl_step
    iapply Hk
    isplitl [H0 H1 H2 H3 H4 H5 H6 H7]
    · isplitl [H0]
      · iexists _; isplitr; · ipureintro; exact o.dh.whole.read_unread _
        iexact H0
      isplitl [H1]
      · iexists _; isplitr; · ipureintro; exact o.x.whole.read_unread _
        iexact H1
      isplitl [H2]
      · iexists _; isplitr; · ipureintro; exact o.gain.whole.read_unread _
        iexact H2
      isplitl [H3]
      · iexists _; isplitr; · ipureintro; exact o.p0.whole.read_unread _
        iexact H3
      isplitl [H4]
      · iexists _; isplitr; · ipureintro; exact o.p1.whole.read_unread _
        iexact H4
      isplitl [H5]
      · iexists _; isplitr; · ipureintro; exact o.p2.whole.read_unread _
        iexact H5
      isplitl [H6]
      · iexists _; isplitr; · ipureintro; exact o.p3.whole.read_unread _
        iexact H6
      iexists _; isplitr; · ipureintro; exact o.p4.whole.read_unread _
      iexact H7
    isplitl [Q0 Q1 Q2 Q3 U0]
    · iframe Q0 Q1 Q2 Q3 U0
    isplitl [HW]; · iexists _; iexact HW
    isplitl [H8]; · iexists _; iexact H8
    isplitl [H9]; · iexists _; iexact H9
    isplitl [S0]
    · iexists _; isplitr; · ipureintro; exact (Memref.isWhole_whole cc0_scratch0).read_unread _
      iexact S0
    iexists _; iexact S1

end Cert.Proof.Min
-- ==== Proof.MinCover.lean ====
/-
  What the two bodies leave: the stores cover the results, and the weight in the core is the one outside.
-/
module

public import proofs.«01_k».proof.Proof.MinCopy
public import proofs.«01_k».proof.Proof.MinNext

@[expose] public section

set_option maxRecDepth 16384

noncomputable section

namespace Cert.Proof.Min

open Cert.KernelMinIdeal Cert.KernelMinIdeal.Gen
open Idealize.ShloMosaic Idealize.ShloMosaic.TcCoe Idealize.ShloMosaic.Tactic

variable {F : FTy → Type} [FloatOps F]

/-- Every index of both results lies in one of the stores. -/
structure Covers (L : Stores F) : Prop where
  dx : ∀ y, ∃ p ∈ L.1, y ∈ p.1.set
  dgain : ∀ y, ∃ p ∈ L.2, y ∈ p.1.set

section

variable (c : Dev nD) (i : grid0.Coords) (o : Ops) (v : Ins F) (w : Outer F c)

section

variable (h1 : k0_cond1 i = 1#1) (h2 : k0_cond2 i = 1#1) (h3 : ¬k0_cond3 i = 1#1) (g : Vec F S4x1024x1024 .bf16)

theorem first_covers : Covers (first c i o h1 h2 h3 v w g).1.1 where
  dx := View.cover_of_tiledL _ S512x1024.size (by sl_kernel_rfl)
  dgain := View.cover_of_tiledL _ S1x1024.size (by sl_kernel_rfl)

theorem first_rows (y) : ∃ p ∈ (first c i o h1 h2 h3 v w g).1.2.2, y ∈ p.1.set :=
  View.cover_of_tiledBy _ ![512, 512] (by sl_kernel_rfl) y

/-- The first body's stores do not depend on what its weight buffer held. -/
theorem first_any (g' : Vec F S4x1024x1024 .bf16) : (first c i o h1 h2 h3 v w g).1.1 = (first c i o h1 h2 h3 v w g').1.1 := by
  unfold first
  dsimp only
  sl_unfold_words
  repeat rw [readAt_filled]

/-- It leaves the weight in that buffer. -/
theorem first_weight : keptW.view.read (Elt F) (first c i o h1 h2 h3 v w g).1.2.1 = weight c w := by
  unfold first
  dsimp only
  sl_unfold_words
  exact read_filled c w _

end

variable (h1 : ¬k0_cond1 i = 1#1) (h2 : ¬k0_cond2 i = 1#1) (h3 : k0_cond3 i = 1#1) (a : Vec F S1x1024 .f32) (u : Vec F S4x1024x1024 .bf16)

theorem next_covers : Covers (next c i o h1 h2 h3 v a u w).1.1 where
  dx := View.cover_of_tiledL _ S512x1024.size (by sl_kernel_rfl)
  dgain := View.cover_of_tiledL _ S1x1024.size (by sl_kernel_rfl)

theorem next_rows (y) : ∃ p ∈ (next c i o h1 h2 h3 v a u w).1.2, y ∈ p.1.set :=
  View.cover_of_tiledBy _ ![512, 512] (by sl_kernel_rfl) y

end

end Cert.Proof.Min
-- ==== Proof.MinFrame.lean ====
/-
  The frame of the mixer's kernel at its entry, over any values: the two bodies at the grid's points, what is held
  between them, and the run of the whole program.
-/
module

public import proofs.«01_k».proof.Proof.MinCover
public import proofs.«01_k».proof.Proof.Gen.KernelMinIdeal.Frame
public import Idealize.ShloMosaic.Lib.Claim

@[expose] public section

set_option maxRecDepth 16384

noncomputable section

namespace Cert.Proof.Min

open Cert.KernelMinIdeal Cert.KernelMinIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The launch -/

/-- The counters of the body's own copies. -/
abbrev counters : Fin 4 → SemLoc sig := fun j => (![SemLoc.dma 18, SemLoc.dma 19, SemLoc.dma 20, SemLoc.dma 21] : Fin 4 → SemLoc sig) j
theorem counters_own : Pipeline.OwnSemFacts spec0 counters := by decide

/-- The array that the body copies from. -/
def copiedFrom : Finset (Ref sig .tc) := {main_v3}
theorem copiedFrom_rest : copiedFrom ⊆ Pipeline.restRefs sig spec0 := by decide

/-- The weight as the kernel finds it. -/
abbrev found (c : Dev nD) : Outer F c := V m c main_v3

/-- What the body is handed besides the staged blocks, and gives back. -/
theorem handed (c : Dev nD) : (Pipeline.ΦD counters spec0 copiedFrom (V m) c : sProp 𝕄)
    = iprop(iprop((∃ d, owns (c : Thread nD τ) keptW fullShare d) ∗ (∃ d, owns (c : Thread nD τ) keptP fullShare d))
      ∗ (∃ r, prngReg c r) ∗ around c (found m c)) := by
  rw [Pipeline.ΦD_eq, scopedRest0_eq, Pipeline.ownSems0_eq_of_list c counters [0, 1, 2, 3] (by decide) (by decide),
    show (bigSep copiedFrom (fun b => ((c : Thread nD τ).loc b) ↦{fullShare} V m c b) : sProp 𝕄) = outer c (found m c) by
      rw [BI.bigSep_eq_bigSepL_of_eq [main_v3] (by decide) (by decide)]; rfl]
  simp only [keptW, keptP, owns_whole]
  try rfl

/-! ## What is held after each point -/

/-- The blocks staged for point `t`. -/
def ops (t : Fin cfg0.N) : Ops where
  dh := ⟨win0_0.stage (cfg0.slots t 0), hstage0_0 ((cfg0.slots t 0).cast nbuf0_0)⟩
  x := ⟨win0_1.stage (cfg0.slots t 1), hstage0_1 ((cfg0.slots t 1).cast nbuf0_1)⟩
  gain := ⟨win0_2.stage (cfg0.slots t 2), hstage0_2 ((cfg0.slots t 2).cast nbuf0_2)⟩
  p0 := ⟨win0_3.stage (cfg0.slots t 3), hstage0_3 ((cfg0.slots t 3).cast nbuf0_3)⟩
  p1 := ⟨win0_4.stage (cfg0.slots t 4), hstage0_4 ((cfg0.slots t 4).cast nbuf0_4)⟩
  p2 := ⟨win0_5.stage (cfg0.slots t 5), hstage0_5 ((cfg0.slots t 5).cast nbuf0_5)⟩
  p3 := ⟨win0_6.stage (cfg0.slots t 6), hstage0_6 ((cfg0.slots t 6).cast nbuf0_6)⟩
  p4 := ⟨win0_7.stage (cfg0.slots t 7), hstage0_7 ((cfg0.slots t 7).cast nbuf0_7)⟩
  dx := ⟨win0_8.stage (cfg0.slots t 8), hstage0_8 ((cfg0.slots t 8).cast nbuf0_8)⟩
  dgain := ⟨win0_9.stage (cfg0.slots t 9), hstage0_9 ((cfg0.slots t 9).cast nbuf0_9)⟩

/-- What the eight blocks read hold at point `t`. -/
def ins (c : Dev nD) (t : Fin cfg0.N) : Ins F where
  dh := iblk m c 0 t
  x := iblk m c 1 t
  gain := iblk m c 2 t
  p0 := iblk m c 3 t
  p1 := iblk m c 4 t
  p2 := iblk m c 5 t
  p3 := iblk m c 6 t
  p4 := iblk m c 7 t

/-- The first point. -/
abbrev t₀ : Fin cfg0.N := ⟨0, by decide⟩

/-- At a first coordinate the body starts, -/
theorem conds_zero (i : grid0.Coords) (h : (i 0).val = 0) : k0_cond1 i = 1#1 ∧ k0_cond2 i = 1#1 ∧ ¬k0_cond3 i = 1#1 := by
  refine ⟨?_, ?_, ?_⟩
  · simp only [k0_cond1, h]; rfl
  · simp only [k0_cond2, h]; rfl
  · simp only [k0_cond3, h]; decide

/-- and at any other it goes on. -/
theorem conds_succ (i : grid0.Coords) (h : (i 0).val ≠ 0) : ¬k0_cond1 i = 1#1 ∧ ¬k0_cond2 i = 1#1 ∧ k0_cond3 i = 1#1 := by
  have hi : (i 0).val < 4 := (i 0).isLt
  obtain e | e | e : (i 0).val = 1 ∨ (i 0).val = 2 ∨ (i 0).val = 3 := by omega
  all_goals
    refine ⟨?_, ?_, ?_⟩
    · simp only [k0_cond1, e]; decide
    · simp only [k0_cond2, e]; decide
    · simp only [k0_cond3, e]; decide

theorem coord (t : Fin cfg0.N) : (grid0.coords t 0).val = t.val := by
  have hN : t.val < 4 := lt_of_lt_of_eq t.isLt N_0
  have e : (grid0.coords t 0).val = t.val / 1 % 4 := Pipeline.Grid.coords_val t 0 (by decide) rfl
  omega

theorem starts (t : Fin cfg0.N) (h : t.val = 0) :
    k0_cond1 (grid0.coords t) = 1#1 ∧ k0_cond2 (grid0.coords t) = 1#1 ∧ ¬k0_cond3 (grid0.coords t) = 1#1 :=
  conds_zero _ ((coord t).trans h)

theorem goes (t : Fin cfg0.N) (h : t.val ≠ 0) :
    ¬k0_cond1 (grid0.coords t) = 1#1 ∧ ¬k0_cond2 (grid0.coords t) = 1#1 ∧ k0_cond3 (grid0.coords t) = 1#1 :=
  conds_succ _ fun e => h ((coord t).symm.trans e)

/-- Both results are written at every point. -/
theorem live_dx (i : grid0.Coords) : cfg0.idle 8 i = false := by
  show (!(k0_cond2 i == 1#1) && !(k0_cond3 i == 1#1)) = false
  by_cases h : (i 0).val = 0
  · rw [(conds_zero i h).2.1]; rfl
  · rw [(conds_succ i h).2.2]; simp

theorem live_dgain (i : grid0.Coords) : cfg0.idle 9 i = false := by
  show (!(k0_cond1 i == 1#1) && !(k0_cond2 i == 1#1) && !(k0_cond3 i == 1#1)) = false
  by_cases h : (i 0).val = 0
  · rw [(conds_zero i h).2.1]; simp
  · rw [(conds_succ i h).2.2]; simp

/-- The first body's stores, whatever `g` the weight buffer held. -/
def start (c : Dev nD) (t : Fin cfg0.N) (h : t.val = 0) (g : Vec F S4x1024x1024 .bf16) :=
  first c (grid0.coords t) (ops t) (starts t h).1 (starts t h).2.1 (starts t h).2.2 (ins m c t) (found m c) g

/-- The weight in the core once the first body has filled its buffer. -/
abbrev wHeld (c : Dev nD) : Vec F S4x1024x1024 .bf16 := weight c (found m c)

/-- A later body's stores, over the gain's sum left before it. -/
def step (c : Dev nD) (t : Fin cfg0.N) (h : t.val ≠ 0) (a : Vec F S1x1024 .f32) :=
  next c (grid0.coords t) (ops t) (goes t h).1 (goes t h).2.1 (goes t h).2.2 (ins m c t) a (wHeld m c) (found m c)

theorem start_covers (c : Dev nD) (t : Fin cfg0.N) (h : t.val = 0) (g) : Covers (start m c t h g).1.1 := first_covers _ _ _ _ _ _ _ _ _

theorem step_covers (c : Dev nD) (t : Fin cfg0.N) (h : t.val ≠ 0) (a) : Covers (step m c t h a).1.1 :=
  next_covers _ _ _ _ _ _ _ _ _ _

theorem start_any (c : Dev nD) (t : Fin cfg0.N) (h : t.val = 0) (g g') : (start m c t h g).1.1 = (start m c t h g').1.1 :=
  first_any _ _ _ _ _ _ _ _ _ _

/-- The stores of the body at each point. -/
def outs (c : Dev nD) : (k : ℕ) → k < cfg0.N → Stores F
  | 0, hk => (start m c ⟨0, hk⟩ rfl (wHeld m c)).1.1
  | k + 1, hk => (step m c ⟨k + 1, hk⟩ (Nat.succ_ne_zero k) (View.canon (outs c k (Nat.lt_of_succ_lt hk)).2)).1.1

theorem outs_first (c : Dev nD) (t : Fin cfg0.N) (h : t.val = 0) : outs m c t.val t.isLt = (start m c t h (wHeld m c)).1.1 := by
  obtain ⟨k, hk⟩ := t
  cases k with
  | zero => rfl
  | succ k => exact absurd h (Nat.succ_ne_zero k)

theorem before_lt (t : Fin cfg0.N) : t.val - 1 < cfg0.N := Nat.lt_of_le_of_lt (Nat.sub_le _ _) t.isLt

theorem outs_next (c : Dev nD) (t : Fin cfg0.N) (h : t.val ≠ 0) :
    outs m c t.val t.isLt = (step m c t h (View.canon (outs m c (t.val - 1) (before_lt t)).2)).1.1 := by
  obtain ⟨k, hk⟩ := t
  cases k with
  | zero => exact absurd rfl h
  | succ k => rfl

theorem outs_cover (c : Dev nD) (t : Fin cfg0.N) : Covers (outs m c t.val t.isLt) := by
  by_cases h : t.val = 0
  · rw [outs_first m c t h]; exact start_covers m c t h _
  · rw [outs_next m c t h]; exact step_covers m c t h _

/-- What the core holds besides the staged blocks once the first body has run. -/
abbrev kept (c : Dev nD) : sProp 𝕄 :=
  iprop(iprop(owns (c : Thread nD τ) keptW fullShare (wHeld m c) ∗ (∃ d, owns (c : Thread nD τ) keptP fullShare d))
    ∗ (∃ r, prngReg c r) ∗ around c (found m c))

/-- What it holds besides before each point. -/
def held (c : Dev nD) : (k : ℕ) → k ≤ cfg0.N → sProp 𝕄
  | 0, _ => Pipeline.ΦD counters spec0 copiedFrom (V m) c
  | _ + 1, _ => kept m c

theorem held_first (c : Dev nD) (k : ℕ) (h : k ≤ cfg0.N) (e : k = 0) :
    held m c k h = iprop(iprop((∃ d, owns (c : Thread nD τ) keptW fullShare d) ∗ (∃ d, owns (c : Thread nD τ) keptP fullShare d))
      ∗ (∃ r, prngReg c r) ∗ around c (found m c)) := by
  subst e
  exact handed m c

theorem held_next (c : Dev nD) (k : ℕ) (h : k ≤ cfg0.N) (e : k ≠ 0) : held m c k h = kept m c := by
  cases k with
  | zero => exact absurd rfl e
  | succ k => rfl

/-- The proof data of the pipeline: the arrays as the kernel finds them, each block after each point, what is held
    besides. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => View.canon (outs m c t.val t.isLt).1
    | ⟨9, _⟩ => View.canon (outs m c t.val t.isLt).2
  Φ t := held m c t.val (Nat.le_of_lt_succ t.isLt)
  q _ := fullShare
  owed _ := 0

theorem arrays (c : Dev nD) (w : Fin cfg0.W) : (dats m 0 c).A w = V m c (Pipeline.arrRef spec0 w) := by
  dsimp only [dats]

theorem held_at (c : Dev nD) (t : Fin cfg0.N) : (dats m 0 c).Φ t.castSucc = held m c t.val (Nat.le_of_lt t.isLt) := by
  dsimp only [dats]; exact Pipeline.Dat.Φ_castSucc (held m c) t

theorem read_dh (c : Dev nD) (t : Fin cfg0.N) (d) : (dats m 0 c).before 0 t d = iblk m c 0 t :=
  ((dats m 0 c).before_in_eq_fetched 0 rfl (fun _ => rfl) (fun _ _ _ => rfl) (fun _ => rfl) t d).trans rfl
theorem read_x (c : Dev nD) (t : Fin cfg0.N) (d) : (dats m 0 c).before 1 t d = iblk m c 1 t :=
  ((dats m 0 c).before_in_eq_fetched 1 rfl (fun _ => rfl) (fun _ _ _ => rfl) (fun _ => rfl) t d).trans rfl
theorem read_gain (c : Dev nD) (t : Fin cfg0.N) (d) : (dats m 0 c).before 2 t d = iblk m c 2 t :=
  ((dats m 0 c).before_in_eq_fetched 2 rfl (fun _ => rfl) (fun _ _ _ => rfl) (fun _ => rfl) t d).trans rfl
theorem read_p0 (c : Dev nD) (t : Fin cfg0.N) (d) : (dats m 0 c).before 3 t d = iblk m c 3 t :=
  ((dats m 0 c).before_in_eq_fetched 3 rfl (fun _ => rfl) (fun _ _ _ => rfl) (fun _ => rfl) t d).trans rfl
theorem read_p1 (c : Dev nD) (t : Fin cfg0.N) (d) : (dats m 0 c).before 4 t d = iblk m c 4 t :=
  ((dats m 0 c).before_in_eq_fetched 4 rfl (fun _ => rfl) (fun _ _ _ => rfl) (fun _ => rfl) t d).trans rfl
theorem read_p2 (c : Dev nD) (t : Fin cfg0.N) (d) : (dats m 0 c).before 5 t d = iblk m c 5 t :=
  ((dats m 0 c).before_in_eq_fetched 5 rfl (fun _ => rfl) (fun _ _ _ => rfl) (fun _ => rfl) t d).trans rfl
theorem read_p3 (c : Dev nD) (t : Fin cfg0.N) (d) : (dats m 0 c).before 6 t d = iblk m c 6 t :=
  ((dats m 0 c).before_in_eq_fetched 6 rfl (fun _ => rfl) (fun _ _ _ => rfl) (fun _ => rfl) t d).trans rfl
theorem read_p4 (c : Dev nD) (t : Fin cfg0.N) (d) : (dats m 0 c).before 7 t d = iblk m c 7 t :=
  ((dats m 0 c).before_in_eq_fetched 7 rfl (fun _ => rfl) (fun _ _ _ => rfl) (fun _ => rfl) t d).trans rfl

/-- The gain's sum is carried: at a later point it still holds what the point before left. -/
theorem carried (c : Dev nD) (t : Fin cfg0.N) (h : t.val ≠ 0) (d) :
    (dats m 0 c).before 9 t d = View.canon (outs m c (t.val - 1) (before_lt t)).2 := by
  have hN : t.val < 4 := lt_of_lt_of_eq t.isLt N_0
  rw [Dat.before_out_kept _ 9 rfl t (by omega)
    (Bool.eq_false_iff.mpr fun e => by have := (flush0_9 _).mp e; dsimp only at this; omega) live_dgain (fun _ _ => rfl)]
  dsimp only [dats]

/-! ## The body at a point -/

/-- What the body gives back: the blocks read as they were, the results at its stores. -/
abbrev leaves (c : Dev nD) (o : Ops) (v : Ins F) (L : Stores F) : sProp 𝕄 :=
  iprop(at_ c o.dh v.dh ∗ at_ c o.x v.x ∗ at_ c o.gain v.gain ∗ at_ c o.p0 v.p0 ∗ at_ c o.p1 v.p1 ∗ at_ c o.p2 v.p2 ∗ at_ c o.p3 v.p3 ∗ at_ c o.p4 v.p4
    ∗ at_ c o.dx (View.canon L.1) ∗ at_ c o.dgain (View.canon L.2))

/-- The waits recorded so far. -/
abbrev waits (c : Dev nD) (t : Fin (cfg0.N + 1)) : sProp 𝕄 := (dats m 0 c).owesAt () t

/-- What the body is handed at point `t`. -/
abbrev takes (c : Dev nD) (t : Fin cfg0.N) : sProp 𝕄 :=
  iprop((∃ d, at_ c (ops t).dh ((dats m 0 c).before 0 t d))
    ∗ (∃ d, at_ c (ops t).x ((dats m 0 c).before 1 t d))
    ∗ (∃ d, at_ c (ops t).gain ((dats m 0 c).before 2 t d))
    ∗ (∃ d, at_ c (ops t).p0 ((dats m 0 c).before 3 t d))
    ∗ (∃ d, at_ c (ops t).p1 ((dats m 0 c).before 4 t d))
    ∗ (∃ d, at_ c (ops t).p2 ((dats m 0 c).before 5 t d))
    ∗ (∃ d, at_ c (ops t).p3 ((dats m 0 c).before 6 t d))
    ∗ (∃ d, at_ c (ops t).p4 ((dats m 0 c).before 7 t d))
    ∗ (∃ d, at_ c (ops t).dx ((dats m 0 c).before 8 t d))
    ∗ (∃ d, at_ c (ops t).dgain ((dats m 0 c).before 9 t d)))

set_option maxHeartbeats 1000000 in
theorem body_first (c : Dev nD) (t : Fin cfg0.N) (h : t.val = 0) :
    iprop(held m c t.val (Nat.le_of_lt t.isLt) ∗ waits m c t.castSucc ∗ takes m c t)
      ⊢ wp frame (wpE (defs₀ (F := F)) Variants.none c none) Set.univ (body (grid0.coords t) (ops t))
        (fun _ => iprop(kept m c ∗ waits m c t.succ ∗ leaves c (ops t) (ins m c t) (outs m c t.val t.isLt))) := by
  have hc := outs_cover m c t
  rw [held_first m c _ _ h]
  unfold takes
  simp only [read_dh, read_x, read_gain, read_p0, read_p1, read_p2, read_p3, read_p4]
  unfold waits Dat.owesAt Pipeline.owesWithin
  iintro ⟨⟨⟨⟨%g, S0⟩, S1⟩, G, A⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [outs_first m c t h, start_any m c t h (wHeld m c) g] at hc ⊢
  iapply ((start m c t h g).2 W _)
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8 H9]
  · isplitl [H8]; · iexists _; iexact H8
    iexists _; iexact H9
  isplitl [S0 S1]
  · isplitl [S0]; · iexact S0
    iexact S1
  isplitl [A]; · iexact A
  isplitl [HW]; · iexact HW
  iintro ⟨⟨H0, H1, H2, H3, H4, H5, H6, H7⟩, A, ⟨%W', HW'⟩, H8, H9, S0, S1⟩
  isplitl [S0 S1 G A]
  · isplitl [S0 S1]
    · isplitl [S0]
      · unfold owns
        iexists _
        isplitr
        swap
        · iexact S0
        ipureintro
        exact first_weight c _ _ _ _ _ _ _ _
      iexists _
      iapply (stored_owns c keptP _ (first_rows c _ _ _ _ _ _ _ _)); iexact S1
    isplitl [G]; · iexact G
    iexact A
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (stored_owns c _ _ hc.dx); iexact H8
  iapply (stored_owns c _ _ hc.dgain); iexact H9

set_option maxHeartbeats 1000000 in
theorem body_next (c : Dev nD) (t : Fin cfg0.N) (h : t.val ≠ 0) :
    iprop(held m c t.val (Nat.le_of_lt t.isLt) ∗ waits m c t.castSucc ∗ takes m c t)
      ⊢ wp frame (wpE (defs₀ (F := F)) Variants.none c none) Set.univ (body (grid0.coords t) (ops t))
        (fun _ => iprop(kept m c ∗ waits m c t.succ ∗ leaves c (ops t) (ins m c t) (outs m c t.val t.isLt))) := by
  have hc := outs_cover m c t
  rw [held_next m c _ _ h]
  unfold takes
  simp only [read_dh, read_x, read_gain, read_p0, read_p1, read_p2, read_p3, read_p4, carried m c t h]
  unfold waits Dat.owesAt Pipeline.owesWithin
  iintro ⟨⟨⟨S0, S1⟩, G, A⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [outs_next m c t h] at hc ⊢
  iapply ((step m c t h (View.canon (outs m c (t.val - 1) (before_lt t)).2)).2 W _)
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8 H9]
  · isplitl [H8]; · iexists _; iexact H8
    iexact H9
  isplitl [S0 S1]
  · isplitl [S0]; · iexact S0
    iexact S1
  isplitl [A]; · iexact A
  isplitl [HW]; · iexact HW
  iintro ⟨⟨H0, H1, H2, H3, H4, H5, H6, H7⟩, A, ⟨%W', HW'⟩, H8, H9, S0, S1⟩
  isplitl [S0 S1 G A]
  · isplitl [S0 S1]
    · isplitl [S0]
      · iexact S0
      iexists _
      iapply (stored_owns c keptP _ (next_rows c _ _ _ _ _ _ _ _ _)); iexact S1
    isplitl [G]; · iexact G
    iexact A
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (stored_owns c _ _ hc.dx); iexact H8
  iapply (stored_owns c _ _ hc.dgain); iexact H9

theorem body_at (c : Dev nD) (t : Fin cfg0.N) :
    iprop((dats m 0 c).Φ t.castSucc ∗ waits m c t.castSucc ∗ takes m c t)
      ⊢ wp frame (wpE (defs₀ (F := F)) Variants.none c none) Set.univ (body (grid0.coords t) (ops t))
        (fun _ => iprop(kept m c ∗ waits m c t.succ ∗ leaves c (ops t) (ins m c t) (outs m c t.val t.isLt))) := by
  rw [held_at]
  by_cases h : t.val = 0
  · exact body_first m c t h
  · exact body_next m c t h

theorem body_row (t : Fin cfg0.N) :
    defs₀ (F := F) .tc cfg0.body (cfg0.bodyArgs t (cfg0.slots t)) = body (grid0.coords t) (ops t) := by
  unfold defs₀; rw [Defs.onTc_tc]; rfl

theorem body_obligation (c : Dev nD) : BodyObligation (dats (F := F) m 0 c) (defs₀ (F := F)) Variants.none () Set.univ := fun t => by
  rw [bigSep_W0, bigSep_W0, body_row]
  simp only [show idle0 8 (grid0.coords t) = false from live_dx _, show idle0 9 (grid0.coords t) = false from live_dgain _]
  exact triple_restated (body_at m c t) rfl .rfl fun _ => .rfl

/-! ## The whole program -/

theorem launched (c : Dev nD) : Pipeline.ΦD counters spec0 copiedFrom (V m) c ⊢ (dats m 0 c).Φ 0 := .rfl

theorem returned (c : Dev nD) : (dats m 0 c).Φ (Fin.last cfg0.N) ⊢ Pipeline.ΦD counters spec0 copiedFrom (V m) c := by
  rw [show (dats m 0 c).Φ (Fin.last cfg0.N) = held m c cfg0.N le_rfl from rfl,
    held_next m c _ _ (by have : cfg0.N = 4 := N_0; omega), handed]
  iintro ⟨⟨S0, S1⟩, G, A⟩
  isplitl [S0 S1]
  · isplitl [S0]
    · iexists _; iexact S0
    iexact S1
  isplitl [G]; · iexact G
  iexact A

set_option backward.isDefEq.respectTransparency.types false in
/-- Every run of the program ends, with each array at what the proof data says and every counter at zero. -/
theorem run : θ_run defs (onTc (τ := τ) (main (F := F))) (s₀ m ρ)
    (fun r => (Pipeline.FramePost cfgs (dats m) 0 (V m)) r ∧ r.2.sem = fun _ => 0) :=
  Pipeline.θ_run_frame_dma (Q' := _) cfgs (dats m) (0 : Fin 1) launch0 counters defs₀ Variants.none counters_own copiedFrom copiedFrom_rest m ρ main
    (hbody := fun c => (body_obligation m c).loose) (hshare := fun c => (dats m 0 c).share_full fun _ => rfl)
    (howed := fun _ _ => rfl) (V := V m) (hmain := launched_main m) (hA := arrays m)
    (hin := launched m) (hout := returned m)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).1 2).trans (((dats m 0 c).arrAt_in 2 rfl _).trans ((arrays m c 2).trans (V_main_arg2 m c))),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c)⟩, h.2⟩) (run m ρ)

end Cert.Proof.Min
-- ==== Proof.MinBlock.lean ====
/- The gradient through the mixer's input projections and the norm before them, one block of rows at a time: what a grid
   point of `_mix_bwd_in` leaves in its blocks of the two results. -/
module

public import proofs.«01_k».proof.Proof.MinFrame
public import proofs.«01_k».proof.Proof.FinArray
public import Idealize.ShloMosaic.Lib.Pipeline.ValueKit.Tiles
public import Idealize.ShloMosaic.Lib.Pipeline.ReadBack
public import Idealize.ShloMosaic.Lib.Pointwise
public import Idealize.ShloMosaic.Lib.ValueLayout
public import Idealize.ShloMosaic.PureOps.Ideal.Laws

@[expose] public section

set_option maxRecDepth 16384

noncomputable section

namespace Cert.Proof.Min

open Cert.KernelMinIdeal Cert.KernelMinIdeal.Gen Idealize.ShloMosaic Idealize.ShloMosaic.TcCoe Idealize.SL.Sem
open Cert.Proof.Norm (rms back readCov_of_pieces)
open Cert.Proof.Fin (outVal gainVal)

/-- The gradient of the normed rows: the product with the weight, whose columns come in four blocks. -/
def dn (x : Vec Ideal S512x4096 .bf16) (u : Vec Ideal S4x1024x1024 .bf16) (r : Fin 512) (q : Fin 1024) : EReal :=
  (∑ j : Fin 1024, x (ix2 r ⟨j.val, by omega⟩) * u (ix3 0 q j)) + (∑ j : Fin 1024, x (ix2 r ⟨1024 + j.val, by omega⟩) * u (ix3 1 q j))
    + (∑ j : Fin 1024, x (ix2 r ⟨2048 + j.val, by omega⟩) * u (ix3 2 q j)) + (∑ j : Fin 1024, x (ix2 r ⟨3072 + j.val, by omega⟩) * u (ix3 3 q j))

/-- The five blocks of the projections' gradients side by side. -/
def rows (v : Ins Ideal) (y : S512x4096.Idx) : EReal :=
  if h0 : (y 1).val < 512 then v.p0 (ix2 (y 0) ⟨(y 1).val, h0⟩)
  else if h1 : (y 1).val < 1024 then v.p1 (ix2 (y 0) ⟨(y 1).val - 512, by omega⟩)
  else if h2 : (y 1).val < 1536 then v.p2 (ix2 (y 0) ⟨(y 1).val - 1024, by omega⟩)
  else if h3 : (y 1).val < 2048 then v.p3 (ix2 (y 0) ⟨(y 1).val - 1536, by omega⟩)
  else v.p4 (ix2 (y 0) ⟨(y 1).val - 2048, by have h : (y 1).val < 4096 := (y 1).isLt; omega⟩)

/-- The copies of the five blocks, the last first. -/
abbrev rowPieces (v : Ins Ideal) : List (View.Piece (Elt Ideal) S512x4096 .bf16) :=
  [⟨Rect.unit ![0, 2048] ![512, 2048] inb_S512x4096_S512x2048_0_2048, v.p4⟩,
   ⟨Rect.unit ![0, 1536] ![512, 512] inb_S512x4096_S512x512_0_1536, v.p3⟩,
   ⟨Rect.unit ![0, 1024] ![512, 512] inb_S512x4096_S512x512_0_1024, v.p2⟩,
   ⟨Rect.unit ![0, 512] ![512, 512] inb_S512x4096_S512x512_0_512, v.p1⟩,
   ⟨Rect.unit ![0, 0] ![512, 512] inb_S512x4096_S512x512_0_0, v.p0⟩]

/-- A block of `n` columns, copied to column `s` on. -/
theorem at_columns {n : ℕ} (p : Vec Ideal ⟨2, ![512, n]⟩ .bf16) (x : (⟨2, ![512, n]⟩ : Shape).Idx) (s : ℕ)
    (inb : ∀ a, (![0, s] : Fin 2 → ℕ) a + (![512, n] : Fin 2 → ℕ) a ≤ S512x4096.size a) (l : ℕ) (hl : l < n)
    (e : l = ((Rect.unit (s := S512x4096) ![0, s] ![512, n] inb).emb x 1).val - s) :
    p x = p (ix2 ((Rect.unit (s := S512x4096) ![0, s] ![512, n] inb).emb x 0) ⟨l, hl⟩) := by
  subst e
  exact congrArg p (funext fun a => by fin_cases a <;> exact Fin.ext (by simp [Rect.unit, Rect.emb]))

theorem column_of {n : ℕ} (x : (⟨2, ![512, n]⟩ : Shape).Idx) (s : ℕ) (inb : ∀ a, (![0, s] : Fin 2 → ℕ) a + (![512, n] : Fin 2 → ℕ) a ≤ S512x4096.size a) :
    s ≤ ((Rect.unit (s := S512x4096) ![0, s] ![512, n] inb).emb x 1).val ∧ ((Rect.unit (s := S512x4096) ![0, s] ![512, n] inb).emb x 1).val < s + n := by
  have h : (x 1).val < n := (x 1).isLt
  have e : ((Rect.unit (s := S512x4096) ![0, s] ![512, n] inb).emb x 1).val = s + 1 * (x 1).val := rfl
  omega

theorem row_pieces (v : Ins Ideal) : View.PiecesOf (Val := Elt Ideal) (rows v) (rowPieces v) := by
  refine ⟨fun x => ?_, fun x => ?_, fun x => ?_, fun x => ?_, fun x => ?_, trivial⟩
  all_goals
    dsimp only
    unfold rows
  · obtain ⟨a, b⟩ := column_of x 2048 inb_S512x4096_S512x2048_0_2048
    rw [dif_neg (by omega), dif_neg (by omega), dif_neg (by omega), dif_neg (by omega)]
    exact at_columns v.p4 x 2048 _ _ _ rfl
  · obtain ⟨a, b⟩ := column_of x 1536 inb_S512x4096_S512x512_0_1536
    rw [dif_neg (by omega), dif_neg (by omega), dif_neg (by omega), dif_pos (by omega)]
    exact at_columns v.p3 x 1536 _ _ _ rfl
  · obtain ⟨a, b⟩ := column_of x 1024 inb_S512x4096_S512x512_0_1024
    rw [dif_neg (by omega), dif_neg (by omega), dif_pos (by omega)]
    exact at_columns v.p2 x 1024 _ _ _ rfl
  · obtain ⟨a, b⟩ := column_of x 512 inb_S512x4096_S512x512_0_512
    rw [dif_neg (by omega), dif_pos (by omega)]
    exact at_columns v.p1 x 512 _ _ _ rfl
  · obtain ⟨a, b⟩ := column_of x 0 inb_S512x4096_S512x512_0_0
    rw [dif_pos (by omega)]
    exact at_columns v.p0 x 0 _ _ _ (Nat.sub_zero _).symm

theorem row_cover (v : Ins Ideal) (y : S512x4096.Idx) : ∃ p ∈ rowPieces v, y ∈ p.1.set :=
  View.cover_of_tiledBy (rowPieces v) ![512, 512] (by sl_kernel_rfl) y

theorem rows_copied (v : Ins Ideal) (R : Rect cc0_scratch1.ty.shape) :
    (View.whole (sig := sig) cc0_scratch1).readCov (Val := Elt Ideal) (rowPieces v) R.toLoadRect = @View.ld (Elt Ideal) S512x4096 .bf16 (rows v) R :=
  readCov_of_pieces (Val := Elt Ideal) _ (rows v) (rowPieces v) (row_pieces v) (row_cover v) R

/-- What the copies store is what they read. -/
theorem pay5 (p : Vec Ideal S512x512 .bf16) : k0_pay5 p = p := by funext y; unfold_payloads; pointwise
theorem pay6 (p : Vec Ideal S512x512 .bf16) : k0_pay6 p = p := by funext y; unfold_payloads; pointwise
theorem pay7 (p : Vec Ideal S512x512 .bf16) : k0_pay7 p = p := by funext y; unfold_payloads; pointwise
theorem pay8 (p : Vec Ideal S512x512 .bf16) : k0_pay8 p = p := by funext y; unfold_payloads; pointwise
theorem pay9 (p : Vec Ideal S512x2048 .bf16) : k0_pay9 p = p := by funext y; unfold_payloads; pointwise
theorem pay19 (p : Vec Ideal S512x512 .bf16) : k0_pay19 p = p := by funext y; unfold_payloads; pointwise
theorem pay20 (p : Vec Ideal S512x512 .bf16) : k0_pay20 p = p := by funext y; unfold_payloads; pointwise
theorem pay21 (p : Vec Ideal S512x512 .bf16) : k0_pay21 p = p := by funext y; unfold_payloads; pointwise
theorem pay22 (p : Vec Ideal S512x512 .bf16) : k0_pay22 p = p := by funext y; unfold_payloads; pointwise
theorem pay23 (p : Vec Ideal S512x2048 .bf16) : k0_pay23 p = p := by funext y; unfold_payloads; pointwise

variable (x : Vec Ideal S512x4096 .bf16) (u : Vec Ideal S4x1024x1024 .bf16)

/-- The four blocks of the rows' columns, and the weight's. -/
abbrev r0 : Vec Ideal S512x1024 .bf16 := View.ld x (Rect.unit ![0, 0] ![512, 1024] inb_S512x4096_S512x1024_0_0)
abbrev r1 : Vec Ideal S512x1024 .bf16 := View.ld x (Rect.unit ![0, 1024] ![512, 1024] inb_S512x4096_S512x1024_0_1024)
abbrev r2 : Vec Ideal S512x1024 .bf16 := View.ld x (Rect.unit ![0, 2048] ![512, 1024] inb_S512x4096_S512x1024_0_2048)
abbrev r3 : Vec Ideal S512x1024 .bf16 := View.ld x (Rect.unit ![0, 3072] ![512, 1024] inb_S512x4096_S512x1024_0_3072)
abbrev s0 : Vec Ideal S1x1024x1024 .bf16 := View.ld u (Rect.unit ![0, 0, 0] ![1, 1024, 1024] inb_S4x1024x1024_S1x1024x1024_0_0_0)
abbrev s1 : Vec Ideal S1x1024x1024 .bf16 := View.ld u (Rect.unit ![1, 0, 0] ![1, 1024, 1024] inb_S4x1024x1024_S1x1024x1024_1_0_0)
abbrev s2 : Vec Ideal S1x1024x1024 .bf16 := View.ld u (Rect.unit ![2, 0, 0] ![1, 1024, 1024] inb_S4x1024x1024_S1x1024x1024_2_0_0)
abbrev s3 : Vec Ideal S1x1024x1024 .bf16 := View.ld u (Rect.unit ![3, 0, 0] ![1, 1024, 1024] inb_S4x1024x1024_S1x1024x1024_3_0_0)

/-- The first point's product, in the body's four parts. -/
theorem product_first : k0_pay13 (k0_pay12 (F := Ideal) k0_pay10 (r0 x) (k0_pay11 (s0 u)) (r1 x) (s1 u) (r2 x) (s2 u)) (r3 x) (s3 u) = fun y => dn x u (y 0) (y 1) := by
  funext y
  obtain ⟨r, q, rfl⟩ : ∃ (a : Fin 512) (b : Fin 1024), y = ix2 a b := ⟨y 0, y 1, eq_ix2 y⟩
  unfold r0 r1 r2 r3 s0 s1 s2 s3
  unfold_payloads
  pointwise
  rfl

/-- The later points' product. -/
theorem product_later : k0_pay26 (F := Ideal) k0_pay24 (r0 x) (k0_pay25 (s0 u)) (r1 x) (s1 u) (r2 x) (s2 u) (r3 x) (s3 u) = fun y => dn x u (y 0) (y 1) := by
  funext y
  obtain ⟨r, q, rfl⟩ : ∃ (a : Fin 512) (b : Fin 1024), y = ix2 a b := ⟨y 0, y 1, eq_ix2 y⟩
  unfold r0 r1 r2 r3 s0 s1 s2 s3
  unfold_payloads
  pointwise
  rfl

theorem kept_read : View.read (Elt Ideal) (View.whole cc0_scratch0) ((Memref.isWhole_whole cc0_scratch0).unread u) = u :=
  (Memref.isWhole_whole cc0_scratch0).read_unread u

variable (c : Dev nD) (i : grid0.Coords) (o : Ops) (h1 : k0_cond1 i = 1#1) (h2 : k0_cond2 i = 1#1) (h3 : ¬k0_cond3 i = 1#1)
  (g1 : ¬k0_cond1 i = 1#1) (g2 : ¬k0_cond2 i = 1#1) (g3 : k0_cond3 i = 1#1) (v : Ins Ideal)
  (w : Outer Ideal c) (g : Vec Ideal S4x1024x1024 .bf16) (a : Vec Ideal S1x1024 .f32)

theorem next_dx (r : Fin 512) (q : Fin 1024) : View.canon (next c i o g1 g2 g3 v a u w).1.1.1 (ix2 r q) = outVal v.dh v.x v.gain (dn (rows v) u) r q := by
  frame_out
  simp only [pay19, pay20, pay21, pay22, pay23, rows_copied, kept_read]
  unfold k0_pay31 k0_pay30
  rw [product_later]
  unfold_payloads
  pointwise
  rfl

theorem next_dgain (q : Fin 1024) : View.canon (next c i o g1 g2 g3 v a u w).1.1.2 (ix2 0 q) = a (ix2 0 q) + gainVal v.x (dn (rows v) u) q := by
  frame_out
  simp only [pay19, pay20, pay21, pay22, pay23, rows_copied, kept_read]
  rw [product_later]
  unfold_payloads
  pointwise
  rfl

theorem first_dx (r : Fin 512) (q : Fin 1024) : View.canon (first c i o h1 h2 h3 v w g).1.1.1 (ix2 r q) = outVal v.dh v.x v.gain (dn (rows v) (weight c w)) r q := by
  unfold first
  dsimp only
  sl_unfold_words
  repeat rw [readAt_filled]
  frame_out
  simp only [pay5, pay6, pay7, pay8, pay9, rows_copied]
  unfold k0_pay18
  rw [product_first]
  unfold_payloads
  pointwise
  rfl

theorem first_dgain (q : Fin 1024) : View.canon (first c i o h1 h2 h3 v w g).1.1.2 (ix2 0 q) = gainVal v.x (dn (rows v) (weight c w)) q := by
  unfold first
  dsimp only
  sl_unfold_words
  repeat rw [readAt_filled]
  frame_out
  simp only [pay5, pay6, pay7, pay8, pay9, rows_copied]
  unfold k0_pay17
  rw [product_first]
  unfold_payloads
  pointwise
  rfl

end Cert.Proof.Min

end
-- ==== Proof.MinArray.lean ====
/- The gradient through the mixer's input projections and the norm before them: the arrays that `_mix_bwd_in` leaves. -/
module

public import proofs.«01_k».proof.Proof.MinBlock
public import Idealize.ShloMosaic.Lib.Pipeline.ValueKit
public import Idealize.ShloMosaic.Lib.Claim

@[expose] public section

set_option maxRecDepth 16384

noncomputable section

namespace Cert.Proof.Min

open Cert.KernelMinIdeal Cert.KernelMinIdeal.Gen Idealize.ShloMosaic Idealize.ShloMosaic.TcCoe Idealize.SL.Sem
open Cert.Proof.Norm (rms back)
open Cert.Proof.Fin (outVal gainVal rowsA gainTerm gainA sum_gainTerm)

/-- The gradient of the normed rows, of the whole arguments. -/
def dnA (w : Vec Ideal S1x1024x4096 .f32) (dy : Vec Ideal S1x2048x4096 .f32) (r : Fin 2048) (q : Fin 1024) : EReal :=
  ∑ j : Fin 4096, dy (ix3 0 r j) * w (ix3 0 q j)

/-- A sum over the columns, in four blocks. -/
theorem sum_quarters (f : Fin 4096 → EReal) : (∑ j : Fin 1024, f ⟨j.val, by omega⟩) + (∑ j : Fin 1024, f ⟨1024 + j.val, by omega⟩)
    + (∑ j : Fin 1024, f ⟨2048 + j.val, by omega⟩) + (∑ j : Fin 1024, f ⟨3072 + j.val, by omega⟩) = ∑ j, f j := by
  have e := Fin.sum_univ_add (a := 1024 + 1024 + 1024) (b := 1024) f
  rw [Fin.sum_univ_add (a := 1024 + 1024) (b := 1024), Fin.sum_univ_add (a := 1024) (b := 1024)] at e
  exact e.symm

variable (m : (ℓ : Loc nD τ sig) → Buf (Elt Ideal) ℓ) (c : Dev nD)

abbrev aDh : Vec Ideal S1x2048x1024 .f32 := m ((c : Thread nD τ).loc main_arg0)
abbrev aX : Vec Ideal S1x2048x1024 .f32 := m ((c : Thread nD τ).loc main_arg1)
abbrev aG : Vec Ideal S1x1024 .f32 := m ((c : Thread nD τ).loc main_arg2)
abbrev aW : Vec Ideal S1x1024x4096 .f32 := m ((c : Thread nD τ).loc main_arg3)
abbrev aDy : Vec Ideal S1x2048x4096 .f32 := m ((c : Thread nD τ).loc main_arg4)
abbrev dnM : Fin 2048 → Fin 1024 → EReal := dnA (aW m c) (aDy m c)

theorem idx : ∀ t : Fin cfg0.N, win0_0.index t = ![t.val, 0] ∧ win0_1.index t = ![t.val, 0] ∧ win0_2.index t = ![0, 0] ∧ win0_3.index t = ![t.val, 0]
    ∧ win0_4.index t = ![t.val, 0] ∧ win0_5.index t = ![t.val, 0] ∧ win0_6.index t = ![t.val, 0] ∧ win0_7.index t = ![t.val, 0]
    ∧ win0_8.index t = ![t.val, 0] ∧ win0_9.index t = ![0, 0] := (by decide +kernel : ∀ t : Fin grid0.N, _)

theorem V_dh (r : Fin 2048) (k : Fin 1024) : V m c main_v6 (ix2 r k) = aDh m c (ix3 0 r k) := by
  entry_read
  pointwise

theorem V_x (r : Fin 2048) (k : Fin 1024) : V m c main_v7 (ix2 r k) = aX m c (ix3 0 r k) := by
  entry_read
  pointwise

theorem V_w (k : Fin 4) (q j : Fin 1024) : V m c main_v3 (ix3 k q j) = aW m c (ix3 0 q ⟨k.val * 1024 + j.val, by omega⟩) := by
  entry_read
  pointwise

/-- The five blocks of the projections' gradients. -/
theorem V_p0 (r : Fin 2048) (j : Fin 512) : V m c main_v8 (ix2 r j) = aDy m c (ix3 0 r ⟨j.val, by omega⟩) := by
  entry_read
  pointwise
theorem V_p1 (r : Fin 2048) (j : Fin 512) : V m c main_v9 (ix2 r j) = aDy m c (ix3 0 r ⟨512 + j.val, by omega⟩) := by
  entry_read
  pointwise
theorem V_p2 (r : Fin 2048) (j : Fin 512) : V m c main_v10 (ix2 r j) = aDy m c (ix3 0 r ⟨1024 + j.val, by omega⟩) := by
  entry_read
  pointwise
theorem V_p3 (r : Fin 2048) (j : Fin 512) : V m c main_v11 (ix2 r j) = aDy m c (ix3 0 r ⟨1536 + j.val, by omega⟩) := by
  entry_read
  pointwise
theorem V_p4 (r : Fin 2048) (j : Fin 2048) : V m c main_v12 (ix2 r j) = aDy m c (ix3 0 r ⟨2048 + j.val, by omega⟩) := by
  entry_read
  pointwise

/-- Row `r` of point `t`'s blocks, in the whole arrays. -/
def row (t : Fin cfg0.N) (r : Fin 512) : Fin 2048 :=
  ⟨t.val * 512 + r.val, by have := lt_of_lt_of_eq t.isLt (show cfg0.N = 4 from N_0); omega⟩

variable (t : Fin cfg0.N)

theorem blk_dh (r : Fin 512) (k : Fin 1024) : (ins m c t).dh (ix2 r k) = aDh m c (ix3 0 (row t r) k) := by
  show iblk m c 0 t (ix2 r k) = _
  refine Eq.trans ?_ (V_dh m c _ k)
  blk_ext [iblk, idx t]
  all_goals rfl

theorem blk_x (r : Fin 512) (k : Fin 1024) : (ins m c t).x (ix2 r k) = aX m c (ix3 0 (row t r) k) := by
  show iblk m c 1 t (ix2 r k) = _
  refine Eq.trans ?_ (V_x m c _ k)
  blk_ext [iblk, idx t]
  all_goals rfl

theorem blk_g (k : Fin 1024) : (ins m c t).gain (ix2 0 k) = aG m c (ix2 0 k) := by
  show iblk m c 2 t (ix2 0 k) = _
  blk_ext [iblk, idx t]

theorem blk_p0 (r : Fin 512) (j : Fin 512) : (ins m c t).p0 (ix2 r j) = aDy m c (ix3 0 (row t r) ⟨j.val, by omega⟩) := by
  show iblk m c 3 t (ix2 r j) = _
  refine Eq.trans ?_ (V_p0 m c _ j)
  blk_ext [iblk, idx t]
  all_goals rfl
theorem blk_p1 (r : Fin 512) (j : Fin 512) : (ins m c t).p1 (ix2 r j) = aDy m c (ix3 0 (row t r) ⟨512 + j.val, by omega⟩) := by
  show iblk m c 4 t (ix2 r j) = _
  refine Eq.trans ?_ (V_p1 m c _ j)
  blk_ext [iblk, idx t]
  all_goals rfl
theorem blk_p2 (r : Fin 512) (j : Fin 512) : (ins m c t).p2 (ix2 r j) = aDy m c (ix3 0 (row t r) ⟨1024 + j.val, by omega⟩) := by
  show iblk m c 5 t (ix2 r j) = _
  refine Eq.trans ?_ (V_p2 m c _ j)
  blk_ext [iblk, idx t]
  all_goals rfl
theorem blk_p3 (r : Fin 512) (j : Fin 512) : (ins m c t).p3 (ix2 r j) = aDy m c (ix3 0 (row t r) ⟨1536 + j.val, by omega⟩) := by
  show iblk m c 6 t (ix2 r j) = _
  refine Eq.trans ?_ (V_p3 m c _ j)
  blk_ext [iblk, idx t]
  all_goals rfl
theorem blk_p4 (r : Fin 512) (j : Fin 2048) : (ins m c t).p4 (ix2 r j) = aDy m c (ix3 0 (row t r) ⟨2048 + j.val, by omega⟩) := by
  show iblk m c 7 t (ix2 r j) = _
  refine Eq.trans ?_ (V_p4 m c _ j)
  blk_ext [iblk, idx t]
  all_goals rfl

/-- The blocks side by side are the point's rows of the gradient. -/
theorem rows_at (r : Fin 512) (j : Fin 4096) : rows (ins m c t) (ix2 r j) = aDy m c (ix3 0 (row t r) j) := by
  have same {a : Fin 4096} (h : a.val = j.val) : aDy m c (ix3 0 (row t r) a) = aDy m c (ix3 0 (row t r) j) := by rw [Fin.ext h]
  unfold rows
  show (if h0 : j.val < 512 then _ else if h1 : j.val < 1024 then _ else if h2 : j.val < 1536 then _ else if h3 : j.val < 2048 then _ else _) = _
  split_ifs with h0 h1 h2 h3
  · exact (blk_p0 m c t r _).trans (same rfl)
  · exact (blk_p1 m c t r _).trans (same (Nat.add_sub_cancel' (Nat.le_of_not_lt h0)))
  · exact (blk_p2 m c t r _).trans (same (Nat.add_sub_cancel' (Nat.le_of_not_lt h1)))
  · exact (blk_p3 m c t r _).trans (same (Nat.add_sub_cancel' (Nat.le_of_not_lt h2)))
  · exact (blk_p4 m c t r _).trans (same (Nat.add_sub_cancel' (Nat.le_of_not_lt h3)))

theorem weight_at (k : Fin 4) (q j : Fin 1024) (l : Fin 4096) (h : l.val = k.val * 1024 + j.val) : wHeld m c (ix3 k q j) = aW m c (ix3 0 q l) := by
  refine (V_w m c k q j).trans ?_
  rw [show (⟨k.val * 1024 + j.val, by omega⟩ : Fin 4096) = l from Fin.ext h.symm]

/-- The gradient of a point's normed rows. -/
theorem dn_eq (r : Fin 512) : dn (rows (ins m c t)) (wHeld m c) r = dnM m c (row t r) := by
  funext q
  unfold dn dnM dnA
  rw [← sum_quarters]
  refine congrArg₂ (· + ·) (congrArg₂ (· + ·) (congrArg₂ (· + ·) ?_ ?_) ?_) ?_
  all_goals exact Finset.sum_congr rfl fun j _ => congrArg₂ (· * ·) (rows_at m c t r _) (weight_at m c _ q j _ (by simp))

theorem outVal_eq (r : Fin 512) (q : Fin 1024) :
    outVal (ins m c t).dh (ins m c t).x (ins m c t).gain (dn (rows (ins m c t)) (wHeld m c)) r q = rowsA (aDh m c) (aX m c) (aG m c) (dnM m c) (ix2 (row t r) q) := by
  unfold outVal
  rw [dn_eq, blk_dh, funext (blk_x m c t r), funext (blk_g m c t)]
  rfl

theorem gainVal_eq (q : Fin 1024) :
    gainVal (ins m c t).x (dn (rows (ins m c t)) (wHeld m c)) q = ∑ n ∈ Finset.range 512, gainTerm (aX m c) (dnM m c) q (t.val * 512 + n) := by
  unfold gainVal
  rw [← Fin.sum_univ_eq_sum_range fun n => gainTerm (aX m c) (dnM m c) q (t.val * 512 + n)]
  refine Finset.sum_congr rfl fun r _ => ?_
  rw [dn_eq, funext (blk_x m c t r), blk_x]
  unfold gainTerm
  rw [dif_pos (show t.val * 512 + r.val < 2048 from (row t r).isLt)]
  rfl

/-- A point's block of the rows' gradient. -/
theorem rows_eq (y : S512x1024.Idx) : View.canon (outs m c t.val t.isLt).1 y = rowsA (aDh m c) (aX m c) (aG m c) (dnM m c) (ix2 (row t (y 0)) (y 1)) := by
  obtain ⟨r, q, rfl⟩ : ∃ (a : Fin 512) (b : Fin 1024), y = ix2 a b := ⟨y 0, y 1, eq_ix2 y⟩
  refine Eq.trans ?_ (outVal_eq m c t r q)
  by_cases h : t.val = 0
  · rw [outs_first m c t h]
    exact first_dx ..
  · rw [outs_next m c t h]
    exact next_dx ..

/-- The gain's gradient after a point: the rows up to the point's last. -/
theorem gain_eq (q : Fin 1024) : ∀ (n : ℕ) (hn : n < cfg0.N), View.canon (outs m c n hn).2 (ix2 0 q) = ∑ k ∈ Finset.range ((n + 1) * 512), gainTerm (aX m c) (dnM m c) q k
  | 0, hn => by
    refine (first_dgain ..).trans ((gainVal_eq m c ⟨0, hn⟩ q).trans ?_)
    simp only [Nat.zero_mul, Nat.zero_add, Nat.one_mul]
  | n + 1, hn => by
    refine (next_dgain ..).trans ?_
    have ih := gain_eq q n (by omega)
    rw [show (n + 1 + 1) * 512 = (n + 1) * 512 + 512 by omega, Finset.sum_range_add, ← ih]
    exact congrArg _ (gainVal_eq m c ⟨n + 1, hn⟩ q)

/-- The gain's gradient after the last point. -/
theorem gain_last (h : t.val % 4 = 3) (y : S1x1024.Idx) : View.canon (outs m c t.val t.isLt).2 y = gainA (aX m c) (dnM m c) y := by
  have hN := lt_of_lt_of_eq t.isLt (show cfg0.N = 4 from N_0)
  obtain ⟨q, rfl⟩ : ∃ q : Fin 1024, y = ix2 0 q := ⟨y 1, funext fun a => by fin_cases a; exacts [Subsingleton.elim (α := Fin 1) _ _, rfl]⟩
  rw [gain_eq, show (t.val + 1) * 512 = 2048 by omega]
  exact sum_gainTerm _ _ (ix2 0 q)

/-- The rows' gradient after all points. -/
theorem final_rows : (dats m 0 c).arrAt 8 (cfgs 0).N = rowsA (aDh m c) (aX m c) (aG m c) (dnM m c) := by
  refine (dats m 0 c).arrAt_eq_of_covers 8 _ (by decide +kernel) fun t hf y => ?_
  refine (rows_eq m c t y).trans (congrArg _ (funext fun a => ?_))
  fin_cases a <;> exact Fin.ext (by blk_simp [idx t]; try rfl)

/-- The gain's gradient after all points. -/
theorem final_gain : (dats m 0 c).arrAt 9 (cfgs 0).N = gainA (aX m c) (dnM m c) := by
  refine (dats m 0 c).arrAt_eq_of_covers 9 _ (by decide +kernel) fun t hf y => ?_
  refine (gain_last m c t ((flush0_9 t).mp hf) y).trans (congrArg _ (funext fun a => ?_))
  fin_cases a <;> exact Fin.ext (by blk_simp [idx t]; try rfl)

end Cert.Proof.Min

end
-- ==== Proof.MinRef.lean ====
/- The gradient through the mixer's input projections and the norm before them, the reference: the derivative of the forward lines
   where their arguments are finite. -/
module

public import proofs.«01_k».proof.Proof.MinArray
public import proofs.«01_k».proof.Proof.FinRef
public import proofs.«01_k».proof.Proof.Finite
public import proofs.«01_k».proof.Proof.Gen.ReferenceMinIdeal.Read

@[expose] public section

set_option maxRecDepth 16384

noncomputable section

namespace Cert.Proof.MinRef

open Cert.ReferenceMinIdeal Cert.ReferenceMinIdeal.Gen Cert.ReferenceMinIdeal.Read Idealize.ShloMosaic
open Cert.Proof.Norm (rms back width eps mean_coe terms_coe)
open Cert.Proof.Fin (rowsA gainA)
open Cert.Proof.Min (dnA)
open Cert.Proof.FinRef (sum_unit_gain sum_unit_row)

variable (dh x : Vec Ideal S1x2048x1024 .f32) (g : Vec Ideal S1x1024 .f32) (w : Vec Ideal S1x1024x4096 .f32) (dy : Vec Ideal S1x2048x4096 .f32)

/-- The gradient of the normed rows. -/
theorem dn_ref (r : Fin 2048) (q : Fin 1024) : val_main_v19 (F := Ideal) w dy (ix3 0 r q) = dnA w dy r q := by
  unfold dnA
  pointwise [val_main_v19, val_main_v17]

theorem rms_ref (r : Fin 2048) : val_main_v8 (F := Ideal) x (ix3 0 r 0) = rms fun k => x (ix3 0 r k) := by
  unfold rms
  pointwise [val_main_v8, val_main_v7, val_main_v6, val_main_v5, val_main_v4, val_main_v3, val_main_v2, val_main_v1, val_main_cst, val_main_cst_0, val_main_cst_1]

/-- The gain's gradient, at any arguments. -/
theorem gain_ref (q : Fin 1024) : val_main_v42 (F := Ideal) x w dy (ix2 0 q) = gainA x (dnA w dy) (ix2 0 q) := by
  unfold gainA
  pointwise [val_main_v42, val_main_v25, val_main_cst_4]
  rw [sum_unit_gain]
  pointwise [val_main_v22, val_main_v21, val_main_v20, val_main_v13, val_main_v12, val_main_cst_3]
  simp only [rms_ref, dn_ref]
  exact Finset.sum_congr rfl fun r _ => mul_comm _ _

/-- The row's sum that the mean's gradient is made of. -/
theorem mean_ref (r : Fin 2048) : val_main_v36 (F := Ideal) x g w dy (ix2 0 r)
    = Ideal.div ((∑ k, x (ix3 0 r k) * (dnA w dy r k * g (ix2 0 k))) * (Ideal.ofBits .f32 3204448256#32
      * Ideal.div (rms fun k => x (ix3 0 r k)) (Ideal.div (∑ k, x (ix3 0 r k) * x (ix3 0 r k)) width + eps))) width := by
  pointwise [val_main_v36, val_main_v35, val_main_cst_7]
  rw [sum_unit_row]
  pointwise [val_main_v34, val_main_v33, val_main_v32, val_main_v28, val_main_v27, val_main_v26, val_main_v24, val_main_v23, val_main_v14, val_main_v0, val_main_v11, val_main_v10, val_main_v9, val_main_v7, val_main_v6, val_main_v5, val_main_v4, val_main_v3, val_main_v2, val_main_v1, val_main_cst, val_main_cst_0, val_main_cst_1, val_main_cst_2, val_main_cst_5, val_main_cst_6]
  simp only [rms_ref, dn_ref]

/-- The rows' gradient, where the rows, the gain, the weight and the gradient of the products are finite. -/
theorem rows_ref (hx : ∀ i, ∃ r : ℝ, x i = r) (hg : ∀ i, ∃ r : ℝ, g i = r) (hw : ∀ i, ∃ r : ℝ, w i = r) (hdy : ∀ i, ∃ r : ℝ, dy i = r) (r : Fin 2048) (q : Fin 1024) :
    val_main_v43 (F := Ideal) dh x g w dy (ix2 r q) = rowsA dh x g (dnA w dy) (ix2 r q) := by
  pointwise [val_main_v43, val_main_v41, val_main_v40, val_main_v39, val_main_v38, val_main_v37, val_main_v31, val_main_v30, val_main_v29, val_main_v24, val_main_v23, val_main_v14, val_main_v0]
  simp only [rms_ref, dn_ref, mean_ref]
  obtain ⟨x, rfl⟩ := reals_of hx
  obtain ⟨g, rfl⟩ := reals_of hg
  obtain ⟨w, rfl⟩ := reals_of hw
  obtain ⟨dy, rfl⟩ := reals_of hdy
  have hd : ∀ k, dnA (fun i => (w i : EReal)) (fun i => (dy i : EReal)) r k = ((∑ j, dy (ix3 0 r j) * w (ix3 0 k j) : ℝ) : EReal) := fun k => coe_sum_mul _ _ _
  simp only [hd]
  rw [mean_coe (fun k => x (ix3 0 r k)) (fun k => ∑ j, dy (ix3 0 r j) * w (ix3 0 k j)) (fun k => g (ix2 0 k))]
  refine (terms_coe _ (fun k => x (ix3 0 r k)) (fun k => ∑ j, dy (ix3 0 r j) * w (ix3 0 k j)) (fun k => g (ix2 0 k)) q).trans ?_
  exact congrArg (fun d => dh (ix3 0 r q) + back (fun k => ↑(x (ix3 0 r k))) d (fun k => ↑(g (ix2 0 k))) q) (funext fun k => (hd k).symm)

end Cert.Proof.MinRef

end
-- ==== Proof.Min.lean ====
/- The gradient through the mixer's input projections and the norm before them: the claims. -/
module

public import proofs.«01_k».proof.Defs
public import proofs.«01_k».proof.Proof.MinRef
public import proofs.«01_k».proof.Proof.Last
public import proofs.«01_k».proof.Proof.Gen.KernelMin.Launch
public import proofs.«01_k».proof.Proof.Gen.ReferenceMinIdeal.Run
public import proofs.«01_k».proof.Proof.Gen.Pre_finite_min

@[expose] public section

set_option maxRecDepth 16384

noncomputable section

namespace Cert.Proof.Min

open Idealize.ShloMosaic Idealize.SL.Sem
open Cert.KernelMinIdeal (nD τ)
open Cert.Proof.Fin (rowsA gainA)

section

open Cert.KernelMinIdeal

/-- The program's run: the two results, and the arguments unchanged. -/
theorem run_arrays (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13_0) = rowsA (aDh m c) (aX m c) (aG m c) (dnM m c)
      ∧ r.2.mem ((c.tc : Thread nD τ).loc main_v13_1) = gainA (aX m c) (dnM m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h.1.1 c).1 8).trans (final_rows m c), ((h.1.1 c).1 9).trans (final_gain m c), h.2.1 c⟩)
    (θ_run_and (run m ρ) (frame m ρ))

end

/-- The two printings of the program run the same body. -/
theorem body_eq : @Cert.KernelMin.defs₀ Bits _ _ = @Cert.KernelMinIdeal.defs₀ Bits _ _ := by
  refine congrArg Defs.onTc (funext fun l => ?_)
  fin_cases l
  rfl

theorem defs_eq : @Cert.KernelMin.defs Bits _ _ = @Cert.KernelMinIdeal.defs Bits _ _ := congrArg (Pipeline.defs _) body_eq

theorem frame_kernel : Cert.quiescent_KernelMin := fun m ρ _ => by
  rw [defs_eq]
  exact frame (F := Bits) m ρ
theorem frame_ideal : Cert.quiescent_KernelMinIdeal := fun m ρ _ => frame m ρ
theorem frame_ideal_pre : Cert.quiescent_KernelMinIdeal_pre_finite_min := fun m ρ _ => frame m ρ
theorem frame_ref : Cert.quiescent_ReferenceMinIdeal := fun m ρ _ =>
  (θ_run _ _ _).mono (fun r h => ⟨fun c => (h c).2.2, sem_eq_zero_of_no_sems (by decide) r.2⟩) (Cert.ReferenceMinIdeal.Value.run m ρ)
theorem frame_ref_pre : Cert.quiescent_ReferenceMinIdeal_pre_finite_min := fun m ρ _ => frame_ref m ρ trivial

theorem algebraic : Cert.algebraic_KernelMinIdeal_ReferenceMinIdeal_pre_finite_min := fun m ρ m' ρ' hpre hag =>
  ⟨_, _, run_arrays m ρ,
    (θ_run _ _ _).mono (fun _ h c => by
      obtain ⟨e0, e1, e2, e3, e4⟩ := hag c
      obtain ⟨p1, p2, p3, p4⟩ := hpre c
      refine ⟨(h c).1.trans ((Cert.ReferenceMinIdeal.Read.val_main_v43_eq _ _).trans ?_),
        (h c).2.1.trans ((Cert.ReferenceMinIdeal.Read.val_main_v42_eq _ _ _).trans ?_), (h c).2.2⟩
      · rw [e0, e1, e2, e3, e4]
        exact Last.by_rows fun r q => MinRef.rows_ref _ _ _ _ _ (fun i => real_of_abs_lt (congrFun p1 i)) (fun i => real_of_abs_lt (congrFun p2 i))
          (fun i => real_of_abs_lt (congrFun p3 i)) (fun i => real_of_abs_lt (congrFun p4 i)) r q
      · rw [e1, e3, e4]
        exact Last.one_row fun q => MinRef.gain_ref _ _ _ q) (Cert.ReferenceMinIdeal.Value.run m' ρ')⟩

end Cert.Proof.Min

end
-- ==== Proof.AfTile.lean ====
/- The stick-breaking attention forward: the operations of `_attn_fwd`'s body on blocks of real numbers, and what a block of
   rows carries while the blocks of keys are taken from the last to the first. -/
module

public import proofs.«01_k».proof.Proof.SbHost
public import proofs.«01_k».proof.Proof.Gen.KernelAfIdeal.Value

@[expose] public section

set_option maxRecDepth 16384

noncomputable section

namespace Cert.Proof.Af

open Cert.KernelAfIdeal Cert.KernelAfIdeal.Gen Idealize.ShloMosaic Idealize.ShloMosaic.TcCoe
open Cert.Proof.Sb (up nt nn nh lb lm cst pow2 bcol rsum lanes only below causal all cl Rows Keys Data tile blk col rows keys lbR)

section Operations

variable {s : Shape} {t : FTy}

theorem nt_up (f g : S256x128.Idx → ℝ) :
    matmul dot_S256x128_S256x128_S256x256_1_1_0_0_n_n none (up .bf16 f) (up .bf16 g) (constant (F := Ideal) S256x256 .f32 0x00000000#32) = up .f32 (nt f g) :=
  Sb.nt_up f g
theorem nn_up (f g : S256x256.Idx → ℝ) :
    matmul dot_S256x256_S256x256_S256x256_1_0_0_1_n_n none (up .bf16 f) (up .bf16 g) (constant (F := Ideal) S256x256 .f32 0x00000000#32) = up .f32 (nn f g) :=
  Sb.nn_up f g
theorem nh_up (f : S256x256.Idx → ℝ) (g : S256x128.Idx → ℝ) :
    matmul dot_S256x256_S256x128_S256x128_1_0_0_1_n_n none (up .bf16 f) (up .bf16 g) (constant (F := Ideal) S256x128 .f32 0x00000000#32) = up .f32 (nh f g) :=
  Sb.nh_up f g
theorem log2e_up : broadcast (α := Ideal .f32) s (Named.named κ "log2e" 0x3FB8AA3B#32) = up .f32 (cst s (Real.log 2)⁻¹) := by
  funext i
  exact IdealRules.named_const.ideal_named_scalar _ _ _ _ rfl
theorem scale_up : broadcast (α := Ideal .f32) s (Named.named κ "scale_log2e" 0x3E38AA3B#32) = up .f32 (cst s (8 * Real.log 2)⁻¹) := by
  funext i
  exact IdealRules.named_const.ideal_named_scalar _ _ _ _ rfl

/-- Ones where the row of the block exceeds the column. -/
def after : S256x256.Idx → ℝ := fun i => if (i 1).val < (i 0).val then 1 else 0

/-- The bits of `r > s`, as numbers. -/
theorem after_up : truncf .bf16 (sitofp (F := Ideal) .f32 (extui 32 (cmpi .sgt (iota .tc S256x256 32 (@List.cons (Fin 2) (0 : Fin S256x256.rank) []) iota_S256x256_d0_w32) (iota .tc S256x256 32 (@List.cons (Fin 2) (1 : Fin S256x256.rank) []) iota_S256x256_d1_w32)) (by decide))) bitsLt_bf16_f32
    = up .bf16 after := by
  funext i
  idx_vars i
  pointwise [up, after]
  rw [WordCmp.cmpi_sgt_ofNat (by omega) (by omega)]
  by_cases h : i1.val < i0.val <;> simp [h, FloatOps.sitofp]

/-- A number of each row at every lane, of the first head's rows on its lanes and of the second head's on the others. -/
theorem pick_up (f g : ℕ → ℝ) (o : ℕ) (h h' h0 h0' h1 h1' h2) :
    shapeCast S256x128 (select (broadcastTo S256x128 (shapeCast S1x128 (lanes 0) h) h') (broadcastTo S256x128 (shapeCast S256x1 (up (s := S256x1) t (col f o)) h0) h0')
      (broadcastTo S256x128 (shapeCast S256x1 (up (s := S256x1) t (col g o)) h1) h1')) h2
      = up t (blk (fun r l => if l / 64 = 0 then f r else g r) o) := by
  funext i
  pointwise [up, col, blk, lanes]
  split <;> rfl

end Operations

/-- The sum over the keys after one. -/
theorem sum_after (f : ℕ → ℝ) {j : ℕ} (hj : j < 256) :
    (∑ k : Fin 256, f k.val * if j < k.val then 1 else 0) = ∑ s ∈ Finset.range 256, f s - ∑ s ∈ Finset.range (j + 1), f s := by
  have h1 := Sb.sum_upto f hj
  rw [← h1, ← Fin.sum_univ_eq_sum_range f 256, ← Finset.sum_sub_distrib]
  refine Finset.sum_congr rfl fun k _ => ?_
  by_cases h : j < k.val
  · rw [if_pos h, if_neg (by omega)]; ring
  · rw [if_neg h, if_pos (by omega)]; ring

variable (m : (S256x256.Idx → ℝ) → S256x256.Idx → ℝ)

/-- The attention weights of a block, `c` being the rows' sums over the keys after. -/
def wt (R : Rows) (K : Keys) (c : S256x1.Idx → ℝ) : S256x256.Idx → ℝ :=
  m (pow2 (lb (nt R.q K.k) + nn (m (lm (nt R.q K.k))) after + bcol c))

/-- A row's sum of `log₂ (1 - β)` over the keys from `n` on. -/
def cr (X : Data) (h r n : ℕ) : ℝ := X.CL h r 2048 - X.CL h r n
/-- The output over the first `n` keys. -/
def out (X : Data) (n r l : ℕ) : ℝ := ∑ s ∈ Finset.range n, X.A (l / 64) r s * X.V s l
/-- The output over the keys from `n` on. -/
def rest (X : Data) (n r l : ℕ) : ℝ := out X 2048 r l - out X n r l

section Tile

variable (X : Data) (h : ℕ) (hE : ∀ r, X.E h r = X.CL h r 2048) (o p : ℕ) (hm : ∀ f i, m f i = if p + (i 1).val < o + (i 0).val then f i else 0)

include hm

theorem cl_eq : cl m (rows X h o) (keys X p) (col (fun r => cr X h r (p + 256)) o) = col (fun r => cr X h r p) o := by
  funext i
  unfold cl
  rw [Sb.nt_q, Sb.m_lm X h m o p hm]
  show X.CL h (o + (i 0).val) 2048 - X.CL h (o + (i 0).val) (p + 256) + ∑ k : Fin 256, X.M h (o + (i 0).val) (p + k.val) = X.CL h (o + (i 0).val) 2048 - X.CL h (o + (i 0).val) p
  rw [Fin.sum_univ_eq_sum_range (fun k => X.M h (o + (i 0).val) (p + k)) 256]
  have e : X.CL h (o + (i 0).val) (p + 256) = X.CL h (o + (i 0).val) p + ∑ k ∈ Finset.range 256, X.M h (o + (i 0).val) (p + k) := Finset.sum_range_add _ _ _
  rw [e]
  ring

include hE in
theorem wt_eq : wt m (rows X h o) (keys X p) (col (fun r => cr X h r (p + 256)) o) = tile (X.A h) o p := by
  funext i
  unfold wt
  rw [Sb.nt_q, Sb.m_lm X h m o p hm, hm]
  show ite _ (Real.rpow 2 (lbR (X.Z h (o + (i 0).val) (p + (i 1).val)) + (∑ k : Fin 256, X.M h (o + (i 0).val) (p + k.val) * if (i 1).val < k.val then 1 else 0)
      + (X.CL h (o + (i 0).val) 2048 - X.CL h (o + (i 0).val) (p + 256)))) 0
    = X.A h (o + (i 0).val) (p + (i 1).val)
  rw [sum_after (fun k => X.M h (o + (i 0).val) (p + k)) (i 1).isLt]
  have e : X.CL h (o + (i 0).val) (p + 256) = X.CL h (o + (i 0).val) p + ∑ k ∈ Finset.range 256, X.M h (o + (i 0).val) (p + k) := Finset.sum_range_add _ _ _
  have e' : X.CL h (o + (i 0).val) (p + (i 1).val + 1) = X.CL h (o + (i 0).val) p + ∑ k ∈ Finset.range ((i 1).val + 1), X.M h (o + (i 0).val) (p + k) := by
    rw [Nat.add_assoc]; exact Finset.sum_range_add _ _ _
  unfold Data.A
  rw [hE, e, e']
  congr 2
  ring

omit hm

/-- A block of the output, from the tile of the weights, over the heads. -/
theorem nh_eq : blk (rest X (p + 256)) o + nh (tile (X.A 0) o p) (only 0 (keys X p).v) + nh (tile (X.A 1) o p) (only 1 (keys X p).v) = blk (rest X p) o := by
  funext i
  show out X 2048 (o + (i 0).val) (i 1).val - out X (p + 256) (o + (i 0).val) (i 1).val
      + (∑ k : Fin 256, X.A 0 (o + (i 0).val) (p + k.val) * if (i 1).val / 64 = 0 then X.V (p + k.val) (i 1).val else 0)
      + (∑ k : Fin 256, X.A 1 (o + (i 0).val) (p + k.val) * if (i 1).val / 64 = 1 then X.V (p + k.val) (i 1).val else 0)
    = out X 2048 (o + (i 0).val) (i 1).val - out X p (o + (i 0).val) (i 1).val
  have e : out X (p + 256) (o + (i 0).val) (i 1).val = out X p (o + (i 0).val) (i 1).val
      + ∑ k : Fin 256, X.A ((i 1).val / 64) (o + (i 0).val) (p + k.val) * X.V (p + k.val) (i 1).val := by
    unfold out
    rw [Finset.sum_range_add _ p, ← Fin.sum_univ_eq_sum_range (fun k => X.A ((i 1).val / 64) (o + (i 0).val) (p + k) * X.V (p + k) (i 1).val) 256]
  rw [e]
  have h1 : (i 1).val < 128 := (i 1).isLt
  obtain h | h : (i 1).val / 64 = 0 ∨ (i 1).val / 64 = 1 := by omega
  all_goals simp [h]; ring

end Tile

/-- What a loop carries: for each block of rows and head the rows' sums, then the two blocks of the output. -/
structure Carry where
  /-- The sums of the first block of rows, first head. -/
  ca : S256x1.Idx → ℝ
  /-- The same, second head. -/
  cb : S256x1.Idx → ℝ
  /-- The sums of the second block of rows, first head. -/
  cc : S256x1.Idx → ℝ
  /-- The same, second head. -/
  cd : S256x1.Idx → ℝ
  /-- The first block of the output. -/
  o0 : S256x128.Idx → ℝ
  /-- The second block of the output. -/
  o1 : S256x128.Idx → ℝ

/-- The carried value, as the program holds it. -/
def Carry.up (s : Carry) : FVec Ideal S256x1 .f32 × FVec Ideal S256x1 .f32 × FVec Ideal S256x1 .f32 × FVec Ideal S256x1 .f32 × FVec Ideal S256x128 .f32 × FVec Ideal S256x128 .f32 :=
  (Sb.up .f32 s.ca, Sb.up .f32 s.cb, Sb.up .f32 s.cc, Sb.up .f32 s.cd, Sb.up .f32 s.o0, Sb.up .f32 s.o1)

/-- What one block of keys, before all the rows, makes of it. -/
def Carry.next (s : Carry) (a b c d : Rows) (x : Keys) : Carry :=
  ⟨cl all a x s.ca, cl all b x s.cb, cl all c x s.cc, cl all d x s.cd,
   s.o0 + nh (wt all a x s.ca) (only 0 x.v) + nh (wt all b x s.cb) (only 1 x.v),
   s.o1 + nh (wt all c x s.cc) (only 0 x.v) + nh (wt all d x s.cd) (only 1 x.v)⟩

/-- What the blocks of keys beside the rows leave: `x` the keys of the first block of rows and `y` those of the second. -/
def diag (a b c d : Rows) (x y : Keys) : Carry :=
  ⟨cl below a x 0, cl below b x 0, cl all c x (cl below c y 0), cl all d x (cl below d y 0),
   0 + nh (wt below a x 0) (only 0 x.v) + nh (wt below b x 0) (only 1 x.v),
   0 + nh (wt below c y 0) (only 0 y.v) + nh (wt below d y 0) (only 1 y.v)
     + nh (wt all c x (cl below c y 0)) (only 0 x.v) + nh (wt all d x (cl below d y 0)) (only 1 x.v)⟩

section Carried

variable (X : Data) (o n : ℕ)

/-- What is carried for the rows from `o` on, over the keys from `n` on. -/
def carryAt : Carry :=
  ⟨col (fun r => cr X 0 r n) o, col (fun r => cr X 1 r n) o, col (fun r => cr X 0 r n) (o + 256), col (fun r => cr X 1 r n) (o + 256),
   blk (rest X n) o, blk (rest X n) (o + 256)⟩

variable (hE : ∀ h r, h < 2 → X.E h r = X.CL h r 2048)

include hE

theorem next_eq (hn : n + 256 ≤ o) :
    (carryAt X o (n + 256)).next (rows X 0 o) (rows X 1 o) (rows X 0 (o + 256)) (rows X 1 (o + 256)) (keys X n) = carryAt X o n := by
  have h0 := Sb.hm_all o n hn
  have h1 := Sb.hm_all (o + 256) n (by omega)
  have e0 := fun r => hE 0 r (by decide)
  have e1 := fun r => hE 1 r (by decide)
  unfold carryAt Carry.next
  simp only [cl_eq all X 0 o n h0, cl_eq all X 1 o n h0, cl_eq all X 0 (o + 256) n h1, cl_eq all X 1 (o + 256) n h1,
    wt_eq all X 0 e0 o n h0, wt_eq all X 1 e1 o n h0, wt_eq all X 0 e0 (o + 256) n h1, wt_eq all X 1 e1 (o + 256) n h1, nh_eq X]

omit hE in
/-- Past its own index a row has nothing to add. -/
theorem CL_ge (h r n : ℕ) (hr : r ≤ n) : X.CL h r n = X.CL h r r := by
  unfold Data.CL
  obtain ⟨k, rfl⟩ := Nat.exists_eq_add_of_le hr
  rw [Finset.sum_range_add, Finset.sum_eq_zero (s := Finset.range k) fun s _ => ?_, add_zero]
  unfold Data.M
  rw [if_neg (by omega)]

omit hE in
theorem out_ge (r l n : ℕ) (hr : r ≤ n) : out X n r l = out X r r l := by
  unfold out
  obtain ⟨k, rfl⟩ := Nat.exists_eq_add_of_le hr
  rw [Finset.sum_range_add, Finset.sum_eq_zero (s := Finset.range k) fun s _ => ?_, add_zero]
  rw [Sb.zero_A X _ _ _ (by omega), zero_mul]

omit hE in
theorem cr_none (h : ℕ) (ho : o + 256 ≤ 2048) : col (fun r => cr X h r (o + 256)) o = 0 := by
  funext i
  have h0 : (i 0).val < 256 := (i 0).isLt
  show X.CL h (o + (i 0).val) 2048 - X.CL h (o + (i 0).val) (o + 256) = 0
  rw [CL_ge X h (o + (i 0).val) 2048 (by omega), CL_ge X h (o + (i 0).val) (o + 256) (by omega), sub_self]

omit hE in
theorem rest_none (ho : o + 256 ≤ 2048) : blk (rest X (o + 256)) o = 0 := by
  funext i
  have h0 : (i 0).val < 256 := (i 0).isLt
  show out X 2048 (o + (i 0).val) (i 1).val - out X (o + 256) (o + (i 0).val) (i 1).val = 0
  rw [out_ge X (o + (i 0).val) _ 2048 (by omega), out_ge X (o + (i 0).val) _ (o + 256) (by omega), sub_self]

theorem diag_eq (ho : o + 512 ≤ 2048) :
    diag (rows X 0 o) (rows X 1 o) (rows X 0 (o + 256)) (rows X 1 (o + 256)) (keys X o) (keys X (o + 256)) = carryAt X o o := by
  have e0 := fun r => hE 0 r (by decide)
  have e1 := fun r => hE 1 r (by decide)
  have b0 := Sb.hm_below o
  have b1 := Sb.hm_below (o + 256)
  have h1 := Sb.hm_all (o + 256) o le_rfl
  have a0 := cl_eq below X 0 o o b0
  have a1 := cl_eq below X 1 o o b0
  have a2 := cl_eq below X 0 (o + 256) (o + 256) b1
  have a3 := cl_eq below X 1 (o + 256) (o + 256) b1
  have w0 := wt_eq below X 0 e0 o o b0
  have w1 := wt_eq below X 1 e1 o o b0
  have w2 := wt_eq below X 0 e0 (o + 256) (o + 256) b1
  have w3 := wt_eq below X 1 e1 (o + 256) (o + 256) b1
  have n0 := nh_eq X o o
  have n1 := nh_eq X (o + 256) (o + 256)
  rw [cr_none X o 0 (by omega)] at a0 w0
  rw [cr_none X o 1 (by omega)] at a1 w1
  rw [cr_none X (o + 256) 0 (by omega)] at a2 w2
  rw [cr_none X (o + 256) 1 (by omega)] at a3 w3
  rw [rest_none X o (by omega)] at n0
  rw [rest_none X (o + 256) (by omega)] at n1
  unfold carryAt diag
  simp only [a0, a1, a2, a3, w0, w1, w2, w3, n0, n1, cl_eq all X 0 (o + 256) o h1, cl_eq all X 1 (o + 256) o h1,
    wt_eq all X 0 e0 (o + 256) o h1, wt_eq all X 1 e1 (o + 256) o h1, nh_eq X]

end Carried

end Cert.Proof.Af

end
-- ==== Proof.AfTrip.lean ====
/- The stick-breaking attention forward: one trip of the loop over the keys before the block of rows, and the whole loop. -/
module

public import proofs.«01_k».proof.Proof.AfTile

@[expose] public section

set_option maxRecDepth 16384

noncomputable section

namespace Cert.Proof.Af

open Cert.KernelAfIdeal Cert.KernelAfIdeal.Gen Idealize.ShloMosaic Idealize.ShloMosaic.TcCoe Idealize.SL.Sem
open Cert.Proof.Sb hiding nt_up nn_up nh_up log2e_up scale_up Carry Carry.up carryAt cl_eq nh_eq trips1 trips2 off1_eq off2_eq

section Trip

variable (𝒱 : Variants) (dev : Dev nD) (bd : Option 𝒱.V) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S512x128 .bf16) (harg5 : arg5.IsWhole) (arg6 : Memref sig .tc .vmem S512x128 .f32) (harg6 : arg6.IsWhole) (v0 : BitVec 32) (v67 v71 : FVec Ideal S256x128 .bf16) (v159 v160 v174 v175 v210 v217 : FVec Ideal S256x256 .f32) (v229 : FVec Ideal S256x1 .f32) (v238 : FVec Ideal S256x128 .f32) (v241 v253 : FVec Ideal S256x1 .f32) (v262 : FVec Ideal S256x128 .f32) (v265 : FVec Ideal S256x1 .f32) (X_arg3 : BufTy.Contents (Elt Ideal) arg3.view.ty) (X_arg4 : BufTy.Contents (Elt Ideal) arg4.view.ty) (k : Fin (k0_t1_loop i).trips)
  (a b c d : Rows) (x y : Keys) (s : Carry)
  (hk1 : arg3.view.readAt (Elt Ideal) (Rect.unit (s := S2048x128) (k0_off3 i k 1#32) S256x128.size (k0_off3_inb i k 0)).toLoadRect X_arg3 = up .bf16 x.k)
  (hk2 : arg3.view.readAt (Elt Ideal) (Rect.unit (s := S2048x128) (k0_off3 i k 2#32) S256x128.size (k0_off3_inb i k 1)).toLoadRect X_arg3 = up .bf16 y.k)
  (hv1 : arg4.view.readAt (Elt Ideal) (Rect.unit (s := S2048x128) (k0_off3 i k 1#32) S256x128.size (k0_off3_inb i k 0)).toLoadRect X_arg4 = up .bf16 x.v)
  (hv2 : arg4.view.readAt (Elt Ideal) (Rect.unit (s := S2048x128) (k0_off3 i k 2#32) S256x128.size (k0_off3_inb i k 1)).toLoadRect X_arg4 = up .bf16 y.v)

include hk1 hk2 hv1 hv2

set_option maxHeartbeats 2000000 in
/-- A trip takes the block of keys `x`, then `y`. -/
theorem trip :
    tripR_k0_t1 (F := Ideal) 𝒱 dev bd i arg2 harg2 arg3 harg3 arg4 harg4 arg5 harg5 arg6 harg6 v0 (up .bf16 after) (lanes 0) (lanes 1) (up .bf16 a.q) (up .bf16 b.q) (up .bf16 c.q) (up .bf16 d.q) v67 v71 v159 v160 v174 v175 v210 v217 v229 v238 v241 v253 v262 v265 X_arg3 X_arg4 k s.up
      = ((s.next a b c d x).next a b c d y).up := by
  unfold tripR_k0_t1 trip_k0_t1
  dsimp only [Carry.up]
  sl_unfold_run_names
  unfold_payloads
  simp only [hk1, hk2, hv1, hv2, addf_up, subf_up, mulf_up, exp2_up, minimumf_up, absf_up, log_up, truncf_up, extf_up, zero_up, zero_up16, one_up, log2e_up, scale_up, bcol_up, nt_up, nn_up, nh_up, same_up, same_up1, only_up, below_up, sub_self, nn_zero, add_zero]
  repeat (rw [rsum_up]; try simp only [hk1, hk2, hv1, hv2, addf_up, subf_up, mulf_up, exp2_up, minimumf_up, absf_up, log_up, truncf_up, extf_up, zero_up, zero_up16, one_up, log2e_up, scale_up, bcol_up, nt_up, nn_up, nh_up, same_up, same_up1, only_up, below_up, sub_self, nn_zero, add_zero])
  rfl

end Trip

theorem trips1 : ∀ i : grid0.Coords, (k0_t1_loop i).trips = (i 1).val := by decide +kernel
theorem trips2 : ∀ i : grid0.Coords, Scf.trips (k0_t2_loop i).lb (k0_t2_loop i).ub (k0_t2_loop i).st = 0 := by decide +kernel
theorem off1_eq : ∀ i : grid0.Coords, k0_off1 i = ![512 * (i 1).val + 256, 0] := by decide +kernel
theorem off2_eq : ∀ i : grid0.Coords, k0_off2 i = ![512 * (i 1).val, 0] := by decide +kernel
theorem off3_x : ∀ (i : grid0.Coords) (k : Fin (k0_t1_loop i).trips), k0_off3 i k 1#32 = ![512 * ((i 1).val - 1 - k.val) + 256, 0] := by decide +kernel
theorem off3_y : ∀ (i : grid0.Coords) (k : Fin (k0_t1_loop i).trips), k0_off3 i k 2#32 = ![512 * ((i 1).val - 1 - k.val), 0] := by decide +kernel

section Loop

variable (𝒱 : Variants) (dev : Dev nD) (bd : Option 𝒱.V) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S512x128 .bf16) (harg5 : arg5.IsWhole) (arg6 : Memref sig .tc .vmem S512x128 .f32) (harg6 : arg6.IsWhole) (v0 : BitVec 32) (v67 v71 : FVec Ideal S256x128 .bf16) (v159 v160 v174 v175 v210 v217 : FVec Ideal S256x256 .f32) (v229 : FVec Ideal S256x1 .f32) (v238 : FVec Ideal S256x128 .f32) (v241 v253 : FVec Ideal S256x1 .f32) (v262 : FVec Ideal S256x128 .f32) (v265 : FVec Ideal S256x1 .f32) (X_arg3 : BufTy.Contents (Elt Ideal) arg3.view.ty) (X_arg4 : BufTy.Contents (Elt Ideal) arg4.view.ty)
  (X : Data) (hE : ∀ h r, h < 2 → X.E h r = X.CL h r 2048) (o : ℕ) (ho : o = 512 * (i 1).val)
  (h3 : arg3.view.read (Elt Ideal) X_arg3 = up .bf16 (full X.K)) (h4 : arg4.view.read (Elt Ideal) X_arg4 = up .bf16 (full X.V))

include hE ho h3 h4

/-- After `n` trips the keys from `512 n` before the block of rows on have been taken. -/
theorem loop (n : ℕ) (hn : n ≤ (i 1).val) :
    st_k0_t1 (F := Ideal) 𝒱 dev bd i arg2 harg2 arg3 harg3 arg4 harg4 arg5 harg5 arg6 harg6 v0 (up .bf16 after) (lanes 0) (lanes 1) (up .bf16 (rows X 0 o).q) (up .bf16 (rows X 1 o).q) (up .bf16 (rows X 0 (o + 256)).q) (up .bf16 (rows X 1 (o + 256)).q) v67 v71 v159 v160 v174 v175 v210 v217 v229 v238 v241 v253 v262 v265 X_arg3 X_arg4 (carryAt X o o).up n
      = (carryAt X o (512 * ((i 1).val - n))).up := by
  induction n with
  | zero =>
    rw [st_k0_t1_zero, ho, Nat.sub_zero]
  | succ n ih =>
    have hk : n < (k0_t1_loop i).trips := by rw [trips1]; omega
    have hs := st_k0_t1_succ (F := Ideal) 𝒱 dev bd i arg2 harg2 arg3 harg3 arg4 harg4 arg5 harg5 arg6 harg6 v0 (up .bf16 after) (lanes 0) (lanes 1) (up .bf16 (rows X 0 o).q) (up .bf16 (rows X 1 o).q) (up .bf16 (rows X 0 (o + 256)).q) (up .bf16 (rows X 1 (o + 256)).q) v67 v71 v159 v160 v174 v175 v210 v217 v229 v238 v241 v253 v262 v265 X_arg3 X_arg4 (carryAt X o o).up ⟨n, hk⟩
    dsimp only at hs
    rw [hs, ih (by omega)]
    have ox := off3_x i ⟨n, hk⟩
    have oy := off3_y i ⟨n, hk⟩
    have hk1 := load_rows r16 arg3.view X_arg3 X.K h3 (k0_off3_inb i ⟨n, hk⟩ 0) ox
    have hk2 := load_rows r16 arg3.view X_arg3 X.K h3 (k0_off3_inb i ⟨n, hk⟩ 1) oy
    have hv1 := load_rows r16 arg4.view X_arg4 X.V h4 (k0_off3_inb i ⟨n, hk⟩ 0) ox
    have hv2 := load_rows r16 arg4.view X_arg4 X.V h4 (k0_off3_inb i ⟨n, hk⟩ 1) oy
    obtain ⟨p, hp⟩ : ∃ p, p = (i 1).val - 1 - n := ⟨_, rfl⟩
    have hR := trip 𝒱 dev bd i arg2 harg2 arg3 harg3 arg4 harg4 arg5 harg5 arg6 harg6 v0 v67 v71 v159 v160 v174 v175 v210 v217 v229 v238 v241 v253 v262 v265 X_arg3 X_arg4 ⟨n, hk⟩ (rows X 0 o) (rows X 1 o) (rows X 0 (o + 256)) (rows X 1 (o + 256)) (keys X (512 * ((i 1).val - 1 - n) + 256)) (keys X (512 * ((i 1).val - 1 - n))) (carryAt X o (512 * ((i 1).val - n)))
      hk1 hk2 hv1 hv2
    rw [hR]
    have q1 : (i 1).val - n = p + 1 := by omega
    have q2 : (i 1).val - (n + 1) = p := by omega
    rw [← hp, q1, q2]
    have w1 := next_eq X o (512 * p + 256) hE (by omega)
    have w2 := next_eq X o (512 * p) hE (by omega)
    rw [show 512 * (p + 1) = 512 * p + 256 + 256 by ring, w1, w2]

end Loop

end Cert.Proof.Af

end
-- ==== Proof.AfPoint.lean ====
/- The body of `_attn_fwd` at a grid point: its block of the output and of the rows' sums. -/
module

public import proofs.«01_k».proof.Proof.AfTrip

@[expose] public section

set_option maxRecDepth 16384

noncomputable section

namespace Cert.Proof.Af

open Cert.KernelAfIdeal Cert.KernelAfIdeal.Gen Idealize.ShloMosaic Idealize.ShloMosaic.TcCoe Idealize.SL.Sem
open Cert.Proof.Sb hiding nt_up nn_up nh_up log2e_up scale_up Carry Carry.up carryAt cl_eq nh_eq trips1 trips2 off1_eq off2_eq

variable (dev : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S512x128 .bf16) (harg5 : arg5.IsWhole) (arg6 : Memref sig .tc .vmem S512x128 .f32) (harg6 : arg6.IsWhole)
  (X : Data) (hE : ∀ h r, h < 2 → X.E h r = X.CL h r 2048) (o : ℕ) (ho : o = 512 * (i 1).val)

include ho

/-- The loads of the rows and of the keys beside them. -/
theorem loads :
    arg2.view.readAt (Elt Ideal) (Rect.unit (s := S512x128) ![0, 0] S256x128.size inb_S512x128_S256x128_0_0).toLoadRect (harg2.unread (up .bf16 (half X.Q o))) = up .bf16 (blk X.Q o) ∧ arg2.view.readAt (Elt Ideal) (Rect.unit (s := S512x128) ![256, 0] S256x128.size inb_S512x128_S256x128_256_0).toLoadRect (harg2.unread (up .bf16 (half X.Q o))) = up .bf16 (blk X.Q (o + 256)) ∧
    arg3.view.readAt (Elt Ideal) (Rect.unit (s := S2048x128) (k0_off1 i) S256x128.size (k0_off1_inb i)).toLoadRect (harg3.unread (up .bf16 (full X.K))) = up .bf16 (blk X.K (o + 256)) ∧ arg3.view.readAt (Elt Ideal) (Rect.unit (s := S2048x128) (k0_off2 i) S256x128.size (k0_off2_inb i)).toLoadRect (harg3.unread (up .bf16 (full X.K))) = up .bf16 (blk X.K o) ∧
    arg4.view.readAt (Elt Ideal) (Rect.unit (s := S2048x128) (k0_off1 i) S256x128.size (k0_off1_inb i)).toLoadRect (harg4.unread (up .bf16 (full X.V))) = up .bf16 (blk X.V (o + 256)) ∧ arg4.view.readAt (Elt Ideal) (Rect.unit (s := S2048x128) (k0_off2 i) S256x128.size (k0_off2_inb i)).toLoadRect (harg4.unread (up .bf16 (full X.V))) = up .bf16 (blk X.V o) := by
  have h1 : k0_off1 i = ![o + 256, 0] := by rw [off1_eq, ho]
  have h2 : k0_off2 i = ![o, 0] := by rw [off2_eq, ho]
  exact ⟨load_half r16 arg2.view _ X.Q o 0 (harg2.read_unread _) _, load_half r16 arg2.view _ X.Q o 256 (harg2.read_unread _) _,
    load_rows r16 arg3.view _ X.K (harg3.read_unread _) (k0_off1_inb i) h1, load_rows r16 arg3.view _ X.K (harg3.read_unread _) (k0_off2_inb i) h2,
    load_rows r16 arg4.view _ X.V (harg4.read_unread _) (k0_off1_inb i) h1, load_rows r16 arg4.view _ X.V (harg4.read_unread _) (k0_off2_inb i) h2⟩

include hE

set_option maxHeartbeats 2000000 in
theorem point :
    out0_A_3 (F := Ideal) dev i arg2 harg2 arg3 harg3 arg4 harg4 arg5 harg5 arg6 harg6 (up .bf16 (half X.Q o)) (up .bf16 (full X.K)) (up .bf16 (full X.V)) = up .bf16 (half (out X 2048) o) ∧
    out0_A_4 (F := Ideal) dev i arg2 harg2 arg3 harg3 arg4 harg4 arg5 harg5 arg6 harg6 (up .bf16 (half X.Q o)) (up .bf16 (full X.K)) (up .bf16 (full X.V)) = up .f32 (half (fun r l => X.E (l / 64) r) o) := by
  obtain ⟨hq1, hq2, hk1, hk2, hv1, hv2⟩ := loads i arg2 harg2 arg3 harg3 arg4 harg4 X o ho
  have ho' : o + 512 ≤ 2048 := by
    have : (i 1).val < 4 := (i 1).isLt
    omega
  have t1 : Scf.trips (k0_t1_loop i).lb (k0_t1_loop i).ub (k0_t1_loop i).st = (i 1).val := trips1 i
  have t2 : Scf.trips (k0_t2_loop i).lb (k0_t2_loop i).ub (k0_t2_loop i).st = 0 := trips2 i
  have e1 : ∀ v0 v67 v71 v159 v160 v174 v175 v210 v217 v229 v238 v241 v253 v262 v265 init, init = (carryAt X o o).up →
      st_k0_t1 (F := Ideal) Variants.none dev none i arg2 harg2 arg3 harg3 arg4 harg4 arg5 harg5 arg6 harg6 v0 (up .bf16 after) (lanes 0) (lanes 1) (up .bf16 (rows X 0 o).q) (up .bf16 (rows X 1 o).q) (up .bf16 (rows X 0 (o + 256)).q) (up .bf16 (rows X 1 (o + 256)).q) v67 v71 v159 v160 v174 v175 v210 v217 v229 v238 v241 v253 v262 v265 (harg3.unread (up .bf16 (full X.K))) (harg4.unread (up .bf16 (full X.V))) init (i 1).val = (carryAt X o 0).up := by
    intro v0 v67 v71 v159 v160 v174 v175 v210 v217 v229 v238 v241 v253 v262 v265 init h
    subst h
    have := loop Variants.none dev none i arg2 harg2 arg3 harg3 arg4 harg4 arg5 harg5 arg6 harg6 v0 v67 v71 v159 v160 v174 v175 v210 v217 v229 v238 v241 v253 v262 v265 (harg3.unread (up .bf16 (full X.K))) (harg4.unread (up .bf16 (full X.V))) X hE o ho (harg3.read_unread _) (harg4.read_unread _) (i 1).val le_rfl
    rwa [Nat.sub_self] at this
  dsimp only [rows] at e1
  unfold out0_A_3 out0_A_4 kernelRun0_A
  dsimp only
  sl_unfold_run_names
  simp only [t1, t2, st_k0_t2.eq_1]
  unfold_payloads
  simp only [hq1, hq2, hk1, hk2, hv1, hv2, lanes0_up, lanes1_up, after_up, causal_up, addf_up, subf_up, mulf_up, exp2_up, minimumf_up, absf_up, log_up, truncf_up, extf_up, zero_up, zero_up16, one_up, log2e_up, scale_up, bcol_up, nt_up, nn_up, nh_up, same_up, same_up1, only_up, below_up, sub_self, nn_zero, add_zero]
  repeat (rw [rsum_up]; try simp only [addf_up, subf_up, mulf_up, exp2_up, minimumf_up, absf_up, log_up, truncf_up, extf_up, zero_up, zero_up16, one_up, log2e_up, scale_up, bcol_up, nt_up, nn_up, nh_up, same_up, same_up1, only_up, below_up, sub_self, nn_zero, add_zero])
  rw [e1]
  · dsimp only [Carry.up, carryAt]
    simp only [truncf_up, pick_up, same_up]
    have r : rest X 0 = out X 2048 := by
      funext r l
      simp [rest, out]
    have c : half (fun r l => if l / 64 = 0 then cr X 0 r 0 else cr X 1 r 0) o = half (fun r l => X.E (l / 64) r) o := by
      funext j
      have h1 : (j 1).val < 128 := (j 1).isLt
      have z : ∀ h r, cr X h r 0 = X.CL h r 2048 := fun h r => by simp [cr, Data.CL]
      unfold half
      obtain h | h : (j 1).val / 64 = 0 ∨ (j 1).val / 64 = 1 := by omega
      all_goals
        beta_reduce
        rw [h, z, z, hE _ _ (by decide)]
        rfl
    rw [← c, r]
    exact ⟨store_half r16 VO0_3 VO0_3.junk (out X 2048) o _ _, store_half r32 VO0_4 VO0_4.junk _ o _ _⟩
  · rw [← diag_eq X o hE ho']
    rfl

end Cert.Proof.Af

end
-- ==== Proof.AfArray.lean ====
/- The arrays that `_attn_fwd` leaves: the attention's output and the rows' totals of `log₂ (1 - β)`. -/
module

public import proofs.«01_k».proof.Proof.AfPoint

@[expose] public section

set_option maxRecDepth 16384

noncomputable section

namespace Cert.Proof.Af

open Cert.KernelAfIdeal Cert.KernelAfIdeal.Gen Cert.KernelAfIdeal.Value Idealize.ShloMosaic Idealize.ShloMosaic.TcCoe Idealize.SL.Sem
open Cert.Proof.Sb (up half full Arr Data dat ext ext_eq tot zz lmR Z_dat)

/-- A row's own total is the sum over all the keys. -/
theorem total (q k v : Arr) (p h r : ℕ) (hh : h < 2) : (dat q k v q p).E h r = (dat q k v q p).CL h r 2048 := by
  show tot q k (2 * p + h) r = _
  unfold tot Data.CL Data.M
  exact Finset.sum_congr rfl fun s _ => by rw [Z_dat q k v q p h r s hh]

variable (m : (ℓ : Loc nD τ sig) → Buf (Elt Ideal) ℓ) (c : Dev nD) (q k v : Arr)

/-- The arguments are the reals `q`, `k` and `v`. -/
structure Args : Prop where
  q : m ((c : Thread nD τ).loc main_arg0) = fun i => (q i : EReal)
  k : m ((c : Thread nD τ).loc main_arg1) = fun i => (k i : EReal)
  v : m ((c : Thread nD τ).loc main_arg2) = fun i => (v i : EReal)

theorem V_q (r : Fin 2048) (l : Fin 512) : V m c main_v1 (ix2 r l) = m ((c : Thread nD τ).loc main_arg0) (ix3 0 r l) := by
  unfold V
  simp only [List.flatten_cons, List.flatten_nil, List.append_nil, hostOps0]
  entry_read
  pointwise
theorem V_k (r : Fin 2048) (l : Fin 512) : V m c main_v3 (ix2 r l) = m ((c : Thread nD τ).loc main_arg1) (ix3 0 r l) := by
  unfold V
  simp only [List.flatten_cons, List.flatten_nil, List.append_nil, hostOps0]
  entry_read
  pointwise
theorem V_v (r : Fin 2048) (l : Fin 512) : V m c main_v5 (ix2 r l) = m ((c : Thread nD τ).loc main_arg2) (ix3 0 r l) := by
  unfold V
  simp only [List.flatten_cons, List.flatten_nil, List.append_nil, hostOps0]
  entry_read
  pointwise

theorem idx : ∀ t : Fin cfg0.N, (win0_0.index t = ![t.val % 4, t.val / 4] ∧ win0_1.index t = ![0, t.val / 4] ∧ win0_2.index t = ![0, t.val / 4])
    ∧ win0_3.index t = ![t.val % 4, t.val / 4] ∧ win0_4.index t = ![t.val % 4, t.val / 4] := (by decide +kernel : ∀ t : Fin grid0.N, _)

theorem coords1 (t : Fin cfg0.N) : (grid0.coords t 1).val = t.val % 4 :=
  (Pipeline.Grid.coords_val t 1 (by decide) rfl : (grid0.coords t 1).val = t.val / 1 % 4).trans (by rw [Nat.div_one])

theorem lt16 (t : Fin cfg0.N) : t.val < 16 := lt_of_lt_of_eq t.isLt (show cfg0.N = 16 from N_0)

variable {m c q k v} (H : Args m c q k v) (t : Fin cfg0.N)
include H

theorem iblk_q : iblk m c 0 t = up .bf16 (half (dat q k v q (t.val / 4)).Q (512 * (t.val % 4))) := funext fun (y : S512x128.Idx) => by
  have hN := lt16 t
  have h0 : (y 0).val < 512 := (y 0).isLt
  have h1 : (y 1).val < 128 := (y 1).isLt
  refine Eq.trans ?_ ((V_q m c ⟨512 * (t.val % 4) + (y 0).val, by omega⟩ ⟨128 * (t.val / 4) + (y 1).val, by omega⟩).trans ?_)
  · blk_ext [iblk, idx t]
  · rw [H.q]
    exact congrArg _ (ext_eq q ⟨512 * (t.val % 4) + (y 0).val, _⟩ ⟨128 * (t.val / 4) + (y 1).val, _⟩).symm
theorem iblk_k : iblk m c 1 t = up .bf16 (full (dat q k v q (t.val / 4)).K ) := funext fun (y : S2048x128.Idx) => by
  have hN := lt16 t
  have h0 : (y 0).val < 2048 := (y 0).isLt
  have h1 : (y 1).val < 128 := (y 1).isLt
  refine Eq.trans ?_ ((V_k m c ⟨(y 0).val, by omega⟩ ⟨128 * (t.val / 4) + (y 1).val, by omega⟩).trans ?_)
  · blk_ext [iblk, idx t]
  · rw [H.k]
    exact congrArg _ (ext_eq k ⟨(y 0).val, _⟩ ⟨128 * (t.val / 4) + (y 1).val, _⟩).symm
theorem iblk_v : iblk m c 2 t = up .bf16 (full (dat q k v q (t.val / 4)).V ) := funext fun (y : S2048x128.Idx) => by
  have hN := lt16 t
  have h0 : (y 0).val < 2048 := (y 0).isLt
  have h1 : (y 1).val < 128 := (y 1).isLt
  refine Eq.trans ?_ ((V_v m c ⟨(y 0).val, by omega⟩ ⟨128 * (t.val / 4) + (y 1).val, by omega⟩).trans ?_)
  · blk_ext [iblk, idx t]
  · rw [H.v]
    exact congrArg _ (ext_eq v ⟨(y 0).val, _⟩ ⟨128 * (t.val / 4) + (y 1).val, _⟩).symm

/-- What point `t` writes. -/
theorem outs : (outsAt0 m c t).1 = up .bf16 (half (out (dat q k v q (t.val / 4)) 2048) (512 * (t.val % 4))) ∧
    (outsAt0 m c t).2 = up .f32 (half (fun r l => (dat q k v q (t.val / 4)).E (l / 64) r) (512 * (t.val % 4))) := by
  unfold outsAt0
  dsimp only
  rw [iblk_q H, iblk_k H, iblk_v H]
  exact point c (grid0.coords t) (ms0_0 t) (hs0_0 t) (ms0_1 t) (hs0_1 t) (ms0_2 t) (hs0_2 t) (ms0_3 t) (hs0_3 t) (ms0_4 t) (hs0_4 t)
    (dat q k v q (t.val / 4)) (fun h r hh => total q k v _ h r hh) (512 * (t.val % 4)) (by rw [coords1])

/-- A result, given for each pair of heads, as an array. -/
def result (f : ℕ → ℕ → ℕ → ℝ) (y : S2048x512.Idx) : EReal := ((f ((y 1).val / 128) (y 0).val ((y 1).val % 128) : ℝ) : EReal)

omit t in
theorem final_o : (dats m 0 c).arrAt 3 (cfgs 0).N = result fun p => out (dat q k v q p) 2048 := by
  refine (dats m 0 c).arrAt_eq_of_covers 3 _ (by decide +kernel) fun t hf y => ?_
  have h1 : (y 1).val < 128 := (y 1).isLt
  rw [after0_3, (outs H t).1]
  unfold result
  blk_simp [idx t]
  rw [show (t.val / 4 * 128 + (y 1).val) / 128 = t.val / 4 by omega, show (t.val / 4 * 128 + (y 1).val) % 128 = (y 1).val by omega, Nat.mul_comm (t.val % 4) 512]
  rfl

omit t in
theorem final_c : (dats m 0 c).arrAt 4 (cfgs 0).N = result fun p r l => (dat q k v q p).E (l / 64) r := by
  refine (dats m 0 c).arrAt_eq_of_covers 4 _ (by decide +kernel) fun t hf y => ?_
  have h1 : (y 1).val < 128 := (y 1).isLt
  rw [after0_4, (outs H t).2]
  unfold result
  blk_simp [idx t]
  rw [show (t.val / 4 * 128 + (y 1).val) / 128 = t.val / 4 by omega, show (t.val / 4 * 128 + (y 1).val) % 128 = (y 1).val by omega, Nat.mul_comm (t.val % 4) 512]
  rfl

end Cert.Proof.Af

end
-- ==== Proof.AfRef.lean ====
/- The forward lines of the stick-breaking attention and the rows' totals of `log₂ (1 - β)`, read at an index at finite arguments. -/
module

public import proofs.«01_k».proof.Proof.AfArray
public import proofs.«01_k».proof.Proof.SbRef
public import proofs.«01_k».proof.Proof.Gen.ReferenceAfIdeal.Read

@[expose] public section

set_option maxRecDepth 16384

noncomputable section

namespace Cert.Proof.AfRef

open Cert.ReferenceAfIdeal Cert.ReferenceAfIdeal.Gen Cert.ReferenceAfIdeal.Read Idealize.ShloMosaic
open Cert.Proof.Sb (Arr ext ext_eq zz dat lmR lbR eighth_f32 two_f32)
open Cert.Proof.SbRef (soft_if lmR_neg two_pow log_two Z_head M_head E_head select_before zero_id window sum_from)

variable (q k v : Arr) (H : Fin 8) (r s : Fin 2048)

theorem at29 : val_main_v29 (F := Ideal) (fun i => (q i : EReal)) (fun i => (k i : EReal)) (ix4 0 H r s) = ((zz q k H.val r.val s.val * (1 / 8) : ℝ) : EReal) := by
  pointwise [val_main_v29, val_main_v28, val_main_cst_3, val_main_v27, val_main_v26, val_main_v25, val_main_v24, val_main_v23]
  rw [coe_sum_mul, eighth_f32, ← EReal.coe_mul]
  unfold zz
  congr 2
  exact Fin.sum_fin_congr fun d => by
    rw [← ext_eq q r ⟨H.val * 64 + d.val, by omega⟩, ← ext_eq k s ⟨H.val * 64 + d.val, by omega⟩]

theorem at39 : val_main_v39 (F := Ideal) (fun i => (q i : EReal)) (fun i => (k i : EReal)) (ix4 0 H r s) = ((lmR (zz q k H.val r.val s.val) * Real.log 2 : ℝ) : EReal) := by
  pointwise [val_main_v38, val_main_v39, val_main_call4_v0, val_main_call4_v1, val_main_call4_call0_cst, val_main_call4_call0_v0, val_main_call4_call0_v1, val_main_call4_call0_v2, val_main_call4_call0_v3, val_main_call4_call0_v4, val_main_call4_call0_v5, val_main_call4_call0_v6, val_main_call4_call0_v7, val_main_call4_call0_v8, val_main_call4_call0_v9, val_main_call4_call0_v10, val_main_call4_call0_v11]
  rw [at29 q k H r s, neg_neg, soft_if, ← EReal.coe_neg, neg_neg]

theorem at37 : val_main_v37 (F := Ideal) (fun i => (q i : EReal)) (fun i => (k i : EReal)) (ix4 0 H r s) = ((lbR (zz q k H.val r.val s.val) * Real.log 2 : ℝ) : EReal) := by
  pointwise [val_main_v37, val_main_call3_v0, val_main_call3_v1, val_main_call3_call0_cst, val_main_call3_call0_v0, val_main_call3_call0_v1, val_main_call3_call0_v2, val_main_call3_call0_v3, val_main_call3_call0_v4, val_main_call3_call0_v5, val_main_call3_call0_v6, val_main_call3_call0_v7, val_main_call3_call0_v8, val_main_call3_call0_v9, val_main_call3_call0_v10, val_main_call3_call0_v11]
  rw [at29 q k H r s, ← EReal.coe_neg, ← neg_mul, soft_if, ← EReal.coe_neg, neg_neg, lmR_neg]

theorem at40 : val_main_v40 (F := Ideal) (fun i => (q i : EReal)) (fun i => (k i : EReal)) (ix4 0 H r s) = (((dat q k v q (H.val / 2)).M (H.val % 2) r.val s.val * Real.log 2 : ℝ) : EReal) := by
  pointwise [val_main_v40, val_main_v36, val_main_v35, val_main_v34, val_main_v33, val_main_v32, val_main_v31, val_main_v30, val_main_call5_v1, val_main_call5_v2, val_main_call5_v0, val_main_cst_4]
  rw [at39 q k H r s, zero_id, select_before, M_head, ite_mul, zero_mul]

theorem at17 : val_main_v17 (F := Ideal) (fun i => (q i : EReal)) (fun i => (k i : EReal)) (ix4 0 H r s) = (((dat q k v q (H.val / 2)).M (H.val % 2) r.val s.val * Real.log 2 : ℝ) : EReal) :=
  at40 q k v H r s

theorem at41 : val_main_v41 (F := Ideal) (fun i => (q i : EReal)) (fun i => (k i : EReal)) (ix4 0 H r s) = ((((dat q k v q (H.val / 2)).CL (H.val % 2) r.val 2048 - (dat q k v q (H.val / 2)).CL (H.val % 2) r.val s.val) * Real.log 2 : ℝ) : EReal) := by
  have e : val_main_call6_v0 (F := Ideal) (Shape.Idx.first h_S_) = 0 := by
    pointwise [val_main_call6_v0, val_main_call6_cst]
  unfold val_main_v41 Host.reduceWindowAdd
  rw [Ideal.hostReduceWindowAdd_def, e, window 0 _ _ (fun u => (((dat q k v q (H.val / 2)).M (H.val % 2) r.val u * Real.log 2 : ℝ) : EReal)) H r s (fun u => at40 q k v H r u),
    sum_from (fun u => (dat q k v q (H.val / 2)).M (H.val % 2) r.val u * Real.log 2) s, ← Finset.sum_mul, ← Finset.sum_mul, ← sub_mul]
  rfl

theorem at44 : val_main_v44 (F := Ideal) (fun i => (q i : EReal)) (fun i => (k i : EReal)) (ix4 0 H r s) = ((Real.rpow 2 (lbR (zz q k H.val r.val s.val) + ((dat q k v q (H.val / 2)).E (H.val % 2) r.val - (dat q k v q (H.val / 2)).CL (H.val % 2) r.val (s.val + 1))) : ℝ) : EReal) := by
  pointwise [val_main_v44, val_main_v43, val_main_v42]
  rw [at37 q k H r s, at41 q k v H r s, at40 q k v H r s, ← EReal.coe_add, ← EReal.coe_sub, Ideal.exp_coe, two_pow, E_head]
  congr 2
  unfold Sb.Data.CL
  rw [Finset.sum_range_succ _ s.val]
  ring

theorem at45 : val_main_v45 (F := Ideal) (fun i => (q i : EReal)) (fun i => (k i : EReal)) (ix4 0 H r s) = (((dat q k v q (H.val / 2)).A (H.val % 2) r.val s.val : ℝ) : EReal) := by
  pointwise [val_main_v45, val_main_v36, val_main_v35, val_main_v34, val_main_v33, val_main_v32, val_main_v31, val_main_v30, val_main_call7_v1, val_main_call7_v2, val_main_call7_v0, val_main_cst_5]
  rw [at44 q k v H r s, zero_id, select_before]
  unfold Sb.Data.A
  rw [Z_head]

theorem res_o : val_main_v52 (F := Ideal) (fun i => (q i : EReal)) (fun i => (k i : EReal)) (fun i => (v i : EReal)) = Af.result fun p => Af.out (dat q k v q p) 2048 := by
  funext y
  obtain ⟨r, c, rfl⟩ : ∃ (a : Fin 2048) (b : Fin 512), y = ix2 a b := ⟨y 0, y 1, eq_ix2 y⟩
  pointwise [val_main_v52, val_main_v51, val_main_v50, val_main_v49, val_main_v48, val_main_v47, val_main_v46]
  have hp : c.val / 64 / 2 = c.val / 128 := by omega
  have hh : c.val / 64 % 2 = c.val % 128 / 64 := by omega
  have hc : 128 * (c.val / 128) + c.val % 128 = c.val := by omega
  simp only [at45 q k v, ← EReal.coe_mul, ← coe_sum]
  refine congrArg _ ?_
  show _ = Af.out (dat q k v q (c.val / 128)) 2048 r.val (c.val % 128)
  rw [hp, hh]
  unfold Af.out
  rw [← Fin.sum_univ_eq_sum_range (fun u => (dat q k v q (c.val / 128)).A (c.val % 128 / 64) r.val u * (dat q k v q (c.val / 128)).V u (c.val % 128)) 2048]
  refine Finset.sum_congr rfl fun x _ => ?_
  show _ = _ * ext v x.val (128 * (c.val / 128) + c.val % 128)
  rw [hc, ext_eq v x c]

theorem res_c : val_main_v57 (F := Ideal) (fun i => (q i : EReal)) (fun i => (k i : EReal)) = Af.result fun p r l => (dat q k v q p).E (l / 64) r := by
  funext y
  obtain ⟨r, c, rfl⟩ : ∃ (a : Fin 2048) (b : Fin 512), y = ix2 a b := ⟨y 0, y 1, eq_ix2 y⟩
  pointwise [val_main_v57, val_main_v56, val_main_v55, val_main_v54, val_main_v53, val_main_v22, val_main_v21, val_main_v20, val_main_v19, val_main_v18, val_main_cst_1, val_main_cst_2]
  have hp : c.val / 64 / 2 = c.val / 128 := by omega
  have hh : c.val / 64 % 2 = c.val % 128 / 64 := by omega
  simp only [at17 q k v]
  have h2 := log_two
  have e : id (Host.log (constant (F := Ideal) S_ .f32 0x40000000#32)) ix0 = ((Real.log 2 : ℝ) : EReal) := by
    show Ideal.log (Ideal.ofBits .f32 1073741824#32) = _
    rw [two_f32, Ideal.log_coe, if_neg (by norm_num)]
  rw [← coe_sum, ← Finset.sum_mul, e, Ideal.div_coe h2.ne', ← EReal.coe_mul,
    mul_assoc, mul_one_div_cancel h2.ne', mul_one]
  refine congrArg _ ?_
  show _ = (dat q k v q (c.val / 128)).E (c.val % 128 / 64) r.val
  rw [← hp, ← hh, E_head q k v q ⟨c.val / 64, by omega⟩]
  exact Fin.sum_univ_eq_sum_range (fun x => (dat q k v q (c.val / 64 / 2)).M (c.val / 64 % 2) r.val x) 2048

end Cert.Proof.AfRef

end
-- ==== Proof.Af.lean ====
/- The stick-breaking attention forward: the claims. -/
module

public import proofs.«01_k».proof.Defs
public import proofs.«01_k».proof.Proof.AfRef
public import proofs.«01_k».proof.Proof.Gen.KernelAf.Frame
public import proofs.«01_k».proof.Proof.Gen.KernelAfIdeal.Value
public import proofs.«01_k».proof.Proof.Gen.ReferenceAfIdeal.Run
public import proofs.«01_k».proof.Proof.Gen.Pre_finite_af

@[expose] public section

set_option maxRecDepth 16384

noncomputable section

namespace Cert.Proof.Af

open Idealize.ShloMosaic Idealize.SL.Sem
open Cert.KernelAfIdeal (nD τ sig main_arg0 main_arg1 main_arg2 cfgs)
open Cert.KernelAfIdeal.Gen
open Cert.Proof.Sb (Arr)

theorem frame_kernel : Cert.quiescent_KernelAf := fun m ρ _ => Cert.KernelAf.Gen.frame m ρ
theorem frame_ideal : Cert.quiescent_KernelAfIdeal := fun m ρ _ => Cert.KernelAfIdeal.Gen.frame m ρ
theorem frame_ideal_pre : Cert.quiescent_KernelAfIdeal_pre_finite_af := fun m ρ _ => Cert.KernelAfIdeal.Gen.frame m ρ
theorem frame_ref : Cert.quiescent_ReferenceAfIdeal := fun m ρ _ =>
  (θ_run _ _ _).mono (fun r h => ⟨fun c => (h c).2.2, sem_eq_zero_of_no_sems (by decide) r.2⟩) (Cert.ReferenceAfIdeal.Value.run m ρ)
theorem frame_ref_pre : Cert.quiescent_ReferenceAfIdeal_pre_finite_af := fun m ρ _ => frame_ref m ρ trivial

theorem preserves : Cert.preserves_KernelAf_KernelAfIdeal :=
  ⟨IdealRules.named_const.statement Cert.KernelAfIdeal.κ "scale_log2e" .f32 0x3E38AA3B#32 _ rfl, IdealRules.named_const.statement Cert.KernelAfIdeal.κ "log2e" .f32 0x3FB8AA3B#32 _ rfl⟩

/-- What the precondition says of one device's arguments. -/
theorem reals_of_pre (m : (ℓ : Loc nD τ sig) → Buf (Elt Ideal) ℓ) (c : Dev nD) (h : Cert.Pre_KernelAfIdeal_finite_af m) :
    ∃ q k v : Arr, Args m c q k v := by
  obtain ⟨q, hq⟩ := reals_of fun i => real_of_abs_lt (congrFun (h c).1 i)
  obtain ⟨k, hk⟩ := reals_of fun i => real_of_abs_lt (congrFun (h c).2.1 i)
  obtain ⟨v, hv⟩ := reals_of fun i => real_of_abs_lt (congrFun (h c).2.2 i)
  exact ⟨q, k, v, hq, hk, hv⟩

theorem algebraic : Cert.algebraic_KernelAfIdeal_ReferenceAfIdeal_pre_finite_af := fun m ρ m' ρ' hpre hag =>
  ⟨fun c => (dats m 0 c).arrAt 3 (cfgs 0).N, fun c => (dats m 0 c).arrAt 4 (cfgs 0).N,
    Cert.KernelAfIdeal.Value.run_blocks m ρ,
    (θ_run _ _ _).mono (fun _ h c => by
      obtain ⟨q, k, v, H⟩ := reals_of_pre m c hpre
      obtain ⟨e0, e1, e2⟩ := hag c
      refine ⟨(h c).1.trans ((Cert.ReferenceAfIdeal.Read.val_main_v52_eq _ _).trans ?_),
        (h c).2.1.trans ((Cert.ReferenceAfIdeal.Read.val_main_v57_eq _ _).trans ?_), (h c).2.2⟩
      · rw [e0, e1, e2, H.q, H.k, H.v]
        exact (AfRef.res_o q k v).trans (final_o H).symm
      · rw [e0, e1, H.q, H.k]
        exact (AfRef.res_c q k v).trans (final_c H).symm) (Cert.ReferenceAfIdeal.Value.run m' ρ')⟩

end Cert.Proof.Af

end
-- ==== Proof.FfBlock.lean ====
/- SwiGLU's forward call, one block of rows at a time: what a grid point of `_ffn_fwd` leaves in its blocks of the four
   results. The first point copies the two weights into scratch, the first in six pieces, the second in two; the others
   find them there. -/
module

public import proofs.«01_k».proof.Proof.Gen.KernelFfIdeal.Value
public import proofs.«01_k».proof.Proof.LastBlock

@[expose] public section

set_option maxRecDepth 16384

noncomputable section

namespace Cert.Proof.Ff

open Cert.KernelFfIdeal Cert.KernelFfIdeal.Gen Cert.KernelFfIdeal.Value Idealize.ShloMosaic Idealize.ShloMosaic.TcCoe Idealize.SL.Sem
open Idealize.ShloMosaic.ValueIdx (reshapeEquiv_ix2_1ab)
open Cert.Proof.Norm (rms readCov_of_pieces)
open Cert.Proof.Fin (wide wide_at)
open Cert.Proof.Last (half normed pre act hid vec rows sum_halves at_start in_place)

/-- The four ranges of columns, and the two of rows, that the products take. -/
abbrev u1 (u : Vec Ideal S1024x5632 .bf16) := View.ld u (Rect.unit ![0, 0] ![1024, 1536] inb_S1024x5632_S1024x1536_0_0)
abbrev u2 (u : Vec Ideal S1024x5632 .bf16) := View.ld u (Rect.unit ![0, 1536] ![1024, 1280] inb_S1024x5632_S1024x1280_0_1536)
abbrev u3 (u : Vec Ideal S1024x5632 .bf16) := View.ld u (Rect.unit ![0, 2816] ![1024, 1536] inb_S1024x5632_S1024x1536_0_2816)
abbrev u4 (u : Vec Ideal S1024x5632 .bf16) := View.ld u (Rect.unit ![0, 4352] ![1024, 1280] inb_S1024x5632_S1024x1280_0_4352)
abbrev d1 (d : Vec Ideal S2816x1024 .bf16) := View.ld d (Rect.unit ![0, 0] ![1536, 1024] inb_S2816x1024_S1536x1024_0_0)
abbrev d2 (d : Vec Ideal S2816x1024 .bf16) := View.ld d (Rect.unit ![1536, 0] ![1280, 1024] inb_S2816x1024_S1280x1024_1536_0)

variable (x : Vec Ideal S256x1024 .f32) (g : Vec Ideal S1x1024 .f32) (u : Vec Ideal S1024x5632 .bf16) (d : Vec Ideal S2816x1024 .bf16)

def nrmR (r : Fin 256) : Fin 1024 → EReal := normed (rows x r) (rows g 0)
def preR (r : Fin 256) : Fin 5632 → EReal := pre (nrmR x g r) (rows u)
def actR (r : Fin 256) : Fin 2816 → EReal := act (preR x g u r)
def hidR (r : Fin 256) : Fin 1024 → EReal := hid (rows x r) (actR x g u r) (rows d)

theorem normed_rows : k0_pay3 x g = vec (nrmR x g) := by
  funext y
  obtain ⟨r, q, rfl⟩ : ∃ (a : Fin 256) (b : Fin 1024), y = ix2 a b := ⟨y 0, y 1, eq_ix2 y⟩
  unfold_payloads
  pointwise
  rfl

theorem stored_n : k0_pay4 x g = vec (nrmR x g) := by
  unfold k0_pay4
  rw [normed_rows]
  funext y
  obtain ⟨r, q, rfl⟩ : ∃ (a : Fin 256) (b : Fin 1024), y = ix2 a b := ⟨y 0, y 1, eq_ix2 y⟩
  pointwise

theorem kept_lo (z : FVec Ideal S256x1536 .bf16) : shapeCast S256x1536 z shapeCasts_S256x1536_S256x1536 = z := by
  funext y
  pointwise

theorem kept_hi (z : FVec Ideal S256x1280 .bf16) : shapeCast S256x1280 z shapeCasts_S256x1280_S256x1280 = z := by
  funext y
  pointwise

theorem gates_lo : k0_pay6 (vec (nrmR x g)) (u1 u) = vec fun r (j : Fin 1536) => preR x g u r ⟨j.val, by omega⟩ := by
  funext y
  obtain ⟨r, q, rfl⟩ : ∃ (a : Fin 256) (b : Fin 1536), y = ix2 a b := ⟨y 0, y 1, eq_ix2 y⟩
  unfold_payloads
  unfold u1
  pointwise
  rfl

theorem ups_lo : k0_pay7 (vec (nrmR x g)) (u3 u) = vec fun r (j : Fin 1536) => preR x g u r ⟨2816 + j.val, by omega⟩ := by
  funext y
  obtain ⟨r, q, rfl⟩ : ∃ (a : Fin 256) (b : Fin 1536), y = ix2 a b := ⟨y 0, y 1, eq_ix2 y⟩
  unfold_payloads
  unfold u3
  pointwise
  rfl

theorem gates_hi : k0_pay14 (vec (nrmR x g)) (u2 u) = vec fun r (j : Fin 1280) => preR x g u r ⟨1536 + j.val, by omega⟩ := by
  funext y
  obtain ⟨r, q, rfl⟩ : ∃ (a : Fin 256) (b : Fin 1280), y = ix2 a b := ⟨y 0, y 1, eq_ix2 y⟩
  unfold_payloads
  unfold u2
  pointwise
  rfl

theorem ups_hi : k0_pay15 (vec (nrmR x g)) (u4 u) = vec fun r (j : Fin 1280) => preR x g u r ⟨4352 + j.val, by omega⟩ := by
  funext y
  obtain ⟨r, q, rfl⟩ : ∃ (a : Fin 256) (b : Fin 1280), y = ix2 a b := ⟨y 0, y 1, eq_ix2 y⟩
  unfold_payloads
  unfold u4
  pointwise
  rfl

theorem stored_gates_lo : k0_pay8 (vec (nrmR x g)) (u1 u) = vec fun r (j : Fin 1536) => preR x g u r ⟨j.val, by omega⟩ := by
  funext y
  obtain ⟨r, q, rfl⟩ : ∃ (a : Fin 256) (b : Fin 1536), y = ix2 a b := ⟨y 0, y 1, eq_ix2 y⟩
  unfold_payloads
  unfold u1
  pointwise
  rfl

theorem stored_ups_lo : k0_pay10 (k0_pay9 (vec (nrmR x g)) (u3 u)) = vec fun r (j : Fin 1536) => preR x g u r ⟨2816 + j.val, by omega⟩ := by
  funext y
  obtain ⟨r, q, rfl⟩ : ∃ (a : Fin 256) (b : Fin 1536), y = ix2 a b := ⟨y 0, y 1, eq_ix2 y⟩
  unfold_payloads
  unfold u3
  pointwise
  rfl

theorem stored_gates_hi : k0_pay16 (k0_pay14 (vec (nrmR x g)) (u2 u)) = vec fun r (j : Fin 1280) => preR x g u r ⟨1536 + j.val, by omega⟩ := by
  funext y
  obtain ⟨r, q, rfl⟩ : ∃ (a : Fin 256) (b : Fin 1280), y = ix2 a b := ⟨y 0, y 1, eq_ix2 y⟩
  unfold_payloads
  unfold u2
  pointwise
  rfl

theorem stored_ups_hi : k0_pay17 (vec (nrmR x g)) (u4 u) = vec fun r (j : Fin 1280) => preR x g u r ⟨4352 + j.val, by omega⟩ := by
  funext y
  obtain ⟨r, q, rfl⟩ : ∃ (a : Fin 256) (b : Fin 1280), y = ix2 a b := ⟨y 0, y 1, eq_ix2 y⟩
  unfold_payloads
  unfold u4
  pointwise
  rfl

theorem acts_lo : k0_pay11 (k0_pay6 (vec (nrmR x g)) (u1 u)) (k0_pay7 (vec (nrmR x g)) (u3 u)) = vec fun r (j : Fin 1536) => actR x g u r ⟨j.val, by omega⟩ := by
  unfold k0_pay11
  rw [gates_lo, ups_lo]
  funext y
  obtain ⟨r, q, rfl⟩ : ∃ (a : Fin 256) (b : Fin 1536), y = ix2 a b := ⟨y 0, y 1, eq_ix2 y⟩
  pointwise
  rfl

theorem acts_hi : k0_pay18 (vec (nrmR x g)) (k0_pay14 (vec (nrmR x g)) (u2 u)) (u4 u) = vec fun r (j : Fin 1280) => actR x g u r ⟨1536 + j.val, by omega⟩ := by
  unfold k0_pay18
  rw [gates_hi, ups_hi]
  funext y
  obtain ⟨r, q, rfl⟩ : ∃ (a : Fin 256) (b : Fin 1280), y = ix2 a b := ⟨y 0, y 1, eq_ix2 y⟩
  pointwise
  exact congrArg (fun z => half * (preR x g u r ⟨1536 + q.val, by omega⟩ * Ideal.logistic (preR x g u r ⟨1536 + q.val, by omega⟩) * preR x g u r z))
    (Fin.ext (by show 4352 + q.val = 2816 + (1536 + q.val); omega) : (⟨4352 + q.val, by omega⟩ : Fin 5632) = ⟨2816 + (1536 + q.val), by omega⟩)

theorem stored_acts_lo : k0_pay12 (k0_pay6 (vec (nrmR x g)) (u1 u)) (k0_pay7 (vec (nrmR x g)) (u3 u)) = vec fun r (j : Fin 1536) => actR x g u r ⟨j.val, by omega⟩ := by
  unfold k0_pay12
  rw [acts_lo]
  exact kept_lo _

theorem stored_acts_hi : k0_pay19 (vec (nrmR x g)) (k0_pay14 (vec (nrmR x g)) (u2 u)) (u4 u) = vec fun r (j : Fin 1280) => actR x g u r ⟨1536 + j.val, by omega⟩ := by
  unfold k0_pay19
  rw [acts_hi]
  exact kept_hi _

theorem hidden : k0_pay20 (k0_pay2 x) (vec (nrmR x g)) (k0_pay13 k0_pay5 (k0_pay6 (vec (nrmR x g)) (u1 u)) (k0_pay7 (vec (nrmR x g)) (u3 u)) (d1 d)) (k0_pay14 (vec (nrmR x g)) (u2 u)) (u4 u) (d2 d)
    = vec (hidR x g u d) := by
  unfold k0_pay20 k0_pay13
  rw [acts_lo, acts_hi]
  funext y
  obtain ⟨r, q, rfl⟩ : ∃ (a : Fin 256) (b : Fin 1024), y = ix2 a b := ⟨y 0, y 1, eq_ix2 y⟩
  unfold_payloads
  unfold d1 d2
  pointwise
  exact congrArg (x (ix2 r q) + ·) (sum_halves fun j => actR x g u r j * d (ix2 j q))

/-! The later points' products are the first's. -/

theorem later_n : k0_pay23 x g = vec (nrmR x g) := (rfl : _ = k0_pay4 x g).trans (stored_n x g)
theorem later_gates_lo : k0_pay27 x g (u1 u) = vec fun r (j : Fin 1536) => preR x g u r ⟨j.val, by omega⟩ :=
  (rfl : _ = k0_pay8 (k0_pay3 x g) (u1 u)).trans (by rw [normed_rows, stored_gates_lo])
theorem later_ups_lo : k0_pay28 x g (u3 u) = vec fun r (j : Fin 1536) => preR x g u r ⟨2816 + j.val, by omega⟩ :=
  (rfl : _ = k0_pay10 (k0_pay9 (k0_pay3 x g) (u3 u))).trans (by rw [normed_rows, stored_ups_lo])
theorem later_gates_hi : k0_pay35 (k0_pay22 x g) (u2 u) = vec fun r (j : Fin 1280) => preR x g u r ⟨1536 + j.val, by omega⟩ :=
  (rfl : _ = k0_pay16 (k0_pay14 (k0_pay3 x g) (u2 u))).trans (by rw [normed_rows, stored_gates_hi])
theorem later_ups_hi : k0_pay36 (k0_pay22 x g) (u4 u) = vec fun r (j : Fin 1280) => preR x g u r ⟨4352 + j.val, by omega⟩ :=
  (rfl : _ = k0_pay17 (k0_pay3 x g) (u4 u)).trans (by rw [normed_rows, stored_ups_hi])
theorem later_acts_lo : k0_pay32 (k0_pay29 x g (u1 u) (u3 u)) k0_pay30 = vec fun r (j : Fin 1536) => actR x g u r ⟨j.val, by omega⟩ :=
  (rfl : _ = k0_pay12 (k0_pay6 (k0_pay3 x g) (u1 u)) (k0_pay7 (k0_pay3 x g) (u3 u))).trans (by rw [normed_rows, stored_acts_lo])
theorem later_acts_hi : k0_pay38 (k0_pay22 x g) (u2 u) (u4 u) = vec fun r (j : Fin 1280) => actR x g u r ⟨1536 + j.val, by omega⟩ :=
  (rfl : _ = k0_pay19 (k0_pay3 x g) (k0_pay14 (k0_pay3 x g) (u2 u)) (u4 u)).trans (by rw [normed_rows, stored_acts_hi])
theorem later_hidden : k0_pay1 (k0_pay39 (k0_pay21 x) (k0_pay22 x g) k0_pay24 (k0_pay29 x g (u1 u) (u3 u)) k0_pay30 (d1 d) (u2 u) (u4 u) (d2 d)) = vec (hidR x g u d) :=
  (rfl : _ = k0_pay20 (k0_pay2 x) (k0_pay3 x g) (k0_pay13 k0_pay5 (k0_pay6 (k0_pay3 x g) (u1 u)) (k0_pay7 (k0_pay3 x g) (u3 u)) (d1 d))
    (k0_pay14 (k0_pay3 x g) (u2 u)) (u4 u) (d2 d)).trans (by rw [normed_rows, hidden])

theorem whole_rows : View.ld x (Rect.unit ![0, 0] ![256, 1024] inb_S256x1024_S256x1024_0_0) = x := View.ld_unit_zero Fin.hz _ _
theorem whole_gain : View.ld g (Rect.unit ![0, 0] ![1, 1024] inb_S1x1024_S1x1024_0_0) = g := View.ld_unit_zero Fin.hz _ _

variable (c : Dev nD) (i : grid0.Coords) (arg1 : Memref sig .tc .vmem S256x1024 .f32) (harg1 : arg1.IsWhole) (arg2 : Memref sig .tc .vmem S1x1024 .f32) (harg2 : arg2.IsWhole)
  (arg5 : Memref sig .tc .vmem S256x1024 .f32) (harg5 : arg5.IsWhole) (arg6 : Memref sig .tc .vmem S256x1024 .bf16) (harg6 : arg6.IsWhole)
  (arg7 : Memref sig .tc .vmem S256x5632 .bf16) (harg7 : arg7.IsWhole) (arg8 : Memref sig .tc .vmem S256x2816 .bf16) (harg8 : arg8.IsWhole)
  (arg9 : Memref sig .tc .vmem S1024x5632 .bf16) (harg9 : arg9.IsWhole) (arg10 : Memref sig .tc .vmem S2816x1024 .bf16) (harg10 : arg10.IsWhole)
  (fu : HbBuf0 (F := Ideal) c hbM0_0) (fd : HbBuf0 (F := Ideal) c hbM0_1)

/-- One copied piece: `n` columns from column `o` of the weight's block `p`, put at column `s`. -/
theorem piece_wide (p o n s : ℕ) (inb : ∀ a, (![p, 0, o] : Fin 3 → ℕ) a + (![1, 1024, n] : Fin 3 → ℕ) a ≤ S4x1024x1408.size a)
    (inb' : ∀ a, (![0, s] : Fin 2 → ℕ) a + (![1024, n] : Fin 2 → ℕ) a ≤ S1024x5632.size a)
    (hn : (⟨2, ![1024, n]⟩ : Shape).numel = (⟨3, ![1, 1024, n]⟩ : Shape).numel) (hs : s = p * 1408 + o) (x : (⟨2, ![1024, n]⟩ : Shape).Idx) :
    View.read (Elt Ideal) (((View.whole main_v3).slice (Rect.unit ![p, 0, o] ![1, 1024, n] inb)).reshape ⟨2, ![1024, n]⟩ hn) fu x = wide fu ((Rect.unit (s := S1024x5632) ![0, s] ![1024, n] inb').emb x) := by
  obtain ⟨r, q, rfl⟩ : ∃ (a : Fin 1024) (b : Fin n), x = ValueIdx.ix2 a b := ⟨x 0, x 1, eq_ix2 x⟩
  have hp : p + 1 ≤ 4 := inb 0
  have ho : o + n ≤ 1408 := inb 2
  have hq := q.isLt
  refine Eq.trans ?_ (wide_at fu _ p (by omega) (o + q.val) (by omega) ?_).symm
  · show fu ((Rect.unit ![p, 0, o] ![1, 1024, n] inb).emb (Shape.reshapeEquiv hn (ValueIdx.ix2 r q))) = _
    rw [reshapeEquiv_ix2_1ab]
    exact congrArg fu (funext fun a => by fin_cases a <;> exact Fin.ext (by simp [Rect.unit, Rect.emb]))
  · show s + 1 * q.val = _
    omega

/-- The copies of the two weights, the last first. -/
abbrev upPieces : List (View.Piece (Elt Ideal) S1024x5632 .bf16) :=
  [⟨Rect.unit ![0, 4352] ![1024, 1280] inb_S1024x5632_S1024x1280_0_4352, ReadAs.same.apply (View.read (Elt Ideal) (((View.whole main_v3).slice (Rect.unit ![3, 0, 128] ![1, 1024, 1280] inb_S4x1024x1408_S1x1024x1280_3_0_128)).reshape S1024x1280 squeezes_S1x1024x1280_S1024x1280.numel_eq) fu)⟩,
   ⟨Rect.unit ![0, 1536] ![1024, 1280] inb_S1024x5632_S1024x1280_0_1536, ReadAs.same.apply (View.read (Elt Ideal) (((View.whole main_v3).slice (Rect.unit ![1, 0, 128] ![1, 1024, 1280] inb_S4x1024x1408_S1x1024x1280_1_0_128)).reshape S1024x1280 squeezes_S1x1024x1280_S1024x1280.numel_eq) fu)⟩,
   ⟨Rect.unit ![0, 4224] ![1024, 128] inb_S1024x5632_S1024x128_0_4224, ReadAs.same.apply (View.read (Elt Ideal) (((View.whole main_v3).slice (Rect.unit ![3, 0, 0] ![1, 1024, 128] inb_S4x1024x1408_S1x1024x128_3_0_0)).reshape S1024x128 squeezes_S1x1024x128_S1024x128.numel_eq) fu)⟩,
   ⟨Rect.unit ![0, 2816] ![1024, 1408] inb_S1024x5632_S1024x1408_0_2816, ReadAs.same.apply (View.read (Elt Ideal) (((View.whole main_v3).slice (Rect.unit ![2, 0, 0] ![1, 1024, 1408] inb_S4x1024x1408_S1x1024x1408_2_0_0)).reshape S1024x1408 squeezes_S1x1024x1408_S1024x1408.numel_eq) fu)⟩,
   ⟨Rect.unit ![0, 1408] ![1024, 128] inb_S1024x5632_S1024x128_0_1408, ReadAs.same.apply (View.read (Elt Ideal) (((View.whole main_v3).slice (Rect.unit ![1, 0, 0] ![1, 1024, 128] inb_S4x1024x1408_S1x1024x128_1_0_0)).reshape S1024x128 squeezes_S1x1024x128_S1024x128.numel_eq) fu)⟩,
   ⟨Rect.unit ![0, 0] ![1024, 1408] inb_S1024x5632_S1024x1408_0_0, ReadAs.same.apply (View.read (Elt Ideal) (((View.whole main_v3).slice (Rect.unit ![0, 0, 0] ![1, 1024, 1408] inb_S4x1024x1408_S1x1024x1408_0_0_0)).reshape S1024x1408 squeezes_S1x1024x1408_S1024x1408.numel_eq) fu)⟩]

abbrev downPieces : List (View.Piece (Elt Ideal) S2816x1024 .bf16) :=
  [⟨Rect.unit ![1536, 0] ![1280, 1024] inb_S2816x1024_S1280x1024_1536_0, ReadAs.same.apply (View.read (Elt Ideal) ((View.whole main_v6).slice (Rect.unit ![1536, 0] ![1280, 1024] inb_S2816x1024_S1280x1024_1536_0)) fd)⟩,
   ⟨Rect.unit ![0, 0] ![1536, 1024] inb_S2816x1024_S1536x1024_0_0, ReadAs.same.apply (View.read (Elt Ideal) ((View.whole main_v6).slice (Rect.unit ![0, 0] ![1536, 1024] inb_S2816x1024_S1536x1024_0_0)) fd)⟩]

theorem up_pieces : View.PiecesOf (Val := Elt Ideal) (wide fu) (upPieces c fu) :=
  ⟨fun x => piece_wide c fu 3 128 1280 4352 inb_S4x1024x1408_S1x1024x1280_3_0_128 inb_S1024x5632_S1024x1280_0_4352 squeezes_S1x1024x1280_S1024x1280.numel_eq rfl x,
    fun x => piece_wide c fu 1 128 1280 1536 inb_S4x1024x1408_S1x1024x1280_1_0_128 inb_S1024x5632_S1024x1280_0_1536 squeezes_S1x1024x1280_S1024x1280.numel_eq rfl x,
    fun x => piece_wide c fu 3 0 128 4224 inb_S4x1024x1408_S1x1024x128_3_0_0 inb_S1024x5632_S1024x128_0_4224 squeezes_S1x1024x128_S1024x128.numel_eq rfl x,
    fun x => piece_wide c fu 2 0 1408 2816 inb_S4x1024x1408_S1x1024x1408_2_0_0 inb_S1024x5632_S1024x1408_0_2816 squeezes_S1x1024x1408_S1024x1408.numel_eq rfl x,
    fun x => piece_wide c fu 1 0 128 1408 inb_S4x1024x1408_S1x1024x128_1_0_0 inb_S1024x5632_S1024x128_0_1408 squeezes_S1x1024x128_S1024x128.numel_eq rfl x,
    fun x => piece_wide c fu 0 0 1408 0 inb_S4x1024x1408_S1x1024x1408_0_0_0 inb_S1024x5632_S1024x1408_0_0 squeezes_S1x1024x1408_S1024x1408.numel_eq rfl x, trivial⟩

theorem down_pieces : View.PiecesOf (Val := Elt Ideal) fd (downPieces c fd) := ⟨fun _ => rfl, fun _ => rfl, trivial⟩

theorem up_cover (y : S1024x5632.Idx) : ∃ p ∈ upPieces c fu, y ∈ p.1.set :=
  View.cover_of_tiledBy (upPieces c fu) ![1024, 128] (by sl_kernel_rfl) y

theorem down_cover (y : S2816x1024.Idx) : ∃ p ∈ downPieces c fd, y ∈ p.1.set :=
  View.cover_of_tiledBy (downPieces c fd) ![256, 1024] (by sl_kernel_rfl) y

theorem up_first (hc0 : cond0_0 i) (hc1 : ¬cond0_1 i) : sout0_A_0 c i arg1 harg1 arg2 harg2 arg5 harg5 arg6 harg6 arg7 harg7 arg8 harg8 arg9 harg9 arg10 harg10 hc0 hc1 x g fu fd = wide fu := by
  funext y
  unfold sout0_A_0
  rw [View.read_writes_eq_canon _ _ _ (scover0_A_0 c i arg1 harg1 arg2 harg2 arg5 harg5 arg6 harg6 arg7 harg7 arg8 harg8 arg9 harg9 arg10 harg10 hc0 hc1 x g fu fd)]
  exact View.canon_apply_of_pieces (Val := Elt Ideal) (wide fu) (upPieces c fu) (View.PiecesOf.mem (up_pieces c fu)) y (up_cover c fu y)

theorem down_first (hc0 : cond0_0 i) (hc1 : ¬cond0_1 i) : sout0_A_1 c i arg1 harg1 arg2 harg2 arg5 harg5 arg6 harg6 arg7 harg7 arg8 harg8 arg9 harg9 arg10 harg10 hc0 hc1 x g fu fd = fd := by
  funext y
  unfold sout0_A_1
  rw [View.read_writes_eq_canon _ _ _ (scover0_A_1 c i arg1 harg1 arg2 harg2 arg5 harg5 arg6 harg6 arg7 harg7 arg8 harg8 arg9 harg9 arg10 harg10 hc0 hc1 x g fu fd)]
  exact View.canon_apply_of_pieces (Val := Elt Ideal) (fd) (downPieces c fd) (View.PiecesOf.mem (down_pieces c fd)) y (down_cover c fd y)

theorem h_first (hc0 : cond0_0 i) (hc1 : ¬cond0_1 i) (r : Fin 256) (q : Fin 1024) : out0_A_2 c i arg1 harg1 arg2 harg2 arg5 harg5 arg6 harg6 arg7 harg7 arg8 harg8 arg9 harg9 arg10 harg10 hc0 hc1 x g fu fd (ix2 r q) = hidR x g (wide fu) fd r q := by
  frame_out
  simp only [readCov_of_pieces (Val := Elt Ideal) arg9.view (wide fu) (upPieces c fu) (up_pieces c fu) (up_cover c fu),
      readCov_of_pieces (Val := Elt Ideal) arg10.view fd (downPieces c fd) (down_pieces c fd) (down_cover c fd)]
  rw [normed_rows, hidden]
  rfl

theorem n_first (hc0 : cond0_0 i) (hc1 : ¬cond0_1 i) (r : Fin 256) (q : Fin 1024) : out0_A_3 c i arg1 harg1 arg2 harg2 arg5 harg5 arg6 harg6 arg7 harg7 arg8 harg8 arg9 harg9 arg10 harg10 hc0 hc1 x g fu fd (ix2 r q) = nrmR x g r q := by
  frame_out
  rw [stored_n]
  rfl

theorem gu_first (hc0 : cond0_0 i) (hc1 : ¬cond0_1 i) (y : S256x5632.Idx) : out0_A_4 c i arg1 harg1 arg2 harg2 arg5 harg5 arg6 harg6 arg7 harg7 arg8 harg8 arg9 harg9 arg10 harg10 hc0 hc1 x g fu fd y = vec (preR x g (wide fu)) y := by
  unfold out0_A_4
  rw [View.read_writes_eq_canon _ _ _ (cover0_A_4 c i arg1 harg1 arg2 harg2 arg5 harg5 arg6 harg6 arg7 harg7 arg8 harg8 arg9 harg9 arg10 harg10 hc0 hc1 x g fu fd)]
  refine View.canon_apply_of_pieces (Val := Elt Ideal) (vec (preR x g (wide fu))) _ (View.PiecesOf.mem ?_) y (cover0_A_4 c i arg1 harg1 arg2 harg2 arg5 harg5 arg6 harg6 arg7 harg7 arg8 harg8 arg9 harg9 arg10 harg10 hc0 hc1 x g fu fd y)
  unfold kernelRun0_A
  dsimp only
  refine ⟨fun x => ?_, fun x => ?_, fun x => ?_, fun x => ?_, trivial⟩
  all_goals
    dsimp only
    open_payloads
    sl_unfold_words
    simp only [View.readAt_eq_ld, whole_rows, whole_gain, harg1.read_unread, harg2.read_unread]
    simp only [readCov_of_pieces (Val := Elt Ideal) arg9.view (wide fu) (upPieces c fu) (up_pieces c fu) (up_cover c fu),
        readCov_of_pieces (Val := Elt Ideal) arg10.view fd (downPieces c fd) (down_pieces c fd) (down_cover c fd)]
  · rw [normed_rows, stored_ups_hi]
    exact in_place _ _ x _
  · rw [normed_rows, stored_gates_hi]
    exact in_place _ _ x _
  · rw [normed_rows, stored_ups_lo]
    exact in_place _ _ x _
  · rw [normed_rows, stored_gates_lo]
    exact at_start _ _ x _

theorem a_first (hc0 : cond0_0 i) (hc1 : ¬cond0_1 i) (y : S256x2816.Idx) : out0_A_5 c i arg1 harg1 arg2 harg2 arg5 harg5 arg6 harg6 arg7 harg7 arg8 harg8 arg9 harg9 arg10 harg10 hc0 hc1 x g fu fd y = vec (actR x g (wide fu)) y := by
  unfold out0_A_5
  rw [View.read_writes_eq_canon _ _ _ (cover0_A_5 c i arg1 harg1 arg2 harg2 arg5 harg5 arg6 harg6 arg7 harg7 arg8 harg8 arg9 harg9 arg10 harg10 hc0 hc1 x g fu fd)]
  refine View.canon_apply_of_pieces (Val := Elt Ideal) (vec (actR x g (wide fu))) _ (View.PiecesOf.mem ?_) y (cover0_A_5 c i arg1 harg1 arg2 harg2 arg5 harg5 arg6 harg6 arg7 harg7 arg8 harg8 arg9 harg9 arg10 harg10 hc0 hc1 x g fu fd y)
  unfold kernelRun0_A
  dsimp only
  refine ⟨fun x => ?_, fun x => ?_, trivial⟩
  all_goals
    dsimp only
    open_payloads
    sl_unfold_words
    simp only [View.readAt_eq_ld, whole_rows, whole_gain, harg1.read_unread, harg2.read_unread]
    simp only [readCov_of_pieces (Val := Elt Ideal) arg9.view (wide fu) (upPieces c fu) (up_pieces c fu) (up_cover c fu),
        readCov_of_pieces (Val := Elt Ideal) arg10.view fd (downPieces c fd) (down_pieces c fd) (down_cover c fd)]
  · rw [normed_rows, stored_acts_hi]
    exact in_place _ _ x _
  · rw [normed_rows, stored_acts_lo]
    exact at_start _ _ x _

theorem h_later (hc0 : ¬cond0_0 i) (hc1 : cond0_1 i) (r : Fin 256) (q : Fin 1024) : out0_B_2 c i arg1 harg1 arg2 harg2 arg5 harg5 arg6 harg6 arg7 harg7 arg8 harg8 arg9 harg9 arg10 harg10 hc0 hc1 x g u d fu fd (ix2 r q) = hidR x g u d r q := by
  frame_out
  rw [later_hidden]
  rfl

theorem n_later (hc0 : ¬cond0_0 i) (hc1 : cond0_1 i) (r : Fin 256) (q : Fin 1024) : out0_B_3 c i arg1 harg1 arg2 harg2 arg5 harg5 arg6 harg6 arg7 harg7 arg8 harg8 arg9 harg9 arg10 harg10 hc0 hc1 x g u d fu fd (ix2 r q) = nrmR x g r q := by
  frame_out
  rw [later_n]
  rfl

theorem gu_later (hc0 : ¬cond0_0 i) (hc1 : cond0_1 i) (y : S256x5632.Idx) : out0_B_4 c i arg1 harg1 arg2 harg2 arg5 harg5 arg6 harg6 arg7 harg7 arg8 harg8 arg9 harg9 arg10 harg10 hc0 hc1 x g u d fu fd y = vec (preR x g u) y := by
  unfold out0_B_4
  rw [View.read_writes_eq_canon _ _ _ (cover0_B_4 c i arg1 harg1 arg2 harg2 arg5 harg5 arg6 harg6 arg7 harg7 arg8 harg8 arg9 harg9 arg10 harg10 hc0 hc1 x g u d fu fd)]
  refine View.canon_apply_of_pieces (Val := Elt Ideal) (vec (preR x g u)) _ (View.PiecesOf.mem ?_) y (cover0_B_4 c i arg1 harg1 arg2 harg2 arg5 harg5 arg6 harg6 arg7 harg7 arg8 harg8 arg9 harg9 arg10 harg10 hc0 hc1 x g u d fu fd y)
  unfold kernelRun0_B
  dsimp only
  refine ⟨fun x => ?_, fun x => ?_, fun x => ?_, fun x => ?_, trivial⟩
  all_goals
    dsimp only
    open_payloads
    sl_unfold_words
    simp only [View.readAt_eq_ld, whole_rows, whole_gain, harg1.read_unread, harg2.read_unread, harg9.read_unread, harg10.read_unread]
  · rw [later_ups_hi]
    exact in_place _ _ x _
  · rw [later_gates_hi]
    exact in_place _ _ x _
  · rw [later_ups_lo]
    exact in_place _ _ x _
  · rw [later_gates_lo]
    exact at_start _ _ x _

theorem a_later (hc0 : ¬cond0_0 i) (hc1 : cond0_1 i) (y : S256x2816.Idx) : out0_B_5 c i arg1 harg1 arg2 harg2 arg5 harg5 arg6 harg6 arg7 harg7 arg8 harg8 arg9 harg9 arg10 harg10 hc0 hc1 x g u d fu fd y = vec (actR x g u) y := by
  unfold out0_B_5
  rw [View.read_writes_eq_canon _ _ _ (cover0_B_5 c i arg1 harg1 arg2 harg2 arg5 harg5 arg6 harg6 arg7 harg7 arg8 harg8 arg9 harg9 arg10 harg10 hc0 hc1 x g u d fu fd)]
  refine View.canon_apply_of_pieces (Val := Elt Ideal) (vec (actR x g u)) _ (View.PiecesOf.mem ?_) y (cover0_B_5 c i arg1 harg1 arg2 harg2 arg5 harg5 arg6 harg6 arg7 harg7 arg8 harg8 arg9 harg9 arg10 harg10 hc0 hc1 x g u d fu fd y)
  unfold kernelRun0_B
  dsimp only
  refine ⟨fun x => ?_, fun x => ?_, trivial⟩
  all_goals
    dsimp only
    open_payloads
    sl_unfold_words
    simp only [View.readAt_eq_ld, whole_rows, whole_gain, harg1.read_unread, harg2.read_unread, harg9.read_unread, harg10.read_unread]
  · rw [later_acts_hi]
    exact in_place _ _ x _
  · rw [later_acts_lo]
    exact at_start _ _ x _

end Cert.Proof.Ff

end
-- ==== Proof.FfArray.lean ====
/- SwiGLU's forward call: the arrays that `_ffn_fwd` leaves. -/
module

public import proofs.«01_k».proof.Proof.FfBlock
public import proofs.«01_k».proof.Proof.LastArray
public import Idealize.ShloMosaic.Lib.Pipeline.ValueKit
public import Idealize.ShloMosaic.Lib.Claim

@[expose] public section

set_option maxRecDepth 16384

noncomputable section

namespace Cert.Proof.Ff

open Cert.KernelFfIdeal Cert.KernelFfIdeal.Gen Cert.KernelFfIdeal.Value Idealize.ShloMosaic Idealize.ShloMosaic.TcCoe Idealize.SL.Sem
open Cert.Proof.Fin (wide)
open Cert.Proof.Last (normed pre act hid vec rows Args argsOf)

variable (m : (ℓ : Loc nD τ sig) → Buf (Elt Ideal) ℓ) (c : Dev nD)

abbrev aX : Vec Ideal S1x2048x1024 .f32 := m ((c : Thread nD τ).loc main_arg0)
abbrev aG : Vec Ideal S1x1024 .f32 := m ((c : Thread nD τ).loc main_arg1)
abbrev aU : Vec Ideal S1x1024x5632 .f32 := m ((c : Thread nD τ).loc main_arg2)
abbrev aD : Vec Ideal S1x2816x1024 .f32 := m ((c : Thread nD τ).loc main_arg3)

/-- The arguments of the program; it has no target and no final gain, and nothing below reads them. -/
abbrev args : Args := argsOf (aX m c) (aG m c) (aU m c) (aD m c) (fun _ => 0) (fun _ => 0)

/-- The scratch holds the weights after every point. -/
theorem scratch_eq : ∀ (n : ℕ) (hn : n < cfg0.N),
    (outsAt0 m c n hn).2.2.2.2.1 = wide (V m c main_v3) ∧ (outsAt0 m c n hn).2.2.2.2.2 = V m c main_v6
  | 0, hn => by
    rw [outsAt0_A m c ⟨0, hn⟩ (Nat.zero_mod _) (by decide : ¬ 1 ≤ 0)]
    dsimp only
    exact ⟨up_first .., down_first ..⟩
  | n + 1, hn => by
    have hN := lt_of_lt_of_eq hn (show cfg0.N = 8 from N_0)
    rw [outsAt0_B m c ⟨n + 1, hn⟩ (show ¬ (n + 1) % 8 = 0 by omega) (show 1 ≤ n + 1 by omega)]
    dsimp only
    exact scratch_eq n (by omega)

/-- A point's blocks of the four results. -/
theorem outs_eq (t : Fin cfg0.N) :
    (∀ r q, (outsAt0 m c t.val t.isLt).1 (ix2 r q) = hidR (iblk m c 0 t) (iblk m c 1 t) (wide (V m c main_v3)) (V m c main_v6) r q)
    ∧ (∀ r q, (outsAt0 m c t.val t.isLt).2.1 (ix2 r q) = nrmR (iblk m c 0 t) (iblk m c 1 t) r q)
    ∧ (∀ y, (outsAt0 m c t.val t.isLt).2.2.1 y = vec (preR (iblk m c 0 t) (iblk m c 1 t) (wide (V m c main_v3))) y)
    ∧ ∀ y, (outsAt0 m c t.val t.isLt).2.2.2.1 y = vec (actR (iblk m c 0 t) (iblk m c 1 t) (wide (V m c main_v3))) y := by
  have hN := lt_of_lt_of_eq t.isLt (show cfg0.N = 8 from N_0)
  by_cases h : t.val % 8 = 0
  · rw [outsAt0_A m c t h (by omega)]
    dsimp only
    exact ⟨fun _ _ => h_first .., fun _ _ => n_first .., fun _ => gu_first .., fun _ => a_first ..⟩
  · rw [outsAt0_B m c t h (by omega), (scratch_eq m c _ _).1, (scratch_eq m c _ _).2]
    dsimp only
    exact ⟨fun _ _ => h_later .., fun _ _ => n_later .., fun _ => gu_later .., fun _ => a_later ..⟩

theorem idx : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![t.val, 0] := (by decide +kernel : ∀ t : Fin grid0.N, _)

theorem V_x (r : Fin 2048) (k : Fin 1024) : V m c main_v4 (ix2 r k) = aX m c (ix3 0 r k) := by
  entry_read
  pointwise

theorem V_u (k : Fin 1024) (j : Fin 5632) : wide (V m c main_v3) (ix2 k j) = aU m c (ix3 0 k j) := by
  unfold wide
  entry_read
  pointwise

theorem V_d (j : Fin 2816) (k : Fin 1024) : V m c main_v6 (ix2 j k) = aD m c (ix3 0 j k) := by
  entry_read
  pointwise

/-- Row `r` of point `t`'s blocks, in the whole arrays. -/
def row (t : Fin cfg0.N) (r : Fin 256) : Fin 2048 :=
  ⟨t.val * 256 + r.val, by have := lt_of_lt_of_eq t.isLt (show cfg0.N = 8 from N_0); omega⟩

theorem blk_x (t : Fin cfg0.N) (r : Fin 256) (k : Fin 1024) : iblk m c 0 t (ix2 r k) = aX m c (ix3 0 (row t r) k) := by
  refine Eq.trans ?_ (V_x m c _ k)
  blk_ext [iblk, idx t]
  all_goals rfl

theorem blk_g (t : Fin cfg0.N) (k : Fin 1024) : iblk m c 1 t (ix2 0 k) = aG m c (ix2 0 k) := by
  blk_ext [iblk, idx t]

theorem nrmR_eq (t : Fin cfg0.N) (r : Fin 256) : nrmR (iblk m c 0 t) (iblk m c 1 t) r = (args m c).nrm (row t r) :=
  congrArg₂ normed (funext (blk_x m c t r)) (funext (blk_g m c t))

theorem preR_eq (t : Fin cfg0.N) (r : Fin 256) : preR (iblk m c 0 t) (iblk m c 1 t) (wide (V m c main_v3)) r = (args m c).pre (row t r) :=
  congrArg₂ pre (nrmR_eq m c t r) (funext fun k => funext (V_u m c k))

theorem actR_eq (t : Fin cfg0.N) (r : Fin 256) : actR (iblk m c 0 t) (iblk m c 1 t) (wide (V m c main_v3)) r = (args m c).act (row t r) :=
  congrArg act (preR_eq m c t r)

theorem hidR_eq (t : Fin cfg0.N) (r : Fin 256) :
    hidR (iblk m c 0 t) (iblk m c 1 t) (wide (V m c main_v3)) (V m c main_v6) r = (args m c).hid (row t r) := by
  unfold hidR
  rw [actR_eq]
  exact congrArg₂ (fun a b => hid a ((args m c).act (row t r)) b) (funext (blk_x m c t r)) (funext fun j => funext (V_d m c j))

theorem final_h : (dats m 0 c).arrAt 2 (cfgs 0).N = vec (args m c).hid := by
  refine (dats m 0 c).arrAt_eq_of_covers 2 _ (by decide +kernel) fun t hf y => ?_
  rw [after0_2]
  refine ((congrArg _ (eq_ix2 y)).trans (((outs_eq m c t).1 (y 0) (y 1)).trans (congrFun (hidR_eq m c t (y 0)) (y 1)))).trans (congrArg₂ (args m c).hid ?_ ?_)
  all_goals exact Fin.ext (by blk_simp [idx t]; try rfl)

theorem final_n : (dats m 0 c).arrAt 3 (cfgs 0).N = vec (args m c).nrm := by
  refine (dats m 0 c).arrAt_eq_of_covers 3 _ (by decide +kernel) fun t hf y => ?_
  rw [after0_3]
  refine ((congrArg _ (eq_ix2 y)).trans (((outs_eq m c t).2.1 (y 0) (y 1)).trans (congrFun (nrmR_eq m c t (y 0)) (y 1)))).trans (congrArg₂ (args m c).nrm ?_ ?_)
  all_goals exact Fin.ext (by blk_simp [idx t]; try rfl)

theorem final_gu : (dats m 0 c).arrAt 4 (cfgs 0).N = vec (args m c).pre := by
  refine (dats m 0 c).arrAt_eq_of_covers 4 _ (by decide +kernel) fun t hf y => ?_
  rw [after0_4]
  refine (((outs_eq m c t).2.2.1 y).trans (congrFun (preR_eq m c t (y 0)) (y 1))).trans (congrArg₂ (args m c).pre ?_ ?_)
  all_goals exact Fin.ext (by blk_simp [idx t]; try rfl)

theorem final_a : (dats m 0 c).arrAt 5 (cfgs 0).N = vec (args m c).act := by
  refine (dats m 0 c).arrAt_eq_of_covers 5 _ (by decide +kernel) fun t hf y => ?_
  rw [after0_5]
  refine (((outs_eq m c t).2.2.2 y).trans (congrFun (actR_eq m c t (y 0)) (y 1))).trans (congrArg₂ (args m c).act ?_ ?_)
  all_goals exact Fin.ext (by blk_simp [idx t]; try rfl)

end Cert.Proof.Ff

end
-- ==== Proof.FfRef.lean ====
/- SwiGLU's forward call, the reference at finite arguments. -/
module

public import proofs.«01_k».proof.Proof.LastRef
public import proofs.«01_k».proof.Proof.Gen.ReferenceFfIdeal.Read

@[expose] public section

set_option maxRecDepth 16384

noncomputable section

namespace Cert.Proof.FfRef

open Cert.ReferenceFfIdeal Cert.ReferenceFfIdeal.Gen Cert.ReferenceFfIdeal.Read Idealize.ShloMosaic
open Cert.Proof.Norm (rms)
open Cert.Proof.Last (Args argsOf IsReal)
open Cert.Proof.LastRef (sigmoid half_sum)

variable (x : Vec Ideal S1x2048x1024 .f32) (g : Vec Ideal S1x1024 .f32) (u : Vec Ideal S1x1024x5632 .f32) (d : Vec Ideal S1x2816x1024 .f32)
  (t : Vec Ideal S1x2048x1024 .f32) (f : Vec Ideal S1024 .f32)

theorem rms_x (r : Fin 2048) : val_main_v8 (F := Ideal) x (ix3 0 r 0) = rms ((argsOf x g u d t f).x r) := by
  unfold rms
  pointwise [val_main_v8, val_main_v7, val_main_v6, val_main_v5, val_main_v4, val_main_v3, val_main_v2, val_main_v1, val_main_cst, val_main_cst_0, val_main_cst_1]
  rfl

theorem nrm_ref (r : Fin 2048) (k : Fin 1024) : val_main_v13 (F := Ideal) x g (ix3 0 r k) = (argsOf x g u d t f).nrm r k := by
  pointwise [val_main_v13, val_main_v12, val_main_v11, val_main_v10, val_main_v9, val_main_v0]
  rw [rms_x x g u d t f]
  rfl

theorem pre_ref (r : Fin 2048) (j : Fin 5632) : val_main_v15 (F := Ideal) x g u (ix3 0 r j) = (argsOf x g u d t f).pre r j := by
  pointwise [val_main_v15, val_main_v14]
  simp only [nrm_ref x g u d t f]
  rfl

theorem n_out (r : Fin 2048) (k : Fin 1024) : val_main_v27 (F := Ideal) x g (ix2 r k) = (argsOf x g u d t f).nrm r k := by
  pointwise [val_main_v27, val_main_v26]
  exact nrm_ref x g u d t f r k

theorem gu_out (r : Fin 2048) (j : Fin 5632) : val_main_v29 (F := Ideal) x g u (ix2 r j) = (argsOf x g u d t f).pre r j := by
  pointwise [val_main_v29, val_main_v28]
  exact pre_ref x g u d t f r j

/-- The activation before it is halved. -/
def full (A : Args) (r : Fin 2048) (j : Fin 2816) : EReal :=
  A.pre r ⟨j.val, by omega⟩ * Ideal.logistic (A.pre r ⟨j.val, by omega⟩) * A.pre r ⟨2816 + j.val, by omega⟩

variable (h : (argsOf x g u d t f).Finite)
include h

theorem full_ref (r : Fin 2048) (j : Fin 2816) : val_main_v19 (F := Ideal) x g u (ix3 0 r j) = full (argsOf x g u d t f) r j := by
  pointwise [val_main_v19, val_main_v18, val_main_v17, val_main_v16, val_main_call0_v0, val_main_call0_v1, val_main_call0_v2, val_main_call0_v3,
    val_main_call0_v4, val_main_call0_v5, val_main_call0_cst, val_main_call0_cst_0]
  simp only [pre_ref x g u d t f, sigmoid (h.pre r _)]
  rfl

theorem a_out (r : Fin 2048) (j : Fin 2816) : val_main_v33 (F := Ideal) x g u (ix2 r j) = (argsOf x g u d t f).act r j := by
  pointwise [val_main_v33, val_main_v32, val_main_v31, val_main_v30, val_main_cst_3]
  simp only [full_ref x g u d t f h]
  rfl

theorem h_out (r : Fin 2048) (q : Fin 1024) : val_main_v25 (F := Ideal) x g u d (ix2 r q) = (argsOf x g u d t f).hid r q := by
  pointwise [val_main_v25, val_main_v24, val_main_v23, val_main_v22, val_main_v21, val_main_v20, val_main_cst_2]
  simp only [full_ref x g u d t f h]
  exact congrArg (x (ix3 0 r q) + ·) (half_sum (full (argsOf x g u d t f) r) (fun j => d (ix3 0 j q))
    (fun j => ((h.pre r _).mul (h.pre r _).logistic).mul (h.pre r _)) fun j => h.down j q)

end Cert.Proof.FfRef

end
-- ==== Proof.Ff.lean ====
/- SwiGLU's forward call: the claims. -/
module

public import proofs.«01_k».proof.Defs
public import proofs.«01_k».proof.Proof.FfArray
public import proofs.«01_k».proof.Proof.FfRef
public import proofs.«01_k».proof.Proof.Last
public import proofs.«01_k».proof.Proof.Gen.KernelFf.Frame
public import proofs.«01_k».proof.Proof.Gen.ReferenceFfIdeal.Run
public import proofs.«01_k».proof.Proof.Gen.Pre_finite_ff

@[expose] public section

set_option maxRecDepth 16384

noncomputable section

namespace Cert.Proof.Ff

open Idealize.ShloMosaic Idealize.SL.Sem
open Cert.KernelFfIdeal (cfgs)
open Cert.KernelFfIdeal.Gen (dats)
open Cert.Proof.Last (by_rows)

theorem frame_kernel : Cert.quiescent_KernelFf := fun m ρ _ => Cert.KernelFf.Gen.frame m ρ
theorem frame_ideal : Cert.quiescent_KernelFfIdeal := fun m ρ _ => Cert.KernelFfIdeal.Gen.frame m ρ
theorem frame_ideal_pre : Cert.quiescent_KernelFfIdeal_pre_finite_ff := fun m ρ _ => Cert.KernelFfIdeal.Gen.frame m ρ
theorem frame_ref : Cert.quiescent_ReferenceFfIdeal := fun m ρ _ =>
  (θ_run _ _ _).mono (fun r h => ⟨fun c => (h c).2.2.2.2, sem_eq_zero_of_no_sems (by decide) r.2⟩) (Cert.ReferenceFfIdeal.Value.run m ρ)
theorem frame_ref_pre : Cert.quiescent_ReferenceFfIdeal_pre_finite_ff := fun m ρ _ => frame_ref m ρ trivial

theorem algebraic : Cert.algebraic_KernelFfIdeal_ReferenceFfIdeal_pre_finite_ff := fun m ρ m' ρ' hpre hag =>
  ⟨fun c => (dats m 0 c).arrAt 2 (cfgs 0).N, fun c => (dats m 0 c).arrAt 3 (cfgs 0).N, fun c => (dats m 0 c).arrAt 4 (cfgs 0).N,
    fun c => (dats m 0 c).arrAt 5 (cfgs 0).N, Cert.KernelFfIdeal.Value.run_blocks m ρ,
    (θ_run _ _ _).mono (fun _ h c => by
      obtain ⟨e0, e1, e2, e3⟩ := hag c
      obtain ⟨p0, p1, p2, p3⟩ := hpre c
      have hf : (args m c).Finite := ⟨fun r k => real_of_abs_lt (congrFun p0 (ix3 0 r k)), fun k => real_of_abs_lt (congrFun p1 (ix2 0 k)),
        fun k j => real_of_abs_lt (congrFun p2 (ix3 0 k j)), fun j k => real_of_abs_lt (congrFun p3 (ix3 0 j k)),
        fun _ _ => ⟨0, rfl⟩, fun _ => ⟨0, rfl⟩⟩
      obtain ⟨h0, h1, h2, h3, hargs⟩ := h c
      refine ⟨(h0.trans (Cert.ReferenceFfIdeal.Read.val_main_v25_eq _ _ _ _)).trans ?_, (h1.trans (Cert.ReferenceFfIdeal.Read.val_main_v27_eq _ _)).trans ?_,
        (h2.trans (Cert.ReferenceFfIdeal.Read.val_main_v29_eq _ _ _)).trans ?_, (h3.trans (Cert.ReferenceFfIdeal.Read.val_main_v33_eq _ _ _)).trans ?_, hargs⟩
      · rw [e0, e1, e2, e3]; exact (by_rows (FfRef.h_out (aX m c) (aG m c) (aU m c) (aD m c) _ _ hf)).trans (final_h m c).symm
      · rw [e0, e1]; exact (by_rows (FfRef.n_out (aX m c) (aG m c) (aU m c) (aD m c) (fun _ => 0) (fun _ => 0))).trans (final_n m c).symm
      · rw [e0, e1, e2]; exact (by_rows (FfRef.gu_out (aX m c) (aG m c) (aU m c) (aD m c) (fun _ => 0) (fun _ => 0))).trans (final_gu m c).symm
      · rw [e0, e1, e2]; exact (by_rows (FfRef.a_out (aX m c) (aG m c) (aU m c) (aD m c) _ _ hf)).trans (final_a m c).symm) (Cert.ReferenceFfIdeal.Value.run m' ρ')⟩

end Cert.Proof.Ff

end
-- ==== Proof.lean ====
module

public import proofs.«01_k».proof.Defs
public import proofs.«01_k».proof.Proof.Gen.KernelAct
public import proofs.«01_k».proof.Proof.Gen.KernelAct.Skeleton
public import proofs.«01_k».proof.Proof.Gen.KernelAct.Launch
public import proofs.«01_k».proof.Proof.Gen.KernelAct.Points
public import proofs.«01_k».proof.Proof.Gen.KernelAct.Frame
public import proofs.«01_k».proof.Proof.Gen.KernelActIdeal
public import proofs.«01_k».proof.Proof.Gen.KernelActIdeal.Skeleton
public import proofs.«01_k».proof.Proof.Gen.KernelActIdeal.Launch
public import proofs.«01_k».proof.Proof.Gen.KernelActIdeal.Points
public import proofs.«01_k».proof.Proof.Gen.KernelActIdeal.Frame
public import proofs.«01_k».proof.Proof.Gen.ReferenceActIdeal
public import proofs.«01_k».proof.Proof.Gen.Pre_finite_act
public import proofs.«01_k».proof.Proof.Gen.KernelActIdeal.Value
public import proofs.«01_k».proof.Proof.Gen.ReferenceActIdeal.Run
public import proofs.«01_k».proof.Proof.Gen.ReferenceActIdeal.Read
public import proofs.«01_k».proof.Proof.Gen.KernelSb.Frame
public import proofs.«01_k».proof.Proof.Gen.KernelSbIdeal.Frame
public import proofs.«01_k».proof.Proof.Gen.KernelSbIdeal.Value
public import proofs.«01_k».proof.Proof.Gen.ReferenceSbIdeal.Run
public import proofs.«01_k».proof.Proof.Gen.ReferenceSbIdeal.Read
public import proofs.«01_k».proof.Proof.Gen.Pre_finite_sb
public import proofs.«01_k».proof.Proof.Gen.KernelFin.Frame
public import proofs.«01_k».proof.Proof.Gen.KernelFinIdeal.Frame
public import proofs.«01_k».proof.Proof.Gen.KernelFinIdeal.Value
public import proofs.«01_k».proof.Proof.Gen.ReferenceFinIdeal.Run
public import proofs.«01_k».proof.Proof.Gen.ReferenceFinIdeal.Read
public import proofs.«01_k».proof.Proof.Gen.Pre_finite_in
public import proofs.«01_k».proof.Proof.Gen.Pre_finite_last
public import proofs.«01_k».proof.Proof.Act
public import proofs.«01_k».proof.Proof.Sb
public import proofs.«01_k».proof.Proof.Fin
public import proofs.«01_k».proof.Proof.Last
public import proofs.«01_k».proof.Proof.Gen.KernelLastIdeal.Frame.Runs
public import proofs.«01_k».proof.Proof.Gen.KernelLastIdeal.Launch
public import proofs.«01_k».proof.Proof.Gen.KernelLastIdeal.Points
public import proofs.«01_k».proof.Proof.Gen.KernelLast
public import proofs.«01_k».proof.Proof.Gen.KernelLast.Launch
public import proofs.«01_k».proof.Proof.Gen.ReferenceLastIdeal.Run
public import proofs.«01_k».proof.Proof.Gen.ReferenceLastIdeal.Read
public import proofs.«01_k».proof.Proof.Min
public import proofs.«01_k».proof.Proof.Af
public import proofs.«01_k».proof.Proof.Ff
public import proofs.«01_k».proof.Proof.Gen.KernelMinIdeal.Frame
public import proofs.«01_k».proof.Proof.Gen.KernelMinIdeal.Skeleton
public import proofs.«01_k».proof.Proof.Gen.KernelMinIdeal.Launch
public import proofs.«01_k».proof.Proof.Gen.KernelMinIdeal.Points
public import proofs.«01_k».proof.Proof.Gen.KernelMin
public import proofs.«01_k».proof.Proof.Gen.KernelMin.Launch
public import proofs.«01_k».proof.Proof.Gen.ReferenceMinIdeal.Run
public import proofs.«01_k».proof.Proof.Gen.ReferenceMinIdeal.Read
public import proofs.«01_k».proof.Proof.Gen.Pre_finite_min
public import proofs.«01_k».proof.Proof.Gen.KernelAf.Frame
public import proofs.«01_k».proof.Proof.Gen.KernelAfIdeal.Frame
public import proofs.«01_k».proof.Proof.Gen.KernelAfIdeal.Value
public import proofs.«01_k».proof.Proof.Gen.ReferenceAfIdeal.Run
public import proofs.«01_k».proof.Proof.Gen.ReferenceAfIdeal.Read
public import proofs.«01_k».proof.Proof.Gen.Pre_finite_af
public import proofs.«01_k».proof.Proof.Gen.KernelFf.Frame
public import proofs.«01_k».proof.Proof.Gen.KernelFfIdeal.Frame
public import proofs.«01_k».proof.Proof.Gen.KernelFfIdeal.Value
public import proofs.«01_k».proof.Proof.Gen.ReferenceFfIdeal.Run
public import proofs.«01_k».proof.Proof.Gen.ReferenceFfIdeal.Read
public import proofs.«01_k».proof.Proof.Gen.Pre_finite_ff
public import Idealize.ShloMosaic.Adequacy
public import Idealize.ShloMosaic.Init

@[expose] public section

noncomputable section

namespace Cert.Proof

open Idealize.ShloMosaic Idealize.SL.Sem

theorem claim : Cert.Claim := ⟨Cert.KernelAct.Gen.facts, Cert.KernelActIdeal.Gen.facts, Cert.ReferenceActIdeal.Gen.facts,
  Cert.KernelSb.Gen.facts, Cert.KernelSbIdeal.Gen.facts, Cert.ReferenceSbIdeal.Gen.facts, Cert.KernelFin.Gen.facts, Cert.KernelFinIdeal.Gen.facts, Cert.ReferenceFinIdeal.Gen.facts,
  Cert.KernelLast.Gen.facts, Cert.KernelLastIdeal.Gen.facts, Cert.ReferenceLastIdeal.Gen.facts,
  Cert.KernelMin.Gen.facts, Cert.KernelMinIdeal.Gen.facts, Cert.ReferenceMinIdeal.Gen.facts,
  Cert.KernelAf.Gen.facts, Cert.KernelAfIdeal.Gen.facts, Cert.ReferenceAfIdeal.Gen.facts,
  Cert.KernelFf.Gen.facts, Cert.KernelFfIdeal.Gen.facts, Cert.ReferenceFfIdeal.Gen.facts,
  Cert.Pre_finite_act.Gen.facts, Cert.Pre_finite_sb.Gen.facts, Cert.Pre_finite_in.Gen.facts, Cert.Pre_finite_last.Gen.facts, Cert.Pre_finite_min.Gen.facts, Cert.Pre_finite_af.Gen.facts, Cert.Pre_finite_ff.Gen.facts,
  Act.frame_kernel, Act.frame_ideal, Act.frame_ideal_pre, Act.frame_ref, Act.frame_ref_pre,
  Sb.frame_kernel, Sb.frame_ideal, Sb.frame_ideal_pre, Sb.frame_ref, Sb.frame_ref_pre,
  Fin.frame_kernel, Fin.frame_ideal, Fin.frame_ideal_pre, Fin.frame_ref, Fin.frame_ref_pre,
  Last.frame_kernel, Last.frame_ideal, Last.frame_ideal_pre, Last.frame_ref, Last.frame_ref_pre,
  Min.frame_kernel, Min.frame_ideal, Min.frame_ideal_pre, Min.frame_ref, Min.frame_ref_pre,
  Af.frame_kernel, Af.frame_ideal, Af.frame_ideal_pre, Af.frame_ref, Af.frame_ref_pre,
  Ff.frame_kernel, Ff.frame_ideal, Ff.frame_ideal_pre, Ff.frame_ref, Ff.frame_ref_pre,
  trivial, Act.algebraic, Sb.preserves, Sb.algebraic, trivial, Fin.algebraic, trivial, Last.algebraic, trivial, Min.algebraic, Af.preserves, Af.algebraic, trivial, Ff.algebraic⟩

end Cert.Proof

end
